-- ==== Defs.lean ====
def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelStick (m : (ℓ : Loc Cert.KernelStick.nD Cert.KernelStick.τ Cert.KernelStick.sig) → Buf (Elt Bits) ℓ) : Prop :=
  True

def Pre_KernelStickIdeal (m : (ℓ : Loc Cert.KernelStickIdeal.nD Cert.KernelStickIdeal.τ Cert.KernelStickIdeal.sig) → Buf (Elt Ideal) ℓ) : Prop :=
  True

def Pre_KernelStickIdeal_finite_sb [hPre_finite_sb : Cert.Pre_finite_sb.Facts] (m : (ℓ : Loc Cert.KernelStickIdeal.nD Cert.KernelStickIdeal.τ Cert.KernelStickIdeal.sig) → Buf (Elt Ideal) ℓ) : Prop :=
  ∀ c : Dev Cert.KernelStickIdeal.nD,
    (Cert.Pre_finite_sb.fn (F := Ideal) (m ((c.tc : Thread Cert.KernelStickIdeal.nD Cert.KernelStickIdeal.τ).loc Cert.KernelStickIdeal.main_arg0)) (m ((c.tc : Thread Cert.KernelStickIdeal.nD Cert.KernelStickIdeal.τ).loc Cert.KernelStickIdeal.main_arg1))) = (fun _ => 1#1)

def Pre_ReferenceStickIdeal (m : (ℓ : Loc Cert.ReferenceStickIdeal.nD Cert.ReferenceStickIdeal.τ Cert.ReferenceStickIdeal.sig) → Buf (Elt Ideal) ℓ) : Prop :=
  True

def Pre_ReferenceStickIdeal_finite_sb [hPre_finite_sb : Cert.Pre_finite_sb.Facts] (m : (ℓ : Loc Cert.ReferenceStickIdeal.nD Cert.ReferenceStickIdeal.τ Cert.ReferenceStickIdeal.sig) → Buf (Elt Ideal) ℓ) : Prop :=
  ∀ c : Dev Cert.ReferenceStickIdeal.nD,
    (Cert.Pre_finite_sb.fn (F := Ideal) (m ((c.tc : Thread Cert.ReferenceStickIdeal.nD Cert.ReferenceStickIdeal.τ).loc Cert.ReferenceStickIdeal.main_arg0)) (m ((c.tc : Thread Cert.ReferenceStickIdeal.nD Cert.ReferenceStickIdeal.τ).loc Cert.ReferenceStickIdeal.main_arg1))) = (fun _ => 1#1)

def Pre_KernelFox (m : (ℓ : Loc Cert.KernelFox.nD Cert.KernelFox.τ Cert.KernelFox.sig) → Buf (Elt Bits) ℓ) : Prop :=
  True

def Pre_KernelFoxIdeal (m : (ℓ : Loc Cert.KernelFoxIdeal.nD Cert.KernelFoxIdeal.τ Cert.KernelFoxIdeal.sig) → Buf (Elt Ideal) ℓ) : Prop :=
  True

def Pre_KernelFoxIdeal_finite_fox [hPre_finite_fox : Cert.Pre_finite_fox.Facts] (m : (ℓ : Loc Cert.KernelFoxIdeal.nD Cert.KernelFoxIdeal.τ Cert.KernelFoxIdeal.sig) → Buf (Elt Ideal) ℓ) : Prop :=
  ∀ c : Dev Cert.KernelFoxIdeal.nD,
    (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3)) (m ((c.tc : Thread Cert.KernelFoxIdeal.nD Cert.KernelFoxIdeal.τ).loc Cert.KernelFoxIdeal.main_arg4))) = (fun _ => 1#1)

def Pre_ReferenceFoxIdeal (m : (ℓ : Loc Cert.ReferenceFoxIdeal.nD Cert.ReferenceFoxIdeal.τ Cert.ReferenceFoxIdeal.sig) → Buf (Elt Ideal) ℓ) : Prop :=
  True

def Pre_ReferenceFoxIdeal_finite_fox [hPre_finite_fox : Cert.Pre_finite_fox.Facts] (m : (ℓ : Loc Cert.ReferenceFoxIdeal.nD Cert.ReferenceFoxIdeal.τ Cert.ReferenceFoxIdeal.sig) → Buf (Elt Ideal) ℓ) : Prop :=
  ∀ c : Dev Cert.ReferenceFoxIdeal.nD,
    (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3)) (m ((c.tc : Thread Cert.ReferenceFoxIdeal.nD Cert.ReferenceFoxIdeal.τ).loc Cert.ReferenceFoxIdeal.main_arg4))) = (fun _ => 1#1)

def Pre_KernelForget (m : (ℓ : Loc Cert.KernelForget.nD Cert.KernelForget.τ Cert.KernelForget.sig) → Buf (Elt Bits) ℓ) : Prop :=
  True

def Pre_KernelForgetIdeal (m : (ℓ : Loc Cert.KernelForgetIdeal.nD Cert.KernelForgetIdeal.τ Cert.KernelForgetIdeal.sig) → Buf (Elt Ideal) ℓ) : Prop :=
  True

def Pre_KernelForgetIdeal_finite_cumf [hPre_finite_cumf : Cert.Pre_finite_cumf.Facts] (m : (ℓ : Loc Cert.KernelForgetIdeal.nD Cert.KernelForgetIdeal.τ Cert.KernelForgetIdeal.sig) → Buf (Elt Ideal) ℓ) : Prop :=
  ∀ c : Dev Cert.KernelForgetIdeal.nD,
    (Cert.Pre_finite_cumf.fn (F := Ideal) (m ((c.tc : Thread Cert.KernelForgetIdeal.nD Cert.KernelForgetIdeal.τ).loc Cert.KernelForgetIdeal.main_arg0)) (m ((c.tc : Thread Cert.KernelForgetIdeal.nD Cert.KernelForgetIdeal.τ).loc Cert.KernelForgetIdeal.main_arg1)) (m ((c.tc : Thread Cert.KernelForgetIdeal.nD Cert.KernelForgetIdeal.τ).loc Cert.KernelForgetIdeal.main_arg2))) = (fun _ => 1#1)

def Pre_ReferenceForgetIdeal (m : (ℓ : Loc Cert.ReferenceForgetIdeal.nD Cert.ReferenceForgetIdeal.τ Cert.ReferenceForgetIdeal.sig) → Buf (Elt Ideal) ℓ) : Prop :=
  True

def Pre_ReferenceForgetIdeal_finite_cumf [hPre_finite_cumf : Cert.Pre_finite_cumf.Facts] (m : (ℓ : Loc Cert.ReferenceForgetIdeal.nD Cert.ReferenceForgetIdeal.τ Cert.ReferenceForgetIdeal.sig) → Buf (Elt Ideal) ℓ) : Prop :=
  ∀ c : Dev Cert.ReferenceForgetIdeal.nD,
    (Cert.Pre_finite_cumf.fn (F := Ideal) (m ((c.tc : Thread Cert.ReferenceForgetIdeal.nD Cert.ReferenceForgetIdeal.τ).loc Cert.ReferenceForgetIdeal.main_arg0)) (m ((c.tc : Thread Cert.ReferenceForgetIdeal.nD Cert.ReferenceForgetIdeal.τ).loc Cert.ReferenceForgetIdeal.main_arg1)) (m ((c.tc : Thread Cert.ReferenceForgetIdeal.nD Cert.ReferenceForgetIdeal.τ).loc Cert.ReferenceForgetIdeal.main_arg2))) = (fun _ => 1#1)

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_KernelNormIdeal_finite_norm [hPre_finite_norm : Cert.Pre_finite_norm.Facts] (m : (ℓ : Loc Cert.KernelNormIdeal.nD Cert.KernelNormIdeal.τ Cert.KernelNormIdeal.sig) → Buf (Elt Ideal) ℓ) : Prop :=
  ∀ c : Dev Cert.KernelNormIdeal.nD,
    (Cert.Pre_finite_norm.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))) = (fun _ => 1#1)

def Pre_ReferenceNormIdeal (m : (ℓ : Loc Cert.ReferenceNormIdeal.nD Cert.ReferenceNormIdeal.τ Cert.ReferenceNormIdeal.sig) → Buf (Elt Ideal) ℓ) : Prop :=
  True

def Pre_ReferenceNormIdeal_finite_norm [hPre_finite_norm : Cert.Pre_finite_norm.Facts] (m : (ℓ : Loc Cert.ReferenceNormIdeal.nD Cert.ReferenceNormIdeal.τ Cert.ReferenceNormIdeal.sig) → Buf (Elt Ideal) ℓ) : Prop :=
  ∀ c : Dev Cert.ReferenceNormIdeal.nD,
    (Cert.Pre_finite_norm.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3)) (m ((c.tc : Thread Cert.ReferenceNormIdeal.nD Cert.ReferenceNormIdeal.τ).loc Cert.ReferenceNormIdeal.main_arg4))) = (fun _ => 1#1)

def Pre_KernelGNorm (m : (ℓ : Loc Cert.KernelGNorm.nD Cert.KernelGNorm.τ Cert.KernelGNorm.sig) → Buf (Elt Bits) ℓ) : Prop :=
  True

def Pre_KernelGNormIdeal (m : (ℓ : Loc Cert.KernelGNormIdeal.nD Cert.KernelGNormIdeal.τ Cert.KernelGNormIdeal.sig) → Buf (Elt Ideal) ℓ) : Prop :=
  True

def Pre_KernelGNormIdeal_finite_normg [hPre_finite_normg : Cert.Pre_finite_normg.Facts] (m : (ℓ : Loc Cert.KernelGNormIdeal.nD Cert.KernelGNormIdeal.τ Cert.KernelGNormIdeal.sig) → Buf (Elt Ideal) ℓ) : Prop :=
  ∀ c : Dev Cert.KernelGNormIdeal.nD,
    (Cert.Pre_finite_normg.fn (F := Ideal) (m ((c.tc : Thread Cert.KernelGNormIdeal.nD Cert.KernelGNormIdeal.τ).loc Cert.KernelGNormIdeal.main_arg0)) (m ((c.tc : Thread Cert.KernelGNormIdeal.nD Cert.KernelGNormIdeal.τ).loc Cert.KernelGNormIdeal.main_arg1)) (m ((c.tc : Thread Cert.KernelGNormIdeal.nD Cert.KernelGNormIdeal.τ).loc Cert.KernelGNormIdeal.main_arg2)) (m ((c.tc : Thread Cert.KernelGNormIdeal.nD Cert.KernelGNormIdeal.τ).loc Cert.KernelGNormIdeal.main_arg3)) (m ((c.tc : Thread Cert.KernelGNormIdeal.nD Cert.KernelGNormIdeal.τ).loc Cert.KernelGNormIdeal.main_arg4)) (m ((c.tc : Thread Cert.KernelGNormIdeal.nD Cert.KernelGNormIdeal.τ).loc Cert.KernelGNormIdeal.main_arg5)) (m ((c.tc : Thread Cert.KernelGNormIdeal.nD Cert.KernelGNormIdeal.τ).loc Cert.KernelGNormIdeal.main_arg6))) = (fun _ => 1#1)

def Pre_ReferenceGNormIdeal (m : (ℓ : Loc Cert.ReferenceGNormIdeal.nD Cert.ReferenceGNormIdeal.τ Cert.ReferenceGNormIdeal.sig) → Buf (Elt Ideal) ℓ) : Prop :=
  True

def Pre_ReferenceGNormIdeal_finite_normg [hPre_finite_normg : Cert.Pre_finite_normg.Facts] (m : (ℓ : Loc Cert.ReferenceGNormIdeal.nD Cert.ReferenceGNormIdeal.τ Cert.ReferenceGNormIdeal.sig) → Buf (Elt Ideal) ℓ) : Prop :=
  ∀ c : Dev Cert.ReferenceGNormIdeal.nD,
    (Cert.Pre_finite_normg.fn (F := Ideal) (m ((c.tc : Thread Cert.ReferenceGNormIdeal.nD Cert.ReferenceGNormIdeal.τ).loc Cert.ReferenceGNormIdeal.main_arg0)) (m ((c.tc : Thread Cert.ReferenceGNormIdeal.nD Cert.ReferenceGNormIdeal.τ).loc Cert.ReferenceGNormIdeal.main_arg1)) (m ((c.tc : Thread Cert.ReferenceGNormIdeal.nD Cert.ReferenceGNormIdeal.τ).loc Cert.ReferenceGNormIdeal.main_arg2)) (m ((c.tc : Thread Cert.ReferenceGNormIdeal.nD Cert.ReferenceGNormIdeal.τ).loc Cert.ReferenceGNormIdeal.main_arg3)) (m ((c.tc : Thread Cert.ReferenceGNormIdeal.nD Cert.ReferenceGNormIdeal.τ).loc Cert.ReferenceGNormIdeal.main_arg4)) (m ((c.tc : Thread Cert.ReferenceGNormIdeal.nD Cert.ReferenceGNormIdeal.τ).loc Cert.ReferenceGNormIdeal.main_arg5)) (m ((c.tc : Thread Cert.ReferenceGNormIdeal.nD Cert.ReferenceGNormIdeal.τ).loc Cert.ReferenceGNormIdeal.main_arg6))) = (fun _ => 1#1)

def Pre_KernelRelu2 (m : (ℓ : Loc Cert.KernelRelu2.nD Cert.KernelRelu2.τ Cert.KernelRelu2.sig) → Buf (Elt Bits) ℓ) : Prop :=
  True

def Pre_KernelRelu2Ideal (m : (ℓ : Loc Cert.KernelRelu2Ideal.nD Cert.KernelRelu2Ideal.τ Cert.KernelRelu2Ideal.sig) → Buf (Elt Ideal) ℓ) : Prop :=
  True

def Pre_ReferenceRelu2Ideal (m : (ℓ : Loc Cert.ReferenceRelu2Ideal.nD Cert.ReferenceRelu2Ideal.τ Cert.ReferenceRelu2Ideal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelQkNorm (m : (ℓ : Loc Cert.KernelQkNorm.nD Cert.KernelQkNorm.τ Cert.KernelQkNorm.sig) → Buf (Elt Bits) ℓ) : Prop :=
  True

def Pre_KernelQkNormIdeal (m : (ℓ : Loc Cert.KernelQkNormIdeal.nD Cert.KernelQkNormIdeal.τ Cert.KernelQkNormIdeal.sig) → Buf (Elt Ideal) ℓ) : Prop :=
  True

def Pre_KernelQkNormIdeal_finite_prep [hPre_finite_prep : Cert.Pre_finite_prep.Facts] (m : (ℓ : Loc Cert.KernelQkNormIdeal.nD Cert.KernelQkNormIdeal.τ Cert.KernelQkNormIdeal.sig) → Buf (Elt Ideal) ℓ) : Prop :=
  ∀ c : Dev Cert.KernelQkNormIdeal.nD,
    (Cert.Pre_finite_prep.fn (F := Ideal) (m ((c.tc : Thread Cert.KernelQkNormIdeal.nD Cert.KernelQkNormIdeal.τ).loc Cert.KernelQkNormIdeal.main_arg0)) (m ((c.tc : Thread Cert.KernelQkNormIdeal.nD Cert.KernelQkNormIdeal.τ).loc Cert.KernelQkNormIdeal.main_arg1)) (m ((c.tc : Thread Cert.KernelQkNormIdeal.nD Cert.KernelQkNormIdeal.τ).loc Cert.KernelQkNormIdeal.main_arg2)) (m ((c.tc : Thread Cert.KernelQkNormIdeal.nD Cert.KernelQkNormIdeal.τ).loc Cert.KernelQkNormIdeal.main_arg3)) (m ((c.tc : Thread Cert.KernelQkNormIdeal.nD Cert.KernelQkNormIdeal.τ).loc Cert.KernelQkNormIdeal.main_arg4))) = (fun _ => 1#1)

def Pre_ReferenceQkNormIdeal (m : (ℓ : Loc Cert.ReferenceQkNormIdeal.nD Cert.ReferenceQkNormIdeal.τ Cert.ReferenceQkNormIdeal.sig) → Buf (Elt Ideal) ℓ) : Prop :=
  True

def Pre_ReferenceQkNormIdeal_finite_prep [hPre_finite_prep : Cert.Pre_finite_prep.Facts] (m : (ℓ : Loc Cert.ReferenceQkNormIdeal.nD Cert.ReferenceQkNormIdeal.τ Cert.ReferenceQkNormIdeal.sig) → Buf (Elt Ideal) ℓ) : Prop :=
  ∀ c : Dev Cert.ReferenceQkNormIdeal.nD,
    (Cert.Pre_finite_prep.fn (F := Ideal) (m ((c.tc : Thread Cert.ReferenceQkNormIdeal.nD Cert.ReferenceQkNormIdeal.τ).loc Cert.ReferenceQkNormIdeal.main_arg0)) (m ((c.tc : Thread Cert.ReferenceQkNormIdeal.nD Cert.ReferenceQkNormIdeal.τ).loc Cert.ReferenceQkNormIdeal.main_arg1)) (m ((c.tc : Thread Cert.ReferenceQkNormIdeal.nD Cert.ReferenceQkNormIdeal.τ).loc Cert.ReferenceQkNormIdeal.main_arg2)) (m ((c.tc : Thread Cert.ReferenceQkNormIdeal.nD Cert.ReferenceQkNormIdeal.τ).loc Cert.ReferenceQkNormIdeal.main_arg3)) (m ((c.tc : Thread Cert.ReferenceQkNormIdeal.nD Cert.ReferenceQkNormIdeal.τ).loc Cert.ReferenceQkNormIdeal.main_arg4))) = (fun _ => 1#1)

def Pre_KernelSgu (m : (ℓ : Loc Cert.KernelSgu.nD Cert.KernelSgu.τ Cert.KernelSgu.sig) → Buf (Elt Bits) ℓ) : Prop :=
  True

def Pre_KernelSguIdeal (m : (ℓ : Loc Cert.KernelSguIdeal.nD Cert.KernelSguIdeal.τ Cert.KernelSguIdeal.sig) → Buf (Elt Ideal) ℓ) : Prop :=
  True

def Pre_KernelNormFwd (m : (ℓ : Loc Cert.KernelNormFwd.nD Cert.KernelNormFwd.τ Cert.KernelNormFwd.sig) → Buf (Elt Bits) ℓ) : Prop :=
  True

def Pre_KernelNormFwdIdeal (m : (ℓ : Loc Cert.KernelNormFwdIdeal.nD Cert.KernelNormFwdIdeal.τ Cert.KernelNormFwdIdeal.sig) → Buf (Elt Ideal) ℓ) : Prop :=
  True

def Pre_ReferenceNormFwdIdeal (m : (ℓ : Loc Cert.ReferenceNormFwdIdeal.nD Cert.ReferenceNormFwdIdeal.τ Cert.ReferenceNormFwdIdeal.sig) → Buf (Elt Ideal) ℓ) : Prop :=
  True

def Pre_KernelResidFwd (m : (ℓ : Loc Cert.KernelResidFwd.nD Cert.KernelResidFwd.τ Cert.KernelResidFwd.sig) → Buf (Elt Bits) ℓ) : Prop :=
  True

def Pre_KernelResidFwdIdeal (m : (ℓ : Loc Cert.KernelResidFwdIdeal.nD Cert.KernelResidFwdIdeal.τ Cert.KernelResidFwdIdeal.sig) → Buf (Elt Ideal) ℓ) : Prop :=
  True

def Pre_ReferenceResidFwdIdeal (m : (ℓ : Loc Cert.ReferenceResidFwdIdeal.nD Cert.ReferenceResidFwdIdeal.τ Cert.ReferenceResidFwdIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelQkFwd (m : (ℓ : Loc Cert.KernelQkFwd.nD Cert.KernelQkFwd.τ Cert.KernelQkFwd.sig) → Buf (Elt Bits) ℓ) : Prop :=
  True

def Pre_KernelQkFwdIdeal (m : (ℓ : Loc Cert.KernelQkFwdIdeal.nD Cert.KernelQkFwdIdeal.τ Cert.KernelQkFwdIdeal.sig) → Buf (Elt Ideal) ℓ) : Prop :=
  True

def Pre_ReferenceQkFwdIdeal (m : (ℓ : Loc Cert.ReferenceQkFwdIdeal.nD Cert.ReferenceQkFwdIdeal.τ Cert.ReferenceQkFwdIdeal.sig) → Buf (Elt Ideal) ℓ) : Prop :=
  True

def Pre_KernelForgetFwd (m : (ℓ : Loc Cert.KernelForgetFwd.nD Cert.KernelForgetFwd.τ Cert.KernelForgetFwd.sig) → Buf (Elt Bits) ℓ) : Prop :=
  True

def Pre_KernelForgetFwdIdeal (m : (ℓ : Loc Cert.KernelForgetFwdIdeal.nD Cert.KernelForgetFwdIdeal.τ Cert.KernelForgetFwdIdeal.sig) → Buf (Elt Ideal) ℓ) : Prop :=
  True

def Pre_ReferenceForgetFwdIdeal (m : (ℓ : Loc Cert.ReferenceForgetFwdIdeal.nD Cert.ReferenceForgetFwdIdeal.τ Cert.ReferenceForgetFwdIdeal.sig) → Buf (Elt Ideal) ℓ) : Prop :=
  True

def Pre_KernelAdaFwd (m : (ℓ : Loc Cert.KernelAdaFwd.nD Cert.KernelAdaFwd.τ Cert.KernelAdaFwd.sig) → Buf (Elt Bits) ℓ) : Prop :=
  True

def Pre_KernelAdaFwdIdeal (m : (ℓ : Loc Cert.KernelAdaFwdIdeal.nD Cert.KernelAdaFwdIdeal.τ Cert.KernelAdaFwdIdeal.sig) → Buf (Elt Ideal) ℓ) : Prop :=
  True

def Pre_ReferenceAdaFwdIdeal (m : (ℓ : Loc Cert.ReferenceAdaFwdIdeal.nD Cert.ReferenceAdaFwdIdeal.τ Cert.ReferenceAdaFwdIdeal.sig) → Buf (Elt Ideal) ℓ) : Prop :=
  True

def Pre_KernelSguFwd (m : (ℓ : Loc Cert.KernelSguFwd.nD Cert.KernelSguFwd.τ Cert.KernelSguFwd.sig) → Buf (Elt Bits) ℓ) : Prop :=
  True

def Pre_KernelSguFwdIdeal (m : (ℓ : Loc Cert.KernelSguFwdIdeal.nD Cert.KernelSguFwdIdeal.τ Cert.KernelSguFwdIdeal.sig) → Buf (Elt Ideal) ℓ) : Prop :=
  True

def Pre_ReferenceSguFwdIdeal (m : (ℓ : Loc Cert.ReferenceSguFwdIdeal.nD Cert.ReferenceSguFwdIdeal.τ Cert.ReferenceSguFwdIdeal.sig) → Buf (Elt Ideal) ℓ) : Prop :=
  True

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3))
      ∧ r.2.sem = fun _ => 0)

def quiescent_KernelStick [hKernelStick : Cert.KernelStick.Facts] : Prop :=
  ∀ (m : (ℓ : Loc Cert.KernelStick.nD Cert.KernelStick.τ Cert.KernelStick.sig) → Buf (Elt Bits) ℓ) (g : Dev Cert.KernelStick.nD → PrngReg), Pre_KernelStick m →
    θ_run (Cert.KernelStick.defs (F := Bits)) (onTc (τ := Cert.KernelStick.τ) (Cert.KernelStick.main (F := Bits))) ⟨m, fun _ => 0, g⟩ (fun r => (∀ c : Dev Cert.KernelStick.nD,
      r.2.mem ((c.tc : Thread Cert.KernelStick.nD Cert.KernelStick.τ).loc Cert.KernelStick.main_arg0) = m ((c.tc : Thread Cert.KernelStick.nD Cert.KernelStick.τ).loc Cert.KernelStick.main_arg0)
      ∧ r.2.mem ((c.tc : Thread Cert.KernelStick.nD Cert.KernelStick.τ).loc Cert.KernelStick.main_arg1) = m ((c.tc : Thread Cert.KernelStick.nD Cert.KernelStick.τ).loc Cert.KernelStick.main_arg1))
      ∧ r.2.sem = fun _ => 0)

def quiescent_KernelStickIdeal [hKernelStickIdeal : Cert.KernelStickIdeal.Facts] : Prop :=
  ∀ (m : (ℓ : Loc Cert.KernelStickIdeal.nD Cert.KernelStickIdeal.τ Cert.KernelStickIdeal.sig) → Buf (Elt Ideal) ℓ) (g : Dev Cert.KernelStickIdeal.nD → PrngReg), Pre_KernelStickIdeal m →
    θ_run (Cert.KernelStickIdeal.defs (F := Ideal)) (onTc (τ := Cert.KernelStickIdeal.τ) (Cert.KernelStickIdeal.main (F := Ideal))) ⟨m, fun _ => 0, g⟩ (fun r => (∀ c : Dev Cert.KernelStickIdeal.nD,
      r.2.mem ((c.tc : Thread Cert.KernelStickIdeal.nD Cert.KernelStickIdeal.τ).loc Cert.KernelStickIdeal.main_arg0) = m ((c.tc : Thread Cert.KernelStickIdeal.nD Cert.KernelStickIdeal.τ).loc Cert.KernelStickIdeal.main_arg0)
      ∧ r.2.mem ((c.tc : Thread Cert.KernelStickIdeal.nD Cert.KernelStickIdeal.τ).loc Cert.KernelStickIdeal.main_arg1) = m ((c.tc : Thread Cert.KernelStickIdeal.nD Cert.KernelStickIdeal.τ).loc Cert.KernelStickIdeal.main_arg1))
      ∧ r.2.sem = fun _ => 0)

def quiescent_KernelStickIdeal_pre_finite_sb [hKernelStickIdeal : Cert.KernelStickIdeal.Facts] [hPre_finite_sb : Cert.Pre_finite_sb.Facts] : Prop :=
  ∀ (m : (ℓ : Loc Cert.KernelStickIdeal.nD Cert.KernelStickIdeal.τ Cert.KernelStickIdeal.sig) → Buf (Elt Ideal) ℓ) (g : Dev Cert.KernelStickIdeal.nD → PrngReg), Pre_KernelStickIdeal_finite_sb m →
    θ_run (Cert.KernelStickIdeal.defs (F := Ideal)) (onTc (τ := Cert.KernelStickIdeal.τ) (Cert.KernelStickIdeal.main (F := Ideal))) ⟨m, fun _ => 0, g⟩ (fun r => (∀ c : Dev Cert.KernelStickIdeal.nD,
      r.2.mem ((c.tc : Thread Cert.KernelStickIdeal.nD Cert.KernelStickIdeal.τ).loc Cert.KernelStickIdeal.main_arg0) = m ((c.tc : Thread Cert.KernelStickIdeal.nD Cert.KernelStickIdeal.τ).loc Cert.KernelStickIdeal.main_arg0)
      ∧ r.2.mem ((c.tc : Thread Cert.KernelStickIdeal.nD Cert.KernelStickIdeal.τ).loc Cert.KernelStickIdeal.main_arg1) = m ((c.tc : Thread Cert.KernelStickIdeal.nD Cert.KernelStickIdeal.τ).loc Cert.KernelStickIdeal.main_arg1))
      ∧ r.2.sem = fun _ => 0)

def quiescent_ReferenceStickIdeal [hReferenceStickIdeal : Cert.ReferenceStickIdeal.Facts] : Prop :=
  ∀ (m : (ℓ : Loc Cert.ReferenceStickIdeal.nD Cert.ReferenceStickIdeal.τ Cert.ReferenceStickIdeal.sig) → Buf (Elt Ideal) ℓ) (g : Dev Cert.ReferenceStickIdeal.nD → PrngReg), Pre_ReferenceStickIdeal m →
    θ_run (Cert.ReferenceStickIdeal.defs (F := Ideal)) (onTc (τ := Cert.ReferenceStickIdeal.τ) (Cert.ReferenceStickIdeal.main (F := Ideal))) ⟨m, fun _ => 0, g⟩ (fun r => (∀ c : Dev Cert.ReferenceStickIdeal.nD,
      r.2.mem ((c.tc : Thread Cert.ReferenceStickIdeal.nD Cert.ReferenceStickIdeal.τ).loc Cert.ReferenceStickIdeal.main_arg0) = m ((c.tc : Thread Cert.ReferenceStickIdeal.nD Cert.ReferenceStickIdeal.τ).loc Cert.ReferenceStickIdeal.main_arg0)
      ∧ r.2.mem ((c.tc : Thread Cert.ReferenceStickIdeal.nD Cert.ReferenceStickIdeal.τ).loc Cert.ReferenceStickIdeal.main_arg1) = m ((c.tc : Thread Cert.ReferenceStickIdeal.nD Cert.ReferenceStickIdeal.τ).loc Cert.ReferenceStickIdeal.main_arg1))
      ∧ r.2.sem = fun _ => 0)

def quiescent_ReferenceStickIdeal_pre_finite_sb [hReferenceStickIdeal : Cert.ReferenceStickIdeal.Facts] [hPre_finite_sb : Cert.Pre_finite_sb.Facts] : Prop :=
  ∀ (m : (ℓ : Loc Cert.ReferenceStickIdeal.nD Cert.ReferenceStickIdeal.τ Cert.ReferenceStickIdeal.sig) → Buf (Elt Ideal) ℓ) (g : Dev Cert.ReferenceStickIdeal.nD → PrngReg), Pre_ReferenceStickIdeal_finite_sb m →
    θ_run (Cert.ReferenceStickIdeal.defs (F := Ideal)) (onTc (τ := Cert.ReferenceStickIdeal.τ) (Cert.ReferenceStickIdeal.main (F := Ideal))) ⟨m, fun _ => 0, g⟩ (fun r => (∀ c : Dev Cert.ReferenceStickIdeal.nD,
      r.2.mem ((c.tc : Thread Cert.ReferenceStickIdeal.nD Cert.ReferenceStickIdeal.τ).loc Cert.ReferenceStickIdeal.main_arg0) = m ((c.tc : Thread Cert.ReferenceStickIdeal.nD Cert.ReferenceStickIdeal.τ).loc Cert.ReferenceStickIdeal.main_arg0)
      ∧ r.2.mem ((c.tc : Thread Cert.ReferenceStickIdeal.nD Cert.ReferenceStickIdeal.τ).loc Cert.ReferenceStickIdeal.main_arg1) = m ((c.tc : Thread Cert.ReferenceStickIdeal.nD Cert.ReferenceStickIdeal.τ).loc Cert.ReferenceStickIdeal.main_arg1))
      ∧ r.2.sem = fun _ => 0)

def quiescent_KernelFox [hKernelFox : Cert.KernelFox.Facts] : Prop :=
  ∀ (m : (ℓ : Loc Cert.KernelFox.nD Cert.KernelFox.τ Cert.KernelFox.sig) → Buf (Elt Bits) ℓ) (g : Dev Cert.KernelFox.nD → PrngReg), Pre_KernelFox m →
    θ_run (Cert.KernelFox.defs (F := Bits)) (onTc (τ := Cert.KernelFox.τ) (Cert.KernelFox.main (F := Bits))) ⟨m, fun _ => 0, g⟩ (fun r => (∀ c : Dev Cert.KernelFox.nD,
      r.2.mem ((c.tc : Thread Cert.KernelFox.nD Cert.KernelFox.τ).loc Cert.KernelFox.main_arg0) = m ((c.tc : Thread Cert.KernelFox.nD Cert.KernelFox.τ).loc Cert.KernelFox.main_arg0)
      ∧ r.2.mem ((c.tc : Thread Cert.KernelFox.nD Cert.KernelFox.τ).loc Cert.KernelFox.main_arg1) = m ((c.tc : Thread Cert.KernelFox.nD Cert.KernelFox.τ).loc Cert.KernelFox.main_arg1)
      ∧ r.2.mem ((c.tc : Thread Cert.KernelFox.nD Cert.KernelFox.τ).loc Cert.KernelFox.main_arg2) = m ((c.tc : Thread Cert.KernelFox.nD Cert.KernelFox.τ).loc Cert.KernelFox.main_arg2)
      ∧ r.2.mem ((c.tc : Thread Cert.KernelFox.nD Cert.KernelFox.τ).loc Cert.KernelFox.main_arg3) = m ((c.tc : Thread Cert.KernelFox.nD Cert.KernelFox.τ).loc Cert.KernelFox.main_arg3)
      ∧ r.2.mem ((c.tc : Thread Cert.KernelFox.nD Cert.KernelFox.τ).loc Cert.KernelFox.main_arg4) = m ((c.tc : Thread Cert.KernelFox.nD Cert.KernelFox.τ).loc Cert.KernelFox.main_arg4))
      ∧ r.2.sem = fun _ => 0)

def quiescent_KernelFoxIdeal [hKernelFoxIdeal : Cert.KernelFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
      ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4))
      ∧ r.2.sem = fun _ => 0)

def quiescent_KernelFoxIdeal_pre_finite_fox [hKernelFoxIdeal : Cert.KernelFoxIdeal.Facts] [hPre_finite_fox : Cert.Pre_finite_fox.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal_finite_fox m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
      ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4))
      ∧ r.2.sem = fun _ => 0)

def quiescent_ReferenceFoxIdeal [hReferenceFoxIdeal : Cert.ReferenceFoxIdeal.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2)
      ∧ r.2.mem ((c.tc : Thread Cert.ReferenceFoxIdeal.nD Cert.ReferenceFoxIdeal.τ).loc Cert.ReferenceFoxIdeal.main_arg3) = m ((c.tc : Thread Cert.ReferenceFoxIdeal.nD Cert.ReferenceFoxIdeal.τ).loc Cert.ReferenceFoxIdeal.main_arg3)
      ∧ r.2.mem ((c.tc : Thread Cert.ReferenceFoxIdeal.nD Cert.ReferenceFoxIdeal.τ).loc Cert.ReferenceFoxIdeal.main_arg4) = m ((c.tc : Thread Cert.ReferenceFoxIdeal.nD Cert.ReferenceFoxIdeal.τ).loc Cert.ReferenceFoxIdeal.main_arg4))
      ∧ r.2.sem = fun _ => 0)

def quiescent_ReferenceFoxIdeal_pre_finite_fox [hReferenceFoxIdeal : Cert.ReferenceFoxIdeal.Facts] [hPre_finite_fox : Cert.Pre_finite_fox.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal_finite_fox m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2)
      ∧ r.2.mem ((c.tc : Thread Cert.ReferenceFoxIdeal.nD Cert.ReferenceFoxIdeal.τ).loc Cert.ReferenceFoxIdeal.main_arg3) = m ((c.tc : Thread Cert.ReferenceFoxIdeal.nD Cert.ReferenceFoxIdeal.τ).loc Cert.ReferenceFoxIdeal.main_arg3)
      ∧ r.2.mem ((c.tc : Thread Cert.ReferenceFoxIdeal.nD Cert.ReferenceFoxIdeal.τ).loc Cert.ReferenceFoxIdeal.main_arg4) = m ((c.tc : Thread Cert.ReferenceFoxIdeal.nD Cert.ReferenceFoxIdeal.τ).loc Cert.ReferenceFoxIdeal.main_arg4))
      ∧ r.2.sem = fun _ => 0)

def quiescent_KernelForget [hKernelForget : Cert.KernelForget.Facts] : Prop :=
  ∀ (m : (ℓ : Loc Cert.KernelForget.nD Cert.KernelForget.τ Cert.KernelForget.sig) → Buf (Elt Bits) ℓ) (g : Dev Cert.KernelForget.nD → PrngReg), Pre_KernelForget m →
    θ_run (Cert.KernelForget.defs (F := Bits)) (onTc (τ := Cert.KernelForget.τ) (Cert.KernelForget.main (F := Bits))) ⟨m, fun _ => 0, g⟩ (fun r => (∀ c : Dev Cert.KernelForget.nD,
      r.2.mem ((c.tc : Thread Cert.KernelForget.nD Cert.KernelForget.τ).loc Cert.KernelForget.main_arg0) = m ((c.tc : Thread Cert.KernelForget.nD Cert.KernelForget.τ).loc Cert.KernelForget.main_arg0)
      ∧ r.2.mem ((c.tc : Thread Cert.KernelForget.nD Cert.KernelForget.τ).loc Cert.KernelForget.main_arg1) = m ((c.tc : Thread Cert.KernelForget.nD Cert.KernelForget.τ).loc Cert.KernelForget.main_arg1)
      ∧ r.2.mem ((c.tc : Thread Cert.KernelForget.nD Cert.KernelForget.τ).loc Cert.KernelForget.main_arg2) = m ((c.tc : Thread Cert.KernelForget.nD Cert.KernelForget.τ).loc Cert.KernelForget.main_arg2))
      ∧ r.2.sem = fun _ => 0)

def quiescent_KernelForgetIdeal [hKernelForgetIdeal : Cert.KernelForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg), Pre_KernelForgetIdeal m →
    θ_run (Cert.KernelForgetIdeal.defs (F := Ideal)) (onTc (τ := Cert.KernelForgetIdeal.τ) (Cert.KernelForgetIdeal.main (F := Ideal))) ⟨m, fun _ => 0, g⟩ (fun r => (∀ c : Dev Cert.KernelForgetIdeal.nD,
      r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
      ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
      ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2))
      ∧ r.2.sem = fun _ => 0)

def quiescent_KernelForgetIdeal_pre_finite_cumf [hKernelForgetIdeal : Cert.KernelForgetIdeal.Facts] [hPre_finite_cumf : Cert.Pre_finite_cumf.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg), Pre_KernelForgetIdeal_finite_cumf m →
    θ_run (Cert.KernelForgetIdeal.defs (F := Ideal)) (onTc (τ := Cert.KernelForgetIdeal.τ) (Cert.KernelForgetIdeal.main (F := Ideal))) ⟨m, fun _ => 0, g⟩ (fun r => (∀ c : Dev Cert.KernelForgetIdeal.nD,
      r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
      ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
      ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2))
      ∧ r.2.sem = fun _ => 0)

def quiescent_ReferenceForgetIdeal [hReferenceForgetIdeal : Cert.ReferenceForgetIdeal.Facts] : Prop :=
  ∀ (m : (ℓ : Loc Cert.ReferenceForgetIdeal.nD Cert.ReferenceForgetIdeal.τ Cert.ReferenceForgetIdeal.sig) → Buf (Elt Ideal) ℓ) (g : Dev Cert.ReferenceForgetIdeal.nD → PrngReg), Pre_ReferenceForgetIdeal m →
    θ_run (Cert.ReferenceForgetIdeal.defs (F := Ideal)) (onTc (τ := Cert.ReferenceForgetIdeal.τ) (Cert.ReferenceForgetIdeal.main (F := Ideal))) ⟨m, fun _ => 0, g⟩ (fun r => (∀ c : Dev Cert.ReferenceForgetIdeal.nD,
      r.2.mem ((c.tc : Thread Cert.ReferenceForgetIdeal.nD Cert.ReferenceForgetIdeal.τ).loc Cert.ReferenceForgetIdeal.main_arg0) = m ((c.tc : Thread Cert.ReferenceForgetIdeal.nD Cert.ReferenceForgetIdeal.τ).loc Cert.ReferenceForgetIdeal.main_arg0)
      ∧ r.2.mem ((c.tc : Thread Cert.ReferenceForgetIdeal.nD Cert.ReferenceForgetIdeal.τ).loc Cert.ReferenceForgetIdeal.main_arg1) = m ((c.tc : Thread Cert.ReferenceForgetIdeal.nD Cert.ReferenceForgetIdeal.τ).loc Cert.ReferenceForgetIdeal.main_arg1)
      ∧ r.2.mem ((c.tc : Thread Cert.ReferenceForgetIdeal.nD Cert.ReferenceForgetIdeal.τ).loc Cert.ReferenceForgetIdeal.main_arg2) = m ((c.tc : Thread Cert.ReferenceForgetIdeal.nD Cert.ReferenceForgetIdeal.τ).loc Cert.ReferenceForgetIdeal.main_arg2))
      ∧ r.2.sem = fun _ => 0)

def quiescent_ReferenceForgetIdeal_pre_finite_cumf [hReferenceForgetIdeal : Cert.ReferenceForgetIdeal.Facts] [hPre_finite_cumf : Cert.Pre_finite_cumf.Facts] : Prop :=
  ∀ (m : (ℓ : Loc Cert.ReferenceForgetIdeal.nD Cert.ReferenceForgetIdeal.τ Cert.ReferenceForgetIdeal.sig) → Buf (Elt Ideal) ℓ) (g : Dev Cert.ReferenceForgetIdeal.nD → PrngReg), Pre_ReferenceForgetIdeal_finite_cumf m →
    θ_run (Cert.ReferenceForgetIdeal.defs (F := Ideal)) (onTc (τ := Cert.ReferenceForgetIdeal.τ) (Cert.ReferenceForgetIdeal.main (F := Ideal))) ⟨m, fun _ => 0, g⟩ (fun r => (∀ c : Dev Cert.ReferenceForgetIdeal.nD,
      r.2.mem ((c.tc : Thread Cert.ReferenceForgetIdeal.nD Cert.ReferenceForgetIdeal.τ).loc Cert.ReferenceForgetIdeal.main_arg0) = m ((c.tc : Thread Cert.ReferenceForgetIdeal.nD Cert.ReferenceForgetIdeal.τ).loc Cert.ReferenceForgetIdeal.main_arg0)
      ∧ r.2.mem ((c.tc : Thread Cert.ReferenceForgetIdeal.nD Cert.ReferenceForgetIdeal.τ).loc Cert.ReferenceForgetIdeal.main_arg1) = m ((c.tc : Thread Cert.ReferenceForgetIdeal.nD Cert.ReferenceForgetIdeal.τ).loc Cert.ReferenceForgetIdeal.main_arg1)
      ∧ r.2.mem ((c.tc : Thread Cert.ReferenceForgetIdeal.nD Cert.ReferenceForgetIdeal.τ).loc Cert.ReferenceForgetIdeal.main_arg2) = m ((c.tc : Thread Cert.ReferenceForgetIdeal.nD Cert.ReferenceForgetIdeal.τ).loc Cert.ReferenceForgetIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_KernelNormIdeal_pre_finite_norm [hKernelNormIdeal : Cert.KernelNormIdeal.Facts] [hPre_finite_norm : Cert.Pre_finite_norm.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal_finite_norm m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_ReferenceNormIdeal_pre_finite_norm [hReferenceNormIdeal : Cert.ReferenceNormIdeal.Facts] [hPre_finite_norm : Cert.Pre_finite_norm.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal_finite_norm m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_KernelGNorm [hKernelGNorm : Cert.KernelGNorm.Facts] : Prop :=
  ∀ (m : (ℓ : Loc Cert.KernelGNorm.nD Cert.KernelGNorm.τ Cert.KernelGNorm.sig) → Buf (Elt Bits) ℓ) (g : Dev Cert.KernelGNorm.nD → PrngReg), Pre_KernelGNorm m →
    θ_run (Cert.KernelGNorm.defs (F := Bits)) (onTc (τ := Cert.KernelGNorm.τ) (Cert.KernelGNorm.main (F := Bits))) ⟨m, fun _ => 0, g⟩ (fun r => (∀ c : Dev Cert.KernelGNorm.nD,
      r.2.mem ((c.tc : Thread Cert.KernelGNorm.nD Cert.KernelGNorm.τ).loc Cert.KernelGNorm.main_arg0) = m ((c.tc : Thread Cert.KernelGNorm.nD Cert.KernelGNorm.τ).loc Cert.KernelGNorm.main_arg0)
      ∧ r.2.mem ((c.tc : Thread Cert.KernelGNorm.nD Cert.KernelGNorm.τ).loc Cert.KernelGNorm.main_arg1) = m ((c.tc : Thread Cert.KernelGNorm.nD Cert.KernelGNorm.τ).loc Cert.KernelGNorm.main_arg1)
      ∧ r.2.mem ((c.tc : Thread Cert.KernelGNorm.nD Cert.KernelGNorm.τ).loc Cert.KernelGNorm.main_arg2) = m ((c.tc : Thread Cert.KernelGNorm.nD Cert.KernelGNorm.τ).loc Cert.KernelGNorm.main_arg2)
      ∧ r.2.mem ((c.tc : Thread Cert.KernelGNorm.nD Cert.KernelGNorm.τ).loc Cert.KernelGNorm.main_arg3) = m ((c.tc : Thread Cert.KernelGNorm.nD Cert.KernelGNorm.τ).loc Cert.KernelGNorm.main_arg3)
      ∧ r.2.mem ((c.tc : Thread Cert.KernelGNorm.nD Cert.KernelGNorm.τ).loc Cert.KernelGNorm.main_arg4) = m ((c.tc : Thread Cert.KernelGNorm.nD Cert.KernelGNorm.τ).loc Cert.KernelGNorm.main_arg4)
      ∧ r.2.mem ((c.tc : Thread Cert.KernelGNorm.nD Cert.KernelGNorm.τ).loc Cert.KernelGNorm.main_arg5) = m ((c.tc : Thread Cert.KernelGNorm.nD Cert.KernelGNorm.τ).loc Cert.KernelGNorm.main_arg5)
      ∧ r.2.mem ((c.tc : Thread Cert.KernelGNorm.nD Cert.KernelGNorm.τ).loc Cert.KernelGNorm.main_arg6) = m ((c.tc : Thread Cert.KernelGNorm.nD Cert.KernelGNorm.τ).loc Cert.KernelGNorm.main_arg6))
      ∧ r.2.sem = fun _ => 0)

def quiescent_KernelGNormIdeal [hKernelGNormIdeal : Cert.KernelGNormIdeal.Facts] : Prop :=
  ∀ (m : (ℓ : Loc Cert.KernelGNormIdeal.nD Cert.KernelGNormIdeal.τ Cert.KernelGNormIdeal.sig) → Buf (Elt Ideal) ℓ) (g : Dev Cert.KernelGNormIdeal.nD → PrngReg), Pre_KernelGNormIdeal m →
    θ_run (Cert.KernelGNormIdeal.defs (F := Ideal)) (onTc (τ := Cert.KernelGNormIdeal.τ) (Cert.KernelGNormIdeal.main (F := Ideal))) ⟨m, fun _ => 0, g⟩ (fun r => (∀ c : Dev Cert.KernelGNormIdeal.nD,
      r.2.mem ((c.tc : Thread Cert.KernelGNormIdeal.nD Cert.KernelGNormIdeal.τ).loc Cert.KernelGNormIdeal.main_arg0) = m ((c.tc : Thread Cert.KernelGNormIdeal.nD Cert.KernelGNormIdeal.τ).loc Cert.KernelGNormIdeal.main_arg0)
      ∧ r.2.mem ((c.tc : Thread Cert.KernelGNormIdeal.nD Cert.KernelGNormIdeal.τ).loc Cert.KernelGNormIdeal.main_arg1) = m ((c.tc : Thread Cert.KernelGNormIdeal.nD Cert.KernelGNormIdeal.τ).loc Cert.KernelGNormIdeal.main_arg1)
      ∧ r.2.mem ((c.tc : Thread Cert.KernelGNormIdeal.nD Cert.KernelGNormIdeal.τ).loc Cert.KernelGNormIdeal.main_arg2) = m ((c.tc : Thread Cert.KernelGNormIdeal.nD Cert.KernelGNormIdeal.τ).loc Cert.KernelGNormIdeal.main_arg2)
      ∧ r.2.mem ((c.tc : Thread Cert.KernelGNormIdeal.nD Cert.KernelGNormIdeal.τ).loc Cert.KernelGNormIdeal.main_arg3) = m ((c.tc : Thread Cert.KernelGNormIdeal.nD Cert.KernelGNormIdeal.τ).loc Cert.KernelGNormIdeal.main_arg3)
      ∧ r.2.mem ((c.tc : Thread Cert.KernelGNormIdeal.nD Cert.KernelGNormIdeal.τ).loc Cert.KernelGNormIdeal.main_arg4) = m ((c.tc : Thread Cert.KernelGNormIdeal.nD Cert.KernelGNormIdeal.τ).loc Cert.KernelGNormIdeal.main_arg4)
      ∧ r.2.mem ((c.tc : Thread Cert.KernelGNormIdeal.nD Cert.KernelGNormIdeal.τ).loc Cert.KernelGNormIdeal.main_arg5) = m ((c.tc : Thread Cert.KernelGNormIdeal.nD Cert.KernelGNormIdeal.τ).loc Cert.KernelGNormIdeal.main_arg5)
      ∧ r.2.mem ((c.tc : Thread Cert.KernelGNormIdeal.nD Cert.KernelGNormIdeal.τ).loc Cert.KernelGNormIdeal.main_arg6) = m ((c.tc : Thread Cert.KernelGNormIdeal.nD Cert.KernelGNormIdeal.τ).loc Cert.KernelGNormIdeal.main_arg6))
      ∧ r.2.sem = fun _ => 0)

def quiescent_KernelGNormIdeal_pre_finite_normg [hKernelGNormIdeal : Cert.KernelGNormIdeal.Facts] [hPre_finite_normg : Cert.Pre_finite_normg.Facts] : Prop :=
  ∀ (m : (ℓ : Loc Cert.KernelGNormIdeal.nD Cert.KernelGNormIdeal.τ Cert.KernelGNormIdeal.sig) → Buf (Elt Ideal) ℓ) (g : Dev Cert.KernelGNormIdeal.nD → PrngReg), Pre_KernelGNormIdeal_finite_normg m →
    θ_run (Cert.KernelGNormIdeal.defs (F := Ideal)) (onTc (τ := Cert.KernelGNormIdeal.τ) (Cert.KernelGNormIdeal.main (F := Ideal))) ⟨m, fun _ => 0, g⟩ (fun r => (∀ c : Dev Cert.KernelGNormIdeal.nD,
      r.2.mem ((c.tc : Thread Cert.KernelGNormIdeal.nD Cert.KernelGNormIdeal.τ).loc Cert.KernelGNormIdeal.main_arg0) = m ((c.tc : Thread Cert.KernelGNormIdeal.nD Cert.KernelGNormIdeal.τ).loc Cert.KernelGNormIdeal.main_arg0)
      ∧ r.2.mem ((c.tc : Thread Cert.KernelGNormIdeal.nD Cert.KernelGNormIdeal.τ).loc Cert.KernelGNormIdeal.main_arg1) = m ((c.tc : Thread Cert.KernelGNormIdeal.nD Cert.KernelGNormIdeal.τ).loc Cert.KernelGNormIdeal.main_arg1)
      ∧ r.2.mem ((c.tc : Thread Cert.KernelGNormIdeal.nD Cert.KernelGNormIdeal.τ).loc Cert.KernelGNormIdeal.main_arg2) = m ((c.tc : Thread Cert.KernelGNormIdeal.nD Cert.KernelGNormIdeal.τ).loc Cert.KernelGNormIdeal.main_arg2)
      ∧ r.2.mem ((c.tc : Thread Cert.KernelGNormIdeal.nD Cert.KernelGNormIdeal.τ).loc Cert.KernelGNormIdeal.main_arg3) = m ((c.tc : Thread Cert.KernelGNormIdeal.nD Cert.KernelGNormIdeal.τ).loc Cert.KernelGNormIdeal.main_arg3)
      ∧ r.2.mem ((c.tc : Thread Cert.KernelGNormIdeal.nD Cert.KernelGNormIdeal.τ).loc Cert.KernelGNormIdeal.main_arg4) = m ((c.tc : Thread Cert.KernelGNormIdeal.nD Cert.KernelGNormIdeal.τ).loc Cert.KernelGNormIdeal.main_arg4)
      ∧ r.2.mem ((c.tc : Thread Cert.KernelGNormIdeal.nD Cert.KernelGNormIdeal.τ).loc Cert.KernelGNormIdeal.main_arg5) = m ((c.tc : Thread Cert.KernelGNormIdeal.nD Cert.KernelGNormIdeal.τ).loc Cert.KernelGNormIdeal.main_arg5)
      ∧ r.2.mem ((c.tc : Thread Cert.KernelGNormIdeal.nD Cert.KernelGNormIdeal.τ).loc Cert.KernelGNormIdeal.main_arg6) = m ((c.tc : Thread Cert.KernelGNormIdeal.nD Cert.KernelGNormIdeal.τ).loc Cert.KernelGNormIdeal.main_arg6))
      ∧ r.2.sem = fun _ => 0)

def quiescent_ReferenceGNormIdeal [hReferenceGNormIdeal : Cert.ReferenceGNormIdeal.Facts] : Prop :=
  ∀ (m : (ℓ : Loc Cert.ReferenceGNormIdeal.nD Cert.ReferenceGNormIdeal.τ Cert.ReferenceGNormIdeal.sig) → Buf (Elt Ideal) ℓ) (g : Dev Cert.ReferenceGNormIdeal.nD → PrngReg), Pre_ReferenceGNormIdeal m →
    θ_run (Cert.ReferenceGNormIdeal.defs (F := Ideal)) (onTc (τ := Cert.ReferenceGNormIdeal.τ) (Cert.ReferenceGNormIdeal.main (F := Ideal))) ⟨m, fun _ => 0, g⟩ (fun r => (∀ c : Dev Cert.ReferenceGNormIdeal.nD,
      r.2.mem ((c.tc : Thread Cert.ReferenceGNormIdeal.nD Cert.ReferenceGNormIdeal.τ).loc Cert.ReferenceGNormIdeal.main_arg0) = m ((c.tc : Thread Cert.ReferenceGNormIdeal.nD Cert.ReferenceGNormIdeal.τ).loc Cert.ReferenceGNormIdeal.main_arg0)
      ∧ r.2.mem ((c.tc : Thread Cert.ReferenceGNormIdeal.nD Cert.ReferenceGNormIdeal.τ).loc Cert.ReferenceGNormIdeal.main_arg1) = m ((c.tc : Thread Cert.ReferenceGNormIdeal.nD Cert.ReferenceGNormIdeal.τ).loc Cert.ReferenceGNormIdeal.main_arg1)
      ∧ r.2.mem ((c.tc : Thread Cert.ReferenceGNormIdeal.nD Cert.ReferenceGNormIdeal.τ).loc Cert.ReferenceGNormIdeal.main_arg2) = m ((c.tc : Thread Cert.ReferenceGNormIdeal.nD Cert.ReferenceGNormIdeal.τ).loc Cert.ReferenceGNormIdeal.main_arg2)
      ∧ r.2.mem ((c.tc : Thread Cert.ReferenceGNormIdeal.nD Cert.ReferenceGNormIdeal.τ).loc Cert.ReferenceGNormIdeal.main_arg3) = m ((c.tc : Thread Cert.ReferenceGNormIdeal.nD Cert.ReferenceGNormIdeal.τ).loc Cert.ReferenceGNormIdeal.main_arg3)
      ∧ r.2.mem ((c.tc : Thread Cert.ReferenceGNormIdeal.nD Cert.ReferenceGNormIdeal.τ).loc Cert.ReferenceGNormIdeal.main_arg4) = m ((c.tc : Thread Cert.ReferenceGNormIdeal.nD Cert.ReferenceGNormIdeal.τ).loc Cert.ReferenceGNormIdeal.main_arg4)
      ∧ r.2.mem ((c.tc : Thread Cert.ReferenceGNormIdeal.nD Cert.ReferenceGNormIdeal.τ).loc Cert.ReferenceGNormIdeal.main_arg5) = m ((c.tc : Thread Cert.ReferenceGNormIdeal.nD Cert.ReferenceGNormIdeal.τ).loc Cert.ReferenceGNormIdeal.main_arg5)
      ∧ r.2.mem ((c.tc : Thread Cert.ReferenceGNormIdeal.nD Cert.ReferenceGNormIdeal.τ).loc Cert.ReferenceGNormIdeal.main_arg6) = m ((c.tc : Thread Cert.ReferenceGNormIdeal.nD Cert.ReferenceGNormIdeal.τ).loc Cert.ReferenceGNormIdeal.main_arg6))
      ∧ r.2.sem = fun _ => 0)

def quiescent_ReferenceGNormIdeal_pre_finite_normg [hReferenceGNormIdeal : Cert.ReferenceGNormIdeal.Facts] [hPre_finite_normg : Cert.Pre_finite_normg.Facts] : Prop :=
  ∀ (m : (ℓ : Loc Cert.ReferenceGNormIdeal.nD Cert.ReferenceGNormIdeal.τ Cert.ReferenceGNormIdeal.sig) → Buf (Elt Ideal) ℓ) (g : Dev Cert.ReferenceGNormIdeal.nD → PrngReg), Pre_ReferenceGNormIdeal_finite_normg m →
    θ_run (Cert.ReferenceGNormIdeal.defs (F := Ideal)) (onTc (τ := Cert.ReferenceGNormIdeal.τ) (Cert.ReferenceGNormIdeal.main (F := Ideal))) ⟨m, fun _ => 0, g⟩ (fun r => (∀ c : Dev Cert.ReferenceGNormIdeal.nD,
      r.2.mem ((c.tc : Thread Cert.ReferenceGNormIdeal.nD Cert.ReferenceGNormIdeal.τ).loc Cert.ReferenceGNormIdeal.main_arg0) = m ((c.tc : Thread Cert.ReferenceGNormIdeal.nD Cert.ReferenceGNormIdeal.τ).loc Cert.ReferenceGNormIdeal.main_arg0)
      ∧ r.2.mem ((c.tc : Thread Cert.ReferenceGNormIdeal.nD Cert.ReferenceGNormIdeal.τ).loc Cert.ReferenceGNormIdeal.main_arg1) = m ((c.tc : Thread Cert.ReferenceGNormIdeal.nD Cert.ReferenceGNormIdeal.τ).loc Cert.ReferenceGNormIdeal.main_arg1)
      ∧ r.2.mem ((c.tc : Thread Cert.ReferenceGNormIdeal.nD Cert.ReferenceGNormIdeal.τ).loc Cert.ReferenceGNormIdeal.main_arg2) = m ((c.tc : Thread Cert.ReferenceGNormIdeal.nD Cert.ReferenceGNormIdeal.τ).loc Cert.ReferenceGNormIdeal.main_arg2)
      ∧ r.2.mem ((c.tc : Thread Cert.ReferenceGNormIdeal.nD Cert.ReferenceGNormIdeal.τ).loc Cert.ReferenceGNormIdeal.main_arg3) = m ((c.tc : Thread Cert.ReferenceGNormIdeal.nD Cert.ReferenceGNormIdeal.τ).loc Cert.ReferenceGNormIdeal.main_arg3)
      ∧ r.2.mem ((c.tc : Thread Cert.ReferenceGNormIdeal.nD Cert.ReferenceGNormIdeal.τ).loc Cert.ReferenceGNormIdeal.main_arg4) = m ((c.tc : Thread Cert.ReferenceGNormIdeal.nD Cert.ReferenceGNormIdeal.τ).loc Cert.ReferenceGNormIdeal.main_arg4)
      ∧ r.2.mem ((c.tc : Thread Cert.ReferenceGNormIdeal.nD Cert.ReferenceGNormIdeal.τ).loc Cert.ReferenceGNormIdeal.main_arg5) = m ((c.tc : Thread Cert.ReferenceGNormIdeal.nD Cert.ReferenceGNormIdeal.τ).loc Cert.ReferenceGNormIdeal.main_arg5)
      ∧ r.2.mem ((c.tc : Thread Cert.ReferenceGNormIdeal.nD Cert.ReferenceGNormIdeal.τ).loc Cert.ReferenceGNormIdeal.main_arg6) = m ((c.tc : Thread Cert.ReferenceGNormIdeal.nD Cert.ReferenceGNormIdeal.τ).loc Cert.ReferenceGNormIdeal.main_arg6))
      ∧ r.2.sem = fun _ => 0)

def quiescent_KernelRelu2 [hKernelRelu2 : Cert.KernelRelu2.Facts] : Prop :=
  ∀ (m : (ℓ : Loc Cert.KernelRelu2.nD Cert.KernelRelu2.τ Cert.KernelRelu2.sig) → Buf (Elt Bits) ℓ) (g : Dev Cert.KernelRelu2.nD → PrngReg), Pre_KernelRelu2 m →
    θ_run (Cert.KernelRelu2.defs (F := Bits)) (onTc (τ := Cert.KernelRelu2.τ) (Cert.KernelRelu2.main (F := Bits))) ⟨m, fun _ => 0, g⟩ (fun r => (∀ c : Dev Cert.KernelRelu2.nD,
      r.2.mem ((c.tc : Thread Cert.KernelRelu2.nD Cert.KernelRelu2.τ).loc Cert.KernelRelu2.main_arg0) = m ((c.tc : Thread Cert.KernelRelu2.nD Cert.KernelRelu2.τ).loc Cert.KernelRelu2.main_arg0)
      ∧ r.2.mem ((c.tc : Thread Cert.KernelRelu2.nD Cert.KernelRelu2.τ).loc Cert.KernelRelu2.main_arg1) = m ((c.tc : Thread Cert.KernelRelu2.nD Cert.KernelRelu2.τ).loc Cert.KernelRelu2.main_arg1)
      ∧ r.2.mem ((c.tc : Thread Cert.KernelRelu2.nD Cert.KernelRelu2.τ).loc Cert.KernelRelu2.main_arg2) = m ((c.tc : Thread Cert.KernelRelu2.nD Cert.KernelRelu2.τ).loc Cert.KernelRelu2.main_arg2))
      ∧ r.2.sem = fun _ => 0)

def quiescent_KernelRelu2Ideal [hKernelRelu2Ideal : Cert.KernelRelu2Ideal.Facts] : Prop :=
  ∀ (m : (ℓ : Loc Cert.KernelRelu2Ideal.nD Cert.KernelRelu2Ideal.τ Cert.KernelRelu2Ideal.sig) → Buf (Elt Ideal) ℓ) (g : Dev Cert.KernelRelu2Ideal.nD → PrngReg), Pre_KernelRelu2Ideal m →
    θ_run (Cert.KernelRelu2Ideal.defs (F := Ideal)) (onTc (τ := Cert.KernelRelu2Ideal.τ) (Cert.KernelRelu2Ideal.main (F := Ideal))) ⟨m, fun _ => 0, g⟩ (fun r => (∀ c : Dev Cert.KernelRelu2Ideal.nD,
      r.2.mem ((c.tc : Thread Cert.KernelRelu2Ideal.nD Cert.KernelRelu2Ideal.τ).loc Cert.KernelRelu2Ideal.main_arg0) = m ((c.tc : Thread Cert.KernelRelu2Ideal.nD Cert.KernelRelu2Ideal.τ).loc Cert.KernelRelu2Ideal.main_arg0)
      ∧ r.2.mem ((c.tc : Thread Cert.KernelRelu2Ideal.nD Cert.KernelRelu2Ideal.τ).loc Cert.KernelRelu2Ideal.main_arg1) = m ((c.tc : Thread Cert.KernelRelu2Ideal.nD Cert.KernelRelu2Ideal.τ).loc Cert.KernelRelu2Ideal.main_arg1)
      ∧ r.2.mem ((c.tc : Thread Cert.KernelRelu2Ideal.nD Cert.KernelRelu2Ideal.τ).loc Cert.KernelRelu2Ideal.main_arg2) = m ((c.tc : Thread Cert.KernelRelu2Ideal.nD Cert.KernelRelu2Ideal.τ).loc Cert.KernelRelu2Ideal.main_arg2))
      ∧ r.2.sem = fun _ => 0)

def quiescent_ReferenceRelu2Ideal [hReferenceRelu2Ideal : Cert.ReferenceRelu2Ideal.Facts] : Prop :=
  ∀ (m : (ℓ : Loc Cert.ReferenceRelu2Ideal.nD Cert.ReferenceRelu2Ideal.τ Cert.ReferenceRelu2Ideal.sig) → Buf (Elt Ideal) ℓ) (g : Dev Cert.ReferenceRelu2Ideal.nD → PrngReg), Pre_ReferenceRelu2Ideal m →
    θ_run (Cert.ReferenceRelu2Ideal.defs (F := Ideal)) (onTc (τ := Cert.ReferenceRelu2Ideal.τ) (Cert.ReferenceRelu2Ideal.main (F := Ideal))) ⟨m, fun _ => 0, g⟩ (fun r => (∀ c : Dev Cert.ReferenceRelu2Ideal.nD,
      r.2.mem ((c.tc : Thread Cert.ReferenceRelu2Ideal.nD Cert.ReferenceRelu2Ideal.τ).loc Cert.ReferenceRelu2Ideal.main_arg0) = m ((c.tc : Thread Cert.ReferenceRelu2Ideal.nD Cert.ReferenceRelu2Ideal.τ).loc Cert.ReferenceRelu2Ideal.main_arg0)
      ∧ r.2.mem ((c.tc : Thread Cert.ReferenceRelu2Ideal.nD Cert.ReferenceRelu2Ideal.τ).loc Cert.ReferenceRelu2Ideal.main_arg1) = m ((c.tc : Thread Cert.ReferenceRelu2Ideal.nD Cert.ReferenceRelu2Ideal.τ).loc Cert.ReferenceRelu2Ideal.main_arg1)
      ∧ r.2.mem ((c.tc : Thread Cert.ReferenceRelu2Ideal.nD Cert.ReferenceRelu2Ideal.τ).loc Cert.ReferenceRelu2Ideal.main_arg2) = m ((c.tc : Thread Cert.ReferenceRelu2Ideal.nD Cert.ReferenceRelu2Ideal.τ).loc Cert.ReferenceRelu2Ideal.main_arg2))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1))
      ∧ r.2.sem = fun _ => 0)

def quiescent_KernelQkNorm [hKernelQkNorm : Cert.KernelQkNorm.Facts] : Prop :=
  ∀ (m : (ℓ : Loc Cert.KernelQkNorm.nD Cert.KernelQkNorm.τ Cert.KernelQkNorm.sig) → Buf (Elt Bits) ℓ) (g : Dev Cert.KernelQkNorm.nD → PrngReg), Pre_KernelQkNorm m →
    θ_run (Cert.KernelQkNorm.defs (F := Bits)) (onTc (τ := Cert.KernelQkNorm.τ) (Cert.KernelQkNorm.main (F := Bits))) ⟨m, fun _ => 0, g⟩ (fun r => (∀ c : Dev Cert.KernelQkNorm.nD,
      r.2.mem ((c.tc : Thread Cert.KernelQkNorm.nD Cert.KernelQkNorm.τ).loc Cert.KernelQkNorm.main_arg0) = m ((c.tc : Thread Cert.KernelQkNorm.nD Cert.KernelQkNorm.τ).loc Cert.KernelQkNorm.main_arg0)
      ∧ r.2.mem ((c.tc : Thread Cert.KernelQkNorm.nD Cert.KernelQkNorm.τ).loc Cert.KernelQkNorm.main_arg1) = m ((c.tc : Thread Cert.KernelQkNorm.nD Cert.KernelQkNorm.τ).loc Cert.KernelQkNorm.main_arg1)
      ∧ r.2.mem ((c.tc : Thread Cert.KernelQkNorm.nD Cert.KernelQkNorm.τ).loc Cert.KernelQkNorm.main_arg2) = m ((c.tc : Thread Cert.KernelQkNorm.nD Cert.KernelQkNorm.τ).loc Cert.KernelQkNorm.main_arg2)
      ∧ r.2.mem ((c.tc : Thread Cert.KernelQkNorm.nD Cert.KernelQkNorm.τ).loc Cert.KernelQkNorm.main_arg3) = m ((c.tc : Thread Cert.KernelQkNorm.nD Cert.KernelQkNorm.τ).loc Cert.KernelQkNorm.main_arg3)
      ∧ r.2.mem ((c.tc : Thread Cert.KernelQkNorm.nD Cert.KernelQkNorm.τ).loc Cert.KernelQkNorm.main_arg4) = m ((c.tc : Thread Cert.KernelQkNorm.nD Cert.KernelQkNorm.τ).loc Cert.KernelQkNorm.main_arg4))
      ∧ r.2.sem = fun _ => 0)

def quiescent_KernelQkNormIdeal [hKernelQkNormIdeal : Cert.KernelQkNormIdeal.Facts] : Prop :=
  ∀ (m : (ℓ : Loc Cert.KernelQkNormIdeal.nD Cert.KernelQkNormIdeal.τ Cert.KernelQkNormIdeal.sig) → Buf (Elt Ideal) ℓ) (g : Dev Cert.KernelQkNormIdeal.nD → PrngReg), Pre_KernelQkNormIdeal m →
    θ_run (Cert.KernelQkNormIdeal.defs (F := Ideal)) (onTc (τ := Cert.KernelQkNormIdeal.τ) (Cert.KernelQkNormIdeal.main (F := Ideal))) ⟨m, fun _ => 0, g⟩ (fun r => (∀ c : Dev Cert.KernelQkNormIdeal.nD,
      r.2.mem ((c.tc : Thread Cert.KernelQkNormIdeal.nD Cert.KernelQkNormIdeal.τ).loc Cert.KernelQkNormIdeal.main_arg0) = m ((c.tc : Thread Cert.KernelQkNormIdeal.nD Cert.KernelQkNormIdeal.τ).loc Cert.KernelQkNormIdeal.main_arg0)
      ∧ r.2.mem ((c.tc : Thread Cert.KernelQkNormIdeal.nD Cert.KernelQkNormIdeal.τ).loc Cert.KernelQkNormIdeal.main_arg1) = m ((c.tc : Thread Cert.KernelQkNormIdeal.nD Cert.KernelQkNormIdeal.τ).loc Cert.KernelQkNormIdeal.main_arg1)
      ∧ r.2.mem ((c.tc : Thread Cert.KernelQkNormIdeal.nD Cert.KernelQkNormIdeal.τ).loc Cert.KernelQkNormIdeal.main_arg2) = m ((c.tc : Thread Cert.KernelQkNormIdeal.nD Cert.KernelQkNormIdeal.τ).loc Cert.KernelQkNormIdeal.main_arg2)
      ∧ r.2.mem ((c.tc : Thread Cert.KernelQkNormIdeal.nD Cert.KernelQkNormIdeal.τ).loc Cert.KernelQkNormIdeal.main_arg3) = m ((c.tc : Thread Cert.KernelQkNormIdeal.nD Cert.KernelQkNormIdeal.τ).loc Cert.KernelQkNormIdeal.main_arg3)
      ∧ r.2.mem ((c.tc : Thread Cert.KernelQkNormIdeal.nD Cert.KernelQkNormIdeal.τ).loc Cert.KernelQkNormIdeal.main_arg4) = m ((c.tc : Thread Cert.KernelQkNormIdeal.nD Cert.KernelQkNormIdeal.τ).loc Cert.KernelQkNormIdeal.main_arg4))
      ∧ r.2.sem = fun _ => 0)

def quiescent_KernelQkNormIdeal_pre_finite_prep [hKernelQkNormIdeal : Cert.KernelQkNormIdeal.Facts] [hPre_finite_prep : Cert.Pre_finite_prep.Facts] : Prop :=
  ∀ (m : (ℓ : Loc Cert.KernelQkNormIdeal.nD Cert.KernelQkNormIdeal.τ Cert.KernelQkNormIdeal.sig) → Buf (Elt Ideal) ℓ) (g : Dev Cert.KernelQkNormIdeal.nD → PrngReg), Pre_KernelQkNormIdeal_finite_prep m →
    θ_run (Cert.KernelQkNormIdeal.defs (F := Ideal)) (onTc (τ := Cert.KernelQkNormIdeal.τ) (Cert.KernelQkNormIdeal.main (F := Ideal))) ⟨m, fun _ => 0, g⟩ (fun r => (∀ c : Dev Cert.KernelQkNormIdeal.nD,
      r.2.mem ((c.tc : Thread Cert.KernelQkNormIdeal.nD Cert.KernelQkNormIdeal.τ).loc Cert.KernelQkNormIdeal.main_arg0) = m ((c.tc : Thread Cert.KernelQkNormIdeal.nD Cert.KernelQkNormIdeal.τ).loc Cert.KernelQkNormIdeal.main_arg0)
      ∧ r.2.mem ((c.tc : Thread Cert.KernelQkNormIdeal.nD Cert.KernelQkNormIdeal.τ).loc Cert.KernelQkNormIdeal.main_arg1) = m ((c.tc : Thread Cert.KernelQkNormIdeal.nD Cert.KernelQkNormIdeal.τ).loc Cert.KernelQkNormIdeal.main_arg1)
      ∧ r.2.mem ((c.tc : Thread Cert.KernelQkNormIdeal.nD Cert.KernelQkNormIdeal.τ).loc Cert.KernelQkNormIdeal.main_arg2) = m ((c.tc : Thread Cert.KernelQkNormIdeal.nD Cert.KernelQkNormIdeal.τ).loc Cert.KernelQkNormIdeal.main_arg2)
      ∧ r.2.mem ((c.tc : Thread Cert.KernelQkNormIdeal.nD Cert.KernelQkNormIdeal.τ).loc Cert.KernelQkNormIdeal.main_arg3) = m ((c.tc : Thread Cert.KernelQkNormIdeal.nD Cert.KernelQkNormIdeal.τ).loc Cert.KernelQkNormIdeal.main_arg3)
      ∧ r.2.mem ((c.tc : Thread Cert.KernelQkNormIdeal.nD Cert.KernelQkNormIdeal.τ).loc Cert.KernelQkNormIdeal.main_arg4) = m ((c.tc : Thread Cert.KernelQkNormIdeal.nD Cert.KernelQkNormIdeal.τ).loc Cert.KernelQkNormIdeal.main_arg4))
      ∧ r.2.sem = fun _ => 0)

def quiescent_ReferenceQkNormIdeal [hReferenceQkNormIdeal : Cert.ReferenceQkNormIdeal.Facts] : Prop :=
  ∀ (m : (ℓ : Loc Cert.ReferenceQkNormIdeal.nD Cert.ReferenceQkNormIdeal.τ Cert.ReferenceQkNormIdeal.sig) → Buf (Elt Ideal) ℓ) (g : Dev Cert.ReferenceQkNormIdeal.nD → PrngReg), Pre_ReferenceQkNormIdeal m →
    θ_run (Cert.ReferenceQkNormIdeal.defs (F := Ideal)) (onTc (τ := Cert.ReferenceQkNormIdeal.τ) (Cert.ReferenceQkNormIdeal.main (F := Ideal))) ⟨m, fun _ => 0, g⟩ (fun r => (∀ c : Dev Cert.ReferenceQkNormIdeal.nD,
      r.2.mem ((c.tc : Thread Cert.ReferenceQkNormIdeal.nD Cert.ReferenceQkNormIdeal.τ).loc Cert.ReferenceQkNormIdeal.main_arg0) = m ((c.tc : Thread Cert.ReferenceQkNormIdeal.nD Cert.ReferenceQkNormIdeal.τ).loc Cert.ReferenceQkNormIdeal.main_arg0)
      ∧ r.2.mem ((c.tc : Thread Cert.ReferenceQkNormIdeal.nD Cert.ReferenceQkNormIdeal.τ).loc Cert.ReferenceQkNormIdeal.main_arg1) = m ((c.tc : Thread Cert.ReferenceQkNormIdeal.nD Cert.ReferenceQkNormIdeal.τ).loc Cert.ReferenceQkNormIdeal.main_arg1)
      ∧ r.2.mem ((c.tc : Thread Cert.ReferenceQkNormIdeal.nD Cert.ReferenceQkNormIdeal.τ).loc Cert.ReferenceQkNormIdeal.main_arg2) = m ((c.tc : Thread Cert.ReferenceQkNormIdeal.nD Cert.ReferenceQkNormIdeal.τ).loc Cert.ReferenceQkNormIdeal.main_arg2)
      ∧ r.2.mem ((c.tc : Thread Cert.ReferenceQkNormIdeal.nD Cert.ReferenceQkNormIdeal.τ).loc Cert.ReferenceQkNormIdeal.main_arg3) = m ((c.tc : Thread Cert.ReferenceQkNormIdeal.nD Cert.ReferenceQkNormIdeal.τ).loc Cert.ReferenceQkNormIdeal.main_arg3)
      ∧ r.2.mem ((c.tc : Thread Cert.ReferenceQkNormIdeal.nD Cert.ReferenceQkNormIdeal.τ).loc Cert.ReferenceQkNormIdeal.main_arg4) = m ((c.tc : Thread Cert.ReferenceQkNormIdeal.nD Cert.ReferenceQkNormIdeal.τ).loc Cert.ReferenceQkNormIdeal.main_arg4))
      ∧ r.2.sem = fun _ => 0)

def quiescent_ReferenceQkNormIdeal_pre_finite_prep [hReferenceQkNormIdeal : Cert.ReferenceQkNormIdeal.Facts] [hPre_finite_prep : Cert.Pre_finite_prep.Facts] : Prop :=
  ∀ (m : (ℓ : Loc Cert.ReferenceQkNormIdeal.nD Cert.ReferenceQkNormIdeal.τ Cert.ReferenceQkNormIdeal.sig) → Buf (Elt Ideal) ℓ) (g : Dev Cert.ReferenceQkNormIdeal.nD → PrngReg), Pre_ReferenceQkNormIdeal_finite_prep m →
    θ_run (Cert.ReferenceQkNormIdeal.defs (F := Ideal)) (onTc (τ := Cert.ReferenceQkNormIdeal.τ) (Cert.ReferenceQkNormIdeal.main (F := Ideal))) ⟨m, fun _ => 0, g⟩ (fun r => (∀ c : Dev Cert.ReferenceQkNormIdeal.nD,
      r.2.mem ((c.tc : Thread Cert.ReferenceQkNormIdeal.nD Cert.ReferenceQkNormIdeal.τ).loc Cert.ReferenceQkNormIdeal.main_arg0) = m ((c.tc : Thread Cert.ReferenceQkNormIdeal.nD Cert.ReferenceQkNormIdeal.τ).loc Cert.ReferenceQkNormIdeal.main_arg0)
      ∧ r.2.mem ((c.tc : Thread Cert.ReferenceQkNormIdeal.nD Cert.ReferenceQkNormIdeal.τ).loc Cert.ReferenceQkNormIdeal.main_arg1) = m ((c.tc : Thread Cert.ReferenceQkNormIdeal.nD Cert.ReferenceQkNormIdeal.τ).loc Cert.ReferenceQkNormIdeal.main_arg1)
      ∧ r.2.mem ((c.tc : Thread Cert.ReferenceQkNormIdeal.nD Cert.ReferenceQkNormIdeal.τ).loc Cert.ReferenceQkNormIdeal.main_arg2) = m ((c.tc : Thread Cert.ReferenceQkNormIdeal.nD Cert.ReferenceQkNormIdeal.τ).loc Cert.ReferenceQkNormIdeal.main_arg2)
      ∧ r.2.mem ((c.tc : Thread Cert.ReferenceQkNormIdeal.nD Cert.ReferenceQkNormIdeal.τ).loc Cert.ReferenceQkNormIdeal.main_arg3) = m ((c.tc : Thread Cert.ReferenceQkNormIdeal.nD Cert.ReferenceQkNormIdeal.τ).loc Cert.ReferenceQkNormIdeal.main_arg3)
      ∧ r.2.mem ((c.tc : Thread Cert.ReferenceQkNormIdeal.nD Cert.ReferenceQkNormIdeal.τ).loc Cert.ReferenceQkNormIdeal.main_arg4) = m ((c.tc : Thread Cert.ReferenceQkNormIdeal.nD Cert.ReferenceQkNormIdeal.τ).loc Cert.ReferenceQkNormIdeal.main_arg4))
      ∧ r.2.sem = fun _ => 0)

def quiescent_KernelSgu [hKernelSgu : Cert.KernelSgu.Facts] : Prop :=
  ∀ (m : (ℓ : Loc Cert.KernelSgu.nD Cert.KernelSgu.τ Cert.KernelSgu.sig) → Buf (Elt Bits) ℓ) (g : Dev Cert.KernelSgu.nD → PrngReg), Pre_KernelSgu m →
    θ_run (Cert.KernelSgu.defs (F := Bits)) (onTc (τ := Cert.KernelSgu.τ) (Cert.KernelSgu.main (F := Bits))) ⟨m, fun _ => 0, g⟩ (fun r => (∀ c : Dev Cert.KernelSgu.nD,
      r.2.mem ((c.tc : Thread Cert.KernelSgu.nD Cert.KernelSgu.τ).loc Cert.KernelSgu.main_arg0) = m ((c.tc : Thread Cert.KernelSgu.nD Cert.KernelSgu.τ).loc Cert.KernelSgu.main_arg0)
      ∧ r.2.mem ((c.tc : Thread Cert.KernelSgu.nD Cert.KernelSgu.τ).loc Cert.KernelSgu.main_arg1) = m ((c.tc : Thread Cert.KernelSgu.nD Cert.KernelSgu.τ).loc Cert.KernelSgu.main_arg1)
      ∧ r.2.mem ((c.tc : Thread Cert.KernelSgu.nD Cert.KernelSgu.τ).loc Cert.KernelSgu.main_arg2) = m ((c.tc : Thread Cert.KernelSgu.nD Cert.KernelSgu.τ).loc Cert.KernelSgu.main_arg2)
      ∧ r.2.mem ((c.tc : Thread Cert.KernelSgu.nD Cert.KernelSgu.τ).loc Cert.KernelSgu.main_arg3) = m ((c.tc : Thread Cert.KernelSgu.nD Cert.KernelSgu.τ).loc Cert.KernelSgu.main_arg3)
      ∧ r.2.mem ((c.tc : Thread Cert.KernelSgu.nD Cert.KernelSgu.τ).loc Cert.KernelSgu.main_arg4) = m ((c.tc : Thread Cert.KernelSgu.nD Cert.KernelSgu.τ).loc Cert.KernelSgu.main_arg4))
      ∧ r.2.sem = fun _ => 0)

def quiescent_KernelSguIdeal [hKernelSguIdeal : Cert.KernelSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
      ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4))
      ∧ r.2.sem = fun _ => 0)

def quiescent_KernelNormFwd [hKernelNormFwd : Cert.KernelNormFwd.Facts] : Prop :=
  ∀ (m : (ℓ : Loc Cert.KernelNormFwd.nD Cert.KernelNormFwd.τ Cert.KernelNormFwd.sig) → Buf (Elt Bits) ℓ) (g : Dev Cert.KernelNormFwd.nD → PrngReg), Pre_KernelNormFwd m →
    θ_run (Cert.KernelNormFwd.defs (F := Bits)) (onTc (τ := Cert.KernelNormFwd.τ) (Cert.KernelNormFwd.main (F := Bits))) ⟨m, fun _ => 0, g⟩ (fun r => (∀ c : Dev Cert.KernelNormFwd.nD,
      r.2.mem ((c.tc : Thread Cert.KernelNormFwd.nD Cert.KernelNormFwd.τ).loc Cert.KernelNormFwd.main_arg0) = m ((c.tc : Thread Cert.KernelNormFwd.nD Cert.KernelNormFwd.τ).loc Cert.KernelNormFwd.main_arg0)
      ∧ r.2.mem ((c.tc : Thread Cert.KernelNormFwd.nD Cert.KernelNormFwd.τ).loc Cert.KernelNormFwd.main_arg1) = m ((c.tc : Thread Cert.KernelNormFwd.nD Cert.KernelNormFwd.τ).loc Cert.KernelNormFwd.main_arg1)
      ∧ r.2.mem ((c.tc : Thread Cert.KernelNormFwd.nD Cert.KernelNormFwd.τ).loc Cert.KernelNormFwd.main_arg2) = m ((c.tc : Thread Cert.KernelNormFwd.nD Cert.KernelNormFwd.τ).loc Cert.KernelNormFwd.main_arg2)
      ∧ r.2.mem ((c.tc : Thread Cert.KernelNormFwd.nD Cert.KernelNormFwd.τ).loc Cert.KernelNormFwd.main_arg3) = m ((c.tc : Thread Cert.KernelNormFwd.nD Cert.KernelNormFwd.τ).loc Cert.KernelNormFwd.main_arg3))
      ∧ r.2.sem = fun _ => 0)

def quiescent_KernelNormFwdIdeal [hKernelNormFwdIdeal : Cert.KernelNormFwdIdeal.Facts] : Prop :=
  ∀ (m : (ℓ : Loc Cert.KernelNormFwdIdeal.nD Cert.KernelNormFwdIdeal.τ Cert.KernelNormFwdIdeal.sig) → Buf (Elt Ideal) ℓ) (g : Dev Cert.KernelNormFwdIdeal.nD → PrngReg), Pre_KernelNormFwdIdeal m →
    θ_run (Cert.KernelNormFwdIdeal.defs (F := Ideal)) (onTc (τ := Cert.KernelNormFwdIdeal.τ) (Cert.KernelNormFwdIdeal.main (F := Ideal))) ⟨m, fun _ => 0, g⟩ (fun r => (∀ c : Dev Cert.KernelNormFwdIdeal.nD,
      r.2.mem ((c.tc : Thread Cert.KernelNormFwdIdeal.nD Cert.KernelNormFwdIdeal.τ).loc Cert.KernelNormFwdIdeal.main_arg0) = m ((c.tc : Thread Cert.KernelNormFwdIdeal.nD Cert.KernelNormFwdIdeal.τ).loc Cert.KernelNormFwdIdeal.main_arg0)
      ∧ r.2.mem ((c.tc : Thread Cert.KernelNormFwdIdeal.nD Cert.KernelNormFwdIdeal.τ).loc Cert.KernelNormFwdIdeal.main_arg1) = m ((c.tc : Thread Cert.KernelNormFwdIdeal.nD Cert.KernelNormFwdIdeal.τ).loc Cert.KernelNormFwdIdeal.main_arg1)
      ∧ r.2.mem ((c.tc : Thread Cert.KernelNormFwdIdeal.nD Cert.KernelNormFwdIdeal.τ).loc Cert.KernelNormFwdIdeal.main_arg2) = m ((c.tc : Thread Cert.KernelNormFwdIdeal.nD Cert.KernelNormFwdIdeal.τ).loc Cert.KernelNormFwdIdeal.main_arg2)
      ∧ r.2.mem ((c.tc : Thread Cert.KernelNormFwdIdeal.nD Cert.KernelNormFwdIdeal.τ).loc Cert.KernelNormFwdIdeal.main_arg3) = m ((c.tc : Thread Cert.KernelNormFwdIdeal.nD Cert.KernelNormFwdIdeal.τ).loc Cert.KernelNormFwdIdeal.main_arg3))
      ∧ r.2.sem = fun _ => 0)

def quiescent_ReferenceNormFwdIdeal [hReferenceNormFwdIdeal : Cert.ReferenceNormFwdIdeal.Facts] : Prop :=
  ∀ (m : (ℓ : Loc Cert.ReferenceNormFwdIdeal.nD Cert.ReferenceNormFwdIdeal.τ Cert.ReferenceNormFwdIdeal.sig) → Buf (Elt Ideal) ℓ) (g : Dev Cert.ReferenceNormFwdIdeal.nD → PrngReg), Pre_ReferenceNormFwdIdeal m →
    θ_run (Cert.ReferenceNormFwdIdeal.defs (F := Ideal)) (onTc (τ := Cert.ReferenceNormFwdIdeal.τ) (Cert.ReferenceNormFwdIdeal.main (F := Ideal))) ⟨m, fun _ => 0, g⟩ (fun r => (∀ c : Dev Cert.ReferenceNormFwdIdeal.nD,
      r.2.mem ((c.tc : Thread Cert.ReferenceNormFwdIdeal.nD Cert.ReferenceNormFwdIdeal.τ).loc Cert.ReferenceNormFwdIdeal.main_arg0) = m ((c.tc : Thread Cert.ReferenceNormFwdIdeal.nD Cert.ReferenceNormFwdIdeal.τ).loc Cert.ReferenceNormFwdIdeal.main_arg0)
      ∧ r.2.mem ((c.tc : Thread Cert.ReferenceNormFwdIdeal.nD Cert.ReferenceNormFwdIdeal.τ).loc Cert.ReferenceNormFwdIdeal.main_arg1) = m ((c.tc : Thread Cert.ReferenceNormFwdIdeal.nD Cert.ReferenceNormFwdIdeal.τ).loc Cert.ReferenceNormFwdIdeal.main_arg1)
      ∧ r.2.mem ((c.tc : Thread Cert.ReferenceNormFwdIdeal.nD Cert.ReferenceNormFwdIdeal.τ).loc Cert.ReferenceNormFwdIdeal.main_arg2) = m ((c.tc : Thread Cert.ReferenceNormFwdIdeal.nD Cert.ReferenceNormFwdIdeal.τ).loc Cert.ReferenceNormFwdIdeal.main_arg2)
      ∧ r.2.mem ((c.tc : Thread Cert.ReferenceNormFwdIdeal.nD Cert.ReferenceNormFwdIdeal.τ).loc Cert.ReferenceNormFwdIdeal.main_arg3) = m ((c.tc : Thread Cert.ReferenceNormFwdIdeal.nD Cert.ReferenceNormFwdIdeal.τ).loc Cert.ReferenceNormFwdIdeal.main_arg3))
      ∧ r.2.sem = fun _ => 0)

def quiescent_KernelResidFwd [hKernelResidFwd : Cert.KernelResidFwd.Facts] : Prop :=
  ∀ (m : (ℓ : Loc Cert.KernelResidFwd.nD Cert.KernelResidFwd.τ Cert.KernelResidFwd.sig) → Buf (Elt Bits) ℓ) (g : Dev Cert.KernelResidFwd.nD → PrngReg), Pre_KernelResidFwd m →
    θ_run (Cert.KernelResidFwd.defs (F := Bits)) (onTc (τ := Cert.KernelResidFwd.τ) (Cert.KernelResidFwd.main (F := Bits))) ⟨m, fun _ => 0, g⟩ (fun r => (∀ c : Dev Cert.KernelResidFwd.nD,
      r.2.mem ((c.tc : Thread Cert.KernelResidFwd.nD Cert.KernelResidFwd.τ).loc Cert.KernelResidFwd.main_arg0) = m ((c.tc : Thread Cert.KernelResidFwd.nD Cert.KernelResidFwd.τ).loc Cert.KernelResidFwd.main_arg0)
      ∧ r.2.mem ((c.tc : Thread Cert.KernelResidFwd.nD Cert.KernelResidFwd.τ).loc Cert.KernelResidFwd.main_arg1) = m ((c.tc : Thread Cert.KernelResidFwd.nD Cert.KernelResidFwd.τ).loc Cert.KernelResidFwd.main_arg1)
      ∧ r.2.mem ((c.tc : Thread Cert.KernelResidFwd.nD Cert.KernelResidFwd.τ).loc Cert.KernelResidFwd.main_arg2) = m ((c.tc : Thread Cert.KernelResidFwd.nD Cert.KernelResidFwd.τ).loc Cert.KernelResidFwd.main_arg2)
      ∧ r.2.mem ((c.tc : Thread Cert.KernelResidFwd.nD Cert.KernelResidFwd.τ).loc Cert.KernelResidFwd.main_arg3) = m ((c.tc : Thread Cert.KernelResidFwd.nD Cert.KernelResidFwd.τ).loc Cert.KernelResidFwd.main_arg3)
      ∧ r.2.mem ((c.tc : Thread Cert.KernelResidFwd.nD Cert.KernelResidFwd.τ).loc Cert.KernelResidFwd.main_arg4) = m ((c.tc : Thread Cert.KernelResidFwd.nD Cert.KernelResidFwd.τ).loc Cert.KernelResidFwd.main_arg4)
      ∧ r.2.mem ((c.tc : Thread Cert.KernelResidFwd.nD Cert.KernelResidFwd.τ).loc Cert.KernelResidFwd.main_arg5) = m ((c.tc : Thread Cert.KernelResidFwd.nD Cert.KernelResidFwd.τ).loc Cert.KernelResidFwd.main_arg5))
      ∧ r.2.sem = fun _ => 0)

def quiescent_KernelResidFwdIdeal [hKernelResidFwdIdeal : Cert.KernelResidFwdIdeal.Facts] : Prop :=
  ∀ (m : (ℓ : Loc Cert.KernelResidFwdIdeal.nD Cert.KernelResidFwdIdeal.τ Cert.KernelResidFwdIdeal.sig) → Buf (Elt Ideal) ℓ) (g : Dev Cert.KernelResidFwdIdeal.nD → PrngReg), Pre_KernelResidFwdIdeal m →
    θ_run (Cert.KernelResidFwdIdeal.defs (F := Ideal)) (onTc (τ := Cert.KernelResidFwdIdeal.τ) (Cert.KernelResidFwdIdeal.main (F := Ideal))) ⟨m, fun _ => 0, g⟩ (fun r => (∀ c : Dev Cert.KernelResidFwdIdeal.nD,
      r.2.mem ((c.tc : Thread Cert.KernelResidFwdIdeal.nD Cert.KernelResidFwdIdeal.τ).loc Cert.KernelResidFwdIdeal.main_arg0) = m ((c.tc : Thread Cert.KernelResidFwdIdeal.nD Cert.KernelResidFwdIdeal.τ).loc Cert.KernelResidFwdIdeal.main_arg0)
      ∧ r.2.mem ((c.tc : Thread Cert.KernelResidFwdIdeal.nD Cert.KernelResidFwdIdeal.τ).loc Cert.KernelResidFwdIdeal.main_arg1) = m ((c.tc : Thread Cert.KernelResidFwdIdeal.nD Cert.KernelResidFwdIdeal.τ).loc Cert.KernelResidFwdIdeal.main_arg1)
      ∧ r.2.mem ((c.tc : Thread Cert.KernelResidFwdIdeal.nD Cert.KernelResidFwdIdeal.τ).loc Cert.KernelResidFwdIdeal.main_arg2) = m ((c.tc : Thread Cert.KernelResidFwdIdeal.nD Cert.KernelResidFwdIdeal.τ).loc Cert.KernelResidFwdIdeal.main_arg2)
      ∧ r.2.mem ((c.tc : Thread Cert.KernelResidFwdIdeal.nD Cert.KernelResidFwdIdeal.τ).loc Cert.KernelResidFwdIdeal.main_arg3) = m ((c.tc : Thread Cert.KernelResidFwdIdeal.nD Cert.KernelResidFwdIdeal.τ).loc Cert.KernelResidFwdIdeal.main_arg3)
      ∧ r.2.mem ((c.tc : Thread Cert.KernelResidFwdIdeal.nD Cert.KernelResidFwdIdeal.τ).loc Cert.KernelResidFwdIdeal.main_arg4) = m ((c.tc : Thread Cert.KernelResidFwdIdeal.nD Cert.KernelResidFwdIdeal.τ).loc Cert.KernelResidFwdIdeal.main_arg4)
      ∧ r.2.mem ((c.tc : Thread Cert.KernelResidFwdIdeal.nD Cert.KernelResidFwdIdeal.τ).loc Cert.KernelResidFwdIdeal.main_arg5) = m ((c.tc : Thread Cert.KernelResidFwdIdeal.nD Cert.KernelResidFwdIdeal.τ).loc Cert.KernelResidFwdIdeal.main_arg5))
      ∧ r.2.sem = fun _ => 0)

def quiescent_ReferenceResidFwdIdeal [hReferenceResidFwdIdeal : Cert.ReferenceResidFwdIdeal.Facts] : Prop :=
  ∀ (m : (ℓ : Loc Cert.ReferenceResidFwdIdeal.nD Cert.ReferenceResidFwdIdeal.τ Cert.ReferenceResidFwdIdeal.sig) → Buf (Elt Ideal) ℓ) (g : Dev Cert.ReferenceResidFwdIdeal.nD → PrngReg), Pre_ReferenceResidFwdIdeal m →
    θ_run (Cert.ReferenceResidFwdIdeal.defs (F := Ideal)) (onTc (τ := Cert.ReferenceResidFwdIdeal.τ) (Cert.ReferenceResidFwdIdeal.main (F := Ideal))) ⟨m, fun _ => 0, g⟩ (fun r => (∀ c : Dev Cert.ReferenceResidFwdIdeal.nD,
      r.2.mem ((c.tc : Thread Cert.ReferenceResidFwdIdeal.nD Cert.ReferenceResidFwdIdeal.τ).loc Cert.ReferenceResidFwdIdeal.main_arg0) = m ((c.tc : Thread Cert.ReferenceResidFwdIdeal.nD Cert.ReferenceResidFwdIdeal.τ).loc Cert.ReferenceResidFwdIdeal.main_arg0)
      ∧ r.2.mem ((c.tc : Thread Cert.ReferenceResidFwdIdeal.nD Cert.ReferenceResidFwdIdeal.τ).loc Cert.ReferenceResidFwdIdeal.main_arg1) = m ((c.tc : Thread Cert.ReferenceResidFwdIdeal.nD Cert.ReferenceResidFwdIdeal.τ).loc Cert.ReferenceResidFwdIdeal.main_arg1)
      ∧ r.2.mem ((c.tc : Thread Cert.ReferenceResidFwdIdeal.nD Cert.ReferenceResidFwdIdeal.τ).loc Cert.ReferenceResidFwdIdeal.main_arg2) = m ((c.tc : Thread Cert.ReferenceResidFwdIdeal.nD Cert.ReferenceResidFwdIdeal.τ).loc Cert.ReferenceResidFwdIdeal.main_arg2)
      ∧ r.2.mem ((c.tc : Thread Cert.ReferenceResidFwdIdeal.nD Cert.ReferenceResidFwdIdeal.τ).loc Cert.ReferenceResidFwdIdeal.main_arg3) = m ((c.tc : Thread Cert.ReferenceResidFwdIdeal.nD Cert.ReferenceResidFwdIdeal.τ).loc Cert.ReferenceResidFwdIdeal.main_arg3)
      ∧ r.2.mem ((c.tc : Thread Cert.ReferenceResidFwdIdeal.nD Cert.ReferenceResidFwdIdeal.τ).loc Cert.ReferenceResidFwdIdeal.main_arg4) = m ((c.tc : Thread Cert.ReferenceResidFwdIdeal.nD Cert.ReferenceResidFwdIdeal.τ).loc Cert.ReferenceResidFwdIdeal.main_arg4)
      ∧ r.2.mem ((c.tc : Thread Cert.ReferenceResidFwdIdeal.nD Cert.ReferenceResidFwdIdeal.τ).loc Cert.ReferenceResidFwdIdeal.main_arg5) = m ((c.tc : Thread Cert.ReferenceResidFwdIdeal.nD Cert.ReferenceResidFwdIdeal.τ).loc Cert.ReferenceResidFwdIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelQkFwd [hKernelQkFwd : Cert.KernelQkFwd.Facts] : Prop :=
  ∀ (m : (ℓ : Loc Cert.KernelQkFwd.nD Cert.KernelQkFwd.τ Cert.KernelQkFwd.sig) → Buf (Elt Bits) ℓ) (g : Dev Cert.KernelQkFwd.nD → PrngReg), Pre_KernelQkFwd m →
    θ_run (Cert.KernelQkFwd.defs (F := Bits)) (onTc (τ := Cert.KernelQkFwd.τ) (Cert.KernelQkFwd.main (F := Bits))) ⟨m, fun _ => 0, g⟩ (fun r => (∀ c : Dev Cert.KernelQkFwd.nD,
      r.2.mem ((c.tc : Thread Cert.KernelQkFwd.nD Cert.KernelQkFwd.τ).loc Cert.KernelQkFwd.main_arg0) = m ((c.tc : Thread Cert.KernelQkFwd.nD Cert.KernelQkFwd.τ).loc Cert.KernelQkFwd.main_arg0)
      ∧ r.2.mem ((c.tc : Thread Cert.KernelQkFwd.nD Cert.KernelQkFwd.τ).loc Cert.KernelQkFwd.main_arg1) = m ((c.tc : Thread Cert.KernelQkFwd.nD Cert.KernelQkFwd.τ).loc Cert.KernelQkFwd.main_arg1)
      ∧ r.2.mem ((c.tc : Thread Cert.KernelQkFwd.nD Cert.KernelQkFwd.τ).loc Cert.KernelQkFwd.main_arg2) = m ((c.tc : Thread Cert.KernelQkFwd.nD Cert.KernelQkFwd.τ).loc Cert.KernelQkFwd.main_arg2))
      ∧ r.2.sem = fun _ => 0)

def quiescent_KernelQkFwdIdeal [hKernelQkFwdIdeal : Cert.KernelQkFwdIdeal.Facts] : Prop :=
  ∀ (m : (ℓ : Loc Cert.KernelQkFwdIdeal.nD Cert.KernelQkFwdIdeal.τ Cert.KernelQkFwdIdeal.sig) → Buf (Elt Ideal) ℓ) (g : Dev Cert.KernelQkFwdIdeal.nD → PrngReg), Pre_KernelQkFwdIdeal m →
    θ_run (Cert.KernelQkFwdIdeal.defs (F := Ideal)) (onTc (τ := Cert.KernelQkFwdIdeal.τ) (Cert.KernelQkFwdIdeal.main (F := Ideal))) ⟨m, fun _ => 0, g⟩ (fun r => (∀ c : Dev Cert.KernelQkFwdIdeal.nD,
      r.2.mem ((c.tc : Thread Cert.KernelQkFwdIdeal.nD Cert.KernelQkFwdIdeal.τ).loc Cert.KernelQkFwdIdeal.main_arg0) = m ((c.tc : Thread Cert.KernelQkFwdIdeal.nD Cert.KernelQkFwdIdeal.τ).loc Cert.KernelQkFwdIdeal.main_arg0)
      ∧ r.2.mem ((c.tc : Thread Cert.KernelQkFwdIdeal.nD Cert.KernelQkFwdIdeal.τ).loc Cert.KernelQkFwdIdeal.main_arg1) = m ((c.tc : Thread Cert.KernelQkFwdIdeal.nD Cert.KernelQkFwdIdeal.τ).loc Cert.KernelQkFwdIdeal.main_arg1)
      ∧ r.2.mem ((c.tc : Thread Cert.KernelQkFwdIdeal.nD Cert.KernelQkFwdIdeal.τ).loc Cert.KernelQkFwdIdeal.main_arg2) = m ((c.tc : Thread Cert.KernelQkFwdIdeal.nD Cert.KernelQkFwdIdeal.τ).loc Cert.KernelQkFwdIdeal.main_arg2))
      ∧ r.2.sem = fun _ => 0)

def quiescent_ReferenceQkFwdIdeal [hReferenceQkFwdIdeal : Cert.ReferenceQkFwdIdeal.Facts] : Prop :=
  ∀ (m : (ℓ : Loc Cert.ReferenceQkFwdIdeal.nD Cert.ReferenceQkFwdIdeal.τ Cert.ReferenceQkFwdIdeal.sig) → Buf (Elt Ideal) ℓ) (g : Dev Cert.ReferenceQkFwdIdeal.nD → PrngReg), Pre_ReferenceQkFwdIdeal m →
    θ_run (Cert.ReferenceQkFwdIdeal.defs (F := Ideal)) (onTc (τ := Cert.ReferenceQkFwdIdeal.τ) (Cert.ReferenceQkFwdIdeal.main (F := Ideal))) ⟨m, fun _ => 0, g⟩ (fun r => (∀ c : Dev Cert.ReferenceQkFwdIdeal.nD,
      r.2.mem ((c.tc : Thread Cert.ReferenceQkFwdIdeal.nD Cert.ReferenceQkFwdIdeal.τ).loc Cert.ReferenceQkFwdIdeal.main_arg0) = m ((c.tc : Thread Cert.ReferenceQkFwdIdeal.nD Cert.ReferenceQkFwdIdeal.τ).loc Cert.ReferenceQkFwdIdeal.main_arg0)
      ∧ r.2.mem ((c.tc : Thread Cert.ReferenceQkFwdIdeal.nD Cert.ReferenceQkFwdIdeal.τ).loc Cert.ReferenceQkFwdIdeal.main_arg1) = m ((c.tc : Thread Cert.ReferenceQkFwdIdeal.nD Cert.ReferenceQkFwdIdeal.τ).loc Cert.ReferenceQkFwdIdeal.main_arg1)
      ∧ r.2.mem ((c.tc : Thread Cert.ReferenceQkFwdIdeal.nD Cert.ReferenceQkFwdIdeal.τ).loc Cert.ReferenceQkFwdIdeal.main_arg2) = m ((c.tc : Thread Cert.ReferenceQkFwdIdeal.nD Cert.ReferenceQkFwdIdeal.τ).loc Cert.ReferenceQkFwdIdeal.main_arg2))
      ∧ r.2.sem = fun _ => 0)

def quiescent_KernelForgetFwd [hKernelForgetFwd : Cert.KernelForgetFwd.Facts] : Prop :=
  ∀ (m : (ℓ : Loc Cert.KernelForgetFwd.nD Cert.KernelForgetFwd.τ Cert.KernelForgetFwd.sig) → Buf (Elt Bits) ℓ) (g : Dev Cert.KernelForgetFwd.nD → PrngReg), Pre_KernelForgetFwd m →
    θ_run (Cert.KernelForgetFwd.defs (F := Bits)) (onTc (τ := Cert.KernelForgetFwd.τ) (Cert.KernelForgetFwd.main (F := Bits))) ⟨m, fun _ => 0, g⟩ (fun r => (∀ c : Dev Cert.KernelForgetFwd.nD,
      r.2.mem ((c.tc : Thread Cert.KernelForgetFwd.nD Cert.KernelForgetFwd.τ).loc Cert.KernelForgetFwd.main_arg0) = m ((c.tc : Thread Cert.KernelForgetFwd.nD Cert.KernelForgetFwd.τ).loc Cert.KernelForgetFwd.main_arg0)
      ∧ r.2.mem ((c.tc : Thread Cert.KernelForgetFwd.nD Cert.KernelForgetFwd.τ).loc Cert.KernelForgetFwd.main_arg1) = m ((c.tc : Thread Cert.KernelForgetFwd.nD Cert.KernelForgetFwd.τ).loc Cert.KernelForgetFwd.main_arg1))
      ∧ r.2.sem = fun _ => 0)

def quiescent_KernelForgetFwdIdeal [hKernelForgetFwdIdeal : Cert.KernelForgetFwdIdeal.Facts] : Prop :=
  ∀ (m : (ℓ : Loc Cert.KernelForgetFwdIdeal.nD Cert.KernelForgetFwdIdeal.τ Cert.KernelForgetFwdIdeal.sig) → Buf (Elt Ideal) ℓ) (g : Dev Cert.KernelForgetFwdIdeal.nD → PrngReg), Pre_KernelForgetFwdIdeal m →
    θ_run (Cert.KernelForgetFwdIdeal.defs (F := Ideal)) (onTc (τ := Cert.KernelForgetFwdIdeal.τ) (Cert.KernelForgetFwdIdeal.main (F := Ideal))) ⟨m, fun _ => 0, g⟩ (fun r => (∀ c : Dev Cert.KernelForgetFwdIdeal.nD,
      r.2.mem ((c.tc : Thread Cert.KernelForgetFwdIdeal.nD Cert.KernelForgetFwdIdeal.τ).loc Cert.KernelForgetFwdIdeal.main_arg0) = m ((c.tc : Thread Cert.KernelForgetFwdIdeal.nD Cert.KernelForgetFwdIdeal.τ).loc Cert.KernelForgetFwdIdeal.main_arg0)
      ∧ r.2.mem ((c.tc : Thread Cert.KernelForgetFwdIdeal.nD Cert.KernelForgetFwdIdeal.τ).loc Cert.KernelForgetFwdIdeal.main_arg1) = m ((c.tc : Thread Cert.KernelForgetFwdIdeal.nD Cert.KernelForgetFwdIdeal.τ).loc Cert.KernelForgetFwdIdeal.main_arg1))
      ∧ r.2.sem = fun _ => 0)

def quiescent_ReferenceForgetFwdIdeal [hReferenceForgetFwdIdeal : Cert.ReferenceForgetFwdIdeal.Facts] : Prop :=
  ∀ (m : (ℓ : Loc Cert.ReferenceForgetFwdIdeal.nD Cert.ReferenceForgetFwdIdeal.τ Cert.ReferenceForgetFwdIdeal.sig) → Buf (Elt Ideal) ℓ) (g : Dev Cert.ReferenceForgetFwdIdeal.nD → PrngReg), Pre_ReferenceForgetFwdIdeal m →
    θ_run (Cert.ReferenceForgetFwdIdeal.defs (F := Ideal)) (onTc (τ := Cert.ReferenceForgetFwdIdeal.τ) (Cert.ReferenceForgetFwdIdeal.main (F := Ideal))) ⟨m, fun _ => 0, g⟩ (fun r => (∀ c : Dev Cert.ReferenceForgetFwdIdeal.nD,
      r.2.mem ((c.tc : Thread Cert.ReferenceForgetFwdIdeal.nD Cert.ReferenceForgetFwdIdeal.τ).loc Cert.ReferenceForgetFwdIdeal.main_arg0) = m ((c.tc : Thread Cert.ReferenceForgetFwdIdeal.nD Cert.ReferenceForgetFwdIdeal.τ).loc Cert.ReferenceForgetFwdIdeal.main_arg0)
      ∧ r.2.mem ((c.tc : Thread Cert.ReferenceForgetFwdIdeal.nD Cert.ReferenceForgetFwdIdeal.τ).loc Cert.ReferenceForgetFwdIdeal.main_arg1) = m ((c.tc : Thread Cert.ReferenceForgetFwdIdeal.nD Cert.ReferenceForgetFwdIdeal.τ).loc Cert.ReferenceForgetFwdIdeal.main_arg1))
      ∧ r.2.sem = fun _ => 0)

def quiescent_KernelAdaFwd [hKernelAdaFwd : Cert.KernelAdaFwd.Facts] : Prop :=
  ∀ (m : (ℓ : Loc Cert.KernelAdaFwd.nD Cert.KernelAdaFwd.τ Cert.KernelAdaFwd.sig) → Buf (Elt Bits) ℓ) (g : Dev Cert.KernelAdaFwd.nD → PrngReg), Pre_KernelAdaFwd m →
    θ_run (Cert.KernelAdaFwd.defs (F := Bits)) (onTc (τ := Cert.KernelAdaFwd.τ) (Cert.KernelAdaFwd.main (F := Bits))) ⟨m, fun _ => 0, g⟩ (fun r => (∀ c : Dev Cert.KernelAdaFwd.nD,
      r.2.mem ((c.tc : Thread Cert.KernelAdaFwd.nD Cert.KernelAdaFwd.τ).loc Cert.KernelAdaFwd.main_arg0) = m ((c.tc : Thread Cert.KernelAdaFwd.nD Cert.KernelAdaFwd.τ).loc Cert.KernelAdaFwd.main_arg0)
      ∧ r.2.mem ((c.tc : Thread Cert.KernelAdaFwd.nD Cert.KernelAdaFwd.τ).loc Cert.KernelAdaFwd.main_arg1) = m ((c.tc : Thread Cert.KernelAdaFwd.nD Cert.KernelAdaFwd.τ).loc Cert.KernelAdaFwd.main_arg1)
      ∧ r.2.mem ((c.tc : Thread Cert.KernelAdaFwd.nD Cert.KernelAdaFwd.τ).loc Cert.KernelAdaFwd.main_arg2) = m ((c.tc : Thread Cert.KernelAdaFwd.nD Cert.KernelAdaFwd.τ).loc Cert.KernelAdaFwd.main_arg2))
      ∧ r.2.sem = fun _ => 0)

def quiescent_KernelAdaFwdIdeal [hKernelAdaFwdIdeal : Cert.KernelAdaFwdIdeal.Facts] : Prop :=
  ∀ (m : (ℓ : Loc Cert.KernelAdaFwdIdeal.nD Cert.KernelAdaFwdIdeal.τ Cert.KernelAdaFwdIdeal.sig) → Buf (Elt Ideal) ℓ) (g : Dev Cert.KernelAdaFwdIdeal.nD → PrngReg), Pre_KernelAdaFwdIdeal m →
    θ_run (Cert.KernelAdaFwdIdeal.defs (F := Ideal)) (onTc (τ := Cert.KernelAdaFwdIdeal.τ) (Cert.KernelAdaFwdIdeal.main (F := Ideal))) ⟨m, fun _ => 0, g⟩ (fun r => (∀ c : Dev Cert.KernelAdaFwdIdeal.nD,
      r.2.mem ((c.tc : Thread Cert.KernelAdaFwdIdeal.nD Cert.KernelAdaFwdIdeal.τ).loc Cert.KernelAdaFwdIdeal.main_arg0) = m ((c.tc : Thread Cert.KernelAdaFwdIdeal.nD Cert.KernelAdaFwdIdeal.τ).loc Cert.KernelAdaFwdIdeal.main_arg0)
      ∧ r.2.mem ((c.tc : Thread Cert.KernelAdaFwdIdeal.nD Cert.KernelAdaFwdIdeal.τ).loc Cert.KernelAdaFwdIdeal.main_arg1) = m ((c.tc : Thread Cert.KernelAdaFwdIdeal.nD Cert.KernelAdaFwdIdeal.τ).loc Cert.KernelAdaFwdIdeal.main_arg1)
      ∧ r.2.mem ((c.tc : Thread Cert.KernelAdaFwdIdeal.nD Cert.KernelAdaFwdIdeal.τ).loc Cert.KernelAdaFwdIdeal.main_arg2) = m ((c.tc : Thread Cert.KernelAdaFwdIdeal.nD Cert.KernelAdaFwdIdeal.τ).loc Cert.KernelAdaFwdIdeal.main_arg2))
      ∧ r.2.sem = fun _ => 0)

def quiescent_ReferenceAdaFwdIdeal [hReferenceAdaFwdIdeal : Cert.ReferenceAdaFwdIdeal.Facts] : Prop :=
  ∀ (m : (ℓ : Loc Cert.ReferenceAdaFwdIdeal.nD Cert.ReferenceAdaFwdIdeal.τ Cert.ReferenceAdaFwdIdeal.sig) → Buf (Elt Ideal) ℓ) (g : Dev Cert.ReferenceAdaFwdIdeal.nD → PrngReg), Pre_ReferenceAdaFwdIdeal m →
    θ_run (Cert.ReferenceAdaFwdIdeal.defs (F := Ideal)) (onTc (τ := Cert.ReferenceAdaFwdIdeal.τ) (Cert.ReferenceAdaFwdIdeal.main (F := Ideal))) ⟨m, fun _ => 0, g⟩ (fun r => (∀ c : Dev Cert.ReferenceAdaFwdIdeal.nD,
      r.2.mem ((c.tc : Thread Cert.ReferenceAdaFwdIdeal.nD Cert.ReferenceAdaFwdIdeal.τ).loc Cert.ReferenceAdaFwdIdeal.main_arg0) = m ((c.tc : Thread Cert.ReferenceAdaFwdIdeal.nD Cert.ReferenceAdaFwdIdeal.τ).loc Cert.ReferenceAdaFwdIdeal.main_arg0)
      ∧ r.2.mem ((c.tc : Thread Cert.ReferenceAdaFwdIdeal.nD Cert.ReferenceAdaFwdIdeal.τ).loc Cert.ReferenceAdaFwdIdeal.main_arg1) = m ((c.tc : Thread Cert.ReferenceAdaFwdIdeal.nD Cert.ReferenceAdaFwdIdeal.τ).loc Cert.ReferenceAdaFwdIdeal.main_arg1)
      ∧ r.2.mem ((c.tc : Thread Cert.ReferenceAdaFwdIdeal.nD Cert.ReferenceAdaFwdIdeal.τ).loc Cert.ReferenceAdaFwdIdeal.main_arg2) = m ((c.tc : Thread Cert.ReferenceAdaFwdIdeal.nD Cert.ReferenceAdaFwdIdeal.τ).loc Cert.ReferenceAdaFwdIdeal.main_arg2))
      ∧ r.2.sem = fun _ => 0)

def quiescent_KernelSguFwd [hKernelSguFwd : Cert.KernelSguFwd.Facts] : Prop :=
  ∀ (m : (ℓ : Loc Cert.KernelSguFwd.nD Cert.KernelSguFwd.τ Cert.KernelSguFwd.sig) → Buf (Elt Bits) ℓ) (g : Dev Cert.KernelSguFwd.nD → PrngReg), Pre_KernelSguFwd m →
    θ_run (Cert.KernelSguFwd.defs (F := Bits)) (onTc (τ := Cert.KernelSguFwd.τ) (Cert.KernelSguFwd.main (F := Bits))) ⟨m, fun _ => 0, g⟩ (fun r => (∀ c : Dev Cert.KernelSguFwd.nD,
      r.2.mem ((c.tc : Thread Cert.KernelSguFwd.nD Cert.KernelSguFwd.τ).loc Cert.KernelSguFwd.main_arg0) = m ((c.tc : Thread Cert.KernelSguFwd.nD Cert.KernelSguFwd.τ).loc Cert.KernelSguFwd.main_arg0)
      ∧ r.2.mem ((c.tc : Thread Cert.KernelSguFwd.nD Cert.KernelSguFwd.τ).loc Cert.KernelSguFwd.main_arg1) = m ((c.tc : Thread Cert.KernelSguFwd.nD Cert.KernelSguFwd.τ).loc Cert.KernelSguFwd.main_arg1)
      ∧ r.2.mem ((c.tc : Thread Cert.KernelSguFwd.nD Cert.KernelSguFwd.τ).loc Cert.KernelSguFwd.main_arg2) = m ((c.tc : Thread Cert.KernelSguFwd.nD Cert.KernelSguFwd.τ).loc Cert.KernelSguFwd.main_arg2)
      ∧ r.2.mem ((c.tc : Thread Cert.KernelSguFwd.nD Cert.KernelSguFwd.τ).loc Cert.KernelSguFwd.main_arg3) = m ((c.tc : Thread Cert.KernelSguFwd.nD Cert.KernelSguFwd.τ).loc Cert.KernelSguFwd.main_arg3))
      ∧ r.2.sem = fun _ => 0)

def quiescent_KernelSguFwdIdeal [hKernelSguFwdIdeal : Cert.KernelSguFwdIdeal.Facts] : Prop :=
  ∀ (m : (ℓ : Loc Cert.KernelSguFwdIdeal.nD Cert.KernelSguFwdIdeal.τ Cert.KernelSguFwdIdeal.sig) → Buf (Elt Ideal) ℓ) (g : Dev Cert.KernelSguFwdIdeal.nD → PrngReg), Pre_KernelSguFwdIdeal m →
    θ_run (Cert.KernelSguFwdIdeal.defs (F := Ideal)) (onTc (τ := Cert.KernelSguFwdIdeal.τ) (Cert.KernelSguFwdIdeal.main (F := Ideal))) ⟨m, fun _ => 0, g⟩ (fun r => (∀ c : Dev Cert.KernelSguFwdIdeal.nD,
      r.2.mem ((c.tc : Thread Cert.KernelSguFwdIdeal.nD Cert.KernelSguFwdIdeal.τ).loc Cert.KernelSguFwdIdeal.main_arg0) = m ((c.tc : Thread Cert.KernelSguFwdIdeal.nD Cert.KernelSguFwdIdeal.τ).loc Cert.KernelSguFwdIdeal.main_arg0)
      ∧ r.2.mem ((c.tc : Thread Cert.KernelSguFwdIdeal.nD Cert.KernelSguFwdIdeal.τ).loc Cert.KernelSguFwdIdeal.main_arg1) = m ((c.tc : Thread Cert.KernelSguFwdIdeal.nD Cert.KernelSguFwdIdeal.τ).loc Cert.KernelSguFwdIdeal.main_arg1)
      ∧ r.2.mem ((c.tc : Thread Cert.KernelSguFwdIdeal.nD Cert.KernelSguFwdIdeal.τ).loc Cert.KernelSguFwdIdeal.main_arg2) = m ((c.tc : Thread Cert.KernelSguFwdIdeal.nD Cert.KernelSguFwdIdeal.τ).loc Cert.KernelSguFwdIdeal.main_arg2)
      ∧ r.2.mem ((c.tc : Thread Cert.KernelSguFwdIdeal.nD Cert.KernelSguFwdIdeal.τ).loc Cert.KernelSguFwdIdeal.main_arg3) = m ((c.tc : Thread Cert.KernelSguFwdIdeal.nD Cert.KernelSguFwdIdeal.τ).loc Cert.KernelSguFwdIdeal.main_arg3))
      ∧ r.2.sem = fun _ => 0)

def quiescent_ReferenceSguFwdIdeal [hReferenceSguFwdIdeal : Cert.ReferenceSguFwdIdeal.Facts] : Prop :=
  ∀ (m : (ℓ : Loc Cert.ReferenceSguFwdIdeal.nD Cert.ReferenceSguFwdIdeal.τ Cert.ReferenceSguFwdIdeal.sig) → Buf (Elt Ideal) ℓ) (g : Dev Cert.ReferenceSguFwdIdeal.nD → PrngReg), Pre_ReferenceSguFwdIdeal m →
    θ_run (Cert.ReferenceSguFwdIdeal.defs (F := Ideal)) (onTc (τ := Cert.ReferenceSguFwdIdeal.τ) (Cert.ReferenceSguFwdIdeal.main (F := Ideal))) ⟨m, fun _ => 0, g⟩ (fun r => (∀ c : Dev Cert.ReferenceSguFwdIdeal.nD,
      r.2.mem ((c.tc : Thread Cert.ReferenceSguFwdIdeal.nD Cert.ReferenceSguFwdIdeal.τ).loc Cert.ReferenceSguFwdIdeal.main_arg0) = m ((c.tc : Thread Cert.ReferenceSguFwdIdeal.nD Cert.ReferenceSguFwdIdeal.τ).loc Cert.ReferenceSguFwdIdeal.main_arg0)
      ∧ r.2.mem ((c.tc : Thread Cert.ReferenceSguFwdIdeal.nD Cert.ReferenceSguFwdIdeal.τ).loc Cert.ReferenceSguFwdIdeal.main_arg1) = m ((c.tc : Thread Cert.ReferenceSguFwdIdeal.nD Cert.ReferenceSguFwdIdeal.τ).loc Cert.ReferenceSguFwdIdeal.main_arg1)
      ∧ r.2.mem ((c.tc : Thread Cert.ReferenceSguFwdIdeal.nD Cert.ReferenceSguFwdIdeal.τ).loc Cert.ReferenceSguFwdIdeal.main_arg2) = m ((c.tc : Thread Cert.ReferenceSguFwdIdeal.nD Cert.ReferenceSguFwdIdeal.τ).loc Cert.ReferenceSguFwdIdeal.main_arg2)
      ∧ r.2.mem ((c.tc : Thread Cert.ReferenceSguFwdIdeal.nD Cert.ReferenceSguFwdIdeal.τ).loc Cert.ReferenceSguFwdIdeal.main_arg3) = m ((c.tc : Thread Cert.ReferenceSguFwdIdeal.nD Cert.ReferenceSguFwdIdeal.τ).loc Cert.ReferenceSguFwdIdeal.main_arg3))
      ∧ r.2.sem = fun _ => 0)

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)) →
    ∃ (v0 : (c : Dev Cert.KernelLossIdeal.nD) → Buf (Elt Ideal) ((c.tc : Thread Cert.KernelLossIdeal.nD Cert.KernelLossIdeal.τ).loc Cert.KernelLossIdeal.main_v3)) (v1 : (c : Dev Cert.KernelLossIdeal.nD) → Buf (Elt Ideal) ((c.tc : Thread Cert.KernelLossIdeal.nD Cert.KernelLossIdeal.τ).loc Cert.KernelLossIdeal.main_v0_0)) (v2 : (c : Dev Cert.KernelLossIdeal.nD) → Buf (Elt Ideal) ((c.tc : Thread Cert.KernelLossIdeal.nD Cert.KernelLossIdeal.τ).loc Cert.KernelLossIdeal.main_v0_1)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v3) = v0 c
          ∧ r.2.mem ((c.tc : Thread Cert.KernelLossIdeal.nD Cert.KernelLossIdeal.τ).loc Cert.KernelLossIdeal.main_v0_0) = v1 c
          ∧ r.2.mem ((c.tc : Thread Cert.KernelLossIdeal.nD Cert.KernelLossIdeal.τ).loc Cert.KernelLossIdeal.main_v0_1) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v11) = v0 c
          ∧ r.2.mem ((c.tc : Thread Cert.ReferenceLossIdeal.nD Cert.ReferenceLossIdeal.τ).loc Cert.ReferenceLossIdeal.main_v17) = v1 c
          ∧ r.2.mem ((c.tc : Thread Cert.ReferenceLossIdeal.nD Cert.ReferenceLossIdeal.τ).loc Cert.ReferenceLossIdeal.main_v23) = v2 c
          ∧ r.2.mem ((c.tc : Thread Cert.ReferenceLossIdeal.nD Cert.ReferenceLossIdeal.τ).loc Cert.ReferenceLossIdeal.main_v22) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3))

def preserves_KernelStick_KernelStickIdeal : Prop :=
  True

def algebraic_KernelStickIdeal_ReferenceStickIdeal_pre_finite_sb [hKernelStickIdeal : Cert.KernelStickIdeal.Facts] [hReferenceStickIdeal : Cert.ReferenceStickIdeal.Facts] [hPre_finite_sb : Cert.Pre_finite_sb.Facts] : Prop :=
  ∀ (m : (ℓ : Loc Cert.KernelStickIdeal.nD Cert.KernelStickIdeal.τ Cert.KernelStickIdeal.sig) → Buf (Elt Ideal) ℓ) (g : Dev Cert.KernelStickIdeal.nD → PrngReg)
    (m' : (ℓ : Loc Cert.ReferenceStickIdeal.nD Cert.ReferenceStickIdeal.τ Cert.ReferenceStickIdeal.sig) → Buf (Elt Ideal) ℓ) (g' : Dev Cert.ReferenceStickIdeal.nD → PrngReg), Pre_KernelStickIdeal_finite_sb m →
    (∀ c : Dev Cert.KernelStickIdeal.nD,
      m' ((c.tc : Thread Cert.ReferenceStickIdeal.nD Cert.ReferenceStickIdeal.τ).loc Cert.ReferenceStickIdeal.main_arg0) = m ((c.tc : Thread Cert.KernelStickIdeal.nD Cert.KernelStickIdeal.τ).loc Cert.KernelStickIdeal.main_arg0)
      ∧ m' ((c.tc : Thread Cert.ReferenceStickIdeal.nD Cert.ReferenceStickIdeal.τ).loc Cert.ReferenceStickIdeal.main_arg1) = m ((c.tc : Thread Cert.KernelStickIdeal.nD Cert.KernelStickIdeal.τ).loc Cert.KernelStickIdeal.main_arg1)) →
    ∃ (v0 : (c : Dev Cert.KernelStickIdeal.nD) → Buf (Elt Ideal) ((c.tc : Thread Cert.KernelStickIdeal.nD Cert.KernelStickIdeal.τ).loc Cert.KernelStickIdeal.main_v29_0)) (v1 : (c : Dev Cert.KernelStickIdeal.nD) → Buf (Elt Ideal) ((c.tc : Thread Cert.KernelStickIdeal.nD Cert.KernelStickIdeal.τ).loc Cert.KernelStickIdeal.main_v29_1)) (v2 : (c : Dev Cert.KernelStickIdeal.nD) → Buf (Elt Ideal) ((c.tc : Thread Cert.KernelStickIdeal.nD Cert.KernelStickIdeal.τ).loc Cert.KernelStickIdeal.main_v29_2)),
      θ_run (Cert.KernelStickIdeal.defs (F := Ideal)) (onTc (τ := Cert.KernelStickIdeal.τ) (Cert.KernelStickIdeal.main (F := Ideal))) ⟨m, fun _ => 0, g⟩ (fun r => ∀ c : Dev Cert.KernelStickIdeal.nD,
          r.2.mem ((c.tc : Thread Cert.KernelStickIdeal.nD Cert.KernelStickIdeal.τ).loc Cert.KernelStickIdeal.main_v29_0) = v0 c
          ∧ r.2.mem ((c.tc : Thread Cert.KernelStickIdeal.nD Cert.KernelStickIdeal.τ).loc Cert.KernelStickIdeal.main_v29_1) = v1 c
          ∧ r.2.mem ((c.tc : Thread Cert.KernelStickIdeal.nD Cert.KernelStickIdeal.τ).loc Cert.KernelStickIdeal.main_v29_2) = v2 c
          ∧ r.2.mem ((c.tc : Thread Cert.KernelStickIdeal.nD Cert.KernelStickIdeal.τ).loc Cert.KernelStickIdeal.main_arg0) = m ((c.tc : Thread Cert.KernelStickIdeal.nD Cert.KernelStickIdeal.τ).loc Cert.KernelStickIdeal.main_arg0)
          ∧ r.2.mem ((c.tc : Thread Cert.KernelStickIdeal.nD Cert.KernelStickIdeal.τ).loc Cert.KernelStickIdeal.main_arg1) = m ((c.tc : Thread Cert.KernelStickIdeal.nD Cert.KernelStickIdeal.τ).loc Cert.KernelStickIdeal.main_arg1))
      ∧ θ_run (Cert.ReferenceStickIdeal.defs (F := Ideal)) (onTc (τ := Cert.ReferenceStickIdeal.τ) (Cert.ReferenceStickIdeal.main (F := Ideal))) ⟨m', fun _ => 0, g'⟩ (fun r => ∀ c : Dev Cert.ReferenceStickIdeal.nD,
          r.2.mem ((c.tc : Thread Cert.ReferenceStickIdeal.nD Cert.ReferenceStickIdeal.τ).loc Cert.ReferenceStickIdeal.main_v55) = v0 c
          ∧ r.2.mem ((c.tc : Thread Cert.ReferenceStickIdeal.nD Cert.ReferenceStickIdeal.τ).loc Cert.ReferenceStickIdeal.main_v53) = v1 c
          ∧ r.2.mem ((c.tc : Thread Cert.ReferenceStickIdeal.nD Cert.ReferenceStickIdeal.τ).loc Cert.ReferenceStickIdeal.main_v51) = v2 c
          ∧ r.2.mem ((c.tc : Thread Cert.ReferenceStickIdeal.nD Cert.ReferenceStickIdeal.τ).loc Cert.ReferenceStickIdeal.main_arg0) = m' ((c.tc : Thread Cert.ReferenceStickIdeal.nD Cert.ReferenceStickIdeal.τ).loc Cert.ReferenceStickIdeal.main_arg0)
          ∧ r.2.mem ((c.tc : Thread Cert.ReferenceStickIdeal.nD Cert.ReferenceStickIdeal.τ).loc Cert.ReferenceStickIdeal.main_arg1) = m' ((c.tc : Thread Cert.ReferenceStickIdeal.nD Cert.ReferenceStickIdeal.τ).loc Cert.ReferenceStickIdeal.main_arg1))

def preserves_KernelFox_KernelFoxIdeal : Prop :=
  IdealRules.named_const.Statement Cert.KernelFoxIdeal.κ "no_skip" .f32 0xC2DC0000#32 ⊥

def algebraic_KernelFoxIdeal_ReferenceFoxIdeal_pre_finite_fox [hKernelFoxIdeal : Cert.KernelFoxIdeal.Facts] [hReferenceFoxIdeal : Cert.ReferenceFoxIdeal.Facts] [hPre_finite_fox : Cert.Pre_finite_fox.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg)
    (m' : (ℓ : Loc Cert.ReferenceFoxIdeal.nD Cert.ReferenceFoxIdeal.τ Cert.ReferenceFoxIdeal.sig) → Buf (Elt Ideal) ℓ) (g' : Dev Cert.ReferenceFoxIdeal.nD → PrngReg), Pre_KernelFoxIdeal_finite_fox m →
    (∀ c : Dev Cert.KernelFoxIdeal.nD,
      m' ((c.tc : Thread Cert.ReferenceFoxIdeal.nD Cert.ReferenceFoxIdeal.τ).loc Cert.ReferenceFoxIdeal.main_arg0) = m ((c.tc : Thread Cert.KernelFoxIdeal.nD Cert.KernelFoxIdeal.τ).loc Cert.KernelFoxIdeal.main_arg0)
      ∧ m' ((c.tc : Thread Cert.ReferenceFoxIdeal.nD Cert.ReferenceFoxIdeal.τ).loc Cert.ReferenceFoxIdeal.main_arg1) = m ((c.tc : Thread Cert.KernelFoxIdeal.nD Cert.KernelFoxIdeal.τ).loc Cert.KernelFoxIdeal.main_arg1)
      ∧ m' ((c.tc : Thread Cert.ReferenceFoxIdeal.nD Cert.ReferenceFoxIdeal.τ).loc Cert.ReferenceFoxIdeal.main_arg2) = m ((c.tc : Thread Cert.KernelFoxIdeal.nD Cert.KernelFoxIdeal.τ).loc Cert.KernelFoxIdeal.main_arg2)
      ∧ m' ((c.tc : Thread Cert.ReferenceFoxIdeal.nD Cert.ReferenceFoxIdeal.τ).loc Cert.ReferenceFoxIdeal.main_arg3) = m ((c.tc : Thread Cert.KernelFoxIdeal.nD Cert.KernelFoxIdeal.τ).loc Cert.KernelFoxIdeal.main_arg3)
      ∧ m' ((c.tc : Thread Cert.ReferenceFoxIdeal.nD Cert.ReferenceFoxIdeal.τ).loc Cert.ReferenceFoxIdeal.main_arg4) = m ((c.tc : Thread Cert.KernelFoxIdeal.nD Cert.KernelFoxIdeal.τ).loc Cert.KernelFoxIdeal.main_arg4)) →
    ∃ (v0 : (c : Dev Cert.KernelFoxIdeal.nD) → Buf (Elt Ideal) ((c.tc : Thread Cert.KernelFoxIdeal.nD Cert.KernelFoxIdeal.τ).loc Cert.KernelFoxIdeal.main_v60_0)) (v1 : (c : Dev Cert.KernelFoxIdeal.nD) → Buf (Elt Ideal) ((c.tc : Thread Cert.KernelFoxIdeal.nD Cert.KernelFoxIdeal.τ).loc Cert.KernelFoxIdeal.main_v60_1)) (v2 : (c : Dev Cert.KernelFoxIdeal.nD) → Buf (Elt Ideal) ((c.tc : Thread Cert.KernelFoxIdeal.nD Cert.KernelFoxIdeal.τ).loc Cert.KernelFoxIdeal.main_v60_2)) (v3 : (c : Dev Cert.KernelFoxIdeal.nD) → Buf (Elt Ideal) ((c.tc : Thread Cert.KernelFoxIdeal.nD Cert.KernelFoxIdeal.τ).loc Cert.KernelFoxIdeal.main_v66)),
      θ_run (Cert.KernelFoxIdeal.defs (F := Ideal)) (onTc (τ := Cert.KernelFoxIdeal.τ) (Cert.KernelFoxIdeal.main (F := Ideal))) ⟨m, fun _ => 0, g⟩ (fun r => ∀ c : Dev Cert.KernelFoxIdeal.nD,
          r.2.mem ((c.tc : Thread Cert.KernelFoxIdeal.nD Cert.KernelFoxIdeal.τ).loc Cert.KernelFoxIdeal.main_v60_0) = v0 c
          ∧ r.2.mem ((c.tc : Thread Cert.KernelFoxIdeal.nD Cert.KernelFoxIdeal.τ).loc Cert.KernelFoxIdeal.main_v60_1) = v1 c
          ∧ r.2.mem ((c.tc : Thread Cert.KernelFoxIdeal.nD Cert.KernelFoxIdeal.τ).loc Cert.KernelFoxIdeal.main_v60_2) = v2 c
          ∧ r.2.mem ((c.tc : Thread Cert.KernelFoxIdeal.nD Cert.KernelFoxIdeal.τ).loc Cert.KernelFoxIdeal.main_v66) = v3 c
          ∧ r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
          ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
          ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
          ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
          ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4))
      ∧ θ_run (Cert.ReferenceFoxIdeal.defs (F := Ideal)) (onTc (τ := Cert.ReferenceFoxIdeal.τ) (Cert.ReferenceFoxIdeal.main (F := Ideal))) ⟨m', fun _ => 0, g'⟩ (fun r => ∀ c : Dev Cert.ReferenceFoxIdeal.nD,
          r.2.mem ((c.tc : Thread Cert.ReferenceFoxIdeal.nD Cert.ReferenceFoxIdeal.τ).loc Cert.ReferenceFoxIdeal.main_v94) = v0 c
          ∧ r.2.mem ((c.tc : Thread Cert.ReferenceFoxIdeal.nD Cert.ReferenceFoxIdeal.τ).loc Cert.ReferenceFoxIdeal.main_v92) = v1 c
          ∧ r.2.mem ((c.tc : Thread Cert.ReferenceFoxIdeal.nD Cert.ReferenceFoxIdeal.τ).loc Cert.ReferenceFoxIdeal.main_v90) = v2 c
          ∧ r.2.mem ((c.tc : Thread Cert.ReferenceFoxIdeal.nD Cert.ReferenceFoxIdeal.τ).loc Cert.ReferenceFoxIdeal.main_v84) = v3 c
          ∧ r.2.mem ((c.tc : Thread Cert.ReferenceFoxIdeal.nD Cert.ReferenceFoxIdeal.τ).loc Cert.ReferenceFoxIdeal.main_arg0) = m' ((c.tc : Thread Cert.ReferenceFoxIdeal.nD Cert.ReferenceFoxIdeal.τ).loc Cert.ReferenceFoxIdeal.main_arg0)
          ∧ r.2.mem ((c.tc : Thread Cert.ReferenceFoxIdeal.nD Cert.ReferenceFoxIdeal.τ).loc Cert.ReferenceFoxIdeal.main_arg1) = m' ((c.tc : Thread Cert.ReferenceFoxIdeal.nD Cert.ReferenceFoxIdeal.τ).loc Cert.ReferenceFoxIdeal.main_arg1)
          ∧ r.2.mem ((c.tc : Thread Cert.ReferenceFoxIdeal.nD Cert.ReferenceFoxIdeal.τ).loc Cert.ReferenceFoxIdeal.main_arg2) = m' ((c.tc : Thread Cert.ReferenceFoxIdeal.nD Cert.ReferenceFoxIdeal.τ).loc Cert.ReferenceFoxIdeal.main_arg2)
          ∧ r.2.mem ((c.tc : Thread Cert.ReferenceFoxIdeal.nD Cert.ReferenceFoxIdeal.τ).loc Cert.ReferenceFoxIdeal.main_arg3) = m' ((c.tc : Thread Cert.ReferenceFoxIdeal.nD Cert.ReferenceFoxIdeal.τ).loc Cert.ReferenceFoxIdeal.main_arg3)
          ∧ r.2.mem ((c.tc : Thread Cert.ReferenceFoxIdeal.nD Cert.ReferenceFoxIdeal.τ).loc Cert.ReferenceFoxIdeal.main_arg4) = m' ((c.tc : Thread Cert.ReferenceFoxIdeal.nD Cert.ReferenceFoxIdeal.τ).loc Cert.ReferenceFoxIdeal.main_arg4))

def preserves_KernelForget_KernelForgetIdeal : Prop :=
  True

def algebraic_KernelForgetIdeal_ReferenceForgetIdeal_pre_finite_cumf [hKernelForgetIdeal : Cert.KernelForgetIdeal.Facts] [hReferenceForgetIdeal : Cert.ReferenceForgetIdeal.Facts] [hPre_finite_cumf : Cert.Pre_finite_cumf.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg)
    (m' : (ℓ : Loc Cert.ReferenceForgetIdeal.nD Cert.ReferenceForgetIdeal.τ Cert.ReferenceForgetIdeal.sig) → Buf (Elt Ideal) ℓ) (g' : Dev Cert.ReferenceForgetIdeal.nD → PrngReg), Pre_KernelForgetIdeal_finite_cumf m →
    (∀ c : Dev Cert.KernelForgetIdeal.nD,
      m' ((c.tc : Thread Cert.ReferenceForgetIdeal.nD Cert.ReferenceForgetIdeal.τ).loc Cert.ReferenceForgetIdeal.main_arg0) = m ((c.tc : Thread Cert.KernelForgetIdeal.nD Cert.KernelForgetIdeal.τ).loc Cert.KernelForgetIdeal.main_arg0)
      ∧ m' ((c.tc : Thread Cert.ReferenceForgetIdeal.nD Cert.ReferenceForgetIdeal.τ).loc Cert.ReferenceForgetIdeal.main_arg1) = m ((c.tc : Thread Cert.KernelForgetIdeal.nD Cert.KernelForgetIdeal.τ).loc Cert.KernelForgetIdeal.main_arg1)
      ∧ m' ((c.tc : Thread Cert.ReferenceForgetIdeal.nD Cert.ReferenceForgetIdeal.τ).loc Cert.ReferenceForgetIdeal.main_arg2) = m ((c.tc : Thread Cert.KernelForgetIdeal.nD Cert.KernelForgetIdeal.τ).loc Cert.KernelForgetIdeal.main_arg2)) →
    ∃ (v0 : (c : Dev Cert.KernelForgetIdeal.nD) → Buf (Elt Ideal) ((c.tc : Thread Cert.KernelForgetIdeal.nD Cert.KernelForgetIdeal.τ).loc Cert.KernelForgetIdeal.main_v14)) (v1 : (c : Dev Cert.KernelForgetIdeal.nD) → Buf (Elt Ideal) ((c.tc : Thread Cert.KernelForgetIdeal.nD Cert.KernelForgetIdeal.τ).loc Cert.KernelForgetIdeal.main_v16)),
      θ_run (Cert.KernelForgetIdeal.defs (F := Ideal)) (onTc (τ := Cert.KernelForgetIdeal.τ) (Cert.KernelForgetIdeal.main (F := Ideal))) ⟨m, fun _ => 0, g⟩ (fun r => ∀ c : Dev Cert.KernelForgetIdeal.nD,
          r.2.mem ((c.tc : Thread Cert.KernelForgetIdeal.nD Cert.KernelForgetIdeal.τ).loc Cert.KernelForgetIdeal.main_v14) = v0 c
          ∧ r.2.mem ((c.tc : Thread Cert.KernelForgetIdeal.nD Cert.KernelForgetIdeal.τ).loc Cert.KernelForgetIdeal.main_v16) = v1 c
          ∧ r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
          ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
          ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2))
      ∧ θ_run (Cert.ReferenceForgetIdeal.defs (F := Ideal)) (onTc (τ := Cert.ReferenceForgetIdeal.τ) (Cert.ReferenceForgetIdeal.main (F := Ideal))) ⟨m', fun _ => 0, g'⟩ (fun r => ∀ c : Dev Cert.ReferenceForgetIdeal.nD,
          r.2.mem ((c.tc : Thread Cert.ReferenceForgetIdeal.nD Cert.ReferenceForgetIdeal.τ).loc Cert.ReferenceForgetIdeal.main_v7) = v0 c
          ∧ r.2.mem ((c.tc : Thread Cert.ReferenceForgetIdeal.nD Cert.ReferenceForgetIdeal.τ).loc Cert.ReferenceForgetIdeal.main_v10) = v1 c
          ∧ r.2.mem ((c.tc : Thread Cert.ReferenceForgetIdeal.nD Cert.ReferenceForgetIdeal.τ).loc Cert.ReferenceForgetIdeal.main_arg0) = m' ((c.tc : Thread Cert.ReferenceForgetIdeal.nD Cert.ReferenceForgetIdeal.τ).loc Cert.ReferenceForgetIdeal.main_arg0)
          ∧ r.2.mem ((c.tc : Thread Cert.ReferenceForgetIdeal.nD Cert.ReferenceForgetIdeal.τ).loc Cert.ReferenceForgetIdeal.main_arg1) = m' ((c.tc : Thread Cert.ReferenceForgetIdeal.nD Cert.ReferenceForgetIdeal.τ).loc Cert.ReferenceForgetIdeal.main_arg1)
          ∧ r.2.mem ((c.tc : Thread Cert.ReferenceForgetIdeal.nD Cert.ReferenceForgetIdeal.τ).loc Cert.ReferenceForgetIdeal.main_arg2) = m' ((c.tc : Thread Cert.ReferenceForgetIdeal.nD Cert.ReferenceForgetIdeal.τ).loc Cert.ReferenceForgetIdeal.main_arg2))

def preserves_KernelNorm_KernelNormIdeal : Prop :=
  True

def algebraic_KernelNormIdeal_ReferenceNormIdeal_pre_finite_norm [hKernelNormIdeal : Cert.KernelNormIdeal.Facts] [hReferenceNormIdeal : Cert.ReferenceNormIdeal.Facts] [hPre_finite_norm : Cert.Pre_finite_norm.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal_finite_norm m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v1_0)) (v1 : (c : Dev Cert.KernelNormIdeal.nD) → Buf (Elt Ideal) ((c.tc : Thread Cert.KernelNormIdeal.nD Cert.KernelNormIdeal.τ).loc Cert.KernelNormIdeal.main_v1_1)) (v2 : (c : Dev Cert.KernelNormIdeal.nD) → Buf (Elt Ideal) ((c.tc : Thread Cert.KernelNormIdeal.nD Cert.KernelNormIdeal.τ).loc Cert.KernelNormIdeal.main_v1_2)) (v3 : (c : Dev Cert.KernelNormIdeal.nD) → Buf (Elt Ideal) ((c.tc : Thread Cert.KernelNormIdeal.nD Cert.KernelNormIdeal.τ).loc Cert.KernelNormIdeal.main_v1_3)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1_0) = v0 c
          ∧ r.2.mem ((c.tc : Thread Cert.KernelNormIdeal.nD Cert.KernelNormIdeal.τ).loc Cert.KernelNormIdeal.main_v1_1) = v1 c
          ∧ r.2.mem ((c.tc : Thread Cert.KernelNormIdeal.nD Cert.KernelNormIdeal.τ).loc Cert.KernelNormIdeal.main_v1_2) = v2 c
          ∧ r.2.mem ((c.tc : Thread Cert.KernelNormIdeal.nD Cert.KernelNormIdeal.τ).loc Cert.KernelNormIdeal.main_v1_3) = v3 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v51) = v0 c
          ∧ r.2.mem ((c.tc : Thread Cert.ReferenceNormIdeal.nD Cert.ReferenceNormIdeal.τ).loc Cert.ReferenceNormIdeal.main_v52) = v1 c
          ∧ r.2.mem ((c.tc : Thread Cert.ReferenceNormIdeal.nD Cert.ReferenceNormIdeal.τ).loc Cert.ReferenceNormIdeal.main_v28) = v2 c
          ∧ r.2.mem ((c.tc : Thread Cert.ReferenceNormIdeal.nD Cert.ReferenceNormIdeal.τ).loc Cert.ReferenceNormIdeal.main_v25) = v3 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def preserves_KernelGNorm_KernelGNormIdeal : Prop :=
  True

def algebraic_KernelGNormIdeal_ReferenceGNormIdeal_pre_finite_normg [hKernelGNormIdeal : Cert.KernelGNormIdeal.Facts] [hReferenceGNormIdeal : Cert.ReferenceGNormIdeal.Facts] [hPre_finite_normg : Cert.Pre_finite_normg.Facts] : Prop :=
  ∀ (m : (ℓ : Loc Cert.KernelGNormIdeal.nD Cert.KernelGNormIdeal.τ Cert.KernelGNormIdeal.sig) → Buf (Elt Ideal) ℓ) (g : Dev Cert.KernelGNormIdeal.nD → PrngReg)
    (m' : (ℓ : Loc Cert.ReferenceGNormIdeal.nD Cert.ReferenceGNormIdeal.τ Cert.ReferenceGNormIdeal.sig) → Buf (Elt Ideal) ℓ) (g' : Dev Cert.ReferenceGNormIdeal.nD → PrngReg), Pre_KernelGNormIdeal_finite_normg m →
    (∀ c : Dev Cert.KernelGNormIdeal.nD,
      m' ((c.tc : Thread Cert.ReferenceGNormIdeal.nD Cert.ReferenceGNormIdeal.τ).loc Cert.ReferenceGNormIdeal.main_arg0) = m ((c.tc : Thread Cert.KernelGNormIdeal.nD Cert.KernelGNormIdeal.τ).loc Cert.KernelGNormIdeal.main_arg0)
      ∧ m' ((c.tc : Thread Cert.ReferenceGNormIdeal.nD Cert.ReferenceGNormIdeal.τ).loc Cert.ReferenceGNormIdeal.main_arg1) = m ((c.tc : Thread Cert.KernelGNormIdeal.nD Cert.KernelGNormIdeal.τ).loc Cert.KernelGNormIdeal.main_arg1)
      ∧ m' ((c.tc : Thread Cert.ReferenceGNormIdeal.nD Cert.ReferenceGNormIdeal.τ).loc Cert.ReferenceGNormIdeal.main_arg2) = m ((c.tc : Thread Cert.KernelGNormIdeal.nD Cert.KernelGNormIdeal.τ).loc Cert.KernelGNormIdeal.main_arg2)
      ∧ m' ((c.tc : Thread Cert.ReferenceGNormIdeal.nD Cert.ReferenceGNormIdeal.τ).loc Cert.ReferenceGNormIdeal.main_arg3) = m ((c.tc : Thread Cert.KernelGNormIdeal.nD Cert.KernelGNormIdeal.τ).loc Cert.KernelGNormIdeal.main_arg3)
      ∧ m' ((c.tc : Thread Cert.ReferenceGNormIdeal.nD Cert.ReferenceGNormIdeal.τ).loc Cert.ReferenceGNormIdeal.main_arg4) = m ((c.tc : Thread Cert.KernelGNormIdeal.nD Cert.KernelGNormIdeal.τ).loc Cert.KernelGNormIdeal.main_arg4)
      ∧ m' ((c.tc : Thread Cert.ReferenceGNormIdeal.nD Cert.ReferenceGNormIdeal.τ).loc Cert.ReferenceGNormIdeal.main_arg5) = m ((c.tc : Thread Cert.KernelGNormIdeal.nD Cert.KernelGNormIdeal.τ).loc Cert.KernelGNormIdeal.main_arg5)
      ∧ m' ((c.tc : Thread Cert.ReferenceGNormIdeal.nD Cert.ReferenceGNormIdeal.τ).loc Cert.ReferenceGNormIdeal.main_arg6) = m ((c.tc : Thread Cert.KernelGNormIdeal.nD Cert.KernelGNormIdeal.τ).loc Cert.KernelGNormIdeal.main_arg6)) →
    ∃ (v0 : (c : Dev Cert.KernelGNormIdeal.nD) → Buf (Elt Ideal) ((c.tc : Thread Cert.KernelGNormIdeal.nD Cert.KernelGNormIdeal.τ).loc Cert.KernelGNormIdeal.main_v4_0)) (v1 : (c : Dev Cert.KernelGNormIdeal.nD) → Buf (Elt Ideal) ((c.tc : Thread Cert.KernelGNormIdeal.nD Cert.KernelGNormIdeal.τ).loc Cert.KernelGNormIdeal.main_v4_1)) (v2 : (c : Dev Cert.KernelGNormIdeal.nD) → Buf (Elt Ideal) ((c.tc : Thread Cert.KernelGNormIdeal.nD Cert.KernelGNormIdeal.τ).loc Cert.KernelGNormIdeal.main_v4_5)) (v3 : (c : Dev Cert.KernelGNormIdeal.nD) → Buf (Elt Ideal) ((c.tc : Thread Cert.KernelGNormIdeal.nD Cert.KernelGNormIdeal.τ).loc Cert.KernelGNormIdeal.main_v4_2)) (v4 : (c : Dev Cert.KernelGNormIdeal.nD) → Buf (Elt Ideal) ((c.tc : Thread Cert.KernelGNormIdeal.nD Cert.KernelGNormIdeal.τ).loc Cert.KernelGNormIdeal.main_v4_3)) (v5 : (c : Dev Cert.KernelGNormIdeal.nD) → Buf (Elt Ideal) ((c.tc : Thread Cert.KernelGNormIdeal.nD Cert.KernelGNormIdeal.τ).loc Cert.KernelGNormIdeal.main_v4_4)),
      θ_run (Cert.KernelGNormIdeal.defs (F := Ideal)) (onTc (τ := Cert.KernelGNormIdeal.τ) (Cert.KernelGNormIdeal.main (F := Ideal))) ⟨m, fun _ => 0, g⟩ (fun r => ∀ c : Dev Cert.KernelGNormIdeal.nD,
          r.2.mem ((c.tc : Thread Cert.KernelGNormIdeal.nD Cert.KernelGNormIdeal.τ).loc Cert.KernelGNormIdeal.main_v4_0) = v0 c
          ∧ r.2.mem ((c.tc : Thread Cert.KernelGNormIdeal.nD Cert.KernelGNormIdeal.τ).loc Cert.KernelGNormIdeal.main_v4_1) = v1 c
          ∧ r.2.mem ((c.tc : Thread Cert.KernelGNormIdeal.nD Cert.KernelGNormIdeal.τ).loc Cert.KernelGNormIdeal.main_v4_5) = v2 c
          ∧ r.2.mem ((c.tc : Thread Cert.KernelGNormIdeal.nD Cert.KernelGNormIdeal.τ).loc Cert.KernelGNormIdeal.main_v4_2) = v3 c
          ∧ r.2.mem ((c.tc : Thread Cert.KernelGNormIdeal.nD Cert.KernelGNormIdeal.τ).loc Cert.KernelGNormIdeal.main_v4_3) = v4 c
          ∧ r.2.mem ((c.tc : Thread Cert.KernelGNormIdeal.nD Cert.KernelGNormIdeal.τ).loc Cert.KernelGNormIdeal.main_v4_4) = v5 c
          ∧ r.2.mem ((c.tc : Thread Cert.KernelGNormIdeal.nD Cert.KernelGNormIdeal.τ).loc Cert.KernelGNormIdeal.main_arg0) = m ((c.tc : Thread Cert.KernelGNormIdeal.nD Cert.KernelGNormIdeal.τ).loc Cert.KernelGNormIdeal.main_arg0)
          ∧ r.2.mem ((c.tc : Thread Cert.KernelGNormIdeal.nD Cert.KernelGNormIdeal.τ).loc Cert.KernelGNormIdeal.main_arg1) = m ((c.tc : Thread Cert.KernelGNormIdeal.nD Cert.KernelGNormIdeal.τ).loc Cert.KernelGNormIdeal.main_arg1)
          ∧ r.2.mem ((c.tc : Thread Cert.KernelGNormIdeal.nD Cert.KernelGNormIdeal.τ).loc Cert.KernelGNormIdeal.main_arg2) = m ((c.tc : Thread Cert.KernelGNormIdeal.nD Cert.KernelGNormIdeal.τ).loc Cert.KernelGNormIdeal.main_arg2)
          ∧ r.2.mem ((c.tc : Thread Cert.KernelGNormIdeal.nD Cert.KernelGNormIdeal.τ).loc Cert.KernelGNormIdeal.main_arg3) = m ((c.tc : Thread Cert.KernelGNormIdeal.nD Cert.KernelGNormIdeal.τ).loc Cert.KernelGNormIdeal.main_arg3)
          ∧ r.2.mem ((c.tc : Thread Cert.KernelGNormIdeal.nD Cert.KernelGNormIdeal.τ).loc Cert.KernelGNormIdeal.main_arg4) = m ((c.tc : Thread Cert.KernelGNormIdeal.nD Cert.KernelGNormIdeal.τ).loc Cert.KernelGNormIdeal.main_arg4)
          ∧ r.2.mem ((c.tc : Thread Cert.KernelGNormIdeal.nD Cert.KernelGNormIdeal.τ).loc Cert.KernelGNormIdeal.main_arg5) = m ((c.tc : Thread Cert.KernelGNormIdeal.nD Cert.KernelGNormIdeal.τ).loc Cert.KernelGNormIdeal.main_arg5)
          ∧ r.2.mem ((c.tc : Thread Cert.KernelGNormIdeal.nD Cert.KernelGNormIdeal.τ).loc Cert.KernelGNormIdeal.main_arg6) = m ((c.tc : Thread Cert.KernelGNormIdeal.nD Cert.KernelGNormIdeal.τ).loc Cert.KernelGNormIdeal.main_arg6))
      ∧ θ_run (Cert.ReferenceGNormIdeal.defs (F := Ideal)) (onTc (τ := Cert.ReferenceGNormIdeal.τ) (Cert.ReferenceGNormIdeal.main (F := Ideal))) ⟨m', fun _ => 0, g'⟩ (fun r => ∀ c : Dev Cert.ReferenceGNormIdeal.nD,
          r.2.mem ((c.tc : Thread Cert.ReferenceGNormIdeal.nD Cert.ReferenceGNormIdeal.τ).loc Cert.ReferenceGNormIdeal.main_v54) = v0 c
          ∧ r.2.mem ((c.tc : Thread Cert.ReferenceGNormIdeal.nD Cert.ReferenceGNormIdeal.τ).loc Cert.ReferenceGNormIdeal.main_v61) = v1 c
          ∧ r.2.mem ((c.tc : Thread Cert.ReferenceGNormIdeal.nD Cert.ReferenceGNormIdeal.τ).loc Cert.ReferenceGNormIdeal.main_v60) = v2 c
          ∧ r.2.mem ((c.tc : Thread Cert.ReferenceGNormIdeal.nD Cert.ReferenceGNormIdeal.τ).loc Cert.ReferenceGNormIdeal.main_v62) = v3 c
          ∧ r.2.mem ((c.tc : Thread Cert.ReferenceGNormIdeal.nD Cert.ReferenceGNormIdeal.τ).loc Cert.ReferenceGNormIdeal.main_v31) = v4 c
          ∧ r.2.mem ((c.tc : Thread Cert.ReferenceGNormIdeal.nD Cert.ReferenceGNormIdeal.τ).loc Cert.ReferenceGNormIdeal.main_v28) = v5 c
          ∧ r.2.mem ((c.tc : Thread Cert.ReferenceGNormIdeal.nD Cert.ReferenceGNormIdeal.τ).loc Cert.ReferenceGNormIdeal.main_arg0) = m' ((c.tc : Thread Cert.ReferenceGNormIdeal.nD Cert.ReferenceGNormIdeal.τ).loc Cert.ReferenceGNormIdeal.main_arg0)
          ∧ r.2.mem ((c.tc : Thread Cert.ReferenceGNormIdeal.nD Cert.ReferenceGNormIdeal.τ).loc Cert.ReferenceGNormIdeal.main_arg1) = m' ((c.tc : Thread Cert.ReferenceGNormIdeal.nD Cert.ReferenceGNormIdeal.τ).loc Cert.ReferenceGNormIdeal.main_arg1)
          ∧ r.2.mem ((c.tc : Thread Cert.ReferenceGNormIdeal.nD Cert.ReferenceGNormIdeal.τ).loc Cert.ReferenceGNormIdeal.main_arg2) = m' ((c.tc : Thread Cert.ReferenceGNormIdeal.nD Cert.ReferenceGNormIdeal.τ).loc Cert.ReferenceGNormIdeal.main_arg2)
          ∧ r.2.mem ((c.tc : Thread Cert.ReferenceGNormIdeal.nD Cert.ReferenceGNormIdeal.τ).loc Cert.ReferenceGNormIdeal.main_arg3) = m' ((c.tc : Thread Cert.ReferenceGNormIdeal.nD Cert.ReferenceGNormIdeal.τ).loc Cert.ReferenceGNormIdeal.main_arg3)
          ∧ r.2.mem ((c.tc : Thread Cert.ReferenceGNormIdeal.nD Cert.ReferenceGNormIdeal.τ).loc Cert.ReferenceGNormIdeal.main_arg4) = m' ((c.tc : Thread Cert.ReferenceGNormIdeal.nD Cert.ReferenceGNormIdeal.τ).loc Cert.ReferenceGNormIdeal.main_arg4)
          ∧ r.2.mem ((c.tc : Thread Cert.ReferenceGNormIdeal.nD Cert.ReferenceGNormIdeal.τ).loc Cert.ReferenceGNormIdeal.main_arg5) = m' ((c.tc : Thread Cert.ReferenceGNormIdeal.nD Cert.ReferenceGNormIdeal.τ).loc Cert.ReferenceGNormIdeal.main_arg5)
          ∧ r.2.mem ((c.tc : Thread Cert.ReferenceGNormIdeal.nD Cert.ReferenceGNormIdeal.τ).loc Cert.ReferenceGNormIdeal.main_arg6) = m' ((c.tc : Thread Cert.ReferenceGNormIdeal.nD Cert.ReferenceGNormIdeal.τ).loc Cert.ReferenceGNormIdeal.main_arg6))

def preserves_KernelRelu2_KernelRelu2Ideal : Prop :=
  True

def algebraic_KernelRelu2Ideal_ReferenceRelu2Ideal [hKernelRelu2Ideal : Cert.KernelRelu2Ideal.Facts] [hReferenceRelu2Ideal : Cert.ReferenceRelu2Ideal.Facts] : Prop :=
  ∀ (m : (ℓ : Loc Cert.KernelRelu2Ideal.nD Cert.KernelRelu2Ideal.τ Cert.KernelRelu2Ideal.sig) → Buf (Elt Ideal) ℓ) (g : Dev Cert.KernelRelu2Ideal.nD → PrngReg)
    (m' : (ℓ : Loc Cert.ReferenceRelu2Ideal.nD Cert.ReferenceRelu2Ideal.τ Cert.ReferenceRelu2Ideal.sig) → Buf (Elt Ideal) ℓ) (g' : Dev Cert.ReferenceRelu2Ideal.nD → PrngReg), Pre_KernelRelu2Ideal m →
    (∀ c : Dev Cert.KernelRelu2Ideal.nD,
      m' ((c.tc : Thread Cert.ReferenceRelu2Ideal.nD Cert.ReferenceRelu2Ideal.τ).loc Cert.ReferenceRelu2Ideal.main_arg0) = m ((c.tc : Thread Cert.KernelRelu2Ideal.nD Cert.KernelRelu2Ideal.τ).loc Cert.KernelRelu2Ideal.main_arg0)
      ∧ m' ((c.tc : Thread Cert.ReferenceRelu2Ideal.nD Cert.ReferenceRelu2Ideal.τ).loc Cert.ReferenceRelu2Ideal.main_arg1) = m ((c.tc : Thread Cert.KernelRelu2Ideal.nD Cert.KernelRelu2Ideal.τ).loc Cert.KernelRelu2Ideal.main_arg1)
      ∧ m' ((c.tc : Thread Cert.ReferenceRelu2Ideal.nD Cert.ReferenceRelu2Ideal.τ).loc Cert.ReferenceRelu2Ideal.main_arg2) = m ((c.tc : Thread Cert.KernelRelu2Ideal.nD Cert.KernelRelu2Ideal.τ).loc Cert.KernelRelu2Ideal.main_arg2)) →
    ∃ (v0 : (c : Dev Cert.KernelRelu2Ideal.nD) → Buf (Elt Ideal) ((c.tc : Thread Cert.KernelRelu2Ideal.nD Cert.KernelRelu2Ideal.τ).loc Cert.KernelRelu2Ideal.main_v0)),
      θ_run (Cert.KernelRelu2Ideal.defs (F := Ideal)) (onTc (τ := Cert.KernelRelu2Ideal.τ) (Cert.KernelRelu2Ideal.main (F := Ideal))) ⟨m, fun _ => 0, g⟩ (fun r => ∀ c : Dev Cert.KernelRelu2Ideal.nD,
          r.2.mem ((c.tc : Thread Cert.KernelRelu2Ideal.nD Cert.KernelRelu2Ideal.τ).loc Cert.KernelRelu2Ideal.main_v0) = v0 c
          ∧ r.2.mem ((c.tc : Thread Cert.KernelRelu2Ideal.nD Cert.KernelRelu2Ideal.τ).loc Cert.KernelRelu2Ideal.main_arg0) = m ((c.tc : Thread Cert.KernelRelu2Ideal.nD Cert.KernelRelu2Ideal.τ).loc Cert.KernelRelu2Ideal.main_arg0)
          ∧ r.2.mem ((c.tc : Thread Cert.KernelRelu2Ideal.nD Cert.KernelRelu2Ideal.τ).loc Cert.KernelRelu2Ideal.main_arg1) = m ((c.tc : Thread Cert.KernelRelu2Ideal.nD Cert.KernelRelu2Ideal.τ).loc Cert.KernelRelu2Ideal.main_arg1)
          ∧ r.2.mem ((c.tc : Thread Cert.KernelRelu2Ideal.nD Cert.KernelRelu2Ideal.τ).loc Cert.KernelRelu2Ideal.main_arg2) = m ((c.tc : Thread Cert.KernelRelu2Ideal.nD Cert.KernelRelu2Ideal.τ).loc Cert.KernelRelu2Ideal.main_arg2))
      ∧ θ_run (Cert.ReferenceRelu2Ideal.defs (F := Ideal)) (onTc (τ := Cert.ReferenceRelu2Ideal.τ) (Cert.ReferenceRelu2Ideal.main (F := Ideal))) ⟨m', fun _ => 0, g'⟩ (fun r => ∀ c : Dev Cert.ReferenceRelu2Ideal.nD,
          r.2.mem ((c.tc : Thread Cert.ReferenceRelu2Ideal.nD Cert.ReferenceRelu2Ideal.τ).loc Cert.ReferenceRelu2Ideal.main_v14) = v0 c
          ∧ r.2.mem ((c.tc : Thread Cert.ReferenceRelu2Ideal.nD Cert.ReferenceRelu2Ideal.τ).loc Cert.ReferenceRelu2Ideal.main_arg0) = m' ((c.tc : Thread Cert.ReferenceRelu2Ideal.nD Cert.ReferenceRelu2Ideal.τ).loc Cert.ReferenceRelu2Ideal.main_arg0)
          ∧ r.2.mem ((c.tc : Thread Cert.ReferenceRelu2Ideal.nD Cert.ReferenceRelu2Ideal.τ).loc Cert.ReferenceRelu2Ideal.main_arg1) = m' ((c.tc : Thread Cert.ReferenceRelu2Ideal.nD Cert.ReferenceRelu2Ideal.τ).loc Cert.ReferenceRelu2Ideal.main_arg1)
          ∧ r.2.mem ((c.tc : Thread Cert.ReferenceRelu2Ideal.nD Cert.ReferenceRelu2Ideal.τ).loc Cert.ReferenceRelu2Ideal.main_arg2) = m' ((c.tc : Thread Cert.ReferenceRelu2Ideal.nD Cert.ReferenceRelu2Ideal.τ).loc Cert.ReferenceRelu2Ideal.main_arg2))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)) →
    ∃ (v0 : (c : Dev Cert.KernelAdaIdeal.nD) → Buf (Elt Ideal) ((c.tc : Thread Cert.KernelAdaIdeal.nD Cert.KernelAdaIdeal.τ).loc Cert.KernelAdaIdeal.main_v0)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v6) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1))

def preserves_KernelQkNorm_KernelQkNormIdeal : Prop :=
  True

def algebraic_KernelQkNormIdeal_ReferenceQkNormIdeal_pre_finite_prep [hKernelQkNormIdeal : Cert.KernelQkNormIdeal.Facts] [hReferenceQkNormIdeal : Cert.ReferenceQkNormIdeal.Facts] [hPre_finite_prep : Cert.Pre_finite_prep.Facts] : Prop :=
  ∀ (m : (ℓ : Loc Cert.KernelQkNormIdeal.nD Cert.KernelQkNormIdeal.τ Cert.KernelQkNormIdeal.sig) → Buf (Elt Ideal) ℓ) (g : Dev Cert.KernelQkNormIdeal.nD → PrngReg)
    (m' : (ℓ : Loc Cert.ReferenceQkNormIdeal.nD Cert.ReferenceQkNormIdeal.τ Cert.ReferenceQkNormIdeal.sig) → Buf (Elt Ideal) ℓ) (g' : Dev Cert.ReferenceQkNormIdeal.nD → PrngReg), Pre_KernelQkNormIdeal_finite_prep m →
    (∀ c : Dev Cert.KernelQkNormIdeal.nD,
      m' ((c.tc : Thread Cert.ReferenceQkNormIdeal.nD Cert.ReferenceQkNormIdeal.τ).loc Cert.ReferenceQkNormIdeal.main_arg0) = m ((c.tc : Thread Cert.KernelQkNormIdeal.nD Cert.KernelQkNormIdeal.τ).loc Cert.KernelQkNormIdeal.main_arg0)
      ∧ m' ((c.tc : Thread Cert.ReferenceQkNormIdeal.nD Cert.ReferenceQkNormIdeal.τ).loc Cert.ReferenceQkNormIdeal.main_arg1) = m ((c.tc : Thread Cert.KernelQkNormIdeal.nD Cert.KernelQkNormIdeal.τ).loc Cert.KernelQkNormIdeal.main_arg1)
      ∧ m' ((c.tc : Thread Cert.ReferenceQkNormIdeal.nD Cert.ReferenceQkNormIdeal.τ).loc Cert.ReferenceQkNormIdeal.main_arg2) = m ((c.tc : Thread Cert.KernelQkNormIdeal.nD Cert.KernelQkNormIdeal.τ).loc Cert.KernelQkNormIdeal.main_arg2)
      ∧ m' ((c.tc : Thread Cert.ReferenceQkNormIdeal.nD Cert.ReferenceQkNormIdeal.τ).loc Cert.ReferenceQkNormIdeal.main_arg3) = m ((c.tc : Thread Cert.KernelQkNormIdeal.nD Cert.KernelQkNormIdeal.τ).loc Cert.KernelQkNormIdeal.main_arg3)
      ∧ m' ((c.tc : Thread Cert.ReferenceQkNormIdeal.nD Cert.ReferenceQkNormIdeal.τ).loc Cert.ReferenceQkNormIdeal.main_arg4) = m ((c.tc : Thread Cert.KernelQkNormIdeal.nD Cert.KernelQkNormIdeal.τ).loc Cert.KernelQkNormIdeal.main_arg4)) →
    ∃ (v0 : (c : Dev Cert.KernelQkNormIdeal.nD) → Buf (Elt Ideal) ((c.tc : Thread Cert.KernelQkNormIdeal.nD Cert.KernelQkNormIdeal.τ).loc Cert.KernelQkNormIdeal.main_v13_0)) (v1 : (c : Dev Cert.KernelQkNormIdeal.nD) → Buf (Elt Ideal) ((c.tc : Thread Cert.KernelQkNormIdeal.nD Cert.KernelQkNormIdeal.τ).loc Cert.KernelQkNormIdeal.main_v13_1)) (v2 : (c : Dev Cert.KernelQkNormIdeal.nD) → Buf (Elt Ideal) ((c.tc : Thread Cert.KernelQkNormIdeal.nD Cert.KernelQkNormIdeal.τ).loc Cert.KernelQkNormIdeal.main_v18)) (v3 : (c : Dev Cert.KernelQkNormIdeal.nD) → Buf (Elt Ideal) ((c.tc : Thread Cert.KernelQkNormIdeal.nD Cert.KernelQkNormIdeal.τ).loc Cert.KernelQkNormIdeal.main_v23)),
      θ_run (Cert.KernelQkNormIdeal.defs (F := Ideal)) (onTc (τ := Cert.KernelQkNormIdeal.τ) (Cert.KernelQkNormIdeal.main (F := Ideal))) ⟨m, fun _ => 0, g⟩ (fun r => ∀ c : Dev Cert.KernelQkNormIdeal.nD,
          r.2.mem ((c.tc : Thread Cert.KernelQkNormIdeal.nD Cert.KernelQkNormIdeal.τ).loc Cert.KernelQkNormIdeal.main_v13_0) = v0 c
          ∧ r.2.mem ((c.tc : Thread Cert.KernelQkNormIdeal.nD Cert.KernelQkNormIdeal.τ).loc Cert.KernelQkNormIdeal.main_v13_1) = v1 c
          ∧ r.2.mem ((c.tc : Thread Cert.KernelQkNormIdeal.nD Cert.KernelQkNormIdeal.τ).loc Cert.KernelQkNormIdeal.main_v18) = v2 c
          ∧ r.2.mem ((c.tc : Thread Cert.KernelQkNormIdeal.nD Cert.KernelQkNormIdeal.τ).loc Cert.KernelQkNormIdeal.main_v23) = v3 c
          ∧ r.2.mem ((c.tc : Thread Cert.KernelQkNormIdeal.nD Cert.KernelQkNormIdeal.τ).loc Cert.KernelQkNormIdeal.main_arg0) = m ((c.tc : Thread Cert.KernelQkNormIdeal.nD Cert.KernelQkNormIdeal.τ).loc Cert.KernelQkNormIdeal.main_arg0)
          ∧ r.2.mem ((c.tc : Thread Cert.KernelQkNormIdeal.nD Cert.KernelQkNormIdeal.τ).loc Cert.KernelQkNormIdeal.main_arg1) = m ((c.tc : Thread Cert.KernelQkNormIdeal.nD Cert.KernelQkNormIdeal.τ).loc Cert.KernelQkNormIdeal.main_arg1)
          ∧ r.2.mem ((c.tc : Thread Cert.KernelQkNormIdeal.nD Cert.KernelQkNormIdeal.τ).loc Cert.KernelQkNormIdeal.main_arg2) = m ((c.tc : Thread Cert.KernelQkNormIdeal.nD Cert.KernelQkNormIdeal.τ).loc Cert.KernelQkNormIdeal.main_arg2)
          ∧ r.2.mem ((c.tc : Thread Cert.KernelQkNormIdeal.nD Cert.KernelQkNormIdeal.τ).loc Cert.KernelQkNormIdeal.main_arg3) = m ((c.tc : Thread Cert.KernelQkNormIdeal.nD Cert.KernelQkNormIdeal.τ).loc Cert.KernelQkNormIdeal.main_arg3)
          ∧ r.2.mem ((c.tc : Thread Cert.KernelQkNormIdeal.nD Cert.KernelQkNormIdeal.τ).loc Cert.KernelQkNormIdeal.main_arg4) = m ((c.tc : Thread Cert.KernelQkNormIdeal.nD Cert.KernelQkNormIdeal.τ).loc Cert.KernelQkNormIdeal.main_arg4))
      ∧ θ_run (Cert.ReferenceQkNormIdeal.defs (F := Ideal)) (onTc (τ := Cert.ReferenceQkNormIdeal.τ) (Cert.ReferenceQkNormIdeal.main (F := Ideal))) ⟨m', fun _ => 0, g'⟩ (fun r => ∀ c : Dev Cert.ReferenceQkNormIdeal.nD,
          r.2.mem ((c.tc : Thread Cert.ReferenceQkNormIdeal.nD Cert.ReferenceQkNormIdeal.τ).loc Cert.ReferenceQkNormIdeal.main_v81) = v0 c
          ∧ r.2.mem ((c.tc : Thread Cert.ReferenceQkNormIdeal.nD Cert.ReferenceQkNormIdeal.τ).loc Cert.ReferenceQkNormIdeal.main_v59) = v1 c
          ∧ r.2.mem ((c.tc : Thread Cert.ReferenceQkNormIdeal.nD Cert.ReferenceQkNormIdeal.τ).loc Cert.ReferenceQkNormIdeal.main_v66) = v2 c
          ∧ r.2.mem ((c.tc : Thread Cert.ReferenceQkNormIdeal.nD Cert.ReferenceQkNormIdeal.τ).loc Cert.ReferenceQkNormIdeal.main_v44) = v3 c
          ∧ r.2.mem ((c.tc : Thread Cert.ReferenceQkNormIdeal.nD Cert.ReferenceQkNormIdeal.τ).loc Cert.ReferenceQkNormIdeal.main_arg0) = m' ((c.tc : Thread Cert.ReferenceQkNormIdeal.nD Cert.ReferenceQkNormIdeal.τ).loc Cert.ReferenceQkNormIdeal.main_arg0)
          ∧ r.2.mem ((c.tc : Thread Cert.ReferenceQkNormIdeal.nD Cert.ReferenceQkNormIdeal.τ).loc Cert.ReferenceQkNormIdeal.main_arg1) = m' ((c.tc : Thread Cert.ReferenceQkNormIdeal.nD Cert.ReferenceQkNormIdeal.τ).loc Cert.ReferenceQkNormIdeal.main_arg1)
          ∧ r.2.mem ((c.tc : Thread Cert.ReferenceQkNormIdeal.nD Cert.ReferenceQkNormIdeal.τ).loc Cert.ReferenceQkNormIdeal.main_arg2) = m' ((c.tc : Thread Cert.ReferenceQkNormIdeal.nD Cert.ReferenceQkNormIdeal.τ).loc Cert.ReferenceQkNormIdeal.main_arg2)
          ∧ r.2.mem ((c.tc : Thread Cert.ReferenceQkNormIdeal.nD Cert.ReferenceQkNormIdeal.τ).loc Cert.ReferenceQkNormIdeal.main_arg3) = m' ((c.tc : Thread Cert.ReferenceQkNormIdeal.nD Cert.ReferenceQkNormIdeal.τ).loc Cert.ReferenceQkNormIdeal.main_arg3)
          ∧ r.2.mem ((c.tc : Thread Cert.ReferenceQkNormIdeal.nD Cert.ReferenceQkNormIdeal.τ).loc Cert.ReferenceQkNormIdeal.main_arg4) = m' ((c.tc : Thread Cert.ReferenceQkNormIdeal.nD Cert.ReferenceQkNormIdeal.τ).loc Cert.ReferenceQkNormIdeal.main_arg4))

def preserves_KernelSgu_KernelSguIdeal : Prop :=
  True

def preserves_KernelNormFwd_KernelNormFwdIdeal : Prop :=
  True

def algebraic_KernelNormFwdIdeal_ReferenceNormFwdIdeal [hKernelNormFwdIdeal : Cert.KernelNormFwdIdeal.Facts] [hReferenceNormFwdIdeal : Cert.ReferenceNormFwdIdeal.Facts] : Prop :=
  ∀ (m : (ℓ : Loc Cert.KernelNormFwdIdeal.nD Cert.KernelNormFwdIdeal.τ Cert.KernelNormFwdIdeal.sig) → Buf (Elt Ideal) ℓ) (g : Dev Cert.KernelNormFwdIdeal.nD → PrngReg)
    (m' : (ℓ : Loc Cert.ReferenceNormFwdIdeal.nD Cert.ReferenceNormFwdIdeal.τ Cert.ReferenceNormFwdIdeal.sig) → Buf (Elt Ideal) ℓ) (g' : Dev Cert.ReferenceNormFwdIdeal.nD → PrngReg), Pre_KernelNormFwdIdeal m →
    (∀ c : Dev Cert.KernelNormFwdIdeal.nD,
      m' ((c.tc : Thread Cert.ReferenceNormFwdIdeal.nD Cert.ReferenceNormFwdIdeal.τ).loc Cert.ReferenceNormFwdIdeal.main_arg0) = m ((c.tc : Thread Cert.KernelNormFwdIdeal.nD Cert.KernelNormFwdIdeal.τ).loc Cert.KernelNormFwdIdeal.main_arg0)
      ∧ m' ((c.tc : Thread Cert.ReferenceNormFwdIdeal.nD Cert.ReferenceNormFwdIdeal.τ).loc Cert.ReferenceNormFwdIdeal.main_arg1) = m ((c.tc : Thread Cert.KernelNormFwdIdeal.nD Cert.KernelNormFwdIdeal.τ).loc Cert.KernelNormFwdIdeal.main_arg1)
      ∧ m' ((c.tc : Thread Cert.ReferenceNormFwdIdeal.nD Cert.ReferenceNormFwdIdeal.τ).loc Cert.ReferenceNormFwdIdeal.main_arg2) = m ((c.tc : Thread Cert.KernelNormFwdIdeal.nD Cert.KernelNormFwdIdeal.τ).loc Cert.KernelNormFwdIdeal.main_arg2)
      ∧ m' ((c.tc : Thread Cert.ReferenceNormFwdIdeal.nD Cert.ReferenceNormFwdIdeal.τ).loc Cert.ReferenceNormFwdIdeal.main_arg3) = m ((c.tc : Thread Cert.KernelNormFwdIdeal.nD Cert.KernelNormFwdIdeal.τ).loc Cert.KernelNormFwdIdeal.main_arg3)) →
    ∃ (v0 : (c : Dev Cert.KernelNormFwdIdeal.nD) → Buf (Elt Ideal) ((c.tc : Thread Cert.KernelNormFwdIdeal.nD Cert.KernelNormFwdIdeal.τ).loc Cert.KernelNormFwdIdeal.main_v1)),
      θ_run (Cert.KernelNormFwdIdeal.defs (F := Ideal)) (onTc (τ := Cert.KernelNormFwdIdeal.τ) (Cert.KernelNormFwdIdeal.main (F := Ideal))) ⟨m, fun _ => 0, g⟩ (fun r => ∀ c : Dev Cert.KernelNormFwdIdeal.nD,
          r.2.mem ((c.tc : Thread Cert.KernelNormFwdIdeal.nD Cert.KernelNormFwdIdeal.τ).loc Cert.KernelNormFwdIdeal.main_v1) = v0 c
          ∧ r.2.mem ((c.tc : Thread Cert.KernelNormFwdIdeal.nD Cert.KernelNormFwdIdeal.τ).loc Cert.KernelNormFwdIdeal.main_arg0) = m ((c.tc : Thread Cert.KernelNormFwdIdeal.nD Cert.KernelNormFwdIdeal.τ).loc Cert.KernelNormFwdIdeal.main_arg0)
          ∧ r.2.mem ((c.tc : Thread Cert.KernelNormFwdIdeal.nD Cert.KernelNormFwdIdeal.τ).loc Cert.KernelNormFwdIdeal.main_arg1) = m ((c.tc : Thread Cert.KernelNormFwdIdeal.nD Cert.KernelNormFwdIdeal.τ).loc Cert.KernelNormFwdIdeal.main_arg1)
          ∧ r.2.mem ((c.tc : Thread Cert.KernelNormFwdIdeal.nD Cert.KernelNormFwdIdeal.τ).loc Cert.KernelNormFwdIdeal.main_arg2) = m ((c.tc : Thread Cert.KernelNormFwdIdeal.nD Cert.KernelNormFwdIdeal.τ).loc Cert.KernelNormFwdIdeal.main_arg2)
          ∧ r.2.mem ((c.tc : Thread Cert.KernelNormFwdIdeal.nD Cert.KernelNormFwdIdeal.τ).loc Cert.KernelNormFwdIdeal.main_arg3) = m ((c.tc : Thread Cert.KernelNormFwdIdeal.nD Cert.KernelNormFwdIdeal.τ).loc Cert.KernelNormFwdIdeal.main_arg3))
      ∧ θ_run (Cert.ReferenceNormFwdIdeal.defs (F := Ideal)) (onTc (τ := Cert.ReferenceNormFwdIdeal.τ) (Cert.ReferenceNormFwdIdeal.main (F := Ideal))) ⟨m', fun _ => 0, g'⟩ (fun r => ∀ c : Dev Cert.ReferenceNormFwdIdeal.nD,
          r.2.mem ((c.tc : Thread Cert.ReferenceNormFwdIdeal.nD Cert.ReferenceNormFwdIdeal.τ).loc Cert.ReferenceNormFwdIdeal.main_v19) = v0 c
          ∧ r.2.mem ((c.tc : Thread Cert.ReferenceNormFwdIdeal.nD Cert.ReferenceNormFwdIdeal.τ).loc Cert.ReferenceNormFwdIdeal.main_arg0) = m' ((c.tc : Thread Cert.ReferenceNormFwdIdeal.nD Cert.ReferenceNormFwdIdeal.τ).loc Cert.ReferenceNormFwdIdeal.main_arg0)
          ∧ r.2.mem ((c.tc : Thread Cert.ReferenceNormFwdIdeal.nD Cert.ReferenceNormFwdIdeal.τ).loc Cert.ReferenceNormFwdIdeal.main_arg1) = m' ((c.tc : Thread Cert.ReferenceNormFwdIdeal.nD Cert.ReferenceNormFwdIdeal.τ).loc Cert.ReferenceNormFwdIdeal.main_arg1)
          ∧ r.2.mem ((c.tc : Thread Cert.ReferenceNormFwdIdeal.nD Cert.ReferenceNormFwdIdeal.τ).loc Cert.ReferenceNormFwdIdeal.main_arg2) = m' ((c.tc : Thread Cert.ReferenceNormFwdIdeal.nD Cert.ReferenceNormFwdIdeal.τ).loc Cert.ReferenceNormFwdIdeal.main_arg2)
          ∧ r.2.mem ((c.tc : Thread Cert.ReferenceNormFwdIdeal.nD Cert.ReferenceNormFwdIdeal.τ).loc Cert.ReferenceNormFwdIdeal.main_arg3) = m' ((c.tc : Thread Cert.ReferenceNormFwdIdeal.nD Cert.ReferenceNormFwdIdeal.τ).loc Cert.ReferenceNormFwdIdeal.main_arg3))

def preserves_KernelResidFwd_KernelResidFwdIdeal : Prop :=
  True

def algebraic_KernelResidFwdIdeal_ReferenceResidFwdIdeal [hKernelResidFwdIdeal : Cert.KernelResidFwdIdeal.Facts] [hReferenceResidFwdIdeal : Cert.ReferenceResidFwdIdeal.Facts] : Prop :=
  ∀ (m : (ℓ : Loc Cert.KernelResidFwdIdeal.nD Cert.KernelResidFwdIdeal.τ Cert.KernelResidFwdIdeal.sig) → Buf (Elt Ideal) ℓ) (g : Dev Cert.KernelResidFwdIdeal.nD → PrngReg)
    (m' : (ℓ : Loc Cert.ReferenceResidFwdIdeal.nD Cert.ReferenceResidFwdIdeal.τ Cert.ReferenceResidFwdIdeal.sig) → Buf (Elt Ideal) ℓ) (g' : Dev Cert.ReferenceResidFwdIdeal.nD → PrngReg), Pre_KernelResidFwdIdeal m →
    (∀ c : Dev Cert.KernelResidFwdIdeal.nD,
      m' ((c.tc : Thread Cert.ReferenceResidFwdIdeal.nD Cert.ReferenceResidFwdIdeal.τ).loc Cert.ReferenceResidFwdIdeal.main_arg0) = m ((c.tc : Thread Cert.KernelResidFwdIdeal.nD Cert.KernelResidFwdIdeal.τ).loc Cert.KernelResidFwdIdeal.main_arg0)
      ∧ m' ((c.tc : Thread Cert.ReferenceResidFwdIdeal.nD Cert.ReferenceResidFwdIdeal.τ).loc Cert.ReferenceResidFwdIdeal.main_arg1) = m ((c.tc : Thread Cert.KernelResidFwdIdeal.nD Cert.KernelResidFwdIdeal.τ).loc Cert.KernelResidFwdIdeal.main_arg1)
      ∧ m' ((c.tc : Thread Cert.ReferenceResidFwdIdeal.nD Cert.ReferenceResidFwdIdeal.τ).loc Cert.ReferenceResidFwdIdeal.main_arg2) = m ((c.tc : Thread Cert.KernelResidFwdIdeal.nD Cert.KernelResidFwdIdeal.τ).loc Cert.KernelResidFwdIdeal.main_arg2)
      ∧ m' ((c.tc : Thread Cert.ReferenceResidFwdIdeal.nD Cert.ReferenceResidFwdIdeal.τ).loc Cert.ReferenceResidFwdIdeal.main_arg3) = m ((c.tc : Thread Cert.KernelResidFwdIdeal.nD Cert.KernelResidFwdIdeal.τ).loc Cert.KernelResidFwdIdeal.main_arg3)
      ∧ m' ((c.tc : Thread Cert.ReferenceResidFwdIdeal.nD Cert.ReferenceResidFwdIdeal.τ).loc Cert.ReferenceResidFwdIdeal.main_arg4) = m ((c.tc : Thread Cert.KernelResidFwdIdeal.nD Cert.KernelResidFwdIdeal.τ).loc Cert.KernelResidFwdIdeal.main_arg4)
      ∧ m' ((c.tc : Thread Cert.ReferenceResidFwdIdeal.nD Cert.ReferenceResidFwdIdeal.τ).loc Cert.ReferenceResidFwdIdeal.main_arg5) = m ((c.tc : Thread Cert.KernelResidFwdIdeal.nD Cert.KernelResidFwdIdeal.τ).loc Cert.KernelResidFwdIdeal.main_arg5)) →
    ∃ (v0 : (c : Dev Cert.KernelResidFwdIdeal.nD) → Buf (Elt Ideal) ((c.tc : Thread Cert.KernelResidFwdIdeal.nD Cert.KernelResidFwdIdeal.τ).loc Cert.KernelResidFwdIdeal.main_v1_0)) (v1 : (c : Dev Cert.KernelResidFwdIdeal.nD) → Buf (Elt Ideal) ((c.tc : Thread Cert.KernelResidFwdIdeal.nD Cert.KernelResidFwdIdeal.τ).loc Cert.KernelResidFwdIdeal.main_v1_1)),
      θ_run (Cert.KernelResidFwdIdeal.defs (F := Ideal)) (onTc (τ := Cert.KernelResidFwdIdeal.τ) (Cert.KernelResidFwdIdeal.main (F := Ideal))) ⟨m, fun _ => 0, g⟩ (fun r => ∀ c : Dev Cert.KernelResidFwdIdeal.nD,
          r.2.mem ((c.tc : Thread Cert.KernelResidFwdIdeal.nD Cert.KernelResidFwdIdeal.τ).loc Cert.KernelResidFwdIdeal.main_v1_0) = v0 c
          ∧ r.2.mem ((c.tc : Thread Cert.KernelResidFwdIdeal.nD Cert.KernelResidFwdIdeal.τ).loc Cert.KernelResidFwdIdeal.main_v1_1) = v1 c
          ∧ r.2.mem ((c.tc : Thread Cert.KernelResidFwdIdeal.nD Cert.KernelResidFwdIdeal.τ).loc Cert.KernelResidFwdIdeal.main_arg0) = m ((c.tc : Thread Cert.KernelResidFwdIdeal.nD Cert.KernelResidFwdIdeal.τ).loc Cert.KernelResidFwdIdeal.main_arg0)
          ∧ r.2.mem ((c.tc : Thread Cert.KernelResidFwdIdeal.nD Cert.KernelResidFwdIdeal.τ).loc Cert.KernelResidFwdIdeal.main_arg1) = m ((c.tc : Thread Cert.KernelResidFwdIdeal.nD Cert.KernelResidFwdIdeal.τ).loc Cert.KernelResidFwdIdeal.main_arg1)
          ∧ r.2.mem ((c.tc : Thread Cert.KernelResidFwdIdeal.nD Cert.KernelResidFwdIdeal.τ).loc Cert.KernelResidFwdIdeal.main_arg2) = m ((c.tc : Thread Cert.KernelResidFwdIdeal.nD Cert.KernelResidFwdIdeal.τ).loc Cert.KernelResidFwdIdeal.main_arg2)
          ∧ r.2.mem ((c.tc : Thread Cert.KernelResidFwdIdeal.nD Cert.KernelResidFwdIdeal.τ).loc Cert.KernelResidFwdIdeal.main_arg3) = m ((c.tc : Thread Cert.KernelResidFwdIdeal.nD Cert.KernelResidFwdIdeal.τ).loc Cert.KernelResidFwdIdeal.main_arg3)
          ∧ r.2.mem ((c.tc : Thread Cert.KernelResidFwdIdeal.nD Cert.KernelResidFwdIdeal.τ).loc Cert.KernelResidFwdIdeal.main_arg4) = m ((c.tc : Thread Cert.KernelResidFwdIdeal.nD Cert.KernelResidFwdIdeal.τ).loc Cert.KernelResidFwdIdeal.main_arg4)
          ∧ r.2.mem ((c.tc : Thread Cert.KernelResidFwdIdeal.nD Cert.KernelResidFwdIdeal.τ).loc Cert.KernelResidFwdIdeal.main_arg5) = m ((c.tc : Thread Cert.KernelResidFwdIdeal.nD Cert.KernelResidFwdIdeal.τ).loc Cert.KernelResidFwdIdeal.main_arg5))
      ∧ θ_run (Cert.ReferenceResidFwdIdeal.defs (F := Ideal)) (onTc (τ := Cert.ReferenceResidFwdIdeal.τ) (Cert.ReferenceResidFwdIdeal.main (F := Ideal))) ⟨m', fun _ => 0, g'⟩ (fun r => ∀ c : Dev Cert.ReferenceResidFwdIdeal.nD,
          r.2.mem ((c.tc : Thread Cert.ReferenceResidFwdIdeal.nD Cert.ReferenceResidFwdIdeal.τ).loc Cert.ReferenceResidFwdIdeal.main_v2) = v0 c
          ∧ r.2.mem ((c.tc : Thread Cert.ReferenceResidFwdIdeal.nD Cert.ReferenceResidFwdIdeal.τ).loc Cert.ReferenceResidFwdIdeal.main_v22) = v1 c
          ∧ r.2.mem ((c.tc : Thread Cert.ReferenceResidFwdIdeal.nD Cert.ReferenceResidFwdIdeal.τ).loc Cert.ReferenceResidFwdIdeal.main_arg0) = m' ((c.tc : Thread Cert.ReferenceResidFwdIdeal.nD Cert.ReferenceResidFwdIdeal.τ).loc Cert.ReferenceResidFwdIdeal.main_arg0)
          ∧ r.2.mem ((c.tc : Thread Cert.ReferenceResidFwdIdeal.nD Cert.ReferenceResidFwdIdeal.τ).loc Cert.ReferenceResidFwdIdeal.main_arg1) = m' ((c.tc : Thread Cert.ReferenceResidFwdIdeal.nD Cert.ReferenceResidFwdIdeal.τ).loc Cert.ReferenceResidFwdIdeal.main_arg1)
          ∧ r.2.mem ((c.tc : Thread Cert.ReferenceResidFwdIdeal.nD Cert.ReferenceResidFwdIdeal.τ).loc Cert.ReferenceResidFwdIdeal.main_arg2) = m' ((c.tc : Thread Cert.ReferenceResidFwdIdeal.nD Cert.ReferenceResidFwdIdeal.τ).loc Cert.ReferenceResidFwdIdeal.main_arg2)
          ∧ r.2.mem ((c.tc : Thread Cert.ReferenceResidFwdIdeal.nD Cert.ReferenceResidFwdIdeal.τ).loc Cert.ReferenceResidFwdIdeal.main_arg3) = m' ((c.tc : Thread Cert.ReferenceResidFwdIdeal.nD Cert.ReferenceResidFwdIdeal.τ).loc Cert.ReferenceResidFwdIdeal.main_arg3)
          ∧ r.2.mem ((c.tc : Thread Cert.ReferenceResidFwdIdeal.nD Cert.ReferenceResidFwdIdeal.τ).loc Cert.ReferenceResidFwdIdeal.main_arg4) = m' ((c.tc : Thread Cert.ReferenceResidFwdIdeal.nD Cert.ReferenceResidFwdIdeal.τ).loc Cert.ReferenceResidFwdIdeal.main_arg4)
          ∧ r.2.mem ((c.tc : Thread Cert.ReferenceResidFwdIdeal.nD Cert.ReferenceResidFwdIdeal.τ).loc Cert.ReferenceResidFwdIdeal.main_arg5) = m' ((c.tc : Thread Cert.ReferenceResidFwdIdeal.nD Cert.ReferenceResidFwdIdeal.τ).loc Cert.ReferenceResidFwdIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_v5) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelQkFwd_KernelQkFwdIdeal : Prop :=
  True

def algebraic_KernelQkFwdIdeal_ReferenceQkFwdIdeal [hKernelQkFwdIdeal : Cert.KernelQkFwdIdeal.Facts] [hReferenceQkFwdIdeal : Cert.ReferenceQkFwdIdeal.Facts] : Prop :=
  ∀ (m : (ℓ : Loc Cert.KernelQkFwdIdeal.nD Cert.KernelQkFwdIdeal.τ Cert.KernelQkFwdIdeal.sig) → Buf (Elt Ideal) ℓ) (g : Dev Cert.KernelQkFwdIdeal.nD → PrngReg)
    (m' : (ℓ : Loc Cert.ReferenceQkFwdIdeal.nD Cert.ReferenceQkFwdIdeal.τ Cert.ReferenceQkFwdIdeal.sig) → Buf (Elt Ideal) ℓ) (g' : Dev Cert.ReferenceQkFwdIdeal.nD → PrngReg), Pre_KernelQkFwdIdeal m →
    (∀ c : Dev Cert.KernelQkFwdIdeal.nD,
      m' ((c.tc : Thread Cert.ReferenceQkFwdIdeal.nD Cert.ReferenceQkFwdIdeal.τ).loc Cert.ReferenceQkFwdIdeal.main_arg0) = m ((c.tc : Thread Cert.KernelQkFwdIdeal.nD Cert.KernelQkFwdIdeal.τ).loc Cert.KernelQkFwdIdeal.main_arg0)
      ∧ m' ((c.tc : Thread Cert.ReferenceQkFwdIdeal.nD Cert.ReferenceQkFwdIdeal.τ).loc Cert.ReferenceQkFwdIdeal.main_arg1) = m ((c.tc : Thread Cert.KernelQkFwdIdeal.nD Cert.KernelQkFwdIdeal.τ).loc Cert.KernelQkFwdIdeal.main_arg1)
      ∧ m' ((c.tc : Thread Cert.ReferenceQkFwdIdeal.nD Cert.ReferenceQkFwdIdeal.τ).loc Cert.ReferenceQkFwdIdeal.main_arg2) = m ((c.tc : Thread Cert.KernelQkFwdIdeal.nD Cert.KernelQkFwdIdeal.τ).loc Cert.KernelQkFwdIdeal.main_arg2)) →
    ∃ (v0 : (c : Dev Cert.KernelQkFwdIdeal.nD) → Buf (Elt Ideal) ((c.tc : Thread Cert.KernelQkFwdIdeal.nD Cert.KernelQkFwdIdeal.τ).loc Cert.KernelQkFwdIdeal.main_v13_0)) (v1 : (c : Dev Cert.KernelQkFwdIdeal.nD) → Buf (Elt Ideal) ((c.tc : Thread Cert.KernelQkFwdIdeal.nD Cert.KernelQkFwdIdeal.τ).loc Cert.KernelQkFwdIdeal.main_v13_1)),
      θ_run (Cert.KernelQkFwdIdeal.defs (F := Ideal)) (onTc (τ := Cert.KernelQkFwdIdeal.τ) (Cert.KernelQkFwdIdeal.main (F := Ideal))) ⟨m, fun _ => 0, g⟩ (fun r => ∀ c : Dev Cert.KernelQkFwdIdeal.nD,
          r.2.mem ((c.tc : Thread Cert.KernelQkFwdIdeal.nD Cert.KernelQkFwdIdeal.τ).loc Cert.KernelQkFwdIdeal.main_v13_0) = v0 c
          ∧ r.2.mem ((c.tc : Thread Cert.KernelQkFwdIdeal.nD Cert.KernelQkFwdIdeal.τ).loc Cert.KernelQkFwdIdeal.main_v13_1) = v1 c
          ∧ r.2.mem ((c.tc : Thread Cert.KernelQkFwdIdeal.nD Cert.KernelQkFwdIdeal.τ).loc Cert.KernelQkFwdIdeal.main_arg0) = m ((c.tc : Thread Cert.KernelQkFwdIdeal.nD Cert.KernelQkFwdIdeal.τ).loc Cert.KernelQkFwdIdeal.main_arg0)
          ∧ r.2.mem ((c.tc : Thread Cert.KernelQkFwdIdeal.nD Cert.KernelQkFwdIdeal.τ).loc Cert.KernelQkFwdIdeal.main_arg1) = m ((c.tc : Thread Cert.KernelQkFwdIdeal.nD Cert.KernelQkFwdIdeal.τ).loc Cert.KernelQkFwdIdeal.main_arg1)
          ∧ r.2.mem ((c.tc : Thread Cert.KernelQkFwdIdeal.nD Cert.KernelQkFwdIdeal.τ).loc Cert.KernelQkFwdIdeal.main_arg2) = m ((c.tc : Thread Cert.KernelQkFwdIdeal.nD Cert.KernelQkFwdIdeal.τ).loc Cert.KernelQkFwdIdeal.main_arg2))
      ∧ θ_run (Cert.ReferenceQkFwdIdeal.defs (F := Ideal)) (onTc (τ := Cert.ReferenceQkFwdIdeal.τ) (Cert.ReferenceQkFwdIdeal.main (F := Ideal))) ⟨m', fun _ => 0, g'⟩ (fun r => ∀ c : Dev Cert.ReferenceQkFwdIdeal.nD,
          r.2.mem ((c.tc : Thread Cert.ReferenceQkFwdIdeal.nD Cert.ReferenceQkFwdIdeal.τ).loc Cert.ReferenceQkFwdIdeal.main_v15) = v0 c
          ∧ r.2.mem ((c.tc : Thread Cert.ReferenceQkFwdIdeal.nD Cert.ReferenceQkFwdIdeal.τ).loc Cert.ReferenceQkFwdIdeal.main_v31) = v1 c
          ∧ r.2.mem ((c.tc : Thread Cert.ReferenceQkFwdIdeal.nD Cert.ReferenceQkFwdIdeal.τ).loc Cert.ReferenceQkFwdIdeal.main_arg0) = m' ((c.tc : Thread Cert.ReferenceQkFwdIdeal.nD Cert.ReferenceQkFwdIdeal.τ).loc Cert.ReferenceQkFwdIdeal.main_arg0)
          ∧ r.2.mem ((c.tc : Thread Cert.ReferenceQkFwdIdeal.nD Cert.ReferenceQkFwdIdeal.τ).loc Cert.ReferenceQkFwdIdeal.main_arg1) = m' ((c.tc : Thread Cert.ReferenceQkFwdIdeal.nD Cert.ReferenceQkFwdIdeal.τ).loc Cert.ReferenceQkFwdIdeal.main_arg1)
          ∧ r.2.mem ((c.tc : Thread Cert.ReferenceQkFwdIdeal.nD Cert.ReferenceQkFwdIdeal.τ).loc Cert.ReferenceQkFwdIdeal.main_arg2) = m' ((c.tc : Thread Cert.ReferenceQkFwdIdeal.nD Cert.ReferenceQkFwdIdeal.τ).loc Cert.ReferenceQkFwdIdeal.main_arg2))

def preserves_KernelForgetFwd_KernelForgetFwdIdeal : Prop :=
  True

def algebraic_KernelForgetFwdIdeal_ReferenceForgetFwdIdeal [hKernelForgetFwdIdeal : Cert.KernelForgetFwdIdeal.Facts] [hReferenceForgetFwdIdeal : Cert.ReferenceForgetFwdIdeal.Facts] : Prop :=
  ∀ (m : (ℓ : Loc Cert.KernelForgetFwdIdeal.nD Cert.KernelForgetFwdIdeal.τ Cert.KernelForgetFwdIdeal.sig) → Buf (Elt Ideal) ℓ) (g : Dev Cert.KernelForgetFwdIdeal.nD → PrngReg)
    (m' : (ℓ : Loc Cert.ReferenceForgetFwdIdeal.nD Cert.ReferenceForgetFwdIdeal.τ Cert.ReferenceForgetFwdIdeal.sig) → Buf (Elt Ideal) ℓ) (g' : Dev Cert.ReferenceForgetFwdIdeal.nD → PrngReg), Pre_KernelForgetFwdIdeal m →
    (∀ c : Dev Cert.KernelForgetFwdIdeal.nD,
      m' ((c.tc : Thread Cert.ReferenceForgetFwdIdeal.nD Cert.ReferenceForgetFwdIdeal.τ).loc Cert.ReferenceForgetFwdIdeal.main_arg0) = m ((c.tc : Thread Cert.KernelForgetFwdIdeal.nD Cert.KernelForgetFwdIdeal.τ).loc Cert.KernelForgetFwdIdeal.main_arg0)
      ∧ m' ((c.tc : Thread Cert.ReferenceForgetFwdIdeal.nD Cert.ReferenceForgetFwdIdeal.τ).loc Cert.ReferenceForgetFwdIdeal.main_arg1) = m ((c.tc : Thread Cert.KernelForgetFwdIdeal.nD Cert.KernelForgetFwdIdeal.τ).loc Cert.KernelForgetFwdIdeal.main_arg1)) →
    ∃ (v0 : (c : Dev Cert.KernelForgetFwdIdeal.nD) → Buf (Elt Ideal) ((c.tc : Thread Cert.KernelForgetFwdIdeal.nD Cert.KernelForgetFwdIdeal.τ).loc Cert.KernelForgetFwdIdeal.main_v11)),
      θ_run (Cert.KernelForgetFwdIdeal.defs (F := Ideal)) (onTc (τ := Cert.KernelForgetFwdIdeal.τ) (Cert.KernelForgetFwdIdeal.main (F := Ideal))) ⟨m, fun _ => 0, g⟩ (fun r => ∀ c : Dev Cert.KernelForgetFwdIdeal.nD,
          r.2.mem ((c.tc : Thread Cert.KernelForgetFwdIdeal.nD Cert.KernelForgetFwdIdeal.τ).loc Cert.KernelForgetFwdIdeal.main_v11) = v0 c
          ∧ r.2.mem ((c.tc : Thread Cert.KernelForgetFwdIdeal.nD Cert.KernelForgetFwdIdeal.τ).loc Cert.KernelForgetFwdIdeal.main_arg0) = m ((c.tc : Thread Cert.KernelForgetFwdIdeal.nD Cert.KernelForgetFwdIdeal.τ).loc Cert.KernelForgetFwdIdeal.main_arg0)
          ∧ r.2.mem ((c.tc : Thread Cert.KernelForgetFwdIdeal.nD Cert.KernelForgetFwdIdeal.τ).loc Cert.KernelForgetFwdIdeal.main_arg1) = m ((c.tc : Thread Cert.KernelForgetFwdIdeal.nD Cert.KernelForgetFwdIdeal.τ).loc Cert.KernelForgetFwdIdeal.main_arg1))
      ∧ θ_run (Cert.ReferenceForgetFwdIdeal.defs (F := Ideal)) (onTc (τ := Cert.ReferenceForgetFwdIdeal.τ) (Cert.ReferenceForgetFwdIdeal.main (F := Ideal))) ⟨m', fun _ => 0, g'⟩ (fun r => ∀ c : Dev Cert.ReferenceForgetFwdIdeal.nD,
          r.2.mem ((c.tc : Thread Cert.ReferenceForgetFwdIdeal.nD Cert.ReferenceForgetFwdIdeal.τ).loc Cert.ReferenceForgetFwdIdeal.main_v5) = v0 c
          ∧ r.2.mem ((c.tc : Thread Cert.ReferenceForgetFwdIdeal.nD Cert.ReferenceForgetFwdIdeal.τ).loc Cert.ReferenceForgetFwdIdeal.main_arg0) = m' ((c.tc : Thread Cert.ReferenceForgetFwdIdeal.nD Cert.ReferenceForgetFwdIdeal.τ).loc Cert.ReferenceForgetFwdIdeal.main_arg0)
          ∧ r.2.mem ((c.tc : Thread Cert.ReferenceForgetFwdIdeal.nD Cert.ReferenceForgetFwdIdeal.τ).loc Cert.ReferenceForgetFwdIdeal.main_arg1) = m' ((c.tc : Thread Cert.ReferenceForgetFwdIdeal.nD Cert.ReferenceForgetFwdIdeal.τ).loc Cert.ReferenceForgetFwdIdeal.main_arg1))

def preserves_KernelAdaFwd_KernelAdaFwdIdeal : Prop :=
  True

def algebraic_KernelAdaFwdIdeal_ReferenceAdaFwdIdeal [hKernelAdaFwdIdeal : Cert.KernelAdaFwdIdeal.Facts] [hReferenceAdaFwdIdeal : Cert.ReferenceAdaFwdIdeal.Facts] : Prop :=
  ∀ (m : (ℓ : Loc Cert.KernelAdaFwdIdeal.nD Cert.KernelAdaFwdIdeal.τ Cert.KernelAdaFwdIdeal.sig) → Buf (Elt Ideal) ℓ) (g : Dev Cert.KernelAdaFwdIdeal.nD → PrngReg)
    (m' : (ℓ : Loc Cert.ReferenceAdaFwdIdeal.nD Cert.ReferenceAdaFwdIdeal.τ Cert.ReferenceAdaFwdIdeal.sig) → Buf (Elt Ideal) ℓ) (g' : Dev Cert.ReferenceAdaFwdIdeal.nD → PrngReg), Pre_KernelAdaFwdIdeal m →
    (∀ c : Dev Cert.KernelAdaFwdIdeal.nD,
      m' ((c.tc : Thread Cert.ReferenceAdaFwdIdeal.nD Cert.ReferenceAdaFwdIdeal.τ).loc Cert.ReferenceAdaFwdIdeal.main_arg0) = m ((c.tc : Thread Cert.KernelAdaFwdIdeal.nD Cert.KernelAdaFwdIdeal.τ).loc Cert.KernelAdaFwdIdeal.main_arg0)
      ∧ m' ((c.tc : Thread Cert.ReferenceAdaFwdIdeal.nD Cert.ReferenceAdaFwdIdeal.τ).loc Cert.ReferenceAdaFwdIdeal.main_arg1) = m ((c.tc : Thread Cert.KernelAdaFwdIdeal.nD Cert.KernelAdaFwdIdeal.τ).loc Cert.KernelAdaFwdIdeal.main_arg1)
      ∧ m' ((c.tc : Thread Cert.ReferenceAdaFwdIdeal.nD Cert.ReferenceAdaFwdIdeal.τ).loc Cert.ReferenceAdaFwdIdeal.main_arg2) = m ((c.tc : Thread Cert.KernelAdaFwdIdeal.nD Cert.KernelAdaFwdIdeal.τ).loc Cert.KernelAdaFwdIdeal.main_arg2)) →
    ∃ (v0 : (c : Dev Cert.KernelAdaFwdIdeal.nD) → Buf (Elt Ideal) ((c.tc : Thread Cert.KernelAdaFwdIdeal.nD Cert.KernelAdaFwdIdeal.τ).loc Cert.KernelAdaFwdIdeal.main_v1)),
      θ_run (Cert.KernelAdaFwdIdeal.defs (F := Ideal)) (onTc (τ := Cert.KernelAdaFwdIdeal.τ) (Cert.KernelAdaFwdIdeal.main (F := Ideal))) ⟨m, fun _ => 0, g⟩ (fun r => ∀ c : Dev Cert.KernelAdaFwdIdeal.nD,
          r.2.mem ((c.tc : Thread Cert.KernelAdaFwdIdeal.nD Cert.KernelAdaFwdIdeal.τ).loc Cert.KernelAdaFwdIdeal.main_v1) = v0 c
          ∧ r.2.mem ((c.tc : Thread Cert.KernelAdaFwdIdeal.nD Cert.KernelAdaFwdIdeal.τ).loc Cert.KernelAdaFwdIdeal.main_arg0) = m ((c.tc : Thread Cert.KernelAdaFwdIdeal.nD Cert.KernelAdaFwdIdeal.τ).loc Cert.KernelAdaFwdIdeal.main_arg0)
          ∧ r.2.mem ((c.tc : Thread Cert.KernelAdaFwdIdeal.nD Cert.KernelAdaFwdIdeal.τ).loc Cert.KernelAdaFwdIdeal.main_arg1) = m ((c.tc : Thread Cert.KernelAdaFwdIdeal.nD Cert.KernelAdaFwdIdeal.τ).loc Cert.KernelAdaFwdIdeal.main_arg1)
          ∧ r.2.mem ((c.tc : Thread Cert.KernelAdaFwdIdeal.nD Cert.KernelAdaFwdIdeal.τ).loc Cert.KernelAdaFwdIdeal.main_arg2) = m ((c.tc : Thread Cert.KernelAdaFwdIdeal.nD Cert.KernelAdaFwdIdeal.τ).loc Cert.KernelAdaFwdIdeal.main_arg2))
      ∧ θ_run (Cert.ReferenceAdaFwdIdeal.defs (F := Ideal)) (onTc (τ := Cert.ReferenceAdaFwdIdeal.τ) (Cert.ReferenceAdaFwdIdeal.main (F := Ideal))) ⟨m', fun _ => 0, g'⟩ (fun r => ∀ c : Dev Cert.ReferenceAdaFwdIdeal.nD,
          r.2.mem ((c.tc : Thread Cert.ReferenceAdaFwdIdeal.nD Cert.ReferenceAdaFwdIdeal.τ).loc Cert.ReferenceAdaFwdIdeal.main_v5) = v0 c
          ∧ r.2.mem ((c.tc : Thread Cert.ReferenceAdaFwdIdeal.nD Cert.ReferenceAdaFwdIdeal.τ).loc Cert.ReferenceAdaFwdIdeal.main_arg0) = m' ((c.tc : Thread Cert.ReferenceAdaFwdIdeal.nD Cert.ReferenceAdaFwdIdeal.τ).loc Cert.ReferenceAdaFwdIdeal.main_arg0)
          ∧ r.2.mem ((c.tc : Thread Cert.ReferenceAdaFwdIdeal.nD Cert.ReferenceAdaFwdIdeal.τ).loc Cert.ReferenceAdaFwdIdeal.main_arg1) = m' ((c.tc : Thread Cert.ReferenceAdaFwdIdeal.nD Cert.ReferenceAdaFwdIdeal.τ).loc Cert.ReferenceAdaFwdIdeal.main_arg1)
          ∧ r.2.mem ((c.tc : Thread Cert.ReferenceAdaFwdIdeal.nD Cert.ReferenceAdaFwdIdeal.τ).loc Cert.ReferenceAdaFwdIdeal.main_arg2) = m' ((c.tc : Thread Cert.ReferenceAdaFwdIdeal.nD Cert.ReferenceAdaFwdIdeal.τ).loc Cert.ReferenceAdaFwdIdeal.main_arg2))

def preserves_KernelSguFwd_KernelSguFwdIdeal : Prop :=
  True

def algebraic_KernelSguFwdIdeal_ReferenceSguFwdIdeal [hKernelSguFwdIdeal : Cert.KernelSguFwdIdeal.Facts] [hReferenceSguFwdIdeal : Cert.ReferenceSguFwdIdeal.Facts] : Prop :=
  ∀ (m : (ℓ : Loc Cert.KernelSguFwdIdeal.nD Cert.KernelSguFwdIdeal.τ Cert.KernelSguFwdIdeal.sig) → Buf (Elt Ideal) ℓ) (g : Dev Cert.KernelSguFwdIdeal.nD → PrngReg)
    (m' : (ℓ : Loc Cert.ReferenceSguFwdIdeal.nD Cert.ReferenceSguFwdIdeal.τ Cert.ReferenceSguFwdIdeal.sig) → Buf (Elt Ideal) ℓ) (g' : Dev Cert.ReferenceSguFwdIdeal.nD → PrngReg), Pre_KernelSguFwdIdeal m →
    (∀ c : Dev Cert.KernelSguFwdIdeal.nD,
      m' ((c.tc : Thread Cert.ReferenceSguFwdIdeal.nD Cert.ReferenceSguFwdIdeal.τ).loc Cert.ReferenceSguFwdIdeal.main_arg0) = m ((c.tc : Thread Cert.KernelSguFwdIdeal.nD Cert.KernelSguFwdIdeal.τ).loc Cert.KernelSguFwdIdeal.main_arg0)
      ∧ m' ((c.tc : Thread Cert.ReferenceSguFwdIdeal.nD Cert.ReferenceSguFwdIdeal.τ).loc Cert.ReferenceSguFwdIdeal.main_arg1) = m ((c.tc : Thread Cert.KernelSguFwdIdeal.nD Cert.KernelSguFwdIdeal.τ).loc Cert.KernelSguFwdIdeal.main_arg1)
      ∧ m' ((c.tc : Thread Cert.ReferenceSguFwdIdeal.nD Cert.ReferenceSguFwdIdeal.τ).loc Cert.ReferenceSguFwdIdeal.main_arg2) = m ((c.tc : Thread Cert.KernelSguFwdIdeal.nD Cert.KernelSguFwdIdeal.τ).loc Cert.KernelSguFwdIdeal.main_arg2)
      ∧ m' ((c.tc : Thread Cert.ReferenceSguFwdIdeal.nD Cert.ReferenceSguFwdIdeal.τ).loc Cert.ReferenceSguFwdIdeal.main_arg3) = m ((c.tc : Thread Cert.KernelSguFwdIdeal.nD Cert.KernelSguFwdIdeal.τ).loc Cert.KernelSguFwdIdeal.main_arg3)) →
    ∃ (v0 : (c : Dev Cert.KernelSguFwdIdeal.nD) → Buf (Elt Ideal) ((c.tc : Thread Cert.KernelSguFwdIdeal.nD Cert.KernelSguFwdIdeal.τ).loc Cert.KernelSguFwdIdeal.main_v8)),
      θ_run (Cert.KernelSguFwdIdeal.defs (F := Ideal)) (onTc (τ := Cert.KernelSguFwdIdeal.τ) (Cert.KernelSguFwdIdeal.main (F := Ideal))) ⟨m, fun _ => 0, g⟩ (fun r => ∀ c : Dev Cert.KernelSguFwdIdeal.nD,
          r.2.mem ((c.tc : Thread Cert.KernelSguFwdIdeal.nD Cert.KernelSguFwdIdeal.τ).loc Cert.KernelSguFwdIdeal.main_v8) = v0 c
          ∧ r.2.mem ((c.tc : Thread Cert.KernelSguFwdIdeal.nD Cert.KernelSguFwdIdeal.τ).loc Cert.KernelSguFwdIdeal.main_arg0) = m ((c.tc : Thread Cert.KernelSguFwdIdeal.nD Cert.KernelSguFwdIdeal.τ).loc Cert.KernelSguFwdIdeal.main_arg0)
          ∧ r.2.mem ((c.tc : Thread Cert.KernelSguFwdIdeal.nD Cert.KernelSguFwdIdeal.τ).loc Cert.KernelSguFwdIdeal.main_arg1) = m ((c.tc : Thread Cert.KernelSguFwdIdeal.nD Cert.KernelSguFwdIdeal.τ).loc Cert.KernelSguFwdIdeal.main_arg1)
          ∧ r.2.mem ((c.tc : Thread Cert.KernelSguFwdIdeal.nD Cert.KernelSguFwdIdeal.τ).loc Cert.KernelSguFwdIdeal.main_arg2) = m ((c.tc : Thread Cert.KernelSguFwdIdeal.nD Cert.KernelSguFwdIdeal.τ).loc Cert.KernelSguFwdIdeal.main_arg2)
          ∧ r.2.mem ((c.tc : Thread Cert.KernelSguFwdIdeal.nD Cert.KernelSguFwdIdeal.τ).loc Cert.KernelSguFwdIdeal.main_arg3) = m ((c.tc : Thread Cert.KernelSguFwdIdeal.nD Cert.KernelSguFwdIdeal.τ).loc Cert.KernelSguFwdIdeal.main_arg3))
      ∧ θ_run (Cert.ReferenceSguFwdIdeal.defs (F := Ideal)) (onTc (τ := Cert.ReferenceSguFwdIdeal.τ) (Cert.ReferenceSguFwdIdeal.main (F := Ideal))) ⟨m', fun _ => 0, g'⟩ (fun r => ∀ c : Dev Cert.ReferenceSguFwdIdeal.nD,
          r.2.mem ((c.tc : Thread Cert.ReferenceSguFwdIdeal.nD Cert.ReferenceSguFwdIdeal.τ).loc Cert.ReferenceSguFwdIdeal.main_v51) = v0 c
          ∧ r.2.mem ((c.tc : Thread Cert.ReferenceSguFwdIdeal.nD Cert.ReferenceSguFwdIdeal.τ).loc Cert.ReferenceSguFwdIdeal.main_arg0) = m' ((c.tc : Thread Cert.ReferenceSguFwdIdeal.nD Cert.ReferenceSguFwdIdeal.τ).loc Cert.ReferenceSguFwdIdeal.main_arg0)
          ∧ r.2.mem ((c.tc : Thread Cert.ReferenceSguFwdIdeal.nD Cert.ReferenceSguFwdIdeal.τ).loc Cert.ReferenceSguFwdIdeal.main_arg1) = m' ((c.tc : Thread Cert.ReferenceSguFwdIdeal.nD Cert.ReferenceSguFwdIdeal.τ).loc Cert.ReferenceSguFwdIdeal.main_arg1)
          ∧ r.2.mem ((c.tc : Thread Cert.ReferenceSguFwdIdeal.nD Cert.ReferenceSguFwdIdeal.τ).loc Cert.ReferenceSguFwdIdeal.main_arg2) = m' ((c.tc : Thread Cert.ReferenceSguFwdIdeal.nD Cert.ReferenceSguFwdIdeal.τ).loc Cert.ReferenceSguFwdIdeal.main_arg2)
          ∧ r.2.mem ((c.tc : Thread Cert.ReferenceSguFwdIdeal.nD Cert.ReferenceSguFwdIdeal.τ).loc Cert.ReferenceSguFwdIdeal.main_arg3) = m' ((c.tc : Thread Cert.ReferenceSguFwdIdeal.nD Cert.ReferenceSguFwdIdeal.τ).loc Cert.ReferenceSguFwdIdeal.main_arg3))

def Claim : Prop :=
  ∃ (hKernelLoss : Cert.KernelLoss.Facts) (hKernelLossIdeal : Cert.KernelLossIdeal.Facts) (hReferenceLossIdeal : Cert.ReferenceLossIdeal.Facts) (hKernelStick : Cert.KernelStick.Facts) (hKernelStickIdeal : Cert.KernelStickIdeal.Facts) (hReferenceStickIdeal : Cert.ReferenceStickIdeal.Facts) (hKernelFox : Cert.KernelFox.Facts) (hKernelFoxIdeal : Cert.KernelFoxIdeal.Facts) (hReferenceFoxIdeal : Cert.ReferenceFoxIdeal.Facts) (hKernelForget : Cert.KernelForget.Facts) (hKernelForgetIdeal : Cert.KernelForgetIdeal.Facts) (hReferenceForgetIdeal : Cert.ReferenceForgetIdeal.Facts) (hKernelNorm : Cert.KernelNorm.Facts) (hKernelNormIdeal : Cert.KernelNormIdeal.Facts) (hReferenceNormIdeal : Cert.ReferenceNormIdeal.Facts) (hKernelGNorm : Cert.KernelGNorm.Facts) (hKernelGNormIdeal : Cert.KernelGNormIdeal.Facts) (hReferenceGNormIdeal : Cert.ReferenceGNormIdeal.Facts) (hKernelRelu2 : Cert.KernelRelu2.Facts) (hKernelRelu2Ideal : Cert.KernelRelu2Ideal.Facts) (hReferenceRelu2Ideal : Cert.ReferenceRelu2Ideal.Facts) (hKernelAda : Cert.KernelAda.Facts) (hKernelAdaIdeal : Cert.KernelAdaIdeal.Facts) (hReferenceAdaIdeal : Cert.ReferenceAdaIdeal.Facts) (hKernelQkNorm : Cert.KernelQkNorm.Facts) (hKernelQkNormIdeal : Cert.KernelQkNormIdeal.Facts) (hReferenceQkNormIdeal : Cert.ReferenceQkNormIdeal.Facts) (hKernelSgu : Cert.KernelSgu.Facts) (hKernelSguIdeal : Cert.KernelSguIdeal.Facts) (hKernelNormFwd : Cert.KernelNormFwd.Facts) (hKernelNormFwdIdeal : Cert.KernelNormFwdIdeal.Facts) (hReferenceNormFwdIdeal : Cert.ReferenceNormFwdIdeal.Facts) (hKernelResidFwd : Cert.KernelResidFwd.Facts) (hKernelResidFwdIdeal : Cert.KernelResidFwdIdeal.Facts) (hReferenceResidFwdIdeal : Cert.ReferenceResidFwdIdeal.Facts) (hKernelUp : Cert.KernelUp.Facts) (hKernelUpIdeal : Cert.KernelUpIdeal.Facts) (hReferenceUpIdeal : Cert.ReferenceUpIdeal.Facts) (hKernelQkFwd : Cert.KernelQkFwd.Facts) (hKernelQkFwdIdeal : Cert.KernelQkFwdIdeal.Facts) (hReferenceQkFwdIdeal : Cert.ReferenceQkFwdIdeal.Facts) (hKernelForgetFwd : Cert.KernelForgetFwd.Facts) (hKernelForgetFwdIdeal : Cert.KernelForgetFwdIdeal.Facts) (hReferenceForgetFwdIdeal : Cert.ReferenceForgetFwdIdeal.Facts) (hKernelAdaFwd : Cert.KernelAdaFwd.Facts) (hKernelAdaFwdIdeal : Cert.KernelAdaFwdIdeal.Facts) (hReferenceAdaFwdIdeal : Cert.ReferenceAdaFwdIdeal.Facts) (hKernelSguFwd : Cert.KernelSguFwd.Facts) (hKernelSguFwdIdeal : Cert.KernelSguFwdIdeal.Facts) (hReferenceSguFwdIdeal : Cert.ReferenceSguFwdIdeal.Facts) (hPre_finite_sb : Cert.Pre_finite_sb.Facts) (hPre_finite_fox : Cert.Pre_finite_fox.Facts) (hPre_finite_cumf : Cert.Pre_finite_cumf.Facts) (hPre_finite_norm : Cert.Pre_finite_norm.Facts) (hPre_finite_normg : Cert.Pre_finite_normg.Facts) (hPre_finite_prep : Cert.Pre_finite_prep.Facts),
    quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelStick (hKernelStick := hKernelStick)
    ∧ quiescent_KernelStickIdeal (hKernelStickIdeal := hKernelStickIdeal)
    ∧ quiescent_KernelStickIdeal_pre_finite_sb (hKernelStickIdeal := hKernelStickIdeal) (hPre_finite_sb := hPre_finite_sb)
    ∧ quiescent_ReferenceStickIdeal (hReferenceStickIdeal := hReferenceStickIdeal)
    ∧ quiescent_ReferenceStickIdeal_pre_finite_sb (hReferenceStickIdeal := hReferenceStickIdeal) (hPre_finite_sb := hPre_finite_sb)
    ∧ quiescent_KernelFox (hKernelFox := hKernelFox)
    ∧ quiescent_KernelFoxIdeal (hKernelFoxIdeal := hKernelFoxIdeal)
    ∧ quiescent_KernelFoxIdeal_pre_finite_fox (hKernelFoxIdeal := hKernelFoxIdeal) (hPre_finite_fox := hPre_finite_fox)
    ∧ quiescent_ReferenceFoxIdeal (hReferenceFoxIdeal := hReferenceFoxIdeal)
    ∧ quiescent_ReferenceFoxIdeal_pre_finite_fox (hReferenceFoxIdeal := hReferenceFoxIdeal) (hPre_finite_fox := hPre_finite_fox)
    ∧ quiescent_KernelForget (hKernelForget := hKernelForget)
    ∧ quiescent_KernelForgetIdeal (hKernelForgetIdeal := hKernelForgetIdeal)
    ∧ quiescent_KernelForgetIdeal_pre_finite_cumf (hKernelForgetIdeal := hKernelForgetIdeal) (hPre_finite_cumf := hPre_finite_cumf)
    ∧ quiescent_ReferenceForgetIdeal (hReferenceForgetIdeal := hReferenceForgetIdeal)
    ∧ quiescent_ReferenceForgetIdeal_pre_finite_cumf (hReferenceForgetIdeal := hReferenceForgetIdeal) (hPre_finite_cumf := hPre_finite_cumf)
    ∧ quiescent_KernelNorm (hKernelNorm := hKernelNorm)
    ∧ quiescent_KernelNormIdeal (hKernelNormIdeal := hKernelNormIdeal)
    ∧ quiescent_KernelNormIdeal_pre_finite_norm (hKernelNormIdeal := hKernelNormIdeal) (hPre_finite_norm := hPre_finite_norm)
    ∧ quiescent_ReferenceNormIdeal (hReferenceNormIdeal := hReferenceNormIdeal)
    ∧ quiescent_ReferenceNormIdeal_pre_finite_norm (hReferenceNormIdeal := hReferenceNormIdeal) (hPre_finite_norm := hPre_finite_norm)
    ∧ quiescent_KernelGNorm (hKernelGNorm := hKernelGNorm)
    ∧ quiescent_KernelGNormIdeal (hKernelGNormIdeal := hKernelGNormIdeal)
    ∧ quiescent_KernelGNormIdeal_pre_finite_normg (hKernelGNormIdeal := hKernelGNormIdeal) (hPre_finite_normg := hPre_finite_normg)
    ∧ quiescent_ReferenceGNormIdeal (hReferenceGNormIdeal := hReferenceGNormIdeal)
    ∧ quiescent_ReferenceGNormIdeal_pre_finite_normg (hReferenceGNormIdeal := hReferenceGNormIdeal) (hPre_finite_normg := hPre_finite_normg)
    ∧ quiescent_KernelRelu2 (hKernelRelu2 := hKernelRelu2)
    ∧ quiescent_KernelRelu2Ideal (hKernelRelu2Ideal := hKernelRelu2Ideal)
    ∧ quiescent_ReferenceRelu2Ideal (hReferenceRelu2Ideal := hReferenceRelu2Ideal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelQkNorm (hKernelQkNorm := hKernelQkNorm)
    ∧ quiescent_KernelQkNormIdeal (hKernelQkNormIdeal := hKernelQkNormIdeal)
    ∧ quiescent_KernelQkNormIdeal_pre_finite_prep (hKernelQkNormIdeal := hKernelQkNormIdeal) (hPre_finite_prep := hPre_finite_prep)
    ∧ quiescent_ReferenceQkNormIdeal (hReferenceQkNormIdeal := hReferenceQkNormIdeal)
    ∧ quiescent_ReferenceQkNormIdeal_pre_finite_prep (hReferenceQkNormIdeal := hReferenceQkNormIdeal) (hPre_finite_prep := hPre_finite_prep)
    ∧ quiescent_KernelSgu (hKernelSgu := hKernelSgu)
    ∧ quiescent_KernelSguIdeal (hKernelSguIdeal := hKernelSguIdeal)
    ∧ quiescent_KernelNormFwd (hKernelNormFwd := hKernelNormFwd)
    ∧ quiescent_KernelNormFwdIdeal (hKernelNormFwdIdeal := hKernelNormFwdIdeal)
    ∧ quiescent_ReferenceNormFwdIdeal (hReferenceNormFwdIdeal := hReferenceNormFwdIdeal)
    ∧ quiescent_KernelResidFwd (hKernelResidFwd := hKernelResidFwd)
    ∧ quiescent_KernelResidFwdIdeal (hKernelResidFwdIdeal := hKernelResidFwdIdeal)
    ∧ quiescent_ReferenceResidFwdIdeal (hReferenceResidFwdIdeal := hReferenceResidFwdIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelQkFwd (hKernelQkFwd := hKernelQkFwd)
    ∧ quiescent_KernelQkFwdIdeal (hKernelQkFwdIdeal := hKernelQkFwdIdeal)
    ∧ quiescent_ReferenceQkFwdIdeal (hReferenceQkFwdIdeal := hReferenceQkFwdIdeal)
    ∧ quiescent_KernelForgetFwd (hKernelForgetFwd := hKernelForgetFwd)
    ∧ quiescent_KernelForgetFwdIdeal (hKernelForgetFwdIdeal := hKernelForgetFwdIdeal)
    ∧ quiescent_ReferenceForgetFwdIdeal (hReferenceForgetFwdIdeal := hReferenceForgetFwdIdeal)
    ∧ quiescent_KernelAdaFwd (hKernelAdaFwd := hKernelAdaFwd)
    ∧ quiescent_KernelAdaFwdIdeal (hKernelAdaFwdIdeal := hKernelAdaFwdIdeal)
    ∧ quiescent_ReferenceAdaFwdIdeal (hReferenceAdaFwdIdeal := hReferenceAdaFwdIdeal)
    ∧ quiescent_KernelSguFwd (hKernelSguFwd := hKernelSguFwd)
    ∧ quiescent_KernelSguFwdIdeal (hKernelSguFwdIdeal := hKernelSguFwdIdeal)
    ∧ quiescent_ReferenceSguFwdIdeal (hReferenceSguFwdIdeal := hReferenceSguFwdIdeal)
    ∧ preserves_KernelLoss_KernelLossIdeal
    ∧ algebraic_KernelLossIdeal_ReferenceLossIdeal (hKernelLossIdeal := hKernelLossIdeal) (hReferenceLossIdeal := hReferenceLossIdeal)
    ∧ preserves_KernelStick_KernelStickIdeal
    ∧ algebraic_KernelStickIdeal_ReferenceStickIdeal_pre_finite_sb (hKernelStickIdeal := hKernelStickIdeal) (hReferenceStickIdeal := hReferenceStickIdeal) (hPre_finite_sb := hPre_finite_sb)
    ∧ preserves_KernelFox_KernelFoxIdeal
    ∧ algebraic_KernelFoxIdeal_ReferenceFoxIdeal_pre_finite_fox (hKernelFoxIdeal := hKernelFoxIdeal) (hReferenceFoxIdeal := hReferenceFoxIdeal) (hPre_finite_fox := hPre_finite_fox)
    ∧ preserves_KernelForget_KernelForgetIdeal
    ∧ algebraic_KernelForgetIdeal_ReferenceForgetIdeal_pre_finite_cumf (hKernelForgetIdeal := hKernelForgetIdeal) (hReferenceForgetIdeal := hReferenceForgetIdeal) (hPre_finite_cumf := hPre_finite_cumf)
    ∧ preserves_KernelNorm_KernelNormIdeal
    ∧ algebraic_KernelNormIdeal_ReferenceNormIdeal_pre_finite_norm (hKernelNormIdeal := hKernelNormIdeal) (hReferenceNormIdeal := hReferenceNormIdeal) (hPre_finite_norm := hPre_finite_norm)
    ∧ preserves_KernelGNorm_KernelGNormIdeal
    ∧ algebraic_KernelGNormIdeal_ReferenceGNormIdeal_pre_finite_normg (hKernelGNormIdeal := hKernelGNormIdeal) (hReferenceGNormIdeal := hReferenceGNormIdeal) (hPre_finite_normg := hPre_finite_normg)
    ∧ preserves_KernelRelu2_KernelRelu2Ideal
    ∧ algebraic_KernelRelu2Ideal_ReferenceRelu2Ideal (hKernelRelu2Ideal := hKernelRelu2Ideal) (hReferenceRelu2Ideal := hReferenceRelu2Ideal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelQkNorm_KernelQkNormIdeal
    ∧ algebraic_KernelQkNormIdeal_ReferenceQkNormIdeal_pre_finite_prep (hKernelQkNormIdeal := hKernelQkNormIdeal) (hReferenceQkNormIdeal := hReferenceQkNormIdeal) (hPre_finite_prep := hPre_finite_prep)
    ∧ preserves_KernelSgu_KernelSguIdeal
    ∧ preserves_KernelNormFwd_KernelNormFwdIdeal
    ∧ algebraic_KernelNormFwdIdeal_ReferenceNormFwdIdeal (hKernelNormFwdIdeal := hKernelNormFwdIdeal) (hReferenceNormFwdIdeal := hReferenceNormFwdIdeal)
    ∧ preserves_KernelResidFwd_KernelResidFwdIdeal
    ∧ algebraic_KernelResidFwdIdeal_ReferenceResidFwdIdeal (hKernelResidFwdIdeal := hKernelResidFwdIdeal) (hReferenceResidFwdIdeal := hReferenceResidFwdIdeal)
    ∧ preserves_KernelUp_KernelUpIdeal
    ∧ algebraic_KernelUpIdeal_ReferenceUpIdeal (hKernelUpIdeal := hKernelUpIdeal) (hReferenceUpIdeal := hReferenceUpIdeal)
    ∧ preserves_KernelQkFwd_KernelQkFwdIdeal
    ∧ algebraic_KernelQkFwdIdeal_ReferenceQkFwdIdeal (hKernelQkFwdIdeal := hKernelQkFwdIdeal) (hReferenceQkFwdIdeal := hReferenceQkFwdIdeal)
    ∧ preserves_KernelForgetFwd_KernelForgetFwdIdeal
    ∧ algebraic_KernelForgetFwdIdeal_ReferenceForgetFwdIdeal (hKernelForgetFwdIdeal := hKernelForgetFwdIdeal) (hReferenceForgetFwdIdeal := hReferenceForgetFwdIdeal)
    ∧ preserves_KernelAdaFwd_KernelAdaFwdIdeal
    ∧ algebraic_KernelAdaFwdIdeal_ReferenceAdaFwdIdeal (hKernelAdaFwdIdeal := hKernelAdaFwdIdeal) (hReferenceAdaFwdIdeal := hReferenceAdaFwdIdeal)
    ∧ preserves_KernelSguFwd_KernelSguFwdIdeal
    ∧ algebraic_KernelSguFwdIdeal_ReferenceSguFwdIdeal (hKernelSguFwdIdeal := hKernelSguFwdIdeal) (hReferenceSguFwdIdeal := hReferenceSguFwdIdeal)
-- ==== Pre_finite_cumf.lean ====
abbrev S8192x2824 : Shape := ⟨2, ![8192, 2824]⟩
abbrev S8 : Shape := ⟨1, ![8]⟩
abbrev S8192x8 : Shape := ⟨2, ![8192, 8]⟩
abbrev S_ : Shape := ⟨0, ![]⟩

class Facts : Prop where
  bcast_S_S8192x8 : S_.BroadcastsInDim S8192x8 (![] : Fin 0 → Fin S8192x8.rank)
  reducesTo_S8192x8_S_d0_1 : S8192x8.ReducesTo [0, 1] S_
  h_S_ : 0 < S_.numel

variable [Facts]

def fn {F : FTy → Type} [FloatOps F] (main_arg0 : FVec F S8192x2824 .f32) (main_arg1 : FVec F S8 .f32) (main_arg2 : FVec F S8192x8 .f32) : IVec S_ 1 :=
  let main_v0 : FVec F S8192x8 .f32 := Host.absf main_arg2
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  let main_c : IVec S_ 1 := constantI S_ 1 1#1
  let main_v3 : IVec S_ 1 := (fun x v => Host.reduce IntOp.andi x v reducesTo_S8192x8_S_d0_1 h_S_) main_v2 main_c
  main_v3
-- ==== Pre_finite_fox.lean ====
abbrev S8192x2824 : Shape := ⟨2, ![8192, 2824]⟩
abbrev S8192x512 : Shape := ⟨2, ![8192, 512]⟩
abbrev S8192x8 : Shape := ⟨2, ![8192, 8]⟩
abbrev S8192x1024 : Shape := ⟨2, ![8192, 1024]⟩
abbrev S_ : Shape := ⟨0, ![]⟩

class Facts : Prop where
  bcast_S_S8192x2824 : S_.BroadcastsInDim S8192x2824 (![] : Fin 0 → Fin S8192x2824.rank)
  reducesTo_S8192x2824_S_d0_1 : S8192x2824.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x8 : S_.BroadcastsInDim S8192x8 (![] : Fin 0 → Fin S8192x8.rank)
  reducesTo_S8192x8_S_d0_1 : S8192x8.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x2824 .f32) (main_arg1 : FVec F S8192x512 .f32) (main_arg2 : FVec F S8192x512 .f32) (main_arg3 : FVec F S8192x8 .f32) (main_arg4 : FVec F S8192x1024 .f32) : IVec S_ 1 :=
  let main_v0 : FVec F S8192x2824 .f32 := Host.absf main_arg0
  let main_cst : FVec F S_ .f32 := constant S_ .f32 0x7F800000#32
  let main_v1 : FVec F S8192x2824 .f32 := broadcastInDim S8192x2824 ![] bcast_S_S8192x2824 main_cst
  let main_v2 : IVec S8192x2824 1 := cmpf .olt main_v0 main_v1
  let main_c : IVec S_ 1 := constantI S_ 1 1#1
  let main_v3 : IVec S_ 1 := (fun x v => Host.reduce IntOp.andi x v reducesTo_S8192x2824_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_v13 main_v16
-- ==== Pre_finite_norm.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S8192x1024 .f32) (main_arg3 : FVec F S1024 .f32) (main_arg4 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite_normg.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_arg6 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1x1024 .f32 := Host.absf main_arg6
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1x1024 .f32) (main_arg3 : FVec F S8192x1024 .f32) (main_arg4 : FVec F S8192x1024 .f32) (main_arg5 : FVec F S1024 .f32) (main_arg6 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg5 main_arg6 main_v13 main_v16
-- ==== Pre_finite_prep.lean ====
abbrev S8192x2824 : Shape := ⟨2, ![8192, 2824]⟩
abbrev S8192x512 : Shape := ⟨2, ![8192, 512]⟩
abbrev S64 : Shape := ⟨1, ![64]⟩
abbrev S_ : Shape := ⟨0, ![]⟩

class Facts : Prop where
  bcast_S_S8192x2824 : S_.BroadcastsInDim S8192x2824 (![] : Fin 0 → Fin S8192x2824.rank)
  reducesTo_S8192x2824_S_d0_1 : S8192x2824.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x2824 .f32) (main_arg1 : FVec F S8192x512 .f32) (main_arg2 : FVec F S8192x512 .f32) (main_arg3 : FVec F S64 .f32) (main_arg4 : FVec F S64 .f32) : IVec S_ 1 :=
  let main_v0 : FVec F S8192x2824 .f32 := Host.absf main_arg0
  let main_cst : FVec F S_ .f32 := constant S_ .f32 0x7F800000#32
  let main_v1 : FVec F S8192x2824 .f32 := broadcastInDim S8192x2824 ![] bcast_S_S8192x2824 main_cst
  let main_v2 : IVec S8192x2824 1 := cmpf .olt main_v0 main_v1
  let main_c : IVec S_ 1 := constantI S_ 1 1#1
  let main_v3 : IVec S_ 1 := (fun x v => Host.reduce IntOp.andi x v reducesTo_S8192x2824_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Pre_finite_sb.lean ====
abbrev S8192x2824 : Shape := ⟨2, ![8192, 2824]⟩
abbrev S8192x1024 : Shape := ⟨2, ![8192, 1024]⟩
abbrev S_ : Shape := ⟨0, ![]⟩

class Facts : Prop where
  bcast_S_S8192x2824 : S_.BroadcastsInDim S8192x2824 (![] : Fin 0 → Fin S8192x2824.rank)
  reducesTo_S8192x2824_S_d0_1 : S8192x2824.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x2824 .f32) (main_arg1 : FVec F S8192x1024 .f32) : IVec S_ 1 :=
  let main_v0 : FVec F S8192x2824 .f32 := Host.absf main_arg0
  let main_cst : FVec F S_ .f32 := constant S_ .f32 0x7F800000#32
  let main_v1 : FVec F S8192x2824 .f32 := broadcastInDim S8192x2824 ![] bcast_S_S8192x2824 main_cst
  let main_v2 : IVec S8192x2824 1 := cmpf .olt main_v0 main_v1
  let main_c : IVec S_ 1 := constantI S_ 1 1#1
  let main_v3 : IVec S_ 1 := (fun x v => Host.reduce IntOp.andi x v reducesTo_S8192x2824_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== KernelLoss.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceLossIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S1024 : Shape := ⟨1, ![1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelStick.lean ====
abbrev S8192x2824 : Shape := ⟨2, ![8192, 2824]⟩
abbrev S8192x1024 : Shape := ⟨2, ![8192, 1024]⟩
abbrev S8192x256 : Shape := ⟨2, ![8192, 256]⟩
abbrev S8192x4x64 : Shape := ⟨3, ![8192, 4, 64]⟩
abbrev S4x8192x64 : Shape := ⟨3, ![4, 8192, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S8192x4 : Shape := ⟨2, ![8192, 4]⟩
abbrev S8192x4x1 : Shape := ⟨3, ![8192, 4, 1]⟩
abbrev S2x32x8x128 : Shape := ⟨4, ![2, 32, 8, 128]⟩
abbrev S8192x248 : Shape := ⟨2, ![8192, 248]⟩
abbrev S8192x2304 : Shape := ⟨2, ![8192, 2304]⟩
abbrev S8192x512 : Shape := ⟨2, ![8192, 512]⟩
abbrev S8192x8 : Shape := ⟨2, ![8192, 8]⟩
abbrev S8192x3072 : Shape := ⟨2, ![8192, 3072]⟩
abbrev S256x128 : Shape := ⟨2, ![256, 128]⟩
abbrev S8192x128 : Shape := ⟨2, ![8192, 128]⟩
abbrev S1x1x8x128 : Shape := ⟨4, ![1, 1, 8, 128]⟩
abbrev S1x128 : Shape := ⟨2, ![1, 128]⟩
abbrev S256x256 : Shape := ⟨2, ![256, 256]⟩
abbrev S512x128 : Shape := ⟨2, ![512, 128]⟩
abbrev S512x256 : Shape := ⟨2, ![512, 256]⟩
abbrev S1x1x1x8x128 : Shape := ⟨5, ![1, 1, 1, 8, 128]⟩
abbrev S1 : Shape := ⟨1, ![1]⟩
abbrev S1x1x1x1x1 : Shape := ⟨5, ![1, 1, 1, 1, 1]⟩
abbrev S256x1 : Shape := ⟨2, ![256, 1]⟩
abbrev S512x1 : Shape := ⟨2, ![512, 1]⟩
abbrev S512 : Shape := ⟨1, ![512]⟩

abbrev nBuf : Space → Nat
  | .hbm => 57
  | .vmem => 18
  | .smem => 0
  | _ => 0

abbrev bufTy : (tb : Table) → Fin (tcTables nBuf tb) → BufTy
  | .hbm, ⟨0, _⟩ => ⟨S8192x2824, .f32⟩
  | .hbm, ⟨1, _⟩ => ⟨S8192x1024, .f32⟩
  | .hbm, ⟨2, _⟩ => ⟨S8192x256, .f32⟩
  | .hbm, ⟨3, _⟩ => ⟨S8192x4x64, .f32⟩
  | .hbm, ⟨4, _⟩ => ⟨S4x8192x64, .f32⟩
  | .hbm, ⟨5, _⟩ => ⟨S8192x256, .f32⟩
  | .hbm, ⟨6, _⟩ => ⟨S8192x4x64, .f32⟩
  | .hbm, ⟨7, _⟩ => ⟨S4x8192x64, .f32⟩
  | .hbm, ⟨8, _⟩ => ⟨S4x8192x8192, .f32⟩
  | .hbm, ⟨9, _⟩ => ⟨S_, .f32⟩
  | .hbm, ⟨10, _⟩ => ⟨S4x8192x8192, .f32⟩
  | .hbm, ⟨11, _⟩ => ⟨S4x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S4x8192x8192, .i1⟩
  | .hbm, ⟨26, _⟩ => ⟨S4x8192x8192, .f32⟩
  | .hbm, ⟨27, _⟩ => ⟨S4x8192x8192, .f32⟩
  | .hbm, ⟨28, _⟩ => ⟨S4x8192x8192, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S_, .f32⟩
  | .hbm, ⟨36, _⟩ => ⟨S_, .f32⟩
  | .hbm, ⟨37, _⟩ => ⟨S4x8192x8192, .i1⟩
  | .hbm, ⟨38, _⟩ => ⟨S4x8192x8192, .f32⟩
  | .hbm, ⟨39, _⟩ => ⟨S4x8192x8192, .f32⟩
  | .hbm, ⟨40, _⟩ => ⟨S_, .f32⟩
  | .hbm, ⟨41, _⟩ => ⟨S4x8192, .f32⟩
  | .hbm, ⟨42, _⟩ => ⟨S8192x4, .f32⟩
  | .hbm, ⟨43, _⟩ => ⟨S8192x4x1, .f32⟩
  | .hbm, ⟨44, _⟩ => ⟨S8192x4x64, .f32⟩
  | .hbm, ⟨45, _⟩ => ⟨S8192x256, .f32⟩
  | .hbm, ⟨46, _⟩ => ⟨S_, .f32⟩
  | .hbm, ⟨47, _⟩ => ⟨S2x32x8x128, .f32⟩
  | .hbm, ⟨48, _⟩ => ⟨S_, .f32⟩
  | .hbm, ⟨49, _⟩ => ⟨S8192x248, .f32⟩
  | .hbm, ⟨50, _⟩ => ⟨S8192x2304, .f32⟩
  | .hbm, ⟨51, _⟩ => ⟨S8192x512, .f32⟩
  | .hbm, ⟨52, _⟩ => ⟨S8192x8, .f32⟩
  | .hbm, ⟨53, _⟩ => ⟨S8192x3072, .f32⟩
  | .hbm, ⟨54, _⟩ => ⟨S8192x256, .f32⟩
  | .hbm, ⟨55, _⟩ => ⟨S8192x256, .f32⟩
  | .hbm, ⟨56, _⟩ => ⟨S8192x256, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x1x8x128, .f32⟩
  | .local _ .vmem, ⟨11, _⟩ => ⟨S1x1x8x128, .f32⟩
  | .local _ .vmem, ⟨12, _⟩ => ⟨S256x128, .f32⟩
  | .local _ .vmem, ⟨13, _⟩ => ⟨S256x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | _, _ => ⟨S8192x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_v29_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

@[reducible] def k0_t1_loop (i : grid0.Coords) (v54 : BitVec 32) : Scf.Loop 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let v67 : BitVec 32 := Scalar.subi arg1 v66
  let c1_i32_20 : BitVec 32 := 1#32
  let v69 : BitVec 32 := Scalar.divsi v67 c1_i32_20
  let v70 : BitVec 32 := Scalar.muli v69 c1_i32_20
  let v71 : BitVec 32 := Scalar.addi v66 v70
  let c1_i32_21 : BitVec 32 := 1#32
  ⟨v66, v71, c1_i32_21⟩

def k0_mult1 (i : grid0.Coords) (v54 : BitVec 32) (k0_t1 : Fin (k0_t1_loop i v54).trips) : BitVec 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let c1_i32_21 : BitVec 32 := 1#32
  let arg11 : BitVec 32 := Scf.iv v66 c1_i32_21 k0_t1
  let c256_i32_57 : BitVec 32 := 256#32
  let v178 : BitVec 32 := Scalar.muli arg11 c256_i32_57
  v178
def k0_off1 (i : grid0.Coords) (v54 : BitVec 32) (k0_t1 : Fin (k0_t1_loop i v54).trips) : Fin 2 → Nat :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let c1_i32_21 : BitVec 32 := 1#32
  let arg11 : BitVec 32 := Scf.iv v66 c1_i32_21 k0_t1
  let c256_i32_57 : BitVec 32 := 256#32
  let v178 : BitVec 32 := Scalar.muli arg11 c256_i32_57
  let v179 : BitVec 32 := v178
  let v180 : Index := Scalar.indexCast v179
  let c0_58 : Index := 0#32
  ![v180.toNat, 0]
def k0_mult2 (i : grid0.Coords) (v54 : BitVec 32) (k0_t1 : Fin (k0_t1_loop i v54).trips) : BitVec 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let c1_i32_21 : BitVec 32 := 1#32
  let arg11 : BitVec 32 := Scf.iv v66 c1_i32_21 k0_t1
  let c256_i32_60 : BitVec 32 := 256#32
  let v185 : BitVec 32 := Scalar.muli arg11 c256_i32_60
  v185
def k0_mult3 (i : grid0.Coords) (v54 : BitVec 32) (k0_t1 : Fin (k0_t1_loop i v54).trips) : BitVec 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let c1_i32_21 : BitVec 32 := 1#32
  let arg11 : BitVec 32 := Scf.iv v66 c1_i32_21 k0_t1
  let c256_i32_75 : BitVec 32 := 256#32
  let v241 : BitVec 32 := Scalar.muli arg11 c256_i32_75
  v241
def k0_mult4 (i : grid0.Coords) (v54 : BitVec 32) (k0_t1 : Fin (k0_t1_loop i v54).trips) : BitVec 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let c1_i32_21 : BitVec 32 := 1#32
  let arg11 : BitVec 32 := Scf.iv v66 c1_i32_21 k0_t1
  let c256_i32_79 : BitVec 32 := 256#32
  let v250 : BitVec 32 := Scalar.muli arg11 c256_i32_79
  v250
def k0_mult5 (i : grid0.Coords) (v54 : BitVec 32) (k0_t1 : Fin (k0_t1_loop i v54).trips) : BitVec 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let c1_i32_21 : BitVec 32 := 1#32
  let arg11 : BitVec 32 := Scf.iv v66 c1_i32_21 k0_t1
  let c256_i32_85 : BitVec 32 := 256#32
  let v266 : BitVec 32 := Scalar.muli arg11 c256_i32_85
  v266
@[reducible] def k0_t2_loop (i : grid0.Coords) (v54 : BitVec 32) : Scf.Loop 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let v67 : BitVec 32 := Scalar.subi arg1 v66
  let c1_i32_20 : BitVec 32 := 1#32
  let v69 : BitVec 32 := Scalar.divsi v67 c1_i32_20
  let v70 : BitVec 32 := Scalar.muli v69 c1_i32_20
  let v71 : BitVec 32 := Scalar.addi v66 v70
  let v68 : BitVec 32 := Scalar.addi v66 v67
  let c1_i32_22 : BitVec 32 := 1#32
  ⟨v71, v68, c1_i32_22⟩
def k0_mult6 (i : grid0.Coords) (v54 : BitVec 32) (k0_t2 : Fin (k0_t2_loop i v54).trips) : BitVec 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let v67 : BitVec 32 := Scalar.subi arg1 v66
  let c1_i32_20 : BitVec 32 := 1#32
  let v69 : BitVec 32 := Scalar.divsi v67 c1_i32_20
  let v70 : BitVec 32 := Scalar.muli v69 c1_i32_20
  let v71 : BitVec 32 := Scalar.addi v66 v70
  let c1_i32_22 : BitVec 32 := 1#32
  let arg11 : BitVec 32 := Scf.iv v71 c1_i32_22 k0_t2
  let c256_i32_57 : BitVec 32 := 256#32
  let v178 : BitVec 32 := Scalar.muli arg11 c256_i32_57
  v178
def k0_off2 (i : grid0.Coords) (v54 : BitVec 32) (k0_t2 : Fin (k0_t2_loop i v54).trips) : Fin 2 → Nat :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let v67 : BitVec 32 := Scalar.subi arg1 v66
  let c1_i32_20 : BitVec 32 := 1#32
  let v69 : BitVec 32 := Scalar.divsi v67 c1_i32_20
  let v70 : BitVec 32 := Scalar.muli v69 c1_i32_20
  let v71 : BitVec 32 := Scalar.addi v66 v70
  let c1_i32_22 : BitVec 32 := 1#32
  let arg11 : BitVec 32 := Scf.iv v71 c1_i32_22 k0_t2
  let c256_i32_57 : BitVec 32 := 256#32
  let v178 : BitVec 32 := Scalar.muli arg11 c256_i32_57
  let v179 : BitVec 32 := v178
  let v180 : Index := Scalar.indexCast v179
  let c0_58 : Index := 0#32
  ![v180.toNat, 0]
def k0_mult7 (i : grid0.Coords) (v54 : BitVec 32) (k0_t2 : Fin (k0_t2_loop i v54).trips) : BitVec 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let v67 : BitVec 32 := Scalar.subi arg1 v66
  let c1_i32_20 : BitVec 32 := 1#32
  let v69 : BitVec 32 := Scalar.divsi v67 c1_i32_20
  let v70 : BitVec 32 := Scalar.muli v69 c1_i32_20
  let v71 : BitVec 32 := Scalar.addi v66 v70
  let c1_i32_22 : BitVec 32 := 1#32
  let arg11 : BitVec 32 := Scf.iv v71 c1_i32_22 k0_t2
  let c256_i32_60 : BitVec 32 := 256#32
  let v185 : BitVec 32 := Scalar.muli arg11 c256_i32_60
  v185
def k0_mult8 (i : grid0.Coords) (v54 : BitVec 32) (k0_t2 : Fin (k0_t2_loop i v54).trips) : BitVec 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let v67 : BitVec 32 := Scalar.subi arg1 v66
  let c1_i32_20 : BitVec 32 := 1#32
  let v69 : BitVec 32 := Scalar.divsi v67 c1_i32_20
  let v70 : BitVec 32 := Scalar.muli v69 c1_i32_20
  let v71 : BitVec 32 := Scalar.addi v66 v70
  let c1_i32_22 : BitVec 32 := 1#32
  let arg11 : BitVec 32 := Scf.iv v71 c1_i32_22 k0_t2
  let c256_i32_75 : BitVec 32 := 256#32
  let v241 : BitVec 32 := Scalar.muli arg11 c256_i32_75
  v241
def k0_mult9 (i : grid0.Coords) (v54 : BitVec 32) (k0_t2 : Fin (k0_t2_loop i v54).trips) : BitVec 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let v67 : BitVec 32 := Scalar.subi arg1 v66
  let c1_i32_20 : BitVec 32 := 1#32
  let v69 : BitVec 32 := Scalar.divsi v67 c1_i32_20
  let v70 : BitVec 32 := Scalar.muli v69 c1_i32_20
  let v71 : BitVec 32 := Scalar.addi v66 v70
  let c1_i32_22 : BitVec 32 := 1#32
  let arg11 : BitVec 32 := Scf.iv v71 c1_i32_22 k0_t2
  let c256_i32_79 : BitVec 32 := 256#32
  let v250 : BitVec 32 := Scalar.muli arg11 c256_i32_79
  v250
def k0_mult10 (i : grid0.Coords) (v54 : BitVec 32) (k0_t2 : Fin (k0_t2_loop i v54).trips) : BitVec 32 :=
  let arg1 : BitVec 32 := BitVec.ofNat 32 (i 1).val
  let c1_i32 : BitVec 32 := 1#32
  let v55 : BitVec 32 := Scalar.subi arg1 c1_i32
  let c_m1_i32 : BitVec 32 := 4294967295#32
  let v56 : BitVec 32 := Scalar.maxsi c_m1_i32 v54
  let v57 : BitVec 32 := Scalar.minsi v55 v56
  let c1_i32_19 : BitVec 32 := 1#32
  let v66 : BitVec 32 := Scalar.addi v57 c1_i32_19
  let v67 : BitVec 32 := Scalar.subi arg1 v66
  let c1_i32_20 : BitVec 32 := 1#32
  let v69 : BitVec 32 := Scalar.divsi v67 c1_i32_20
  let v70 : BitVec 32 := Scalar.muli v69 c1_i32_20
  let v71 : BitVec 32 := Scalar.addi v66 v70
  let c1_i32_22 : BitVec 32 := 1#32
  let arg11 : BitVec 32 := Scf.iv v71 c1_i32_22 k0_t2
  let c256_i32_85 : BitVec 32 := 256#32
  let v266 : BitVec 32 := Scalar.muli arg11 c256_i32_85
  v266

def k0_chk1 (i : grid0.Coords) (v54 : BitVec 32) : Prop :=
  ((k0_t1_loop i v54).OK) ∧
  (∀ k0_t1 : Fin (k0_t1_loop i v54).trips, 256 ∣ (k0_mult1 i v54 k0_t1).toNat) ∧
  (∀ k0_t1 : Fin (k0_t1_loop i v54).trips, ∀ a, (k0_off1 i v54 k0_t1) a + S256x128.size a ≤ S8192x128.size a) ∧
  (∀ k0_t1 : Fin (k0_t1_loop i v54).trips, 256 ∣ (k0_mult2 i v54 k0_t1).toNat) ∧
  (∀ k0_t1 : Fin (k0_t1_loop i v54).trips, 256 ∣ (k0_mult3 i v54 k0_t1).toNat) ∧
  (∀ k0_t1 : Fin (k0_t1_loop i v54).trips, 256 ∣ (k0_mult4 i v54 k0_t1).toNat) ∧
  (∀ k0_t1 : Fin (k0_t1_loop i v54).trips, 256 ∣ (k0_mult5 i v54 k0_t1).toNat) ∧
  ((k0_t2_loop i v54).OK) ∧
  (∀ k0_t2 : Fin (k0_t2_loop i v54).trips, 256 ∣ (k0_mult6 i v54 k0_t2).toNat) ∧
  (∀ k0_t2 : Fin (k0_t2_loop i v54).trips, ∀ a, (k0_off2 i v54 k0_t2) a + S256x128.size a ≤ S8192x128.size a) ∧
  (∀ k0_t2 : Fin (k0_t2_loop i v54).trips, 256 ∣ (k0_mult7 i v54 k0_t2).toNat) ∧
  (∀ k0_t2 : Fin (k0_t2_loop i v54).trips, 256 ∣ (k0_mult8 i v54 k0_t2).toNat) ∧
  (∀ k0_t2 : Fin (k0_t2_loop i v54).trips, 256 ∣ (k0_mult9 i v54 k0_t2).toNat) ∧
  (∀ k0_t2 : Fin (k0_t2_loop i v54).trips, 256 ∣ (k0_mult10 i v54 k0_t2).toNat)
theorem k0_t1_ok : ∀ (i : grid0.Coords) (v54 : BitVec 32) (k0_hw1 : k0_chk1 i v54), (k0_t1_loop i v54).OK := fun i v54 k0_hw1 => k0_hw1.1
theorem k0_mult1_dvd : ∀ (i : grid0.Coords) (v54 : BitVec 32) (k0_hw1 : k0_chk1 i v54) (k0_t1 : Fin (k0_t1_loop i v54).trips), 256 ∣ (k0_mult1 i v54 k0_t1).toNat := fun i v54 k0_hw1 k0_t1 => k0_hw1.2.1 k0_t1
theorem k0_off1_inb : ∀ (i : grid0.Coords) (v54 : BitVec 32) (k0_hw1 : k0_chk1 i v54) (k0_t1 : Fin (k0_t1_loop i v54).trips), ∀ a, (k0_off1 i v54 k0_t1) a + S256x128.size a ≤ S8192x128.size a := fun i v54 k0_hw1 k0_t1 => k0_hw1.2.2.1 k0_t1
theorem k0_mult2_dvd : ∀ (i : grid0.Coords) (v54 : BitVec 32) (k0_hw1 : k0_chk1 i v54) (k0_t1 : Fin (k0_t1_loop i v54).trips), 256 ∣ (k0_mult2 i v54 k0_t1).toNat := fun i v54 k0_hw1 k0_t1 => k0_hw1.2.2.2.1 k0_t1
theorem k0_mult3_dvd : ∀ (i : grid0.Coords) (v54 : BitVec 32) (k0_hw1 : k0_chk1 i v54) (k0_t1 : Fin (k0_t1_loop i v54).trips), 256 ∣ (k0_mult3 i v54 k0_t1).toNat := fun i v54 k0_hw1 k0_t1 => k0_hw1.2.2.2.2.1 k0_t1
theorem k0_mult4_dvd : ∀ (i : grid0.Coords) (v54 : BitVec 32) (k0_hw1 : k0_chk1 i v54) (k0_t1 : Fin (k0_t1_loop i v54).trips), 256 ∣ (k0_mult4 i v54 k0_t1).toNat := fun i v54 k0_hw1 k0_t1 => k0_hw1.2.2.2.2.2.1 k0_t1
theorem k0_mult5_dvd : ∀ (i : grid0.Coords) (v54 : BitVec 32) (k0_hw1 : k0_chk1 i v54) (k0_t1 : Fin (k0_t1_loop i v54).trips), 256 ∣ (k0_mult5 i v54 k0_t1).toNat := fun i v54 k0_hw1 k0_t1 => k0_hw1.2.2.2.2.2.2.1 k0_t1
theorem k0_t2_ok : ∀ (i : grid0.Coords) (v54 : BitVec 32) (k0_hw1 : k0_chk1 i v54), (k0_t2_loop i v54).OK := fun i v54 k0_hw1 => k0_hw1.2.2.2.2.2.2.2.1
theorem k0_mult6_dvd : ∀ (i : grid0.Coords) (v54 : BitVec 32) (k0_hw1 : k0_chk1 i v54) (k0_t2 : Fin (k0_t2_loop i v54).trips), 256 ∣ (k0_mult6 i v54 k0_t2).toNat := fun i v54 k0_hw1 k0_t2 => k0_hw1.2.2.2.2.2.2.2.2.1 k0_t2
theorem k0_off2_inb : ∀ (i : grid0.Coords) (v54 : BitVec 32) (k0_hw1 : k0_chk1 i v54) (k0_t2 : Fin (k0_t2_loop i v54).trips), ∀ a, (k0_off2 i v54 k0_t2) a + S256x128.size a ≤ S8192x128.size a := fun i v54 k0_hw1 k0_t2 => k0_hw1.2.2.2.2.2.2.2.2.2.1 k0_t2
theorem k0_mult7_dvd : ∀ (i : grid0.Coords) (v54 : BitVec 32) (k0_hw1 : k0_chk1 i v54) (k0_t2 : Fin (k0_t2_loop i v54).trips), 256 ∣ (k0_mult7 i v54 k0_t2).toNat := fun i v54 k0_hw1 k0_t2 => k0_hw1.2.2.2.2.2.2.2.2.2.2.1 k0_t2
theorem k0_mult8_dvd : ∀ (i : grid0.Coords) (v54 : BitVec 32) (k0_hw1 : k0_chk1 i v54) (k0_t2 : Fin (k0_t2_loop i v54).trips), 256 ∣ (k0_mult8 i v54 k0_t2).toNat := fun i v54 k0_hw1 k0_t2 => k0_hw1.2.2.2.2.2.2.2.2.2.2.2.1 k0_t2
theorem k0_mult9_dvd : ∀ (i : grid0.Coords) (v54 : BitVec 32) (k0_hw1 : k0_chk1 i v54) (k0_t2 : Fin (k0_t2_loop i v54).trips), 256 ∣ (k0_mult9 i v54 k0_t2).toNat := fun i v54 k0_hw1 k0_t2 => k0_hw1.2.2.2.2.2.2.2.2.2.2.2.2.1 k0_t2
theorem k0_mult10_dvd : ∀ (i : grid0.Coords) (v54 : BitVec 32) (k0_hw1 : k0_chk1 i v54) (k0_t2 : Fin (k0_t2_loop i v54).trips), 256 ∣ (k0_mult10 i v54 k0_t2).toNat := fun i v54 k0_hw1 k0_t2 => k0_hw1.2.2.2.2.2.2.2.2.2.2.2.2.2 k0_t2

def k0_mult11 (i : grid0.Coords) : BitVec 32 :=
  let arg1 : BitVec 32 := BitVec.ofNat 32 (i 1).val
  let c256_i32 : BitVec 32 := 256#32
  let v74 : BitVec 32 := Scalar.muli arg1 c256_i32
  v74
def k0_off3 (i : grid0.Coords) : Fin 2 → Nat :=
  let arg1 : BitVec 32 := BitVec.ofNat 32 (i 1).val
  let c256_i32 : BitVec 32 := 256#32
  let v74 : BitVec 32 := Scalar.muli arg1 c256_i32
  let v75 : BitVec 32 := v74
  let v76 : Index := Scalar.indexCast v75
  let c0_23 : Index := 0#32
  ![v76.toNat, 0]
def k0_mult12 (i : grid0.Coords) : BitVec 32 :=
  let arg1 : BitVec 32 := BitVec.ofNat 32 (i 1).val
  let c256_i32_25 : BitVec 32 := 256#32
  let v81 : BitVec 32 := Scalar.muli arg1 c256_i32_25
  v81
def k0_mult13 (i : grid0.Coords) : BitVec 32 :=
  let arg1 : BitVec 32 := BitVec.ofNat 32 (i 1).val
  let c256_i32_43 : BitVec 32 := 256#32
  let v143 : BitVec 32 := Scalar.muli arg1 c256_i32_43
  v143
def k0_mult14 (i : grid0.Coords) : BitVec 32 :=
  let arg1 : BitVec 32 := BitVec.ofNat 32 (i 1).val
  let c256_i32_47 : BitVec 32 := 256#32
  let v152 : BitVec 32 := Scalar.muli arg1 c256_i32_47
  v152
def k0_mult15 (i : grid0.Coords) : BitVec 32 :=
  let arg1 : BitVec 32 := BitVec.ofNat 32 (i 1).val
  let c256_i32_51 : BitVec 32 := 256#32
  let v162 : BitVec 32 := Scalar.muli arg1 c256_i32_51
  v162
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceStickIdeal.lean ====
abbrev S8192x2824 : Shape := ⟨2, ![8192, 2824]⟩
abbrev S8192x1024 : Shape := ⟨2, ![8192, 1024]⟩
abbrev S8192x256 : Shape := ⟨2, ![8192, 256]⟩
abbrev S8192x4x64 : Shape := ⟨3, ![8192, 4, 64]⟩
abbrev S4x8192x64 : Shape := ⟨3, ![4, 8192, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x64x8192 : Shape := ⟨3, ![4, 64, 8192]⟩

abbrev nBuf : Space → Nat
  | .hbm => 178
  | .vmem => 0
  | .smem => 0
  | _ => 0

abbrev hbmTy0_0 (i : Nat) : BufTy := match i % 128 with
  | 0 => ⟨S8192x2824, .f32⟩
  | 1 => ⟨S8192x1024, .f32⟩
  | 2 => ⟨S8192x256, .f32⟩
  | 3 => ⟨S8192x256, .f32⟩
  | 4 => ⟨S8192x256, .f32⟩
  | 5 => ⟨S8192x4x64, .f32⟩
  | 6 => ⟨S4x8192x64, .f32⟩
  | 7 => ⟨S8192x4x64, .f32⟩
  | 8 => ⟨S4x8192x64, .f32⟩
  | 9 => ⟨S8192x4x64, .f32⟩
  | 10 => ⟨S4x8192x64, .f32⟩
  | 11 => ⟨S4x8192x8192, .f32⟩
  | 12 => ⟨S_, .f32⟩
  | 13 => ⟨S4x8192x8192, .f32⟩
  | 14 => ⟨S4x8192x8192, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i1⟩
  | 21 => ⟨S4x8192x8192, .f32⟩
  | 22 => ⟨S4x8192x8192, .f32⟩
  | 23 => ⟨S_, .f32⟩
  | 24 => ⟨S4x8192x8192, .f32⟩
  | 25 => ⟨S4x8192x8192, .f32⟩
  | 26 => ⟨S4x8192x8192, .f32⟩
  | 27 => ⟨S4x8192x8192, .f32⟩
  | 28 => ⟨S4x8192x8192, .i1⟩
  | 29 => ⟨S4x8192x8192, .f32⟩
  | 30 => ⟨S4x8192x8192, .f32⟩
  | 31 => ⟨S4x8192x8192, .f32⟩
  | 32 => ⟨S4x8192x8192, .f32⟩
  | 33 => ⟨S4x8192x8192, .f32⟩
  | 34 => ⟨S4x8192x8192, .f32⟩
  | 35 => ⟨S4x8192x8192, .f32⟩
  | 36 => ⟨S4x8192x8192, .f32⟩
  | 37 => ⟨S_, .f32⟩
  | 38 => ⟨S4x8192x8192, .f32⟩
  | 39 => ⟨S4x8192x8192, .i1⟩
  | 40 => ⟨S_, .f32⟩
  | 41 => ⟨S4x8192x8192, .f32⟩
  | 42 => ⟨S4x8192x8192, .f32⟩
  | 43 => ⟨S_, .f32⟩
  | 44 => ⟨S4x8192x8192, .f32⟩
  | 45 => ⟨S4x8192x8192, .i1⟩
  | 46 => ⟨S_, .f32⟩
  | 47 => ⟨S4x8192x8192, .f32⟩
  | 48 => ⟨S4x8192x8192, .f32⟩
  | 49 => ⟨S4x8192x8192, .f32⟩
  | 50 => ⟨S4x8192x8192, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S4x8192x8192, .f32⟩
  | 59 => ⟨S4x8192x8192, .i1⟩
  | 60 => ⟨S_, .f32⟩
  | 61 => ⟨S4x8192x8192, .f32⟩
  | 62 => ⟨S4x8192x8192, .f32⟩
  | 63 => ⟨S4x8192x8192, .f32⟩
  | 64 => ⟨S4x8192x8192, .f32⟩
  | 65 => ⟨S4x8192x8192, .f32⟩
  | 66 => ⟨S_, .f32⟩
  | 67 => ⟨S4x8192x8192, .f32⟩
  | 68 => ⟨S4x8192x8192, .f32⟩
  | 69 => ⟨S4x8192x8192, .f32⟩
  | 70 => ⟨S_, .f32⟩
  | 71 => ⟨S_, .f32⟩
  | 72 => ⟨S4x8192x8192, .i1⟩
  | 73 => ⟨S4x8192x8192, .f32⟩
  | 74 => ⟨S4x8192x8192, .f32⟩
  | 75 => ⟨S_, .f32⟩
  | 76 => ⟨S4x8192x8192, .f32⟩
  | 77 => ⟨S_, .f32⟩
  | 78 => ⟨S_, .f32⟩
  | 79 => ⟨S4x8192x8192, .f32⟩
  | 80 => ⟨S4x8192x8192, .f32⟩
  | 81 => ⟨S4x8192x8192, .f32⟩
  | 82 => ⟨S_, .f32⟩
  | 83 => ⟨S4x8192x8192, .f32⟩
  | 84 => ⟨S4x8192x8192, .f32⟩
  | 85 => ⟨S4x8192x8192, .f32⟩
  | 86 => ⟨S4x8192x8192, .f32⟩
  | 87 => ⟨S4x8192x8192, .i1⟩
  | 88 => ⟨S4x8192x8192, .f32⟩
  | 89 => ⟨S4x8192x8192, .f32⟩
  | 90 => ⟨S4x8192x8192, .f32⟩
  | 91 => ⟨S4x8192x8192, .f32⟩
  | 92 => ⟨S4x8192x8192, .f32⟩
  | 93 => ⟨S4x8192x8192, .f32⟩
  | 94 => ⟨S4x8192x8192, .f32⟩
  | 95 => ⟨S4x8192x8192, .f32⟩
  | 96 => ⟨S_, .f32⟩
  | 97 => ⟨S4x8192x8192, .f32⟩
  | 98 => ⟨S4x8192x8192, .i1⟩
  | 99 => ⟨S_, .f32⟩
  | 100 => ⟨S4x8192x8192, .f32⟩
  | 101 => ⟨S4x8192x8192, .f32⟩
  | 102 => ⟨S_, .f32⟩
  | 103 => ⟨S4x8192x8192, .f32⟩
  | 104 => ⟨S4x8192x8192, .i1⟩
  | 105 => ⟨S_, .f32⟩
  | 106 => ⟨S4x8192x8192, .f32⟩
  | 107 => ⟨S4x8192x8192, .f32⟩
  | 108 => ⟨S4x8192x8192, .f32⟩
  | 109 => ⟨S4x8192x8192, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S4x8192x8192, .f32⟩
  | 118 => ⟨S4x8192x8192, .i1⟩
  | 119 => ⟨S_, .f32⟩
  | 120 => ⟨S4x8192x8192, .f32⟩
  | 121 => ⟨S4x8192x8192, .f32⟩
  | 122 => ⟨S4x8192x8192, .f32⟩
  | 123 => ⟨S4x8192x8192, .f32⟩
  | 124 => ⟨S4x8192x8192, .f32⟩
  | 125 => ⟨S_, .f32⟩
  | 126 => ⟨S4x8192x8192, .f32⟩
  | 127 => ⟨S4x8192x8192, .f32⟩
  | _ => ⟨S8192x2824, .f32⟩

abbrev hbmTy0_1 (i : Nat) : BufTy := match i % 128 with
  | 0 => ⟨S4x8192x8192, .f32⟩
  | 1 => ⟨S4x8192x8192, .f32⟩
  | 2 => ⟨S4x8192x8192, .f32⟩
  | 3 => ⟨S_, .f32⟩
  | 4 => ⟨S_, .f32⟩
  | 5 => ⟨S4x8192x8192, .i1⟩
  | 6 => ⟨S4x8192x8192, .f32⟩
  | 7 => ⟨S4x8192x8192, .f32⟩
  | 8 => ⟨S_, .f32⟩
  | 9 => ⟨S4x8192x8192, .f32⟩
  | 10 => ⟨S4x8192x64, .f32⟩
  | 11 => ⟨S8192x4x64, .f32⟩
  | 12 => ⟨S8192x256, .f32⟩
  | 13 => ⟨S8192x256, .f32⟩
  | 14 => ⟨S8192x4x64, .f32⟩
  | 15 => ⟨S4x8192x64, .f32⟩
  | 16 => ⟨S4x64x8192, .f32⟩
  | 17 => ⟨S4x8192x64, .f32⟩
  | 18 => ⟨S4x8192x8192, .f32⟩
  | 19 => ⟨S_, .f32⟩
  | 20 => ⟨S4x8192x8192, .f32⟩
  | 21 => ⟨S4x8192x8192, .f32⟩
  | 22 => ⟨S4x8192x8192, .f32⟩
  | 23 => ⟨S4x8192x8192, .f32⟩
  | 24 => ⟨S4x8192x8192, .f32⟩
  | 25 => ⟨S4x8192x8192, .f32⟩
  | 26 => ⟨S4x8192x8192, .f32⟩
  | 27 => ⟨S_, .f32⟩
  | 28 => ⟨S_, .f32⟩
  | 29 => ⟨S4x8192x8192, .f32⟩
  | 30 => ⟨S4x8192x8192, .f32⟩
  | 31 => ⟨S_, .f32⟩
  | 32 => ⟨S4x8192x8192, .f32⟩
  | 33 => ⟨S4x8192x8192, .f32⟩
  | 34 => ⟨S4x8192x8192, .f32⟩
  | 35 => ⟨S4x8192x8192, .f32⟩
  | 36 => ⟨S4x8192x8192, .f32⟩
  | 37 => ⟨S4x8192x8192, .f32⟩
  | 38 => ⟨S4x8192x8192, .f32⟩
  | 39 => ⟨S_, .f32⟩
  | 40 => ⟨S4x8192x8192, .f32⟩
  | 41 => ⟨S4x8192x8192, .f32⟩
  | 42 => ⟨S4x8192x64, .f32⟩
  | 43 => ⟨S4x8192x64, .f32⟩
  | 44 => ⟨S8192x4x64, .f32⟩
  | 45 => ⟨S8192x256, .f32⟩
  | 46 => ⟨S8192x4x64, .f32⟩
  | 47 => ⟨S8192x256, .f32⟩
  | 48 => ⟨S8192x4x64, .f32⟩
  | 49 => ⟨S8192x256, .f32⟩
  | _ => ⟨S8192x2824, .f32⟩

abbrev hbmTy (i : Nat) : BufTy := match i / 128 with
  | 0 => hbmTy0_0 i
  | 1 => hbmTy0_1 i
  | _ => ⟨S8192x2824, .f32⟩

abbrev bufTy : (tb : Table) → Fin (tcTables nBuf tb) → BufTy
  | .hbm, ⟨i, _⟩ => hbmTy i
  | _, _ => ⟨S8192x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_call2_cst : Ref sig .tc := ⟨.hbm, 77, rfl⟩
abbrev main_call2_v0 : Ref sig .tc := ⟨.hbm, 78, rfl⟩
abbrev main_v21 : Ref sig .tc := ⟨.hbm, 79, rfl⟩
abbrev main_v22 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v23_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v23_2 : Ref sig .tc := ⟨.hbm, 127, rfl⟩
abbrev main_v23_0 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_call6_v0 : Ref sig .tc := ⟨.hbm, 151, rfl⟩
abbrev main_call6_v1 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_v41 : Ref sig .tc := ⟨.hbm, 158, rfl⟩
abbrev main_call8_cst : Ref sig .tc := ⟨.hbm, 159, rfl⟩
abbrev main_call8_v0 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩

abbrev nD : Nat := 1
abbrev τ : Topo := Topo.v7x

variable {F : FTy → Type} [FloatOps F]
-- ==== KernelFox.lean ====
abbrev S8192x2824 : Shape := ⟨2, ![8192, 2824]⟩
abbrev S8192x512 : Shape := ⟨2, ![8192, 512]⟩
abbrev S8192x8 : Shape := ⟨2, ![8192, 8]⟩
abbrev S8192x1024 : Shape := ⟨2, ![8192, 1024]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x128 : Shape := ⟨2, ![8192, 128]⟩
abbrev S1 : Shape := ⟨1, ![1]⟩
abbrev S8 : Shape := ⟨1, ![8]⟩
abbrev S8x1 : Shape := ⟨2, ![8, 1]⟩
abbrev S8x64 : Shape := ⟨2, ![8, 64]⟩
abbrev S1x512 : Shape := ⟨2, ![1, 512]⟩
abbrev S8192x248 : Shape := ⟨2, ![8192, 248]⟩
abbrev S8192x2304 : Shape := ⟨2, ![8192, 2304]⟩
abbrev S8192x3072 : Shape := ⟨2, ![8192, 3072]⟩
abbrev S4x2x8192 : Shape := ⟨3, ![4, 2, 8192]⟩
abbrev S256x128 : Shape := ⟨2, ![256, 128]⟩
abbrev S1x2x8192 : Shape := ⟨3, ![1, 2, 8192]⟩
abbrev S1x128 : Shape := ⟨2, ![1, 128]⟩
abbrev S256 : Shape := ⟨1, ![256]⟩
abbrev S256x1 : Shape := ⟨2, ![256, 1]⟩
abbrev S1x1 : Shape := ⟨2, ![1, 1]⟩
abbrev S256x256 : Shape := ⟨2, ![256, 256]⟩
abbrev S1x1x256 : Shape := ⟨3, ![1, 1, 256]⟩
abbrev S1x256 : Shape := ⟨2, ![1, 256]⟩
abbrev S1x256x1 : Shape := ⟨3, ![1, 256, 1]⟩
abbrev S1x1x1 : Shape := ⟨3, ![1, 1, 1]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S8192x8x1 : Shape := ⟨3, ![8192, 8, 1]⟩

abbrev nBuf : Space → Nat
  | .hbm => 88
  | .vmem => 28
  | .smem => 0
  | _ => 0

abbrev bufTy : (tb : Table) → Fin (tcTables nBuf tb) → BufTy
  | .hbm, ⟨0, _⟩ => ⟨S8192x2824, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x1024, .f32⟩
  | .hbm, ⟨5, _⟩ => ⟨S8192x8x64, .f32⟩
  | .hbm, ⟨6, _⟩ => ⟨S8x8192x64, .f32⟩
  | .hbm, ⟨7, _⟩ => ⟨S8192x8x64, .f32⟩
  | .hbm, ⟨8, _⟩ => ⟨S8x8192x64, .f32⟩
  | .hbm, ⟨9, _⟩ => ⟨S8192x512, .f32⟩
  | .hbm, ⟨10, _⟩ => ⟨S8192x8x64, .f32⟩
  | .hbm, ⟨11, _⟩ => ⟨S8x8192x64, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x8192, .f32⟩
  | .hbm, ⟨21, _⟩ => ⟨S8x1x8192, .f32⟩
  | .hbm, ⟨22, _⟩ => ⟨S8x8192x8192, .f32⟩
  | .hbm, ⟨23, _⟩ => ⟨S8x8192x8192, .f32⟩
  | .hbm, ⟨24, _⟩ => ⟨S8192, .i32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8x8192x8192, .i1⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x8192, .f32⟩
  | .hbm, ⟨45, _⟩ => ⟨S8x8192x8192, .f32⟩
  | .hbm, ⟨46, _⟩ => ⟨S8x8192x64, .f32⟩
  | .hbm, ⟨47, _⟩ => ⟨S8192x8x64, .f32⟩
  | .hbm, ⟨48, _⟩ => ⟨S8192x512, .f32⟩
  | .hbm, ⟨49, _⟩ => ⟨S8x8192x1, .f32⟩
  | .hbm, ⟨50, _⟩ => ⟨S8x8192x1, .f32⟩
  | .hbm, ⟨51, _⟩ => ⟨S8x8192x64, .f32⟩
  | .hbm, ⟨52, _⟩ => ⟨S8192x8x64, .f32⟩
  | .hbm, ⟨53, _⟩ => ⟨S8192x512, .f32⟩
  | .hbm, ⟨54, _⟩ => ⟨S_, .f32⟩
  | .hbm, ⟨55, _⟩ => ⟨S8192x128, .f32⟩
  | .hbm, ⟨56, _⟩ => ⟨S_, .i32⟩
  | .hbm, ⟨57, _⟩ => ⟨S1, .i32⟩
  | .hbm, ⟨58, _⟩ => ⟨S8192x128, .f32⟩
  | .hbm, ⟨59, _⟩ => ⟨S8x8192x64, .f32⟩
  | .hbm, ⟨60, _⟩ => ⟨S_, .f32⟩
  | .hbm, ⟨61, _⟩ => ⟨S8x8192, .f32⟩
  | .hbm, ⟨62, _⟩ => ⟨S8x8192, .f32⟩
  | .hbm, ⟨63, _⟩ => ⟨S_, .f32⟩
  | .hbm, ⟨64, _⟩ => ⟨S8, .f32⟩
  | .hbm, ⟨65, _⟩ => ⟨S8x1, .f32⟩
  | .hbm, ⟨66, _⟩ => ⟨S8x64, .f32⟩
  | .hbm, ⟨67, _⟩ => ⟨S1x512, .f32⟩
  | .hbm, ⟨68, _⟩ => ⟨S_, .f32⟩
  | .hbm, ⟨69, _⟩ => ⟨S8192x248, .f32⟩
  | .hbm, ⟨70, _⟩ => ⟨S8192x2304, .f32⟩
  | .hbm, ⟨71, _⟩ => ⟨S8192x512, .f32⟩
  | .hbm, ⟨72, _⟩ => ⟨S8192x8, .f32⟩
  | .hbm, ⟨73, _⟩ => ⟨S8192x3072, .f32⟩
  | .hbm, ⟨74, _⟩ => ⟨S8192x8, .f32⟩
  | .hbm, ⟨75, _⟩ => ⟨S8x8192, .f32⟩
  | .hbm, ⟨76, _⟩ => ⟨S4x2x8192, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S4x2x8192, .f32⟩
  | .hbm, ⟨81, _⟩ => ⟨S8192x512, .f32⟩
  | .hbm, ⟨82, _⟩ => ⟨S8x8192, .f32⟩
  | .hbm, ⟨83, _⟩ => ⟨S8192x8, .f32⟩
  | .hbm, ⟨84, _⟩ => ⟨S8192x8x64, .f32⟩
  | .hbm, ⟨85, _⟩ => ⟨S8192x8x1, .f32⟩
  | .hbm, ⟨86, _⟩ => ⟨S8192x8, .f32⟩
  | .hbm, ⟨87, _⟩ => ⟨S8192x8, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S256x128, .f32⟩
  | .local _ .vmem, ⟨7, _⟩ => ⟨S256x128, .f32⟩
  | .local _ .vmem, ⟨8, _⟩ => ⟨S1x2x8192, .f32⟩
  | .local _ .vmem, ⟨9, _⟩ => ⟨S1x2x8192, .f32⟩
  | .local _ .vmem, ⟨10, _⟩ => ⟨S1x128, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | .local _ .vmem, ⟨24, _⟩ => ⟨S1x2x8192, .f32⟩
  | .local _ .vmem, ⟨25, _⟩ => ⟨S1x2x8192, .f32⟩
  | .local _ .vmem, ⟨26, _⟩ => ⟨S256x128, .f32⟩
  | .local _ .vmem, ⟨27, _⟩ => ⟨S256x128, .f32⟩
  | _, _ => ⟨S8192x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_c : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60_0 : Ref sig .tc := ⟨.hbm, 77, rfl⟩
abbrev main_v60_1 : Ref sig .tc := ⟨.hbm, 78, rfl⟩
abbrev main_v60_2 : Ref sig .tc := ⟨.hbm, 79, rfl⟩
abbrev main_v60_3 : Ref sig .tc := ⟨.hbm, 80, rfl⟩
abbrev main_v60_4 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c1_i32_34 : BitVec 32 := 1#32
  let v110 : BitVec 32 := Scalar.subi arg1 c1_i32_34
  let c0_i32_35 : BitVec 32 := 0#32
  let v111 : BitVec 32 := Scalar.maxsi v110 c0_i32_35
  let c256_i32 : BitVec 32 := 256#32
  let v112 : BitVec 32 := Scalar.muli v111 c256_i32
  v112
def k0_off1 (i : grid0.Coords) : Fin 3 → Nat :=
  let c0_36 : Index := 0#32
  let c0_37 : Index := 0#32
  let arg1 : BitVec 32 := BitVec.ofNat 32 (i 1).val
  let c1_i32_34 : BitVec 32 := 1#32
  let v110 : BitVec 32 := Scalar.subi arg1 c1_i32_34
  let c0_i32_35 : BitVec 32 := 0#32
  let v111 : BitVec 32 := Scalar.maxsi v110 c0_i32_35
  let c256_i32 : BitVec 32 := 256#32
  let v112 : BitVec 32 := Scalar.muli v111 c256_i32
  let v113 : BitVec 32 := v112
  let v114 : Index := Scalar.indexCast v113
  ![0, 0, v114.toNat]
def k0_mult2 (i : grid0.Coords) : BitVec 32 :=
  let arg1 : BitVec 32 := BitVec.ofNat 32 (i 1).val
  let c1_i32_34 : BitVec 32 := 1#32
  let v110 : BitVec 32 := Scalar.subi arg1 c1_i32_34
  let c0_i32_35 : BitVec 32 := 0#32
  let v111 : BitVec 32 := Scalar.maxsi v110 c0_i32_35
  let c256_i32_40 : BitVec 32 := 256#32
  let v125 : BitVec 32 := Scalar.muli v111 c256_i32_40
  v125
def k0_off2 (i : grid0.Coords) : Fin 3 → Nat :=
  let c0_41 : Index := 0#32
  let c1 : Index := 1#32
  let arg1 : BitVec 32 := BitVec.ofNat 32 (i 1).val
  let c1_i32_34 : BitVec 32 := 1#32
  let v110 : BitVec 32 := Scalar.subi arg1 c1_i32_34
  let c0_i32_35 : BitVec 32 := 0#32
  let v111 : BitVec 32 := Scalar.maxsi v110 c0_i32_35
  let c256_i32_40 : BitVec 32 := 256#32
  let v125 : BitVec 32 := Scalar.muli v111 c256_i32_40
  let v126 : BitVec 32 := v125
  let v127 : Index := Scalar.indexCast v126
  ![0, 1, v127.toNat]
def k0_mult3 (arg16 : BitVec 32) : BitVec 32 :=
  let c1_i32_112 : BitVec 32 := 1#32
  let v308 : BitVec 32 := Scalar.subi arg16 c1_i32_112
  let c0_i32_113 : BitVec 32 := 0#32
  let v309 : BitVec 32 := Scalar.maxsi v308 c0_i32_113
  let c256_i32_114 : BitVec 32 := 256#32
  let v310 : BitVec 32 := Scalar.muli v309 c256_i32_114
  v310

def k0_off3 (arg16 : BitVec 32) : Fin 3 → Nat :=
  let c0_115 : Index := 0#32
  let c0_116 : Index := 0#32
  let c1_i32_112 : BitVec 32 := 1#32
  let v308 : BitVec 32 := Scalar.subi arg16 c1_i32_112
  let c0_i32_113 : BitVec 32 := 0#32
  let v309 : BitVec 32 := Scalar.maxsi v308 c0_i32_113
  let c256_i32_114 : BitVec 32 := 256#32
  let v310 : BitVec 32 := Scalar.muli v309 c256_i32_114
  let v311 : BitVec 32 := v310
  let v312 : Index := Scalar.indexCast v311
  ![0, 0, v312.toNat]
def k0_mult4 (arg16 : BitVec 32) : BitVec 32 :=
  let c1_i32_112 : BitVec 32 := 1#32
  let v308 : BitVec 32 := Scalar.subi arg16 c1_i32_112
  let c0_i32_113 : BitVec 32 := 0#32
  let v309 : BitVec 32 := Scalar.maxsi v308 c0_i32_113
  let c256_i32_119 : BitVec 32 := 256#32
  let v323 : BitVec 32 := Scalar.muli v309 c256_i32_119
  v323
def k0_off4 (arg16 : BitVec 32) : Fin 3 → Nat :=
  let c0_120 : Index := 0#32
  let c1_121 : Index := 1#32
  let c1_i32_112 : BitVec 32 := 1#32
  let v308 : BitVec 32 := Scalar.subi arg16 c1_i32_112
  let c0_i32_113 : BitVec 32 := 0#32
  let v309 : BitVec 32 := Scalar.maxsi v308 c0_i32_113
  let c256_i32_119 : BitVec 32 := 256#32
  let v323 : BitVec 32 := Scalar.muli v309 c256_i32_119
  let v324 : BitVec 32 := v323
  let v325 : Index := Scalar.indexCast v324
  ![0, 1, v325.toNat]

def k0_chk1 (arg16 : BitVec 32) : Prop :=
  (256 ∣ (k0_mult3 arg16).toNat) ∧
  (∀ a, (k0_off3 arg16) a + S1x1x256.size a ≤ S1x2x8192.size a) ∧
  (256 ∣ (k0_mult4 arg16).toNat) ∧
  (∀ a, (k0_off4 arg16) a + S1x1x256.size a ≤ S1x2x8192.size a)
theorem k0_mult3_dvd : ∀ (arg16 : BitVec 32) (k0_hw1 : k0_chk1 arg16), 256 ∣ (k0_mult3 arg16).toNat := fun arg16 k0_hw1 => k0_hw1.1
theorem k0_off3_inb : ∀ (arg16 : BitVec 32) (k0_hw1 : k0_chk1 arg16), ∀ a, (k0_off3 arg16) a + S1x1x256.size a ≤ S1x2x8192.size a := fun arg16 k0_hw1 => k0_hw1.2.1
theorem k0_mult4_dvd : ∀ (arg16 : BitVec 32) (k0_hw1 : k0_chk1 arg16), 256 ∣ (k0_mult4 arg16).toNat := fun arg16 k0_hw1 => k0_hw1.2.2.1
theorem k0_off4_inb : ∀ (arg16 : BitVec 32) (k0_hw1 : k0_chk1 arg16), ∀ a, (k0_off4 arg16) a + S1x1x256.size a ≤ S1x2x8192.size a := fun arg16 k0_hw1 => k0_hw1.2.2.2

def k0_mult5 (v142_0 : BitVec 32) : BitVec 32 :=
  let c1_i32_48 : BitVec 32 := 1#32
  let v151 : BitVec 32 := Scalar.addi v142_0 c1_i32_48
  let c256_i32_111 : BitVec 32 := 256#32
  let v307 : BitVec 32 := Scalar.muli v151 c256_i32_111
  v307
def k0_cond2 (i : grid0.Coords) (v142_0 : BitVec 32) : BitVec 1 :=
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let c1_i32_56 : BitVec 32 := 1#32
  let v164 : BitVec 1 := Scalar.cmpi .eq v163 c1_i32_56
  let v165 : BitVec 32 := Scalar.extui v164
  let c0_i32_57 : BitVec 32 := 0#32
  let v166 : BitVec 1 := Scalar.cmpi .ne v165 c0_i32_57
  v166

def k0_off5 (v142_0 : BitVec 32) : Fin 2 → Nat :=
  let c1_i32_48 : BitVec 32 := 1#32
  let v151 : BitVec 32 := Scalar.addi v142_0 c1_i32_48
  let c256_i32_111 : BitVec 32 := 256#32
  let v307 : BitVec 32 := Scalar.muli v151 c256_i32_111
  let v308 : BitVec 32 := v307
  let v309 : Index := Scalar.indexCast v308
  let c0_112 : Index := 0#32
  ![v309.toNat, 0]
def k0_mult6 (v142_0 : BitVec 32) : BitVec 32 :=
  let c1_i32_48 : BitVec 32 := 1#32
  let v151 : BitVec 32 := Scalar.addi v142_0 c1_i32_48
  let c256_i32_114 : BitVec 32 := 256#32
  let v313 : BitVec 32 := Scalar.muli v151 c256_i32_114
  v313
def k0_mult7 (v142_0 : BitVec 32) : BitVec 32 :=
  let c1_i32_48 : BitVec 32 := 1#32
  let v151 : BitVec 32 := Scalar.addi v142_0 c1_i32_48
  let c256_i32_117 : BitVec 32 := 256#32
  let v321 : BitVec 32 := Scalar.muli v151 c256_i32_117
  v321
def k0_off6 (v142_0 : BitVec 32) : Fin 3 → Nat :=
  let c0_118 : Index := 0#32
  let c0_119 : Index := 0#32
  let c1_i32_48 : BitVec 32 := 1#32
  let v151 : BitVec 32 := Scalar.addi v142_0 c1_i32_48
  let c256_i32_117 : BitVec 32 := 256#32
  let v321 : BitVec 32 := Scalar.muli v151 c256_i32_117
  let v322 : BitVec 32 := v321
  let v323 : Index := Scalar.indexCast v322
  ![0, 0, v323.toNat]
def k0_mult8 (v142_0 : BitVec 32) : BitVec 32 :=
  let c1_i32_48 : BitVec 32 := 1#32
  let v151 : BitVec 32 := Scalar.addi v142_0 c1_i32_48
  let c256_i32_120 : BitVec 32 := 256#32
  let v331 : BitVec 32 := Scalar.muli v151 c256_i32_120
  v331
def k0_off7 (v142_0 : BitVec 32) : Fin 3 → Nat :=
  let c0_121 : Index := 0#32
  let c1_122 : Index := 1#32
  let c1_i32_48 : BitVec 32 := 1#32
  let v151 : BitVec 32 := Scalar.addi v142_0 c1_i32_48
  let c256_i32_120 : BitVec 32 := 256#32
  let v331 : BitVec 32 := Scalar.muli v151 c256_i32_120
  let v332 : BitVec 32 := v331
  let v333 : Index := Scalar.indexCast v332
  ![0, 1, v333.toNat]
def k0_mult9 (v142_0 : BitVec 32) : BitVec 32 :=
  let c1_i32_48 : BitVec 32 := 1#32
  let v151 : BitVec 32 := Scalar.addi v142_0 c1_i32_48
  let c256_i32_123 : BitVec 32 := 256#32
  let v346 : BitVec 32 := Scalar.muli v151 c256_i32_123
  v346
def k0_mult10 (v142_0 : BitVec 32) : BitVec 32 :=
  let c1_i32_48 : BitVec 32 := 1#32
  let v151 : BitVec 32 := Scalar.addi v142_0 c1_i32_48
  let c256_i32_127 : BitVec 32 := 256#32
  let v355 : BitVec 32 := Scalar.muli v151 c256_i32_127
  v355
def k0_mult11 (v142_0 : BitVec 32) : BitVec 32 :=
  let c1_i32_48 : BitVec 32 := 1#32
  let v151 : BitVec 32 := Scalar.addi v142_0 c1_i32_48
  let c256_i32_131 : BitVec 32 := 256#32
  let v365 : BitVec 32 := Scalar.muli v151 c256_i32_131
  v365
def k0_mult12 (v142_0 : BitVec 32) : BitVec 32 :=
  let c1_i32_48 : BitVec 32 := 1#32
  let v151 : BitVec 32 := Scalar.addi v142_0 c1_i32_48
  let c256_i32_137 : BitVec 32 := 256#32
  let v378 : BitVec 32 := Scalar.muli v151 c256_i32_137
  v378
def k0_mult13 (v142_0 : BitVec 32) : BitVec 32 :=
  let c1_i32_48 : BitVec 32 := 1#32
  let v151 : BitVec 32 := Scalar.addi v142_0 c1_i32_48
  let c256_i32_143 : BitVec 32 := 256#32
  let v391 : BitVec 32 := Scalar.muli v151 c256_i32_143
  v391
@[reducible] def k0_t1_loop (i : grid0.Coords) (v142_0 : BitVec 32) : Scf.Loop 32 :=
  let c0_i32_65 : BitVec 32 := 0#32
  let arg1 : BitVec 32 := BitVec.ofNat 32 (i 1).val
  let c1_i32_48 : BitVec 32 := 1#32
  let v151 : BitVec 32 := Scalar.addi v142_0 c1_i32_48
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_67 : BitVec 32 := 1#32
  ⟨c0_i32_65, v190, c1_i32_67⟩
def k0_mult14 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_114 : BitVec 32 := 256#32
  let v314 : BitVec 32 := Scalar.muli v313 c256_i32_114
  v314
def k0_off8 (i : grid0.Coords) (v142_0 : BitVec 32) (k0_t1 : Fin (k0_t1_loop i v142_0).trips) : Fin 2 → Nat :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_114 : BitVec 32 := 256#32
  let v314 : BitVec 32 := Scalar.muli v313 c256_i32_114
  let v315 : BitVec 32 := v314
  let v316 : Index := Scalar.indexCast v315
  let c0_115 : Index := 0#32
  ![v316.toNat, 0]
def k0_mult15 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_117 : BitVec 32 := 256#32
  let v320 : BitVec 32 := Scalar.muli v313 c256_i32_117
  v320
def k0_mult16 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_120 : BitVec 32 := 256#32
  let v328 : BitVec 32 := Scalar.muli v313 c256_i32_120
  v328
def k0_off9 (i : grid0.Coords) (v142_0 : BitVec 32) (k0_t1 : Fin (k0_t1_loop i v142_0).trips) : Fin 3 → Nat :=
  let c0_121 : Index := 0#32
  let c0_122 : Index := 0#32
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_120 : BitVec 32 := 256#32
  let v328 : BitVec 32 := Scalar.muli v313 c256_i32_120
  let v329 : BitVec 32 := v328
  let v330 : Index := Scalar.indexCast v329
  ![0, 0, v330.toNat]
def k0_mult17 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_123 : BitVec 32 := 256#32
  let v338 : BitVec 32 := Scalar.muli v313 c256_i32_123
  v338
def k0_off10 (i : grid0.Coords) (v142_0 : BitVec 32) (k0_t1 : Fin (k0_t1_loop i v142_0).trips) : Fin 3 → Nat :=
  let c0_124 : Index := 0#32
  let c1_125 : Index := 1#32
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_123 : BitVec 32 := 256#32
  let v338 : BitVec 32 := Scalar.muli v313 c256_i32_123
  let v339 : BitVec 32 := v338
  let v340 : Index := Scalar.indexCast v339
  ![0, 1, v340.toNat]
def k0_mult18 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_126 : BitVec 32 := 256#32
  let v353 : BitVec 32 := Scalar.muli v313 c256_i32_126
  v353
def k0_mult19 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_130 : BitVec 32 := 256#32
  let v362 : BitVec 32 := Scalar.muli v313 c256_i32_130
  v362
def k0_mult20 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_134 : BitVec 32 := 256#32
  let v372 : BitVec 32 := Scalar.muli v313 c256_i32_134
  v372
def k0_mult21 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_140 : BitVec 32 := 256#32
  let v385 : BitVec 32 := Scalar.muli v313 c256_i32_140
  v385
def k0_mult22 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let c1_i32_67 : BitVec 32 := 1#32
  let arg16 : BitVec 32 := Scf.iv c0_i32_65 c1_i32_67 k0_t1
  let v312 : BitVec 32 := Scalar.muli c2_i32_113 arg16
  let v313 : BitVec 32 := Scalar.addi v311 v312
  let c256_i32_146 : BitVec 32 := 256#32
  let v398 : BitVec 32 := Scalar.muli v313 c256_i32_146
  v398
def k0_mult23 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_150 : BitVec 32 := 256#32
  let v408 : BitVec 32 := Scalar.muli v310 c256_i32_150
  v408
def k0_off11 (i : grid0.Coords) (v142_0 : BitVec 32) (k0_t1 : Fin (k0_t1_loop i v142_0).trips) : Fin 2 → Nat :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_150 : BitVec 32 := 256#32
  let v408 : BitVec 32 := Scalar.muli v310 c256_i32_150
  let v409 : BitVec 32 := v408
  let v410 : Index := Scalar.indexCast v409
  let c0_151 : Index := 0#32
  ![v410.toNat, 0]
def k0_mult24 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_153 : BitVec 32 := 256#32
  let v414 : BitVec 32 := Scalar.muli v310 c256_i32_153
  v414
def k0_mult25 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_156 : BitVec 32 := 256#32
  let v422 : BitVec 32 := Scalar.muli v310 c256_i32_156
  v422
def k0_off12 (i : grid0.Coords) (v142_0 : BitVec 32) (k0_t1 : Fin (k0_t1_loop i v142_0).trips) : Fin 3 → Nat :=
  let c0_157 : Index := 0#32
  let c0_158 : Index := 0#32
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_156 : BitVec 32 := 256#32
  let v422 : BitVec 32 := Scalar.muli v310 c256_i32_156
  let v423 : BitVec 32 := v422
  let v424 : Index := Scalar.indexCast v423
  ![0, 0, v424.toNat]
def k0_mult26 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_159 : BitVec 32 := 256#32
  let v432 : BitVec 32 := Scalar.muli v310 c256_i32_159
  v432
def k0_off13 (i : grid0.Coords) (v142_0 : BitVec 32) (k0_t1 : Fin (k0_t1_loop i v142_0).trips) : Fin 3 → Nat :=
  let c0_160 : Index := 0#32
  let c1_161 : Index := 1#32
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_159 : BitVec 32 := 256#32
  let v432 : BitVec 32 := Scalar.muli v310 c256_i32_159
  let v433 : BitVec 32 := v432
  let v434 : Index := Scalar.indexCast v433
  ![0, 1, v434.toNat]
def k0_mult27 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_162 : BitVec 32 := 256#32
  let v447 : BitVec 32 := Scalar.muli v310 c256_i32_162
  v447
def k0_mult28 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_166 : BitVec 32 := 256#32
  let v456 : BitVec 32 := Scalar.muli v310 c256_i32_166
  v456
def k0_mult29 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_170 : BitVec 32 := 256#32
  let v466 : BitVec 32 := Scalar.muli v310 c256_i32_170
  v466
def k0_mult30 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_176 : BitVec 32 := 256#32
  let v479 : BitVec 32 := Scalar.muli v310 c256_i32_176
  v479
def k0_mult31 (i : grid0.Coords) (v142_0 : BitVec 32) (k0_t1 : Fin (k0_t1_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let c1_i32_67 : BitVec 32 := 1#32
  let arg16 : BitVec 32 := Scf.iv c0_i32_65 c1_i32_67 k0_t1
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_182 : BitVec 32 := 256#32
  let v492 : BitVec 32 := Scalar.muli v310 c256_i32_182
  v492
@[reducible] def k0_t2_loop (i : grid0.Coords) (v142_0 : BitVec 32) : Scf.Loop 32 :=
  let c0_i32_65 : BitVec 32 := 0#32
  let arg1 : BitVec 32 := BitVec.ofNat 32 (i 1).val
  let c1_i32_48 : BitVec 32 := 1#32
  let v151 : BitVec 32 := Scalar.addi v142_0 c1_i32_48
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let v187 : BitVec 32 := Scalar.addi c0_i32_65 v186
  let c1_i32_68 : BitVec 32 := 1#32
  ⟨v190, v187, c1_i32_68⟩
def k0_mult32 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_114 : BitVec 32 := 256#32
  let v314 : BitVec 32 := Scalar.muli v313 c256_i32_114
  v314
def k0_off14 (i : grid0.Coords) (v142_0 : BitVec 32) (k0_t2 : Fin (k0_t2_loop i v142_0).trips) : Fin 2 → Nat :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_114 : BitVec 32 := 256#32
  let v314 : BitVec 32 := Scalar.muli v313 c256_i32_114
  let v315 : BitVec 32 := v314
  let v316 : Index := Scalar.indexCast v315
  let c0_115 : Index := 0#32
  ![v316.toNat, 0]
def k0_mult33 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_117 : BitVec 32 := 256#32
  let v320 : BitVec 32 := Scalar.muli v313 c256_i32_117
  v320
def k0_mult34 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_120 : BitVec 32 := 256#32
  let v328 : BitVec 32 := Scalar.muli v313 c256_i32_120
  v328
def k0_off15 (i : grid0.Coords) (v142_0 : BitVec 32) (k0_t2 : Fin (k0_t2_loop i v142_0).trips) : Fin 3 → Nat :=
  let c0_121 : Index := 0#32
  let c0_122 : Index := 0#32
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_120 : BitVec 32 := 256#32
  let v328 : BitVec 32 := Scalar.muli v313 c256_i32_120
  let v329 : BitVec 32 := v328
  let v330 : Index := Scalar.indexCast v329
  ![0, 0, v330.toNat]
def k0_mult35 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_123 : BitVec 32 := 256#32
  let v338 : BitVec 32 := Scalar.muli v313 c256_i32_123
  v338
def k0_off16 (i : grid0.Coords) (v142_0 : BitVec 32) (k0_t2 : Fin (k0_t2_loop i v142_0).trips) : Fin 3 → Nat :=
  let c0_124 : Index := 0#32
  let c1_125 : Index := 1#32
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_123 : BitVec 32 := 256#32
  let v338 : BitVec 32 := Scalar.muli v313 c256_i32_123
  let v339 : BitVec 32 := v338
  let v340 : Index := Scalar.indexCast v339
  ![0, 1, v340.toNat]
def k0_mult36 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_126 : BitVec 32 := 256#32
  let v353 : BitVec 32 := Scalar.muli v313 c256_i32_126
  v353
def k0_mult37 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_130 : BitVec 32 := 256#32
  let v362 : BitVec 32 := Scalar.muli v313 c256_i32_130
  v362
def k0_mult38 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_134 : BitVec 32 := 256#32
  let v372 : BitVec 32 := Scalar.muli v313 c256_i32_134
  v372
def k0_mult39 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_140 : BitVec 32 := 256#32
  let v385 : BitVec 32 := Scalar.muli v313 c256_i32_140
  v385
def k0_mult40 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v311 : BitVec 32 := Scalar.addi v151 v163
  let c2_i32_113 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v312 : BitVec 32 := Scalar.muli c2_i32_113 arg16
  let v313 : BitVec 32 := Scalar.addi v311 v312
  let c256_i32_146 : BitVec 32 := 256#32
  let v398 : BitVec 32 := Scalar.muli v313 c256_i32_146
  v398
def k0_mult41 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_150 : BitVec 32 := 256#32
  let v408 : BitVec 32 := Scalar.muli v310 c256_i32_150
  v408
def k0_off17 (i : grid0.Coords) (v142_0 : BitVec 32) (k0_t2 : Fin (k0_t2_loop i v142_0).trips) : Fin 2 → Nat :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_150 : BitVec 32 := 256#32
  let v408 : BitVec 32 := Scalar.muli v310 c256_i32_150
  let v409 : BitVec 32 := v408
  let v410 : Index := Scalar.indexCast v409
  let c0_151 : Index := 0#32
  ![v410.toNat, 0]
def k0_mult42 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_153 : BitVec 32 := 256#32
  let v414 : BitVec 32 := Scalar.muli v310 c256_i32_153
  v414
def k0_mult43 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_156 : BitVec 32 := 256#32
  let v422 : BitVec 32 := Scalar.muli v310 c256_i32_156
  v422
def k0_off18 (i : grid0.Coords) (v142_0 : BitVec 32) (k0_t2 : Fin (k0_t2_loop i v142_0).trips) : Fin 3 → Nat :=
  let c0_157 : Index := 0#32
  let c0_158 : Index := 0#32
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_156 : BitVec 32 := 256#32
  let v422 : BitVec 32 := Scalar.muli v310 c256_i32_156
  let v423 : BitVec 32 := v422
  let v424 : Index := Scalar.indexCast v423
  ![0, 0, v424.toNat]
def k0_mult44 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_159 : BitVec 32 := 256#32
  let v432 : BitVec 32 := Scalar.muli v310 c256_i32_159
  v432
def k0_off19 (i : grid0.Coords) (v142_0 : BitVec 32) (k0_t2 : Fin (k0_t2_loop i v142_0).trips) : Fin 3 → Nat :=
  let c0_160 : Index := 0#32
  let c1_161 : Index := 1#32
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_159 : BitVec 32 := 256#32
  let v432 : BitVec 32 := Scalar.muli v310 c256_i32_159
  let v433 : BitVec 32 := v432
  let v434 : Index := Scalar.indexCast v433
  ![0, 1, v434.toNat]
def k0_mult45 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_162 : BitVec 32 := 256#32
  let v447 : BitVec 32 := Scalar.muli v310 c256_i32_162
  v447
def k0_mult46 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_166 : BitVec 32 := 256#32
  let v456 : BitVec 32 := Scalar.muli v310 c256_i32_166
  v456
def k0_mult47 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_170 : BitVec 32 := 256#32
  let v466 : BitVec 32 := Scalar.muli v310 c256_i32_170
  v466
def k0_mult48 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_176 : BitVec 32 := 256#32
  let v479 : BitVec 32 := Scalar.muli v310 c256_i32_176
  v479
def k0_mult49 (i : grid0.Coords) (v142_0 : BitVec 32) (k0_t2 : Fin (k0_t2_loop i v142_0).trips) : BitVec 32 :=
  let c1_i32_48 : BitVec 32 := 1#32
  let v151 : BitVec 32 := Scalar.addi v142_0 c1_i32_48
  let arg1 : BitVec 32 := BitVec.ofNat 32 (i 1).val
  let v152 : BitVec 32 := Scalar.subi arg1 v142_0
  let c1_i32_49 : BitVec 32 := 1#32
  let v153 : BitVec 32 := Scalar.subi v152 c1_i32_49
  let c2_i32_50 : BitVec 32 := 2#32
  let c0_i32_51 : BitVec 32 := 0#32
  let v154 : BitVec 1 := Scalar.cmpi .eq c2_i32_50 c0_i32_51
  let c1_i32_52 : BitVec 32 := 1#32
  let v155 : BitVec 32 := Scalar.select v154 c1_i32_52 c2_i32_50
  let v156 : BitVec 32 := Scalar.remsi v153 v155
  let c0_i32_54 : BitVec 32 := 0#32
  let v158 : BitVec 1 := Scalar.cmpi .slt v156 c0_i32_54
  let c0_i32_55 : BitVec 32 := 0#32
  let v159 : BitVec 1 := Scalar.cmpi .slt v155 c0_i32_55
  let v160 : BitVec 1 := Scalar.xori v158 v159
  let c0_i32_53 : BitVec 32 := 0#32
  let v157 : BitVec 1 := Scalar.cmpi .ne v156 c0_i32_53
  let v161 : BitVec 1 := Scalar.andi v160 v157
  let v162 : BitVec 32 := Scalar.addi v156 v155
  let v163 : BitVec 32 := Scalar.select v161 v162 v156
  let v307 : BitVec 32 := Scalar.addi v151 v163
  let c2_i32_111 : BitVec 32 := 2#32
  let c0_i32_65 : BitVec 32 := 0#32
  let v168 : BitVec 32 := Scalar.subi arg1 v151
  let c0_i32_59 : BitVec 32 := 0#32
  let v170 : BitVec 1 := Scalar.cmpi .sgt v168 c0_i32_59
  let v171 : BitVec 32 := Scalar.extui v170
  let c0_i32_60 : BitVec 32 := 0#32
  let v172 : BitVec 1 := Scalar.cmpi .slt v168 c0_i32_60
  let v173 : BitVec 32 := Scalar.extui v172
  let v174 : BitVec 32 := Scalar.subi v171 v173
  let c2_i32_58 : BitVec 32 := 2#32
  let c0_i32_61 : BitVec 32 := 0#32
  let v175 : BitVec 1 := Scalar.cmpi .sgt c2_i32_58 c0_i32_61
  let v176 : BitVec 32 := Scalar.extui v175
  let c0_i32_62 : BitVec 32 := 0#32
  let v177 : BitVec 1 := Scalar.cmpi .slt c2_i32_58 c0_i32_62
  let v178 : BitVec 32 := Scalar.extui v177
  let v179 : BitVec 32 := Scalar.subi v176 v178
  let v180 : BitVec 1 := Scalar.cmpi .ne v174 v179
  let v181 : BitVec 32 := Scalar.remsi v168 c2_i32_58
  let c0_i32_63 : BitVec 32 := 0#32
  let v182 : BitVec 1 := Scalar.cmpi .ne v181 c0_i32_63
  let v183 : BitVec 1 := Scalar.andi v180 v182
  let v169 : BitVec 32 := Scalar.divsi v168 c2_i32_58
  let c1_i32_64 : BitVec 32 := 1#32
  let v184 : BitVec 32 := Scalar.subi v169 c1_i32_64
  let v185 : BitVec 32 := Scalar.select v183 v184 v169
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg16 : BitVec 32 := Scf.iv v190 c1_i32_68 k0_t2
  let v308 : BitVec 32 := Scalar.muli c2_i32_111 arg16
  let v309 : BitVec 32 := Scalar.addi v307 v308
  let c1_i32_112 : BitVec 32 := 1#32
  let v310 : BitVec 32 := Scalar.addi v309 c1_i32_112
  let c256_i32_182 : BitVec 32 := 256#32
  let v492 : BitVec 32 := Scalar.muli v310 c256_i32_182
  v492

def k0_chk2_0 (i : grid0.Coords) (v142_0 : BitVec 32) : Prop :=
  (∀ (k0_h2 : k0_cond2 i v142_0 = 1#1), 256 ∣ (k0_mult5 v142_0).toNat) ∧
  (∀ (k0_h2 : k0_cond2 i v142_0 = 1#1), ∀ a, (k0_off5 v142_0) a + S256x128.size a ≤ S8192x128.size a) ∧
  (∀ (k0_h2 : k0_cond2 i v142_0 = 1#1), 256 ∣ (k0_mult6 v142_0).toNat) ∧
  (∀ (k0_h2 : k0_cond2 i v142_0 = 1#1), 256 ∣ (k0_mult7 v142_0).toNat) ∧
  (∀ (k0_h2 : k0_cond2 i v142_0 = 1#1), ∀ a, (k0_off6 v142_0) a + S1x1x256.size a ≤ S1x2x8192.size a) ∧
  (∀ (k0_h2 : k0_cond2 i v142_0 = 1#1), 256 ∣ (k0_mult8 v142_0).toNat) ∧
  (∀ (k0_h2 : k0_cond2 i v142_0 = 1#1), ∀ a, (k0_off7 v142_0) a + S1x1x256.size a ≤ S1x2x8192.size a) ∧
  (∀ (k0_h2 : k0_cond2 i v142_0 = 1#1), 256 ∣ (k0_mult9 v142_0).toNat) ∧
  (∀ (k0_h2 : k0_cond2 i v142_0 = 1#1), 256 ∣ (k0_mult10 v142_0).toNat) ∧
  (∀ (k0_h2 : k0_cond2 i v142_0 = 1#1), 256 ∣ (k0_mult11 v142_0).toNat) ∧
  (∀ (k0_h2 : k0_cond2 i v142_0 = 1#1), 256 ∣ (k0_mult12 v142_0).toNat) ∧
  (∀ (k0_h2 : k0_cond2 i v142_0 = 1#1), 256 ∣ (k0_mult13 v142_0).toNat) ∧
  ((k0_t1_loop i v142_0).OK) ∧
  (∀ k0_t1 : Fin (k0_t1_loop i v142_0).trips, 256 ∣ (k0_mult14 i v142_0 k0_t1).toNat) ∧
  (∀ k0_t1 : Fin (k0_t1_loop i v142_0).trips, ∀ a, (k0_off8 i v142_0 k0_t1) a + S256x128.size a ≤ S8192x128.size a) ∧
  (∀ k0_t1 : Fin (k0_t1_loop i v142_0).trips, 256 ∣ (k0_mult15 i v142_0 k0_t1).toNat) ∧
  (∀ k0_t1 : Fin (k0_t1_loop i v142_0).trips, 256 ∣ (k0_mult16 i v142_0 k0_t1).toNat) ∧
  (∀ k0_t1 : Fin (k0_t1_loop i v142_0).trips, ∀ a, (k0_off9 i v142_0 k0_t1) a + S1x1x256.size a ≤ S1x2x8192.size a) ∧
  (∀ k0_t1 : Fin (k0_t1_loop i v142_0).trips, 256 ∣ (k0_mult17 i v142_0 k0_t1).toNat) ∧
  (∀ k0_t1 : Fin (k0_t1_loop i v142_0).trips, ∀ a, (k0_off10 i v142_0 k0_t1) a + S1x1x256.size a ≤ S1x2x8192.size a) ∧
  (∀ k0_t1 : Fin (k0_t1_loop i v142_0).trips, 256 ∣ (k0_mult18 i v142_0 k0_t1).toNat) ∧
  (∀ k0_t1 : Fin (k0_t1_loop i v142_0).trips, 256 ∣ (k0_mult19 i v142_0 k0_t1).toNat) ∧
  (∀ k0_t1 : Fin (k0_t1_loop i v142_0).trips, 256 ∣ (k0_mult20 i v142_0 k0_t1).toNat) ∧
  (∀ k0_t1 : Fin (k0_t1_loop i v142_0).trips, 256 ∣ (k0_mult21 i v142_0 k0_t1).toNat) ∧
  (∀ k0_t1 : Fin (k0_t1_loop i v142_0).trips, 256 ∣ (k0_mult22 i v142_0 k0_t1).toNat) ∧
  (∀ k0_t1 : Fin (k0_t1_loop i v142_0).trips, 256 ∣ (k0_mult23 i v142_0 k0_t1).toNat) ∧
  (∀ k0_t1 : Fin (k0_t1_loop i v142_0).trips, ∀ a, (k0_off11 i v142_0 k0_t1) a + S256x128.size a ≤ S8192x128.size a) ∧
  (∀ k0_t1 : Fin (k0_t1_loop i v142_0).trips, 256 ∣ (k0_mult24 i v142_0 k0_t1).toNat) ∧
  (∀ k0_t1 : Fin (k0_t1_loop i v142_0).trips, 256 ∣ (k0_mult25 i v142_0 k0_t1).toNat) ∧
  (∀ k0_t1 : Fin (k0_t1_loop i v142_0).trips, ∀ a, (k0_off12 i v142_0 k0_t1) a + S1x1x256.size a ≤ S1x2x8192.size a) ∧
  (∀ k0_t1 : Fin (k0_t1_loop i v142_0).trips, 256 ∣ (k0_mult26 i v142_0 k0_t1).toNat) ∧
  (∀ k0_t1 : Fin (k0_t1_loop i v142_0).trips, ∀ a, (k0_off13 i v142_0 k0_t1) a + S1x1x256.size a ≤ S1x2x8192.size a)
def k0_chk2_1 (i : grid0.Coords) (v142_0 : BitVec 32) : Prop :=
  (∀ k0_t1 : Fin (k0_t1_loop i v142_0).trips, 256 ∣ (k0_mult27 i v142_0 k0_t1).toNat) ∧
  (∀ k0_t1 : Fin (k0_t1_loop i v142_0).trips, 256 ∣ (k0_mult28 i v142_0 k0_t1).toNat) ∧
  (∀ k0_t1 : Fin (k0_t1_loop i v142_0).trips, 256 ∣ (k0_mult29 i v142_0 k0_t1).toNat) ∧
  (∀ k0_t1 : Fin (k0_t1_loop i v142_0).trips, 256 ∣ (k0_mult30 i v142_0 k0_t1).toNat) ∧
  (∀ k0_t1 : Fin (k0_t1_loop i v142_0).trips, 256 ∣ (k0_mult31 i v142_0 k0_t1).toNat) ∧
  ((k0_t2_loop i v142_0).OK) ∧
  (∀ k0_t2 : Fin (k0_t2_loop i v142_0).trips, 256 ∣ (k0_mult32 i v142_0 k0_t2).toNat) ∧
  (∀ k0_t2 : Fin (k0_t2_loop i v142_0).trips, ∀ a, (k0_off14 i v142_0 k0_t2) a + S256x128.size a ≤ S8192x128.size a) ∧
  (∀ k0_t2 : Fin (k0_t2_loop i v142_0).trips, 256 ∣ (k0_mult33 i v142_0 k0_t2).toNat) ∧
  (∀ k0_t2 : Fin (k0_t2_loop i v142_0).trips, 256 ∣ (k0_mult34 i v142_0 k0_t2).toNat) ∧
  (∀ k0_t2 : Fin (k0_t2_loop i v142_0).trips, ∀ a, (k0_off15 i v142_0 k0_t2) a + S1x1x256.size a ≤ S1x2x8192.size a) ∧
  (∀ k0_t2 : Fin (k0_t2_loop i v142_0).trips, 256 ∣ (k0_mult35 i v142_0 k0_t2).toNat) ∧
  (∀ k0_t2 : Fin (k0_t2_loop i v142_0).trips, ∀ a, (k0_off16 i v142_0 k0_t2) a + S1x1x256.size a ≤ S1x2x8192.size a) ∧
  (∀ k0_t2 : Fin (k0_t2_loop i v142_0).trips, 256 ∣ (k0_mult36 i v142_0 k0_t2).toNat) ∧
  (∀ k0_t2 : Fin (k0_t2_loop i v142_0).trips, 256 ∣ (k0_mult37 i v142_0 k0_t2).toNat) ∧
  (∀ k0_t2 : Fin (k0_t2_loop i v142_0).trips, 256 ∣ (k0_mult38 i v142_0 k0_t2).toNat) ∧
  (∀ k0_t2 : Fin (k0_t2_loop i v142_0).trips, 256 ∣ (k0_mult39 i v142_0 k0_t2).toNat) ∧
  (∀ k0_t2 : Fin (k0_t2_loop i v142_0).trips, 256 ∣ (k0_mult40 i v142_0 k0_t2).toNat) ∧
  (∀ k0_t2 : Fin (k0_t2_loop i v142_0).trips, 256 ∣ (k0_mult41 i v142_0 k0_t2).toNat) ∧
  (∀ k0_t2 : Fin (k0_t2_loop i v142_0).trips, ∀ a, (k0_off17 i v142_0 k0_t2) a + S256x128.size a ≤ S8192x128.size a) ∧
  (∀ k0_t2 : Fin (k0_t2_loop i v142_0).trips, 256 ∣ (k0_mult42 i v142_0 k0_t2).toNat) ∧
  (∀ k0_t2 : Fin (k0_t2_loop i v142_0).trips, 256 ∣ (k0_mult43 i v142_0 k0_t2).toNat) ∧
  (∀ k0_t2 : Fin (k0_t2_loop i v142_0).trips, ∀ a, (k0_off18 i v142_0 k0_t2) a + S1x1x256.size a ≤ S1x2x8192.size a) ∧
  (∀ k0_t2 : Fin (k0_t2_loop i v142_0).trips, 256 ∣ (k0_mult44 i v142_0 k0_t2).toNat) ∧
  (∀ k0_t2 : Fin (k0_t2_loop i v142_0).trips, ∀ a, (k0_off19 i v142_0 k0_t2) a + S1x1x256.size a ≤ S1x2x8192.size a) ∧
  (∀ k0_t2 : Fin (k0_t2_loop i v142_0).trips, 256 ∣ (k0_mult45 i v142_0 k0_t2).toNat) ∧
  (∀ k0_t2 : Fin (k0_t2_loop i v142_0).trips, 256 ∣ (k0_mult46 i v142_0 k0_t2).toNat) ∧
  (∀ k0_t2 : Fin (k0_t2_loop i v142_0).trips, 256 ∣ (k0_mult47 i v142_0 k0_t2).toNat) ∧
  (∀ k0_t2 : Fin (k0_t2_loop i v142_0).trips, 256 ∣ (k0_mult48 i v142_0 k0_t2).toNat) ∧
  (∀ k0_t2 : Fin (k0_t2_loop i v142_0).trips, 256 ∣ (k0_mult49 i v142_0 k0_t2).toNat)
def k0_chk2 (i : grid0.Coords) (v142_0 : BitVec 32) : Prop :=
  k0_chk2_0 i v142_0 ∧
  k0_chk2_1 i v142_0
theorem k0_mult5_dvd : ∀ (i : grid0.Coords) (v142_0 : BitVec 32) (k0_hw2 : k0_chk2 i v142_0), ∀ (k0_h2 : k0_cond2 i v142_0 = 1#1), 256 ∣ (k0_mult5 v142_0).toNat := fun i v142_0 k0_hw2 k0_h2 => k0_hw2.1.1 k0_h2
theorem k0_off5_inb : ∀ (i : grid0.Coords) (v142_0 : BitVec 32) (k0_hw2 : k0_chk2 i v142_0), ∀ (k0_h2 : k0_cond2 i v142_0 = 1#1), ∀ a, (k0_off5 v142_0) a + S256x128.size a ≤ S8192x128.size a := fun i v142_0 k0_hw2 k0_h2 => k0_hw2.1.2.1 k0_h2
theorem k0_mult6_dvd : ∀ (i : grid0.Coords) (v142_0 : BitVec 32) (k0_hw2 : k0_chk2 i v142_0), ∀ (k0_h2 : k0_cond2 i v142_0 = 1#1), 256 ∣ (k0_mult6 v142_0).toNat := fun i v142_0 k0_hw2 k0_h2 => k0_hw2.1.2.2.1 k0_h2
theorem k0_mult7_dvd : ∀ (i : grid0.Coords) (v142_0 : BitVec 32) (k0_hw2 : k0_chk2 i v142_0), ∀ (k0_h2 : k0_cond2 i v142_0 = 1#1), 256 ∣ (k0_mult7 v142_0).toNat := fun i v142_0 k0_hw2 k0_h2 => k0_hw2.1.2.2.2.1 k0_h2
theorem k0_off6_inb : ∀ (i : grid0.Coords) (v142_0 : BitVec 32) (k0_hw2 : k0_chk2 i v142_0), ∀ (k0_h2 : k0_cond2 i v142_0 = 1#1), ∀ a, (k0_off6 v142_0) a + S1x1x256.size a ≤ S1x2x8192.size a := fun i v142_0 k0_hw2 k0_h2 => k0_hw2.1.2.2.2.2.1 k0_h2
theorem k0_mult8_dvd : ∀ (i : grid0.Coords) (v142_0 : BitVec 32) (k0_hw2 : k0_chk2 i v142_0), ∀ (k0_h2 : k0_cond2 i v142_0 = 1#1), 256 ∣ (k0_mult8 v142_0).toNat := fun i v142_0 k0_hw2 k0_h2 => k0_hw2.1.2.2.2.2.2.1 k0_h2
theorem k0_off7_inb : ∀ (i : grid0.Coords) (v142_0 : BitVec 32) (k0_hw2 : k0_chk2 i v142_0), ∀ (k0_h2 : k0_cond2 i v142_0 = 1#1), ∀ a, (k0_off7 v142_0) a + S1x1x256.size a ≤ S1x2x8192.size a := fun i v142_0 k0_hw2 k0_h2 => k0_hw2.1.2.2.2.2.2.2.1 k0_h2
theorem k0_mult9_dvd : ∀ (i : grid0.Coords) (v142_0 : BitVec 32) (k0_hw2 : k0_chk2 i v142_0), ∀ (k0_h2 : k0_cond2 i v142_0 = 1#1), 256 ∣ (k0_mult9 v142_0).toNat := fun i v142_0 k0_hw2 k0_h2 => k0_hw2.1.2.2.2.2.2.2.2.1 k0_h2
theorem k0_mult10_dvd : ∀ (i : grid0.Coords) (v142_0 : BitVec 32) (k0_hw2 : k0_chk2 i v142_0), ∀ (k0_h2 : k0_cond2 i v142_0 = 1#1), 256 ∣ (k0_mult10 v142_0).toNat := fun i v142_0 k0_hw2 k0_h2 => k0_hw2.1.2.2.2.2.2.2.2.2.1 k0_h2
theorem k0_mult11_dvd : ∀ (i : grid0.Coords) (v142_0 : BitVec 32) (k0_hw2 : k0_chk2 i v142_0), ∀ (k0_h2 : k0_cond2 i v142_0 = 1#1), 256 ∣ (k0_mult11 v142_0).toNat := fun i v142_0 k0_hw2 k0_h2 => k0_hw2.1.2.2.2.2.2.2.2.2.2.1 k0_h2
theorem k0_mult12_dvd : ∀ (i : grid0.Coords) (v142_0 : BitVec 32) (k0_hw2 : k0_chk2 i v142_0), ∀ (k0_h2 : k0_cond2 i v142_0 = 1#1), 256 ∣ (k0_mult12 v142_0).toNat := fun i v142_0 k0_hw2 k0_h2 => k0_hw2.1.2.2.2.2.2.2.2.2.2.2.1 k0_h2
theorem k0_mult13_dvd : ∀ (i : grid0.Coords) (v142_0 : BitVec 32) (k0_hw2 : k0_chk2 i v142_0), ∀ (k0_h2 : k0_cond2 i v142_0 = 1#1), 256 ∣ (k0_mult13 v142_0).toNat := fun i v142_0 k0_hw2 k0_h2 => k0_hw2.1.2.2.2.2.2.2.2.2.2.2.2.1 k0_h2
theorem k0_t1_ok : ∀ (i : grid0.Coords) (v142_0 : BitVec 32) (k0_hw2 : k0_chk2 i v142_0), (k0_t1_loop i v142_0).OK := fun i v142_0 k0_hw2 => k0_hw2.1.2.2.2.2.2.2.2.2.2.2.2.2.1
theorem k0_mult14_dvd : ∀ (i : grid0.Coords) (v142_0 : BitVec 32) (k0_hw2 : k0_chk2 i v142_0) (k0_t1 : Fin (k0_t1_loop i v142_0).trips), 256 ∣ (k0_mult14 i v142_0 k0_t1).toNat := fun i v142_0 k0_hw2 k0_t1 => k0_hw2.1.2.2.2.2.2.2.2.2.2.2.2.2.2.1 k0_t1
theorem k0_off8_inb : ∀ (i : grid0.Coords) (v142_0 : BitVec 32) (k0_hw2 : k0_chk2 i v142_0) (k0_t1 : Fin (k0_t1_loop i v142_0).trips), ∀ a, (k0_off8 i v142_0 k0_t1) a + S256x128.size a ≤ S8192x128.size a := fun i v142_0 k0_hw2 k0_t1 => k0_hw2.1.2.2.2.2.2.2.2.2.2.2.2.2.2.2.1 k0_t1
theorem k0_mult15_dvd : ∀ (i : grid0.Coords) (v142_0 : BitVec 32) (k0_hw2 : k0_chk2 i v142_0) (k0_t1 : Fin (k0_t1_loop i v142_0).trips), 256 ∣ (k0_mult15 i v142_0 k0_t1).toNat := fun i v142_0 k0_hw2 k0_t1 => k0_hw2.1.2.2.2.2.2.2.2.2.2.2.2.2.2.2.2.1 k0_t1
theorem k0_mult16_dvd : ∀ (i : grid0.Coords) (v142_0 : BitVec 32) (k0_hw2 : k0_chk2 i v142_0) (k0_t1 : Fin (k0_t1_loop i v142_0).trips), 256 ∣ (k0_mult16 i v142_0 k0_t1).toNat := fun i v142_0 k0_hw2 k0_t1 => k0_hw2.1.2.2.2.2.2.2.2.2.2.2.2.2.2.2.2.2.1 k0_t1
theorem k0_off9_inb : ∀ (i : grid0.Coords) (v142_0 : BitVec 32) (k0_hw2 : k0_chk2 i v142_0) (k0_t1 : Fin (k0_t1_loop i v142_0).trips), ∀ a, (k0_off9 i v142_0 k0_t1) a + S1x1x256.size a ≤ S1x2x8192.size a := fun i v142_0 k0_hw2 k0_t1 => k0_hw2.1.2.2.2.2.2.2.2.2.2.2.2.2.2.2.2.2.2.1 k0_t1
theorem k0_mult17_dvd : ∀ (i : grid0.Coords) (v142_0 : BitVec 32) (k0_hw2 : k0_chk2 i v142_0) (k0_t1 : Fin (k0_t1_loop i v142_0).trips), 256 ∣ (k0_mult17 i v142_0 k0_t1).toNat := fun i v142_0 k0_hw2 k0_t1 => k0_hw2.1.2.2.2.2.2.2.2.2.2.2.2.2.2.2.2.2.2.2.1 k0_t1
theorem k0_off10_inb : ∀ (i : grid0.Coords) (v142_0 : BitVec 32) (k0_hw2 : k0_chk2 i v142_0) (k0_t1 : Fin (k0_t1_loop i v142_0).trips), ∀ a, (k0_off10 i v142_0 k0_t1) a + S1x1x256.size a ≤ S1x2x8192.size a := fun i v142_0 k0_hw2 k0_t1 => k0_hw2.1.2.2.2.2.2.2.2.2.2.2.2.2.2.2.2.2.2.2.2.1 k0_t1
theorem k0_mult18_dvd : ∀ (i : grid0.Coords) (v142_0 : BitVec 32) (k0_hw2 : k0_chk2 i v142_0) (k0_t1 : Fin (k0_t1_loop i v142_0).trips), 256 ∣ (k0_mult18 i v142_0 k0_t1).toNat := fun i v142_0 k0_hw2 k0_t1 => k0_hw2.1.2.2.2.2.2.2.2.2.2.2.2.2.2.2.2.2.2.2.2.2.1 k0_t1
theorem k0_mult19_dvd : ∀ (i : grid0.Coords) (v142_0 : BitVec 32) (k0_hw2 : k0_chk2 i v142_0) (k0_t1 : Fin (k0_t1_loop i v142_0).trips), 256 ∣ (k0_mult19 i v142_0 k0_t1).toNat := fun i v142_0 k0_hw2 k0_t1 => k0_hw2.1.2.2.2.2.2.2.2.2.2.2.2.2.2.2.2.2.2.2.2.2.2.1 k0_t1
theorem k0_mult20_dvd : ∀ (i : grid0.Coords) (v142_0 : BitVec 32) (k0_hw2 : k0_chk2 i v142_0) (k0_t1 : Fin (k0_t1_loop i v142_0).trips), 256 ∣ (k0_mult20 i v142_0 k0_t1).toNat := fun i v142_0 k0_hw2 k0_t1 => k0_hw2.1.2.2.2.2.2.2.2.2.2.2.2.2.2.2.2.2.2.2.2.2.2.2.1 k0_t1
theorem k0_mult21_dvd : ∀ (i : grid0.Coords) (v142_0 : BitVec 32) (k0_hw2 : k0_chk2 i v142_0) (k0_t1 : Fin (k0_t1_loop i v142_0).trips), 256 ∣ (k0_mult21 i v142_0 k0_t1).toNat := fun i v142_0 k0_hw2 k0_t1 => k0_hw2.1.2.2.2.2.2.2.2.2.2.2.2.2.2.2.2.2.2.2.2.2.2.2.2.1 k0_t1
theorem k0_mult22_dvd : ∀ (i : grid0.Coords) (v142_0 : BitVec 32) (k0_hw2 : k0_chk2 i v142_0) (k0_t1 : Fin (k0_t1_loop i v142_0).trips), 256 ∣ (k0_mult22 i v142_0 k0_t1).toNat := fun i v142_0 k0_hw2 k0_t1 => k0_hw2.1.2.2.2.2.2.2.2.2.2.2.2.2.2.2.2.2.2.2.2.2.2.2.2.2.1 k0_t1
theorem k0_mult23_dvd : ∀ (i : grid0.Coords) (v142_0 : BitVec 32) (k0_hw2 : k0_chk2 i v142_0) (k0_t1 : Fin (k0_t1_loop i v142_0).trips), 256 ∣ (k0_mult23 i v142_0 k0_t1).toNat := fun i v142_0 k0_hw2 k0_t1 => k0_hw2.1.2.2.2.2.2.2.2.2.2.2.2.2.2.2.2.2.2.2.2.2.2.2.2.2.2.1 k0_t1
theorem k0_off11_inb : ∀ (i : grid0.Coords) (v142_0 : BitVec 32) (k0_hw2 : k0_chk2 i v142_0) (k0_t1 : Fin (k0_t1_loop i v142_0).trips), ∀ a, (k0_off11 i v142_0 k0_t1) a + S256x128.size a ≤ S8192x128.size a := fun i v142_0 k0_hw2 k0_t1 => k0_hw2.1.2.2.2.2.2.2.2.2.2.2.2.2.2.2.2.2.2.2.2.2.2.2.2.2.2.2.1 k0_t1
theorem k0_mult24_dvd : ∀ (i : grid0.Coords) (v142_0 : BitVec 32) (k0_hw2 : k0_chk2 i v142_0) (k0_t1 : Fin (k0_t1_loop i v142_0).trips), 256 ∣ (k0_mult24 i v142_0 k0_t1).toNat := fun i v142_0 k0_hw2 k0_t1 => k0_hw2.1.2.2.2.2.2.2.2.2.2.2.2.2.2.2.2.2.2.2.2.2.2.2.2.2.2.2.2.1 k0_t1
theorem k0_mult25_dvd : ∀ (i : grid0.Coords) (v142_0 : BitVec 32) (k0_hw2 : k0_chk2 i v142_0) (k0_t1 : Fin (k0_t1_loop i v142_0).trips), 256 ∣ (k0_mult25 i v142_0 k0_t1).toNat := fun i v142_0 k0_hw2 k0_t1 => k0_hw2.1.2.2.2.2.2.2.2.2.2.2.2.2.2.2.2.2.2.2.2.2.2.2.2.2.2.2.2.2.1 k0_t1
theorem k0_off12_inb : ∀ (i : grid0.Coords) (v142_0 : BitVec 32) (k0_hw2 : k0_chk2 i v142_0) (k0_t1 : Fin (k0_t1_loop i v142_0).trips), ∀ a, (k0_off12 i v142_0 k0_t1) a + S1x1x256.size a ≤ S1x2x8192.size a := fun i v142_0 k0_hw2 k0_t1 => k0_hw2.1.2.2.2.2.2.2.2.2.2.2.2.2.2.2.2.2.2.2.2.2.2.2.2.2.2.2.2.2.2.1 k0_t1
theorem k0_mult26_dvd : ∀ (i : grid0.Coords) (v142_0 : BitVec 32) (k0_hw2 : k0_chk2 i v142_0) (k0_t1 : Fin (k0_t1_loop i v142_0).trips), 256 ∣ (k0_mult26 i v142_0 k0_t1).toNat := fun i v142_0 k0_hw2 k0_t1 => k0_hw2.1.2.2.2.2.2.2.2.2.2.2.2.2.2.2.2.2.2.2.2.2.2.2.2.2.2.2.2.2.2.2.1 k0_t1
theorem k0_off13_inb : ∀ (i : grid0.Coords) (v142_0 : BitVec 32) (k0_hw2 : k0_chk2 i v142_0) (k0_t1 : Fin (k0_t1_loop i v142_0).trips), ∀ a, (k0_off13 i v142_0 k0_t1) a + S1x1x256.size a ≤ S1x2x8192.size a := fun i v142_0 k0_hw2 k0_t1 => k0_hw2.1.2.2.2.2.2.2.2.2.2.2.2.2.2.2.2.2.2.2.2.2.2.2.2.2.2.2.2.2.2.2.2 k0_t1
theorem k0_mult27_dvd : ∀ (i : grid0.Coords) (v142_0 : BitVec 32) (k0_hw2 : k0_chk2 i v142_0) (k0_t1 : Fin (k0_t1_loop i v142_0).trips), 256 ∣ (k0_mult27 i v142_0 k0_t1).toNat := fun i v142_0 k0_hw2 k0_t1 => k0_hw2.2.1 k0_t1
theorem k0_mult28_dvd : ∀ (i : grid0.Coords) (v142_0 : BitVec 32) (k0_hw2 : k0_chk2 i v142_0) (k0_t1 : Fin (k0_t1_loop i v142_0).trips), 256 ∣ (k0_mult28 i v142_0 k0_t1).toNat := fun i v142_0 k0_hw2 k0_t1 => k0_hw2.2.2.1 k0_t1
theorem k0_mult29_dvd : ∀ (i : grid0.Coords) (v142_0 : BitVec 32) (k0_hw2 : k0_chk2 i v142_0) (k0_t1 : Fin (k0_t1_loop i v142_0).trips), 256 ∣ (k0_mult29 i v142_0 k0_t1).toNat := fun i v142_0 k0_hw2 k0_t1 => k0_hw2.2.2.2.1 k0_t1
theorem k0_mult30_dvd : ∀ (i : grid0.Coords) (v142_0 : BitVec 32) (k0_hw2 : k0_chk2 i v142_0) (k0_t1 : Fin (k0_t1_loop i v142_0).trips), 256 ∣ (k0_mult30 i v142_0 k0_t1).toNat := fun i v142_0 k0_hw2 k0_t1 => k0_hw2.2.2.2.2.1 k0_t1
theorem k0_mult31_dvd : ∀ (i : grid0.Coords) (v142_0 : BitVec 32) (k0_hw2 : k0_chk2 i v142_0) (k0_t1 : Fin (k0_t1_loop i v142_0).trips), 256 ∣ (k0_mult31 i v142_0 k0_t1).toNat := fun i v142_0 k0_hw2 k0_t1 => k0_hw2.2.2.2.2.2.1 k0_t1
theorem k0_t2_ok : ∀ (i : grid0.Coords) (v142_0 : BitVec 32) (k0_hw2 : k0_chk2 i v142_0), (k0_t2_loop i v142_0).OK := fun i v142_0 k0_hw2 => k0_hw2.2.2.2.2.2.2.1
theorem k0_mult32_dvd : ∀ (i : grid0.Coords) (v142_0 : BitVec 32) (k0_hw2 : k0_chk2 i v142_0) (k0_t2 : Fin (k0_t2_loop i v142_0).trips), 256 ∣ (k0_mult32 i v142_0 k0_t2).toNat := fun i v142_0 k0_hw2 k0_t2 => k0_hw2.2.2.2.2.2.2.2.1 k0_t2
theorem k0_off14_inb : ∀ (i : grid0.Coords) (v142_0 : BitVec 32) (k0_hw2 : k0_chk2 i v142_0) (k0_t2 : Fin (k0_t2_loop i v142_0).trips), ∀ a, (k0_off14 i v142_0 k0_t2) a + S256x128.size a ≤ S8192x128.size a := fun i v142_0 k0_hw2 k0_t2 => k0_hw2.2.2.2.2.2.2.2.2.1 k0_t2
theorem k0_mult33_dvd : ∀ (i : grid0.Coords) (v142_0 : BitVec 32) (k0_hw2 : k0_chk2 i v142_0) (k0_t2 : Fin (k0_t2_loop i v142_0).trips), 256 ∣ (k0_mult33 i v142_0 k0_t2).toNat := fun i v142_0 k0_hw2 k0_t2 => k0_hw2.2.2.2.2.2.2.2.2.2.1 k0_t2
theorem k0_mult34_dvd : ∀ (i : grid0.Coords) (v142_0 : BitVec 32) (k0_hw2 : k0_chk2 i v142_0) (k0_t2 : Fin (k0_t2_loop i v142_0).trips), 256 ∣ (k0_mult34 i v142_0 k0_t2).toNat := fun i v142_0 k0_hw2 k0_t2 => k0_hw2.2.2.2.2.2.2.2.2.2.2.1 k0_t2
theorem k0_off15_inb : ∀ (i : grid0.Coords) (v142_0 : BitVec 32) (k0_hw2 : k0_chk2 i v142_0) (k0_t2 : Fin (k0_t2_loop i v142_0).trips), ∀ a, (k0_off15 i v142_0 k0_t2) a + S1x1x256.size a ≤ S1x2x8192.size a := fun i v142_0 k0_hw2 k0_t2 => k0_hw2.2.2.2.2.2.2.2.2.2.2.2.1 k0_t2
theorem k0_mult35_dvd : ∀ (i : grid0.Coords) (v142_0 : BitVec 32) (k0_hw2 : k0_chk2 i v142_0) (k0_t2 : Fin (k0_t2_loop i v142_0).trips), 256 ∣ (k0_mult35 i v142_0 k0_t2).toNat := fun i v142_0 k0_hw2 k0_t2 => k0_hw2.2.2.2.2.2.2.2.2.2.2.2.2.1 k0_t2
theorem k0_off16_inb : ∀ (i : grid0.Coords) (v142_0 : BitVec 32) (k0_hw2 : k0_chk2 i v142_0) (k0_t2 : Fin (k0_t2_loop i v142_0).trips), ∀ a, (k0_off16 i v142_0 k0_t2) a + S1x1x256.size a ≤ S1x2x8192.size a := fun i v142_0 k0_hw2 k0_t2 => k0_hw2.2.2.2.2.2.2.2.2.2.2.2.2.2.1 k0_t2
theorem k0_mult36_dvd : ∀ (i : grid0.Coords) (v142_0 : BitVec 32) (k0_hw2 : k0_chk2 i v142_0) (k0_t2 : Fin (k0_t2_loop i v142_0).trips), 256 ∣ (k0_mult36 i v142_0 k0_t2).toNat := fun i v142_0 k0_hw2 k0_t2 => k0_hw2.2.2.2.2.2.2.2.2.2.2.2.2.2.2.1 k0_t2
theorem k0_mult37_dvd : ∀ (i : grid0.Coords) (v142_0 : BitVec 32) (k0_hw2 : k0_chk2 i v142_0) (k0_t2 : Fin (k0_t2_loop i v142_0).trips), 256 ∣ (k0_mult37 i v142_0 k0_t2).toNat := fun i v142_0 k0_hw2 k0_t2 => k0_hw2.2.2.2.2.2.2.2.2.2.2.2.2.2.2.2.1 k0_t2
theorem k0_mult38_dvd : ∀ (i : grid0.Coords) (v142_0 : BitVec 32) (k0_hw2 : k0_chk2 i v142_0) (k0_t2 : Fin (k0_t2_loop i v142_0).trips), 256 ∣ (k0_mult38 i v142_0 k0_t2).toNat := fun i v142_0 k0_hw2 k0_t2 => k0_hw2.2.2.2.2.2.2.2.2.2.2.2.2.2.2.2.2.1 k0_t2
theorem k0_mult39_dvd : ∀ (i : grid0.Coords) (v142_0 : BitVec 32) (k0_hw2 : k0_chk2 i v142_0) (k0_t2 : Fin (k0_t2_loop i v142_0).trips), 256 ∣ (k0_mult39 i v142_0 k0_t2).toNat := fun i v142_0 k0_hw2 k0_t2 => k0_hw2.2.2.2.2.2.2.2.2.2.2.2.2.2.2.2.2.2.1 k0_t2
theorem k0_mult40_dvd : ∀ (i : grid0.Coords) (v142_0 : BitVec 32) (k0_hw2 : k0_chk2 i v142_0) (k0_t2 : Fin (k0_t2_loop i v142_0).trips), 256 ∣ (k0_mult40 i v142_0 k0_t2).toNat := fun i v142_0 k0_hw2 k0_t2 => k0_hw2.2.2.2.2.2.2.2.2.2.2.2.2.2.2.2.2.2.2.1 k0_t2
theorem k0_mult41_dvd : ∀ (i : grid0.Coords) (v142_0 : BitVec 32) (k0_hw2 : k0_chk2 i v142_0) (k0_t2 : Fin (k0_t2_loop i v142_0).trips), 256 ∣ (k0_mult41 i v142_0 k0_t2).toNat := fun i v142_0 k0_hw2 k0_t2 => k0_hw2.2.2.2.2.2.2.2.2.2.2.2.2.2.2.2.2.2.2.2.1 k0_t2
theorem k0_off17_inb : ∀ (i : grid0.Coords) (v142_0 : BitVec 32) (k0_hw2 : k0_chk2 i v142_0) (k0_t2 : Fin (k0_t2_loop i v142_0).trips), ∀ a, (k0_off17 i v142_0 k0_t2) a + S256x128.size a ≤ S8192x128.size a := fun i v142_0 k0_hw2 k0_t2 => k0_hw2.2.2.2.2.2.2.2.2.2.2.2.2.2.2.2.2.2.2.2.2.1 k0_t2
theorem k0_mult42_dvd : ∀ (i : grid0.Coords) (v142_0 : BitVec 32) (k0_hw2 : k0_chk2 i v142_0) (k0_t2 : Fin (k0_t2_loop i v142_0).trips), 256 ∣ (k0_mult42 i v142_0 k0_t2).toNat := fun i v142_0 k0_hw2 k0_t2 => k0_hw2.2.2.2.2.2.2.2.2.2.2.2.2.2.2.2.2.2.2.2.2.2.1 k0_t2
theorem k0_mult43_dvd : ∀ (i : grid0.Coords) (v142_0 : BitVec 32) (k0_hw2 : k0_chk2 i v142_0) (k0_t2 : Fin (k0_t2_loop i v142_0).trips), 256 ∣ (k0_mult43 i v142_0 k0_t2).toNat := fun i v142_0 k0_hw2 k0_t2 => k0_hw2.2.2.2.2.2.2.2.2.2.2.2.2.2.2.2.2.2.2.2.2.2.2.1 k0_t2
theorem k0_off18_inb : ∀ (i : grid0.Coords) (v142_0 : BitVec 32) (k0_hw2 : k0_chk2 i v142_0) (k0_t2 : Fin (k0_t2_loop i v142_0).trips), ∀ a, (k0_off18 i v142_0 k0_t2) a + S1x1x256.size a ≤ S1x2x8192.size a := fun i v142_0 k0_hw2 k0_t2 => k0_hw2.2.2.2.2.2.2.2.2.2.2.2.2.2.2.2.2.2.2.2.2.2.2.2.1 k0_t2
theorem k0_mult44_dvd : ∀ (i : grid0.Coords) (v142_0 : BitVec 32) (k0_hw2 : k0_chk2 i v142_0) (k0_t2 : Fin (k0_t2_loop i v142_0).trips), 256 ∣ (k0_mult44 i v142_0 k0_t2).toNat := fun i v142_0 k0_hw2 k0_t2 => k0_hw2.2.2.2.2.2.2.2.2.2.2.2.2.2.2.2.2.2.2.2.2.2.2.2.2.1 k0_t2
theorem k0_off19_inb : ∀ (i : grid0.Coords) (v142_0 : BitVec 32) (k0_hw2 : k0_chk2 i v142_0) (k0_t2 : Fin (k0_t2_loop i v142_0).trips), ∀ a, (k0_off19 i v142_0 k0_t2) a + S1x1x256.size a ≤ S1x2x8192.size a := fun i v142_0 k0_hw2 k0_t2 => k0_hw2.2.2.2.2.2.2.2.2.2.2.2.2.2.2.2.2.2.2.2.2.2.2.2.2.2.1 k0_t2
theorem k0_mult45_dvd : ∀ (i : grid0.Coords) (v142_0 : BitVec 32) (k0_hw2 : k0_chk2 i v142_0) (k0_t2 : Fin (k0_t2_loop i v142_0).trips), 256 ∣ (k0_mult45 i v142_0 k0_t2).toNat := fun i v142_0 k0_hw2 k0_t2 => k0_hw2.2.2.2.2.2.2.2.2.2.2.2.2.2.2.2.2.2.2.2.2.2.2.2.2.2.2.1 k0_t2
theorem k0_mult46_dvd : ∀ (i : grid0.Coords) (v142_0 : BitVec 32) (k0_hw2 : k0_chk2 i v142_0) (k0_t2 : Fin (k0_t2_loop i v142_0).trips), 256 ∣ (k0_mult46 i v142_0 k0_t2).toNat := fun i v142_0 k0_hw2 k0_t2 => k0_hw2.2.2.2.2.2.2.2.2.2.2.2.2.2.2.2.2.2.2.2.2.2.2.2.2.2.2.2.1 k0_t2
theorem k0_mult47_dvd : ∀ (i : grid0.Coords) (v142_0 : BitVec 32) (k0_hw2 : k0_chk2 i v142_0) (k0_t2 : Fin (k0_t2_loop i v142_0).trips), 256 ∣ (k0_mult47 i v142_0 k0_t2).toNat := fun i v142_0 k0_hw2 k0_t2 => k0_hw2.2.2.2.2.2.2.2.2.2.2.2.2.2.2.2.2.2.2.2.2.2.2.2.2.2.2.2.2.1 k0_t2
theorem k0_mult48_dvd : ∀ (i : grid0.Coords) (v142_0 : BitVec 32) (k0_hw2 : k0_chk2 i v142_0) (k0_t2 : Fin (k0_t2_loop i v142_0).trips), 256 ∣ (k0_mult48 i v142_0 k0_t2).toNat := fun i v142_0 k0_hw2 k0_t2 => k0_hw2.2.2.2.2.2.2.2.2.2.2.2.2.2.2.2.2.2.2.2.2.2.2.2.2.2.2.2.2.2.1 k0_t2
theorem k0_mult49_dvd : ∀ (i : grid0.Coords) (v142_0 : BitVec 32) (k0_hw2 : k0_chk2 i v142_0) (k0_t2 : Fin (k0_t2_loop i v142_0).trips), 256 ∣ (k0_mult49 i v142_0 k0_t2).toNat := fun i v142_0 k0_hw2 k0_t2 => k0_hw2.2.2.2.2.2.2.2.2.2.2.2.2.2.2.2.2.2.2.2.2.2.2.2.2.2.2.2.2.2.2 k0_t2

def k0_mult50 (i : grid0.Coords) : BitVec 32 :=
  let arg1 : BitVec 32 := BitVec.ofNat 32 (i 1).val
  let c256_i32_69 : BitVec 32 := 256#32
  let v193 : BitVec 32 := Scalar.muli arg1 c256_i32_69
  v193
def k0_off20 (i : grid0.Coords) : Fin 2 → Nat :=
  let arg1 : BitVec 32 := BitVec.ofNat 32 (i 1).val
  let c256_i32_69 : BitVec 32 := 256#32
  let v193 : BitVec 32 := Scalar.muli arg1 c256_i32_69
  let v194 : BitVec 32 := v193
  let v195 : Index := Scalar.indexCast v194
  let c0_70 : Index := 0#32
  ![v195.toNat, 0]
def k0_mult51 (i : grid0.Coords) : BitVec 32 :=
  let arg1 : BitVec 32 := BitVec.ofNat 32 (i 1).val
  let c256_i32_72 : BitVec 32 := 256#32
  let v199 : BitVec 32 := Scalar.muli arg1 c256_i32_72
  v199
def k0_mult52 (i : grid0.Coords) : BitVec 32 :=
  let arg1 : BitVec 32 := BitVec.ofNat 32 (i 1).val
  let c256_i32_75 : BitVec 32 := 256#32
  let v207 : BitVec 32 := Scalar.muli arg1 c256_i32_75
  v207
def k0_off21 (i : grid0.Coords) : Fin 3 → Nat :=
  let c0_76 : Index := 0#32
  let c0_77 : Index := 0#32
  let arg1 : BitVec 32 := BitVec.ofNat 32 (i 1).val
  let c256_i32_75 : BitVec 32 := 256#32
  let v207 : BitVec 32 := Scalar.muli arg1 c256_i32_75
  let v208 : BitVec 32 := v207
  let v209 : Index := Scalar.indexCast v208
  ![0, 0, v209.toNat]
def k0_mult53 (i : grid0.Coords) : BitVec 32 :=
  let arg1 : BitVec 32 := BitVec.ofNat 32 (i 1).val
  let c256_i32_78 : BitVec 32 := 256#32
  let v217 : BitVec 32 := Scalar.muli arg1 c256_i32_78
  v217
def k0_off22 (i : grid0.Coords) : Fin 3 → Nat :=
  let c0_79 : Index := 0#32
  let c1_80 : Index := 1#32
  let arg1 : BitVec 32 := BitVec.ofNat 32 (i 1).val
  let c256_i32_78 : BitVec 32 := 256#32
  let v217 : BitVec 32 := Scalar.muli arg1 c256_i32_78
  let v218 : BitVec 32 := v217
  let v219 : Index := Scalar.indexCast v218
  ![0, 1, v219.toNat]
def k0_mult54 (i : grid0.Coords) : BitVec 32 :=
  let arg1 : BitVec 32 := BitVec.ofNat 32 (i 1).val
  let c256_i32_82 : BitVec 32 := 256#32
  let v234 : BitVec 32 := Scalar.muli arg1 c256_i32_82
  v234
def k0_mult55 (i : grid0.Coords) : BitVec 32 :=
  let arg1 : BitVec 32 := BitVec.ofNat 32 (i 1).val
  let c256_i32_86 : BitVec 32 := 256#32
  let v243 : BitVec 32 := Scalar.muli arg1 c256_i32_86
  v243
def k0_mult56 (i : grid0.Coords) : BitVec 32 :=
  let arg1 : BitVec 32 := BitVec.ofNat 32 (i 1).val
  let c256_i32_90 : BitVec 32 := 256#32
  let v253 : BitVec 32 := Scalar.muli arg1 c256_i32_90
  v253
def k0_mult57 (i : grid0.Coords) : BitVec 32 :=
  let arg1 : BitVec 32 := BitVec.ofNat 32 (i 1).val
  let c256_i32_96 : BitVec 32 := 256#32
  let v266 : BitVec 32 := Scalar.muli arg1 c256_i32_96
  v266
def k0_mult58 (i : grid0.Coords) : BitVec 32 :=
  let arg1 : BitVec 32 := BitVec.ofNat 32 (i 1).val
  let c256_i32_102 : BitVec 32 := 256#32
  let v279 : BitVec 32 := Scalar.muli arg1 c256_i32_102
  v279
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelFoxIdeal.lean ====
variable {F : FTy → Type} [FloatOps F] [Named F]
def κ : String → Option EReal := fun
  | "no_skip" => some ⊥
  | _ => none
-- ==== ReferenceFoxIdeal.lean ====
abbrev S8192x2824 : Shape := ⟨2, ![8192, 2824]⟩
abbrev S8192x512 : Shape := ⟨2, ![8192, 512]⟩
abbrev S8192x8 : Shape := ⟨2, ![8192, 8]⟩
abbrev S8192x1024 : Shape := ⟨2, ![8192, 1024]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 126
  | .vmem => 0
  | .smem => 0
  | _ => 0

abbrev bufTy : (tb : Table) → Fin (tcTables nBuf tb) → BufTy
  | .hbm, ⟨0, _⟩ => ⟨S8192x2824, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x1024, .f32⟩
  | .hbm, ⟨5, _⟩ => ⟨S8192x512, .f32⟩
  | .hbm, ⟨6, _⟩ => ⟨S8192x8x64, .f32⟩
  | .hbm, ⟨7, _⟩ => ⟨S8x8192x64, .f32⟩
  | .hbm, ⟨8, _⟩ => ⟨S8192x8x64, .f32⟩
  | .hbm, ⟨9, _⟩ => ⟨S8x8192x64, .f32⟩
  | .hbm, ⟨10, _⟩ => ⟨S8192x8x64, .f32⟩
  | .hbm, ⟨11, _⟩ => ⟨S8x8192x64, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x8192, .f32⟩
  | .hbm, ⟨21, _⟩ => ⟨S8x1x8192, .f32⟩
  | .hbm, ⟨22, _⟩ => ⟨S8x8192x8192, .f32⟩
  | .hbm, ⟨23, _⟩ => ⟨S8x8192x8192, .f32⟩
  | .hbm, ⟨24, _⟩ => ⟨S8192, .i32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8x8192x8192, .i1⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .i1⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .f32⟩
  | .hbm, ⟨48, _⟩ => ⟨S_, .f32⟩
  | .hbm, ⟨49, _⟩ => ⟨S8x8192, .f32⟩
  | .hbm, ⟨50, _⟩ => ⟨S8x8192, .i1⟩
  | .hbm, ⟨51, _⟩ => ⟨S_, .f32⟩
  | .hbm, ⟨52, _⟩ => ⟨S8x8192, .f32⟩
  | .hbm, ⟨53, _⟩ => ⟨S8x8192, .i1⟩
  | .hbm, ⟨54, _⟩ => ⟨S_, .f32⟩
  | .hbm, ⟨55, _⟩ => ⟨S8x8192, .f32⟩
  | .hbm, ⟨56, _⟩ => ⟨S_, .f32⟩
  | .hbm, ⟨57, _⟩ => ⟨S8x8192, .f32⟩
  | .hbm, ⟨58, _⟩ => ⟨S_, .f32⟩
  | .hbm, ⟨59, _⟩ => ⟨S8x8192, .f32⟩
  | .hbm, ⟨60, _⟩ => ⟨S8x8192, .f32⟩
  | .hbm, ⟨61, _⟩ => ⟨S8x8192, .f32⟩
  | .hbm, ⟨62, _⟩ => ⟨S8x8192x1, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S8x8192x8192, .f32⟩
  | .hbm, ⟨70, _⟩ => ⟨S8x8192x8192, .f32⟩
  | .hbm, ⟨71, _⟩ => ⟨S8x8192x1, .f32⟩
  | .hbm, ⟨72, _⟩ => ⟨S_, .f32⟩
  | .hbm, ⟨73, _⟩ => ⟨S8x8192x1, .f32⟩
  | .hbm, ⟨74, _⟩ => ⟨S8x8192x1, .f32⟩
  | .hbm, ⟨75, _⟩ => ⟨S8x8192x64, .f32⟩
  | .hbm, ⟨76, _⟩ => ⟨S8192x8x64, .f32⟩
  | .hbm, ⟨77, _⟩ => ⟨S8192x512, .f32⟩
  | .hbm, ⟨78, _⟩ => ⟨S8192x512, .f32⟩
  | .hbm, ⟨79, _⟩ => ⟨S8192x8x64, .f32⟩
  | .hbm, ⟨80, _⟩ => ⟨S8x8192x64, .f32⟩
  | .hbm, ⟨81, _⟩ => ⟨S8x64x8192, .f32⟩
  | .hbm, ⟨82, _⟩ => ⟨S8x8192x64, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S8x8192x8192, .f32⟩
  | .hbm, ⟨87, _⟩ => ⟨S_, .f32⟩
  | .hbm, ⟨88, _⟩ => ⟨S8x8192, .f32⟩
  | .hbm, ⟨89, _⟩ => ⟨S8x8192x1, .f32⟩
  | .hbm, ⟨90, _⟩ => ⟨S8x8192x1, .f32⟩
  | .hbm, ⟨91, _⟩ => ⟨S8x8192x8192, .f32⟩
  | .hbm, ⟨92, _⟩ => ⟨S8x8192x8192, .f32⟩
  | .hbm, ⟨93, _⟩ => ⟨S_, .f32⟩
  | .hbm, ⟨94, _⟩ => ⟨S8x8192, .f32⟩
  | .hbm, ⟨95, _⟩ => ⟨S8x8192x8192, .f32⟩
  | .hbm, ⟨96, _⟩ => ⟨S8x8192x8192, .f32⟩
  | .hbm, ⟨97, _⟩ => ⟨S8x8192x8192, .f32⟩
  | .hbm, ⟨98, _⟩ => ⟨S_, .f32⟩
  | .hbm, ⟨99, _⟩ => ⟨S8x8192x8192, .f32⟩
  | .hbm, ⟨100, _⟩ => ⟨S8x8192x8192, .f32⟩
  | .hbm, ⟨101, _⟩ => ⟨S8x8192x8192, .f32⟩
  | .hbm, ⟨102, _⟩ => ⟨S_, .f32⟩
  | .hbm, ⟨103, _⟩ => ⟨S8x8192, .f32⟩
  | .hbm, ⟨104, _⟩ => ⟨S8x1x8192, .f32⟩
  | .hbm, ⟨105, _⟩ => ⟨S_, .f32⟩
  | .hbm, ⟨106, _⟩ => ⟨S8x8192, .f32⟩
  | .hbm, ⟨107, _⟩ => ⟨S8192x8, .f32⟩
  | .hbm, ⟨108, _⟩ => ⟨S_, .f32⟩
  | .hbm, ⟨109, _⟩ => ⟨S8x8192, .f32⟩
  | .hbm, ⟨110, _⟩ => ⟨S8x8192x1, .f32⟩
  | .hbm, ⟨111, _⟩ => ⟨S_, .f32⟩
  | .hbm, ⟨112, _⟩ => ⟨S8x8192, .f32⟩
  | .hbm, ⟨113, _⟩ => ⟨S8192x8, .f32⟩
  | .hbm, ⟨114, _⟩ => ⟨S8192x8, .f32⟩
  | .hbm, ⟨115, _⟩ => ⟨S_, .f32⟩
  | .hbm, ⟨116, _⟩ => ⟨S8x8192x8192, .f32⟩
  | .hbm, ⟨117, _⟩ => ⟨S8x8192x8192, .f32⟩
  | .hbm, ⟨118, _⟩ => ⟨S8x8192x64, .f32⟩
  | .hbm, ⟨119, _⟩ => ⟨S8x8192x64, .f32⟩
  | .hbm, ⟨120, _⟩ => ⟨S8192x8x64, .f32⟩
  | .hbm, ⟨121, _⟩ => ⟨S8192x512, .f32⟩
  | .hbm, ⟨122, _⟩ => ⟨S8192x8x64, .f32⟩
  | .hbm, ⟨123, _⟩ => ⟨S8192x512, .f32⟩
  | .hbm, ⟨124, _⟩ => ⟨S8192x8x64, .f32⟩
  | .hbm, ⟨125, _⟩ => ⟨S8192x512, .f32⟩
  | _, _ => ⟨S8192x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_v24_1 : Ref sig .tc := ⟨.hbm, 32, rfl⟩
abbrev main_call0_v2 : Ref sig .tc := ⟨.hbm, 33, rfl⟩
abbrev main_v24_0 : Ref sig .tc := ⟨.hbm, 34, rfl⟩
abbrev main_call0_cst : Ref sig .tc := ⟨.hbm, 35, rfl⟩
abbrev main_v24_2 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== KernelForget.lean ====
abbrev S8192x2824 : Shape := ⟨2, ![8192, 2824]⟩
abbrev S8 : Shape := ⟨1, ![8]⟩
abbrev S8192x8 : Shape := ⟨2, ![8192, 8]⟩
abbrev S_ : Shape := ⟨0, ![]⟩
abbrev S8192x128 : Shape := ⟨2, ![8192, 128]⟩
abbrev S1 : Shape := ⟨1, ![1]⟩
abbrev S8192x248 : Shape := ⟨2, ![8192, 248]⟩
abbrev S8192x2304 : Shape := ⟨2, ![8192, 2304]⟩
abbrev S8192x512 : Shape := ⟨2, ![8192, 512]⟩
abbrev S8192x3072 : Shape := ⟨2, ![8192, 3072]⟩
abbrev S1x128 : Shape := ⟨2, ![1, 128]⟩
abbrev S2 : Shape := ⟨1, ![2]⟩
abbrev S512x128 : Shape := ⟨2, ![512, 128]⟩
abbrev S512x512 : Shape := ⟨2, ![512, 512]⟩
abbrev S128 : Shape := ⟨1, ![128]⟩
abbrev S1x8 : Shape := ⟨2, ![1, 8]⟩

abbrev nBuf : Space → Nat
  | .hbm => 27
  | .vmem => 9
  | .smem => 0
  | _ => 0

abbrev bufTy : (tb : Table) → Fin (tcTables nBuf tb) → BufTy
  | .hbm, ⟨0, _⟩ => ⟨S8192x2824, .f32⟩
  | .hbm, ⟨1, _⟩ => ⟨S8, .f32⟩
  | .hbm, ⟨2, _⟩ => ⟨S8192x8, .f32⟩
  | .hbm, ⟨3, _⟩ => ⟨S_, .f32⟩
  | .hbm, ⟨4, _⟩ => ⟨S8192x128, .f32⟩
  | .hbm, ⟨5, _⟩ => ⟨S_, .i32⟩
  | .hbm, ⟨6, _⟩ => ⟨S1, .i32⟩
  | .hbm, ⟨7, _⟩ => ⟨S8192x128, .f32⟩
  | .hbm, ⟨8, _⟩ => ⟨S_, .f32⟩
  | .hbm, ⟨9, _⟩ => ⟨S8192x248, .f32⟩
  | .hbm, ⟨10, _⟩ => ⟨S8192x2304, .f32⟩
  | .hbm, ⟨11, _⟩ => ⟨S8192x512, .f32⟩
  | .hbm, ⟨12, _⟩ => ⟨S8192x8, .f32⟩
  | .hbm, ⟨13, _⟩ => ⟨S8192x3072, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S8192x128, .f32⟩
  | .hbm, ⟨23, _⟩ => ⟨S1x128, .f32⟩
  | .hbm, ⟨24, _⟩ => ⟨S8192x8, .f32⟩
  | .hbm, ⟨25, _⟩ => ⟨S1x8, .f32⟩
  | .hbm, ⟨26, _⟩ => ⟨S8, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | .local _ .vmem, ⟨8, _⟩ => ⟨S1x128, .f32⟩
  | _, _ => ⟨S8192x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c22_i32 : BitVec 32 := 22#32
  let c0_i32 : BitVec 32 := 0#32
  ![v0.toNat, c22_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceForgetIdeal.lean ====
abbrev S8192x2824 : Shape := ⟨2, ![8192, 2824]⟩
abbrev S8 : Shape := ⟨1, ![8]⟩
abbrev S8192x8 : Shape := ⟨2, ![8192, 8]⟩
abbrev S1x8 : Shape := ⟨2, ![1, 8]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S8192x2824, .f32⟩
  | .hbm, ⟨1, _⟩ => ⟨S8, .f32⟩
  | .hbm, ⟨2, _⟩ => ⟨S8192x8, .f32⟩
  | .hbm, ⟨3, _⟩ => ⟨S8192x8, .f32⟩
  | .hbm, ⟨4, _⟩ => ⟨S1x8, .f32⟩
  | .hbm, ⟨5, _⟩ => ⟨S8192x8, .f32⟩
  | .hbm, ⟨6, _⟩ => ⟨S8192x8, .f32⟩
  | .hbm, ⟨7, _⟩ => ⟨S8192x8, .f32⟩
  | .hbm, ⟨8, _⟩ => ⟨S_, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x8, .f32⟩
  | .hbm, ⟨13, _⟩ => ⟨S8192x8, .i1⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S_, .f32⟩
  | .hbm, ⟨23, _⟩ => ⟨S8192x8, .f32⟩
  | .hbm, ⟨24, _⟩ => ⟨S8192x8, .i1⟩
  | .hbm, ⟨25, _⟩ => ⟨S_, .f32⟩
  | .hbm, ⟨26, _⟩ => ⟨S8192x8, .f32⟩
  | .hbm, ⟨27, _⟩ => ⟨S8192x8, .f32⟩
  | .hbm, ⟨28, _⟩ => ⟨S_, .f32⟩
  | .hbm, ⟨29, _⟩ => ⟨S8192x8, .f32⟩
  | .hbm, ⟨30, _⟩ => ⟨S8192x8, .i1⟩
  | .hbm, ⟨31, _⟩ => ⟨S_, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S8192x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x8, .f32⟩
  | .hbm, ⟨44, _⟩ => ⟨S8192x8, .i1⟩
  | .hbm, ⟨45, _⟩ => ⟨S_, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S_, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S_, .f32⟩
  | .hbm, ⟨56, _⟩ => ⟨S_, .f32⟩
  | .hbm, ⟨57, _⟩ => ⟨S8192x8, .f32⟩
  | .hbm, ⟨58, _⟩ => ⟨S_, .f32⟩
  | .hbm, ⟨59, _⟩ => ⟨S_, .f32⟩
  | .hbm, ⟨60, _⟩ => ⟨S8192x8, .f32⟩
  | .hbm, ⟨61, _⟩ => ⟨S8192x8, .f32⟩
  | .hbm, ⟨62, _⟩ => ⟨S8192x8, .f32⟩
  | .hbm, ⟨63, _⟩ => ⟨S8192x8, .f32⟩
  | .hbm, ⟨64, _⟩ => ⟨S_, .f32⟩
  | .hbm, ⟨65, _⟩ => ⟨S8, .f32⟩
  | .hbm, ⟨66, _⟩ => ⟨S1x8, .f32⟩
  | .hbm, ⟨67, _⟩ => ⟨S_, .f32⟩
  | .hbm, ⟨68, _⟩ => ⟨S8, .f32⟩
  | _, _ => ⟨S8192x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_call2_call0_cst : Ref sig .tc := ⟨.hbm, 58, rfl⟩
abbrev main_call2_call0_v0 : Ref sig .tc := ⟨.hbm, 59, rfl⟩
abbrev main_v6 : Ref sig .tc := ⟨.hbm, 60, rfl⟩
abbrev main_call3_v0 : Ref sig .tc := ⟨.hbm, 61, rfl⟩
abbrev main_call3_v1 : Ref sig .tc := ⟨.hbm, 62, rfl⟩
abbrev main_v7 : Ref sig .tc := ⟨.hbm, 63, rfl⟩
abbrev main_cst : Ref sig .tc := ⟨.hbm, 64, rfl⟩
abbrev main_v8 : Ref sig .tc := ⟨.hbm, 65, rfl⟩
abbrev main_v9 : Ref sig .tc := ⟨.hbm, 66, rfl⟩
abbrev main_cst_0 : Ref sig .tc := ⟨.hbm, 67, rfl⟩
abbrev main_v10 : Ref sig .tc := ⟨.hbm, 68, rfl⟩

abbrev nD : Nat := 1
abbrev τ : Topo := Topo.v7x

variable {F : FTy → Type} [FloatOps F]
-- ==== KernelNorm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceNormIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== KernelGNorm.lean ====
abbrev S8192x1024 : Shape := ⟨2, ![8192, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceGNormIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .bf16⟩
  | .hbm, ⟨83, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== KernelRelu2.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .f32⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceRelu2Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .f32⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelAda.lean ====
abbrev S16x1024 : Shape := ⟨2, ![16, 1024]⟩
abbrev S4x16x1536 : Shape := ⟨3, ![4, 16, 1536]⟩
abbrev S4x1024x1536 : Shape := ⟨3, ![4, 1024, 1536]⟩
abbrev S1x16x1536 : Shape := ⟨3, ![1, 16, 1536]⟩
abbrev S1x1024x1536 : Shape := ⟨3, ![1, 1024, 1536]⟩
abbrev S16x1536 : Shape := ⟨2, ![16, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x16x1536, .f32⟩
  | .hbm, ⟨2, _⟩ => ⟨S4x1024x1536, .f32⟩
  | .local _ .vmem, ⟨0, _⟩ => ⟨S16x1024, .f32⟩
  | .local _ .vmem, ⟨1, _⟩ => ⟨S1x16x1536, .f32⟩
  | .local _ .vmem, ⟨2, _⟩ => ⟨S1x16x1536, .f32⟩
  | .local _ .vmem, ⟨3, _⟩ => ⟨S1x1024x1536, .f32⟩
  | .local _ .vmem, ⟨4, _⟩ => ⟨S1x1024x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceAdaIdeal.lean ====
abbrev S16x1024 : Shape := ⟨2, ![16, 1024]⟩
abbrev S4x16x1536 : Shape := ⟨3, ![4, 16, 1536]⟩
abbrev S_ : Shape := ⟨0, ![]⟩
abbrev S4x1024x1536 : Shape := ⟨3, ![4, 1024, 1536]⟩
abbrev S4x1536x16 : Shape := ⟨3, ![4, 1536, 16]⟩
abbrev S4x1536x1024 : Shape := ⟨3, ![4, 1536, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x1536, .f32⟩
  | .hbm, ⟨2, _⟩ => ⟨S_, .f32⟩
  | .hbm, ⟨3, _⟩ => ⟨S4x1024x1536, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S4x1536x16, .f32⟩
  | .hbm, ⟨14, _⟩ => ⟨S4x16x1536, .f32⟩
  | .hbm, ⟨15, _⟩ => ⟨S4x1536x16, .f32⟩
  | .hbm, ⟨16, _⟩ => ⟨S4x1536x1024, .f32⟩
  | .hbm, ⟨17, _⟩ => ⟨S4x1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== KernelQkNorm.lean ====
abbrev S8192x2824 : Shape := ⟨2, ![8192, 2824]⟩
abbrev S8192x512 : Shape := ⟨2, ![8192, 512]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S_ : Shape := ⟨0, ![]⟩
abbrev S8192x248 : Shape := ⟨2, ![8192, 248]⟩
abbrev S8192x2304 : Shape := ⟨2, ![8192, 2304]⟩
abbrev S8192x8 : Shape := ⟨2, ![8192, 8]⟩
abbrev S8192x3072 : Shape := ⟨2, ![8192, 3072]⟩
abbrev S2048x128 : Shape := ⟨2, ![2048, 128]⟩
abbrev S2048 : Shape := ⟨1, ![2048]⟩
abbrev S2048x1 : Shape := ⟨2, ![2048, 1]⟩

abbrev nBuf : Space → Nat
  | .hbm => 33
  | .vmem => 16
  | .smem => 0
  | _ => 0

abbrev bufTy : (tb : Table) → Fin (tcTables nBuf tb) → BufTy
  | .hbm, ⟨0, _⟩ => ⟨S8192x2824, .f32⟩
  | .hbm, ⟨1, _⟩ => ⟨S8192x512, .f32⟩
  | .hbm, ⟨2, _⟩ => ⟨S8192x512, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S2x64, .f32⟩
  | .hbm, ⟨7, _⟩ => ⟨S128, .f32⟩
  | .hbm, ⟨8, _⟩ => ⟨S1x128, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S8192x248, .f32⟩
  | .hbm, ⟨15, _⟩ => ⟨S8192x2304, .f32⟩
  | .hbm, ⟨16, _⟩ => ⟨S8192x512, .f32⟩
  | .hbm, ⟨17, _⟩ => ⟨S8192x8, .f32⟩
  | .hbm, ⟨18, _⟩ => ⟨S8192x3072, .f32⟩
  | .hbm, ⟨19, _⟩ => ⟨S8192x512, .f32⟩
  | .hbm, ⟨20, _⟩ => ⟨S8192x512, .f32⟩
  | .hbm, ⟨21, _⟩ => ⟨S1x128, .f32⟩
  | .hbm, ⟨22, _⟩ => ⟨S1x128, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1x128, .f32⟩
  | .local _ .vmem, ⟨15, _⟩ => ⟨S1x128, .f32⟩
  | _, _ => ⟨S8192x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceQkNormIdeal.lean ====
abbrev S8192x2824 : Shape := ⟨2, ![8192, 2824]⟩
abbrev S8192x512 : Shape := ⟨2, ![8192, 512]⟩
abbrev S64 : Shape := ⟨1, ![64]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩

abbrev nBuf : Space → Nat
  | .hbm => 105
  | .vmem => 0
  | .smem => 0
  | _ => 0

abbrev bufTy : (tb : Table) → Fin (tcTables nBuf tb) → BufTy
  | .hbm, ⟨0, _⟩ => ⟨S8192x2824, .f32⟩
  | .hbm, ⟨1, _⟩ => ⟨S8192x512, .f32⟩
  | .hbm, ⟨2, _⟩ => ⟨S8192x512, .f32⟩
  | .hbm, ⟨3, _⟩ => ⟨S64, .f32⟩
  | .hbm, ⟨4, _⟩ => ⟨S64, .f32⟩
  | .hbm, ⟨5, _⟩ => ⟨S8192x512, .f32⟩
  | .hbm, ⟨6, _⟩ => ⟨S8192x512, .f32⟩
  | .hbm, ⟨7, _⟩ => ⟨S8192x8x64, .f32⟩
  | .hbm, ⟨8, _⟩ => ⟨S8192x8x64, .f32⟩
  | .hbm, ⟨9, _⟩ => ⟨S_, .f32⟩
  | .hbm, ⟨10, _⟩ => ⟨S8192x8, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S_, .f32⟩
  | .hbm, ⟨16, _⟩ => ⟨S8192x8x1, .f32⟩
  | .hbm, ⟨17, _⟩ => ⟨S8192x8x1, .f32⟩
  | .hbm, ⟨18, _⟩ => ⟨S8192x8x1, .f32⟩
  | .hbm, ⟨19, _⟩ => ⟨S8192x8x1, .f32⟩
  | .hbm, ⟨20, _⟩ => ⟨S_, .f32⟩
  | .hbm, ⟨21, _⟩ => ⟨S8192x8x1, .f32⟩
  | .hbm, ⟨22, _⟩ => ⟨S8192x8x1, .f32⟩
  | .hbm, ⟨23, _⟩ => ⟨S8192x8x64, .f32⟩
  | .hbm, ⟨24, _⟩ => ⟨S8192x8x64, .f32⟩
  | .hbm, ⟨25, _⟩ => ⟨S1x1x64, .f32⟩
  | .hbm, ⟨26, _⟩ => ⟨S8192x8x64, .f32⟩
  | .hbm, ⟨27, _⟩ => ⟨S8192x8x64, .f32⟩
  | .hbm, ⟨28, _⟩ => ⟨S8192x512, .f32⟩
  | .hbm, ⟨29, _⟩ => ⟨S8192x8x64, .f32⟩
  | .hbm, ⟨30, _⟩ => ⟨S8192x8x64, .f32⟩
  | .hbm, ⟨31, _⟩ => ⟨S_, .f32⟩
  | .hbm, ⟨32, _⟩ => ⟨S8192x8, .f32⟩
  | .hbm, ⟨33, _⟩ => ⟨S8192x8x1, .f32⟩
  | .hbm, ⟨34, _⟩ => ⟨S_, .f32⟩
  | .hbm, ⟨35, _⟩ => ⟨S8192x8x1, .f32⟩
  | .hbm, ⟨36, _⟩ => ⟨S8192x8x1, .f32⟩
  | .hbm, ⟨37, _⟩ => ⟨S_, .f32⟩
  | .hbm, ⟨38, _⟩ => ⟨S8192x8x1, .f32⟩
  | .hbm, ⟨39, _⟩ => ⟨S8192x8x1, .f32⟩
  | .hbm, ⟨40, _⟩ => ⟨S8192x8x1, .f32⟩
  | .hbm, ⟨41, _⟩ => ⟨S8192x8x1, .f32⟩
  | .hbm, ⟨42, _⟩ => ⟨S_, .f32⟩
  | .hbm, ⟨43, _⟩ => ⟨S8192x8x1, .f32⟩
  | .hbm, ⟨44, _⟩ => ⟨S8192x8x1, .f32⟩
  | .hbm, ⟨45, _⟩ => ⟨S8192x8x64, .f32⟩
  | .hbm, ⟨46, _⟩ => ⟨S8192x8x64, .f32⟩
  | .hbm, ⟨47, _⟩ => ⟨S1x1x64, .f32⟩
  | .hbm, ⟨48, _⟩ => ⟨S8192x8x64, .f32⟩
  | .hbm, ⟨49, _⟩ => ⟨S8192x8x64, .f32⟩
  | .hbm, ⟨50, _⟩ => ⟨S8192x512, .f32⟩
  | .hbm, ⟨51, _⟩ => ⟨S8192x8x64, .f32⟩
  | .hbm, ⟨52, _⟩ => ⟨S8192x8x64, .f32⟩
  | .hbm, ⟨53, _⟩ => ⟨S_, .f32⟩
  | .hbm, ⟨54, _⟩ => ⟨S64, .f32⟩
  | .hbm, ⟨55, _⟩ => ⟨S1x1x64, .f32⟩
  | .hbm, ⟨56, _⟩ => ⟨S8192x8x64, .f32⟩
  | .hbm, ⟨57, _⟩ => ⟨S8192x8x64, .f32⟩
  | .hbm, ⟨58, _⟩ => ⟨S_, .f32⟩
  | .hbm, ⟨59, _⟩ => ⟨S64, .f32⟩
  | .hbm, ⟨60, _⟩ => ⟨S8192x8x64, .f32⟩
  | .hbm, ⟨61, _⟩ => ⟨S_, .f32⟩
  | .hbm, ⟨62, _⟩ => ⟨S8192x8, .f32⟩
  | .hbm, ⟨63, _⟩ => ⟨S8192x8x1, .f32⟩
  | .hbm, ⟨64, _⟩ => ⟨S8192x8x64, .f32⟩
  | .hbm, ⟨65, _⟩ => ⟨S8192x8x64, .f32⟩
  | .hbm, ⟨66, _⟩ => ⟨S8192x8x1, .f32⟩
  | .hbm, ⟨67, _⟩ => ⟨S_, .f32⟩
  | .hbm, ⟨68, _⟩ => ⟨S8192x8x1, .f32⟩
  | .hbm, ⟨69, _⟩ => ⟨S8192x8x1, .f32⟩
  | .hbm, ⟨70, _⟩ => ⟨S_, .f32⟩
  | .hbm, ⟨71, _⟩ => ⟨S8192x8, .f32⟩
  | .hbm, ⟨72, _⟩ => ⟨S8192x8x64, .f32⟩
  | .hbm, ⟨73, _⟩ => ⟨S8192x8x64, .f32⟩
  | .hbm, ⟨74, _⟩ => ⟨S8192x8x64, .f32⟩
  | .hbm, ⟨75, _⟩ => ⟨S8192x8x64, .f32⟩
  | .hbm, ⟨76, _⟩ => ⟨S8192x8x64, .f32⟩
  | .hbm, ⟨77, _⟩ => ⟨S8192x512, .f32⟩
  | .hbm, ⟨78, _⟩ => ⟨S8192x8x64, .f32⟩
  | .hbm, ⟨79, _⟩ => ⟨S8192x8x64, .f32⟩
  | .hbm, ⟨80, _⟩ => ⟨S_, .f32⟩
  | .hbm, ⟨81, _⟩ => ⟨S64, .f32⟩
  | .hbm, ⟨82, _⟩ => ⟨S1x1x64, .f32⟩
  | .hbm, ⟨83, _⟩ => ⟨S8192x8x64, .f32⟩
  | .hbm, ⟨84, _⟩ => ⟨S8192x8x64, .f32⟩
  | .hbm, ⟨85, _⟩ => ⟨S_, .f32⟩
  | .hbm, ⟨86, _⟩ => ⟨S64, .f32⟩
  | .hbm, ⟨87, _⟩ => ⟨S8192x8x64, .f32⟩
  | .hbm, ⟨88, _⟩ => ⟨S_, .f32⟩
  | .hbm, ⟨89, _⟩ => ⟨S8192x8, .f32⟩
  | .hbm, ⟨90, _⟩ => ⟨S8192x8x1, .f32⟩
  | .hbm, ⟨91, _⟩ => ⟨S8192x8x64, .f32⟩
  | .hbm, ⟨92, _⟩ => ⟨S8192x8x64, .f32⟩
  | .hbm, ⟨93, _⟩ => ⟨S8192x8x1, .f32⟩
  | .hbm, ⟨94, _⟩ => ⟨S_, .f32⟩
  | .hbm, ⟨95, _⟩ => ⟨S8192x8x1, .f32⟩
  | .hbm, ⟨96, _⟩ => ⟨S8192x8x1, .f32⟩
  | .hbm, ⟨97, _⟩ => ⟨S_, .f32⟩
  | .hbm, ⟨98, _⟩ => ⟨S8192x8, .f32⟩
  | .hbm, ⟨99, _⟩ => ⟨S8192x8x64, .f32⟩
  | .hbm, ⟨100, _⟩ => ⟨S8192x8x64, .f32⟩
  | .hbm, ⟨101, _⟩ => ⟨S8192x8x64, .f32⟩
  | .hbm, ⟨102, _⟩ => ⟨S8192x8x64, .f32⟩
  | .hbm, ⟨103, _⟩ => ⟨S8192x8x64, .f32⟩
  | .hbm, ⟨104, _⟩ => ⟨S8192x512, .f32⟩
  | _, _ => ⟨S8192x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_cst_16 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== KernelSgu.lean ====
abbrev S8192x2824 : Shape := ⟨2, ![8192, 2824]⟩
abbrev S8192x1024 : Shape := ⟨2, ![8192, 1024]⟩
abbrev S4x64 : Shape := ⟨2, ![4, 64]⟩
abbrev S4x128x128 : Shape := ⟨3, ![4, 128, 128]⟩
abbrev S4x128 : Shape := ⟨2, ![4, 128]⟩
abbrev S2x1x128 : Shape := ⟨3, ![2, 1, 128]⟩
abbrev S2x2x128 : Shape := ⟨3, ![2, 2, 128]⟩
abbrev S2x128x2 : Shape := ⟨3, ![2, 128, 2]⟩
abbrev S_ : Shape := ⟨0, ![]⟩
abbrev S8192x248 : Shape := ⟨2, ![8192, 248]⟩
abbrev S8192x2304 : Shape := ⟨2, ![8192, 2304]⟩
abbrev S8192x512 : Shape := ⟨2, ![8192, 512]⟩
abbrev S8192x8 : Shape := ⟨2, ![8192, 8]⟩
abbrev S8192x3072 : Shape := ⟨2, ![8192, 3072]⟩
abbrev S8192x256 : Shape := ⟨2, ![8192, 256]⟩
abbrev S2048x128 : Shape := ⟨2, ![2048, 128]⟩
abbrev S2x128x128 : Shape := ⟨3, ![2, 128, 128]⟩
abbrev S1x128x2 : Shape := ⟨3, ![1, 128, 2]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 23
  | .vmem => 24
  | .smem => 0
  | _ => 0

abbrev bufTy : (tb : Table) → Fin (tcTables nBuf tb) → BufTy
  | .hbm, ⟨0, _⟩ => ⟨S8192x2824, .f32⟩
  | .hbm, ⟨1, _⟩ => ⟨S8192x1024, .f32⟩
  | .hbm, ⟨2, _⟩ => ⟨S4x64, .f32⟩
  | .hbm, ⟨3, _⟩ => ⟨S4x128x128, .f32⟩
  | .hbm, ⟨4, _⟩ => ⟨S4x128, .f32⟩
  | .hbm, ⟨5, _⟩ => ⟨S2x1x128, .f32⟩
  | .hbm, ⟨6, _⟩ => ⟨S2x2x128, .f32⟩
  | .hbm, ⟨7, _⟩ => ⟨S2x128x2, .f32⟩
  | .hbm, ⟨8, _⟩ => ⟨S_, .f32⟩
  | .hbm, ⟨9, _⟩ => ⟨S8192x248, .f32⟩
  | .hbm, ⟨10, _⟩ => ⟨S8192x2304, .f32⟩
  | .hbm, ⟨11, _⟩ => ⟨S8192x512, .f32⟩
  | .hbm, ⟨12, _⟩ => ⟨S8192x8, .f32⟩
  | .hbm, ⟨13, _⟩ => ⟨S8192x3072, .f32⟩
  | .hbm, ⟨14, _⟩ => ⟨S4x128x128, .f32⟩
  | .hbm, ⟨15, _⟩ => ⟨S8192x256, .f32⟩
  | .hbm, ⟨16, _⟩ => ⟨S8192x256, .f32⟩
  | .hbm, ⟨17, _⟩ => ⟨S4x128x128, .f32⟩
  | .hbm, ⟨18, _⟩ => ⟨S2x128x2, .f32⟩
  | .hbm, ⟨19, _⟩ => ⟨S2x1x128, .f32⟩
  | .hbm, ⟨20, _⟩ => ⟨S2x2x128, .f32⟩
  | .hbm, ⟨21, _⟩ => ⟨S4x128, .f32⟩
  | .hbm, ⟨22, _⟩ => ⟨S4x64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2x128x128, .f32⟩
  | .local _ .vmem, ⟨7, _⟩ => ⟨S2x128x128, .f32⟩
  | .local _ .vmem, ⟨8, _⟩ => ⟨S2x128x128, .f32⟩
  | .local _ .vmem, ⟨9, _⟩ => ⟨S2x128x128, .f32⟩
  | .local _ .vmem, ⟨10, _⟩ => ⟨S1x128x2, .f32⟩
  | .local _ .vmem, ⟨11, _⟩ => ⟨S1x128x2, .f32⟩
  | .local _ .vmem, ⟨12, _⟩ => ⟨S1x1x128, .f32⟩
  | .local _ .vmem, ⟨13, _⟩ => ⟨S1x1x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2x128x128, .f32⟩
  | .local _ .vmem, ⟨19, _⟩ => ⟨S2x128x128, .f32⟩
  | .local _ .vmem, ⟨20, _⟩ => ⟨S1x128x2, .f32⟩
  | .local _ .vmem, ⟨21, _⟩ => ⟨S1x128x2, .f32⟩
  | .local _ .vmem, ⟨22, _⟩ => ⟨S1x1x128, .f32⟩
  | .local _ .vmem, ⟨23, _⟩ => ⟨S1x1x128, .f32⟩
  | _, _ => ⟨S8192x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelNormFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormFwdIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelResidFwd.lean ====
abbrev S8192x1024 : Shape := ⟨2, ![8192, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceResidFwdIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== KernelUp.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S8192x4096, .bf16⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelQkFwd.lean ====
abbrev S8192x2824 : Shape := ⟨2, ![8192, 2824]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S_ : Shape := ⟨0, ![]⟩
abbrev S8192x248 : Shape := ⟨2, ![8192, 248]⟩
abbrev S8192x2304 : Shape := ⟨2, ![8192, 2304]⟩
abbrev S8192x512 : Shape := ⟨2, ![8192, 512]⟩
abbrev S8192x8 : Shape := ⟨2, ![8192, 8]⟩
abbrev S8192x3072 : Shape := ⟨2, ![8192, 3072]⟩
abbrev S1x512 : Shape := ⟨2, ![1, 512]⟩
abbrev S2048x128 : Shape := ⟨2, ![2048, 128]⟩
abbrev S2048 : Shape := ⟨1, ![2048]⟩
abbrev S2048x1 : Shape := ⟨2, ![2048, 1]⟩

abbrev nBuf : Space → Nat
  | .hbm => 20
  | .vmem => 12
  | .smem => 0
  | _ => 0

abbrev bufTy : (tb : Table) → Fin (tcTables nBuf tb) → BufTy
  | .hbm, ⟨0, _⟩ => ⟨S8192x2824, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S2x64, .f32⟩
  | .hbm, ⟨5, _⟩ => ⟨S128, .f32⟩
  | .hbm, ⟨6, _⟩ => ⟨S1x128, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S_, .f32⟩
  | .hbm, ⟨12, _⟩ => ⟨S8192x248, .f32⟩
  | .hbm, ⟨13, _⟩ => ⟨S8192x2304, .f32⟩
  | .hbm, ⟨14, _⟩ => ⟨S8192x512, .f32⟩
  | .hbm, ⟨15, _⟩ => ⟨S8192x8, .f32⟩
  | .hbm, ⟨16, _⟩ => ⟨S8192x3072, .f32⟩
  | .hbm, ⟨17, _⟩ => ⟨S8192x512, .f32⟩
  | .hbm, ⟨18, _⟩ => ⟨S8192x512, .f32⟩
  | .hbm, ⟨19, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x128, .f32⟩
  | .local _ .vmem, ⟨11, _⟩ => ⟨S1x128, .f32⟩
  | _, _ => ⟨S8192x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceQkFwdIdeal.lean ====
abbrev S8192x2824 : Shape := ⟨2, ![8192, 2824]⟩
abbrev S64 : Shape := ⟨1, ![64]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩

abbrev nBuf : Space → Nat
  | .hbm => 41
  | .vmem => 0
  | .smem => 0
  | _ => 0

abbrev bufTy : (tb : Table) → Fin (tcTables nBuf tb) → BufTy
  | .hbm, ⟨0, _⟩ => ⟨S8192x2824, .f32⟩
  | .hbm, ⟨1, _⟩ => ⟨S64, .f32⟩
  | .hbm, ⟨2, _⟩ => ⟨S64, .f32⟩
  | .hbm, ⟨3, _⟩ => ⟨S8192x512, .f32⟩
  | .hbm, ⟨4, _⟩ => ⟨S8192x8x64, .f32⟩
  | .hbm, ⟨5, _⟩ => ⟨S8192x8x64, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x64, .f32⟩
  | .hbm, ⟨17, _⟩ => ⟨S8192x8x64, .f32⟩
  | .hbm, ⟨18, _⟩ => ⟨S1x1x64, .f32⟩
  | .hbm, ⟨19, _⟩ => ⟨S8192x8x64, .f32⟩
  | .hbm, ⟨20, _⟩ => ⟨S8192x8x64, .f32⟩
  | .hbm, ⟨21, _⟩ => ⟨S8192x512, .f32⟩
  | .hbm, ⟨22, _⟩ => ⟨S8192x512, .f32⟩
  | .hbm, ⟨23, _⟩ => ⟨S8192x8x64, .f32⟩
  | .hbm, ⟨24, _⟩ => ⟨S8192x8x64, .f32⟩
  | .hbm, ⟨25, _⟩ => ⟨S_, .f32⟩
  | .hbm, ⟨26, _⟩ => ⟨S8192x8, .f32⟩
  | .hbm, ⟨27, _⟩ => ⟨S8192x8x1, .f32⟩
  | .hbm, ⟨28, _⟩ => ⟨S_, .f32⟩
  | .hbm, ⟨29, _⟩ => ⟨S8192x8x1, .f32⟩
  | .hbm, ⟨30, _⟩ => ⟨S8192x8x1, .f32⟩
  | .hbm, ⟨31, _⟩ => ⟨S_, .f32⟩
  | .hbm, ⟨32, _⟩ => ⟨S8192x8x1, .f32⟩
  | .hbm, ⟨33, _⟩ => ⟨S8192x8x1, .f32⟩
  | .hbm, ⟨34, _⟩ => ⟨S8192x8x1, .f32⟩
  | .hbm, ⟨35, _⟩ => ⟨S8192x8x64, .f32⟩
  | .hbm, ⟨36, _⟩ => ⟨S8192x8x64, .f32⟩
  | .hbm, ⟨37, _⟩ => ⟨S1x1x64, .f32⟩
  | .hbm, ⟨38, _⟩ => ⟨S8192x8x64, .f32⟩
  | .hbm, ⟨39, _⟩ => ⟨S8192x8x64, .f32⟩
  | .hbm, ⟨40, _⟩ => ⟨S8192x512, .f32⟩
  | _, _ => ⟨S8192x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== KernelForgetFwd.lean ====
abbrev S8192x2824 : Shape := ⟨2, ![8192, 2824]⟩
abbrev S8 : Shape := ⟨1, ![8]⟩
abbrev S_ : Shape := ⟨0, ![]⟩
abbrev S8192x248 : Shape := ⟨2, ![8192, 248]⟩
abbrev S8192x2304 : Shape := ⟨2, ![8192, 2304]⟩
abbrev S8192x512 : Shape := ⟨2, ![8192, 512]⟩
abbrev S8192x8 : Shape := ⟨2, ![8192, 8]⟩
abbrev S8192x3072 : Shape := ⟨2, ![8192, 3072]⟩
abbrev S1x128 : Shape := ⟨2, ![1, 128]⟩
abbrev S1 : Shape := ⟨1, ![1]⟩
abbrev S2 : Shape := ⟨1, ![2]⟩
abbrev S8192x128 : Shape := ⟨2, ![8192, 128]⟩
abbrev S512x128 : Shape := ⟨2, ![512, 128]⟩
abbrev S512x512 : Shape := ⟨2, ![512, 512]⟩

abbrev nBuf : Space → Nat
  | .hbm => 18
  | .vmem => 6
  | .smem => 0
  | _ => 0

abbrev bufTy : (tb : Table) → Fin (tcTables nBuf tb) → BufTy
  | .hbm, ⟨0, _⟩ => ⟨S8192x2824, .f32⟩
  | .hbm, ⟨1, _⟩ => ⟨S8, .f32⟩
  | .hbm, ⟨2, _⟩ => ⟨S_, .f32⟩
  | .hbm, ⟨3, _⟩ => ⟨S8192x248, .f32⟩
  | .hbm, ⟨4, _⟩ => ⟨S8192x2304, .f32⟩
  | .hbm, ⟨5, _⟩ => ⟨S8192x512, .f32⟩
  | .hbm, ⟨6, _⟩ => ⟨S8192x8, .f32⟩
  | .hbm, ⟨7, _⟩ => ⟨S8192x3072, .f32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S8192x128, .f32⟩
  | .hbm, ⟨17, _⟩ => ⟨S8192x8, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S1x128, .f32⟩
  | _, _ => ⟨S8192x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceForgetFwdIdeal.lean ====
abbrev S8192x2824 : Shape := ⟨2, ![8192, 2824]⟩
abbrev S8 : Shape := ⟨1, ![8]⟩
abbrev S8192x8 : Shape := ⟨2, ![8192, 8]⟩
abbrev S1x8 : Shape := ⟨2, ![1, 8]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2824, .f32⟩
  | .hbm, ⟨1, _⟩ => ⟨S8, .f32⟩
  | .hbm, ⟨2, _⟩ => ⟨S8192x8, .f32⟩
  | .hbm, ⟨3, _⟩ => ⟨S1x8, .f32⟩
  | .hbm, ⟨4, _⟩ => ⟨S8192x8, .f32⟩
  | .hbm, ⟨5, _⟩ => ⟨S8192x8, .f32⟩
  | .hbm, ⟨6, _⟩ => ⟨S8192x8, .f32⟩
  | .hbm, ⟨7, _⟩ => ⟨S_, .f32⟩
  | .hbm, ⟨8, _⟩ => ⟨S8192x8, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x8, .i1⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S_, .f32⟩
  | .hbm, ⟨23, _⟩ => ⟨S_, .f32⟩
  | .hbm, ⟨24, _⟩ => ⟨S8192x8, .f32⟩
  | _, _ => ⟨S8192x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩

abbrev nD : Nat := 1
abbrev τ : Topo := Topo.v7x

variable {F : FTy → Type} [FloatOps F]
-- ==== KernelAdaFwd.lean ====
abbrev S16x1024 : Shape := ⟨2, ![16, 1024]⟩
abbrev S4x1024x1536 : Shape := ⟨3, ![4, 1024, 1536]⟩
abbrev S4x1536 : Shape := ⟨2, ![4, 1536]⟩
abbrev S4x1x1536 : Shape := ⟨3, ![4, 1, 1536]⟩
abbrev S4x16x1536 : Shape := ⟨3, ![4, 16, 1536]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x1536, .f32⟩
  | .hbm, ⟨2, _⟩ => ⟨S4x1536, .f32⟩
  | .hbm, ⟨3, _⟩ => ⟨S4x1x1536, .f32⟩
  | .hbm, ⟨4, _⟩ => ⟨S4x16x1536, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceAdaFwdIdeal.lean ====
abbrev S16x1024 : Shape := ⟨2, ![16, 1024]⟩
abbrev S4x1024x1536 : Shape := ⟨3, ![4, 1024, 1536]⟩
abbrev S4x1536 : Shape := ⟨2, ![4, 1536]⟩
abbrev S_ : Shape := ⟨0, ![]⟩
abbrev S4x1536x16 : Shape := ⟨3, ![4, 1536, 16]⟩
abbrev S4x16x1536 : Shape := ⟨3, ![4, 16, 1536]⟩
abbrev S4x1x1536 : Shape := ⟨3, ![4, 1, 1536]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x1536, .f32⟩
  | .hbm, ⟨2, _⟩ => ⟨S4x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x1536x16, .f32⟩
  | .hbm, ⟨13, _⟩ => ⟨S4x16x1536, .f32⟩
  | .hbm, ⟨14, _⟩ => ⟨S4x1x1536, .f32⟩
  | .hbm, ⟨15, _⟩ => ⟨S4x16x1536, .f32⟩
  | .hbm, ⟨16, _⟩ => ⟨S4x16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== KernelSguFwd.lean ====
abbrev S8192x2824 : Shape := ⟨2, ![8192, 2824]⟩
abbrev S4x64 : Shape := ⟨2, ![4, 64]⟩
abbrev S4x128x128 : Shape := ⟨3, ![4, 128, 128]⟩
abbrev S4x128 : Shape := ⟨2, ![4, 128]⟩
abbrev S2x1x128 : Shape := ⟨3, ![2, 1, 128]⟩
abbrev S2x2x128 : Shape := ⟨3, ![2, 2, 128]⟩
abbrev S2x128x2 : Shape := ⟨3, ![2, 128, 2]⟩
abbrev S_ : Shape := ⟨0, ![]⟩
abbrev S8192x248 : Shape := ⟨2, ![8192, 248]⟩
abbrev S8192x2304 : Shape := ⟨2, ![8192, 2304]⟩
abbrev S8192x512 : Shape := ⟨2, ![8192, 512]⟩
abbrev S8192x8 : Shape := ⟨2, ![8192, 8]⟩
abbrev S8192x3072 : Shape := ⟨2, ![8192, 3072]⟩
abbrev S8192x256 : Shape := ⟨2, ![8192, 256]⟩
abbrev S2048x128 : Shape := ⟨2, ![2048, 128]⟩
abbrev S2x128x128 : Shape := ⟨3, ![2, 128, 128]⟩
abbrev S1x128x2 : Shape := ⟨3, ![1, 128, 2]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 14
  | .vmem => 12
  | .smem => 0
  | _ => 0

abbrev bufTy : (tb : Table) → Fin (tcTables nBuf tb) → BufTy
  | .hbm, ⟨0, _⟩ => ⟨S8192x2824, .f32⟩
  | .hbm, ⟨1, _⟩ => ⟨S4x64, .f32⟩
  | .hbm, ⟨2, _⟩ => ⟨S4x128x128, .f32⟩
  | .hbm, ⟨3, _⟩ => ⟨S4x128, .f32⟩
  | .hbm, ⟨4, _⟩ => ⟨S2x1x128, .f32⟩
  | .hbm, ⟨5, _⟩ => ⟨S2x2x128, .f32⟩
  | .hbm, ⟨6, _⟩ => ⟨S2x128x2, .f32⟩
  | .hbm, ⟨7, _⟩ => ⟨S_, .f32⟩
  | .hbm, ⟨8, _⟩ => ⟨S8192x248, .f32⟩
  | .hbm, ⟨9, _⟩ => ⟨S8192x2304, .f32⟩
  | .hbm, ⟨10, _⟩ => ⟨S8192x512, .f32⟩
  | .hbm, ⟨11, _⟩ => ⟨S8192x8, .f32⟩
  | .hbm, ⟨12, _⟩ => ⟨S8192x3072, .f32⟩
  | .hbm, ⟨13, _⟩ => ⟨S8192x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2x128x128, .f32⟩
  | .local _ .vmem, ⟨5, _⟩ => ⟨S2x128x128, .f32⟩
  | .local _ .vmem, ⟨6, _⟩ => ⟨S1x128x2, .f32⟩
  | .local _ .vmem, ⟨7, _⟩ => ⟨S1x128x2, .f32⟩
  | .local _ .vmem, ⟨8, _⟩ => ⟨S1x1x128, .f32⟩
  | .local _ .vmem, ⟨9, _⟩ => ⟨S1x1x128, .f32⟩
  | .local _ .vmem, ⟨10, _⟩ => ⟨S2048x128, .f32⟩
  | .local _ .vmem, ⟨11, _⟩ => ⟨S2048x128, .f32⟩
  | _, _ => ⟨S8192x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceSguFwdIdeal.lean ====
abbrev S8192x2824 : Shape := ⟨2, ![8192, 2824]⟩
abbrev S4x64 : Shape := ⟨2, ![4, 64]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩
abbrev S8192x4x64 : Shape := ⟨3, ![8192, 4, 64]⟩
abbrev S8192x4 : Shape := ⟨2, ![8192, 4]⟩
abbrev S8192x4x1 : Shape := ⟨3, ![8192, 4, 1]⟩
abbrev S1x4x64 : Shape := ⟨3, ![1, 4, 64]⟩
abbrev S64x128x4x64 : Shape := ⟨4, ![64, 128, 4, 64]⟩
abbrev S128x128 : Shape := ⟨2, ![128, 128]⟩
abbrev S4x64x64x128 : Shape := ⟨4, ![4, 64, 64, 128]⟩
abbrev S128x4 : Shape := ⟨2, ![128, 4]⟩
abbrev S1x128x4x1 : Shape := ⟨4, ![1, 128, 4, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x2824, .f32⟩
  | .hbm, ⟨1, _⟩ => ⟨S4x64, .f32⟩
  | .hbm, ⟨2, _⟩ => ⟨S4x128x128, .f32⟩
  | .hbm, ⟨3, _⟩ => ⟨S4x128, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S_, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x4x64, .f32⟩
  | .hbm, ⟨41, _⟩ => ⟨S8192x4x64, .f32⟩
  | .hbm, ⟨42, _⟩ => ⟨S_, .f32⟩
  | .hbm, ⟨43, _⟩ => ⟨S8192x4, .f32⟩
  | .hbm, ⟨44, _⟩ => ⟨S8192x4x1, .f32⟩
  | .hbm, ⟨45, _⟩ => ⟨S_, .f32⟩
  | .hbm, ⟨46, _⟩ => ⟨S8192x4x1, .f32⟩
  | .hbm, ⟨47, _⟩ => ⟨S8192x4x1, .f32⟩
  | .hbm, ⟨48, _⟩ => ⟨S_, .f32⟩
  | .hbm, ⟨49, _⟩ => ⟨S8192x4x1, .f32⟩
  | .hbm, ⟨50, _⟩ => ⟨S8192x4x1, .f32⟩
  | .hbm, ⟨51, _⟩ => ⟨S8192x4x1, .f32⟩
  | .hbm, ⟨52, _⟩ => ⟨S8192x4x64, .f32⟩
  | .hbm, ⟨53, _⟩ => ⟨S8192x4x64, .f32⟩
  | .hbm, ⟨54, _⟩ => ⟨S1x4x64, .f32⟩
  | .hbm, ⟨55, _⟩ => ⟨S8192x4x64, .f32⟩
  | .hbm, ⟨56, _⟩ => ⟨S8192x4x64, .f32⟩
  | .hbm, ⟨57, _⟩ => ⟨S64x128x4x64, .f32⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S4x128x128, .i1⟩
  | .hbm, ⟨65, _⟩ => ⟨S_, .f32⟩
  | .hbm, ⟨66, _⟩ => ⟨S4x128x128, .f32⟩
  | .hbm, ⟨67, _⟩ => ⟨S4x128x128, .f32⟩
  | .hbm, ⟨68, _⟩ => ⟨S4x64x64x128, .f32⟩
  | .hbm, ⟨69, _⟩ => ⟨S64x128x4x64, .f32⟩
  | .hbm, ⟨70, _⟩ => ⟨S128x4, .f32⟩
  | .hbm, ⟨71, _⟩ => ⟨S1x128x4x1, .f32⟩
  | .hbm, ⟨72, _⟩ => ⟨S64x128x4x64, .f32⟩
  | .hbm, ⟨73, _⟩ => ⟨S64x128x4x64, .f32⟩
  | .hbm, ⟨74, _⟩ => ⟨S8192x256, .f32⟩
  | .hbm, ⟨75, _⟩ => ⟨S8192x256, .f32⟩
  | _, _ => ⟨S8192x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_cst : Ref sig .tc := ⟨.hbm, 65, rfl⟩
abbrev main_call0_v6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Proof.Consts.lean ====
/- The values of the float words that the programs' constants are. -/
module

public import Idealize.ShloMosaic.Lib.IdealHost

@[expose] public section

noncomputable section

namespace Cert.Consts

open Idealize.ShloMosaic

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem k1024 : Ideal.ofBits .f32 0x44800000#32 = ((1024 : ℝ) : EReal) := by
  simp [Ideal.ofBits, Ideal.ieee, -EReal.coe_mul]; norm_num

theorem inv1024 : Ideal.ofBits .f32 0x3A800000#32 = ((1 / 1024 : ℝ) : EReal) := by
  simp [Ideal.ofBits, Ideal.ieee, -EReal.coe_mul]; norm_num

/-- A nonnegative real factor goes into a finite sum of extended reals. -/
theorem coe_mul_sum {ι : Type*} (s : Finset ι) (k : ℝ) (hk : 0 ≤ k) (f : ι → EReal) :
    (k : EReal) * ∑ i ∈ s, f i = ∑ i ∈ s, (k : EReal) * f i := by
  classical
  induction s using Finset.induction_on with
  | empty => simp
  | insert a s ha ih => rw [Finset.sum_insert ha, Finset.sum_insert ha, EReal.left_distrib_of_nonneg_of_ne_top (by exact_mod_cast hk) (EReal.coe_ne_top k), ih]

end Cert.Consts
-- ==== Proof.Loss.Blocks.lean ====
/- What the loss kernel's four result arrays hold after its region: the gradient of the head's output, that of its branch, and the
   column sums of the squared error and of the gate's gradient. -/
module

public import proofs.«01_k».proof.Proof.Gen.KernelLossIdeal.Frame
public import Idealize.ShloMosaic.Lib.Pipeline.ValueKit

@[expose] public section

set_option maxRecDepth 16384

noncomputable section

namespace Cert.KernelLossIdeal.Value

open Cert.KernelLossIdeal Cert.KernelLossIdeal.Gen Idealize.ShloMosaic Idealize.ShloMosaic.TcCoe Idealize.SL.Sem
open Idealize.ShloMosaic.Pipeline (Dat)

/-- The error `x + gate * m - target` at one element. -/
def err (x m t : S8192x1024.Idx → EReal) (g : S1x1024.Idx → EReal) (r : Fin 8192) (q : Fin 1024) : EReal :=
  x (ix2 r q) + g (ix2 0 q) * m (ix2 r q) - t (ix2 r q)

/-- The word of 1/1024. -/
def c1024 : EReal := Scalar.ofBits (F := Ideal) .f32 0x3A800000#32

variable (m : (ℓ : Loc nD τ sig) → Buf (Elt Ideal) ℓ) (ρ : Dev nD → PrngReg)

/-- Every window's block index, over the 16 points. -/
theorem idx : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] := by decide +kernel

/-- The error of a block's row, from the whole arrays. -/
theorem err_block (c : Dev nD) (t : Fin cfg0.N) (r : Fin 512) (q : Fin 1024) (R : Fin 8192) (hR : R.val = t.val * 512 + r.val) :
    k0_pay1 (F := Ideal) (iblk m c 0 t) (iblk m c 1 t) (iblk m c 2 t) (iblk m c 3 t) (ix2 r q)
      = err (m ((c : Thread nD τ).loc main_arg0)) (m ((c : Thread nD τ).loc main_arg1)) (m ((c : Thread nD τ).loc main_arg3))
          (m ((c : Thread nD τ).loc main_arg2)) R q := by
  unfold k0_pay1 err
  pointwise
  blk_point [iblk, V, idx t]

theorem m_block (c : Dev nD) (t : Fin cfg0.N) (r : Fin 512) (q : Fin 1024) (R : Fin 8192) (hR : R.val = t.val * 512 + r.val) :
    iblk m c 1 t (ix2 r q) = m ((c : Thread nD τ).loc main_arg1) (ix2 R q) := by
  blk_ext [iblk, V, idx t]

/-- The error on a core's arguments. -/
abbrev errM (c : Dev nD) (r : Fin 8192) (q : Fin 1024) : EReal :=
  err (m ((c : Thread nD τ).loc main_arg0)) (m ((c : Thread nD τ).loc main_arg1)) (m ((c : Thread nD τ).loc main_arg3))
    (m ((c : Thread nD τ).loc main_arg2)) r q

/-- The scaled error of a block's element. -/
theorem pay2_block (c : Dev nD) (t : Fin cfg0.N) (y : S512x1024.Idx) (R : Fin 8192) (q : Fin 1024) (hR : R.val = t.val * 512 + (y 0).val)
    (hq : q.val = (y 1).val) :
    k0_pay2 (F := Ideal) (iblk m c 0 t) (iblk m c 1 t) (iblk m c 2 t) (iblk m c 3 t) y = errM m c R q * c1024 := by
  obtain rfl : q = y 1 := Fin.ext hq
  refine Eq.trans ?_ (congrArg (· * c1024) (err_block m c t (y 0) (y 1) R hR))
  idx_vars y
  unfold k0_pay2
  pointwise
  rfl

/-- The branch's gradient of a block's element. -/
theorem pay3_block (c : Dev nD) (t : Fin cfg0.N) (y : S512x1024.Idx) (R : Fin 8192) (q : Fin 1024) (hR : R.val = t.val * 512 + (y 0).val)
    (hq : q.val = (y 1).val) :
    k0_pay3 (F := Ideal) (iblk m c 0 t) (iblk m c 1 t) (iblk m c 2 t) (iblk m c 3 t) y
      = errM m c R q * c1024 * m ((c : Thread nD τ).loc main_arg2) (ix2 0 q) := by
  rw [← pay2_block m c t y R q hR hq]
  obtain rfl : q = y 1 := Fin.ext hq
  idx_vars y
  unfold k0_pay3
  pointwise
  blk_point [iblk, V, idx t]

/-- The gradient of the head's output: the error over 1024. -/
theorem final_dy (c : Dev nD) : (dats m 0 c).arrAt 4 cfg0.N = fun j : S8192x1024.Idx => errM m c (j 0) (j 1) * c1024 := by
  refine (dats m 0 c).arrAt_eq_of_covers 4 _ (by decide +kernel) fun t hf y => ?_
  blk_simp
  rw [after0_4]
  rcases em (t.val % 16 = 0) with h | h
  · rw [outsAt0_A m c t h]; frame_out
    exact pay2_block m c t y _ _ (by blk_simp [idx t]) (by blk_simp [idx t])
  · rw [outsAt0_B m c t h]; frame_out
    exact pay2_block m c t y _ _ (by blk_simp [idx t]) (by blk_simp [idx t])

/-- The branch's gradient: the output's times the gate. -/
theorem final_dm (c : Dev nD) : (dats m 0 c).arrAt 5 cfg0.N = fun j : S8192x1024.Idx =>
    errM m c (j 0) (j 1) * c1024 * m ((c : Thread nD τ).loc main_arg2) (ix2 0 (j 1)) := by
  refine (dats m 0 c).arrAt_eq_of_covers 5 _ (by decide +kernel) fun t hf y => ?_
  blk_simp
  rw [after0_5]
  rcases em (t.val % 16 = 0) with h | h
  · rw [outsAt0_A m c t h]; frame_out
    exact pay3_block m c t y _ _ (by blk_simp [idx t]) (by blk_simp [idx t])
  · rw [outsAt0_B m c t h]; frame_out
    exact pay3_block m c t y _ _ (by blk_simp [idx t]) (by blk_simp [idx t])

theorem pay4_zero (j : S1x1024.Idx) : k0_pay4 (F := Ideal) j = 0 := by
  unfold k0_pay4; pointwise

theorem pay5_zero (j : S1x1024.Idx) : k0_pay5 (F := Ideal) j = 0 := by
  unfold k0_pay5; pointwise

/-- One point adds its 512 rows' squared errors. -/
theorem pay6_apply (c : Dev nD) (t : Fin cfg0.N) (a : Vec Ideal S1x1024 .f32) (j : S1x1024.Idx) :
    k0_pay6 (F := Ideal) (iblk m c 0 t) (iblk m c 1 t) (iblk m c 2 t) (iblk m c 3 t) a j
      = a j + ∑ r : Fin 512, k0_pay1 (F := Ideal) (iblk m c 0 t) (iblk m c 1 t) (iblk m c 2 t) (iblk m c 3 t) (ix2 r (j 1))
          * k0_pay1 (F := Ideal) (iblk m c 0 t) (iblk m c 1 t) (iblk m c 2 t) (iblk m c 3 t) (ix2 r (j 1)) := by
  idx_vars j
  unfold k0_pay6
  pointwise

/-- The squared error's column sums. -/
theorem final_sq (c : Dev nD) : (dats m 0 c).arrAt 6 cfg0.N = fun j : S1x1024.Idx =>
    ∑ R : Fin 8192, errM m c R (j 1) * errM m c R (j 1) := by
  refine (dats m 0 c).arrAt_eq_of_after_last 6 t0_15 (by decide +kernel) _ fun j => ?_
  blk_simp
  rw [after0_6]
  rw [Pipeline.eq_sum_fin_of_reset_step_apply_last (fun n h => (outsAt0 m c n h).2.2.1) 16 (fun _ => 0) _
    (fun t h j => by rw [outsAt0_A m c t h]; frame_out; rw [pay6_apply, pay4_zero])
    (fun t h j => by rw [outsAt0_B m c t h]; frame_out; rw [pay6_apply]) (by decide +kernel) t0_15 rfl j]
  rw [zero_add]
  refine Fin.sum_mul_add_congr fun s k hl => ?_
  exact congrArg₂ (· * ·) (err_block m c s k _ _ rfl) (err_block m c s k _ _ rfl)

/-- The gate's gradient of one point's rows. -/
theorem pay7_apply (c : Dev nD) (t : Fin cfg0.N) (a : Vec Ideal S1x1024 .f32) (j : S1x1024.Idx) :
    k0_pay7 (F := Ideal) (iblk m c 0 t) (iblk m c 1 t) (iblk m c 2 t) (iblk m c 3 t) a j
      = a j + ∑ r : Fin 512, k0_pay2 (F := Ideal) (iblk m c 0 t) (iblk m c 1 t) (iblk m c 2 t) (iblk m c 3 t) (ix2 r (j 1))
          * iblk m c 1 t (ix2 r (j 1)) := by
  idx_vars j
  unfold k0_pay7
  pointwise

/-- The gate's gradient. -/
theorem final_dgate (c : Dev nD) : (dats m 0 c).arrAt 7 cfg0.N = fun j : S1x1024.Idx =>
    ∑ R : Fin 8192, errM m c R (j 1) * c1024 * m ((c : Thread nD τ).loc main_arg1) (ix2 R (j 1)) := by
  refine (dats m 0 c).arrAt_eq_of_after_last 7 t0_15 (by decide +kernel) _ fun j => ?_
  blk_simp
  rw [after0_7]
  rw [Pipeline.eq_sum_fin_of_reset_step_apply_last (fun n h => (outsAt0 m c n h).2.2.2) 16 (fun _ => 0) _
    (fun t h j => by rw [outsAt0_A m c t h]; frame_out; rw [pay7_apply, pay5_zero])
    (fun t h j => by rw [outsAt0_B m c t h]; frame_out; rw [pay7_apply]) (by decide +kernel) t0_15 rfl j]
  rw [zero_add]
  refine Fin.sum_mul_add_congr fun s k hl => ?_
  exact congrArg₂ (· * ·) (pay2_block m c s _ _ _ rfl rfl) (m_block m c s k _ _ rfl)

end Cert.KernelLossIdeal.Value
-- ==== Proof.Loss.Run.lean ====
/- The loss kernel's run with its results named, and the claim that they are the gradients of the plain loss. -/
module

public import proofs.«01_k».proof.Defs
public import proofs.«01_k».proof.Proof.Consts
public import proofs.«01_k».proof.Proof.Loss.Blocks
public import proofs.«01_k».proof.Proof.Gen.ReferenceLossIdeal.Run
public import proofs.«01_k».proof.Proof.Gen.ReferenceLossIdeal.Read
public import Idealize.ShloMosaic.Lib.Claim
public import Idealize.ShloMosaic.Lib.Pipeline.FrameSuffix
public import Idealize.ShloMosaic.Lib.KernelVsHost

@[expose] public section

set_option maxRecDepth 16384

noncomputable section

namespace Cert.KernelLossIdeal.Value

open Cert.KernelLossIdeal Cert.KernelLossIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The factor of the loss's gradient: half of two over the width is one over the width. -/
theorem scale (E : EReal) : Ideal.div (Ideal.ofBits .f32 0x3F000000#32) (Ideal.ofBits .f32 0x44800000#32) *
    (Ideal.ofBits .f32 0x40000000#32 * E) = E * c1024 := by
  rw [show c1024 = Ideal.ofBits .f32 0x3A800000#32 from rfl, Consts.half, Consts.two, Consts.k1024, Consts.inv1024,
    Ideal.div_coe (by norm_num : (1024 : ℝ) ≠ 0), ← mul_assoc, mul_comm, ← EReal.coe_mul, ← EReal.coe_mul]
  norm_num

/-- The loss: the mean over a row's columns, summed over the rows, is the sum of the column sums, divided once. -/
theorem mean_sum (f : Fin 8192 → Fin 1024 → EReal) :
    Ideal.ofBits .f32 0x3F000000#32 * ∑ R, Ideal.div (∑ C, f R C) (Ideal.ofBits .f32 0x44800000#32) =
      Ideal.div (Ideal.ofBits .f32 0x3F000000#32 * ∑ C, ∑ R, f R C) (Ideal.ofBits .f32 0x44800000#32) := by
  simp only [Consts.k1024, Ideal.div_coe (by norm_num : (1024 : ℝ) ≠ 0)]
  rw [Finset.sum_comm, mul_assoc, mul_comm (∑ R, ∑ C, f R C), Consts.coe_mul_sum _ _ (by norm_num)]
  simp only [mul_comm]

/-- The array of column sums after the region. -/
theorem sq_after (c : Dev nD) : Pipeline.withArrays (cfgs 0).spec c (V0 m c) (fun w => (dats m 0 c).arrAt w (cfgs 0).N) main_v0_2 =
    (dats m 0 c).arrAt 6 cfg0.N :=
  Pipeline.withArrays_arr (cfgs 0).spec (by decide) c (V0 m c) (fun w => (dats m 0 c).arrAt w (cfgs 0).N) 6

/-- The loss, as the host lines after the region compute it from the column sums. -/
theorem tail_loss (c : Dev nD) : Pipeline.afterTail₀ cfgs (dats m) 0 (V0 m) [hostOps1] c main_v3 =
    fun _ => Ideal.div (Ideal.ofBits .f32 0x3F000000#32 * ∑ C : Fin 1024, ∑ R : Fin 8192, errM m c R C * errM m c R C) (Ideal.ofBits .f32 0x44800000#32) := by
  unfold Pipeline.afterTail₀
  change StableHlo.after hostOps1 _ _ = _
  unfold hostOps1
  after_results
  rw [sq_after, final_sq]
  funext j
  pointwise
  rw [Fin.sum_univ_one]

/-- The reference terminates, leaves its arguments alone and every semaphore at zero. -/
theorem frame_reference : Cert.quiescent_ReferenceLossIdeal := fun m g _ =>
  (θ_run Cert.ReferenceLossIdeal.defs _ _).mono (fun r h => ⟨fun c => (h c).2.2.2.2, sem_eq_zero_of_no_sems (by decide) r.2⟩)
    (Cert.ReferenceLossIdeal.Value.run (F := Ideal) m g)

/-- The loss call's results are the plain loss and its gradients. -/
theorem algebraic : Cert.algebraic_KernelLossIdeal_ReferenceLossIdeal := by
  pair_intro
  · run_from Cert.KernelLossIdeal.Gen.run_main m g

  · run_from Cert.ReferenceLossIdeal.Value.run m' g'
    · clear hagree hpre
      show _ = Pipeline.afterTail₀ cfgs (dats m) 0 (V0 m) [hostOps1] c main_v3
      rw [tail_loss]; funext j; pointwise [err, errM]; exact mean_sum fun R C => _ * _
    · clear hagree hpre
      show _ = (dats m 0 c).arrAt 4 cfg0.N
      rw [final_dy]; funext j; idx_vars j; pointwise [err]; exact scale _
    · clear hagree hpre
      show _ = (dats m 0 c).arrAt 5 cfg0.N
      rw [final_dm]; funext j; idx_vars j; pointwise [err]; rw [scale, mul_comm]
    · clear hagree hpre
      show _ = (dats m 0 c).arrAt 7 cfg0.N
      rw [final_dgate]; funext j; idx_vars j; pointwise [err]; exact Finset.sum_congr rfl fun R _ => by rw [scale]

end Cert.KernelLossIdeal.Value
-- ==== Proof.Reals.lean ====
module

public import Idealize.ShloMosaic.PureOps.Ideal
public import Idealize.ShloMosaic.Lib.WordCmp
public import Mathlib.Analysis.SpecialFunctions.Log.Basic

/-!
Operations of the ideal floats at real arguments, each as the real operation.
-/

@[expose] public section

noncomputable section

namespace Cert.Reals

open Idealize.ShloMosaic

theorem absf_coe (x : ℝ) : (FloatOps.absf (F := Ideal) (φ := .f32) ((x : ℝ) : EReal) : EReal) = ((|x| : ℝ) : EReal) := by
  show max ((x : ℝ) : EReal) (-(x : EReal)) = _
  rw [← EReal.coe_neg, abs_eq_max_neg]
  exact (Monotone.map_max (fun a b h => EReal.coe_le_coe_iff.mpr h)).symm

theorem max_coe (x y : ℝ) : max (x : EReal) (y : EReal) = ((max x y : ℝ) : EReal) :=
  (Monotone.map_max (fun a b h => EReal.coe_le_coe_iff.mpr h)).symm

theorem log_pos_coe {x : ℝ} (h : 0 < x) : Ideal.log (x : EReal) = ((Real.log x : ℝ) : EReal) := by
  rw [Ideal.log_coe, if_neg (not_le.mpr h)]

theorem div_coe_coe {y : ℝ} (h : y ≠ 0) (x : ℝ) : Ideal.div (x : EReal) (y : EReal) = ((x / y : ℝ) : EReal) := by
  rw [Ideal.div_coe h, ← EReal.coe_mul]; congr 1; ring

theorem oge_coe (x y : ℝ) : Ideal.cmp .oge (x : EReal) (y : EReal) = BitVec.ofBool (decide (y ≤ x)) := by
  unfold Ideal.cmp; simp only [EReal.coe_le_coe_iff]

theorem select_decide {α : Type} (p : Prop) [Decidable p] (a b : α) : Scalar.select (BitVec.ofBool (decide p)) a b = if p then a else b := by
  by_cases h : p <;> simp [h, Scalar.select]

theorem coe_ite (p : Prop) [Decidable p] (a b : ℝ) : (if p then (a : EReal) else (b : EReal)) = ((if p then a else b : ℝ) : EReal) := by
  split <;> rfl

/-- A finite sum of reals, by the number of the term. -/
theorem sum_coe (n : ℕ) (f : ℕ → ℝ) : (∑ x : Fin n, ((f x.val : ℝ) : EReal)) = ((∑ x ∈ Finset.range n, f x : ℝ) : EReal) := by
  rw [Finset.sum_range]; exact (map_sum (⟨⟨Real.toEReal, EReal.coe_zero⟩, EReal.coe_add⟩ : ℝ →+ EReal) _ _).symm

theorem sum_coe_fin {ι : Type} [Fintype ι] (f : ι → ℝ) : (∑ x : ι, ((f x : ℝ) : EReal)) = ((∑ x : ι, f x : ℝ) : EReal) :=
  (map_sum (⟨⟨Real.toEReal, EReal.coe_zero⟩, EReal.coe_add⟩ : ℝ →+ EReal) _ _).symm

/-- The word of 1/8. -/
theorem eighth : Ideal.ofBits .f32 0x3E000000#32 = ((1 / 8 : ℝ) : EReal) := by
  simp [Ideal.ofBits, Ideal.ieee, -EReal.coe_mul]; norm_num

theorem sitofp_bool (p : Prop) [Decidable p] : (FloatOps.sitofp (F := Ideal) .f32 (BitVec.setWidth 32 (BitVec.ofBool (decide p))) : EReal) = ((if p then 1 else 0 : ℝ) : EReal) := by
  by_cases h : p <;> simp [h] <;> (show ((BitVec.toInt _ : ℝ) : EReal) = _) <;> simp

/-- An array of reals of two or three axes, by the numbers of its coordinates. -/
def enc2 {a b : ℕ} (f : ℕ → ℕ → ℝ) : (⟨2, ![a, b]⟩ : Shape).Idx → EReal := fun j => ((f (j 0).val (j 1).val : ℝ) : EReal)
def enc3 {a b c : ℕ} (f : ℕ → ℕ → ℕ → ℝ) : (⟨3, ![a, b, c]⟩ : Shape).Idx → EReal := fun j => ((f (j 0).val (j 1).val (j 2).val : ℝ) : EReal)

theorem enc3_at {a b c : ℕ} (f : ℕ → ℕ → ℕ → ℝ) (j : (⟨3, ![a, b, c]⟩ : Shape).Idx) : enc3 f j = ((f (j 0).val (j 1).val (j 2).val : ℝ) : EReal) := rfl
theorem enc2_at {a b : ℕ} (f : ℕ → ℕ → ℝ) (j : (⟨2, ![a, b]⟩ : Shape).Idx) : enc2 f j = ((f (j 0).val (j 1).val : ℝ) : EReal) := rfl

theorem enc3_congr {a b c : ℕ} {f g : ℕ → ℕ → ℕ → ℝ} (h : ∀ x < a, ∀ y < b, ∀ z < c, f x y z = g x y z) : enc3 (a := a) (b := b) (c := c) f = enc3 g :=
  funext fun j => congrArg Real.toEReal (h _ (j 0).isLt _ (j 1).isLt _ (j 2).isLt)
theorem enc2_congr {a b : ℕ} {f g : ℕ → ℕ → ℝ} (h : ∀ x < a, ∀ y < b, f x y = g x y) : enc2 (a := a) (b := b) f = enc2 g :=
  funext fun j => congrArg Real.toEReal (h _ (j 0).isLt _ (j 1).isLt)

end Cert.Reals

end
-- ==== Proof.Finite.lean ====
module

public import proofs.«01_k».proof.Proof.Reals
public import Idealize.ShloMosaic.Lib.ReduceAll
public import Idealize.ShloMosaic.Lib.Pointwise

/-!
Arrays of which every element is finite are arrays of reals.
-/

@[expose] public section

noncomputable section

namespace Cert.Reals

open Idealize.ShloMosaic

/-- What is below infinity in absolute value is a real. -/
theorem real_of_abs (x : EReal) (h : FloatOps.cmpf (F := Ideal) (φ := .f32) .olt (FloatOps.hostAbsf (F := Ideal) (φ := .f32) x) (FloatOps.ofBits (F := Ideal) .f32 0x7F800000#32) = 1#1) : ((x.toReal : ℝ) : EReal) = x := by
  have ht : (FloatOps.ofBits (F := Ideal) .f32 0x7F800000#32 : EReal) = ⊤ := by
    show Ideal.ofBits .f32 0x7F800000#32 = ⊤
    simp [Ideal.ofBits, Ideal.ieee]
  rw [ht] at h
  have hl : FloatOps.hostAbsf (F := Ideal) (φ := .f32) x < (⊤ : EReal) := by
    by_contra hn
    exact absurd (h.symm.trans (congrArg BitVec.ofBool (decide_eq_false hn))) (by decide)
  have hx : max x (-x) < ⊤ := hl
  have h1 : x ≠ ⊤ := fun e => absurd (lt_of_le_of_lt (le_max_left x (-x)) hx) (by rw [e]; exact lt_irrefl _)
  have h2 : x ≠ ⊥ := fun e => absurd (lt_of_le_of_lt (le_max_right x (-x)) hx) (by rw [e, EReal.neg_bot]; exact lt_irrefl _)
  exact EReal.coe_toReal h1 h2

/-- An array of two axes whose elements are reals. -/
theorem enc2_of_real {a b : ℕ} (X : (⟨2, ![a, b]⟩ : Shape).Idx → EReal) (h : ∀ i, (((X i).toReal : ℝ) : EReal) = X i) :
    X = enc2 (a := a) (b := b) fun r l => if hr : r < a then (if hl : l < b then (X (ValueIdx.ix2 ⟨r, hr⟩ ⟨l, hl⟩)).toReal else 0) else 0 := by
  funext j
  have h0 : (j 0).val < a := (j 0).isLt
  have h1 : (j 1).val < b := (j 1).isLt
  show X j = (((if hr : (j 0).val < a then _ else _) : ℝ) : EReal)
  rw [dif_pos h0, dif_pos h1]
  refine (h j).symm.trans (congrArg (fun i => (((X i).toReal : ℝ) : EReal)) (funext fun q => ?_))
  match q with
  | ⟨0, _⟩ => rfl
  | ⟨1, _⟩ => rfl

end Cert.Reals

end
-- ==== Proof.Stick.Row.lean ====
module

public import Idealize.ShloMosaic.PureOps.Ideal
public import Mathlib.Analysis.SpecialFunctions.Log.Basic
public import Mathlib.Analysis.SpecialFunctions.Exp

/-!
One row of stick-breaking attention over the reals, with its gradient: the scores `z`, the products `d` of the output's gradient with the
values, and the row's own position `t`. Key `s` counts where `s < t`.
-/

@[expose] public section

noncomputable section

namespace Stick

/-- `log (1 - sigmoid z)`, the log of the stick that is left after a break at score `z`. -/
def keep (z : ℝ) : ℝ := -(max z 0 + Real.log (1 + Real.exp (-|z|)))

/-- `sigmoid z`, the way the kernel takes it. -/
def brk (z : ℝ) : ℝ := (if 0 ≤ z then 1 else Real.exp (-|z|)) / (1 + Real.exp (-|z|))

variable (z d : ℕ → ℝ) (t : ℕ)

/-- The masked log stick at a key. -/
def keepM (s : ℕ) : ℝ := if s < t then keep (z s) else 0

/-- The sum of the masked log sticks of the first `n` keys. -/
def pre (n : ℕ) : ℝ := ∑ s ∈ Finset.range n, keepM z t s

/-- The weight of key `s`. -/
def wt (s : ℕ) : ℝ := if s < t then Real.exp (z s + keep (z s) + (pre z t t - pre z t (s + 1))) else 0

/-- The weight's gradient times the weight, and its running sum. -/
def grad (s : ℕ) : ℝ := wt z t s * d s
def gpre (n : ℕ) : ℝ := ∑ s ∈ Finset.range n, grad z d t s

/-- The gradient of the score at key `s`. -/
def dz (s : ℕ) : ℝ := if s < t then grad z d t s * (1 - brk (z s)) - brk (z s) * gpre z d t s else 0

theorem keepM_of_lt {s : ℕ} (h : s < t) : keepM z t s = keep (z s) := if_pos h
theorem keepM_of_ge {s : ℕ} (h : ¬s < t) : keepM z t s = 0 := if_neg h
theorem wt_of_ge {s : ℕ} (h : ¬s < t) : wt z t s = 0 := if_neg h
theorem dz_of_ge {s : ℕ} (h : ¬s < t) : dz z d t s = 0 := if_neg h
theorem grad_of_ge {s : ℕ} (h : ¬s < t) : grad z d t s = 0 := by unfold grad; rw [wt_of_ge z t h, zero_mul]

/-- A running sum goes on by a block of keys, up to and including the block's key `c`, -/
theorem pre_add (n c : ℕ) : pre z t (n + (c + 1)) = (∑ x ∈ Finset.range (c + 1), keepM z t (n + x)) + pre z t n := by
  unfold pre; rw [Finset.sum_range_add, add_comm]
theorem pre_block (n k : ℕ) : pre z t (n + k) = pre z t n + ∑ x ∈ Finset.range k, keepM z t (n + x) := by
  unfold pre; rw [Finset.sum_range_add]
/-- and without it. -/
theorem gpre_block (n k : ℕ) : gpre z d t (n + k) = gpre z d t n + ∑ x ∈ Finset.range k, grad z d t (n + x) := by
  unfold gpre; rw [Finset.sum_range_add]

theorem one_add_exp_pos (x : ℝ) : 0 < 1 + Real.exp x := by positivity

/-- The kernel's sigmoid is the logistic function. -/
theorem brk_eq (x : ℝ) : brk x = (1 + Real.exp (-x))⁻¹ := by
  unfold brk
  by_cases h : 0 ≤ x
  · rw [if_pos h, abs_of_nonneg h, one_div]
  · have h' : x < 0 := lt_of_not_ge h
    rw [if_neg h, abs_of_neg h', neg_neg, Real.exp_neg]
    have := Real.exp_pos x
    field_simp
    ring

/-- The log stick through the plain logarithm. -/
theorem keep_eq (x : ℝ) : keep x = -Real.log (1 + Real.exp x) := by
  unfold keep
  congr 1
  by_cases h : 0 ≤ x
  · rw [max_eq_left h, abs_of_nonneg h]
    rw [← Real.log_exp x, ← Real.log_mul (Real.exp_pos _).ne' (one_add_exp_pos _).ne', Real.log_exp]
    congr 1
    rw [mul_add, mul_one, ← Real.exp_add, add_neg_cancel, Real.exp_zero, add_comm]
  · have h' : x < 0 := lt_of_not_ge h
    rw [max_eq_right h'.le, abs_of_neg h', neg_neg, zero_add]

/-- `log (sigmoid x) = x + log (1 - sigmoid x)`. -/
theorem keep_neg (x : ℝ) : keep (-x) = x + keep x := by
  rw [keep_eq, keep_eq]
  have h : 1 + Real.exp (-x) = (1 + Real.exp x) * Real.exp (-x) := by
    rw [add_mul, one_mul, ← Real.exp_add, add_neg_cancel, Real.exp_zero, add_comm]
  rw [h, Real.log_mul (one_add_exp_pos _).ne' (Real.exp_pos _).ne', Real.log_exp]
  ring

end Stick

end
-- ==== Proof.Stick.Softplus.lean ====
module

public import proofs.«01_k».proof.Proof.Reals
public import proofs.«01_k».proof.Proof.Stick.Row
public import Idealize.ShloMosaic.PureOps.Ideal.Laws

/-!
The host's softplus and its derivative at a real number.
-/

@[expose] public section

noncomputable section

namespace Stick

open Idealize.ShloMosaic Cert.Reals

/-- `log (exp y + exp 0)` as the host computes it, and the derivative that goes with it. -/
def soft (y : EReal) : EReal :=
  Scalar.select (FloatOps.cmpf (F := Ideal) (φ := .f32) .une (FloatOps.subf (F := Ideal) (φ := .f32) y (Ideal.ofBits .f32 0x00000000#32)) (FloatOps.subf (F := Ideal) (φ := .f32) y (Ideal.ofBits .f32 0x00000000#32)))
    (FloatOps.addf (F := Ideal) (φ := .f32) y (Ideal.ofBits .f32 0x00000000#32))
    (FloatOps.addf (F := Ideal) (φ := .f32) (FloatOps.maximumf (F := Ideal) (φ := .f32) y (Ideal.ofBits .f32 0x00000000#32))
      (Ideal.log1p (Ideal.exp (Neg.neg (α := EReal)
        (FloatOps.absf (F := Ideal) (φ := .f32) (FloatOps.subf (F := Ideal) (φ := .f32) y (Ideal.ofBits .f32 0x00000000#32)))))))
def slope (y : EReal) : EReal :=
  FloatOps.hostUnary (F := Ideal) (φ := .f32) .exp (FloatOps.subf (F := Ideal) (φ := .f32)
    (Scalar.select (FloatOps.cmpf (F := Ideal) (φ := .f32) .oeq y (FloatOps.ofBits (F := Ideal) .f32 0x7F800000#32)) (FloatOps.ofBits (F := Ideal) .f32 0x00000000#32) y)
    (Scalar.select (FloatOps.cmpf (F := Ideal) (φ := .f32) .oeq (soft y) (FloatOps.ofBits (F := Ideal) .f32 0x7F800000#32)) (FloatOps.ofBits (F := Ideal) .f32 0x00000000#32) (soft y)))

theorem zero_word : Ideal.ofBits .f32 0x00000000#32 = ((0 : ℝ) : EReal) := by simp [Ideal.ofBits, Ideal.ieee]
theorem zero_word' : (FloatOps.ofBits (F := Ideal) .f32 0x00000000#32 : EReal) = ((0 : ℝ) : EReal) := zero_word
theorem top_word : Ideal.ofBits .f32 0x7F800000#32 = ⊤ := by simp [Ideal.ofBits, Ideal.ieee]

theorem top_word' : (FloatOps.ofBits (F := Ideal) .f32 0x7F800000#32 : EReal) = ⊤ := top_word

theorem exp_keep (x : ℝ) : Real.exp (x + keep x) = brk x := by
  rw [← keep_neg, keep_eq, brk_eq, Real.exp_neg, Real.exp_log (one_add_exp_pos _)]

theorem exp_keep_alone (x : ℝ) : Real.exp (keep x) = 1 - brk x := by
  rw [keep_eq, brk_eq, Real.exp_neg, Real.exp_log (one_add_exp_pos _), Real.exp_neg]
  have := Real.exp_pos x
  field_simp
  ring

theorem brk_neg (x : ℝ) : brk (-x) = 1 - brk x := by
  rw [← exp_keep, ← exp_keep_alone, keep_neg]; congr 1; ring

theorem soft_coe (y : ℝ) : soft (y : EReal) = ((-keep y : ℝ) : EReal) := by
  unfold soft
  rw [zero_word]
  show Scalar.select (Ideal.cmp .une ((y : EReal) - ((0 : ℝ) : EReal)) ((y : EReal) - ((0 : ℝ) : EReal))) _
    (max (y : EReal) ((0 : ℝ) : EReal) + Ideal.log (1 + Ideal.exp (-(FloatOps.absf (F := Ideal) (φ := .f32) ((y : EReal) - ((0 : ℝ) : EReal)) : EReal)))) = _
  rw [← EReal.coe_sub, sub_zero, max_coe, absf_coe, ← EReal.coe_neg, Ideal.exp_coe, ← EReal.coe_one, ← EReal.coe_add, log_pos_coe (one_add_exp_pos _), ← EReal.coe_add]
  have : Ideal.cmp .une (y : EReal) (y : EReal) = 0#1 := by unfold Ideal.cmp; simp
  rw [this]
  unfold keep
  rw [neg_neg]; rfl

theorem slope_coe (y : ℝ) : slope (y : EReal) = ((brk y : ℝ) : EReal) := by
  unfold slope
  rw [soft_coe, zero_word', top_word']
  have h (x : ℝ) : FloatOps.cmpf (F := Ideal) (φ := .f32) .oeq (x : EReal) (⊤ : EReal) = 0#1 := by
    show Ideal.cmp .oeq (x : EReal) (⊤ : EReal) = 0#1
    unfold Ideal.cmp; simp
  rw [h, h]
  show Ideal.exp ((y : EReal) - ((-keep y : ℝ) : EReal)) = _
  rw [← EReal.coe_sub, sub_neg_eq_add, Ideal.exp_coe, exp_keep]

end Stick

end
-- ==== Proof.Cumsum.lean ====
module

public import proofs.«01_k».proof.Proof.Reals
public import Idealize.ShloMosaic.PureOps.Ideal.Laws
public import Idealize.ShloMosaic.Lib.ValueIdx

/-!
The host's cumulative sums along the last of three axes, of real numbers: a window of the whole axis, padded on the one or the other side.
-/

@[expose] public section

noncomputable section

namespace Cert.Reals

open Idealize.ShloMosaic
open Idealize.ShloMosaic.ValueIdx (ix3)

theorem foldl_add {n : ℕ} (g : Fin n → EReal) : ∀ (l : List (Fin n)) (v : EReal), l.foldl (fun r k => r + g k) v = v + (l.map g).sum
  | [], v => by simp
  | a :: l, v => by rw [List.foldl_cons, foldl_add g l, List.map_cons, List.sum_cons, add_assoc]

/-- A sum over the positions of a window that is one wide on two axes, by the third coordinate. -/
theorem sum_window {n : ℕ} (G : (⟨3, ![1, 1, n]⟩ : Shape).Idx → EReal) :
    (∑ k : Fin (⟨3, ![1, 1, n]⟩ : Shape).numel, G ((⟨3, ![1, 1, n]⟩ : Shape).rowMajor.symm k)) = ∑ k : Fin n, G (ix3 0 0 k) := by
  rw [Equiv.sum_comp (⟨3, ![1, 1, n]⟩ : Shape).rowMajor.symm G]
  refine (Fintype.sum_bijective (fun k : Fin n => (ix3 0 0 k : (⟨3, ![1, 1, n]⟩ : Shape).Idx)) ⟨fun a b h => congrFun h 2, fun w => ⟨w 2, ?_⟩⟩ _ _ fun k => rfl).symm
  funext a
  match a with
  | ⟨0, _⟩ => exact Subsingleton.elim (α := Fin 1) _ _
  | ⟨1, _⟩ => exact Subsingleton.elim (α := Fin 1) _ _
  | ⟨2, _⟩ => rfl

variable {A B N M : ℕ}

/-- A window sum of real numbers whose padding is zero. -/
theorem window_sum (lo hi : Fin 3 → ℕ) (h0 : lo 0 = 0) (h1 : lo 1 = 0) (f : ℕ → ℕ → ℕ → ℝ) {u : Shape} (init : u.Idx → EReal)
    (h : (⟨3, ![A, B, N]⟩ : Shape).ReduceWindows ![1, 1, N] ![1, 1, 1] lo hi ⟨3, ![A, B, N]⟩) (hu : 0 < u.numel) (hi0 : init (Shape.Idx.first hu) = 0) :
    Host.reduceWindowAdd (F := Ideal) (φ := .f32) (s := ⟨3, ![A, B, N]⟩) (t := ⟨3, ![A, B, N]⟩) ![1, 1, N] ![1, 1, 1] lo hi (enc3 f) init h hu
      = enc3 (fun a b c => ∑ k ∈ Finset.range N, if lo 2 ≤ c + k ∧ c + k - lo 2 < N then f a b (c + k - lo 2) else 0) := by
  funext j
  have hj0 : (j 0).val < A := (j 0).isLt
  have hj1 : (j 1).val < B := (j 1).isLt
  show Host.reduceWindow (t := ⟨3, ![A, B, N]⟩) (· + ·) ![1, 1, N] ![1, 1, 1] lo hi (enc3 f : (⟨3, ![A, B, N]⟩ : Shape).Idx → EReal) (fun _ : u.Idx => init (Shape.Idx.first hu)) h hu j = _
  unfold Host.reduceWindow
  dsimp only
  rw [hi0, foldl_add, zero_add, ← Fin.sum_univ_def]
  refine (sum_window (n := N) (fun w => if hin : ∀ a : Fin 3, lo a ≤ (j a).val * (![1, 1, 1] : Fin 3 → ℕ) a + (w a).val ∧ (j a).val * (![1, 1, 1] : Fin 3 → ℕ) a + (w a).val - lo a < (![A, B, N] : Fin 3 → ℕ) a
    then enc3 f (fun a => ⟨(j a).val * (![1, 1, 1] : Fin 3 → ℕ) a + (w a).val - lo a, (hin a).2⟩) else 0)).trans ?_
  rw [enc3_at, ← sum_coe N fun k => if lo 2 ≤ (j 2).val + k ∧ (j 2).val + k - lo 2 < N then f (j 0).val (j 1).val ((j 2).val + k - lo 2) else 0]
  refine Finset.sum_congr rfl fun k _ => ?_
  by_cases hk : lo 2 ≤ (j 2).val + k.val ∧ (j 2).val + k.val - lo 2 < N
  · rw [dif_pos (by
      intro a
      match a with
      | ⟨0, _⟩ => show lo 0 ≤ (j 0).val * 1 + 0 ∧ (j 0).val * 1 + 0 - lo 0 < A; omega
      | ⟨1, _⟩ => show lo 1 ≤ (j 1).val * 1 + 0 ∧ (j 1).val * 1 + 0 - lo 1 < B; omega
      | ⟨2, _⟩ => show lo 2 ≤ (j 2).val * 1 + k.val ∧ (j 2).val * 1 + k.val - lo 2 < N; rw [mul_one]; exact hk), if_pos hk]
    show ((f ((j 0).val * 1 + 0 - lo 0) ((j 1).val * 1 + 0 - lo 1) ((j 2).val * 1 + k.val - lo 2) : ℝ) : EReal) = _
    rw [h0, h1, mul_one, mul_one, mul_one]; rfl
  · rw [if_neg hk, dif_neg (fun hin => hk (by have := hin 2; change lo 2 ≤ (j 2).val * 1 + k.val ∧ (j 2).val * 1 + k.val - lo 2 < N at this; rwa [mul_one] at this))]
    rfl

/-- The sum from a position to the end. -/
theorem sum_from (f : ℕ → ℝ) (n c : ℕ) : (∑ k ∈ Finset.range n, if 0 ≤ c + k ∧ c + k - 0 < n then f (c + k - 0) else 0) = ∑ s ∈ (Finset.range n).filter (c ≤ ·), f s := by
  rw [← Finset.sum_filter]
  refine Finset.sum_bij' (fun k _ => c + k) (fun s _ => s - c) ?_ ?_ ?_ ?_ ?_ <;> simp only [Finset.mem_filter, Finset.mem_range] <;> intros <;> first | omega | (congr 1; omega) | rfl | trivial

/-- The sum up to and with a position. -/
theorem sum_upto (f : ℕ → ℝ) (n c : ℕ) (hc : c < n) :
    (∑ k ∈ Finset.range n, if n - 1 ≤ c + k ∧ c + k - (n - 1) < n then f (c + k - (n - 1)) else 0) = ∑ s ∈ Finset.range (c + 1), f s := by
  rw [← Finset.sum_filter]
  refine Finset.sum_bij' (fun k _ => c + k - (n - 1)) (fun s _ => s + (n - 1) - c) ?_ ?_ ?_ ?_ ?_ <;> simp only [Finset.mem_filter, Finset.mem_range] <;> intros <;> first | omega | (congr 1; omega) | rfl | trivial

end Cert.Reals

end
-- ==== Proof.Stick.RefVal.lean ====
module

public import proofs.«01_k».proof.Proof.Reals
public import proofs.«01_k».proof.Proof.Stick.Softplus
public import proofs.«01_k».proof.Proof.Cumsum
public import proofs.«01_k».proof.Proof.Gen.ReferenceStickIdeal.Read
public import Idealize.ShloMosaic.Lib.Pipeline.ValueKit

/-!
What the reference's values are over the reals.
-/

@[expose] public section

set_option maxRecDepth 16384

noncomputable section

namespace Cert.ReferenceStickIdeal.Value

open Cert.ReferenceStickIdeal Cert.ReferenceStickIdeal.Gen Cert.ReferenceStickIdeal.Read Cert.Reals Idealize.ShloMosaic Idealize.ShloMosaic.TcCoe
open Idealize.ShloMosaic.WordCmp (cmpi_slt_ofNat)
open Stick (keep brk keepM pre wt grad gpre dz soft slope)

variable (P D : ℕ → ℕ → ℝ)

theorem q_enc : val_main_v4 (F := Ideal) (enc2 P) = enc3 (fun h t d => P t (64 * h + d)) := by
  funext i
  rw [val_main_v4_apply, val_main_v3_apply, val_main_v0_apply]
  have h0 : (i 0).val < 4 := (i 0).isLt; have h1 : (i 1).val < 8192 := (i 1).isLt; have h2 : (i 2).val < 64 := (i 2).isLt
  refine congrArg Real.toEReal (congrArg₂ P ?_ ?_)
  · show (((i 1).val * 4 + (i 0).val) * 64 + (i 2).val) / 256 = (i 1).val; omega
  · show (((i 1).val * 4 + (i 0).val) * 64 + (i 2).val) % 256 = 64 * (i 0).val + (i 2).val; omega

theorem k_enc : val_main_v6 (F := Ideal) (enc2 P) = enc3 (fun h t d => P t (256 + (64 * h + d))) := by
  funext i
  rw [val_main_v6_apply, val_main_v5_apply, val_main_v1_apply]
  have h0 : (i 0).val < 4 := (i 0).isLt; have h1 : (i 1).val < 8192 := (i 1).isLt; have h2 : (i 2).val < 64 := (i 2).isLt
  refine congrArg Real.toEReal (congrArg₂ P ?_ ?_)
  · show (((i 1).val * 4 + (i 0).val) * 64 + (i 2).val) / 256 = (i 1).val; omega
  · show 256 + (((i 1).val * 4 + (i 0).val) * 64 + (i 2).val) % 256 = 256 + (64 * (i 0).val + (i 2).val); omega

theorem v_enc : val_main_v8 (F := Ideal) (enc2 P) = enc3 (fun h t d => P t (512 + (64 * h + d))) := by
  funext i
  rw [val_main_v8_apply, val_main_v7_apply, val_main_v2_apply]
  have h0 : (i 0).val < 4 := (i 0).isLt; have h1 : (i 1).val < 8192 := (i 1).isLt; have h2 : (i 2).val < 64 := (i 2).isLt
  refine congrArg Real.toEReal (congrArg₂ P ?_ ?_)
  · show (((i 1).val * 4 + (i 0).val) * 64 + (i 2).val) / 256 = (i 1).val; omega
  · show 512 + (((i 1).val * 4 + (i 0).val) * 64 + (i 2).val) % 256 = 512 + (64 * (i 0).val + (i 2).val); omega

theorem do_enc : val_main_v32 (F := Ideal) (enc2 D) = enc3 (fun h t d => D t (64 * h + d)) := by
  funext i
  rw [val_main_v32_apply, val_main_v31_apply, val_main_v30_apply]
  have h0 : (i 0).val < 4 := (i 0).isLt; have h1 : (i 1).val < 8192 := (i 1).isLt; have h2 : (i 2).val < 64 := (i 2).isLt
  refine congrArg Real.toEReal (congrArg₂ D ?_ ?_)
  · show (((i 1).val * 4 + (i 0).val) * 64 + (i 2).val) / 256 = (i 1).val; omega
  · show (((i 1).val * 4 + (i 0).val) * 64 + (i 2).val) % 256 = 64 * (i 0).val + (i 2).val; omega

/-- The scores, and the products of the output's gradient with the values. -/
def zz (h t s : ℕ) : ℝ := (∑ d ∈ Finset.range 64, P t (64 * h + d) * P s (256 + (64 * h + d))) * (1 / 8)
def dd (h t s : ℕ) : ℝ := ∑ d ∈ Finset.range 64, D t (64 * h + d) * P s (512 + (64 * h + d))

theorem z_enc : val_main_v11 (F := Ideal) (enc2 P) = enc3 (zz P) := by
  funext i
  rw [val_main_v11_apply, val_main_v9_apply, q_enc, k_enc, val_main_v10_apply, val_main_cst_apply]
  pointwise
  simp only [enc3_at, eighth, ← EReal.coe_mul]
  unfold zz
  rw [EReal.coe_mul, ← sum_coe 64 fun d => P (i 1).val (64 * (i 0).val + d) * P (i 2).val (256 + (64 * (i 0).val + d))]

theorem da_enc : val_main_v35 (F := Ideal) (enc2 P) (enc2 D) = enc3 (dd P D) := by
  funext i
  rw [val_main_v35_apply, do_enc, v_enc]
  simp only [enc3_at, ← EReal.coe_mul]
  exact sum_coe 64 fun d => D (i 1).val (64 * (i 0).val + d) * P (i 2).val (512 + (64 * (i 0).val + d))

theorem mask_eq (i : S8192x8192.Idx) : val_main_v17 (F := Ideal) i = BitVec.ofBool (decide ((i 1).val < (i 0).val)) := by
  have h0 : (i 0).val < 8192 := (i 0).isLt; have h1 : (i 1).val < 8192 := (i 1).isLt
  rw [val_main_v17_apply, val_main_v15_apply, val_main_v16_apply, val_main_v13_apply, val_main_v14_apply, val_main_v12_apply, val_main_v12_apply]
  exact cmpi_slt_ofNat (by show (i 1).val < _; omega) (by show (i 0).val < _; omega)

/-- The log of the stick that is left, the log of the break, and their derivatives. -/
theorem left_enc : val_main_v19_0 (F := Ideal) (enc2 P) = enc3 (fun h t s => keep (zz P h t s)) := by
  funext i
  show -soft (-val_main_v18 (F := Ideal) (enc2 P) i) = _
  rw [val_main_v18_apply, z_enc]
  show -soft (- -enc3 (zz P) i) = _
  rw [neg_neg, enc3_at, Stick.soft_coe, ← EReal.coe_neg, neg_neg]; rfl

theorem left_slope : val_main_v19_1 (F := Ideal) (enc2 P) = enc3 (fun h t s => brk (zz P h t s)) := by
  funext i
  have hs : val_main_call0_v1_0 (F := Ideal) (enc2 P) i = soft (-val_main_v18 (F := Ideal) (enc2 P) i) := rfl
  have h : val_main_v19_1 (F := Ideal) (enc2 P) i = slope (-val_main_v18 (F := Ideal) (enc2 P) i) := by
    rw [val_main_v19_1_apply, val_main_call0_call0_v21_apply, val_main_call0_call0_v20_apply, val_main_call0_call0_v18_apply, hs, val_main_call0_call0_v16_apply, val_main_call0_call0_v14_apply, val_main_call0_call0_v15_apply, val_main_call0_call0_cst_1_apply, val_main_call0_call0_v13_apply, val_main_call0_call0_cst_0_apply, val_main_call0_call0_v19_apply, val_main_call0_call0_cst_3_apply, val_main_call0_call0_v17_apply, val_main_call0_call0_cst_2_apply, val_main_call0_v0_apply]
    exact congrArg (fun y : EReal => slope y) (rfl : FloatOps.hostNegf (F := Ideal) (φ := .f32) (val_main_v18 (F := Ideal) (enc2 P) i) = -(val_main_v18 (F := Ideal) (enc2 P) i))
  rw [h, val_main_v18_apply, z_enc]
  show slope (- -enc3 (zz P) i) = _
  rw [neg_neg, enc3_at, Stick.slope_coe]; rfl

theorem break_enc : val_main_v23_0 (F := Ideal) (enc2 P) = enc3 (fun h t s => zz P h t s + keep (zz P h t s)) := by
  funext i
  show -soft (-val_main_v11 (F := Ideal) (enc2 P) i) = _
  rw [z_enc, enc3_at, ← EReal.coe_neg, Stick.soft_coe, ← EReal.coe_neg, neg_neg, Stick.keep_neg]; rfl

theorem break_slope : val_main_v23_1 (F := Ideal) (enc2 P) = enc3 (fun h t s => 1 - brk (zz P h t s)) := by
  funext i
  have hs : val_main_call3_v1_0 (F := Ideal) (enc2 P) i = soft (-val_main_v11 (F := Ideal) (enc2 P) i) := rfl
  have h : val_main_v23_1 (F := Ideal) (enc2 P) i = slope (-val_main_v11 (F := Ideal) (enc2 P) i) := by
    rw [val_main_v23_1_apply, val_main_call3_call0_v21_apply, val_main_call3_call0_v20_apply, val_main_call3_call0_v18_apply, hs, val_main_call3_call0_v16_apply, val_main_call3_call0_v14_apply, val_main_call3_call0_v15_apply, val_main_call3_call0_cst_1_apply, val_main_call3_call0_v13_apply, val_main_call3_call0_cst_0_apply, val_main_call3_call0_v19_apply, val_main_call3_call0_cst_3_apply, val_main_call3_call0_v17_apply, val_main_call3_call0_cst_2_apply, val_main_call3_v0_apply]
    exact congrArg (fun y : EReal => slope y) (rfl : FloatOps.hostNegf (F := Ideal) (φ := .f32) (val_main_v11 (F := Ideal) (enc2 P) i) = -(val_main_v11 (F := Ideal) (enc2 P) i))
  rw [h, z_enc, enc3_at, ← EReal.coe_neg, Stick.slope_coe, Stick.brk_neg]; rfl

theorem mask3_eq (i : S4x8192x8192.Idx) : val_main_v20_1 (F := Ideal) i = BitVec.ofBool (decide ((i 2).val < (i 1).val)) := by
  rw [val_main_v20_1_apply, mask_eq]
theorem mask3'_eq (i : S4x8192x8192.Idx) : val_main_v26_1 (F := Ideal) i = BitVec.ofBool (decide ((i 2).val < (i 1).val)) := by
  rw [val_main_v26_1_apply, mask_eq]

theorem zero1 (i) : val_main_call1_v2 (F := Ideal) i = ((0 : ℝ) : EReal) := Stick.zero_word
theorem zero4 (i) : val_main_call4_v2 (F := Ideal) i = ((0 : ℝ) : EReal) := Stick.zero_word
theorem zero5 (i) : val_main_call5_v0 (F := Ideal) i = ((0 : ℝ) : EReal) := Stick.zero_word
theorem zero8 (i) : val_main_call8_v0 (F := Ideal) i = ((0 : ℝ) : EReal) := Stick.zero_word

theorem leftM_enc : val_main_v20_0 (F := Ideal) (enc2 P) = enc3 (fun h t s => keepM (zz P h t) t s) := by
  funext i
  rw [val_main_v20_0_apply, mask3_eq, left_enc, zero1, enc3_at, select_decide, coe_ite]; rfl

theorem after_enc : val_main_v21 (F := Ideal) (enc2 P) = enc3 (fun h t s => ∑ s' ∈ (Finset.range 8192).filter (s ≤ ·), keepM (zz P h t) t s') := by
  unfold val_main_v21
  rw [leftM_enc]
  refine (window_sum ![0, 0, 0] ![0, 0, 8191] rfl rfl _ _ _ _ ((Stick.zero_word).trans EReal.coe_zero)).trans ?_
  exact enc3_congr fun h _ t _ s _ => sum_from _ 8192 s

/-- What lies strictly between a key and the query. -/
theorem between (z : ℕ → ℝ) {t s : ℕ} (ht : t < 8192) (hs : s < t) :
    (∑ s' ∈ (Finset.range 8192).filter (s ≤ ·), keepM z t s') - keepM z t s = pre z t t - pre z t (s + 1) := by
  have h1 : (∑ s' ∈ (Finset.range 8192).filter (s ≤ ·), keepM z t s') = pre z t 8192 - pre z t s := by
    unfold pre
    rw [eq_sub_iff_add_eq, ← Finset.sum_filter_add_sum_filter_not (Finset.range 8192) (s ≤ ·) (keepM z t)]
    congr 1
    refine Finset.sum_congr ?_ fun _ _ => rfl
    ext x; simp only [Finset.mem_filter, Finset.mem_range]; omega
  have h2 : pre z t 8192 = pre z t t := by
    have : 8192 = t + (8192 - t) := by omega
    rw [this, Stick.pre_block, Finset.sum_eq_zero (fun x _ => Stick.keepM_of_ge z t (by omega)), add_zero]
  have h3 : pre z t (s + 1) = pre z t s + keepM z t s := Finset.sum_range_succ _ _
  rw [h1, h2, h3]; ring

theorem weight_enc : val_main_v25 (F := Ideal) (enc2 P) = enc3 (fun h t s => Real.exp (zz P h t s + keep (zz P h t s)
    + ((∑ s' ∈ (Finset.range 8192).filter (s ≤ ·), keepM (zz P h t) t s') - keepM (zz P h t) t s))) := by
  funext i
  rw [val_main_v25_apply, val_main_v24_apply, val_main_v22_apply, break_enc, after_enc, leftM_enc]
  simp only [enc3_at]
  change Ideal.exp (((_ : ℝ) : EReal) + (((_ : ℝ) : EReal) - ((_ : ℝ) : EReal))) = _
  rw [← EReal.coe_sub, ← EReal.coe_add, Ideal.exp_coe]

theorem wt_enc : val_main_v26_0 (F := Ideal) (enc2 P) = enc3 (fun h t s => wt (zz P h t) t s) := by
  funext i
  have h1 : (i 1).val < 8192 := (i 1).isLt
  rw [val_main_v26_0_apply, mask3'_eq, weight_enc, zero4, enc3_at, enc3_at, select_decide, coe_ite]
  refine congrArg Real.toEReal ?_
  unfold wt
  by_cases h : (i 2).val < (i 1).val
  · rw [if_pos h, if_pos h, between _ h1 h]
  · rw [if_neg h, if_neg h]

end Cert.ReferenceStickIdeal.Value

end
-- ==== Proof.Stick.Check.lean ====
module

public import proofs.«01_k».proof.Proof.Gen.KernelStickIdeal.Loops
public import Idealize.ShloMosaic.Lib.WordArith
public import Idealize.ShloMosaic.Lib.LoopRemainder

@[expose] public section

/-!
The kernel starts its loop over earlier key blocks at a word that it reads from memory, clipped to `-1 … block - 1`. So
whatever the word, the loop stays inside the arrays: that is the side condition `k0_chk1`, proved here for every word.
-/

noncomputable section

namespace Cert.KernelStickIdeal.Value

open Cert.KernelStickIdeal Cert.KernelStickIdeal.Gen Idealize.ShloMosaic

/-- The query block of a grid point is below 32. -/
theorem blk_lt (i : grid0.Coords) : (i 1).val < 32 := (i 1).isLt

/-- The first key block that the loop takes: the stored word plus one, clipped to `0 … block`. -/
def start (i : grid0.Coords) (w : BitVec 32) : Nat := min (i 1).val (max (-1) w.toInt + 1).toNat

theorem start_le (i : grid0.Coords) (w : BitVec 32) : start i w ≤ (i 1).val := min_le_left _ _

/-- The lower bound of the loop as the program computes it is that block. -/
theorem lb_word (i : grid0.Coords) (w : BitVec 32) :
    Scalar.addi (Scalar.minsi (Scalar.subi (BitVec.ofNat 32 (i 1).val) 1#32) (Scalar.maxsi 4294967295#32 w)) 1#32
      = BitVec.ofNat 32 (start i w) := by
  have hi := blk_lt i
  have hm : (4294967295#32 : BitVec 32).toInt = -1 := by decide
  have h1 : (1#32 : BitVec 32).toInt = 1 := by decide
  have hb : (BitVec.ofNat 32 (i 1).val).toInt = ((i 1).val : ℤ) := WordArith.toInt_ofNat_small _ (by omega)
  have hs : (BitVec.ofNat 32 (start i w)).toInt = (start i w : ℤ) :=
    WordArith.toInt_ofNat_small _ (by have := start_le i w; omega)
  have hsub : (BitVec.ofNat 32 (i 1).val - 1#32 : BitVec 32).toInt = ((i 1).val : ℤ) - 1 := by
    rw [WordArith.toInt_sub_of_bounds _ _ (by omega) (by omega), hb, h1]
  have hwlt := w.toInt_lt
  have hmax : (IntOp.maxsi 4294967295#32 w).toInt = max (-1) w.toInt := by
    unfold IntOp.maxsi
    split <;> rename_i h <;> simp only [BitVec.slt, decide_eq_true_eq, hm] at h ⊢ <;> omega
  have hmin : (IntOp.minsi (BitVec.ofNat 32 (i 1).val - 1#32) (IntOp.maxsi 4294967295#32 w)).toInt
      = min ((i 1).val - 1 : ℤ) (max (-1) w.toInt) := by
    unfold IntOp.minsi
    split <;> rename_i h <;> simp only [BitVec.slt, decide_eq_true_eq, hsub, hmax] at h ⊢ <;> omega
  apply BitVec.eq_of_toInt_eq
  rw [hs]
  change (IntOp.minsi (BitVec.ofNat 32 (i 1).val - 1#32) (IntOp.maxsi 4294967295#32 w) + 1#32).toInt = _
  rw [WordArith.toInt_add_of_bounds _ _ (by omega) (by omega), hmin, h1]
  unfold start
  omega

/-- A word times 256 is a multiple of 256. -/
theorem dvd_mul (x : BitVec 32) : 256 ∣ (Scalar.muli x 256#32).toNat := by
  change 256 ∣ (x * 256#32).toNat
  rw [BitVec.toNat_mul]
  have h : (256#32 : BitVec 32).toNat = 256 := by decide
  rw [h]
  omega

/-- The loop over earlier key blocks: from `start` to the query block, by ones. -/
theorem loop1 (i : grid0.Coords) (w : BitVec 32) :
    k0_t1_loop i w = ⟨BitVec.ofNat 32 (start i w), BitVec.ofNat 32 (i 1).val, 1#32⟩ := by
  unfold k0_t1_loop
  dsimp only
  rw [lb_word, Scalar.muli_divsi_one]
  congr 1
  change BitVec.ofNat 32 (start i w) + (BitVec.ofNat 32 (i 1).val - BitVec.ofNat 32 (start i w)) = _
  rw [add_sub_cancel]

/-- The remainder loop is empty. -/
theorem loop2 (i : grid0.Coords) (w : BitVec 32) :
    k0_t2_loop i w = ⟨BitVec.ofNat 32 (i 1).val, BitVec.ofNat 32 (i 1).val, 1#32⟩ := by
  unfold k0_t2_loop
  dsimp only
  rw [lb_word, Scalar.muli_divsi_one]
  have h : Scalar.addi (BitVec.ofNat 32 (start i w)) (Scalar.subi (BitVec.ofNat 32 (i 1).val) (BitVec.ofNat 32 (start i w)))
      = BitVec.ofNat 32 (i 1).val := add_sub_cancel _ _
  rw [h]

theorem trips_words (a b : Nat) (hab : a ≤ b) (hb : b < 32) :
    Scf.trips (BitVec.ofNat 32 a) (BitVec.ofNat 32 b) 1#32 = b - a := by
  have h1 : (1#32 : BitVec 32).toInt = 1 := by decide
  unfold Scf.trips
  rw [WordArith.toInt_ofNat_small _ (by omega), WordArith.toInt_ofNat_small _ (by omega), h1]
  omega

theorem ok_words (a b : Nat) (hab : a ≤ b) (hb : b < 32) : Scf.OK (BitVec.ofNat 32 a) (BitVec.ofNat 32 b) 1#32 := by
  have h1 : (1#32 : BitVec 32).toInt = 1 := by decide
  refine ⟨by decide, ?_⟩
  rw [trips_words a b hab hb, WordArith.toInt_ofNat_small _ (by omega), h1]
  omega

theorem trips1 (i : grid0.Coords) (w : BitVec 32) : (k0_t1_loop i w).trips = (i 1).val - start i w := by
  rw [loop1]; exact trips_words _ _ (start_le i w) (blk_lt i)

theorem trips2 (i : grid0.Coords) (w : BitVec 32) : (k0_t2_loop i w).trips = 0 := by
  rw [loop2]; exact (trips_words _ _ le_rfl (blk_lt i)).trans (Nat.sub_self _)

/-- Trip `k` of the loop is about key block `start + k`. -/
theorem off1 (i : grid0.Coords) (w : BitVec 32) (k : Fin (k0_t1_loop i w).trips) :
    k0_off1 i w k = ![(start i w + k.val) * 256, 0] := by
  have hk : k.val < (i 1).val - start i w := lt_of_lt_of_eq k.isLt (trips1 i w)
  have hi := blk_lt i
  have h : (Scalar.muli (Scf.iv (BitVec.ofNat 32 (start i w)) 1#32 k.val) 256#32).toNat = (start i w + k.val) * 256 := by
    change ((BitVec.ofNat 32 (start i w) + BitVec.ofNat 32 k.val * 1#32) * 256#32).toNat = _
    simp only [BitVec.toNat_mul, BitVec.toNat_add, BitVec.toNat_ofNat]
    omega
  unfold k0_off1
  dsimp only
  rw [lb_word]
  exact congrArg (fun n : Nat => (![n, 0] : Fin 2 → Nat)) h

/-- The side condition holds of every word. -/
theorem chk (i : grid0.Coords) (w : BitVec 32) : k0_chk1 i w := by
  have no2 : ∀ k : Fin (k0_t2_loop i w).trips, False := fun k => Nat.not_lt_zero _ (lt_of_lt_of_eq k.isLt (trips2 i w))
  refine ⟨by rw [loop1]; exact ok_words _ _ (start_le i w) (blk_lt i), fun _ => dvd_mul _, fun k a => ?_, fun _ => dvd_mul _,
    fun _ => dvd_mul _, fun _ => dvd_mul _, fun _ => dvd_mul _, by rw [loop2]; exact ok_words _ _ le_rfl (blk_lt i),
    fun k => (no2 k).elim, fun k => (no2 k).elim, fun k => (no2 k).elim, fun k => (no2 k).elim, fun k => (no2 k).elim,
    fun k => (no2 k).elim⟩
  have hk : k.val < (i 1).val - start i w := lt_of_lt_of_eq k.isLt (trips1 i w)
  have hi := blk_lt i
  rw [off1]
  match a with
  | 0 => change (start i w + k.val) * 256 + 256 ≤ 8192; omega
  | 1 => change 0 + 128 ≤ 128; omega

end Cert.KernelStickIdeal.Value
-- ==== Proof.Stick.Run.lean ====
module

public import proofs.«01_k».proof.Proof.Gen.KernelStickIdeal.Frame
public import proofs.«01_k».proof.Proof.Stick.Check
public import Idealize.ShloMosaic.Lib.VecWindow

@[expose] public section

/-!
One run of the stick-breaking backward body, at any grid point and from any contents of its three output blocks. The two
accumulated outputs are cleared first where the query block is the first of its row.
-/

set_option maxRecDepth 16384

noncomputable section

namespace Cert.KernelStickIdeal.Gen

open Cert.KernelStickIdeal.Value (chk)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test whether a query block is the first, as the program computes it. -/
theorem first_iff (i : grid0.Coords) :
    Scalar.cmpi .ne (Scalar.extui (Scalar.cmpi .eq (BitVec.ofNat 32 (i 1).val) 0#32) : BitVec 32) 0#32 = 1#1 ↔ (i 1).val = 0 := by
  have h : ∀ n : Fin 32, Scalar.cmpi .ne (Scalar.extui (Scalar.cmpi .eq (BitVec.ofNat 32 n.val) 0#32) : BitVec 32) 0#32 = 1#1 ↔ n.val = 0 := by
    decide +kernel
  exact h ⟨(i 1).val, (i 1).isLt⟩

/-- What an accumulated output holds when the body has passed its test: zeros at a row's first query block, else what it held. -/
def enter (i : grid0.Coords) (y : Vec F S8192x128 .f32) : Vec F S8192x128 .f32 := if (i 1).val = 0 then k0_pay32 else y

/-- What the body's first part binds: the grid coordinate, the half-lane mask, and the query block and its cotangent as the loops use them. -/
def headVals (i : grid0.Coords) (x0 x3 : Vec F S256x128 .f32) :
    Σ' (arg1 : BitVec 32) (v5 : IVec S1x128 1) (v27 : FVec F S256x128 .bf16) (v32 : FVec F S256x128 .bf16) (v33 : IVec S256x256 32) (v34 : IVec S256x256 32) (v38 : FVec F S256x256 .bf16) (v42 : FVec F S256x256 .bf16), FVec F S512x128 .bf16 :=
  ⟨BitVec.ofNat 32 (i 1).val, k0_pay34, k0_pay36 x3, k0_pay37 x3, iota .tc S256x256 32 [0] iota_S256x256_d0_w32,
    iota .tc S256x256 32 [1] iota_S256x256_d1_w32, k0_pay38 (F := F), k0_pay39 (F := F), k0_pay40 x0⟩

/-- The first part of the body: it clears the accumulated outputs where that is due and loads the query block and its cotangent. -/
theorem head_run (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x1x8x128 .f32) (harg7 : arg7.IsWhole) (arg8 : Memref sig .tc .vmem S256x128 .f32) (harg8 : arg8.IsWhole) (arg9 : Memref sig .tc .vmem S8192x128 .f32) (harg9 : arg9.IsWhole) (arg10 : Memref sig .tc .vmem S8192x128 .f32) (harg10 : arg10.IsWhole)
    (x0 x3 : Vec F S256x128 .f32) (E : Set ℕ) (y9 y10 : Vec F S8192x128 .f32) :
    (iprop((arg2.view.loc (c : Thread nD τ) ↦[arg2.view.set]{fullShare} harg2.unread x0) ∗ (arg5.view.loc (c : Thread nD τ) ↦[arg5.view.set]{fullShare} harg5.unread x3) ∗ (arg9.view.loc (c : Thread nD τ) ↦[arg9.view.set]{fullShare} harg9.unread y9) ∗ (arg10.view.loc (c : Thread nD τ) ↦[arg10.view.set]{fullShare} harg10.unread y10)) : sProp 𝕄)
      ⊢ wp frame (wpE (defs₀ (F := F)) Variants.none (c : Thread nD τ) none) E (k0_part5 (F := F) i arg2 harg2 arg3 harg3 arg4 harg4 arg5 harg5 arg6 harg6 arg7 harg7 arg8 harg8 arg9 harg9 arg10 harg10)
          (fun r => (iprop(⌜r = headVals i x0 x3⌝ ∗ (arg2.view.loc (c : Thread nD τ) ↦[arg2.view.set]{fullShare} harg2.unread x0) ∗ (arg5.view.loc (c : Thread nD τ) ↦[arg5.view.set]{fullShare} harg5.unread x3) ∗ (arg9.view.loc (c : Thread nD τ) ↦[arg9.view.set]{fullShare} harg9.unread (enter i y9)) ∗ (arg10.view.loc (c : Thread nD τ) ↦[arg10.view.set]{fullShare} harg10.unread (enter i y10))) : sProp 𝕄)) := by
  have e2 := (View.readAt_full arg2.view (harg2.unread x0) inb_S256x128_S256x128_0_0).trans (harg2.read_unread x0)
  have e5 := (View.readAt_full arg5.view (harg5.unread x3) inb_S256x128_S256x128_0_0).trans (harg5.read_unread x3)
  rw [k0_part5_eq_skeleton]; unfold k0_part5_skel
  by_cases h0 : (i 1).val = 0
  · have hc := (first_iff i).mpr h0
    have e9 : enter i y9 = k0_pay32 := if_pos h0
    have e10 : enter i y10 = k0_pay33 := if_pos h0
    have f9 := harg9.eq_unread (View.read_writes_full arg9.view (harg9.unread y9) inb_S8192x128_S8192x128_0_0 (k0_pay32 (F := F)) [])
    have f10 := harg10.eq_unread (View.read_writes_full arg10.view (harg10.unread y10) inb_S8192x128_S8192x128_0_0 (k0_pay33 (F := F)) [])
    iintro ⟨H2, H5, H9, H10⟩
    sl_exec (disch := first | sl_exact hc)
    sl_step
    rw [e9, e10, ← f9, ← f10]
    isplitr; · ipureintro; rfl
    isplitl [H2]; · iexact H2
    isplitl [H5]; · iexact H5
    isplitl [H9]; · iexact H9
    iexact H10
  · have hc := fun h => h0 ((first_iff i).mp h)
    have e9 : enter i y9 = y9 := if_neg h0
    have e10 : enter i y10 = y10 := if_neg h0
    iintro ⟨H2, H5, H9, H10⟩
    sl_exec (disch := first | sl_exact hc)
    sl_step
    rw [e9, e10]
    isplitr; · ipureintro; rfl
    isplitl [H2]; · iexact H2
    isplitl [H5]; · iexact H5
    isplitl [H9]; · iexact H9
    iexact H10

set_option maxHeartbeats 4000000 in
/-- The whole body from any contents of its outputs: the pieces that it writes into each are what the run finds. -/
def bodyRun (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x1x8x128 .f32) (harg7 : arg7.IsWhole) (arg8 : Memref sig .tc .vmem S256x128 .f32) (harg8 : arg8.IsWhole) (arg9 : Memref sig .tc .vmem S8192x128 .f32) (harg9 : arg9.IsWhole) (arg10 : Memref sig .tc .vmem S8192x128 .f32) (harg10 : arg10.IsWhole)
    (x0 : Vec F S256x128 .f32) (x1 x2 : Vec F S8192x128 .f32) (x3 x4 : Vec F S256x128 .f32) (x5 : Vec F S1x1x8x128 .f32) (y9 y10 : Vec F S8192x128 .f32) :
    Σ' (L8 : List (View.Piece (Elt F) S256x128 .f32)), Σ' (L9 : List (View.Piece (Elt F) S8192x128 .f32)), { L10 : List (View.Piece (Elt F) S8192x128 .f32) //
      ∀ (E : Set ℕ) (y8 : Vec F S256x128 .f32),
      (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread y8) ∗ (arg9.view.loc (c : Thread nD τ) ↦[arg9.view.set]{fullShare} harg9.unread y9) ∗ (arg10.view.loc (c : Thread nD τ) ↦[arg10.view.set]{fullShare} harg10.unread y10)) : sProp 𝕄)
      ⊢ wp frame (wpE (defs₀ (F := F)) Variants.none (c : Thread nD τ) none) E (cc0_sb_bwd (F := F) i arg2 harg2 arg3 harg3 arg4 harg4 arg5 harg5 arg6 harg6 arg7 harg7 arg8 harg8 arg9 harg9 arg10 harg10)
          (fun _ => (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5)
            ∗ (arg8.view.loc (c : Thread nD τ) ↦[arg8.view.set]{fullShare} arg8.view.writes (Elt F) (harg8.unread y8) L8)
            ∗ (arg9.view.loc (c : Thread nD τ) ↦[arg9.view.set]{fullShare} arg9.view.writes (Elt F) (harg9.unread (enter i y9)) L9)
            ∗ (arg10.view.loc (c : Thread nD τ) ↦[arg10.view.set]{fullShare} arg10.view.writes (Elt F) (harg10.unread (enter i y10)) L10)) : sProp 𝕄)) } := by
  refine ⟨?_, ?_, ?_, fun E y8 => ?run⟩
  case run =>
    simp only [cc0_sb_bwd_eq_skeleton]; unfold cc0_sb_bwd_skel
    iintro ⟨H2, H3, H4, H5, H6, H7, H8, H9, H10⟩
    rw [wp_bind]
    iapply (wp_wand_r Idealize.ShloMosaic.frame (wpE (defs₀ (F := F)) Variants.none (c : Thread nD τ) none) E)
    isplitl [H2 H5 H9 H10]
    · iapply (head_run c i arg2 harg2 arg3 harg3 arg4 harg4 arg5 harg5 arg6 harg6 arg7 harg7 arg8 harg8 arg9 harg9 arg10 harg10 x0 x3 E y9 y10)
      isplitl [H2]; · iexact H2
      isplitl [H5]; · iexact H5
      isplitl [H9]; · iexact H9
      iexact H10
    iintro %r ⟨%hr, H2, H5, H9, H10⟩
    subst hr
    unfold headVals
    simp only [k0_part6_eq_skeleton, k0_part7_eq_skeleton, k0_part8_eq_skeleton]
    sl_exec (disch := first | sl_exact (chk i _))

    sl_step
    sl_close

end Cert.KernelStickIdeal.Gen

end
-- ==== Proof.Stick.Step.lean ====
module

public import proofs.«01_k».proof.Proof.Stick.Run

/-!
What the body of the stick-breaking backward kernel does to values: one trip of its loop over earlier key blocks, the whole
loop, and the last step on the block's own diagonal, all as plain functions of the blocks. The run of the body computes them.
-/

@[expose] public section

set_option maxRecDepth 16384

noncomputable section

namespace Cert.KernelStickIdeal.Gen

open Cert.KernelStickIdeal Cert.KernelStickIdeal.Value Idealize.ShloMosaic Idealize.ShloMosaic.TcCoe Idealize.SL.Sem

variable {F : FTy → Type} [FloatOps F]

/-- Where key block `b` begins. -/
def blkAt (b : Fin 32) : Fin 2 → ℕ := ![b.val * 256, 0]

theorem blkIn (b : Fin 32) : ∀ a, blkAt b a + S256x128.size a ≤ S8192x128.size a := by
  have hb := b.isLt
  intro a
  match a with
  | ⟨0, _⟩ => show b.val * 256 + 256 ≤ 8192; omega
  | ⟨1, _⟩ => show 0 + 128 ≤ 128; omega

/-- Key block `b` of a whole array. -/
def rowsOf (x : Vec F S8192x128 .f32) (b : Fin 32) : Vec F S256x128 .f32 := VecWindow.window x (blkAt b) S256x128.size (blkIn b)

/-- The whole array with key block `b` replaced. -/
def setRows (x : Vec F S8192x128 .f32) (b : Fin 32) (w : Vec F S256x128 .f32) : Vec F S8192x128 .f32 := VecWindow.put x (blkAt b) S256x128.size w

/-- What the loop carries: the two running row sums and the running gradient of the queries; then the gradients of keys and values. -/
abbrev Carry (F : FTy → Type) : Type := FVec F S512x1 .f32 × FVec F S512x1 .f32 × FVec F S512x128 .f32
abbrev State (F : FTy → Type) : Type := Carry F × Vec F S8192x128 .f32 × Vec F S8192x128 .f32

/-- One trip, about key block `b`. -/
def tripFn (x0 : Vec F S256x128 .f32) (x1 x2 : Vec F S8192x128 .f32) (x3 x4 : Vec F S256x128 .f32) (b : Fin 32) (s : State F) : State F :=
  let v43 := k0_pay40 x0
  let v44 := k0_pay41 (k0_pay36 x3) (k0_pay37 x3)
  let kb := rowsOf x1 b
  let v191 := k0_pay3 v44 (rowsOf x2 b)
  let v210 := k0_pay6 v43 kb
  let v219 := k0_pay7 k0_pay38 v43 s.1.1 kb
  let v220 := k0_pay8 v43 kb
  let v221 := k0_pay9 (k0_pay44 x4)
  ((k0_pay15 s.1.1 (k0_pay5 v43 kb), k0_pay16 s.1.2.1 v191 v219 v220 v221,
      k0_pay48 s.1.2.2 (k0_pay12 k0_pay39 s.1.2.1 v191 v210 v219 v220 v221) kb),
    setRows s.2.1 b (k0_pay13 k0_pay39 v43 s.1.2.1 v191 v210 v219 v220 v221 (rowsOf s.2.1 b)),
    setRows s.2.2 b (k0_pay14 v44 v219 v220 v221 (rowsOf s.2.2 b)))

/-- The first `n` trips, the first of them about block `s0`. -/
def tripsFn (x0 : Vec F S256x128 .f32) (x1 x2 : Vec F S8192x128 .f32) (x3 x4 : Vec F S256x128 .f32) (s0 : ℕ) (s : State F) : ℕ → State F
  | 0 => s
  | n + 1 => tripFn x0 x1 x2 x3 x4 (Fin.ofNat 32 (s0 + n)) (tripsFn x0 x1 x2 x3 x4 s0 s n)

theorem rowsOf_read {sp : Space} (v : View sig .tc sp S8192x128 .f32) (f : v.ty.Contents (Elt F)) {off : Fin 2 → ℕ} (inb) (b : Fin 32) (h : off = blkAt b) :
    v.readAt (Elt F) (Rect.unit (s := S8192x128) off S256x128.size inb).toLoadRect f = rowsOf (v.read (Elt F) f) b :=
  View.readAt_unit v f inb h (blkIn b)

theorem setRows_read {sp : Space} (v : View sig .tc sp S8192x128 .f32) (f : v.ty.Contents (Elt F)) {off : Fin 2 → ℕ} (inb) (w : Vec F S256x128 .f32)
    (L : List (View.Piece (Elt F) S8192x128 .f32)) (b : Fin 32) (h : off = blkAt b) :
    v.read (Elt F) (v.writes (Elt F) f (⟨Rect.unit (s := S8192x128) off S256x128.size inb, w⟩ :: L)) = setRows (v.read (Elt F) (v.writes (Elt F) f L)) b w :=
  View.read_writes_cons_put v f inb w L h

section
variable (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x1x8x128 .f32) (harg7 : arg7.IsWhole) (arg8 : Memref sig .tc .vmem S256x128 .f32) (harg8 : arg8.IsWhole) (arg9 : Memref sig .tc .vmem S8192x128 .f32) (harg9 : arg9.IsWhole) (arg10 : Memref sig .tc .vmem S8192x128 .f32) (harg10 : arg10.IsWhole)
  (x0 : Vec F S256x128 .f32) (x1 x2 : Vec F S8192x128 .f32) (x3 x4 : Vec F S256x128 .f32)
  (v33 v34 : IVec S256x256 32) (v54 : BitVec 32) (hw : k0_chk1 i v54) (v66 : BitVec 32)

/-- What one trip yields and leaves, over any contents that read as the state says. -/
theorem trip_eq (k : Fin (k0_t1_loop i v54).trips) (b : Fin 32) (hb : k0_off1 i v54 k = blkAt b) (s : State F)
    (f9 : arg9.view.ty.Contents (Elt F)) (f10 : arg10.view.ty.Contents (Elt F)) (h9 : arg9.view.read (Elt F) f9 = s.2.1) (h10 : arg10.view.read (Elt F) f10 = s.2.2) :
    tripR_k0_t1 (F := F) Variants.none c none i arg2 harg2 arg3 harg3 arg4 harg4 arg5 harg5 arg6 harg6 arg7 harg7 arg8 harg8 arg9 harg9 arg10 harg10 (BitVec.ofNat 32 (i 1).val) (k0_pay36 x3) (k0_pay37 x3) v33 v34 k0_pay38 k0_pay39 (k0_pay40 x0) v54 hw x4 v66 (harg3.unread x1) (harg4.unread x2) k s.1 f9 f10 = (tripFn x0 x1 x2 x3 x4 b s).1
      ∧ arg9.view.read (Elt F) (arg9.view.writes (Elt F) f9 (tripL_k0_t1 (F := F) Variants.none c none i arg2 harg2 arg3 harg3 arg4 harg4 arg5 harg5 arg6 harg6 arg7 harg7 arg8 harg8 arg9 harg9 arg10 harg10 (BitVec.ofNat 32 (i 1).val) (k0_pay36 x3) (k0_pay37 x3) v33 v34 k0_pay38 k0_pay39 (k0_pay40 x0) v54 hw x4 v66 (harg3.unread x1) (harg4.unread x2) k s.1 f9 f10).1) = (tripFn x0 x1 x2 x3 x4 b s).2.1
      ∧ arg10.view.read (Elt F) (arg10.view.writes (Elt F) f10 (tripL_k0_t1 (F := F) Variants.none c none i arg2 harg2 arg3 harg3 arg4 harg4 arg5 harg5 arg6 harg6 arg7 harg7 arg8 harg8 arg9 harg9 arg10 harg10 (BitVec.ofNat 32 (i 1).val) (k0_pay36 x3) (k0_pay37 x3) v33 v34 k0_pay38 k0_pay39 (k0_pay40 x0) v54 hw x4 v66 (harg3.unread x1) (harg4.unread x2) k s.1 f9 f10).2) = (tripFn x0 x1 x2 x3 x4 b s).2.2 := by
  have e3 : ∀ inb, arg3.view.readAt (Elt F) (Rect.unit (s := S8192x128) (k0_off1 i v54 k) S256x128.size inb).toLoadRect (harg3.unread x1) = rowsOf x1 b := fun inb =>
    (rowsOf_read _ _ inb b hb).trans (congrArg (rowsOf · b) (harg3.read_unread x1))
  have e4 : ∀ inb, arg4.view.readAt (Elt F) (Rect.unit (s := S8192x128) (k0_off1 i v54 k) S256x128.size inb).toLoadRect (harg4.unread x2) = rowsOf x2 b := fun inb =>
    (rowsOf_read _ _ inb b hb).trans (congrArg (rowsOf · b) (harg4.read_unread x2))
  have e9 : ∀ inb, arg9.view.readAt (Elt F) (Rect.unit (s := S8192x128) (k0_off1 i v54 k) S256x128.size inb).toLoadRect f9 = rowsOf s.2.1 b := fun inb =>
    (rowsOf_read _ _ inb b hb).trans (congrArg (rowsOf · b) h9)
  have e10 : ∀ inb, arg10.view.readAt (Elt F) (Rect.unit (s := S8192x128) (k0_off1 i v54 k) S256x128.size inb).toLoadRect f10 = rowsOf s.2.2 b := fun inb =>
    (rowsOf_read _ _ inb b hb).trans (congrArg (rowsOf · b) h10)
  refine ⟨?_, ?_, ?_⟩
  · dsimp only [tripR_k0_t1]; unfold trip_k0_t1
    dsimp only [trip_k0_t1.sl.r, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_1]
    simp only [e3, e4]
    rfl
  · dsimp only [tripL_k0_t1]; unfold trip_k0_t1
    dsimp only [trip_k0_t1.sl.r, trip_k0_t1.sl.r_2, trip_k0_t1.sl.r_3, trip_k0_t1.sl.r_4, trip_k0_t1.sl.r_5]
    refine (setRows_read arg9.view f9 _ _ [] b hb).trans ?_
    rw [View.writes_nil, h9, e9]
    simp only [e3, e4]
    rfl
  · dsimp only [tripL_k0_t1]; unfold trip_k0_t1
    dsimp only [trip_k0_t1.sl.r, trip_k0_t1.sl.r_2, trip_k0_t1.sl.r_3, trip_k0_t1.sl.r_4, trip_k0_t1.sl.r_5]
    refine (setRows_read arg10.view f10 _ _ [] b hb).trans ?_
    rw [View.writes_nil, h10, e10]
    simp only [e3, e4]
    rfl

/-- The loop's state after `n` trips is the plain one. -/
theorem loop_eq (s : State F) (G9 : arg9.view.ty.Contents (Elt F)) (G10 : arg10.view.ty.Contents (Elt F))
    (h9 : arg9.view.read (Elt F) G9 = s.2.1) (h10 : arg10.view.read (Elt F) G10 = s.2.2) (n : ℕ) (hn : n ≤ (k0_t1_loop i v54).trips) :
    (st_k0_t1 (F := F) Variants.none c none i arg2 harg2 arg3 harg3 arg4 harg4 arg5 harg5 arg6 harg6 arg7 harg7 arg8 harg8 arg9 harg9 arg10 harg10 (BitVec.ofNat 32 (i 1).val) (k0_pay36 x3) (k0_pay37 x3) v33 v34 k0_pay38 k0_pay39 (k0_pay40 x0) v54 hw x4 v66 (harg3.unread x1) (harg4.unread x2) G9 G10 s.1 n).1 = (tripsFn x0 x1 x2 x3 x4 (start i v54) s n).1
      ∧ arg9.view.read (Elt F) (arg9.view.writes (Elt F) G9 (st_k0_t1 (F := F) Variants.none c none i arg2 harg2 arg3 harg3 arg4 harg4 arg5 harg5 arg6 harg6 arg7 harg7 arg8 harg8 arg9 harg9 arg10 harg10 (BitVec.ofNat 32 (i 1).val) (k0_pay36 x3) (k0_pay37 x3) v33 v34 k0_pay38 k0_pay39 (k0_pay40 x0) v54 hw x4 v66 (harg3.unread x1) (harg4.unread x2) G9 G10 s.1 n).2.1) = (tripsFn x0 x1 x2 x3 x4 (start i v54) s n).2.1
      ∧ arg10.view.read (Elt F) (arg10.view.writes (Elt F) G10 (st_k0_t1 (F := F) Variants.none c none i arg2 harg2 arg3 harg3 arg4 harg4 arg5 harg5 arg6 harg6 arg7 harg7 arg8 harg8 arg9 harg9 arg10 harg10 (BitVec.ofNat 32 (i 1).val) (k0_pay36 x3) (k0_pay37 x3) v33 v34 k0_pay38 k0_pay39 (k0_pay40 x0) v54 hw x4 v66 (harg3.unread x1) (harg4.unread x2) G9 G10 s.1 n).2.2) = (tripsFn x0 x1 x2 x3 x4 (start i v54) s n).2.2 := by
  induction n with
  | zero => exact ⟨rfl, h9, h10⟩
  | succ n ih =>
    obtain ⟨ihc, ih9, ih10⟩ := ih (Nat.le_of_succ_le hn)
    have hb : k0_off1 i v54 ⟨n, hn⟩ = blkAt (Fin.ofNat 32 (start i v54 + n)) := by
      have ht := trips1 i v54
      have hi := blk_lt i
      have hm : (start i v54 + n) % 32 = start i v54 + n := Nat.mod_eq_of_lt (by omega)
      rw [off1]; show _ = ![((start i v54 + n) % 32) * 256, 0]; rw [hm]
    have key := trip_eq c i arg2 harg2 arg3 harg3 arg4 harg4 arg5 harg5 arg6 harg6 arg7 harg7 arg8 harg8 arg9 harg9 arg10 harg10 x0 x1 x2 x3 x4 v33 v34 v54 hw v66 ⟨n, hn⟩ _ hb (tripsFn x0 x1 x2 x3 x4 (start i v54) s n) _ _ ih9 ih10
    rw [← ihc] at key
    have hs := st_k0_t1_succ (F := F) Variants.none c none i arg2 harg2 arg3 harg3 arg4 harg4 arg5 harg5 arg6 harg6 arg7 harg7 arg8 harg8 arg9 harg9 arg10 harg10 (BitVec.ofNat 32 (i 1).val) (k0_pay36 x3) (k0_pay37 x3) v33 v34 k0_pay38 k0_pay39 (k0_pay40 x0) v54 hw x4 v66 (harg3.unread x1) (harg4.unread x2) G9 G10 s.1 ⟨n, hn⟩
    dsimp only at hs
    rw [hs, View.writes_append, View.writes_append]
    exact key

end

end Cert.KernelStickIdeal.Gen

end
-- ==== Proof.Stick.Body.lean ====
module

public import proofs.«01_k».proof.Proof.Stick.Step

/-!
The body of the stick-breaking backward kernel at one grid point, as a function of its blocks and of what the two accumulated
outputs held before.
-/

@[expose] public section

set_option maxRecDepth 16384

noncomputable section

namespace Cert.KernelStickIdeal.Gen

open Cert.KernelStickIdeal.Value (chk)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
open Cert.KernelStickIdeal.Value

/-- A whole memref owned at `x` is its buffer at the contents that read as `x`; -/
theorem owns_to (c : Thread nD τ) {sp : Space} {sh : Shape} {e : EltTy} (a : Memref sig c.2.kind sp sh e) (ha : a.IsWhole) (x : sh.Idx → Elt F e) :
    (owns c a fullShare x : sProp 𝕄) ⊢ (a.view.loc c ↦[a.view.set]{fullShare} ha.unread x) := by
  unfold owns
  iintro ⟨%f, %h, H⟩
  rw [← ha.eq_unread h]
  iexact H

/-- and back. -/
theorem owns_of (c : Thread nD τ) {sp : Space} {sh : Shape} {e : EltTy} (a : Memref sig c.2.kind sp sh e) (f : a.view.ty.Contents (Elt F))
    (x : sh.Idx → Elt F e) (h : a.view.read (Elt F) f = x) : (a.view.loc c ↦[a.view.set]{fullShare} f : sProp 𝕄) ⊢ owns c a fullShare x := by
  subst h; exact owns_intro c a fullShare f

/-- The last step, on the block's own diagonal: the gradient of the query block, and the gradients of keys and values with this
block's part added. -/
def lastFn (x0 : Vec F S256x128 .f32) (x1 x2 : Vec F S8192x128 .f32) (x3 x4 : Vec F S256x128 .f32) (b : Fin 32) (s : State F) :
    Vec F S256x128 .f32 × Vec F S8192x128 .f32 × Vec F S8192x128 .f32 :=
  let v43 := k0_pay40 x0
  let v44 := k0_pay41 (k0_pay36 x3) (k0_pay37 x3)
  let v47 := k0_pay42 (iota .tc S256x256 32 [0] iota_S256x256_d0_w32) (iota .tc S256x256 32 [1] iota_S256x256_d1_w32)
  let v62 := k0_pay44 x4
  let kb := rowsOf x1 b
  let vb := rowsOf x2 b
  let v80 := k0_pay50 v43 kb
  let v106 := k0_pay52 v80
  let v124 := k0_pay53 k0_pay38 v47 v62 s.1.1 v80
  let v125 := k0_pay54 k0_pay38 v44 v47 v62 s.1.1 v80 vb
  let v126 := k0_pay55 k0_pay38 v44 v47 v62 s.1.1 v80 vb
  let v129 := k0_pay56 k0_pay38 v44 v47 v62 s.1.1 v80 vb
  (k0_pay1 (k0_pay61 k0_pay39 v47 s.1.2.1 s.1.2.2 v106 v125 v126 v129 kb) (k0_pay62 k0_pay39 v47 s.1.2.1 s.1.2.2 v106 v125 v126 v129 kb) (k0_pay63 k0_pay34),
    setRows s.2.1 b (k0_pay58 k0_pay39 v43 v47 s.1.2.1 v106 v125 v126 v129 (rowsOf s.2.1 b)),
    setRows s.2.2 b (k0_pay59 v44 v124 (rowsOf s.2.2 b)))

/-- The grid point's own key block. -/
def ownBlk (i : grid0.Coords) : Fin 32 := ⟨(i 1).val, blk_lt i⟩

/-- The whole body: what it stores for the query block, and what the two accumulated outputs hold after it. -/
def bodyFn (i : grid0.Coords) (x0 : Vec F S256x128 .f32) (x1 x2 : Vec F S8192x128 .f32) (x3 x4 : Vec F S256x128 .f32) (x5 : Vec F S1x1x8x128 .f32)
    (y9 y10 : Vec F S8192x128 .f32) : Vec F S256x128 .f32 × Vec F S8192x128 .f32 × Vec F S8192x128 .f32 :=
  lastFn x0 x1 x2 x3 x4 (ownBlk i)
    (tripsFn x0 x1 x2 x3 x4 (start i (Scalar.fptosi 32 (k0_pay43 x5))) ((k0_pay45, k0_pay46, k0_pay47), enter i y9, enter i y10) ((i 1).val - start i (Scalar.fptosi 32 (k0_pay43 x5))))

theorem off3_blk (i : grid0.Coords) : k0_off3 i = blkAt (ownBlk i) := by
  have hi := blk_lt i
  have h : (Scalar.muli (BitVec.ofNat 32 (i 1).val) 256#32).toNat = (i 1).val * 256 := by
    show ((BitVec.ofNat 32 (i 1).val) * 256#32).toNat = _
    rw [BitVec.toNat_mul, BitVec.toNat_ofNat, BitVec.toNat_ofNat]
    omega
  show ![_, 0] = ![_, 0]
  exact congrArg (fun n => ![n, 0]) h

section
variable (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x1x8x128 .f32) (harg7 : arg7.IsWhole) (arg8 : Memref sig .tc .vmem S256x128 .f32) (harg8 : arg8.IsWhole) (arg9 : Memref sig .tc .vmem S8192x128 .f32) (harg9 : arg9.IsWhole) (arg10 : Memref sig .tc .vmem S8192x128 .f32) (harg10 : arg10.IsWhole)
  (x0 : Vec F S256x128 .f32) (x1 x2 : Vec F S8192x128 .f32) (x3 x4 : Vec F S256x128 .f32) (x5 : Vec F S1x1x8x128 .f32)
  (y8 : Vec F S256x128 .f32) (y9 y10 : Vec F S8192x128 .f32)

set_option maxHeartbeats 1000000 in
/-- The pieces that the body writes leave what `bodyFn` says. -/
theorem body_eq :
    arg8.view.read (Elt F) (arg8.view.writes (Elt F) (harg8.unread y8) (bodyRun c i arg2 harg2 arg3 harg3 arg4 harg4 arg5 harg5 arg6 harg6 arg7 harg7 arg8 harg8 arg9 harg9 arg10 harg10 x0 x1 x2 x3 x4 x5 y9 y10).1) = (bodyFn i x0 x1 x2 x3 x4 x5 y9 y10).1
      ∧ arg9.view.read (Elt F) (arg9.view.writes (Elt F) (harg9.unread (enter i y9)) (bodyRun c i arg2 harg2 arg3 harg3 arg4 harg4 arg5 harg5 arg6 harg6 arg7 harg7 arg8 harg8 arg9 harg9 arg10 harg10 x0 x1 x2 x3 x4 x5 y9 y10).2.1) = (bodyFn i x0 x1 x2 x3 x4 x5 y9 y10).2.1
      ∧ arg10.view.read (Elt F) (arg10.view.writes (Elt F) (harg10.unread (enter i y10)) (bodyRun c i arg2 harg2 arg3 harg3 arg4 harg4 arg5 harg5 arg6 harg6 arg7 harg7 arg8 harg8 arg9 harg9 arg10 harg10 x0 x1 x2 x3 x4 x5 y9 y10).2.2.1) = (bodyFn i x0 x1 x2 x3 x4 x5 y9 y10).2.2 := by
  have e3 : ∀ inb, arg3.view.readAt (Elt F) (Rect.unit (s := S8192x128) (k0_off3 i) S256x128.size inb).toLoadRect (harg3.unread x1) = rowsOf x1 (ownBlk i) := fun inb =>
    (rowsOf_read _ _ inb _ (off3_blk i)).trans (congrArg (rowsOf · (ownBlk i)) (harg3.read_unread x1))
  have e4 : ∀ inb, arg4.view.readAt (Elt F) (Rect.unit (s := S8192x128) (k0_off3 i) S256x128.size inb).toLoadRect (harg4.unread x2) = rowsOf x2 (ownBlk i) := fun inb =>
    (rowsOf_read _ _ inb _ (off3_blk i)).trans (congrArg (rowsOf · (ownBlk i)) (harg4.read_unread x2))
  have e9 : ∀ inb f, arg9.view.readAt (Elt F) (Rect.unit (s := S8192x128) (k0_off3 i) S256x128.size inb).toLoadRect f = rowsOf (arg9.view.read (Elt F) f) (ownBlk i) := fun inb f =>
    rowsOf_read _ _ inb _ (off3_blk i)
  have e10 : ∀ inb f, arg10.view.readAt (Elt F) (Rect.unit (s := S8192x128) (k0_off3 i) S256x128.size inb).toLoadRect f = rowsOf (arg10.view.read (Elt F) f) (ownBlk i) := fun inb f =>
    rowsOf_read _ _ inb _ (off3_blk i)
  have e6 := (View.readAt_full arg6.view (harg6.unread x4) inb_S256x128_S256x128_0_0).trans (harg6.read_unread x4)
  have e7 : bodyRun.sl.v54 arg7 harg7 x5 = (Scalar.fptosi 32 (k0_pay43 x5)) := by
    unfold bodyRun.sl.v54
    exact congrArg (fun x => Scalar.fptosi 32 (k0_pay43 x))
      ((View.readAt_full arg7.view (harg7.unread x5) inb_S1x1x8x128_S1x1x8x128_0_0_0_0).trans (harg7.read_unread x5))
  obtain ⟨kc, k9, k10⟩ := loop_eq c i arg2 harg2 arg3 harg3 arg4 harg4 arg5 harg5 arg6 harg6 arg7 harg7 arg8 harg8 arg9 harg9 arg10 harg10 x0 x1 x2 x3 x4 (iota .tc S256x256 32 [0] iota_S256x256_d0_w32) (iota .tc S256x256 32 [1] iota_S256x256_d1_w32) (bodyRun.sl.v54 arg7 harg7 x5) (chk i _) (bodyRun.sl.v66 i arg7 harg7 x5)
    ((k0_pay45, k0_pay46, k0_pay47), enter i y9, enter i y10) (harg9.unread (enter i y9)) (harg10.unread (enter i y10)) (harg9.read_unread _) (harg10.read_unread _) _ le_rfl
  have hS : bodyFn i x0 x1 x2 x3 x4 x5 y9 y10 = lastFn x0 x1 x2 x3 x4 (ownBlk i)
      (tripsFn x0 x1 x2 x3 x4 (start i (bodyRun.sl.v54 arg7 harg7 x5)) ((k0_pay45, k0_pay46, k0_pay47), enter i y9, enter i y10) (k0_t1_loop i (bodyRun.sl.v54 arg7 harg7 x5)).trips) := by
    rw [trips1, e7]; rfl
  rw [hS]
  unfold bodyRun
  dsimp only
  dsimp only [bodyRun.sl.r_12, bodyRun.sl.r_13,bodyRun.sl.r_11,bodyRun.sl.r_10,bodyRun.sl.r_9,bodyRun.sl.r_8,bodyRun.sl.r_7,bodyRun.sl.r_6,bodyRun.sl.r_5,bodyRun.sl.r_4,bodyRun.sl.r_3,bodyRun.sl.r_2,bodyRun.sl.r_1,bodyRun.sl.r]
  simp only [e3, e4, e6, bodyRun.sl.v146, bodyRun.sl.v155, e9, e10]
  dsimp only [k0_t1_loop, Scf.Loop.trips] at kc k9 k10 ⊢
  generalize Scf.trips _ _ _ = n at kc k9 k10 ⊢
  generalize st_k0_t1 (F := F) Variants.none c none i arg2 harg2 arg3 harg3 arg4 harg4 arg5 harg5 arg6 harg6 arg7 harg7 arg8 harg8 arg9 harg9 arg10 harg10 _ _ _ _ _ _ _ _ _ _ _ _ _ _ _ _ _ n = st at kc k9 k10 ⊢
  generalize tripsFn x0 x1 x2 x3 x4 _ _ n = P at kc k9 k10 ⊢
  obtain ⟨s1, L9, L10⟩ := st
  obtain ⟨p1, p9, p10⟩ := P
  dsimp only at kc k9 k10 ⊢
  subst kc k9 k10
  refine ⟨View.read_writes_full _ _ _ _ _, ?_, ?_⟩
  · exact setRows_read arg9.view _ _ _ _ _ (off3_blk i)
  · exact setRows_read arg10.view _ _ _ _ _ (off3_blk i)

/-- The body at any grid point, by values: it reads its six inputs, stores the query block's gradient, and leaves the two accumulated
outputs as `bodyFn` says. -/
theorem body_triple (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare y10) : sProp 𝕄)
      ⊢ wp frame (wpE (defs₀ (F := F)) Variants.none (c : Thread nD τ) none) E (cc0_sb_bwd (F := F) i arg2 harg2 arg3 harg3 arg4 harg4 arg5 harg5 arg6 harg6 arg7 harg7 arg8 harg8 arg9 harg9 arg10 harg10)
          (fun _ => (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (bodyFn i x0 x1 x2 x3 x4 x5 y9 y10).1 ∗ owns (c : Thread nD τ) arg9 fullShare (bodyFn i x0 x1 x2 x3 x4 x5 y9 y10).2.1 ∗ owns (c : Thread nD τ) arg10 fullShare (bodyFn i x0 x1 x2 x3 x4 x5 y9 y10).2.2) : sProp 𝕄)) := by
  obtain ⟨r8, r9, r10⟩ := body_eq c i arg2 harg2 arg3 harg3 arg4 harg4 arg5 harg5 arg6 harg6 arg7 harg7 arg8 harg8 arg9 harg9 arg10 harg10 x0 x1 x2 x3 x4 x5 y8 y9 y10
  iintro ⟨H2, H3, H4, H5, H6, H7, H8, H9, H10⟩
  ihave H2 := (owns_to (c : Thread nD τ) arg2 harg2 x0) $$ [H2]
  · iexact H2
  ihave H3 := (owns_to (c : Thread nD τ) arg3 harg3 x1) $$ [H3]
  · iexact H3
  ihave H4 := (owns_to (c : Thread nD τ) arg4 harg4 x2) $$ [H4]
  · iexact H4
  ihave H5 := (owns_to (c : Thread nD τ) arg5 harg5 x3) $$ [H5]
  · iexact H5
  ihave H6 := (owns_to (c : Thread nD τ) arg6 harg6 x4) $$ [H6]
  · iexact H6
  ihave H7 := (owns_to (c : Thread nD τ) arg7 harg7 x5) $$ [H7]
  · iexact H7
  ihave H8 := (owns_to (c : Thread nD τ) arg8 harg8 y8) $$ [H8]
  · iexact H8
  ihave H9 := (owns_to (c : Thread nD τ) arg9 harg9 y9) $$ [H9]
  · iexact H9
  ihave H10 := (owns_to (c : Thread nD τ) arg10 harg10 y10) $$ [H10]
  · iexact H10
  iapply (wp_wand_r Idealize.ShloMosaic.frame (wpE (defs₀ (F := F)) Variants.none (c : Thread nD τ) none) E)
  isplitl [H2 H3 H4 H5 H6 H7 H8 H9 H10]
  · iapply ((bodyRun c i arg2 harg2 arg3 harg3 arg4 harg4 arg5 harg5 arg6 harg6 arg7 harg7 arg8 harg8 arg9 harg9 arg10 harg10 x0 x1 x2 x3 x4 x5 y9 y10).2.2.2 E y8)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %r ⟨H2, H3, H4, H5, H6, H7, H8, H9, H10⟩
  isplitl [H2]; · iapply (owns_of (c : Thread nD τ) arg2 _ x0 (harg2.read_unread _)); iexact H2
  isplitl [H3]; · iapply (owns_of (c : Thread nD τ) arg3 _ x1 (harg3.read_unread _)); iexact H3
  isplitl [H4]; · iapply (owns_of (c : Thread nD τ) arg4 _ x2 (harg4.read_unread _)); iexact H4
  isplitl [H5]; · iapply (owns_of (c : Thread nD τ) arg5 _ x3 (harg5.read_unread _)); iexact H5
  isplitl [H6]; · iapply (owns_of (c : Thread nD τ) arg6 _ x4 (harg6.read_unread _)); iexact H6
  isplitl [H7]; · iapply (owns_of (c : Thread nD τ) arg7 _ x5 (harg7.read_unread _)); iexact H7
  isplitl [H8]; · iapply (owns_of (c : Thread nD τ) arg8 _ _ r8); iexact H8
  isplitl [H9]; · iapply (owns_of (c : Thread nD τ) arg9 _ _ r9); iexact H9
  iapply (owns_of (c : Thread nD τ) arg10 _ _ r10); iexact H10

end

end Cert.KernelStickIdeal.Gen

end
-- ==== Proof.Stick.Frame.lean ====
module

public import proofs.«01_k».proof.Proof.Stick.Body
public import proofs.«01_k».proof.Proof.Gen.KernelStickIdeal.Frame
public import Idealize.ShloMosaic.Lib.Claim

/-!
The whole run of the stick-breaking backward kernel, over any float values: what its outputs' blocks hold after each grid point,
the body obligation at a symbolic point, and the run of the program with its frame.
-/

@[expose] public section

set_option maxRecDepth 16384

noncomputable section

namespace Cert.KernelStickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
open Cert.KernelStickIdeal.Value

/-- The second grid coordinate of point `t` is its place in its group of 32. -/
theorem coord1 : ∀ t : Fin cfg0.N, (grid0.coords t 1).val = t.val % 32 :=
  (by decide +kernel : ∀ t : Fin grid0.N, (grid0.coords t 1).val = t.val % 32)

theorem whole_0 (t : Fin cfg0.N) : (st0_0 t).IsWhole := hstage0_0 ((cfg0.slots t 0).cast nbuf0_0)
theorem whole_1 (t : Fin cfg0.N) : (st0_1 t).IsWhole := hstage0_1 ((cfg0.slots t 1).cast nbuf0_1)
theorem whole_2 (t : Fin cfg0.N) : (st0_2 t).IsWhole := hstage0_2 ((cfg0.slots t 2).cast nbuf0_2)
theorem whole_3 (t : Fin cfg0.N) : (st0_3 t).IsWhole := hstage0_3 ((cfg0.slots t 3).cast nbuf0_3)
theorem whole_4 (t : Fin cfg0.N) : (st0_4 t).IsWhole := hstage0_4 ((cfg0.slots t 4).cast nbuf0_4)
theorem whole_5 (t : Fin cfg0.N) : (st0_5 t).IsWhole := hstage0_5 ((cfg0.slots t 5).cast nbuf0_5)
theorem whole_6 (t : Fin cfg0.N) : (st0_6 t).IsWhole := hstage0_6 ((cfg0.slots t 6).cast nbuf0_6)
theorem whole_7 (t : Fin cfg0.N) : (st0_7 t).IsWhole := hstage0_7 ((cfg0.slots t 7).cast nbuf0_7)
theorem whole_8 (t : Fin cfg0.N) : (st0_8 t).IsWhole := hstage0_8 ((cfg0.slots t 8).cast nbuf0_8)

/-- What the outputs' buffers hold after point `n`: the body's function of the point's blocks, over what the point before left. -/
def outsAt (c : Dev nD) : (n : ℕ) → n < cfg0.N → Vec F S256x128 .f32 × Vec F S8192x128 .f32 × Vec F S8192x128 .f32
  | 0, hn => bodyFn (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (k0_pay32 (F := F)) (k0_pay33 (F := F))
  | n + 1, hn => bodyFn (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
      (outsAt c n (Nat.lt_of_succ_lt hn)).2.1 (outsAt c n (Nat.lt_of_succ_lt hn)).2.2

/-- At the first point of a group the accumulated outputs are cleared: what they held before does not matter. -/
theorem bodyFn_first (i : grid0.Coords) (hi : (i 1).val = 0) (x0 : Vec F S256x128 .f32) (x1 x2 : Vec F S8192x128 .f32) (x3 x4 : Vec F S256x128 .f32) (x5 : Vec F S1x1x8x128 .f32)
    (y9 y10 z9 z10 : Vec F S8192x128 .f32) : bodyFn i x0 x1 x2 x3 x4 x5 y9 y10 = bodyFn i x0 x1 x2 x3 x4 x5 z9 z10 := by
  have e : ∀ y z : Vec F S8192x128 .f32, enter i y = enter i z := fun y z => (if_pos hi).trans (if_pos hi).symm
  unfold bodyFn; rw [e y9 z9, e y10 z10]

theorem outsAt_first (c : Dev nD) (t : Fin cfg0.N) (h : t.val % 32 = 0) (y9 y10 : Vec F S8192x128 .f32) :
    outsAt m c t.val t.isLt = bodyFn (grid0.coords t) (iblk m c 0 t) (iblk m c 1 t) (iblk m c 2 t) (iblk m c 3 t) (iblk m c 4 t) (iblk m c 5 t) y9 y10 := by
  have hi : (grid0.coords t 1).val = 0 := (coord1 t).trans h
  obtain ⟨n, hn⟩ := t
  cases n with
  | zero => exact bodyFn_first _ hi _ _ _ _ _ _ _ _ _ _
  | succ n => exact bodyFn_first _ hi _ _ _ _ _ _ _ _ _ _

theorem outsAt_next (c : Dev nD) (t : Fin cfg0.N) (h : ¬t.val % 32 = 0) :
    outsAt m c t.val t.isLt = bodyFn (grid0.coords t) (iblk m c 0 t) (iblk m c 1 t) (iblk m c 2 t) (iblk m c 3 t) (iblk m c 4 t) (iblk m c 5 t)
      (outsAt m c (t.val - 1) (Nat.lt_of_le_of_lt (Nat.sub_le _ _) t.isLt)).2.1 (outsAt m c (t.val - 1) (Nat.lt_of_le_of_lt (Nat.sub_le _ _) t.isLt)).2.2 := by
  obtain ⟨n, hn⟩ := t
  cases n with
  | zero => exact absurd (Nat.zero_mod _) h
  | succ n => rfl

/-- The run's data: the arrays as the region finds them, the inputs' buffers at their blocks, the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt m c t.val t.isLt).1 := by dsimp only [dats]
theorem after0_7 (c : Dev nD) (t : Fin cfg0.N) : (dats m 0 c).after 7 t = (outsAt m c t.val t.isLt).2.1 := by dsimp only [dats]
theorem after0_8 (c : Dev nD) (t : Fin cfg0.N) : (dats m 0 c).after 8 t = (outsAt m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Inside a group the accumulated outputs' buffers hold what the point before left. -/
theorem before0_7 (c : Dev nD) (t : Fin cfg0.N) (h : ¬t.val % 32 = 0) (d) :
    (dats m 0 c).before 7 t d = (outsAt m c (t.val - 1) (Nat.lt_of_le_of_lt (Nat.sub_le _ _) t.isLt)).2.1 := by
  rw [Dat.before_out_kept _ 7 rfl t (by omega) (Bool.eq_false_iff.mpr fun h => by have := (flush0_7 _).mp h; dsimp only at this; omega)
    (fun _ => rfl) (fun _ _ => rfl)]
  dsimp only [dats]
theorem before0_8 (c : Dev nD) (t : Fin cfg0.N) (h : ¬t.val % 32 = 0) (d) :
    (dats m 0 c).before 8 t d = (outsAt m c (t.val - 1) (Nat.lt_of_le_of_lt (Nat.sub_le _ _) t.isLt)).2.2 := by
  rw [Dat.before_out_kept _ 8 rfl t (by omega) (Bool.eq_false_iff.mpr fun h => by have := (flush0_8 _).mp h; dsimp only at this; omega)
    (fun _ => rfl) (fun _ _ => rfl)]
  dsimp only [dats]

/-- So at every point the body's function of what the buffers hold is what the data say. -/
theorem outs_step (c : Dev nD) (t : Fin cfg0.N) (d7 d8) :
    bodyFn (grid0.coords t) (iblk m c 0 t) (iblk m c 1 t) (iblk m c 2 t) (iblk m c 3 t) (iblk m c 4 t) (iblk m c 5 t) ((dats m 0 c).before 7 t d7) ((dats m 0 c).before 8 t d8) = outsAt m c t.val t.isLt := by
  by_cases h : t.val % 32 = 0
  · exact (outsAt_first m c t h _ _).symm
  · rw [before0_7 m c t h, before0_8 m c t h]; exact (outsAt_next m c t h).symm

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← outs_step m c t d7 d8]
  iapply (wp_wand_r Idealize.ShloMosaic.frame (wpE (defs₀ (F := F)) Variants.none (c : Thread nD τ) none) Set.univ)
  isplitl [H0 H1 H2 H3 H4 H5 H6 H7 H8]
  · iapply (body_triple c (grid0.coords t) _ (whole_0 t) _ (whole_1 t) _ (whole_2 t) _ (whole_3 t) _ (whole_4 t) _ (whole_5 t) _ (whole_6 t) _ (whole_7 t) _ (whole_8 t) (iblk m c 0 t) (iblk m c 1 t) (iblk m c 2 t) (iblk m c 3 t) (iblk m c 4 t) (iblk m c 5 t) _ _ _ Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %r ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every execution ends, with each array of the pipeline at what the data say and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.KernelStickIdeal.Gen

end
-- ==== Proof.Concat.lean ====
module

public import Idealize.ShloMosaic.PureOps.ShapeOps

/-!
A concatenation of any number of pieces, read inside one piece.
-/

@[expose] public section

namespace Cert.Reals

open Idealize.ShloMosaic

/-- The position `r` of piece `k` is found there. -/
theorem locate_at : ∀ (ns : List Nat) (c : Nat) (h : c < ns.sum) (k r : Nat) (hk : k < ns.length), c = (ns.take k).sum + r → r < ns[k] →
    (locate ns c h).1.val = k ∧ (locate ns c h).2.val = r
  | [], _, h, _, _, _, _, _ => absurd h (Nat.not_lt_zero _)
  | n :: ns, c, h, 0, r, _, hc, hr => by
    have e : c = r := by simpa using hc
    subst e
    have hlt : c < n := hr
    rw [locate, dif_pos hlt]; exact ⟨rfl, rfl⟩
  | n :: ns, c, h, k + 1, r, hk, hc, hr => by
    rw [List.take_succ_cons, List.sum_cons] at hc
    have hge : ¬c < n := by omega
    have ih := locate_at ns (c - n) (by rw [List.sum_cons] at h; omega) k r (Nat.lt_of_succ_lt_succ hk) (by omega) hr
    rw [locate, dif_neg hge]
    exact ⟨by show (locate ns (c - n) _).1.val + 1 = k + 1; rw [ih.1], ih.2⟩

variable {α : Type}

/-- The extents of the pieces along an axis. -/
def extents (t : Shape) (a : Fin t.rank) (xs : List ((s : Shape) × (s.Idx → α))) : List Nat :=
  (xs.map (·.1)).map fun s => if h : s.rank = t.rank then s.size (a.cast h.symm) else 0

/-- Inside piece `k`, the concatenation is the piece. -/
theorem concat_at {t : Shape} (a : Fin t.rank) (xs : List ((s : Shape) × (s.Idx → α))) (h : Shape.Concatenates (xs.map (·.1)) t a) (j : t.Idx)
    (k : Nat) (hk : k < xs.length) (s : Shape) (x : s.Idx → α) (hx : xs[k] = ⟨s, x⟩) (hr : s.rank = t.rank) (i : s.Idx)
    (hi : ∀ b : Fin s.rank, (j (b.cast hr)).val = (i b).val + if b.cast hr = a then ((extents t a xs).take k).sum else 0) :
    concatenate t a xs h j = x i := by
  have hke : k < (extents t a xs).length := by simpa [extents] using hk
  have hext : (extents t a xs)[k] = s.size (a.cast hr.symm) := by simp [extents, hx, hr]
  have hc := hi (a.cast hr.symm)
  rw [if_pos (by simp)] at hc
  have hlt := (i (a.cast hr.symm)).isLt
  unfold concatenate
  have hl := locate_at (extents t a xs) (j a).val (by have := h.2.2; unfold extents; rw [this]; exact (j a).isLt) k (i (a.cast hr.symm)).val hke
    (by simp at hc; omega) (by rw [hext]; exact hlt)
  dsimp only
  have key : ∀ (p : (s : Shape) × (s.Idx → α)) (e : p = ⟨s, x⟩) (g : p.1.Idx) (hg : ∀ b : Fin s.rank, (g (b.cast (by rw [e]))).val = (i b).val), p.2 g = x i := by
    intro p e; subst e; intro g hg; exact congrArg x (funext fun b => Fin.ext (hg b))
  have at_k : ∀ (n : Nat) (hn : n < xs.length), n = k → xs[n] = ⟨s, x⟩ := fun n hn e => by subst e; exact hx
  refine key _ (at_k _ _ hl.1) _ fun b => ?_
  split
  · next hb =>
    refine (show _ = _ from hl.2).trans ?_
    have : b = a.cast hr.symm := Fin.ext (show b.val = a.val from Fin.ext_iff.mp hb)
    rw [this]
  · next hb =>
    have := hi b
    rw [if_neg (fun e => hb (Fin.ext (show b.val = a.val from Fin.ext_iff.mp e)))] at this
    exact this

end Cert.Reals
-- ==== Proof.Stick.Host.lean ====
module

public import proofs.«01_k».proof.Proof.Stick.RefVal
public import proofs.«01_k».proof.Proof.Stick.Frame
public import proofs.«01_k».proof.Proof.Concat
public import Idealize.ShloMosaic.Lib.StableHlo.RunRead

/-!
What the host lines before the kernel leave in the arrays that it reads.
-/

@[expose] public section

set_option maxRecDepth 16384

noncomputable section

namespace Cert.KernelStickIdeal.Value

open Cert.KernelStickIdeal Cert.KernelStickIdeal.Gen Cert.Reals Idealize.ShloMosaic Idealize.ShloMosaic.TcCoe Idealize.SL.Sem
open Cert.ReferenceStickIdeal.Read (val_main_v20_0)

variable (m : (ℓ : Loc nD τ sig) → Buf (Elt Ideal) ℓ) (c : Dev nD)

/-- The masked logs of the sticks that are left, in the host's lines. -/
def leftM : Vec Ideal S4x8192x8192 .f32 := val_main_v20_0 (F := Ideal) (m ((c : Thread nD τ).loc main_arg0))

set_option maxHeartbeats 2000000 in
theorem V_ltot : V m c main_v22 = shapeCast S8192x256 (broadcastInDim S8192x4x64 ![0, 1, 2] bcast_S8192x4x1_S8192x4x64_0_1_2 (broadcastInDim S8192x4x1 ![0, 1] bcast_S8192x4_S8192x4x1_0_1
    (transpose S8192x4 [1, 0] (Host.reduceAdd (leftM m c) (constant (F := Ideal) S_ .f32 0x00000000#32) reducesTo_S4x8192x8192_S4x8192_d2 h_S_) transposes_S4x8192_S8192x4_1_0))) shapeCasts_S8192x4x64_S8192x256 := by
  unfold V
  simp only [List.flatten_cons, List.flatten_nil, List.append_nil, List.cons_append, List.nil_append]
  after_reads_simp
  rfl

theorem V_stop : V m c main_v23 = fun _ => Ideal.ofBits .f32 0xBF800000#32 := by
  unfold V
  simp only [List.flatten_cons, List.flatten_nil, List.append_nil, List.cons_append, List.nil_append]
  after_reads_simp
  rfl

/-- The first 768 columns of the packed array are the projection's own. -/
theorem V_qkv (j : S8192x3072.Idx) (h : (j 1).val < 768) : V m c main_v28 j = m ((c : Thread nD τ).loc main_arg0) (ValueIdx.ix2 (j 0) ⟨(j 1).val, by omega⟩) := by
  unfold V
  simp only [List.flatten_cons, List.flatten_nil, List.append_nil, List.cons_append, List.nil_append]
  after_reads_simp
  refine (concat_at 1 _ _ j 0 (by simp) S8192x2304
    (StableHlo.upto (List.flatten [hostOps0, hostOps0_1, hostOps0_2, hostOps0_3, hostOps0_4]) (fun b => m (c, b)) 51 (Proc.devRef .tc main_v25)) rfl rfl (ValueIdx.ix2 (j 0) ⟨(j 1).val, by omega⟩) (fun b => match b with | ⟨0, _⟩ => rfl | ⟨1, _⟩ => rfl)).trans ?_
  simp only [List.flatten_cons, List.flatten_nil, List.append_nil, List.cons_append, List.nil_append]
  after_reads_simp
  refine extractStridedSlice_apply ![0, 0] (m (c, Proc.devRef .tc main_arg0)) slices_S8192x2824_S8192x2304_0_0 _ _ (fun a => match a with | ⟨0, _⟩ => ?_ | ⟨1, _⟩ => ?_)
  · exact (Nat.zero_add _).symm
  · exact (Nat.zero_add _).symm

end Cert.KernelStickIdeal.Value

end
-- ==== Proof.Stick.Pay.lean ====
module

public import proofs.«01_k».proof.Proof.Reals
public import proofs.«01_k».proof.Proof.Stick.Row
public import proofs.«01_k».proof.Proof.Stick.Frame
public import Idealize.ShloMosaic.Lib.Pipeline.ValueKit

/-!
What each of the kernel's values is over the reals, when what it is made of is real.
-/

@[expose] public section

set_option maxRecDepth 16384

noncomputable section

namespace Cert.KernelStickIdeal.Value

open Cert.KernelStickIdeal Cert.KernelStickIdeal.Gen Cert.Reals Idealize.ShloMosaic Idealize.ShloMosaic.TcCoe Idealize.SL.Sem
open Idealize.ShloMosaic.Pipeline (Dat)
open Idealize.ShloMosaic.WordCmp (cmpi_slt_ofNat cmpi_sle_ofNat cmpi_sge_ofNat)

/-- A block of reals, by the numbers of its row and its column. -/
def encA (f : ℕ → ℕ → ℝ) : S256x128.Idx → EReal := fun j => ((f (j 0).val (j 1).val : ℝ) : EReal)
def encF (f : ℕ → ℕ → ℝ) : S8192x128.Idx → EReal := fun j => ((f (j 0).val (j 1).val : ℝ) : EReal)
def encS (f : ℕ → ℕ → ℝ) : S512x256.Idx → EReal := fun j => ((f (j 0).val (j 1).val : ℝ) : EReal)
def encQ (f : ℕ → ℕ → ℝ) : S512x128.Idx → EReal := fun j => ((f (j 0).val (j 1).val : ℝ) : EReal)
def encT (f : ℕ → ℕ → ℝ) : S256x256.Idx → EReal := fun j => ((f (j 0).val (j 1).val : ℝ) : EReal)
def encV (f : ℕ → ℝ) : S512x1.Idx → EReal := fun j => ((f (j 0).val : ℝ) : EReal)

theorem encA_at (f) (a : Fin 256) (b : Fin 128) : encA f (ix2 a b) = ((f a.val b.val : ℝ) : EReal) := rfl
theorem encF_at (f) (a : Fin 8192) (b : Fin 128) : encF f (ix2 a b) = ((f a.val b.val : ℝ) : EReal) := rfl
theorem encS_at (f) (a : Fin 512) (b : Fin 256) : encS f (ix2 a b) = ((f a.val b.val : ℝ) : EReal) := rfl
theorem encQ_at (f) (a : Fin 512) (b : Fin 128) : encQ f (ix2 a b) = ((f a.val b.val : ℝ) : EReal) := rfl
theorem encT_at (f) (a : Fin 256) (b : Fin 256) : encT f (ix2 a b) = ((f a.val b.val : ℝ) : EReal) := rfl
theorem encV_at (f) (a : Fin 512) (b : Fin 1) : encV f (ix2 a b) = ((f a.val : ℝ) : EReal) := rfl

/-! ### The masked queries, the masked gradient of the output, the triangles -/

/-- Two heads of a block, one above the other: head `r / 256` keeps its own 64 lanes. -/
def two (x : ℕ → ℕ → ℝ) (r l : ℕ) : ℝ := if l / 64 = r / 256 then x (r % 256) l else 0

theorem halves {a b : ℝ} {r l : ℕ} (hr : r < 512) (hl : l < 128) :
    (if r < 256 then (if l < 64 then a else 0) else (if 64 ≤ l then b else 0)) = if l / 64 = r / 256 then (if r < 256 then a else b) else (0 : ℝ) := by
  by_cases h : r < 256 <;> by_cases h' : l < 64
  · rw [if_pos h, if_pos h', if_pos (by omega), if_pos h]
  · rw [if_pos h, if_neg h', if_neg (by omega)]
  · rw [if_neg h, if_neg (by omega), if_neg (by omega)]
  · rw [if_neg h, if_pos (by omega), if_pos (by omega), if_neg h]

theorem two_eq (x : ℕ → ℕ → ℝ) {r l : ℕ} (hr : r < 512) (hl : l < 128) :
    (if r < 256 then (if l < 64 then x r l else 0) else (if 64 ≤ l then x (r - 256) l else 0)) = two x r l := by
  rw [halves hr hl]; unfold two
  by_cases h : r < 256
  · rw [if_pos h, Nat.mod_eq_of_lt h]
  · rw [if_neg h, show r % 256 = r - 256 by omega]

theorem pay40_enc (q : ℕ → ℕ → ℝ) : k0_pay40 (F := Ideal) (encA q) = encQ (two fun a l => q a l * (1 / 8)) := by
  funext j; idx_vars j
  unfold k0_pay40 k0_pay34 k0_pay35
  pointwise
  have h0 := j0.isLt; have h1 := j1.isLt
  rw [encQ_at, ← two_eq _ h0 h1, cmpi_slt_ofNat (by omega) (by omega), cmpi_sge_ofNat (by omega) (by omega)]
  simp only [select_decide, encA_at, eighth, ← EReal.coe_mul, ← EReal.coe_zero, coe_ite, dite_eq_ite]

theorem pay41_enc (q : ℕ → ℕ → ℝ) : k0_pay41 (F := Ideal) (k0_pay36 (encA q)) (k0_pay37 (encA q)) = encQ (two q) := by
  funext j; idx_vars j
  unfold k0_pay41 k0_pay36 k0_pay37 k0_pay34 k0_pay35
  pointwise
  have h0 := j0.isLt; have h1 := j1.isLt
  rw [encQ_at, ← two_eq _ h0 h1, cmpi_slt_ofNat (by omega) (by omega), cmpi_sge_ofNat (by omega) (by omega)]
  simp only [select_decide, encA_at, ← EReal.coe_zero, coe_ite, dite_eq_ite]

theorem pay38_enc : k0_pay38 (F := Ideal) = encT (fun r c => if r ≤ c then 1 else 0) := by
  funext j; idx_vars j
  unfold k0_pay38
  pointwise
  rw [cmpi_sle_ofNat (by omega) (by omega), sitofp_bool]; rfl

theorem pay39_enc : k0_pay39 (F := Ideal) = encT (fun r c => if r < c then 1 else 0) := by
  funext j; idx_vars j
  unfold k0_pay39
  pointwise
  rw [cmpi_slt_ofNat (by omega) (by omega), sitofp_bool]; rfl

theorem pay44_enc (x : ℕ → ℕ → ℝ) : k0_pay44 (F := Ideal) (encA x) = encV (fun r => x (r % 256) (64 * (r / 256))) := by
  funext j; idx_vars j
  unfold k0_pay44
  pointwise
  have h0 := j0.isLt
  show _ = ((x (j0.val % 256) (64 * (j0.val / 256)) : ℝ) : EReal)
  by_cases h : j0.val < 256
  · rw [dif_pos h, Nat.mod_eq_of_lt h, Nat.div_eq_of_lt h]; rfl
  · rw [dif_neg h, show j0.val % 256 = j0.val - 256 by omega, show j0.val / 256 = 1 by omega]; rfl

/-! ### One step of the loop -/

theorem pay2_enc (q k : ℕ → ℕ → ℝ) : k0_pay2 (F := Ideal) (encQ q) (encA k) = encS (fun r c => ∑ l ∈ Finset.range 128, q r l * k c l) := by
  funext j; idx_vars j
  unfold k0_pay2
  pointwise
  simp only [encQ_at, encA_at, ← EReal.coe_mul]
  exact sum_coe 128 fun l => q j0.val l * k j1.val l

theorem pay3_enc (q k : ℕ → ℕ → ℝ) : k0_pay3 (F := Ideal) (encQ q) (encA k) = encS (fun r c => ∑ l ∈ Finset.range 128, q r l * k c l) := pay2_enc q k

theorem keep_coe (z : ℝ) : (0 : EReal) - (max (z : EReal) 0 + Ideal.log (1 + Ideal.exp (0 - FloatOps.absf (F := Ideal) (φ := .f32) (z : EReal)))) = ((Stick.keep z : ℝ) : EReal) := by
  rw [absf_coe, ← EReal.coe_zero, ← EReal.coe_one, ← EReal.coe_sub, Ideal.exp_coe, ← EReal.coe_add, log_pos_coe (Stick.one_add_exp_pos _), max_coe, ← EReal.coe_add, ← EReal.coe_sub]
  unfold Stick.keep; rw [zero_sub, zero_sub]

theorem pay5_enc {q k : ℕ → ℕ → ℝ} {z : ℕ → ℕ → ℝ} (h : k0_pay2 (F := Ideal) (encQ q) (encA k) = encS z) :
    k0_pay5 (F := Ideal) (encQ q) (encA k) = encS (fun r c => Stick.keep (z r c)) := by
  funext j; idx_vars j
  unfold k0_pay5 k0_pay4
  rw [h]
  pointwise
  exact keep_coe _

theorem brk_coe (z : ℝ) : Ideal.div (if (0 : EReal) ≤ (z : EReal) then 1 else Ideal.exp (0 - FloatOps.absf (F := Ideal) (φ := .f32) (z : EReal)))
    (1 + Ideal.exp (0 - FloatOps.absf (F := Ideal) (φ := .f32) (z : EReal))) = ((Stick.brk z : ℝ) : EReal) := by
  rw [absf_coe, ← EReal.coe_zero, ← EReal.coe_one, ← EReal.coe_sub, Ideal.exp_coe, ← EReal.coe_add, coe_ite, div_coe_coe (Stick.one_add_exp_pos _).ne']
  unfold Stick.brk; simp only [EReal.coe_le_coe_iff, zero_sub]

theorem pay6_enc {q k : ℕ → ℕ → ℝ} {z : ℕ → ℕ → ℝ} (h : k0_pay2 (F := Ideal) (encQ q) (encA k) = encS z) :
    k0_pay6 (F := Ideal) (encQ q) (encA k) = encS (fun r c => Stick.brk (z r c)) := by
  funext j; idx_vars j
  unfold k0_pay6 k0_pay4
  rw [h]
  pointwise
  exact brk_coe _

theorem pay8_enc {q k : ℕ → ℕ → ℝ} {z : ℕ → ℕ → ℝ} (h : k0_pay2 (F := Ideal) (encQ q) (encA k) = encS z) :
    k0_pay8 (F := Ideal) (encQ q) (encA k) = encS (fun r c => z r c + Stick.keep (z r c)) := by
  unfold k0_pay8
  rw [pay5_enc h, h]
  rfl

/-- A matrix of reals times a triangle of ones, the reals split into a rounded part and the rest. -/
theorem ones_dot (x u : ℕ → ℕ → ℝ) (r : Fin 512) (c : Fin 256) (g : ℕ → ℝ) :
    (∑ y : Fin 256, encS x (ix2 r y) * encT u (ix2 y c)) + (∑ y : Fin 256, (encS x (ix2 r y) - encS x (ix2 r y)) * encT u (ix2 y c)) + encV g (ix2 r 0)
      = (((∑ y ∈ Finset.range 256, x r.val y * u y c.val) + g r.val : ℝ) : EReal) := by
  simp only [encS_at, encT_at, encV_at, ← EReal.coe_sub, sub_self, ← EReal.coe_mul, zero_mul]
  rw [sum_coe 256 fun y => x r.val y * u y c.val]
  simp [EReal.coe_add]

theorem pay7_enc {q k : ℕ → ℕ → ℝ} (l : ℕ → ℝ) {z : ℕ → ℕ → ℝ} (u : ℕ → ℕ → ℝ) (h : k0_pay5 (F := Ideal) (encQ q) (encA k) = encS z) :
    k0_pay7 (F := Ideal) (encT u) (encQ q) (encV l) (encA k) = encS (fun r c => (∑ x ∈ Finset.range 256, z r x * u x c) + l r) := by
  funext j; idx_vars j
  unfold k0_pay7
  rw [h]
  pointwise
  exact ones_dot _ _ _ _ _

theorem pay9_enc (l : ℕ → ℝ) : k0_pay9 (F := Ideal) (encV l) = encS (fun r c => l r) := by
  funext j; idx_vars j
  unfold k0_pay9
  pointwise
  rfl

theorem pay10_enc (p zl lt : ℕ → ℕ → ℝ) : k0_pay10 (F := Ideal) (encS p) (encS zl) (encS lt) = encS (fun r c => Real.exp (zl r c + (lt r c - p r c))) := rfl

theorem pay11_enc (da p zl lt : ℕ → ℕ → ℝ) : k0_pay11 (F := Ideal) (encS da) (encS p) (encS zl) (encS lt) = encS (fun r c => Real.exp (zl r c + (lt r c - p r c)) * da r c) := by
  unfold k0_pay11; rw [pay10_enc]
  funext j; exact (EReal.coe_mul _ _).symm

theorem pay12_enc (u : ℕ → ℕ → ℝ) (gr : ℕ → ℝ) (da be p zl lt g : ℕ → ℕ → ℝ) (h : k0_pay11 (F := Ideal) (encS da) (encS p) (encS zl) (encS lt) = encS g) :
    k0_pay12 (F := Ideal) (encT u) (encV gr) (encS da) (encS be) (encS p) (encS zl) (encS lt)
      = encS (fun r c => g r c * (1 - be r c) - be r c * ((∑ x ∈ Finset.range 256, g r x * u x c) + gr r)) := by
  funext j; idx_vars j
  unfold k0_pay12
  rw [h]
  pointwise
  rw [ones_dot]
  simp only [encS_at, ← EReal.coe_one, ← EReal.coe_sub, ← EReal.coe_mul]

theorem acc_dot (x : ℕ → ℕ → ℝ) (y : ℕ → ℕ → ℝ) (a : ℕ → ℕ → ℝ) (s : Fin 256) (l : Fin 128) :
    encA a (ix2 s l) + (∑ r : Fin 512, encS x (ix2 r s) * encQ y (ix2 r l)) = ((a s.val l.val + ∑ r ∈ Finset.range 512, x r s.val * y r l.val : ℝ) : EReal) := by
  simp only [encS_at, encQ_at, encA_at, ← EReal.coe_mul]
  rw [sum_coe 512 fun r => x r s.val * y r l.val, ← EReal.coe_add]

theorem pay13_enc (u q : ℕ → ℕ → ℝ) (gr : ℕ → ℝ) (da be p zl lt g a : ℕ → ℕ → ℝ) (h : k0_pay12 (F := Ideal) (encT u) (encV gr) (encS da) (encS be) (encS p) (encS zl) (encS lt) = encS g) :
    k0_pay13 (F := Ideal) (encT u) (encQ q) (encV gr) (encS da) (encS be) (encS p) (encS zl) (encS lt) (encA a) = encA (fun s l => a s l + ∑ r ∈ Finset.range 512, g r s * q r l) := by
  funext j; idx_vars j
  unfold k0_pay13
  rw [h]
  pointwise
  exact acc_dot _ _ _ _ _

theorem pay14_enc (q p zl lt a : ℕ → ℕ → ℝ) :
    k0_pay14 (F := Ideal) (encQ q) (encS p) (encS zl) (encS lt) (encA a) = encA (fun s l => a s l + ∑ r ∈ Finset.range 512, Real.exp (zl r s + (lt r s - p r s)) * q r l) := by
  funext j; idx_vars j
  unfold k0_pay14
  rw [pay10_enc]
  pointwise
  exact acc_dot _ _ _ _ _

theorem row_sum (g : ℕ → ℝ) (x : ℕ → ℕ → ℝ) (r : Fin 512) : encV g (ix2 r 0) + (∑ y : Fin 256, encS x (ix2 r y)) = ((g r.val + ∑ y ∈ Finset.range 256, x r.val y : ℝ) : EReal) := by
  simp only [encS_at, encV_at]
  rw [sum_coe 256 fun y => x r.val y, ← EReal.coe_add]

theorem pay15_enc (g : ℕ → ℝ) (x : ℕ → ℕ → ℝ) : k0_pay15 (F := Ideal) (encV g) (encS x) = encV (fun r => g r + ∑ y ∈ Finset.range 256, x r y) := by
  funext j; idx_vars j
  unfold k0_pay15
  pointwise
  exact row_sum _ _ _

theorem pay16_enc (gr : ℕ → ℝ) (da p zl lt g : ℕ → ℕ → ℝ) (h : k0_pay11 (F := Ideal) (encS da) (encS p) (encS zl) (encS lt) = encS g) :
    k0_pay16 (F := Ideal) (encV gr) (encS da) (encS p) (encS zl) (encS lt) = encV (fun r => gr r + ∑ y ∈ Finset.range 256, g r y) := by
  funext j; idx_vars j
  unfold k0_pay16
  rw [h]
  pointwise
  exact row_sum _ _ _

theorem dq_dot (a x k : ℕ → ℕ → ℝ) (r : Fin 512) (l : Fin 128) :
    encQ a (ix2 r l) + (∑ s : Fin 256, encS x (ix2 r s) * encA k (ix2 s l)) = ((a r.val l.val + ∑ s ∈ Finset.range 256, x r.val s * k s l.val : ℝ) : EReal) := by
  simp only [encS_at, encQ_at, encA_at, ← EReal.coe_mul]
  rw [sum_coe 256 fun s => x r.val s * k s l.val, ← EReal.coe_add]

theorem pay48_enc (a x k : ℕ → ℕ → ℝ) : k0_pay48 (F := Ideal) (encQ a) (encS x) (encA k) = encQ (fun r l => a r l + ∑ s ∈ Finset.range 256, x r s * k s l) := by
  funext j; idx_vars j
  unfold k0_pay48
  pointwise
  exact dq_dot _ _ _ _ _

/-! ### The query block's own key block, where keys before the query count -/

def maskS : IVec S512x256 1 := fun j => BitVec.ofBool (decide ((j 1).val < (j 0).val % 256))

theorem maskS_at (a : Fin 512) (b : Fin 256) : maskS (ix2 a b) = BitVec.ofBool (decide (b.val < a.val % 256)) := rfl

theorem pay42_eq : k0_pay42 (iota .tc S256x256 32 [0] iota_S256x256_d0_w32) (iota .tc S256x256 32 [1] iota_S256x256_d1_w32) = maskS := by
  funext j; idx_vars j
  unfold k0_pay42
  pointwise
  have h0 := j0.isLt
  rw [maskS_at]
  by_cases h : j0.val < 256
  · rw [dif_pos h, cmpi_slt_ofNat (by omega) (by omega), Nat.mod_eq_of_lt h]
  · rw [dif_neg h, cmpi_slt_ofNat (by omega) (by omega), show j0.val % 256 = j0.val - 256 by omega]

theorem pay50_enc (q k : ℕ → ℕ → ℝ) : k0_pay50 (F := Ideal) (encQ q) (encA k) = encS (fun r c => ∑ l ∈ Finset.range 128, q r l * k c l) := pay2_enc q k

theorem pay52_enc (z : ℕ → ℕ → ℝ) : k0_pay52 (F := Ideal) (encS z) = encS (fun r c => Stick.brk (z r c)) := by
  funext j; idx_vars j
  unfold k0_pay52 k0_pay51
  pointwise
  exact brk_coe _

theorem masked_keep (z : ℕ → ℕ → ℝ) (r : Fin 512) (c : Fin 256) :
    Scalar.select (maskS (ix2 r c)) ((Stick.keep (z r.val c.val) : ℝ) : EReal) 0 = encS (fun r c => if c < r % 256 then Stick.keep (z r c) else 0) (ix2 r c) := by
  rw [maskS_at, select_decide, ← EReal.coe_zero, coe_ite]; rfl

theorem pay53_enc (u : ℕ → ℕ → ℝ) (lt l : ℕ → ℝ) (z : ℕ → ℕ → ℝ) :
    k0_pay53 (F := Ideal) (encT u) maskS (encV lt) (encV l) (encS z)
      = encS (fun r c => if c < r % 256 then Real.exp (z r c + Stick.keep (z r c)
          + (lt r - ((∑ x ∈ Finset.range 256, (if x < r % 256 then Stick.keep (z r x) else 0) * u x c) + l r))) else 0) := by
  funext j; idx_vars j
  unfold k0_pay53 k0_pay51
  pointwise
  simp only [encS_at, encT_at, encV_at, keep_coe, maskS_at, select_decide]
  simp only [← EReal.coe_zero, coe_ite, ← EReal.coe_sub, ← EReal.coe_mul, sub_self, zero_mul]
  rw [sum_coe 256 fun x => if x < j0.val % 256 then Stick.keep (z j0.val x) * u x j1.val else 0, sum_coe 256 fun _ => 0]
  simp only [← EReal.coe_add, ← EReal.coe_sub, Ideal.exp_coe, coe_ite, Finset.sum_const_zero, add_zero, ite_mul, zero_mul]
  by_cases h : j1.val < j0.val % 256
  · simp only [if_pos h]
  · simp only [if_neg h]

theorem pay54_enc (u d v w : ℕ → ℕ → ℝ) (lt l : ℕ → ℝ) (z : ℕ → ℕ → ℝ) (h : k0_pay53 (F := Ideal) (encT u) maskS (encV lt) (encV l) (encS z) = encS w) :
    k0_pay54 (F := Ideal) (encT u) (encQ d) maskS (encV lt) (encV l) (encS z) (encA v) = encS (fun r c => w r c * ∑ x ∈ Finset.range 128, d r x * v c x) := by
  funext j
  unfold k0_pay54
  rw [h]
  exact (congrArg (encS w j * ·) (congrFun (pay2_enc d v) j)).trans (EReal.coe_mul _ _).symm

theorem pay56_enc (u d v g : ℕ → ℕ → ℝ) (lt l : ℕ → ℝ) (z : ℕ → ℕ → ℝ) (h : k0_pay54 (F := Ideal) (encT u) (encQ d) maskS (encV lt) (encV l) (encS z) (encA v) = encS g) :
    k0_pay56 (F := Ideal) (encT u) (encQ d) maskS (encV lt) (encV l) (encS z) (encA v) = encS (fun r c => g r c - g r c) := by
  funext j
  unfold k0_pay56 k0_pay55
  rw [h]
  exact (EReal.coe_sub _ _).symm

theorem pay57_enc (u : ℕ → ℕ → ℝ) (gr : ℕ → ℝ) (be g : ℕ → ℕ → ℝ) :
    k0_pay57 (F := Ideal) (encT u) maskS (encV gr) (encS be) (encS g) (encS g) (encS fun r c => g r c - g r c)
      = encS (fun r c => if c < r % 256 then g r c * (1 - be r c) - be r c * ((∑ x ∈ Finset.range 256, g r x * u x c) + gr r) else 0) := by
  funext j; idx_vars j
  unfold k0_pay57
  pointwise
  simp only [encS_at, encT_at, encV_at, maskS_at, select_decide, ← EReal.coe_zero, ← EReal.coe_one, ← EReal.coe_sub, ← EReal.coe_mul, sub_self, zero_mul]
  rw [sum_coe 256 fun x => g j0.val x * u x j1.val, sum_coe 256 fun _ => 0]
  simp only [← EReal.coe_add, ← EReal.coe_sub, ← EReal.coe_mul, coe_ite, Finset.sum_const_zero, add_zero]

theorem pay58_enc (u q : ℕ → ℕ → ℝ) (gr : ℕ → ℝ) (be g1 g2 g3 a x : ℕ → ℕ → ℝ) (h : k0_pay57 (F := Ideal) (encT u) maskS (encV gr) (encS be) (encS g1) (encS g2) (encS g3) = encS x) :
    k0_pay58 (F := Ideal) (encT u) (encQ q) maskS (encV gr) (encS be) (encS g1) (encS g2) (encS g3) (encA a) = encA (fun s l => a s l + ∑ r ∈ Finset.range 512, x r s * q r l) := by
  funext j; idx_vars j
  unfold k0_pay58
  rw [h]
  pointwise
  exact acc_dot _ _ _ _ _

theorem pay59_enc (d w a : ℕ → ℕ → ℝ) : k0_pay59 (F := Ideal) (encQ d) (encS w) (encA a) = encA (fun s l => a s l + ∑ r ∈ Finset.range 512, w r s * d r l) := by
  funext j; idx_vars j
  unfold k0_pay59
  pointwise
  exact acc_dot _ _ _ _ _

theorem pay60_enc (u : ℕ → ℕ → ℝ) (gr : ℕ → ℝ) (a be g1 g2 g3 k x : ℕ → ℕ → ℝ) (h : k0_pay57 (F := Ideal) (encT u) maskS (encV gr) (encS be) (encS g1) (encS g2) (encS g3) = encS x) :
    k0_pay60 (F := Ideal) (encT u) maskS (encV gr) (encQ a) (encS be) (encS g1) (encS g2) (encS g3) (encA k) = encQ (fun r l => a r l + ∑ s ∈ Finset.range 256, x r s * k s l) := by
  funext j; idx_vars j
  unfold k0_pay60
  rw [h]
  pointwise
  exact dq_dot _ _ _ _ _

theorem pay1_enc (u : ℕ → ℕ → ℝ) (gr : ℕ → ℝ) (a be g1 g2 g3 k y : ℕ → ℕ → ℝ)
    (h : k0_pay60 (F := Ideal) (encT u) maskS (encV gr) (encQ a) (encS be) (encS g1) (encS g2) (encS g3) (encA k) = encQ y) :
    k0_pay1 (F := Ideal) (k0_pay61 (encT u) maskS (encV gr) (encQ a) (encS be) (encS g1) (encS g2) (encS g3) (encA k))
      (k0_pay62 (encT u) maskS (encV gr) (encQ a) (encS be) (encS g1) (encS g2) (encS g3) (encA k)) (k0_pay63 k0_pay34) = encA (fun r l => y (r + 256 * (l / 64)) l * (1 / 8)) := by
  funext j; idx_vars j
  unfold k0_pay1 k0_pay61 k0_pay62 k0_pay63 k0_pay34
  rw [h]
  pointwise
  have h0 := j0.isLt; have h1 := j1.isLt
  rw [cmpi_slt_ofNat (by omega) (by omega), select_decide, eighth]
  show _ = ((y (j0.val + 256 * (j1.val / 64)) j1.val * (1 / 8) : ℝ) : EReal)
  rw [EReal.coe_mul]
  congr 1
  by_cases h : j1.val < 64
  · rw [if_pos h, Nat.div_eq_of_lt h, mul_zero, add_zero]; rfl
  · rw [if_neg h, show j1.val / 64 = 1 by omega, mul_one]; exact congrArg (fun n => ((y n j1.val : ℝ) : EReal)) (Nat.add_comm 256 j0.val)

end Cert.KernelStickIdeal.Value

end
-- ==== Proof.Stick.Trip.lean ====
module

public import proofs.«01_k».proof.Proof.Stick.Pay

/-!
One step of the kernel's loop over key blocks, and the last block, over the reals: what the running sums and the gradients hold.
-/

@[expose] public section

set_option maxRecDepth 16384

noncomputable section

namespace Cert.KernelStickIdeal.Value

open Cert.KernelStickIdeal Cert.KernelStickIdeal.Gen Cert.Reals Idealize.ShloMosaic Idealize.ShloMosaic.TcCoe Idealize.SL.Sem
open Finset (range)

theorem encS_congr {f g : ℕ → ℕ → ℝ} (h : ∀ r < 512, ∀ c < 256, f r c = g r c) : encS f = encS g :=
  funext fun j => congrArg Real.toEReal (h _ (j 0).isLt _ (j 1).isLt)
theorem encQ_congr {f g : ℕ → ℕ → ℝ} (h : ∀ r < 512, ∀ c < 128, f r c = g r c) : encQ f = encQ g :=
  funext fun j => congrArg Real.toEReal (h _ (j 0).isLt _ (j 1).isLt)
theorem encA_congr {f g : ℕ → ℕ → ℝ} (h : ∀ r < 256, ∀ c < 128, f r c = g r c) : encA f = encA g :=
  funext fun j => congrArg Real.toEReal (h _ (j 0).isLt _ (j 1).isLt)
theorem encF_congr {f g : ℕ → ℕ → ℝ} (h : ∀ r < 8192, ∀ c < 128, f r c = g r c) : encF f = encF g :=
  funext fun j => congrArg Real.toEReal (h _ (j 0).isLt _ (j 1).isLt)
theorem encV_congr {f g : ℕ → ℝ} (h : ∀ r < 512, f r = g r) : encV f = encV g :=
  funext fun j => congrArg Real.toEReal (h _ (j 0).isLt)

/-- A key block of an array of reals. -/
theorem rowsOf_enc (f : ℕ → ℕ → ℝ) (b : Fin 32) : rowsOf (F := Ideal) (encF f) b = encA (fun a l => f (256 * b.val + a) l) := by
  funext j; idx_vars j
  show ((f (b.val * 256 + 1 * j0.val) (0 + 1 * j1.val) : ℝ) : EReal) = ((f (256 * b.val + j0.val) j1.val : ℝ) : EReal)
  rw [mul_comm, zero_add, one_mul, one_mul]

/-- An array of reals with a key block replaced. -/
theorem setRows_enc (f g : ℕ → ℕ → ℝ) (b : Fin 32) :
    setRows (F := Ideal) (encF f) b (encA g) = encF (fun s l => if s / 256 = b.val then g (s % 256) l else f s l) := by
  funext j; idx_vars j
  have h1 := j1.isLt
  unfold setRows VecWindow.put
  by_cases h : j0.val / 256 = b.val
  · have hm : ∀ a : Fin S8192x128.rank, blkAt b a ≤ (ix2 j0 j1 a).val ∧ (ix2 j0 j1 a).val < blkAt b a + S256x128.size a := by
      refine Fin.forall_fin_two.mpr ⟨?_, ?_⟩
      · show b.val * 256 ≤ j0.val ∧ j0.val < b.val * 256 + 256; omega
      · show 0 ≤ j1.val ∧ j1.val < 0 + 128; omega
    rw [dif_pos hm]
    show ((g (j0.val - b.val * 256) (j1.val - 0) : ℝ) : EReal) = (((if j0.val / 256 = b.val then g (j0.val % 256) j1.val else f j0.val j1.val) : ℝ) : EReal)
    rw [if_pos h, Nat.sub_zero, show j0.val % 256 = j0.val - b.val * 256 by omega]
  · rw [dif_neg (fun hm => h (by have := hm 0; change b.val * 256 ≤ j0.val ∧ j0.val < b.val * 256 + 256 at this; omega))]
    show ((f j0.val j1.val : ℝ) : EReal) = (((if j0.val / 256 = b.val then g (j0.val % 256) j1.val else f j0.val j1.val) : ℝ) : EReal)
    rw [if_neg h]

/-- Sums against a triangle of ones. -/
theorem tri_le (f : ℕ → ℝ) {n c : ℕ} (h : c < n) : (∑ x ∈ range n, f x * (if x ≤ c then 1 else 0)) = ∑ x ∈ range (c + 1), f x := by
  simp only [mul_ite, mul_one, mul_zero]
  rw [← Finset.sum_filter]
  congr 1; ext x; simp only [Finset.mem_filter, Finset.mem_range]; omega
theorem tri_lt (f : ℕ → ℝ) {n c : ℕ} (h : c < n) : (∑ x ∈ range n, f x * (if x < c then 1 else 0)) = ∑ x ∈ range c, f x := by
  simp only [mul_ite, mul_one, mul_zero]
  rw [← Finset.sum_filter]
  congr 1; ext x; simp only [Finset.mem_filter, Finset.mem_range]; omega

/-! ### A grid point's rows -/

section
variable (q d K V : ℕ → ℕ → ℝ) (i : ℕ)

/-- The scaled query of row `r`, its scores, the products of its output's gradient with the values, its position. -/
def Qr : ℕ → ℕ → ℝ := two fun a l => q a l * (1 / 8)
def Zr (r s : ℕ) : ℝ := ∑ l ∈ range 128, Qr q r l * K s l
def Dr (r s : ℕ) : ℝ := ∑ l ∈ range 128, two d r l * V s l
def Tr (r : ℕ) : ℕ := 256 * i + r % 256

def Wr (r s : ℕ) : ℝ := Stick.wt (Zr q K r) (Tr i r) s
def Gr (r s : ℕ) : ℝ := Stick.grad (Zr q K r) (Dr d V r) (Tr i r) s
def DZr (r s : ℕ) : ℝ := Stick.dz (Zr q K r) (Dr d V r) (Tr i r) s

/-- What is carried when the first `n` key blocks are done; `a` and `b` are what the gradients of keys and values held before. -/
def stAt (a b : ℕ → ℕ → ℝ) (n : ℕ) : State Ideal :=
  ((encV fun r => Stick.pre (Zr q K r) (Tr i r) (256 * n), encV fun r => Stick.gpre (Zr q K r) (Dr d V r) (Tr i r) (256 * n),
      encQ fun r l => ∑ s ∈ range (256 * n), DZr q d K V i r s * K s l),
    encF fun s l => a s l + (if s < 256 * n then ∑ r ∈ range 512, DZr q d K V i r s * Qr q r l else 0),
    encF fun s l => b s l + (if s < 256 * n then ∑ r ∈ range 512, Wr q K i r s * two d r l else 0))

variable {q d K V i} in
theorem acc_block {a : ℕ → ℕ → ℝ} {x : ℕ → ℕ → ℝ} (b : Fin 32) :
    (fun s l => if s / 256 = b.val then (a (256 * b.val + s % 256) l + (if 256 * b.val + s % 256 < 256 * b.val then x (256 * b.val + s % 256) l else 0)) + x (256 * b.val + s % 256) l
        else a s l + (if s < 256 * b.val then x s l else 0))
      = fun s l => a s l + (if s < 256 * (b.val + 1) then x s l else 0) := by
  funext s l
  by_cases h : s / 256 = b.val
  · have e : 256 * b.val + s % 256 = s := by omega
    rw [if_pos h, e, if_neg (by omega), if_pos (by omega), add_zero]
  · rw [if_neg h]
    by_cases h' : s < 256 * b.val
    · rw [if_pos h', if_pos (by omega)]
    · rw [if_neg h', if_neg (by omega)]

theorem trip_enc (lt : ℕ → ℕ → ℝ) (hlt : ∀ r < 512, lt (r % 256) (64 * (r / 256)) = Stick.pre (Zr q K r) (Tr i r) (Tr i r))
    (a b : ℕ → ℕ → ℝ) (n : Fin 32) (hn : n.val < i) :
    tripFn (encA q) (encF K) (encF V) (encA d) (encA lt) n (stAt q d K V i a b n.val) = stAt q d K V i a b (n.val + 1) := by
  have hT : ∀ r c, c < 256 → 256 * n.val + c < Tr i r := fun r c h => by unfold Tr; omega
  have hz : k0_pay2 (F := Ideal) (encQ (Qr q)) (encA fun a l => K (256 * n.val + a) l) = encS fun r c => Zr q K r (256 * n.val + c) := pay2_enc _ _
  have hd : k0_pay3 (F := Ideal) (encQ (two d)) (encA fun a l => V (256 * n.val + a) l) = encS fun r c => Dr d V r (256 * n.val + c) := pay3_enc _ _
  have h5 := pay5_enc hz
  have h6 := pay6_enc hz
  have h7 : k0_pay7 (F := Ideal) k0_pay38 (encQ (Qr q)) (encV fun r => Stick.pre (Zr q K r) (Tr i r) (256 * n.val)) (encA fun a l => K (256 * n.val + a) l)
      = encS fun r c => Stick.pre (Zr q K r) (Tr i r) (256 * n.val + (c + 1)) := by
    rw [pay38_enc, pay7_enc _ _ h5]
    refine encS_congr fun r hr c hc => ?_
    rw [tri_le _ hc, Stick.pre_add]
    congr 1
    exact Finset.sum_congr rfl fun x hx => (Stick.keepM_of_lt _ _ (hT r x (by have := Finset.mem_range.mp hx; omega))).symm
  have h8 := pay8_enc hz
  have h9 : k0_pay9 (F := Ideal) (k0_pay44 (encA lt)) = encS fun r c => Stick.pre (Zr q K r) (Tr i r) (Tr i r) := by
    rw [pay44_enc, pay9_enc]
    exact encS_congr fun r hr c _ => hlt r hr
  have ew : ∀ r c, c < 256 → Real.exp (Zr q K r (256 * n.val + c) + Stick.keep (Zr q K r (256 * n.val + c))
      + (Stick.pre (Zr q K r) (Tr i r) (Tr i r) - Stick.pre (Zr q K r) (Tr i r) (256 * n.val + (c + 1)))) = Wr q K i r (256 * n.val + c) := fun r c hc => by
    unfold Wr Stick.wt; rw [if_pos (hT r c hc)]; rfl
  have h11 : k0_pay11 (F := Ideal) (encS fun r c => Dr d V r (256 * n.val + c)) (encS fun r c => Stick.pre (Zr q K r) (Tr i r) (256 * n.val + (c + 1)))
      (encS fun r c => Zr q K r (256 * n.val + c) + Stick.keep (Zr q K r (256 * n.val + c))) (encS fun r c => Stick.pre (Zr q K r) (Tr i r) (Tr i r))
      = encS fun r c => Gr q d K V i r (256 * n.val + c) := by
    rw [pay11_enc]
    refine encS_congr fun r hr c hc => ?_
    rw [ew r c hc]; rfl
  have h12 : k0_pay12 (F := Ideal) k0_pay39 (encV fun r => Stick.gpre (Zr q K r) (Dr d V r) (Tr i r) (256 * n.val)) (encS fun r c => Dr d V r (256 * n.val + c))
      (encS fun r c => Stick.brk (Zr q K r (256 * n.val + c))) (encS fun r c => Stick.pre (Zr q K r) (Tr i r) (256 * n.val + (c + 1)))
      (encS fun r c => Zr q K r (256 * n.val + c) + Stick.keep (Zr q K r (256 * n.val + c))) (encS fun r c => Stick.pre (Zr q K r) (Tr i r) (Tr i r))
      = encS fun r c => DZr q d K V i r (256 * n.val + c) := by
    rw [pay39_enc, pay12_enc _ _ _ _ _ _ _ _ h11]
    refine encS_congr fun r hr c hc => ?_
    rw [tri_lt _ hc]
    unfold DZr Stick.dz; rw [if_pos (hT r c hc), Stick.gpre_block, add_comm (Stick.gpre _ _ _ _)]; rfl
  unfold tripFn stAt
  simp only [pay40_enc, pay41_enc, rowsOf_enc]
  rw [show (two fun a l => q a l * (1 / 8)) = Qr q from rfl, hd, h5, h6, h7, h8, h9, h12]
  refine congrArg₂ Prod.mk (congrArg₂ Prod.mk ?_ (congrArg₂ Prod.mk ?_ ?_)) (congrArg₂ Prod.mk ?_ ?_)
  · rw [pay15_enc]
    refine encV_congr fun r hr => ?_
    rw [mul_add, mul_one, Stick.pre_block]
    congr 1
    exact Finset.sum_congr rfl fun x hx => (Stick.keepM_of_lt _ _ (hT r x (Finset.mem_range.mp hx))).symm
  · rw [pay16_enc _ _ _ _ _ _ h11]
    refine encV_congr fun r hr => ?_
    rw [mul_add, mul_one, Stick.gpre_block]; rfl
  · rw [pay48_enc]
    refine encQ_congr fun r hr l hl => ?_
    rw [mul_add, mul_one, Finset.sum_range_add]
  · rw [pay39_enc, pay13_enc _ _ _ _ _ _ _ _ _ _ (by rw [← pay39_enc]; exact h12), setRows_enc]
    exact congrArg encF (acc_block n)
  · rw [pay14_enc, setRows_enc]
    refine (encF_congr fun s hs l hl => ?_).trans (congrArg encF (acc_block (a := b) (x := fun s l => ∑ r ∈ range 512, Wr q K i r s * two d r l) n))
    simp only [ew _ _ (Nat.mod_lt s (by norm_num : 256 > 0))]

theorem trips_enc (lt : ℕ → ℕ → ℝ) (hlt : ∀ r < 512, lt (r % 256) (64 * (r / 256)) = Stick.pre (Zr q K r) (Tr i r) (Tr i r))
    (a b : ℕ → ℕ → ℝ) (hi : i < 32) : ∀ n ≤ i, tripsFn (encA q) (encF K) (encF V) (encA d) (encA lt) 0 (stAt q d K V i a b 0) n = stAt q d K V i a b n
  | 0, _ => rfl
  | n + 1, h => by
    show tripFn _ _ _ _ _ (Fin.ofNat 32 (0 + n)) (tripsFn _ _ _ _ _ 0 _ n) = _
    rw [trips_enc lt hlt a b hi n (by omega), show Fin.ofNat 32 (0 + n) = ⟨n, by omega⟩ from Fin.ext (by show (0 + n) % 32 = n; omega)]
    exact trip_enc q d K V i lt hlt a b ⟨n, by omega⟩ (by show n < i; omega)

/-- Sums over keys after the query add nothing. -/
theorem sum_dz {n : ℕ} (r : ℕ) (g : ℕ → ℝ) (h : Tr i r ≤ n) {m : ℕ} (hm : n ≤ m) : (∑ s ∈ range n, DZr q d K V i r s * g s) = ∑ s ∈ range m, DZr q d K V i r s * g s := by
  refine Finset.sum_subset (Finset.range_mono hm) fun s _ hs => ?_
  rw [DZr, Stick.dz_of_ge _ _ _ (by have : ¬s < n := fun h => hs (Finset.mem_range.mpr h); omega), zero_mul]

/-- What a grid point leaves: the gradient of its queries, and the gradients of keys and values with its rows' share added. -/
theorem last_enc (lt : ℕ → ℕ → ℝ) (hlt : ∀ r < 512, lt (r % 256) (64 * (r / 256)) = Stick.pre (Zr q K r) (Tr i r) (Tr i r))
    (a b : ℕ → ℕ → ℝ) (hi : i < 32) :
    lastFn (encA q) (encF K) (encF V) (encA d) (encA lt) ⟨i, hi⟩ (stAt q d K V i a b i)
      = (encA fun r l => (∑ s ∈ range 8192, DZr q d K V i (r + 256 * (l / 64)) s * K s l) * (1 / 8),
        encF fun s l => a s l + ∑ r ∈ range 512, DZr q d K V i r s * Qr q r l,
        encF fun s l => b s l + ∑ r ∈ range 512, Wr q K i r s * two d r l) := by
  have hT : ∀ r c, c < r % 256 ↔ 256 * i + c < Tr i r := fun r c => by unfold Tr; omega
  have hz : k0_pay50 (F := Ideal) (encQ (Qr q)) (encA fun a l => K (256 * i + a) l) = encS fun r c => Zr q K r (256 * i + c) := pay50_enc _ _
  have h53 : k0_pay53 (F := Ideal) k0_pay38 maskS (k0_pay44 (encA lt)) (encV fun r => Stick.pre (Zr q K r) (Tr i r) (256 * i)) (encS fun r c => Zr q K r (256 * i + c))
      = encS fun r c => Wr q K i r (256 * i + c) := by
    rw [pay38_enc, pay44_enc, pay53_enc]
    refine encS_congr fun r hr c hc => ?_
    unfold Wr Stick.wt
    simp only [hT]
    rw [tri_le _ hc, hlt r hr, add_assoc (256 * i) c 1, Stick.pre_add]
    rfl
  have h54 : k0_pay54 (F := Ideal) k0_pay38 (encQ (two d)) maskS (k0_pay44 (encA lt)) (encV fun r => Stick.pre (Zr q K r) (Tr i r) (256 * i)) (encS fun r c => Zr q K r (256 * i + c))
      (encA fun a l => V (256 * i + a) l) = encS fun r c => Gr q d K V i r (256 * i + c) := by
    rw [pay38_enc, pay44_enc] at h53 ⊢
    rw [pay54_enc _ _ _ _ _ _ _ h53]; rfl
  have h56 : k0_pay56 (F := Ideal) k0_pay38 (encQ (two d)) maskS (k0_pay44 (encA lt)) (encV fun r => Stick.pre (Zr q K r) (Tr i r) (256 * i)) (encS fun r c => Zr q K r (256 * i + c))
      (encA fun a l => V (256 * i + a) l) = encS fun r c => Gr q d K V i r (256 * i + c) - Gr q d K V i r (256 * i + c) := by
    rw [pay38_enc, pay44_enc] at h54 ⊢
    exact pay56_enc _ _ _ _ _ _ _ h54
  have h55 := h54
  rw [show k0_pay54 (F := Ideal) = k0_pay55 from rfl] at h55
  have h57 : k0_pay57 (F := Ideal) k0_pay39 maskS (encV fun r => Stick.gpre (Zr q K r) (Dr d V r) (Tr i r) (256 * i)) (encS fun r c => Stick.brk (Zr q K r (256 * i + c)))
      (encS fun r c => Gr q d K V i r (256 * i + c)) (encS fun r c => Gr q d K V i r (256 * i + c)) (encS fun r c => Gr q d K V i r (256 * i + c) - Gr q d K V i r (256 * i + c))
      = encS fun r c => DZr q d K V i r (256 * i + c) := by
    rw [pay39_enc, pay57_enc]
    refine encS_congr fun r hr c hc => ?_
    unfold DZr Stick.dz
    simp only [hT]
    rw [tri_lt _ hc, Stick.gpre_block, add_comm (Stick.gpre _ _ _ _)]; rfl
  unfold lastFn stAt
  simp only [pay40_enc, pay41_enc, rowsOf_enc]
  rw [pay42_eq]
  rw [show (two fun a l => q a l * (1 / 8)) = Qr q from rfl, hz, pay52_enc, h53, h54, h55, h56]
  refine congrArg₂ Prod.mk ?_ (congrArg₂ Prod.mk ?_ ?_)
  · rw [pay39_enc] at h57 ⊢
    rw [pay1_enc _ _ _ _ _ _ _ _ _ (pay60_enc _ _ _ _ _ _ _ _ _ h57)]
    refine encA_congr fun r hr l hl => ?_
    rw [← Finset.sum_range_add (fun s => DZr q d K V i (r + 256 * (l / 64)) s * K s l), sum_dz q d K V i _ (fun s => K s l) (by unfold Tr; omega) (by omega : 256 * i + 256 ≤ 8192)]
  · rw [pay39_enc] at h57 ⊢
    rw [pay58_enc _ _ _ _ _ _ _ _ _ h57, setRows_enc]
    refine (congrArg encF (acc_block (x := fun s l => ∑ r ∈ range 512, DZr q d K V i r s * Qr q r l) (a := a) ⟨i, hi⟩)).trans (encF_congr fun s hs l hl => ?_)
    congr 1
    by_cases h : s < 256 * (i + 1)
    · exact if_pos h
    · refine (if_neg h).trans ?_
      refine (Finset.sum_eq_zero fun r _ => ?_).symm
      rw [DZr, Stick.dz_of_ge _ _ _ (by unfold Tr; omega), zero_mul]
  · rw [pay59_enc, setRows_enc]
    refine (congrArg encF (acc_block (x := fun s l => ∑ r ∈ range 512, Wr q K i r s * two d r l) (a := b) ⟨i, hi⟩)).trans (encF_congr fun s hs l hl => ?_)
    congr 1
    by_cases h : s < 256 * (i + 1)
    · exact if_pos h
    · refine (if_neg h).trans ?_
      refine (Finset.sum_eq_zero fun r _ => ?_).symm
      rw [Wr, Stick.wt_of_ge _ _ (by unfold Tr; omega), zero_mul]

end

end Cert.KernelStickIdeal.Value

end
-- ==== Proof.Stick.Blocks.lean ====
module

public import proofs.«01_k».proof.Proof.Stick.Host
public import proofs.«01_k».proof.Proof.Stick.Trip
public import Idealize.ShloMosaic.Lib.Pipeline.ValueKit

/-!
The blocks of a grid point, over real arguments.
-/

@[expose] public section

set_option maxRecDepth 16384

noncomputable section

namespace Cert.KernelStickIdeal.Value

open Cert.KernelStickIdeal Cert.KernelStickIdeal.Gen Cert.Reals Idealize.ShloMosaic Idealize.ShloMosaic.TcCoe Idealize.SL.Sem
open Cert.ReferenceStickIdeal.Value (zz dd leftM_enc)

variable (m : (ℓ : Loc nD τ sig) → Buf (Elt Ideal) ℓ) (c : Dev nD) (P D : ℕ → ℕ → ℝ)

theorem idx : ∀ t : Fin cfg0.N, win0_0.index t = ![t.val % 32, t.val / 32] ∧ win0_1.index t = ![0, 2 + t.val / 32] ∧ win0_2.index t = ![0, 4 + t.val / 32]
    ∧ win0_3.index t = ![t.val % 32, t.val / 32] ∧ win0_4.index t = ![t.val % 32, t.val / 32] ∧ win0_6.index t = ![t.val % 32, t.val / 32] ∧ win0_7.index t = ![0, t.val / 32] ∧ win0_8.index t = ![0, t.val / 32] :=
  (by decide +kernel : ∀ t : Fin grid0.N, _)

theorem tlt (t : Fin cfg0.N) : t.val < 64 := t.isLt

variable (t : Fin cfg0.N)

theorem read0 (X : S8192x3072.Idx → EReal) : ((cfg0.win 0).blk t).view.read (Elt Ideal) X
    = fun j : S256x128.Idx => X (ValueIdx.ix2 ⟨256 * (t.val % 32) + (j 0).val, by have := (j 0).isLt; change (j 0).val < 256 at this; have := tlt t; omega⟩ ⟨128 * (t.val / 32) + (j 1).val, by have := (j 1).isLt; change (j 1).val < 128 at this; have := tlt t; omega⟩) := by
  funext j
  have h : win0_0.index t = _ := (idx t).1
  refine congrArg X (funext fun a => Fin.ext (((cfg0.win 0).rect_emb_val t j a).trans ?_))
  match a with
  | ⟨0, _⟩ => show win0_0.index t 0 * 256 + (j 0).val = 256 * (t.val % 32) + (j 0).val; rw [h]; show (t.val % 32) * 256 + (j 0).val = 256 * (t.val % 32) + (j 0).val; omega
  | ⟨1, _⟩ => show win0_0.index t 1 * 128 + (j 1).val = 128 * (t.val / 32) + (j 1).val; rw [h]; show (t.val / 32) * 128 + (j 1).val = 128 * (t.val / 32) + (j 1).val; omega

theorem read1 (X : S8192x3072.Idx → EReal) : ((cfg0.win 1).blk t).view.read (Elt Ideal) X
    = fun j : S8192x128.Idx => X (ValueIdx.ix2 ⟨(j 0).val, by have := (j 0).isLt; change (j 0).val < 8192 at this; have := tlt t; omega⟩ ⟨256 + 128 * (t.val / 32) + (j 1).val, by have := (j 1).isLt; change (j 1).val < 128 at this; have := tlt t; omega⟩) := by
  funext j
  have h : win0_1.index t = _ := (idx t).2.1
  refine congrArg X (funext fun a => Fin.ext (((cfg0.win 1).rect_emb_val t j a).trans ?_))
  match a with
  | ⟨0, _⟩ => show win0_1.index t 0 * 8192 + (j 0).val = (j 0).val; rw [h]; show 0 * 8192 + (j 0).val = (j 0).val; omega
  | ⟨1, _⟩ => show win0_1.index t 1 * 128 + (j 1).val = 256 + 128 * (t.val / 32) + (j 1).val; rw [h]; show (2 + t.val / 32) * 128 + (j 1).val = 256 + 128 * (t.val / 32) + (j 1).val; omega

theorem read2 (X : S8192x3072.Idx → EReal) : ((cfg0.win 2).blk t).view.read (Elt Ideal) X
    = fun j : S8192x128.Idx => X (ValueIdx.ix2 ⟨(j 0).val, by have := (j 0).isLt; change (j 0).val < 8192 at this; have := tlt t; omega⟩ ⟨512 + 128 * (t.val / 32) + (j 1).val, by have := (j 1).isLt; change (j 1).val < 128 at this; have := tlt t; omega⟩) := by
  funext j
  have h : win0_2.index t = _ := (idx t).2.2.1
  refine congrArg X (funext fun a => Fin.ext (((cfg0.win 2).rect_emb_val t j a).trans ?_))
  match a with
  | ⟨0, _⟩ => show win0_2.index t 0 * 8192 + (j 0).val = (j 0).val; rw [h]; show 0 * 8192 + (j 0).val = (j 0).val; omega
  | ⟨1, _⟩ => show win0_2.index t 1 * 128 + (j 1).val = 512 + 128 * (t.val / 32) + (j 1).val; rw [h]; show (4 + t.val / 32) * 128 + (j 1).val = 512 + 128 * (t.val / 32) + (j 1).val; omega

theorem read3 (X : S8192x1024.Idx → EReal) : ((cfg0.win 3).blk t).view.read (Elt Ideal) X
    = fun j : S256x128.Idx => X (ValueIdx.ix2 ⟨256 * (t.val % 32) + (j 0).val, by have := (j 0).isLt; change (j 0).val < 256 at this; have := tlt t; omega⟩ ⟨128 * (t.val / 32) + (j 1).val, by have := (j 1).isLt; change (j 1).val < 128 at this; have := tlt t; omega⟩) := by
  funext j
  have h : win0_3.index t = _ := (idx t).2.2.2.1
  refine congrArg X (funext fun a => Fin.ext (((cfg0.win 3).rect_emb_val t j a).trans ?_))
  match a with
  | ⟨0, _⟩ => show win0_3.index t 0 * 256 + (j 0).val = 256 * (t.val % 32) + (j 0).val; rw [h]; show (t.val % 32) * 256 + (j 0).val = 256 * (t.val % 32) + (j 0).val; omega
  | ⟨1, _⟩ => show win0_3.index t 1 * 128 + (j 1).val = 128 * (t.val / 32) + (j 1).val; rw [h]; show (t.val / 32) * 128 + (j 1).val = 128 * (t.val / 32) + (j 1).val; omega

theorem read4 (X : S8192x256.Idx → EReal) : ((cfg0.win 4).blk t).view.read (Elt Ideal) X
    = fun j : S256x128.Idx => X (ValueIdx.ix2 ⟨256 * (t.val % 32) + (j 0).val, by have := (j 0).isLt; change (j 0).val < 256 at this; have := tlt t; omega⟩ ⟨128 * (t.val / 32) + (j 1).val, by have := (j 1).isLt; change (j 1).val < 128 at this; have := tlt t; omega⟩) := by
  funext j
  have h : win0_4.index t = _ := (idx t).2.2.2.2.1
  refine congrArg X (funext fun a => Fin.ext (((cfg0.win 4).rect_emb_val t j a).trans ?_))
  match a with
  | ⟨0, _⟩ => show win0_4.index t 0 * 256 + (j 0).val = 256 * (t.val % 32) + (j 0).val; rw [h]; show (t.val % 32) * 256 + (j 0).val = 256 * (t.val % 32) + (j 0).val; omega
  | ⟨1, _⟩ => show win0_4.index t 1 * 128 + (j 1).val = 128 * (t.val / 32) + (j 1).val; rw [h]; show (t.val / 32) * 128 + (j 1).val = 128 * (t.val / 32) + (j 1).val; omega

/-- The log stick that all keys before a query leave together. -/
def total (h t : ℕ) : ℝ := Stick.pre (zz P h t) t t

theorem ltot_enc (hP : m ((c : Thread nD τ).loc main_arg0) = enc2 P) : V m c main_v22 = enc2 (a := 8192) (b := 256) (fun t l => total P (l / 64) t) := by
  rw [V_ltot]
  unfold leftM
  rw [show Cert.ReferenceStickIdeal.Read.val_main_v20_0 (F := Ideal) (m ((c : Thread nD τ).loc main_arg0)) = _ from (congrArg _ hP).trans (leftM_enc P)]
  funext j
  idx_vars j
  pointwise
  refine (sum_coe 8192 fun s => Stick.keepM (zz P (j1.val / 64) j0.val) j0.val s).trans (congrArg Real.toEReal ?_)
  unfold total Stick.pre
  refine (Finset.sum_subset (fun x hx => Finset.mem_range.2 ((Finset.mem_range.1 hx).trans j0.isLt)) fun x _ hx => ?_).symm
  exact Stick.keepM_of_ge _ _ fun h => hx (Finset.mem_range.2 h)

variable {P D}
variable (hP : m ((c : Thread nD τ).loc main_arg0) = enc2 P) (hD : m ((c : Thread nD τ).loc main_arg1) = enc2 D)

include hP in
theorem blk0 : iblk m c 0 t = encA fun a l => P (256 * (t.val % 32) + a) (128 * (t.val / 32) + l) := by
  unfold iblk
  refine (read0 t (V m c main_v28)).trans (funext fun j => ?_)
  have := (j 1).isLt; change (j 1).val < 128 at this; have := tlt t
  exact (V_qkv m c _ (by show 128 * (t.val / 32) + (j 1).val < 768; omega)).trans (congrFun hP _)

include hP in
theorem blk1 : iblk m c 1 t = encF fun s l => P s (256 + 128 * (t.val / 32) + l) := by
  unfold iblk
  refine (read1 t (V m c main_v28)).trans (funext fun j => ?_)
  have := (j 1).isLt; change (j 1).val < 128 at this; have := tlt t
  exact (V_qkv m c _ (by show 256 + 128 * (t.val / 32) + (j 1).val < 768; omega)).trans (congrFun hP _)

include hP in
theorem blk2 : iblk m c 2 t = encF fun s l => P s (512 + 128 * (t.val / 32) + l) := by
  unfold iblk
  refine (read2 t (V m c main_v28)).trans (funext fun j => ?_)
  have := (j 1).isLt; change (j 1).val < 128 at this; have := tlt t
  exact (V_qkv m c _ (by show 512 + 128 * (t.val / 32) + (j 1).val < 768; omega)).trans (congrFun hP _)

include hD in
theorem blk3 : iblk m c 3 t = encA fun a l => D (256 * (t.val % 32) + a) (128 * (t.val / 32) + l) := by
  unfold iblk
  exact (read3 t (V m c main_arg1)).trans (funext fun j => (congrFun (V_main_arg1 m c) _).trans (congrFun hD _))

include hP in
theorem blk4 : iblk m c 4 t = encA fun a l => total P ((128 * (t.val / 32) + l) / 64) (256 * (t.val % 32) + a) := by
  unfold iblk
  exact (read4 t (V m c main_v22)).trans (funext fun j => congrFun (ltot_enc m c P hP) _)

theorem blk5 : iblk m c 5 t = fun _ => Ideal.ofBits .f32 0xBF800000#32 := by
  unfold iblk
  exact funext fun j => congrFun (V_stop m c) _

/-- The maximum of a block that holds one value everywhere. -/
theorem max_const (x : FVec Ideal S1x1x1x8x128 .f32) (v : EReal) (hx : x = fun _ => v) (h : S1x1x1x8x128.Reduces [1, 2, 3, 4] S1) (hφ : FKind.Formats .f32) (hacc : (0xFF800000#32 : BitVec 32) = FKind.maximumf.neutral .f32 hφ) (j : S1.Idx) :
    multiReduction .maximumf [1, 2, 3, 4] S1 x 0xFF800000#32 h hφ hacc j = v := by
  subst hx
  rw [multiReduction_maximumf_eq_fold]
  have hb : (FloatOps.ofBits (F := Ideal) .f32 0xFF800000#32 : EReal) = ⊥ := by
    show Ideal.ofBits .f32 0xFF800000#32 = ⊥
    simp [Ideal.ofBits, Ideal.ieee]
  refine le_antisymm (Finset.fold_max_le (s := _) (b := (FloatOps.ofBits (F := Ideal) .f32 0xFF800000#32 : EReal)) v |>.2 ⟨hb.le.trans bot_le, fun x _ => le_rfl⟩)
    (Finset.le_fold_max (s := _) (b := (FloatOps.ofBits (F := Ideal) .f32 0xFF800000#32 : EReal)) v |>.2 (Or.inr ⟨fun a => ⟨0, by revert a; decide⟩, ?_, le_rfl⟩))
  refine Finset.mem_filter.2 ⟨Finset.mem_univ _, funext fun a => Fin.ext ?_⟩
  have h1 : ∀ b : Fin S1.rank, S1.size b = 1 := by decide
  have := (j a).isLt
  have := (h.drop (fun a => ⟨0, by revert a; decide⟩) a).isLt
  have := h1 a
  omega

theorem stop_max : k0_pay43 (F := Ideal) (fun _ => Ideal.ofBits .f32 0xBF800000#32) = ((-1 : ℝ) : EReal) := by
  have h1 : (Ideal.ofBits .f32 0xBF800000#32 : EReal) = ((-1 : ℝ) : EReal) := by
    simp [Ideal.ofBits, Ideal.ieee, -EReal.coe_mul]
    norm_num
  exact (max_const _ (Ideal.ofBits .f32 0xBF800000#32) rfl reduces_S1x1x1x8x128_S1 (.inl rfl) rfl _).trans h1

/-- No block is skipped. -/
theorem start_eq (i : grid0.Coords) : start i (Scalar.fptosi 32 (k0_pay43 (F := Ideal) (fun _ => Ideal.ofBits .f32 0xBF800000#32))) = 0 := by
  rw [stop_max]
  have h : Scalar.fptosi (F := Ideal) (φ := .f32) 32 ((-1 : ℝ) : EReal) = BitVec.ofInt 32 (-1) := by
    show Ideal.fptosi 32 _ = _
    rw [Ideal.fptosi, Ideal.toIntClamped_coe]; norm_num
  rw [h]
  unfold start
  simp

end Cert.KernelStickIdeal.Value

end
-- ==== Proof.Stick.RefOut.lean ====
module

public import proofs.«01_k».proof.Proof.Stick.RefVal

/-!
The reference's three gradients over the reals.
-/

@[expose] public section

set_option maxRecDepth 16384

noncomputable section

namespace Cert.ReferenceStickIdeal.Value

open Cert.ReferenceStickIdeal Cert.ReferenceStickIdeal.Gen Cert.ReferenceStickIdeal.Read Cert.Reals Idealize.ShloMosaic Idealize.ShloMosaic.TcCoe
open Stick (keep brk keepM pre wt grad gpre dz)

variable (P D : ℕ → ℕ → ℝ)

theorem grad_enc : val_main_v37 (F := Ideal) (enc2 P) (enc2 D) = enc3 (fun h t s => grad (zz P h t) (dd P D h t) t s) := by
  funext i
  have h1 : (i 1).val < 8192 := (i 1).isLt
  rw [val_main_v37_apply, val_main_v36_apply, mask3'_eq, da_enc, zero5, weight_enc, enc3_at, enc3_at, enc3_at, select_decide, coe_ite]
  refine (EReal.coe_mul _ _).symm.trans (congrArg Real.toEReal ?_)
  unfold grad wt
  by_cases h : (i 2).val < (i 1).val
  · rw [if_pos h, if_pos h, between _ h1 h, mul_comm]
  · rw [if_neg h, if_neg h, zero_mul, zero_mul]

theorem upto_enc : val_main_v40 (F := Ideal) (enc2 P) (enc2 D) = enc3 (fun h t s => gpre (zz P h t) (dd P D h t) t (s + 1)) := by
  unfold val_main_v40
  rw [grad_enc]
  refine (window_sum ![0, 0, 8191] ![0, 0, 0] rfl rfl _ _ _ _ ((Stick.zero_word).trans EReal.coe_zero)).trans ?_
  exact enc3_congr fun h _ t _ s hs => sum_upto _ 8192 s hs

theorem below_enc : val_main_v41 (F := Ideal) (enc2 P) (enc2 D) = enc3 (fun h t s => gpre (zz P h t) (dd P D h t) t s) := by
  funext i
  rw [val_main_v41_apply, val_main_v39_apply, upto_enc, grad_enc, enc3_at, enc3_at]
  change -((_ : ℝ) : EReal) + ((_ : ℝ) : EReal) = _
  rw [← EReal.coe_neg, ← EReal.coe_add, enc3_at]
  refine congrArg Real.toEReal ?_
  unfold gpre
  rw [Finset.sum_range_succ]; ring

theorem dz_enc : val_main_v47 (F := Ideal) (enc2 P) (enc2 D) = enc3 (fun h t s => dz (zz P h t) (dd P D h t) t s * (1 / 8)) := by
  funext i
  rw [val_main_v47_apply, val_main_v46_apply, val_main_cst_2_apply, val_main_v45_apply, val_main_v44_apply, val_main_v43_apply, val_main_call9_v1_apply, val_main_call9_v0_apply,
    val_main_v42_apply, val_main_v38_apply, val_main_call6_v1_apply, val_main_call6_v0_apply, mask3_eq, zero8, below_enc, grad_enc, break_slope, left_slope]
  simp only [enc3_at, select_decide, coe_ite]
  change (-(-((_ : ℝ) : EReal) * ((_ : ℝ) : EReal)) + -(-(-((_ : ℝ) : EReal) * ((_ : ℝ) : EReal)))) * Ideal.ofBits .f32 0x3E000000#32 = _
  rw [eighth]
  simp only [← EReal.coe_neg, ← EReal.coe_mul, ← EReal.coe_add]
  refine congrArg Real.toEReal ?_
  unfold dz
  by_cases h : (i 2).val < (i 1).val
  · rw [if_pos h, if_pos h]; ring
  · rw [if_neg h, if_neg h, Stick.grad_of_ge _ _ _ h]; ring

theorem dv_enc : val_main_v33 (F := Ideal) (enc2 P) (enc2 D) = enc3 (fun h d s => ∑ t ∈ Finset.range 8192, D t (64 * h + d) * wt (zz P h t) t s) := by
  funext i
  rw [val_main_v33_apply, do_enc, wt_enc]
  simp only [enc3_at, ← EReal.coe_mul]
  exact sum_coe 8192 fun t => D t (64 * (i 0).val + (i 1).val) * wt (zz P (i 0).val t) t (i 2).val

theorem dk_enc : val_main_v48 (F := Ideal) (enc2 P) (enc2 D) = enc3 (fun h s d => ∑ t ∈ Finset.range 8192, dz (zz P h t) (dd P D h t) t s * (1 / 8) * P t (64 * h + d)) := by
  funext i
  rw [val_main_v48_apply, q_enc, dz_enc]
  simp only [enc3_at, ← EReal.coe_mul]
  exact sum_coe 8192 fun t => dz (zz P (i 0).val t) (dd P D (i 0).val t) t (i 1).val * (1 / 8) * P t (64 * (i 0).val + (i 2).val)

theorem dq_enc : val_main_v49 (F := Ideal) (enc2 P) (enc2 D) = enc3 (fun h t d => ∑ s ∈ Finset.range 8192, dz (zz P h t) (dd P D h t) t s * (1 / 8) * P s (256 + (64 * h + d))) := by
  funext i
  rw [val_main_v49_apply, k_enc, dz_enc]
  simp only [enc3_at, ← EReal.coe_mul]
  exact sum_coe 8192 fun s => dz (zz P (i 0).val (i 1).val) (dd P D (i 0).val (i 1).val) (i 1).val s * (1 / 8) * P s (256 + (64 * (i 0).val + (i 2).val))

/-- The gradients of q, of k and of v, by token and column. -/
theorem dq_out : val_main_v55 (F := Ideal) (enc2 P) (enc2 D) = enc2 (fun t c => ∑ s ∈ Finset.range 8192, dz (zz P (c / 64) t) (dd P D (c / 64) t) t s * (1 / 8) * P s (256 + c)) := by
  funext i
  have h0 : (i 0).val < 8192 := (i 0).isLt; have h1 : (i 1).val < 256 := (i 1).isLt
  rw [val_main_v55_apply, val_main_v54_apply, dq_enc]
  have e0 : ((i 0).val * 256 + (i 1).val) / 256 = (i 0).val := by omega
  have e1 : ((i 0).val * 256 + (i 1).val) / 64 % 4 = (i 1).val / 64 := by omega
  have e2 : 64 * ((i 1).val / 64) + ((i 0).val * 256 + (i 1).val) % 64 = (i 1).val := by omega
  show Real.toEReal (∑ s ∈ Finset.range 8192, dz (zz P (((i 0).val * 256 + (i 1).val) / 64 % 4) (((i 0).val * 256 + (i 1).val) / 256)) (dd P D (((i 0).val * 256 + (i 1).val) / 64 % 4) (((i 0).val * 256 + (i 1).val) / 256)) (((i 0).val * 256 + (i 1).val) / 256) s * (1 / 8) * P s (256 + (64 * (((i 0).val * 256 + (i 1).val) / 64 % 4) + ((i 0).val * 256 + (i 1).val) % 64))) = _
  rw [e0, e1, e2]; rfl

theorem dk_out : val_main_v53 (F := Ideal) (enc2 P) (enc2 D) = enc2 (fun s c => ∑ t ∈ Finset.range 8192, dz (zz P (c / 64) t) (dd P D (c / 64) t) t s * (1 / 8) * P t c) := by
  funext i
  have h0 : (i 0).val < 8192 := (i 0).isLt; have h1 : (i 1).val < 256 := (i 1).isLt
  rw [val_main_v53_apply, val_main_v52_apply, dk_enc]
  have e0 : ((i 0).val * 256 + (i 1).val) / 256 = (i 0).val := by omega
  have e1 : ((i 0).val * 256 + (i 1).val) / 64 % 4 = (i 1).val / 64 := by omega
  have e2 : 64 * ((i 1).val / 64) + ((i 0).val * 256 + (i 1).val) % 64 = (i 1).val := by omega
  show Real.toEReal (∑ t ∈ Finset.range 8192, dz (zz P (((i 0).val * 256 + (i 1).val) / 64 % 4) t) (dd P D (((i 0).val * 256 + (i 1).val) / 64 % 4) t) t (((i 0).val * 256 + (i 1).val) / 256) * (1 / 8) * P t (64 * (((i 0).val * 256 + (i 1).val) / 64 % 4) + ((i 0).val * 256 + (i 1).val) % 64)) = _
  rw [e0, e1, e2]; rfl

theorem dv_out : val_main_v51 (F := Ideal) (enc2 P) (enc2 D) = enc2 (fun s c => ∑ t ∈ Finset.range 8192, D t c * wt (zz P (c / 64) t) t s) := by
  funext i
  have h0 : (i 0).val < 8192 := (i 0).isLt; have h1 : (i 1).val < 256 := (i 1).isLt
  rw [val_main_v51_apply, val_main_v50_apply, val_main_v34_apply, dv_enc]
  have e0 : ((i 0).val * 256 + (i 1).val) / 256 = (i 0).val := by omega
  have e1 : ((i 0).val * 256 + (i 1).val) / 64 % 4 = (i 1).val / 64 := by omega
  have e2 : 64 * ((i 1).val / 64) + ((i 0).val * 256 + (i 1).val) % 64 = (i 1).val := by omega
  show Real.toEReal (∑ t ∈ Finset.range 8192, D t (64 * (((i 0).val * 256 + (i 1).val) / 64 % 4) + ((i 0).val * 256 + (i 1).val) % 64) * wt (zz P (((i 0).val * 256 + (i 1).val) / 64 % 4) t) t (((i 0).val * 256 + (i 1).val) / 256)) = _
  rw [e0, e1, e2]; rfl

end Cert.ReferenceStickIdeal.Value

end
-- ==== Proof.Stick.Fold.lean ====
module

public import proofs.«01_k».proof.Proof.Stick.Blocks
public import proofs.«01_k».proof.Proof.Stick.RefOut

/-!
A whole group of grid points, over real arguments: what each point stores for its queries, and what the gradients of keys and values hold
after it.
-/

@[expose] public section

set_option maxRecDepth 16384

noncomputable section

namespace Cert.KernelStickIdeal.Value

open Cert.KernelStickIdeal Cert.KernelStickIdeal.Gen Cert.Reals Idealize.ShloMosaic Idealize.ShloMosaic.TcCoe Idealize.SL.Sem
open Cert.ReferenceStickIdeal.Value (zz dd)
open Finset (range)

/-- A sum over two halves of 64 lanes of which one counts. -/
theorem sum_half (h : ℕ) (hh : h < 2) (f : ℕ → ℝ) : (∑ l ∈ range 128, if l / 64 = h then f l else 0) = ∑ d ∈ range 64, f (64 * h + d) := by
  rw [show (128 : ℕ) = 64 + 64 from rfl, Finset.sum_range_add]
  have e0 : ∀ l ∈ range 64, (if l / 64 = h then f l else 0) = if h = 0 then f l else 0 := fun l hl => by
    have := Finset.mem_range.1 hl; exact if_congr (by omega) rfl rfl
  have e1 : ∀ l ∈ range 64, (if (64 + l) / 64 = h then f (64 + l) else 0) = if h = 1 then f (64 + l) else 0 := fun l hl => by
    have := Finset.mem_range.1 hl; exact if_congr (by omega) rfl rfl
  rw [Finset.sum_congr rfl e0, Finset.sum_congr rfl e1]
  rcases (by omega : h = 0 ∨ h = 1) with rfl | rfl
  · simp
  · simp

/-- A sum over two halves of 256 rows of which one counts. -/
theorem sum_rows (h : ℕ) (hh : h < 2) (f : ℕ → ℝ) : (∑ r ∈ range 512, if h = r / 256 then f r else 0) = ∑ a ∈ range 256, f (256 * h + a) := by
  rw [show (512 : ℕ) = 256 + 256 from rfl, Finset.sum_range_add]
  have e0 : ∀ l ∈ range 256, (if h = l / 256 then f l else 0) = if h = 0 then f l else 0 := fun l hl => by
    have := Finset.mem_range.1 hl; exact if_congr (by omega) rfl rfl
  have e1 : ∀ l ∈ range 256, (if h = (256 + l) / 256 then f (256 + l) else 0) = if h = 1 then f (256 + l) else 0 := fun l hl => by
    have := Finset.mem_range.1 hl; exact if_congr (by omega) rfl rfl
  rw [Finset.sum_congr rfl e0, Finset.sum_congr rfl e1]
  rcases (by omega : h = 0 ∨ h = 1) with rfl | rfl
  · simp
  · simp

section
variable (P D : ℕ → ℕ → ℝ) (p i : ℕ)

/-- The blocks of query block `i` of head pair `p`. -/
def qB (a l : ℕ) : ℝ := P (256 * i + a) (128 * p + l)
def kB (s l : ℕ) : ℝ := P s (256 + 128 * p + l)
def vB (s l : ℕ) : ℝ := P s (512 + 128 * p + l)
def dB (a l : ℕ) : ℝ := D (256 * i + a) (128 * p + l)

theorem Zr_eq {r : ℕ} (hr : r < 512) (s : ℕ) : Zr (qB P p i) (kB P p) r s = zz P (2 * p + r / 256) (Tr i r) s := by
  unfold Zr Qr two kB qB zz
  simp only [ite_mul, zero_mul]
  rw [sum_half _ (by omega), Finset.sum_mul]
  refine Finset.sum_congr rfl fun d _ => ?_
  rw [show 128 * p + (64 * (r / 256) + d) = 64 * (2 * p + r / 256) + d by ring, show 256 + 128 * p + (64 * (r / 256) + d) = 256 + (64 * (2 * p + r / 256) + d) by ring]
  unfold Tr
  ring

theorem Dr_eq {r : ℕ} (hr : r < 512) (s : ℕ) : Dr (dB D p i) (vB P p) r s = dd P D (2 * p + r / 256) (Tr i r) s := by
  unfold Dr two vB dB dd
  simp only [ite_mul, zero_mul]
  rw [sum_half _ (by omega)]
  refine Finset.sum_congr rfl fun d _ => ?_
  rw [show 128 * p + (64 * (r / 256) + d) = 64 * (2 * p + r / 256) + d by ring, show 512 + 128 * p + (64 * (r / 256) + d) = 512 + (64 * (2 * p + r / 256) + d) by ring]
  rfl

/-- The gradient of the queries, and those of keys and values, term by term over the queries. -/
def dqOut (t c : ℕ) : ℝ := ∑ s ∈ range 8192, Stick.dz (zz P (c / 64) t) (dd P D (c / 64) t) t s * (1 / 8) * P s (256 + c)

def kTerm (s c t : ℕ) : ℝ := Stick.dz (zz P (c / 64) t) (dd P D (c / 64) t) t s * (1 / 8) * P t c
def vTerm (s c t : ℕ) : ℝ := D t c * Stick.wt (zz P (c / 64) t) t s

theorem DZr_eq {r : ℕ} (hr : r < 512) (s : ℕ) : DZr (qB P p i) (dB D p i) (kB P p) (vB P p) i r s
    = Stick.dz (zz P (2 * p + r / 256) (Tr i r)) (dd P D (2 * p + r / 256) (Tr i r)) (Tr i r) s := by
  unfold DZr
  rw [show Zr (qB P p i) (kB P p) r = _ from funext (Zr_eq P p i hr), show Dr (dB D p i) (vB P p) r = _ from funext (Dr_eq P D p i hr)]

theorem Wr_eq {r : ℕ} (hr : r < 512) (s : ℕ) : Wr (qB P p i) (kB P p) i r s = Stick.wt (zz P (2 * p + r / 256) (Tr i r)) (Tr i r) s := by
  unfold Wr
  rw [show Zr (qB P p i) (kB P p) r = _ from funext (Zr_eq P p i hr)]

theorem key_step (s l : ℕ) (hl : l < 128) : (∑ r ∈ range 512, DZr (qB P p i) (dB D p i) (kB P p) (vB P p) i r s * Qr (qB P p i) r l)
    = ∑ a ∈ range 256, kTerm P D s (128 * p + l) (256 * i + a) := by
  unfold Qr two
  simp only [mul_ite, mul_zero]
  rw [sum_rows _ (by omega)]
  refine Finset.sum_congr rfl fun a ha => ?_
  have ha := Finset.mem_range.1 ha
  rw [DZr_eq P D p i (by omega)]
  unfold Tr qB kTerm
  rw [show (256 * (l / 64) + a) / 256 = l / 64 by omega, show (256 * (l / 64) + a) % 256 = a by omega, show (128 * p + l) / 64 = 2 * p + l / 64 by omega]
  ring

theorem value_step (s l : ℕ) (hl : l < 128) : (∑ r ∈ range 512, Wr (qB P p i) (kB P p) i r s * two (dB D p i) r l)
    = ∑ a ∈ range 256, vTerm P D s (128 * p + l) (256 * i + a) := by
  unfold two
  simp only [mul_ite, mul_zero]
  rw [sum_rows _ (by omega)]
  refine Finset.sum_congr rfl fun a ha => ?_
  have ha := Finset.mem_range.1 ha
  rw [Wr_eq P p i (by omega)]
  unfold Tr dB vTerm
  rw [show (256 * (l / 64) + a) / 256 = l / 64 by omega, show (256 * (l / 64) + a) % 256 = a by omega, show (128 * p + l) / 64 = 2 * p + l / 64 by omega]
  ring

theorem query_step (a l : ℕ) (ha : a < 256) (hl : l < 128) : (∑ s ∈ range 8192, DZr (qB P p i) (dB D p i) (kB P p) (vB P p) i (a + 256 * (l / 64)) s * kB P p s l) * (1 / 8)
    = ∑ s ∈ range 8192, Stick.dz (zz P ((128 * p + l) / 64) (256 * i + a)) (dd P D ((128 * p + l) / 64) (256 * i + a)) (256 * i + a) s * (1 / 8) * P s (256 + (128 * p + l)) := by
  rw [Finset.sum_mul]
  refine Finset.sum_congr rfl fun s _ => ?_
  rw [DZr_eq P D p i (by omega)]
  unfold Tr kB
  rw [show (a + 256 * (l / 64)) / 256 = l / 64 by omega, show (a + 256 * (l / 64)) % 256 = a by omega, show (128 * p + l) / 64 = 2 * p + l / 64 by omega, show 256 + (128 * p + l) = 256 + 128 * p + l by ring]
  ring

/-- The log sticks that the kernel is given are the ones that its loop sums. -/
theorem total_row {r : ℕ} (hr : r < 512) : total P ((128 * p + 64 * (r / 256)) / 64) (256 * i + r % 256) = Stick.pre (Zr (qB P p i) (kB P p) r) (Tr i r) (Tr i r) := by
  rw [show Zr (qB P p i) (kB P p) r = _ from funext (Zr_eq P p i hr), show (128 * p + 64 * (r / 256)) / 64 = 2 * p + r / 256 by omega]
  rfl

end

/-! ### The points of a group -/

theorem zeros_V : k0_pay45 (F := Ideal) = encV fun _ => 0 := by
  funext j; exact Stick.zero_word
theorem zeros_V' : k0_pay46 (F := Ideal) = encV fun _ => 0 := by
  funext j; exact Stick.zero_word
theorem zeros_Q : k0_pay47 (F := Ideal) = encQ fun _ _ => 0 := by
  funext j; exact Stick.zero_word
theorem zeros_F : k0_pay32 (F := Ideal) = encF fun _ _ => 0 := by
  funext j; exact Stick.zero_word
theorem zeros_F' : k0_pay33 (F := Ideal) = encF fun _ _ => 0 := by
  funext j; exact Stick.zero_word

/-- Nothing is carried into a point's loop. -/
theorem start_state (q d K V : ℕ → ℕ → ℝ) (i : ℕ) (a b : ℕ → ℕ → ℝ) : ((k0_pay45 (F := Ideal), k0_pay46 (F := Ideal), k0_pay47 (F := Ideal)), encF a, encF b) = stAt q d K V i a b 0 := by
  unfold stAt
  rw [zeros_V, zeros_V', zeros_Q]
  simp only [Nat.mul_zero, Finset.range_zero, Finset.sum_empty, Nat.not_lt_zero, if_false, add_zero, Stick.pre, Stick.gpre]

variable (m : (ℓ : Loc nD τ sig) → Buf (Elt Ideal) ℓ) (c : Dev nD) {P D : ℕ → ℕ → ℝ}
  (hP : m ((c : Thread nD τ).loc main_arg0) = enc2 P) (hD : m ((c : Thread nD τ).loc main_arg1) = enc2 D)

/-- The body's loops on blocks of reals. -/
theorem loops_enc (P D : ℕ → ℕ → ℝ) (p i : ℕ) (hi : i < 32) (a b : ℕ → ℕ → ℝ) :
    lastFn (F := Ideal) (encA (qB P p i)) (encF (kB P p)) (encF (vB P p)) (encA (dB D p i)) (encA fun x l => total P ((128 * p + l) / 64) (256 * i + x)) ⟨i, hi⟩
      (tripsFn (encA (qB P p i)) (encF (kB P p)) (encF (vB P p)) (encA (dB D p i)) (encA fun x l => total P ((128 * p + l) / 64) (256 * i + x)) 0
        ((k0_pay45, k0_pay46, k0_pay47), encF a, encF b) i)
      = (encA fun x l => dqOut P D (256 * i + x) (128 * p + l),
        encF fun s l => a s l + ∑ x ∈ range 256, kTerm P D s (128 * p + l) (256 * i + x),
        encF fun s l => b s l + ∑ x ∈ range 256, vTerm P D s (128 * p + l) (256 * i + x)) := by
  have hlt := fun r (hr : r < 512) => total_row P p i hr
  rw [start_state (qB P p i) (dB D p i) (kB P p) (vB P p) i a b, trips_enc _ _ _ _ _ _ hlt a b hi _ le_rfl, last_enc _ _ _ _ _ _ hlt a b hi]
  rw [encA_congr fun x hx l hl => query_step P D p i x l hx hl]
  rw [encF_congr fun s _ l hl => congrArg (a s l + ·) (key_step P D p i s l hl)]
  rw [encF_congr fun s _ l hl => congrArg (b s l + ·) (value_step P D p i s l hl)]
  rfl

include hP hD in
/-- One point, from what the accumulated outputs held. -/
theorem body_enc (t : Fin cfg0.N) (a b : ℕ → ℕ → ℝ) (y9 y10 : Vec Ideal S8192x128 .f32)
    (h9 : enter (grid0.coords t) y9 = encF a) (h10 : enter (grid0.coords t) y10 = encF b) :
    bodyFn (grid0.coords t) (iblk m c 0 t) (iblk m c 1 t) (iblk m c 2 t) (iblk m c 3 t) (iblk m c 4 t) (iblk m c 5 t) y9 y10
      = (encA fun x l => dqOut P D (256 * (t.val % 32) + x) (128 * (t.val / 32) + l),
        encF fun s l => a s l + ∑ x ∈ range 256, kTerm P D s (128 * (t.val / 32) + l) (256 * (t.val % 32) + x),
        encF fun s l => b s l + ∑ x ∈ range 256, vTerm P D s (128 * (t.val / 32) + l) (256 * (t.val % 32) + x)) := by
  have hi : t.val % 32 < 32 := Nat.mod_lt _ (by norm_num)
  have hs : start (grid0.coords t) (Scalar.fptosi 32 (k0_pay43 (iblk m c 5 t))) = 0 := (congrArg (fun x => start (grid0.coords t) (Scalar.fptosi 32 (k0_pay43 x))) (blk5 m c t)).trans (start_eq _)
  unfold bodyFn
  rw [h9, h10, hs, blk0 m c t hP, blk1 m c t hP, blk2 m c t hP, blk3 m c t hD, blk4 m c t hP, Nat.sub_zero,
    show ownBlk (grid0.coords t) = ⟨t.val % 32, hi⟩ from Fin.ext (coord1 t), coord1 t]
  exact loops_enc P D (t.val / 32) (t.val % 32) hi a b

/-- What the points of a group before point `n` have added. -/
def kAcc (P D : ℕ → ℕ → ℝ) (p n s l : ℕ) : ℝ := ∑ x ∈ range (256 * n), kTerm P D s (128 * p + l) x
def vAcc (P D : ℕ → ℕ → ℝ) (p n s l : ℕ) : ℝ := ∑ x ∈ range (256 * n), vTerm P D s (128 * p + l) x

theorem acc_next (f : ℕ → ℝ) (n : ℕ) : (∑ x ∈ range (256 * n), f x) + ∑ x ∈ range 256, f (256 * n + x) = ∑ x ∈ range (256 * (n + 1)), f x := by
  rw [Nat.mul_succ, Finset.sum_range_add]

/-- What a point leaves. -/
def outVal (P D : ℕ → ℕ → ℝ) (p i : ℕ) : Vec Ideal S256x128 .f32 × Vec Ideal S8192x128 .f32 × Vec Ideal S8192x128 .f32 :=
  (encA fun x l => dqOut P D (256 * i + x) (128 * p + l),
    encF (kAcc P D p (i + 1)), encF (vAcc P D p (i + 1)))

include hP hD in
theorem point_enc (t : Fin cfg0.N) (y9 y10 : Vec Ideal S8192x128 .f32)
    (h9 : enter (grid0.coords t) y9 = encF (kAcc P D (t.val / 32) (t.val % 32))) (h10 : enter (grid0.coords t) y10 = encF (vAcc P D (t.val / 32) (t.val % 32))) :
    bodyFn (grid0.coords t) (iblk m c 0 t) (iblk m c 1 t) (iblk m c 2 t) (iblk m c 3 t) (iblk m c 4 t) (iblk m c 5 t) y9 y10
      = outVal P D (t.val / 32) (t.val % 32) :=
  (body_enc m c hP hD t _ _ y9 y10 h9 h10).trans (congrArg₂ (fun x y => (_, x, y))
    (encF_congr fun s _ l _ => acc_next (kTerm P D s (128 * (t.val / 32) + l)) _) (encF_congr fun s _ l _ => acc_next (vTerm P D s (128 * (t.val / 32) + l)) _))

include hP hD in
theorem outs_enc (n : ℕ) (hn : n < cfg0.N) : outsAt m c n hn = outVal P D (n / 32) (n % 32) := by
  induction n with
  | zero =>
    refine (outsAt_first m c ⟨0, hn⟩ rfl (k0_pay32 (F := Ideal)) (k0_pay33 (F := Ideal))).trans (point_enc m c hP hD ⟨0, hn⟩ _ _ ?_ ?_)
    · exact (if_pos (coord1 ⟨0, hn⟩)).trans (zeros_F.trans (encF_congr fun s _ l _ => Finset.sum_range_zero _ |>.symm))
    · exact (if_pos (coord1 ⟨0, hn⟩)).trans (zeros_F.trans (encF_congr fun s _ l _ => Finset.sum_range_zero _ |>.symm))
  | succ n ih =>
    by_cases h : (n + 1) % 32 = 0
    · have hc : (grid0.coords ⟨n + 1, hn⟩ 1).val = 0 := (coord1 ⟨n + 1, hn⟩).trans h
      refine (outsAt_first m c ⟨n + 1, hn⟩ h (k0_pay32 (F := Ideal)) (k0_pay33 (F := Ideal))).trans (point_enc m c hP hD ⟨n + 1, hn⟩ _ _ ?_ ?_)
      · refine (if_pos hc).trans (zeros_F.trans (encF_congr fun s _ l _ => ?_))
        show 0 = kAcc P D ((n + 1) / 32) ((n + 1) % 32) s l
        rw [h]; exact (Finset.sum_range_zero _).symm
      · refine (if_pos hc).trans (zeros_F.trans (encF_congr fun s _ l _ => ?_))
        show 0 = vAcc P D ((n + 1) / 32) ((n + 1) % 32) s l
        rw [h]; exact (Finset.sum_range_zero _).symm
    · have hc : ¬(grid0.coords ⟨n + 1, hn⟩ 1).val = 0 := fun e => h ((coord1 ⟨n + 1, hn⟩).symm.trans e)
      have e1 : n / 32 = (n + 1) / 32 := by omega
      have e2 : n % 32 + 1 = (n + 1) % 32 := by omega
      have ih' := ih (Nat.lt_of_succ_lt hn)
      rw [e1] at ih'
      refine (outsAt_next m c ⟨n + 1, hn⟩ h).trans (point_enc m c hP hD ⟨n + 1, hn⟩ _ _ ?_ ?_)
      · refine (if_neg hc).trans ((congrArg (fun x => x.2.1) ih').trans ?_)
        show encF (kAcc P D _ (n % 32 + 1)) = _
        rw [e2]
      · refine (if_neg hc).trans ((congrArg (fun x => x.2.2) ih').trans ?_)
        show encF (vAcc P D _ (n % 32 + 1)) = _
        rw [e2]

/-! ### The three arrays -/

include hP hD in
theorem final_6 : (dats m 0 c).arrAt 6 cfg0.N = enc2 (a := 8192) (b := 256) (dqOut P D) := by
  refine (dats m 0 c).arrAt_eq_of_covers 6 _ (by decide +kernel) fun t hf y => ?_
  have e := congrArg Prod.fst (outs_enc m c hP hD t.val t.isLt)
  have i0 : win0_6.index t 0 = t.val % 32 := congrFun (idx t).2.2.2.2.2.1 0
  have i1 : win0_6.index t 1 = t.val / 32 := congrFun (idx t).2.2.2.2.2.1 1
  have e0 : (((cfg0.win 6).blk t).view.emb y 0).val = 256 * (t.val % 32) + (y 0).val :=
    ((cfg0.win 6).rect_emb_val t y 0).trans (by show win0_6.index t 0 * 256 + (y 0).val = _; rw [i0, mul_comm])
  have e1 : (((cfg0.win 6).blk t).view.emb y 1).val = 128 * (t.val / 32) + (y 1).val :=
    ((cfg0.win 6).rect_emb_val t y 1).trans (by show win0_6.index t 1 * 128 + (y 1).val = _; rw [i1, mul_comm])
  rw [after0_6, e]
  exact congrArg Real.toEReal (congrArg₂ (dqOut P D) e0.symm e1.symm)

include hP hD in
theorem final_7 : (dats m 0 c).arrAt 7 cfg0.N = enc2 (a := 8192) (b := 256) fun s c => ∑ t ∈ range 8192, kTerm P D s c t := by
  refine (dats m 0 c).arrAt_eq_of_covers 7 _ (by decide +kernel) fun t hf y => ?_
  have e := congrArg (fun x => x.2.1) (outs_enc m c hP hD t.val t.isLt)
  have hl : t.val % 32 = 31 := (flush0_7 _).mp hf
  have i0 : win0_7.index t 0 = 0 := congrFun (idx t).2.2.2.2.2.2.1 0
  have i1 : win0_7.index t 1 = t.val / 32 := congrFun (idx t).2.2.2.2.2.2.1 1
  have e0 : (((cfg0.win 7).blk t).view.emb y 0).val = (y 0).val :=
    ((cfg0.win 7).rect_emb_val t y 0).trans (by show win0_7.index t 0 * 8192 + (y 0).val = _; rw [i0, zero_mul, zero_add])
  have e1 : (((cfg0.win 7).blk t).view.emb y 1).val = 128 * (t.val / 32) + (y 1).val :=
    ((cfg0.win 7).rect_emb_val t y 1).trans (by show win0_7.index t 1 * 128 + (y 1).val = _; rw [i1, mul_comm])
  rw [after0_7, e]
  refine congrArg Real.toEReal ((?_ : kAcc P D (t.val / 32) (t.val % 32 + 1) (y 0).val (y 1).val = _).trans (congrArg₂ (fun s c => ∑ t ∈ range 8192, kTerm P D s c t) e0.symm e1.symm))
  rw [hl]; rfl

include hP hD in
theorem final_8 : (dats m 0 c).arrAt 8 cfg0.N = enc2 (a := 8192) (b := 256) fun s c => ∑ t ∈ range 8192, vTerm P D s c t := by
  refine (dats m 0 c).arrAt_eq_of_covers 8 _ (by decide +kernel) fun t hf y => ?_
  have e := congrArg (fun x => x.2.2) (outs_enc m c hP hD t.val t.isLt)
  have hl : t.val % 32 = 31 := (flush0_8 _).mp hf
  have i0 : win0_8.index t 0 = 0 := congrFun (idx t).2.2.2.2.2.2.2 0
  have i1 : win0_8.index t 1 = t.val / 32 := congrFun (idx t).2.2.2.2.2.2.2 1
  have e0 : (((cfg0.win 8).blk t).view.emb y 0).val = (y 0).val :=
    ((cfg0.win 8).rect_emb_val t y 0).trans (by show win0_8.index t 0 * 8192 + (y 0).val = _; rw [i0, zero_mul, zero_add])
  have e1 : (((cfg0.win 8).blk t).view.emb y 1).val = 128 * (t.val / 32) + (y 1).val :=
    ((cfg0.win 8).rect_emb_val t y 1).trans (by show win0_8.index t 1 * 128 + (y 1).val = _; rw [i1, mul_comm])
  rw [after0_8, e]
  refine congrArg Real.toEReal ((?_ : vAcc P D (t.val / 32) (t.val % 32 + 1) (y 0).val (y 1).val = _).trans (congrArg₂ (fun s c => ∑ t ∈ range 8192, vTerm P D s c t) e0.symm e1.symm))
  rw [hl]; rfl

end Cert.KernelStickIdeal.Value

end
-- ==== Proof.Stick.Claim.lean ====
/- The stick-breaking backward call computes the gradients of the plain attention, and its frames. -/
module

public import proofs.«01_k».proof.Defs
public import proofs.«01_k».proof.Proof.Finite
public import proofs.«01_k».proof.Proof.Stick.Fold
public import proofs.«01_k».proof.Proof.Gen.KernelStick
public import proofs.«01_k».proof.Proof.Gen.Pre_finite_sb
public import proofs.«01_k».proof.Proof.Gen.ReferenceStickIdeal.Run
public import proofs.«01_k».proof.Proof.Gen.ReferenceStickIdeal.Read
public import Idealize.ShloMosaic.Lib.Claim
public import Idealize.ShloMosaic.Lib.Pipeline.FrameSuffix

@[expose] public section

set_option maxRecDepth 16384

noncomputable section

namespace Cert.KernelStickIdeal.Value

open Cert.KernelStickIdeal Cert.KernelStickIdeal.Gen Cert.Reals Idealize.ShloMosaic Idealize.ShloMosaic.TcCoe Idealize.SL.Sem
open Idealize.ShloMosaic.Pipeline (Dat)

/-- Under the precondition both arguments are arrays of reals. -/
theorem finite_args (x : FVec Ideal S8192x2824 .f32) (y : FVec Ideal S8192x1024 .f32) (h : Cert.Pre_finite_sb.fn (F := Ideal) x y = fun _ => 1#1) :
    (∃ P : ℕ → ℕ → ℝ, x = enc2 P) ∧ ∃ D : ℕ → ℕ → ℝ, y = enc2 D := by
  have h0 := congrFun h (Shape.Idx.first (by decide))
  unfold Cert.Pre_finite_sb.fn at h0
  obtain ⟨hx, hy⟩ := IntOp.andi_eq_one.1 h0
  haveI : Subsingleton Cert.Pre_finite_sb.S_.Idx := ⟨fun a b => funext fun q => q.elim0⟩
  exact ⟨⟨_, enc2_of_real x fun i => real_of_abs _ (Host.reduce_andi_all _ _ _ _ _ hx i)⟩, ⟨_, enc2_of_real y fun i => real_of_abs _ (Host.reduce_andi_all _ _ _ _ _ hy i)⟩⟩

/-- The kernel as it is run on words does the same memory operations. -/
theorem frame_kernel : Cert.quiescent_KernelStick := fun m ρ _ =>

  Eq.mp (by sl_kernel_rfl) (Cert.KernelStickIdeal.Gen.frame (F := Bits) m ρ)

/-- The reference terminates, leaves its arguments alone and every semaphore at zero. -/
theorem frame_reference : Cert.quiescent_ReferenceStickIdeal := fun m g _ =>
  (θ_run Cert.ReferenceStickIdeal.defs _ _).mono (fun r h => ⟨fun c => (h c).2.2.2, sem_eq_zero_of_no_sems (by decide) r.2⟩)
    (Cert.ReferenceStickIdeal.Value.run (F := Ideal) m g)

section
variable (m : (ℓ : Loc nD τ sig) → Buf (Elt Ideal) ℓ) (c : Dev nD)
  (h : Cert.Pre_finite_sb.fn (F := Ideal) (m ((c : Thread nD τ).loc main_arg0)) (m ((c : Thread nD τ).loc main_arg1)) = fun _ => 1#1)
include h

/-- Each result is the reference's value of the arguments. -/
theorem dq_eq : Cert.ReferenceStickIdeal.Read.val_main_v55 (F := Ideal) (m ((c : Thread nD τ).loc main_arg0)) (m ((c : Thread nD τ).loc main_arg1)) = (dats m 0 c).arrAt 6 cfg0.N := by
  obtain ⟨⟨P, hP⟩, ⟨D, hD⟩⟩ := finite_args _ _ h
  rw [final_6 m c hP hD, hP, hD]
  exact Cert.ReferenceStickIdeal.Value.dq_out P D

theorem dk_eq : Cert.ReferenceStickIdeal.Read.val_main_v53 (F := Ideal) (m ((c : Thread nD τ).loc main_arg0)) (m ((c : Thread nD τ).loc main_arg1)) = (dats m 0 c).arrAt 7 cfg0.N := by
  obtain ⟨⟨P, hP⟩, ⟨D, hD⟩⟩ := finite_args _ _ h
  rw [final_7 m c hP hD, hP, hD]
  exact Cert.ReferenceStickIdeal.Value.dk_out P D

theorem dv_eq : Cert.ReferenceStickIdeal.Read.val_main_v51 (F := Ideal) (m ((c : Thread nD τ).loc main_arg0)) (m ((c : Thread nD τ).loc main_arg1)) = (dats m 0 c).arrAt 8 cfg0.N := by
  obtain ⟨⟨P, hP⟩, ⟨D, hD⟩⟩ := finite_args _ _ h
  rw [final_8 m c hP hD, hP, hD]
  exact Cert.ReferenceStickIdeal.Value.dv_out P D
end

/-- So are the reference's results where both programs get the same arguments. -/
theorem results_eq (m : (ℓ : Loc nD τ sig) → Buf (Elt Ideal) ℓ)
    (m' : (ℓ : Loc Cert.ReferenceStickIdeal.nD Cert.ReferenceStickIdeal.τ Cert.ReferenceStickIdeal.sig) → Buf (Elt Ideal) ℓ) (c : Dev nD)
    (h : Cert.Pre_finite_sb.fn (F := Ideal) (m ((c : Thread nD τ).loc main_arg0)) (m ((c : Thread nD τ).loc main_arg1)) = fun _ => 1#1)
    (a0 : m' ((c.tc : Thread Cert.ReferenceStickIdeal.nD Cert.ReferenceStickIdeal.τ).loc Cert.ReferenceStickIdeal.main_arg0) = m ((c.tc : Thread nD τ).loc main_arg0))
    (a1 : m' ((c.tc : Thread Cert.ReferenceStickIdeal.nD Cert.ReferenceStickIdeal.τ).loc Cert.ReferenceStickIdeal.main_arg1) = m ((c.tc : Thread nD τ).loc main_arg1)) :
    Cert.ReferenceStickIdeal.Value.res_main_v55 m' c = (dats m 0 c).arrAt 6 cfg0.N
      ∧ Cert.ReferenceStickIdeal.Value.res_main_v53 m' c = (dats m 0 c).arrAt 7 cfg0.N
      ∧ Cert.ReferenceStickIdeal.Value.res_main_v51 m' c = (dats m 0 c).arrAt 8 cfg0.N := by
  refine ⟨(Cert.ReferenceStickIdeal.Read.val_main_v55_eq (F := Ideal) m' c).trans ?_, (Cert.ReferenceStickIdeal.Read.val_main_v53_eq (F := Ideal) m' c).trans ?_,
    (Cert.ReferenceStickIdeal.Read.val_main_v51_eq (F := Ideal) m' c).trans ?_⟩
  · rw [a0, a1]; exact dq_eq m c h
  · rw [a0, a1]; exact dk_eq m c h
  · rw [a0, a1]; exact dv_eq m c h

set_option maxHeartbeats 1000000 in
/-- For finite arguments the call's results are the gradients of the attention's queries, keys and values. -/
theorem algebraic : Cert.algebraic_KernelStickIdeal_ReferenceStickIdeal_pre_finite_sb := by
  pair_intro
  · run_from Cert.KernelStickIdeal.Gen.run_main m g
    · exact V_main_arg0 m c

  · refine (θ_run _ _ _).mono (fun r h c => ?_) (Cert.ReferenceStickIdeal.Value.run (F := Ideal) m' g')
    obtain ⟨e0, e1, e2⟩ := results_eq m m' c (hpre c) (hagree c).1 (hagree c).2
    have h := h c
    rw [e0, e1, e2] at h
    exact h

end Cert.KernelStickIdeal.Value
-- ==== Proof.Fox.Check.lean ====
module

public import proofs.«01_k».proof.Proof.Gen.KernelFoxIdeal.Loops
public import Idealize.ShloMosaic.Lib.WordArith
public import Idealize.ShloMosaic.Lib.LoopRemainder

@[expose] public section

/-!
The words of the forget-gated attention backward. A search downwards from the query block stops at a word `j`. Key blocks
`j + 1 … block - 1` follow, an odd one first and then pairs, and last the query's own block. Here `n` is `j + 1`: the side
condition and all offsets are proved for every `n ≤ block`.
-/

set_option maxRecDepth 16384

noncomputable section

namespace Cert.KernelFoxIdeal.Value

open Cert.KernelFoxIdeal Cert.KernelFoxIdeal.Gen Idealize.ShloMosaic

/-- The query block of a grid point is below 32. -/
theorem blk_lt (i : grid0.Coords) : (i 1).val < 32 := (i 1).isLt

/-- The word where the search stops when `n` is the first key block to take. -/
def stopW (n : Nat) : BitVec 32 := Scalar.subi (BitVec.ofNat 32 n) 1#32

/-- A word times 256 is a multiple of 256. -/
theorem dvd_mul (x : BitVec 32) : 256 ∣ (Scalar.muli x 256#32).toNat := by
  change 256 ∣ (x * 256#32).toNat
  rw [BitVec.toNat_mul]
  have h : (256#32 : BitVec 32).toNat = 256 := by decide
  rw [h]
  omega

theorem next_word (n : Nat) : Scalar.addi (stopW n) 1#32 = BitVec.ofNat 32 n := by
  change BitVec.ofNat 32 n - 1#32 + 1#32 = _
  exact sub_add_cancel _ _

/-- A grid point with a given query block. -/
def co (b : Fin 32) : grid0.Coords := fun a => match a with | 0 => (0 : Fin 4) | 1 => b

/-- The remainder by two of the number of key blocks before the query's own, as the program computes it. -/
def oddW (b : Nat) (w : BitVec 32) : BitVec 32 :=
  let two : BitVec 32 := Scalar.select (Scalar.cmpi .eq 2#32 0#32) 1#32 2#32
  let r : BitVec 32 := Scalar.remsi (Scalar.subi (Scalar.subi (BitVec.ofNat 32 b) w) 1#32) two
  Scalar.select (Scalar.andi (Scalar.xori (Scalar.cmpi .slt r 0#32) (Scalar.cmpi .slt two 0#32)) (Scalar.cmpi .ne r 0#32)) (Scalar.addi r two) r

theorem odd_word : ∀ b n : Fin 32, n.val ≤ b.val → oddW b.val (stopW n.val) = BitVec.ofNat 32 ((b.val - n.val) % 2) := by decide +kernel

theorem cond_word : ∀ b n : Fin 32, n.val ≤ b.val → (k0_cond2 (co b) (stopW n.val) = 1#1 ↔ (b.val - n.val) % 2 = 1) := by decide +kernel

theorem ub_word : ∀ b n : Fin 32, n.val ≤ b.val → (k0_t1_loop (co b) (stopW n.val)).ub = BitVec.ofNat 32 ((b.val - n.val) / 2)
    ∧ (k0_t2_loop (co b) (stopW n.val)).lb = BitVec.ofNat 32 ((b.val - n.val) / 2)
    ∧ (k0_t2_loop (co b) (stopW n.val)).ub = BitVec.ofNat 32 ((b.val - n.val) / 2) := by decide +kernel

section
variable (i : grid0.Coords) (n : Nat) (hn : n ≤ (i 1).val)
include hn

theorem odd_eq : oddW (i 1).val (stopW n) = BitVec.ofNat 32 (((i 1).val - n) % 2) :=
  odd_word ⟨(i 1).val, blk_lt i⟩ ⟨n, lt_of_le_of_lt hn (blk_lt i)⟩ hn

theorem cond_iff : k0_cond2 i (stopW n) = 1#1 ↔ ((i 1).val - n) % 2 = 1 :=
  cond_word ⟨(i 1).val, blk_lt i⟩ ⟨n, lt_of_le_of_lt hn (blk_lt i)⟩ hn

theorem loop1 : k0_t1_loop i (stopW n) = ⟨BitVec.ofNat 32 0, BitVec.ofNat 32 (((i 1).val - n) / 2), 1#32⟩ :=
  congrArg (fun u => (⟨0#32, u, 1#32⟩ : Scf.Loop 32)) (ub_word ⟨(i 1).val, blk_lt i⟩ ⟨n, lt_of_le_of_lt hn (blk_lt i)⟩ hn).1

theorem loop2 : k0_t2_loop i (stopW n) = ⟨BitVec.ofNat 32 (((i 1).val - n) / 2), BitVec.ofNat 32 (((i 1).val - n) / 2), 1#32⟩ :=
  congrArg₂ (fun l u => (⟨l, u, 1#32⟩ : Scf.Loop 32)) (ub_word ⟨(i 1).val, blk_lt i⟩ ⟨n, lt_of_le_of_lt hn (blk_lt i)⟩ hn).2.1
    (ub_word ⟨(i 1).val, blk_lt i⟩ ⟨n, lt_of_le_of_lt hn (blk_lt i)⟩ hn).2.2
end

theorem trips_words (a b : Nat) (hab : a ≤ b) (hb : b < 32) :
    Scf.trips (BitVec.ofNat 32 a) (BitVec.ofNat 32 b) 1#32 = b - a := by
  have h1 : (1#32 : BitVec 32).toInt = 1 := by decide
  unfold Scf.trips
  rw [WordArith.toInt_ofNat_small _ (by omega), WordArith.toInt_ofNat_small _ (by omega), h1]
  omega

theorem ok_words (a b : Nat) (hab : a ≤ b) (hb : b < 32) : Scf.OK (BitVec.ofNat 32 a) (BitVec.ofNat 32 b) 1#32 := by
  have h1 : (1#32 : BitVec 32).toInt = 1 := by decide
  refine ⟨by decide, ?_⟩
  rw [trips_words a b hab hb, WordArith.toInt_ofNat_small _ (by omega), h1]
  omega

section
variable (i : grid0.Coords) (n : Nat) (hn : n ≤ (i 1).val)
include hn

theorem trips1 : (k0_t1_loop i (stopW n)).trips = ((i 1).val - n) / 2 := by
  have hi := blk_lt i
  rw [loop1 i n hn]; exact (trips_words _ _ (Nat.zero_le _) (by omega)).trans (Nat.sub_zero _)

theorem trips2 : (k0_t2_loop i (stopW n)).trips = 0 := by
  have hi := blk_lt i
  rw [loop2 i n hn]; exact (trips_words _ _ le_rfl (by omega)).trans (Nat.sub_self _)

/-- The first key block of the pair that trip `k` takes. -/
theorem first_pos (k : Nat) (hk : k < ((i 1).val - n) / 2) :
    (Scalar.muli (Scalar.addi (Scalar.addi (Scalar.addi (stopW n) 1#32) (oddW (i 1).val (stopW n))) (Scalar.muli 2#32 (Scf.iv 0#32 1#32 k))) 256#32).toNat
      = (n + ((i 1).val - n) % 2 + 2 * k) * 256 := by
  have hi := blk_lt i
  rw [odd_eq i n hn, next_word]
  change ((BitVec.ofNat 32 n + BitVec.ofNat 32 (((i 1).val - n) % 2) + 2#32 * (0#32 + BitVec.ofNat 32 k * 1#32)) * 256#32).toNat = _
  simp only [BitVec.toNat_mul, BitVec.toNat_add, BitVec.toNat_ofNat]
  omega

/-- The second key block of that pair. -/
theorem second_pos (k : Nat) (hk : k < ((i 1).val - n) / 2) :
    (Scalar.muli (Scalar.addi (Scalar.addi (Scalar.addi (Scalar.addi (stopW n) 1#32) (oddW (i 1).val (stopW n))) (Scalar.muli 2#32 (Scf.iv 0#32 1#32 k))) 1#32) 256#32).toNat
      = (n + ((i 1).val - n) % 2 + 2 * k + 1) * 256 := by
  have hi := blk_lt i
  rw [odd_eq i n hn, next_word]
  change ((BitVec.ofNat 32 n + BitVec.ofNat 32 (((i 1).val - n) % 2) + 2#32 * (0#32 + BitVec.ofNat 32 k * 1#32) + 1#32) * 256#32).toNat = _
  simp only [BitVec.toNat_mul, BitVec.toNat_add, BitVec.toNat_ofNat]
  omega

theorem trip_lt (k : Fin (k0_t1_loop i (stopW n)).trips) : k.val < ((i 1).val - n) / 2 := lt_of_lt_of_eq k.isLt (trips1 i n hn)

theorem off8 (k : Fin (k0_t1_loop i (stopW n)).trips) : k0_off8 i (stopW n) k = ![(n + ((i 1).val - n) % 2 + 2 * k.val) * 256, 0] :=
  congrArg (fun p : Nat => (![p, 0] : Fin 2 → Nat)) (first_pos i n hn k.val (trip_lt i n hn k))
theorem off9 (k : Fin (k0_t1_loop i (stopW n)).trips) : k0_off9 i (stopW n) k = ![0, 0, (n + ((i 1).val - n) % 2 + 2 * k.val) * 256] :=
  congrArg (fun p : Nat => (![0, 0, p] : Fin 3 → Nat)) (first_pos i n hn k.val (trip_lt i n hn k))
theorem off10 (k : Fin (k0_t1_loop i (stopW n)).trips) : k0_off10 i (stopW n) k = ![0, 1, (n + ((i 1).val - n) % 2 + 2 * k.val) * 256] :=
  congrArg (fun p : Nat => (![0, 1, p] : Fin 3 → Nat)) (first_pos i n hn k.val (trip_lt i n hn k))
theorem off11 (k : Fin (k0_t1_loop i (stopW n)).trips) : k0_off11 i (stopW n) k = ![(n + ((i 1).val - n) % 2 + 2 * k.val + 1) * 256, 0] :=
  congrArg (fun p : Nat => (![p, 0] : Fin 2 → Nat)) (second_pos i n hn k.val (trip_lt i n hn k))
theorem off12 (k : Fin (k0_t1_loop i (stopW n)).trips) : k0_off12 i (stopW n) k = ![0, 0, (n + ((i 1).val - n) % 2 + 2 * k.val + 1) * 256] :=
  congrArg (fun p : Nat => (![0, 0, p] : Fin 3 → Nat)) (second_pos i n hn k.val (trip_lt i n hn k))
theorem off13 (k : Fin (k0_t1_loop i (stopW n)).trips) : k0_off13 i (stopW n) k = ![0, 1, (n + ((i 1).val - n) % 2 + 2 * k.val + 1) * 256] :=
  congrArg (fun p : Nat => (![0, 1, p] : Fin 3 → Nat)) (second_pos i n hn k.val (trip_lt i n hn k))

theorem odd_pos : (Scalar.muli (Scalar.addi (stopW n) 1#32) 256#32).toNat = n * 256 := by
  have hi := blk_lt i
  rw [next_word]
  change (BitVec.ofNat 32 n * 256#32).toNat = _
  simp only [BitVec.toNat_mul, BitVec.toNat_ofNat]
  omega

theorem off5 : k0_off5 (stopW n) = ![n * 256, 0] := congrArg (fun p : Nat => (![p, 0] : Fin 2 → Nat)) (odd_pos i n hn)
theorem off6 : k0_off6 (stopW n) = ![0, 0, n * 256] := congrArg (fun p : Nat => (![0, 0, p] : Fin 3 → Nat)) (odd_pos i n hn)
theorem off7 : k0_off7 (stopW n) = ![0, 1, n * 256] := congrArg (fun p : Nat => (![0, 1, p] : Fin 3 → Nat)) (odd_pos i n hn)
end

theorem own_pos (b : Nat) (hb : b < 32) : (Scalar.muli (BitVec.ofNat 32 b) 256#32).toNat = b * 256 := by
  change (BitVec.ofNat 32 b * 256#32).toNat = _
  simp only [BitVec.toNat_mul, BitVec.toNat_ofNat]
  omega

theorem off20 (i : grid0.Coords) : k0_off20 i = ![(i 1).val * 256, 0] := congrArg (fun p : Nat => (![p, 0] : Fin 2 → Nat)) (own_pos _ (blk_lt i))
theorem off21 (i : grid0.Coords) : k0_off21 i = ![0, 0, (i 1).val * 256] := congrArg (fun p : Nat => (![0, 0, p] : Fin 3 → Nat)) (own_pos _ (blk_lt i))
theorem off22 (i : grid0.Coords) : k0_off22 i = ![0, 1, (i 1).val * 256] := congrArg (fun p : Nat => (![0, 1, p] : Fin 3 → Nat)) (own_pos _ (blk_lt i))

/-- The block that the search looks at next: the one before, or block 0 where there is none. -/
theorem probe_pos : ∀ n : Fin 32, (Scalar.muli (Scalar.maxsi (stopW n.val) 0#32) 256#32).toNat = (n.val - 1) * 256 := by decide +kernel

theorem off1 (i : grid0.Coords) : k0_off1 i = ![0, 0, ((i 1).val - 1) * 256] :=
  congrArg (fun p : Nat => (![0, 0, p] : Fin 3 → Nat)) (probe_pos ⟨(i 1).val, blk_lt i⟩)
theorem off2 (i : grid0.Coords) : k0_off2 i = ![0, 1, ((i 1).val - 1) * 256] :=
  congrArg (fun p : Nat => (![0, 1, p] : Fin 3 → Nat)) (probe_pos ⟨(i 1).val, blk_lt i⟩)

/-- The word before a stop word, of a key block that is there. -/
theorem prev_word (n : Nat) : Scalar.subi (stopW (n + 1)) 1#32 = stopW n := by
  change BitVec.ofNat 32 (n + 1) - 1#32 - 1#32 = BitVec.ofNat 32 n - 1#32
  rw [BitVec.ofNat_add]
  simp

theorem off3 (n : Nat) (h : n < 32) : k0_off3 (stopW (n + 1)) = ![0, 0, (n - 1) * 256] := by
  unfold k0_off3; dsimp only; rw [prev_word]
  exact congrArg (fun p : Nat => (![0, 0, p] : Fin 3 → Nat)) (probe_pos ⟨n, h⟩)
theorem off4 (n : Nat) (h : n < 32) : k0_off4 (stopW (n + 1)) = ![0, 1, (n - 1) * 256] := by
  unfold k0_off4; dsimp only; rw [prev_word]
  exact congrArg (fun p : Nat => (![0, 1, p] : Fin 3 → Nat)) (probe_pos ⟨n, h⟩)

/-- The search's test that a block is there. -/
theorem there_word : ∀ n : Fin 32, Scalar.cmpi .sge (stopW n.val) 0#32 = if n.val = 0 then 0#1 else 1#1 := by decide +kernel

theorem inb2 (p : Nat) (h : p < 32) (a : Fin 2) : (![p * 256, 0] : Fin 2 → Nat) a + S256x128.size a ≤ S8192x128.size a := by
  match a with
  | 0 => change p * 256 + 256 ≤ 8192; omega
  | 1 => change 0 + 128 ≤ 128; omega

theorem inb3 (q p : Nat) (hq : q < 2) (h : p < 32) (a : Fin 3) : (![0, q, p * 256] : Fin 3 → Nat) a + S1x1x256.size a ≤ S1x2x8192.size a := by
  match a with
  | 0 => change 0 + 1 ≤ 1; omega
  | 1 => change q + 1 ≤ 2; omega
  | 2 => change p * 256 + 256 ≤ 8192; omega

/-- The side condition inside the search holds at every block that is there. -/
theorem chk1 (n : Nat) (h : n < 32) : k0_chk1 (stopW (n + 1)) :=
  ⟨dvd_mul _, fun a => by rw [off3 n h]; exact inb3 0 _ (by omega) (by omega) a, dvd_mul _,
    fun a => by rw [off4 n h]; exact inb3 1 _ (by omega) (by omega) a⟩

/-- The side condition after the search holds wherever it stops. -/
theorem chk2 (i : grid0.Coords) (n : Nat) (hn : n ≤ (i 1).val) : k0_chk2 i (stopW n) := by
  have hi := blk_lt i
  have no2 : ∀ k : Fin (k0_t2_loop i (stopW n)).trips, False := fun k => Nat.not_lt_zero _ (lt_of_lt_of_eq k.isLt (trips2 i n hn))
  have lt := trip_lt i n hn
  refine ⟨⟨fun _ => dvd_mul _, fun _ a => ?_, fun _ => dvd_mul _, fun _ => dvd_mul _, fun _ a => ?_, fun _ => dvd_mul _, fun _ a => ?_, fun _ => dvd_mul _,
    fun _ => dvd_mul _, fun _ => dvd_mul _, fun _ => dvd_mul _, fun _ => dvd_mul _, by rw [loop1 i n hn]; exact ok_words _ _ (Nat.zero_le _) (by omega),
    fun _ => dvd_mul _, fun k a => ?_, fun _ => dvd_mul _, fun _ => dvd_mul _, fun k a => ?_, fun _ => dvd_mul _, fun k a => ?_, fun _ => dvd_mul _,
    fun _ => dvd_mul _, fun _ => dvd_mul _, fun _ => dvd_mul _, fun _ => dvd_mul _, fun _ => dvd_mul _, fun k a => ?_, fun _ => dvd_mul _,
    fun _ => dvd_mul _, fun k a => ?_, fun _ => dvd_mul _, fun k a => ?_⟩,
    fun _ => dvd_mul _, fun _ => dvd_mul _, fun _ => dvd_mul _, fun _ => dvd_mul _, fun _ => dvd_mul _,
    by rw [loop2 i n hn]; exact ok_words _ _ le_rfl (by omega),
    fun k => (no2 k).elim, fun k => (no2 k).elim, fun k => (no2 k).elim, fun k => (no2 k).elim, fun k => (no2 k).elim, fun k => (no2 k).elim,
    fun k => (no2 k).elim, fun k => (no2 k).elim, fun k => (no2 k).elim, fun k => (no2 k).elim, fun k => (no2 k).elim, fun k => (no2 k).elim,
    fun k => (no2 k).elim, fun k => (no2 k).elim, fun k => (no2 k).elim, fun k => (no2 k).elim, fun k => (no2 k).elim, fun k => (no2 k).elim,
    fun k => (no2 k).elim, fun k => (no2 k).elim, fun k => (no2 k).elim, fun k => (no2 k).elim, fun k => (no2 k).elim, fun k => (no2 k).elim⟩
  · rw [off5 i n hn]; exact inb2 _ (by omega) a
  · rw [off6 i n hn]; exact inb3 0 _ (by omega) (by omega) a
  · rw [off7 i n hn]; exact inb3 1 _ (by omega) (by omega) a
  · have := lt k; rw [off8 i n hn]; exact inb2 _ (by omega) a
  · have := lt k; rw [off9 i n hn]; exact inb3 0 _ (by omega) (by omega) a
  · have := lt k; rw [off10 i n hn]; exact inb3 1 _ (by omega) (by omega) a
  · have := lt k; rw [off11 i n hn]; exact inb2 _ (by omega) a
  · have := lt k; rw [off12 i n hn]; exact inb3 0 _ (by omega) (by omega) a
  · have := lt k; rw [off13 i n hn]; exact inb3 1 _ (by omega) (by omega) a

end Cert.KernelFoxIdeal.Value

end
-- ==== Proof.Fox.Chunk.lean ====
module

public import proofs.«01_k».proof.Proof.Fox.Check
public import Idealize.ShloMosaic.Lib.VecWindow

/-!
What the body of the forget-gated attention backward does to values: the search for the first key block, one key block, the
blocks before the query's own, and the query's own block under its mask, all as plain functions.
-/

@[expose] public section

set_option maxRecDepth 16384

noncomputable section

namespace Cert.KernelFoxIdeal.Gen

open Cert.KernelFoxIdeal Cert.KernelFoxIdeal.Value Idealize.ShloMosaic Idealize.ShloMosaic.TcCoe Idealize.SL.Sem

variable {F : FTy → Type} [FloatOps F] [Named F]

/-- Where key block `b` begins in an array of rows, and in row `q` of the array of columns. -/
def blkAt (b : Fin 32) : Fin 2 → ℕ := ![b.val * 256, 0]
def colAt (q : Fin 2) (b : Fin 32) : Fin 3 → ℕ := ![0, q.val, b.val * 256]

theorem blkIn (b : Fin 32) : ∀ a, blkAt b a + S256x128.size a ≤ S8192x128.size a := inb2 _ b.isLt
theorem colIn (q : Fin 2) (b : Fin 32) : ∀ a, colAt q b a + S1x1x256.size a ≤ S1x2x8192.size a := inb3 _ _ q.isLt b.isLt

/-- Key block `b` of a whole array, and the array with it replaced. -/
def rowsOf (x : Vec F S8192x128 .f32) (b : Fin 32) : Vec F S256x128 .f32 := VecWindow.window x (blkAt b) S256x128.size (blkIn b)
def setRows (x : Vec F S8192x128 .f32) (b : Fin 32) (w : Vec F S256x128 .f32) : Vec F S8192x128 .f32 := VecWindow.put x (blkAt b) S256x128.size w
def colsOf (x : Vec F S1x2x8192 .f32) (q : Fin 2) (b : Fin 32) : Vec F S1x1x256 .f32 := VecWindow.window x (colAt q b) S1x1x256.size (colIn q b)
def setCols (x : Vec F S1x2x8192 .f32) (q : Fin 2) (b : Fin 32) (w : Vec F S1x1x256 .f32) : Vec F S1x2x8192 .f32 := VecWindow.put x (colAt q b) S1x1x256.size w

theorem rowsOf_read {sp : Space} (v : View sig .tc sp S8192x128 .f32) (f : v.ty.Contents (Elt F)) {off : Fin 2 → ℕ} (inb) (b : Fin 32) (h : off = blkAt b) :
    v.readAt (Elt F) (Rect.unit (s := S8192x128) off S256x128.size inb).toLoadRect f = rowsOf (v.read (Elt F) f) b :=
  View.readAt_unit v f inb h (blkIn b)
theorem colsOf_read {sp : Space} (v : View sig .tc sp S1x2x8192 .f32) (f : v.ty.Contents (Elt F)) {off : Fin 3 → ℕ} (inb) (q : Fin 2) (b : Fin 32) (h : off = colAt q b) :
    v.readAt (Elt F) (Rect.unit (s := S1x2x8192) off S1x1x256.size inb).toLoadRect f = colsOf (v.read (Elt F) f) q b :=
  View.readAt_unit v f inb h (colIn q b)

theorem setRows_read {sp : Space} (v : View sig .tc sp S8192x128 .f32) (f : v.ty.Contents (Elt F)) {off : Fin 2 → ℕ} (inb) (w : Vec F S256x128 .f32)
    (L : List (View.Piece (Elt F) S8192x128 .f32)) (b : Fin 32) (h : off = blkAt b) :
    v.read (Elt F) (v.writes (Elt F) f (⟨Rect.unit (s := S8192x128) off S256x128.size inb, w⟩ :: L)) = setRows (v.read (Elt F) (v.writes (Elt F) f L)) b w :=
  View.read_writes_cons_put v f inb w L h
theorem setCols_read {sp : Space} (v : View sig .tc sp S1x2x8192 .f32) (f : v.ty.Contents (Elt F)) {off : Fin 3 → ℕ} (inb) (w : Vec F S1x1x256 .f32)
    (L : List (View.Piece (Elt F) S1x2x8192 .f32)) (q : Fin 2) (b : Fin 32) (h : off = colAt q b) :
    v.read (Elt F) (v.writes (Elt F) f (⟨Rect.unit (s := S1x2x8192) off S1x1x256.size inb, w⟩ :: L)) = setCols (v.read (Elt F) (v.writes (Elt F) f L)) q b w :=
  View.read_writes_cons_put v f inb w L h

/-- What a grid point's blocks give to every key block: the two score bounds of the search, the biases of the two heads, the
queries, the output's cotangents, and the sums of the softmax derivative. -/
structure Point (F : FTy → Type) where
  (m0 m1 b0 b1 : FVec F S256x1 .f32)
  (q2 do2 : FVec F S512x128 .bf16)
  delta : FVec F S512x1 .f32

def pointOf (arg0 : BitVec 32) (x0 : Vec F S256x128 .f32) (x3 : Vec F S256x128 .f32) (x5 : Vec F S1x128 .f32) (x6 x7 : Vec F S256x128 .f32) (x8 : Vec F S256x128 .f32) : Point F where
  m0 := k0_pay78 (k0_pay72 arg0 x8 x3) (k0_pay74 x5) (k0_pay75 (k0_pay61 x0)) (k0_pay76 k0_pay59) k0_pay77
  m1 := k0_pay79 k0_pay60 (k0_pay61 x0) (k0_pay73 arg0 x8 x3) (k0_pay74 x5)
  b0 := k0_pay72 arg0 x8 x3
  b1 := k0_pay73 arg0 x8 x3
  q2 := k0_pay82 (k0_pay63 x0) (k0_pay64 x0)
  do2 := k0_pay83 (k0_pay65 x6) (k0_pay66 x6)
  delta := k0_pay84 (k0_pay68 (k0_pay67 x6 x7)) (k0_pay69 k0_pay60 (k0_pay62 x6 x7))

/-- The search's test: whether the block before `n` is there and its bound passes the threshold. -/
def liveW (x4 : Vec F S1x2x8192 .f32) (p : Point F) (n : ℕ) : BitVec 1 :=
  Scalar.andi (Scalar.cmpi .sge (stopW n) 0#32)
    (Scalar.cmpf .ogt (k0_pay2 p.m0 p.m1 (colsOf x4 0 (Fin.ofNat 32 (n - 1))) (colsOf x4 1 (Fin.ofNat 32 (n - 1)))) (Named.named κ "no_skip" 0xC2DC0000#32))

theorem liveW_zero (x4 : Vec F S1x2x8192 .f32) (p : Point F) : liveW x4 p 0 = 0#1 := by
  have h : Scalar.cmpi .sge (stopW 0) 0#32 = 0#1 := by decide
  unfold liveW
  rw [h]
  exact BitVec.zero_and

/-- The first key block that the search from `n` downwards leaves to be taken. -/
def firstOf (x4 : Vec F S1x2x8192 .f32) (p : Point F) : ℕ → ℕ
  | 0 => 0
  | n + 1 => if liveW x4 p (n + 1) = 1#1 then firstOf x4 p n else n + 1

theorem firstOf_le (x4 : Vec F S1x2x8192 .f32) (p : Point F) (n : ℕ) : firstOf x4 p n ≤ n := by
  induction n with
  | zero => exact le_rfl
  | succ n ih =>
    unfold firstOf
    split
    · exact Nat.le_succ_of_le ih
    · exact le_rfl

/-- What the key blocks carry: the running gradient of the queries and the running row sums; then the gradients of keys, values
and biases. -/
abbrev Carry (F : FTy → Type) : Type := FVec F S512x128 .f32 × FVec F S512x1 .f32
abbrev State (F : FTy → Type) : Type := Carry F × Vec F S8192x128 .f32 × Vec F S8192x128 .f32 × Vec F S1x2x8192 .f32

/-- Both rows of the bias gradient at key block `b` lowered by the column sums of `ds`. -/
def biasFn (ds : FVec F S512x256 .f32) (y : Vec F S1x2x8192 .f32) (b : Fin 32) : Vec F S1x2x8192 .f32 :=
  let y1 := setCols y 0 b (k0_pay10 ds (colsOf y 0 b))
  setCols y1 1 b (k0_pay11 ds (colsOf y1 1 b))

/-- One key block before the query's own. -/
def chunkFn (p : Point F) (x1 x2 : Vec F S8192x128 .f32) (x4 : Vec F S1x2x8192 .f32) (b : Fin 32) (s : State F) : State F :=
  let kb := rowsOf x1 b
  let vb := rowsOf x2 b
  let c0 := colsOf x4 0 b
  let c1 := colsOf x4 1 b
  let ds := k0_pay4 p.b0 p.b1 p.q2 p.do2 p.delta kb vb c0 c1
  ((k0_pay22 s.1.1 (k0_pay5 p.b0 p.b1 p.q2 p.do2 p.delta kb vb c0 c1) kb, k0_pay23 s.1.2 ds),
    setRows s.2.1 b (k0_pay8 (k0_pay6 (rowsOf s.2.1 b)) (k0_pay7 p.b0 p.b1 p.q2 p.do2 p.delta kb vb c0 c1)),
    setRows s.2.2.1 b (k0_pay9 p.do2 (k0_pay3 p.b0 p.b1 p.q2 kb c0 c1) (rowsOf s.2.2.1 b)),
    biasFn ds s.2.2.2 b)

/-- The first `n` key blocks from `s0` on. -/
def chunksFn (p : Point F) (x1 x2 : Vec F S8192x128 .f32) (x4 : Vec F S1x2x8192 .f32) (s0 : ℕ) (s : State F) : ℕ → State F
  | 0 => s
  | n + 1 => chunkFn p x1 x2 x4 (Fin.ofNat 32 (s0 + n)) (chunksFn p x1 x2 x4 s0 s n)

/-- What an accumulated output holds when the body has passed its test: zeros at a row's first query block, else what it held. -/
def enter {S : Shape} {e : EltTy} (i : grid0.Coords) (z y : Vec F S e) : Vec F S e := if (i 1).val = 0 then z else y

end Cert.KernelFoxIdeal.Gen

end
-- ==== Proof.Fox.While.lean ====
module

public import proofs.«01_k».proof.Proof.Fox.Chunk
public import Idealize.ShloMosaic.Lib.Tactic

@[expose] public section

/-!
The search for the first key block, a loop under a condition: run from any block, it stops where `firstOf` says.
-/

set_option maxRecDepth 16384

noncomputable section

namespace Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelFoxIdeal.Value

variable {F : FTy → Type} [FloatOps F] [Named F]

local notation "𝕄" => MT nD τ sig Unit (Elt F) ℕ (UR sig nD τ) ℕ

/-- The search is entered at most once for each block: its variant is the block. -/
abbrev 𝒱₀ : Variants := Variants.nat

section
variable (c : Dev nD) (i : grid0.Coords) (arg6 : Memref sig .tc .vmem S1x2x8192 .f32) (harg6 : arg6.IsWhole)
  (x4 : Vec F S1x2x8192 .f32) (p : Point F)

/-- The array that the search reads. -/
def held : sProp 𝕄 := arg6.view.loc (c : Thread nD τ) ↦[arg6.view.set]{fullShare} harg6.unread x4

/-- The search from block `n`: it keeps the array and returns the word before the first block to take. -/
def search (n : ℕ) : sWPT 𝕄 (BitVec 32 × BitVec 1) := do
  sWPT.consume (held c arg6 harg6 x4)
  let r ← sWPT.arbitrary
  sWPT.assume (r.1 = stopW (firstOf x4 p n))
  sWPT.produce (held c arg6 harg6 x4)
  pure r

theorem search_apply (n : ℕ) (K : BitVec 32 × BitVec 1 → sProp 𝕄) :
    search c arg6 harg6 x4 p n K
      = iprop(held c arg6 harg6 x4 ∗ ∀ r : BitVec 32 × BitVec 1, ⌜r.1 = stopW (firstOf x4 p n)⌝ -∗ (held c arg6 harg6 x4 -∗ K r)) := rfl

theorem search_le (E : Set ℕ) :
    ∀ n, n ≤ 32 → ∀ K, search c arg6 harg6 x4 p n K
      ⊢ wp frame (wpE (defs₀ (F := F)) 𝒱₀ (c : Thread nD τ) (some n)) E
          (defs₀ (F := F) .tc 1 ⟨i, arg6, harg6, p.m0, p.m1, stopW n, liveW x4 p n⟩) K := by
  intro n
  have stop : ∀ k b, liveW x4 p k = b → ¬b = 1#1 → firstOf x4 p k = k → ∀ K, search c arg6 harg6 x4 p k K
      ⊢ wp frame (wpE (defs₀ (F := F)) 𝒱₀ (c : Thread nD τ) (some k)) E
          (defs₀ (F := F) .tc 1 ⟨i, arg6, harg6, p.m0, p.m1, stopW k, b⟩) K := by
    intro k b _ hl hf K
    rw [search_apply, hf]
    show _ ⊢ wp frame (wpE (defs₀ (F := F)) 𝒱₀ (c : Thread nD τ) (some k)) E
      (cc0_while1 i arg6 harg6 p.m0 p.m1 (stopW k) b) K
    unfold cc0_while1
    simp only [hl, ↓reduceIte, Prog.pure_eq_ret]
    iintro ⟨H, Hk⟩
    rw [wp_ret]; imodintro
    iapply Hk
    · ipureintro; rfl
    · iexact H
  induction n with
  | zero =>
    intro _
    exact stop 0 _ rfl (by rw [liveW_zero]; decide) rfl
  | succ n ih =>
    intro hn K
    by_cases hl : liveW x4 p (n + 1) = 1#1
    · have hf : firstOf x4 p (n + 1) = firstOf x4 p n := if_pos hl
      have hm : (n - 1) % 32 = n - 1 := Nat.mod_eq_of_lt (by omega)
      have o3 : k0_off3 (stopW (n + 1)) = colAt 0 (Fin.ofNat 32 (n - 1)) := by
        rw [off3 n (by omega)]; show _ = ![0, 0, ((n - 1) % 32) * 256]; rw [hm]
      have o4 : k0_off4 (stopW (n + 1)) = colAt 1 (Fin.ofNat 32 (n - 1)) := by
        rw [off4 n (by omega)]; show _ = ![0, 1, ((n - 1) % 32) * 256]; rw [hm]
      have e3 : ∀ inb, arg6.view.readAt (Elt F) (Rect.unit (s := S1x2x8192) (k0_off3 (stopW (n + 1))) S1x1x256.size inb).toLoadRect (harg6.unread x4)
          = colsOf x4 0 (Fin.ofNat 32 (n - 1)) := fun inb =>
        (colsOf_read _ _ inb 0 _ o3).trans (congrArg (colsOf · 0 _) (harg6.read_unread x4))
      have e4 : ∀ inb, arg6.view.readAt (Elt F) (Rect.unit (s := S1x2x8192) (k0_off4 (stopW (n + 1))) S1x1x256.size inb).toLoadRect (harg6.unread x4)
          = colsOf x4 1 (Fin.ofNat 32 (n - 1)) := fun inb =>
        (colsOf_read _ _ inb 1 _ o4).trans (congrArg (colsOf · 1 _) (harg6.read_unread x4))
      rw [search_apply, hf, hl]
      show _ ⊢ wp frame (wpE (defs₀ (F := F)) 𝒱₀ (c : Thread nD τ) (some (n + 1))) E
        (cc0_while1 i arg6 harg6 p.m0 p.m1 (stopW (n + 1)) 1#1) K
      simp only [cc0_while1_eq_skeleton]; unfold cc0_while1_skel
      simp only [↓reduceIte, Prog.lift, Prog.bind_op, Prog.bind_ret, Prog.pure_eq_ret]
      unfold held
      iintro ⟨H, Hk⟩
      iapply (wp_assume 𝒱₀ (c : Thread nD τ) (some (n + 1)) E (chk1 n (by omega)))
      iapply (wp_load 𝒱₀ (c : Thread nD τ) (some (n + 1)) E (m := arg6) (View.setOn_subset_set _ _)) $$ H; iintro H
      iapply (wp_load 𝒱₀ (c : Thread nD τ) (some (n + 1)) E (m := arg6) (View.setOn_subset_set _ _)) $$ H; iintro H
      rw [e3, e4, prev_word]
      iapply (wp_call_spec 𝒱₀ (c : Thread nD τ) (some (n + 1)) E (search c arg6 harg6 x4 p n) n
        (fun u hu => by cases hu; exact Nat.lt_succ_self n) (ih (by omega)))
      rw [search_apply]; unfold held
      isplitl [H]; · iexact H
      iintro %r %hr H
      rw [wp_ret]; imodintro
      iapply Hk
      · ipureintro; exact hr
      · iexact H
    · exact stop (n + 1) _ rfl hl (if_neg hl) K
end

end Cert.KernelFoxIdeal.Gen

end
-- ==== Proof.Fox.Step.lean ====
module

public import proofs.«01_k».proof.Proof.Fox.While

@[expose] public section

/-!
One trip of the loop over earlier key blocks, two of them, and the whole loop, as plain functions of the blocks.
-/

set_option maxRecDepth 16384

noncomputable section

namespace Cert.KernelFoxIdeal.Gen

open Cert.KernelFoxIdeal Cert.KernelFoxIdeal.Value Idealize.ShloMosaic Idealize.ShloMosaic.TcCoe Idealize.SL.Sem

variable {F : FTy → Type} [FloatOps F] [Named F]

/-- What a key block leaves of its carry, of its gradients of keys and values, and of its two rows of the bias gradient, from the
blocks read. -/
abbrev dsOf (p : Point F) (kb vb : Vec F S256x128 .f32) (c0 c1 : Vec F S1x1x256 .f32) : FVec F S512x256 .f32 :=
  k0_pay4 p.b0 p.b1 p.q2 p.do2 p.delta kb vb c0 c1
abbrev carryOf (p : Point F) (kb vb : Vec F S256x128 .f32) (c0 c1 : Vec F S1x1x256 .f32) (s : Carry F) : Carry F :=
  (k0_pay22 s.1 (k0_pay5 p.b0 p.b1 p.q2 p.do2 p.delta kb vb c0 c1) kb, k0_pay23 s.2 (dsOf p kb vb c0 c1))
abbrev keyOf (p : Point F) (kb vb : Vec F S256x128 .f32) (c0 c1 : Vec F S1x1x256 .f32) (y : Vec F S256x128 .f32) : FVec F S256x128 .f32 :=
  k0_pay8 (k0_pay6 y) (k0_pay7 p.b0 p.b1 p.q2 p.do2 p.delta kb vb c0 c1)
abbrev valOf (p : Point F) (kb : Vec F S256x128 .f32) (c0 c1 : Vec F S1x1x256 .f32) (y : Vec F S256x128 .f32) : FVec F S256x128 .f32 :=
  k0_pay9 p.do2 (k0_pay3 p.b0 p.b1 p.q2 kb c0 c1) y

section
variable (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
  (p : Point F) (x1 x2 : Vec F S8192x128 .f32) (x4 : Vec F S1x2x8192 .f32)
  (a1 w : BitVec 32) (hw : k0_chk2 i w) (u1 u2 u3 u4 : BitVec 32) (z0 : FVec F S512x128 .f32) (z1 : FVec F S512x1 .f32)

set_option maxHeartbeats 2000000 in
/-- What one trip yields and leaves, over any contents that read as the state says. -/
theorem trip_eq (k : Fin (k0_t1_loop i w).trips) (b b' : Fin 32) (h8 : k0_off8 i w k = blkAt b) (h9 : k0_off9 i w k = colAt 0 b) (h10 : k0_off10 i w k = colAt 1 b)
    (h11 : k0_off11 i w k = blkAt b') (h12 : k0_off12 i w k = colAt 0 b') (h13 : k0_off13 i w k = colAt 1 b') (s : State F)
    (f12 : arg12.view.ty.Contents (Elt F)) (f13 : arg13.view.ty.Contents (Elt F)) (f14 : arg14.view.ty.Contents (Elt F))
    (g12 : arg12.view.read (Elt F) f12 = s.2.1) (g13 : arg13.view.read (Elt F) f13 = s.2.2.1) (g14 : arg14.view.read (Elt F) f14 = s.2.2.2) :
    tripR_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 a1 p.b0 p.b1 w hw p.q2 p.do2 p.delta u1 u2 z0 z1 u3 u4 (harg3.unread x1) (harg4.unread x2) (harg6.unread x4) k s.1 f12 f13 f14 = (chunkFn p x1 x2 x4 b' (chunkFn p x1 x2 x4 b s)).1
      ∧ arg12.view.read (Elt F) (arg12.view.writes (Elt F) f12 (tripL_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 a1 p.b0 p.b1 w hw p.q2 p.do2 p.delta u1 u2 z0 z1 u3 u4 (harg3.unread x1) (harg4.unread x2) (harg6.unread x4) k s.1 f12 f13 f14).1) = (chunkFn p x1 x2 x4 b' (chunkFn p x1 x2 x4 b s)).2.1
      ∧ arg13.view.read (Elt F) (arg13.view.writes (Elt F) f13 (tripL_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 a1 p.b0 p.b1 w hw p.q2 p.do2 p.delta u1 u2 z0 z1 u3 u4 (harg3.unread x1) (harg4.unread x2) (harg6.unread x4) k s.1 f12 f13 f14).2.1) = (chunkFn p x1 x2 x4 b' (chunkFn p x1 x2 x4 b s)).2.2.1
      ∧ arg14.view.read (Elt F) (arg14.view.writes (Elt F) f14 (tripL_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 a1 p.b0 p.b1 w hw p.q2 p.do2 p.delta u1 u2 z0 z1 u3 u4 (harg3.unread x1) (harg4.unread x2) (harg6.unread x4) k s.1 f12 f13 f14).2.2) = (chunkFn p x1 x2 x4 b' (chunkFn p x1 x2 x4 b s)).2.2.2 := by
  have e3 := fun inb => (rowsOf_read arg3.view (harg3.unread x1) inb b h8).trans (congrArg (rowsOf · b) (harg3.read_unread x1))
  have e3' := fun inb => (rowsOf_read arg3.view (harg3.unread x1) inb b' h11).trans (congrArg (rowsOf · b') (harg3.read_unread x1))
  have e4 := fun inb => (rowsOf_read arg4.view (harg4.unread x2) inb b h8).trans (congrArg (rowsOf · b) (harg4.read_unread x2))
  have e4' := fun inb => (rowsOf_read arg4.view (harg4.unread x2) inb b' h11).trans (congrArg (rowsOf · b') (harg4.read_unread x2))
  have e60 := fun inb => (colsOf_read arg6.view (harg6.unread x4) inb 0 b h9).trans (congrArg (colsOf · 0 b) (harg6.read_unread x4))
  have e61 := fun inb => (colsOf_read arg6.view (harg6.unread x4) inb 1 b h10).trans (congrArg (colsOf · 1 b) (harg6.read_unread x4))
  have e60' := fun inb => (colsOf_read arg6.view (harg6.unread x4) inb 0 b' h12).trans (congrArg (colsOf · 0 b') (harg6.read_unread x4))
  have e61' := fun inb => (colsOf_read arg6.view (harg6.unread x4) inb 1 b' h13).trans (congrArg (colsOf · 1 b') (harg6.read_unread x4))
  let kb := arg3.view.readAt (Elt F) (Rect.unit (s := S8192x128) (k0_off8 i w k) S256x128.size (h8 ▸ blkIn b)).toLoadRect (harg3.unread x1)
  let vb := arg4.view.readAt (Elt F) (Rect.unit (s := S8192x128) (k0_off8 i w k) S256x128.size (h8 ▸ blkIn b)).toLoadRect (harg4.unread x2)
  let c0 := arg6.view.readAt (Elt F) (Rect.unit (s := S1x2x8192) (k0_off9 i w k) S1x1x256.size (h9 ▸ colIn 0 b)).toLoadRect (harg6.unread x4)
  let c1 := arg6.view.readAt (Elt F) (Rect.unit (s := S1x2x8192) (k0_off10 i w k) S1x1x256.size (h10 ▸ colIn 1 b)).toLoadRect (harg6.unread x4)
  let kb' := arg3.view.readAt (Elt F) (Rect.unit (s := S8192x128) (k0_off11 i w k) S256x128.size (h11 ▸ blkIn b')).toLoadRect (harg3.unread x1)
  let vb' := arg4.view.readAt (Elt F) (Rect.unit (s := S8192x128) (k0_off11 i w k) S256x128.size (h11 ▸ blkIn b')).toLoadRect (harg4.unread x2)
  let c0' := arg6.view.readAt (Elt F) (Rect.unit (s := S1x2x8192) (k0_off12 i w k) S1x1x256.size (h12 ▸ colIn 0 b')).toLoadRect (harg6.unread x4)
  let c1' := arg6.view.readAt (Elt F) (Rect.unit (s := S1x2x8192) (k0_off13 i w k) S1x1x256.size (h13 ▸ colIn 1 b')).toLoadRect (harg6.unread x4)
  have q1 : kb = rowsOf x1 b := e3 _
  have q2 : vb = rowsOf x2 b := e4 _
  have q3 : c0 = colsOf x4 0 b := e60 _
  have q4 : c1 = colsOf x4 1 b := e61 _
  have q1' : kb' = rowsOf x1 b' := e3' _
  have q2' : vb' = rowsOf x2 b' := e4' _
  have q3' : c0' = colsOf x4 0 b' := e60' _
  have q4' : c1' = colsOf x4 1 b' := e61' _
  refine ⟨?_, ?_, ?_, ?_⟩
  · dsimp only [tripR_k0_t1]; unfold trip_k0_t1
    dsimp only
    trans carryOf p kb' vb' c0' c1' (carryOf p kb vb c0 c1 s.1)
    · rfl
    rw [q1, q2, q3, q4, q1', q2', q3', q4']
    rfl
  · dsimp only [tripL_k0_t1]; unfold trip_k0_t1
    dsimp only [trip_k0_t1.sl.HW_arg12_1]
    trans arg12.view.read (Elt F) (arg12.view.writes (Elt F) f12 [⟨Rect.unit (s := S8192x128) (k0_off11 i w k) S256x128.size (h11 ▸ blkIn b'), keyOf p kb' vb' c0' c1' (arg12.view.readAt (Elt F) (Rect.unit (s := S8192x128) (k0_off11 i w k) S256x128.size (h11 ▸ blkIn b')).toLoadRect (arg12.view.writes (Elt F) f12 [⟨Rect.unit (s := S8192x128) (k0_off8 i w k) S256x128.size (h8 ▸ blkIn b), keyOf p kb vb c0 c1 (arg12.view.readAt (Elt F) (Rect.unit (s := S8192x128) (k0_off8 i w k) S256x128.size (h8 ▸ blkIn b)).toLoadRect f12)⟩]))⟩, ⟨Rect.unit (s := S8192x128) (k0_off8 i w k) S256x128.size (h8 ▸ blkIn b), keyOf p kb vb c0 c1 (arg12.view.readAt (Elt F) (Rect.unit (s := S8192x128) (k0_off8 i w k) S256x128.size (h8 ▸ blkIn b)).toLoadRect f12)⟩])
    · rfl
    rw [setRows_read _ _ _ _ _ b' h11, rowsOf_read _ _ _ b' h11, setRows_read _ _ _ _ _ b h8, rowsOf_read _ _ _ b h8, View.writes_nil, g12, q1, q2, q3, q4, q1', q2', q3', q4']
    rfl
  · dsimp only [tripL_k0_t1]; unfold trip_k0_t1
    dsimp only [trip_k0_t1.sl.HW_arg13_1]
    trans arg13.view.read (Elt F) (arg13.view.writes (Elt F) f13 [⟨Rect.unit (s := S8192x128) (k0_off11 i w k) S256x128.size (h11 ▸ blkIn b'), valOf p kb' c0' c1' (arg13.view.readAt (Elt F) (Rect.unit (s := S8192x128) (k0_off11 i w k) S256x128.size (h11 ▸ blkIn b')).toLoadRect (arg13.view.writes (Elt F) f13 [⟨Rect.unit (s := S8192x128) (k0_off8 i w k) S256x128.size (h8 ▸ blkIn b), valOf p kb c0 c1 (arg13.view.readAt (Elt F) (Rect.unit (s := S8192x128) (k0_off8 i w k) S256x128.size (h8 ▸ blkIn b)).toLoadRect f13)⟩]))⟩, ⟨Rect.unit (s := S8192x128) (k0_off8 i w k) S256x128.size (h8 ▸ blkIn b), valOf p kb c0 c1 (arg13.view.readAt (Elt F) (Rect.unit (s := S8192x128) (k0_off8 i w k) S256x128.size (h8 ▸ blkIn b)).toLoadRect f13)⟩])
    · rfl
    rw [setRows_read _ _ _ _ _ b' h11, rowsOf_read _ _ _ b' h11, setRows_read _ _ _ _ _ b h8, rowsOf_read _ _ _ b h8, View.writes_nil, g13, q1, q3, q4, q1', q3', q4']
    rfl
  · dsimp only [tripL_k0_t1]; unfold trip_k0_t1
    dsimp only [trip_k0_t1.sl.HW_arg14_1, trip_k0_t1.sl.HW_arg14_2, trip_k0_t1.sl.HW_arg14_3]
    let L1 : List (View.Piece (Elt F) S1x2x8192 .f32) := ⟨Rect.unit (s := S1x2x8192) (k0_off9 i w k) S1x1x256.size (h9 ▸ colIn 0 b), k0_pay10 (dsOf p kb vb c0 c1) (arg14.view.readAt (Elt F) (Rect.unit (s := S1x2x8192) (k0_off9 i w k) S1x1x256.size (h9 ▸ colIn 0 b)).toLoadRect f14)⟩ :: []
    let L2 : List (View.Piece (Elt F) S1x2x8192 .f32) := ⟨Rect.unit (s := S1x2x8192) (k0_off10 i w k) S1x1x256.size (h10 ▸ colIn 1 b), k0_pay11 (dsOf p kb vb c0 c1) (arg14.view.readAt (Elt F) (Rect.unit (s := S1x2x8192) (k0_off10 i w k) S1x1x256.size (h10 ▸ colIn 1 b)).toLoadRect (arg14.view.writes (Elt F) f14 L1))⟩ :: L1
    let L3 : List (View.Piece (Elt F) S1x2x8192 .f32) := ⟨Rect.unit (s := S1x2x8192) (k0_off12 i w k) S1x1x256.size (h12 ▸ colIn 0 b'), k0_pay10 (dsOf p kb' vb' c0' c1') (arg14.view.readAt (Elt F) (Rect.unit (s := S1x2x8192) (k0_off12 i w k) S1x1x256.size (h12 ▸ colIn 0 b')).toLoadRect (arg14.view.writes (Elt F) f14 L2))⟩ :: L2
    let L4 : List (View.Piece (Elt F) S1x2x8192 .f32) := ⟨Rect.unit (s := S1x2x8192) (k0_off13 i w k) S1x1x256.size (h13 ▸ colIn 1 b'), k0_pay11 (dsOf p kb' vb' c0' c1') (arg14.view.readAt (Elt F) (Rect.unit (s := S1x2x8192) (k0_off13 i w k) S1x1x256.size (h13 ▸ colIn 1 b')).toLoadRect (arg14.view.writes (Elt F) f14 L3))⟩ :: L3
    trans arg14.view.read (Elt F) (arg14.view.writes (Elt F) f14 L4)
    · rfl
    have l1 : arg14.view.read (Elt F) (arg14.view.writes (Elt F) f14 L1) = setCols s.2.2.2 0 b (k0_pay10 (dsOf p kb vb c0 c1) (colsOf s.2.2.2 0 b)) := by
      rw [setCols_read _ _ _ _ _ 0 b h9, colsOf_read _ _ _ 0 b h9, View.writes_nil, g14]
    have l2 : arg14.view.read (Elt F) (arg14.view.writes (Elt F) f14 L2) = biasFn (dsOf p kb vb c0 c1) s.2.2.2 b := by
      rw [setCols_read _ _ _ _ _ 1 b h10, colsOf_read _ _ _ 1 b h10, l1]; rfl
    have l3 : arg14.view.read (Elt F) (arg14.view.writes (Elt F) f14 L3) = setCols (biasFn (dsOf p kb vb c0 c1) s.2.2.2 b) 0 b' (k0_pay10 (dsOf p kb' vb' c0' c1') (colsOf (biasFn (dsOf p kb vb c0 c1) s.2.2.2 b) 0 b')) := by
      rw [setCols_read _ _ _ _ _ 0 b' h12, colsOf_read _ _ _ 0 b' h12, l2]
    have l4 : arg14.view.read (Elt F) (arg14.view.writes (Elt F) f14 L4) = biasFn (dsOf p kb' vb' c0' c1') (biasFn (dsOf p kb vb c0 c1) s.2.2.2 b) b' := by
      rw [setCols_read _ _ _ _ _ 1 b' h13, colsOf_read _ _ _ 1 b' h13, l3]; rfl
    rw [l4, q1, q2, q3, q4, q1', q2', q3', q4']
    rfl
end

end Cert.KernelFoxIdeal.Gen

end
-- ==== Proof.Fox.Loop.lean ====
module

public import proofs.«01_k».proof.Proof.Fox.Step

@[expose] public section

/-!
The loop over the earlier key blocks, two at a time, as a plain function of the blocks.
-/

set_option maxRecDepth 16384

noncomputable section

namespace Cert.KernelFoxIdeal.Gen

open Cert.KernelFoxIdeal Cert.KernelFoxIdeal.Value Idealize.ShloMosaic Idealize.ShloMosaic.TcCoe Idealize.SL.Sem

variable {F : FTy → Type} [FloatOps F] [Named F]

theorem chunks_add (p : Point F) (x1 x2 : Vec F S8192x128 .f32) (x4 : Vec F S1x2x8192 .f32) (s0 : ℕ) (s : State F) (r n : ℕ) :
    chunksFn p x1 x2 x4 (s0 + r) (chunksFn p x1 x2 x4 s0 s r) n = chunksFn p x1 x2 x4 s0 s (r + n) := by
  induction n with
  | zero => rfl
  | succ n ih =>
    show chunkFn p x1 x2 x4 (Fin.ofNat 32 (s0 + r + n)) (chunksFn p x1 x2 x4 (s0 + r) (chunksFn p x1 x2 x4 s0 s r) n)
      = chunkFn p x1 x2 x4 (Fin.ofNat 32 (s0 + (r + n))) (chunksFn p x1 x2 x4 s0 s (r + n))
    rw [ih, Nat.add_assoc]

theorem blk_of (b : ℕ) (h : b < 32) : (![b * 256, 0] : Fin 2 → ℕ) = blkAt (Fin.ofNat 32 b) := by
  show _ = ![(b % 32) * 256, 0]; rw [Nat.mod_eq_of_lt h]
theorem col0_of (b : ℕ) (h : b < 32) : (![0, 0, b * 256] : Fin 3 → ℕ) = colAt 0 (Fin.ofNat 32 b) := by
  show _ = ![0, 0, (b % 32) * 256]; rw [Nat.mod_eq_of_lt h]
theorem col1_of (b : ℕ) (h : b < 32) : (![0, 1, b * 256] : Fin 3 → ℕ) = colAt 1 (Fin.ofNat 32 b) := by
  show _ = ![0, 1, (b % 32) * 256]; rw [Nat.mod_eq_of_lt h]

section
variable (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
  (p : Point F) (x1 x2 : Vec F S8192x128 .f32) (x4 : Vec F S1x2x8192 .f32)
  (a1 : BitVec 32) (m : ℕ) (hm : m ≤ (i 1).val) (hw : k0_chk2 i (stopW m)) (u1 u2 u3 u4 : BitVec 32) (z0 : FVec F S512x128 .f32) (z1 : FVec F S512x1 .f32)

include hm in
/-- After `n` trips the loop has taken `2 n` key blocks. -/
theorem loop_eq (s : State F) (G12 : arg12.view.ty.Contents (Elt F)) (G13 : arg13.view.ty.Contents (Elt F)) (G14 : arg14.view.ty.Contents (Elt F))
    (g12 : arg12.view.read (Elt F) G12 = s.2.1) (g13 : arg13.view.read (Elt F) G13 = s.2.2.1) (g14 : arg14.view.read (Elt F) G14 = s.2.2.2)
    (n : ℕ) (hn : n ≤ (k0_t1_loop i (stopW m)).trips) :
    (st_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 a1 p.b0 p.b1 (stopW m) hw p.q2 p.do2 p.delta u1 u2 z0 z1 u3 u4 (harg3.unread x1) (harg4.unread x2) (harg6.unread x4) G12 G13 G14 s.1 n).1 = (chunksFn p x1 x2 x4 (m + ((i 1).val - m) % 2) s (2 * n)).1
      ∧ arg12.view.read (Elt F) (arg12.view.writes (Elt F) G12 (st_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 a1 p.b0 p.b1 (stopW m) hw p.q2 p.do2 p.delta u1 u2 z0 z1 u3 u4 (harg3.unread x1) (harg4.unread x2) (harg6.unread x4) G12 G13 G14 s.1 n).2.1) = (chunksFn p x1 x2 x4 (m + ((i 1).val - m) % 2) s (2 * n)).2.1
      ∧ arg13.view.read (Elt F) (arg13.view.writes (Elt F) G13 (st_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 a1 p.b0 p.b1 (stopW m) hw p.q2 p.do2 p.delta u1 u2 z0 z1 u3 u4 (harg3.unread x1) (harg4.unread x2) (harg6.unread x4) G12 G13 G14 s.1 n).2.2.1) = (chunksFn p x1 x2 x4 (m + ((i 1).val - m) % 2) s (2 * n)).2.2.1
      ∧ arg14.view.read (Elt F) (arg14.view.writes (Elt F) G14 (st_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 a1 p.b0 p.b1 (stopW m) hw p.q2 p.do2 p.delta u1 u2 z0 z1 u3 u4 (harg3.unread x1) (harg4.unread x2) (harg6.unread x4) G12 G13 G14 s.1 n).2.2.2) = (chunksFn p x1 x2 x4 (m + ((i 1).val - m) % 2) s (2 * n)).2.2.2 := by
  induction n with
  | zero => exact ⟨rfl, g12, g13, g14⟩
  | succ n ih =>
    obtain ⟨ihc, ih12, ih13, ih14⟩ := ih (Nat.le_of_succ_le hn)
    have hi := blk_lt i
    have ht := trips1 i m hm
    have l1 : m + ((i 1).val - m) % 2 + 2 * n < 32 := by omega
    have l2 : m + ((i 1).val - m) % 2 + 2 * n + 1 < 32 := by omega
    have key := trip_eq c i arg2 harg2 arg3 harg3 arg4 harg4 arg5 harg5 arg6 harg6 arg7 harg7 arg8 harg8 arg9 harg9 arg10 harg10 arg11 harg11 arg12 harg12 arg13 harg13 arg14 harg14 arg15 harg15 p x1 x2 x4 a1 (stopW m) hw u1 u2 u3 u4 z0 z1 ⟨n, hn⟩ _ _
      ((off8 i m hm ⟨n, hn⟩).trans (blk_of _ l1)) ((off9 i m hm ⟨n, hn⟩).trans (col0_of _ l1)) ((off10 i m hm ⟨n, hn⟩).trans (col1_of _ l1))
      ((off11 i m hm ⟨n, hn⟩).trans (blk_of _ l2)) ((off12 i m hm ⟨n, hn⟩).trans (col0_of _ l2)) ((off13 i m hm ⟨n, hn⟩).trans (col1_of _ l2))
      (chunksFn p x1 x2 x4 (m + ((i 1).val - m) % 2) s (2 * n)) _ _ _ ih12 ih13 ih14
    rw [← ihc] at key
    have hs := st_k0_t1_succ (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 a1 p.b0 p.b1 (stopW m) hw p.q2 p.do2 p.delta u1 u2 z0 z1 u3 u4 (harg3.unread x1) (harg4.unread x2) (harg6.unread x4) G12 G13 G14 s.1 ⟨n, hn⟩
    dsimp only at hs
    rw [hs, View.writes_append, View.writes_append, View.writes_append]
    exact key
end

end Cert.KernelFoxIdeal.Gen

end
-- ==== Proof.Fox.Parts.lean ====
module

public import proofs.«01_k».proof.Proof.Fox.Loop

@[expose] public section

/-!
The parts of the body of the forgetting-attention backward kernel: what each binds, and what it leaves in its blocks.
-/

set_option maxRecDepth 16384

noncomputable section

namespace Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelFoxIdeal.Value

variable {F : FTy → Type} [FloatOps F] [Named F]

local notation "𝕄" => MT nD τ sig Unit (Elt F) ℕ (UR sig nD τ) ℕ

open Cert.KernelFoxIdeal

section
variable {sp : Space} {sh : Shape} {e : EltTy}
/-- A buffer whose contents read as `x` is the buffer at the contents that read as `x`. -/
theorem pt_of (c : Thread nD τ) (a : Memref sig c.2.kind sp sh e) (ha : a.IsWhole) (f : a.view.ty.Contents (Elt F)) (x : sh.Idx → Elt F e) (h : a.view.read (Elt F) f = x) :
    (a.view.loc c ↦[a.view.set]{fullShare} f : sProp 𝕄) ⊢ (a.view.loc c ↦[a.view.set]{fullShare} ha.unread x) := by
  rw [ha.eq_unread h]
end

/-- The test whether a query block is the first, as the program computes it. -/
theorem first_iff (i : grid0.Coords) :
    Scalar.cmpi .ne (Scalar.extui (Scalar.cmpi .eq (BitVec.ofNat 32 (i 1).val) 0#32) : BitVec 32) 0#32 = 1#1 ↔ (i 1).val = 0 := by
  have h : ∀ n : Fin 32, Scalar.cmpi .ne (Scalar.extui (Scalar.cmpi .eq (BitVec.ofNat 32 n.val) 0#32) : BitVec 32) 0#32 = 1#1 ↔ n.val = 0 := by
    decide +kernel
  exact h ⟨(i 1).val, blk_lt i⟩

/-- What the first part binds. -/
def vals11 (i : grid0.Coords) (x0 x6 x7 : Vec F S256x128 .f32) :
    Σ' (arg0 : BitVec 32) (arg1 : BitVec 32) (v5 : IVec S1x128 1) (v7 : IVec S1x128 1) (v10 : FVec F S256x128 .f32) (v14 : FVec F S256x128 .f32) (v19 : FVec F S256x128 .bf16) (v24 : FVec F S256x128 .bf16) (v29 : FVec F S256x128 .bf16) (v34 : FVec F S256x128 .bf16), FVec F S256 .f32 :=
  ⟨BitVec.ofNat 32 (i 0).val, BitVec.ofNat 32 (i 1).val, k0_pay59, k0_pay60, k0_pay61 x0, k0_pay62 x6 x7, k0_pay63 x0, k0_pay64 x0, k0_pay65 x6, k0_pay66 x6, k0_pay67 x6 x7⟩

set_option maxHeartbeats 2000000 in
/-- The first part: it clears the accumulated outputs where that is due and loads the query block, its cotangent and its output. -/
theorem run11 (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
    (x0 x6 x7 : Vec F S256x128 .f32) (y12 y13 : Vec F S8192x128 .f32) (y14 : Vec F S1x2x8192 .f32) (E : Set ℕ) :
    (iprop((arg2.view.loc (c : Thread nD τ) ↦[arg2.view.set]{fullShare} harg2.unread x0) ∗ (arg8.view.loc (c : Thread nD τ) ↦[arg8.view.set]{fullShare} harg8.unread x6) ∗ (arg9.view.loc (c : Thread nD τ) ↦[arg9.view.set]{fullShare} harg9.unread x7) ∗ (arg12.view.loc (c : Thread nD τ) ↦[arg12.view.set]{fullShare} harg12.unread y12) ∗ (arg13.view.loc (c : Thread nD τ) ↦[arg13.view.set]{fullShare} harg13.unread y13) ∗ (arg14.view.loc (c : Thread nD τ) ↦[arg14.view.set]{fullShare} harg14.unread y14)) : sProp 𝕄)
      ⊢ wp frame (wpE (defs₀ (F := F)) 𝒱₀ (c : Thread nD τ) none) E (k0_part11 (F := F) i arg2 harg2 arg3 harg3 arg4 harg4 arg5 harg5 arg6 harg6 arg7 harg7 arg8 harg8 arg9 harg9 arg10 harg10 arg11 harg11 arg12 harg12 arg13 harg13 arg14 harg14 arg15 harg15)
          (fun r => (iprop(⌜r = vals11 i x0 x6 x7⌝ ∗ (arg2.view.loc (c : Thread nD τ) ↦[arg2.view.set]{fullShare} harg2.unread x0) ∗ (arg8.view.loc (c : Thread nD τ) ↦[arg8.view.set]{fullShare} harg8.unread x6) ∗ (arg9.view.loc (c : Thread nD τ) ↦[arg9.view.set]{fullShare} harg9.unread x7) ∗ (arg12.view.loc (c : Thread nD τ) ↦[arg12.view.set]{fullShare} harg12.unread (enter i k0_pay56 y12)) ∗ (arg13.view.loc (c : Thread nD τ) ↦[arg13.view.set]{fullShare} harg13.unread (enter i k0_pay57 y13)) ∗ (arg14.view.loc (c : Thread nD τ) ↦[arg14.view.set]{fullShare} harg14.unread (enter i k0_pay58 y14))) : sProp 𝕄)) := by
  have e2 := (View.readAt_full arg2.view (harg2.unread x0) inb_S256x128_S256x128_0_0).trans (harg2.read_unread x0)
  have e8 := (View.readAt_full arg8.view (harg8.unread x6) inb_S256x128_S256x128_0_0).trans (harg8.read_unread x6)
  have e9 := (View.readAt_full arg9.view (harg9.unread x7) inb_S256x128_S256x128_0_0).trans (harg9.read_unread x7)
  rw [k0_part11_eq_skeleton]; unfold k0_part11_skel
  by_cases h0 : (i 1).val = 0
  · have hc := (first_iff i).mpr h0
    have d12 : enter i (k0_pay56 (F := F)) y12 = k0_pay56 := if_pos h0
    have d13 : enter i (k0_pay57 (F := F)) y13 = k0_pay57 := if_pos h0
    have d14 : enter i (k0_pay58 (F := F)) y14 = k0_pay58 := if_pos h0
    have f12 := harg12.eq_unread (View.read_writes_full arg12.view (harg12.unread y12) inb_S8192x128_S8192x128_0_0 (k0_pay56 (F := F)) [])
    have f13 := harg13.eq_unread (View.read_writes_full arg13.view (harg13.unread y13) inb_S8192x128_S8192x128_0_0 (k0_pay57 (F := F)) [])
    have f14 := harg14.eq_unread (View.read_writes_full arg14.view (harg14.unread y14) inb_S1x2x8192_S1x2x8192_0_0_0 (k0_pay58 (F := F)) [])
    iintro ⟨H2, H8, H9, H12, H13, H14⟩
    sl_exec (disch := first | sl_exact hc)
    sl_step
    rw [d12, d13, d14, ← f12, ← f13, ← f14]
    isplitr; · ipureintro; rfl
    isplitl [H2]; · iexact H2
    isplitl [H8]; · iexact H8
    isplitl [H9]; · iexact H9
    isplitl [H12]; · iexact H12
    isplitl [H13]; · iexact H13
    iexact H14
  · have hc := fun h => h0 ((first_iff i).mp h)
    have d12 : enter i (k0_pay56 (F := F)) y12 = y12 := if_neg h0
    have d13 : enter i (k0_pay57 (F := F)) y13 = y13 := if_neg h0
    have d14 : enter i (k0_pay58 (F := F)) y14 = y14 := if_neg h0
    iintro ⟨H2, H8, H9, H12, H13, H14⟩
    sl_exec (disch := first | sl_exact hc)
    sl_step
    rw [d12, d13, d14]
    isplitr; · ipureintro; rfl
    isplitl [H2]; · iexact H2
    isplitl [H8]; · iexact H8
    isplitl [H9]; · iexact H9
    isplitl [H12]; · iexact H12
    isplitl [H13]; · iexact H13
    iexact H14

/-- What the second part binds. -/
def vals12 (arg0 : BitVec 32) (x0 x3 : Vec F S256x128 .f32) (x5 : Vec F S1x128 .f32) (x6 x7 x8 : Vec F S256x128 .f32) :
    Σ' (v40 : FVec F S256x1 .f32) (v46 : FVec F S256x1 .f32) (v64 : FVec F S256x1 .f32) (v76 : FVec F S256x1 .f32) (v78 : Vec F S1x128 .f32) (v79 : FVec F S256x128 .f32) (v81 : IVec S256x128 1), FVec F S256x128 .f32 :=
  ⟨k0_pay68 (k0_pay67 x6 x7), k0_pay69 k0_pay60 (k0_pay62 x6 x7), k0_pay72 arg0 x8 x3, k0_pay73 arg0 x8 x3, k0_pay74 x5, k0_pay75 (k0_pay61 x0), k0_pay76 k0_pay59, k0_pay77⟩

set_option maxHeartbeats 2000000 in
/-- The second part loads the biases, the row sums of exponentials and the bound of the keys. -/
theorem run12 (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
    (arg0 : BitVec 32) (x0 x3 : Vec F S256x128 .f32) (x5 : Vec F S1x128 .f32) (x6 x7 x8 : Vec F S256x128 .f32) (E : Set ℕ) :
    (iprop((arg5.view.loc (c : Thread nD τ) ↦[arg5.view.set]{fullShare} harg5.unread x3) ∗ (arg7.view.loc (c : Thread nD τ) ↦[arg7.view.set]{fullShare} harg7.unread x5) ∗ (arg10.view.loc (c : Thread nD τ) ↦[arg10.view.set]{fullShare} harg10.unread x8)) : sProp 𝕄)
      ⊢ wp frame (wpE (defs₀ (F := F)) 𝒱₀ (c : Thread nD τ) none) E (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg0 k0_pay59 k0_pay60 (k0_pay61 x0) (k0_pay62 x6 x7) (k0_pay67 x6 x7))
          (fun r => (iprop(⌜r = vals12 arg0 x0 x3 x5 x6 x7 x8⌝ ∗ (arg5.view.loc (c : Thread nD τ) ↦[arg5.view.set]{fullShare} harg5.unread x3) ∗ (arg7.view.loc (c : Thread nD τ) ↦[arg7.view.set]{fullShare} harg7.unread x5) ∗ (arg10.view.loc (c : Thread nD τ) ↦[arg10.view.set]{fullShare} harg10.unread x8)) : sProp 𝕄)) := by
  have e10 := (View.readAt_full arg10.view (harg10.unread x8) inb_S256x128_S256x128_0_0).trans (harg10.read_unread x8)
  have e5 := (View.readAt_full arg5.view (harg5.unread x3) inb_S256x128_S256x128_0_0).trans (harg5.read_unread x3)
  have e7 := (View.readAt_full arg7.view (harg7.unread x5) inb_S1x128_S1x128_0_0).trans (harg7.read_unread x5)
  rw [k0_part12_eq_skeleton]; unfold k0_part12_skel
  · iintro ⟨H5, H7, H10⟩
    sl_exec
    sl_step
    isplitr; · ipureintro; rfl
    isplitl [H5]; · iexact H5
    isplitl [H7]; · iexact H7
    iexact H10

/-- The block before the query's own, or block 0. -/
abbrev prevBlk (i : grid0.Coords) : Fin 32 := Fin.ofNat 32 ((i 1).val - 1)

theorem prev_mod (i : grid0.Coords) : ((i 1).val - 1) % 32 = (i 1).val - 1 := Nat.mod_eq_of_lt (by have := blk_lt i; omega)
theorem off1_prev (i : grid0.Coords) : k0_off1 i = colAt 0 (prevBlk i) := by
  rw [off1]; show _ = ![0, 0, (((i 1).val - 1) % 32) * 256]; rw [prev_mod]
theorem off2_prev (i : grid0.Coords) : k0_off2 i = colAt 1 (prevBlk i) := by
  rw [off2]; show _ = ![0, 1, (((i 1).val - 1) % 32) * 256]; rw [prev_mod]

/-- What the third part binds. -/
def vals13 (i : grid0.Coords) (p : Point F) (x0 : Vec F S256x128 .f32) (x5 : Vec F S1x128 .f32) (x4 : Vec F S1x2x8192 .f32) (v126 : BitVec 32) :
    Σ' (v105 : FVec F S256x1 .f32) (v106 : FVec F S256x1 .f32) (v107 : IVec S256x256 32) (v108 : IVec S256x256 32) (v109 : BitVec 32) (v110 : BitVec 32) (v124 : F .f32), BitVec 32 :=
  ⟨p.m0, p.m1, iota .tc S256x256 32 [0] iota_S256x256_d0_w32, iota .tc S256x256 32 [1] iota_S256x256_d1_w32, stopW (i 1).val, stopW (i 1).val,
    k0_pay80 p.b0 (k0_pay74 x5) (k0_pay75 (k0_pay61 x0)) (k0_pay76 k0_pay59) k0_pay77 (colsOf x4 0 (prevBlk i)), v126⟩

set_option maxHeartbeats 2000000 in
/-- The third part: the two score bounds, and the first row of biases of the block before. -/
theorem run13 (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
    (arg0 : BitVec 32) (x0 x3 : Vec F S256x128 .f32) (x4 : Vec F S1x2x8192 .f32) (x5 : Vec F S1x128 .f32) (x6 x7 x8 : Vec F S256x128 .f32) (E : Set ℕ) :
    (iprop((arg6.view.loc (c : Thread nD τ) ↦[arg6.view.set]{fullShare} harg6.unread x4)) : sProp 𝕄)
      ⊢ wp frame (wpE (defs₀ (F := F)) 𝒱₀ (c : Thread nD τ) none) E (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) k0_pay60 (k0_pay61 x0) (k0_pay72 arg0 x8 x3) (k0_pay73 arg0 x8 x3) (k0_pay74 x5) (k0_pay75 (k0_pay61 x0)) (k0_pay76 k0_pay59) k0_pay77)
          (fun r => (iprop(⌜r = vals13 i (pointOf arg0 x0 x3 x5 x6 x7 x8) x0 x5 x4 (Scalar.muli (Scalar.maxsi (stopW (i 1).val) 0#32) 256#32)⌝ ∗ (arg6.view.loc (c : Thread nD τ) ↦[arg6.view.set]{fullShare} harg6.unread x4)) : sProp 𝕄)) := by
  have e6 := fun inb => (colsOf_read arg6.view (harg6.unread x4) inb 0 _ (off1_prev i)).trans (congrArg (colsOf · 0 (prevBlk i)) (harg6.read_unread x4))
  rw [k0_part13_eq_skeleton]; unfold k0_part13_skel
  · iintro H6
    sl_exec
    sl_step
    isplitr; · ipureintro; rfl
    iexact H6

end Cert.KernelFoxIdeal.Gen

end
-- ==== Proof.Fox.Search.lean ====
module

public import proofs.«01_k».proof.Proof.Fox.Parts

@[expose] public section

/-!
The part of the body that searches for the first key block and takes one block where their number is odd.
-/

set_option maxRecDepth 16384

noncomputable section

namespace Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelFoxIdeal.Value

variable {F : FTy → Type} [FloatOps F] [Named F]

local notation "𝕄" => MT nD τ sig Unit (Elt F) ℕ (UR sig nD τ) ℕ

open Cert.KernelFoxIdeal

/-- The grid point's own key block, and the first that it takes. -/
def ownBlk (i : grid0.Coords) : Fin 32 := ⟨(i 1).val, blk_lt i⟩
abbrev firstBlk (i : grid0.Coords) (x4 : Vec F S1x2x8192 .f32) (p : Point F) : ℕ := firstOf x4 p (i 1).val
theorem firstBlk_le (i : grid0.Coords) (x4 : Vec F S1x2x8192 .f32) (p : Point F) : firstBlk i x4 p ≤ (i 1).val := firstOf_le x4 p _

/-- What the fourth part binds. -/
def vals14 (i : grid0.Coords) (p : Point F) (m : ℕ) (hm : m ≤ (i 1).val) (s : Carry F) :
    Σ' (v142_0 : BitVec 32) (k0_hw2 : k0_chk2 i v142_0) (v143 : FVec F S512x128 .bf16) (v144 : FVec F S512x128 .bf16) (v145 : FVec F S512x1 .f32) (v148 : IVec S512x256 1) (v151 : BitVec 32) (v163 : BitVec 32) (v167_0 : FVec F S512x128 .f32) (v167_1 : FVec F S512x1 .f32) (v168 : BitVec 32), BitVec 32 :=
  ⟨stopW m, chk2 i m hm, p.q2, p.do2, p.delta, k0_pay85 (iota .tc S256x256 32 [0] iota_S256x256_d0_w32) (iota .tc S256x256 32 [1] iota_S256x256_d1_w32),
    Scalar.addi (stopW m) 1#32, oddW (i 1).val (stopW m), s.1, s.2, Scalar.subi (BitVec.ofNat 32 (i 1).val) (Scalar.addi (stopW m) 1#32), 2#32⟩

/-- The state before the first key block. -/
abbrev start0 (y12 y13 : Vec F S8192x128 .f32) (y14 : Vec F S1x2x8192 .f32) : State F := ((k0_pay86, k0_pay87), y12, y13, y14)

set_option maxHeartbeats 2000000 in
/-- The fourth part: the search, and one key block where the number of blocks to take is odd. -/
theorem run14 (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
    (p : Point F) (x1 x2 : Vec F S8192x128 .f32) (x4 : Vec F S1x2x8192 .f32) (y12 y13 : Vec F S8192x128 .f32) (y14 : Vec F S1x2x8192 .f32) (v19 v24 v29 v34 : FVec F S256x128 .bf16) (v40 v46 : FVec F S256x1 .f32) (v124 : F .f32) (v126 : BitVec 32)
    (m : ℕ) (hm : m ≤ (i 1).val) (hmm : firstOf x4 p (i 1).val = m)
    (hq : k0_pay82 v19 v24 = p.q2) (hd : k0_pay83 v29 v34 = p.do2) (ht : k0_pay84 v40 v46 = p.delta) (h124 : k0_pay81 p.m1 v124 (colsOf x4 1 (prevBlk i)) = k0_pay2 p.m0 p.m1 (colsOf x4 0 (prevBlk i)) (colsOf x4 1 (prevBlk i))) (E : Set ℕ) :
    (iprop((arg3.view.loc (c : Thread nD τ) ↦[arg3.view.set]{fullShare} harg3.unread x1) ∗ (arg4.view.loc (c : Thread nD τ) ↦[arg4.view.set]{fullShare} harg4.unread x2) ∗ (arg6.view.loc (c : Thread nD τ) ↦[arg6.view.set]{fullShare} harg6.unread x4) ∗ (arg12.view.loc (c : Thread nD τ) ↦[arg12.view.set]{fullShare} harg12.unread y12) ∗ (arg13.view.loc (c : Thread nD τ) ↦[arg13.view.set]{fullShare} harg13.unread y13) ∗ (arg14.view.loc (c : Thread nD τ) ↦[arg14.view.set]{fullShare} harg14.unread y14)) : sProp 𝕄)
      ⊢ wp frame (wpE (defs₀ (F := F)) 𝒱₀ (c : Thread nD τ) none) E (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) v19 v24 v29 v34 v40 v46 p.b0 p.b1 p.m0 p.m1 (iota .tc S256x256 32 [0] iota_S256x256_d0_w32) (iota .tc S256x256 32 [1] iota_S256x256_d1_w32) (stopW (i 1).val) (stopW (i 1).val) v124 v126)
          (fun r => (iprop(⌜r = vals14 i p m hm (chunksFn p x1 x2 x4 m (start0 y12 y13 y14) (((i 1).val - m) % 2)).1⌝ ∗ (arg3.view.loc (c : Thread nD τ) ↦[arg3.view.set]{fullShare} harg3.unread x1) ∗ (arg4.view.loc (c : Thread nD τ) ↦[arg4.view.set]{fullShare} harg4.unread x2) ∗ (arg6.view.loc (c : Thread nD τ) ↦[arg6.view.set]{fullShare} harg6.unread x4) ∗ (arg12.view.loc (c : Thread nD τ) ↦[arg12.view.set]{fullShare} harg12.unread (chunksFn p x1 x2 x4 m (start0 y12 y13 y14) (((i 1).val - m) % 2)).2.1) ∗ (arg13.view.loc (c : Thread nD τ) ↦[arg13.view.set]{fullShare} harg13.unread (chunksFn p x1 x2 x4 m (start0 y12 y13 y14) (((i 1).val - m) % 2)).2.2.1) ∗ (arg14.view.loc (c : Thread nD τ) ↦[arg14.view.set]{fullShare} harg14.unread (chunksFn p x1 x2 x4 m (start0 y12 y13 y14) (((i 1).val - m) % 2)).2.2.2)) : sProp 𝕄)) := by
  have e6 := fun inb => (colsOf_read arg6.view (harg6.unread x4) inb 1 _ (off2_prev i)).trans (congrArg (colsOf · 1 (prevBlk i)) (harg6.read_unread x4))
  have hi := blk_lt i
  have hl : Scalar.andi (Scalar.cmpi .sge (stopW (i 1).val) 0#32) (Scalar.cmpf .ogt (k0_pay81 p.m1 v124 (colsOf x4 1 (prevBlk i))) (Named.named κ "no_skip" 0xC2DC0000#32)) = liveW x4 p (i 1).val := by
    rw [h124]; rfl
  rw [k0_part14_eq_skeleton]; unfold k0_part14_skel
  · iintro ⟨H3, H4, H6, H12, H13, H14⟩
    simp only [Prog.lift, Prog.bind_op, Prog.bind_ret, Prog.pure_eq_ret]
    iapply (wp_load 𝒱₀ (c : Thread nD τ) none E (m := arg6) (View.setOn_subset_set _ _)) $$ H6; iintro H6
    rw [e6, hl]
    iapply (wp_call_spec 𝒱₀ (c : Thread nD τ) none E (search c arg6 harg6 x4 p (i 1).val) (i 1).val
      (fun u hu => nomatch hu) (search_le c i arg6 harg6 x4 p E (i 1).val (by omega)))
    rw [search_apply]; unfold held
    isplitl [H6]; · iexact H6
    iintro %r %hr H6
    obtain ⟨r1, r2⟩ := r
    dsimp only at hr
    rw [hmm] at hr
    subst hr
    rw [hq, hd, ht]
    dsimp only
    iapply (wp_assume 𝒱₀ (c : Thread nD τ) none E (chk2 i m hm))
    by_cases hodd : ((i 1).val - m) % 2 = 1
    · have hc := (cond_iff i m hm).mpr hodd
      have l1 : m < 32 := by omega
      have o5 : k0_off5 (stopW m) = blkAt (Fin.ofNat 32 m) := (off5 i m hm).trans (blk_of _ l1)
      have o6 : k0_off6 (stopW m) = colAt 0 (Fin.ofNat 32 m) := (off6 i m hm).trans (col0_of _ l1)
      have o7 : k0_off7 (stopW m) = colAt 1 (Fin.ofNat 32 m) := (off7 i m hm).trans (col1_of _ l1)
      have e3 := fun inb => (rowsOf_read arg3.view (harg3.unread x1) inb _ o5).trans (congrArg (rowsOf · (Fin.ofNat 32 m)) (harg3.read_unread x1))
      have e4 := fun inb => (rowsOf_read arg4.view (harg4.unread x2) inb _ o5).trans (congrArg (rowsOf · (Fin.ofNat 32 m)) (harg4.read_unread x2))
      have e60 := fun inb => (colsOf_read arg6.view (harg6.unread x4) inb 0 _ o6).trans (congrArg (colsOf · 0 (Fin.ofNat 32 m)) (harg6.read_unread x4))
      have e61 := fun inb => (colsOf_read arg6.view (harg6.unread x4) inb 1 _ o7).trans (congrArg (colsOf · 1 (Fin.ofNat 32 m)) (harg6.read_unread x4))
      have e12 := fun inb => (rowsOf_read arg12.view (harg12.unread y12) inb _ o5).trans (congrArg (rowsOf · (Fin.ofNat 32 m)) (harg12.read_unread y12))
      have e13 := fun inb => (rowsOf_read arg13.view (harg13.unread y13) inb _ o5).trans (congrArg (rowsOf · (Fin.ofNat 32 m)) (harg13.read_unread y13))
      have e14 := fun inb => (colsOf_read arg14.view (harg14.unread y14) inb 0 _ o6).trans (congrArg (colsOf · 0 (Fin.ofNat 32 m)) (harg14.read_unread y14))
      have r14 := fun inb w => (setCols_read arg14.view (harg14.unread y14) inb w [] 0 _ o6).trans (congrArg (fun y => setCols y 0 (Fin.ofNat 32 m) w) (harg14.read_unread y14))
      have e15 := fun inb inb' w => (colsOf_read arg14.view (arg14.view.writes (Elt F) (harg14.unread y14) [⟨Rect.unit (s := S1x2x8192) (k0_off6 (stopW m)) S1x1x256.size inb', w⟩]) inb 1 _ o7).trans (congrArg (colsOf · 1 (Fin.ofNat 32 m)) (r14 inb' w))
      have f12 := fun inb w => harg12.eq_unread ((setRows_read arg12.view (harg12.unread y12) inb w [] _ o5).trans (congrArg (fun y => setRows y (Fin.ofNat 32 m) w) (harg12.read_unread y12)))
      have f13 := fun inb w => harg13.eq_unread ((setRows_read arg13.view (harg13.unread y13) inb w [] _ o5).trans (congrArg (fun y => setRows y (Fin.ofNat 32 m) w) (harg13.read_unread y13)))
      have f14 := fun inb inb' w w' => harg14.eq_unread ((setCols_read arg14.view (harg14.unread y14) inb w [⟨Rect.unit (s := S1x2x8192) (k0_off6 (stopW m)) S1x1x256.size inb', w'⟩] 1 _ o7).trans (congrArg (fun y => setCols y 1 (Fin.ofNat 32 m) w) (r14 inb' w')))
      simp only [k0_part1_eq_skeleton, k0_part2_eq_skeleton]
      unfold k0_part1_skel k0_part2_skel
      sl_exec (disch := first | sl_exact hc)
      sl_step
      unfold run14.sl.H14_1
      rw [f12, f13, f14, hodd]
      isplitr; · ipureintro; rfl
      isplitl [H3]; · iexact H3
      isplitl [H4]; · iexact H4
      isplitl [H6]; · iexact H6
      isplitl [H12]; · iexact H12
      isplitl [H13]; · iexact H13
      iexact H14
    · have hc := fun h => hodd ((cond_iff i m hm).mp h)
      have h0 : ((i 1).val - m) % 2 = 0 := by omega
      sl_exec (disch := first | sl_exact hc)
      sl_step
      rw [h0]
      isplitr; · ipureintro; rfl
      isplitl [H3]; · iexact H3
      isplitl [H4]; · iexact H4
      isplitl [H6]; · iexact H6
      isplitl [H12]; · iexact H12
      isplitl [H13]; · iexact H13
      iexact H14

end Cert.KernelFoxIdeal.Gen

end
-- ==== Proof.Fox.Tail.lean ====
module

public import proofs.«01_k».proof.Proof.Fox.Search

@[expose] public section

/-!
The parts of the body after the search: the loop over earlier key blocks, and the query's own block.
-/

set_option maxRecDepth 16384

noncomputable section

namespace Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelFoxIdeal.Value

variable {F : FTy → Type} [FloatOps F] [Named F]

local notation "𝕄" => MT nD τ sig Unit (Elt F) ℕ (UR sig nD τ) ℕ

open Cert.KernelFoxIdeal

theorem off20_own (i : grid0.Coords) : k0_off20 i = blkAt (ownBlk i) := off20 i
theorem off21_own (i : grid0.Coords) : k0_off21 i = colAt 0 (ownBlk i) := off21 i
theorem off22_own (i : grid0.Coords) : k0_off22 i = colAt 1 (ownBlk i) := off22 i

/-- The second loop makes no trip. -/
theorem state2 {α : Type} (f : ℕ → α) (i : grid0.Coords) (m : ℕ) (hm : m ≤ (i 1).val) : f (k0_t2_loop i (stopW m)).trips = f 0 := congrArg f (trips2 i m hm)

/-- The mask of the query's own block. -/
abbrev ownMask : IVec S512x256 1 := k0_pay85 (iota .tc S256x256 32 [0] iota_S256x256_d0_w32) (iota .tc S256x256 32 [1] iota_S256x256_d1_w32)

/-- What the query's own block gives: the gradient of its scores, as it is and as the products take it. -/
abbrev ownDs (p : Point F) (kb vb : Vec F S256x128 .f32) (c0 c1 : Vec F S1x1x256 .f32) : FVec F S512x256 .f32 :=
  k0_pay102 p.b0 p.b1 p.delta ownMask (k0_pay98 p.q2 kb) (k0_pay99 p.do2 vb) (k0_pay100 p.q2 kb) c0 c1
abbrev ownDsb (p : Point F) (kb vb : Vec F S256x128 .f32) (c0 c1 : Vec F S1x1x256 .f32) : FVec F S512x256 .bf16 :=
  k0_pay103 p.b0 p.b1 p.delta ownMask (k0_pay98 p.q2 kb) (k0_pay99 p.do2 vb) (k0_pay100 p.q2 kb) c0 c1
abbrev ownKey (p : Point F) (kb vb : Vec F S256x128 .f32) (c0 c1 : Vec F S1x1x256 .f32) (y : Vec F S256x128 .f32) : FVec F S256x128 .f32 :=
  k0_pay104 p.b0 p.b1 p.q2 p.delta ownMask (k0_pay98 p.q2 kb) (k0_pay99 p.do2 vb) (k0_pay100 p.q2 kb) c0 c1 y
abbrev ownVal (p : Point F) (kb vb : Vec F S256x128 .f32) (c0 c1 : Vec F S1x1x256 .f32) (y : Vec F S256x128 .f32) : FVec F S256x128 .f32 :=
  k0_pay105 p.b0 p.b1 p.do2 ownMask (k0_pay98 p.q2 kb) (k0_pay100 p.q2 kb) c0 c1 y
/-- Both rows of the bias gradient at the query's own block. -/
abbrev ownBias (ds : FVec F S512x256 .f32) (y : Vec F S1x2x8192 .f32) (b : Fin 32) : Vec F S1x2x8192 .f32 :=
  setCols (setCols y 0 b (k0_pay106 ds (colsOf y 0 b))) 1 b (k0_pay107 ds (colsOf y 1 b))

/-- What the fifth part binds. -/
def vals15 (p : Point F) (kb vb : Vec F S256x128 .f32) (s : Carry F) :
    Σ' (v192_0 : FVec F S512x128 .f32) (v192_1 : FVec F S512x1 .f32) (v198 : FVec F S512x256 .f32) (v205 : FVec F S512x256 .f32), FVec F S256x256 .f32 :=
  ⟨s.1, s.2, k0_pay98 p.q2 kb, k0_pay99 p.do2 vb, k0_pay100 p.q2 kb⟩

set_option maxHeartbeats 2000000 in
/-- The fifth part: the loop over the earlier key blocks, two at a time. -/
theorem run15 (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
    (p : Point F) (x1 x2 : Vec F S8192x128 .f32) (x4 : Vec F S1x2x8192 .f32) (m : ℕ) (hm : m ≤ (i 1).val) (s : State F) (E : Set ℕ) :
    (iprop((arg3.view.loc (c : Thread nD τ) ↦[arg3.view.set]{fullShare} harg3.unread x1) ∗ (arg4.view.loc (c : Thread nD τ) ↦[arg4.view.set]{fullShare} harg4.unread x2) ∗ (arg6.view.loc (c : Thread nD τ) ↦[arg6.view.set]{fullShare} harg6.unread x4) ∗ (arg12.view.loc (c : Thread nD τ) ↦[arg12.view.set]{fullShare} harg12.unread s.2.1) ∗ (arg13.view.loc (c : Thread nD τ) ↦[arg13.view.set]{fullShare} harg13.unread s.2.2.1) ∗ (arg14.view.loc (c : Thread nD τ) ↦[arg14.view.set]{fullShare} harg14.unread s.2.2.2)) : sProp 𝕄)
      ⊢ wp frame (wpE (defs₀ (F := F)) 𝒱₀ (c : Thread nD τ) none) E (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) p.b0 p.b1 (stopW m) (chk2 i m hm) p.q2 p.do2 p.delta (Scalar.addi (stopW m) 1#32) (oddW (i 1).val (stopW m)) s.1.1 s.1.2 (Scalar.subi (BitVec.ofNat 32 (i 1).val) (Scalar.addi (stopW m) 1#32)) 2#32)
          (fun r => (iprop(⌜r = vals15 p (rowsOf x1 (ownBlk i)) (rowsOf x2 (ownBlk i)) (chunksFn p x1 x2 x4 (m + ((i 1).val - m) % 2) s (2 * (((i 1).val - m) / 2))).1⌝ ∗ (arg3.view.loc (c : Thread nD τ) ↦[arg3.view.set]{fullShare} harg3.unread x1) ∗ (arg4.view.loc (c : Thread nD τ) ↦[arg4.view.set]{fullShare} harg4.unread x2) ∗ (arg6.view.loc (c : Thread nD τ) ↦[arg6.view.set]{fullShare} harg6.unread x4) ∗ (arg12.view.loc (c : Thread nD τ) ↦[arg12.view.set]{fullShare} harg12.unread (chunksFn p x1 x2 x4 (m + ((i 1).val - m) % 2) s (2 * (((i 1).val - m) / 2))).2.1) ∗ (arg13.view.loc (c : Thread nD τ) ↦[arg13.view.set]{fullShare} harg13.unread (chunksFn p x1 x2 x4 (m + ((i 1).val - m) % 2) s (2 * (((i 1).val - m) / 2))).2.2.1) ∗ (arg14.view.loc (c : Thread nD τ) ↦[arg14.view.set]{fullShare} harg14.unread (chunksFn p x1 x2 x4 (m + ((i 1).val - m) % 2) s (2 * (((i 1).val - m) / 2))).2.2.2)) : sProp 𝕄)) := by
  have e3 := fun inb => (rowsOf_read arg3.view (harg3.unread x1) inb _ (off20_own i)).trans (congrArg (rowsOf · (ownBlk i)) (harg3.read_unread x1))
  have e4 := fun inb => (rowsOf_read arg4.view (harg4.unread x2) inb _ (off20_own i)).trans (congrArg (rowsOf · (ownBlk i)) (harg4.read_unread x2))
  obtain ⟨kc, k12, k13, k14⟩ := loop_eq c i arg2 harg2 arg3 harg3 arg4 harg4 arg5 harg5 arg6 harg6 arg7 harg7 arg8 harg8 arg9 harg9 arg10 harg10 arg11 harg11 arg12 harg12 arg13 harg13 arg14 harg14 arg15 harg15 p x1 x2 x4 (BitVec.ofNat 32 (i 1).val) m hm (chk2 i m hm) (Scalar.addi (stopW m) 1#32) (oddW (i 1).val (stopW m)) (Scalar.subi (BitVec.ofNat 32 (i 1).val) (Scalar.addi (stopW m) 1#32)) 2#32 s.1.1 s.1.2
    s (harg12.unread s.2.1) (harg13.unread s.2.2.1) (harg14.unread s.2.2.2) (harg12.read_unread _) (harg13.read_unread _) (harg14.read_unread _) (k0_t1_loop i (stopW m)).trips le_rfl
  rw [trips1 i m hm] at kc k12 k13 k14
  have f12 := harg12.eq_unread k12
  have f13 := harg13.eq_unread k13
  have f14 := harg14.eq_unread k14
  rw [k0_part15_eq_skeleton]; unfold k0_part15_skel
  · iintro ⟨H3, H4, H6, H12, H13, H14⟩
    sl_exec
    sl_step
    have ht : Scf.trips (k0_t1_loop i (stopW m)).lb (k0_t1_loop i (stopW m)).ub (k0_t1_loop i (stopW m)).st = ((i 1).val - m) / 2 := trips1 i m hm
    rw [ht, f12, f13, f14]
    isplitr; · ipureintro; exact congrArg (vals15 p (rowsOf x1 (ownBlk i)) (rowsOf x2 (ownBlk i))) kc
    isplitl [H3]; · iexact H3
    isplitl [H4]; · iexact H4
    isplitl [H6]; · iexact H6
    isplitl [H12]; · iexact H12
    isplitl [H13]; · iexact H13
    iexact H14

/-- What the sixth part binds. -/
def vals16 (p : Point F) (kb vb : Vec F S256x128 .f32) (c0 c1 : Vec F S1x1x256 .f32) (w : BitVec 32) :
    Σ' (v232 : FVec F S512x256 .f32) (v233 : FVec F S512x256 .bf16), BitVec 32 :=
  ⟨ownDs p kb vb c0 c1, ownDsb p kb vb c0 c1, w⟩

set_option maxHeartbeats 2000000 in
/-- The sixth part: the query's own block's gradients of keys and values. -/
theorem run16 (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
    (p : Point F) (x1 x2 : Vec F S8192x128 .f32) (x4 : Vec F S1x2x8192 .f32) (y12 y13 : Vec F S8192x128 .f32) (E : Set ℕ) :
    (iprop((arg6.view.loc (c : Thread nD τ) ↦[arg6.view.set]{fullShare} harg6.unread x4) ∗ (arg12.view.loc (c : Thread nD τ) ↦[arg12.view.set]{fullShare} harg12.unread y12) ∗ (arg13.view.loc (c : Thread nD τ) ↦[arg13.view.set]{fullShare} harg13.unread y13)) : sProp 𝕄)
      ⊢ wp frame (wpE (defs₀ (F := F)) 𝒱₀ (c : Thread nD τ) none) E (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) p.b0 p.b1 p.q2 p.do2 p.delta ownMask (k0_pay98 p.q2 (rowsOf x1 (ownBlk i))) (k0_pay99 p.do2 (rowsOf x2 (ownBlk i))) (k0_pay100 p.q2 (rowsOf x1 (ownBlk i))))
          (fun r => (iprop(⌜r = vals16 p (rowsOf x1 (ownBlk i)) (rowsOf x2 (ownBlk i)) (colsOf x4 0 (ownBlk i)) (colsOf x4 1 (ownBlk i)) (Scalar.muli (BitVec.ofNat 32 (i 1).val) 256#32)⌝ ∗ (arg6.view.loc (c : Thread nD τ) ↦[arg6.view.set]{fullShare} harg6.unread x4) ∗ (arg12.view.loc (c : Thread nD τ) ↦[arg12.view.set]{fullShare} harg12.unread (setRows y12 (ownBlk i) (ownKey p (rowsOf x1 (ownBlk i)) (rowsOf x2 (ownBlk i)) (colsOf x4 0 (ownBlk i)) (colsOf x4 1 (ownBlk i)) (rowsOf y12 (ownBlk i))))) ∗ (arg13.view.loc (c : Thread nD τ) ↦[arg13.view.set]{fullShare} harg13.unread (setRows y13 (ownBlk i) (ownVal p (rowsOf x1 (ownBlk i)) (rowsOf x2 (ownBlk i)) (colsOf x4 0 (ownBlk i)) (colsOf x4 1 (ownBlk i)) (rowsOf y13 (ownBlk i)))))) : sProp 𝕄)) := by
  have e60 := fun inb => (colsOf_read arg6.view (harg6.unread x4) inb 0 _ (off21_own i)).trans (congrArg (colsOf · 0 (ownBlk i)) (harg6.read_unread x4))
  have e61 := fun inb => (colsOf_read arg6.view (harg6.unread x4) inb 1 _ (off22_own i)).trans (congrArg (colsOf · 1 (ownBlk i)) (harg6.read_unread x4))
  have e12 := fun inb => (rowsOf_read arg12.view (harg12.unread y12) inb _ (off20_own i)).trans (congrArg (rowsOf · (ownBlk i)) (harg12.read_unread y12))
  have e13 := fun inb => (rowsOf_read arg13.view (harg13.unread y13) inb _ (off20_own i)).trans (congrArg (rowsOf · (ownBlk i)) (harg13.read_unread y13))
  have f12 := fun inb w => harg12.eq_unread ((setRows_read arg12.view (harg12.unread y12) inb w [] _ (off20_own i)).trans (congrArg (fun y => setRows y (ownBlk i) w) (harg12.read_unread y12)))
  have f13 := fun inb w => harg13.eq_unread ((setRows_read arg13.view (harg13.unread y13) inb w [] _ (off20_own i)).trans (congrArg (fun y => setRows y (ownBlk i) w) (harg13.read_unread y13)))
  rw [k0_part16_eq_skeleton]; unfold k0_part16_skel
  · iintro ⟨H6, H12, H13⟩
    sl_exec
    sl_step
    rw [f12, f13]
    isplitr; · ipureintro; rfl
    isplitl [H6]; · iexact H6
    isplitl [H12]; · iexact H12
    iexact H13

/-- What the seventh part binds. -/
def vals17 (v5 : IVec S1x128 1) (c0 : FVec F S512x128 .f32) (c1 : FVec F S512x1 .f32) (ds : FVec F S512x256 .f32) (dsb : FVec F S512x256 .bf16) (kb : Vec F S256x128 .f32) :
    Σ' (v288 : FVec F S512x1 .f32), FVec F S256x128 .f32 :=
  ⟨k0_pay108 c1 ds, k0_pay109 v5 c0 dsb kb⟩

set_option maxHeartbeats 2000000 in
/-- The seventh part: the query's own block's bias gradient, and the query block's results. -/
theorem run17 (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
    (x1 : Vec F S8192x128 .f32) (y14 : Vec F S1x2x8192 .f32) (v5 : IVec S1x128 1) (c0 : FVec F S512x128 .f32) (c1 : FVec F S512x1 .f32) (ds : FVec F S512x256 .f32) (dsb : FVec F S512x256 .bf16) (w : BitVec 32) (E : Set ℕ) :
    (iprop((arg3.view.loc (c : Thread nD τ) ↦[arg3.view.set]{fullShare} harg3.unread x1) ∗ (arg14.view.loc (c : Thread nD τ) ↦[arg14.view.set]{fullShare} harg14.unread y14)) : sProp 𝕄)
      ⊢ wp frame (wpE (defs₀ (F := F)) 𝒱₀ (c : Thread nD τ) none) E (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) v5 c0 c1 ds dsb w)
          (fun r => (iprop(⌜r = vals17 v5 c0 c1 ds dsb (rowsOf x1 (ownBlk i))⌝ ∗ (arg3.view.loc (c : Thread nD τ) ↦[arg3.view.set]{fullShare} harg3.unread x1) ∗ (arg14.view.loc (c : Thread nD τ) ↦[arg14.view.set]{fullShare} harg14.unread (ownBias ds y14 (ownBlk i)))) : sProp 𝕄)) := by
  have e3 := fun inb => (rowsOf_read arg3.view (harg3.unread x1) inb _ (off20_own i)).trans (congrArg (rowsOf · (ownBlk i)) (harg3.read_unread x1))
  have e14 := fun inb => (colsOf_read arg14.view (harg14.unread y14) inb 0 _ (off21_own i)).trans (congrArg (colsOf · 0 (ownBlk i)) (harg14.read_unread y14))
  have r14 := fun inb w => (setCols_read arg14.view (harg14.unread y14) inb w [] 0 _ (off21_own i)).trans (congrArg (fun y => setCols y 0 (ownBlk i) w) (harg14.read_unread y14))
  have e15 := fun inb => (colsOf_read arg14.view (harg14.unread y14) inb 1 _ (off22_own i)).trans (congrArg (colsOf · 1 (ownBlk i)) (harg14.read_unread y14))
  have f14 := fun inb inb' w w' => harg14.eq_unread ((setCols_read arg14.view (harg14.unread y14) inb w [⟨Rect.unit (s := S1x2x8192) (k0_off21 i) S1x1x256.size inb', w'⟩] 1 _ (off22_own i)).trans (congrArg (fun y => setCols y 1 (ownBlk i) w) (r14 inb' w')))
  rw [k0_part17_eq_skeleton]; unfold k0_part17_skel
  · iintro ⟨H3, H14⟩
    sl_exec
    sl_step
    rw [f14]
    isplitr; · ipureintro; rfl
    isplitl [H3]; · iexact H3
    iexact H14

end Cert.KernelFoxIdeal.Gen

end
-- ==== Proof.Fox.Body.lean ====
module

public import proofs.«01_k».proof.Proof.Fox.Tail

@[expose] public section

/-!
The whole body at one grid point, as a function of its blocks and of what the accumulated outputs held before.
-/

set_option maxRecDepth 16384

noncomputable section

namespace Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelFoxIdeal.Value

variable {F : FTy → Type} [FloatOps F] [Named F]

local notation "𝕄" => MT nD τ sig Unit (Elt F) ℕ (UR sig nD τ) ℕ

open Cert.KernelFoxIdeal

/-- A part that binds a known value, and then the rest. -/
theorem seq {α β : Type} (c : Dev nD) (E : Set ℕ) {P R : sProp 𝕄} {a : Prog (TpuEff nD τ sig (Elt F) (Λ₀ F) .tc) α} {v : α}
    (h : P ⊢ wp frame (wpE (defs₀ (F := F)) 𝒱₀ (c : Thread nD τ) none) E a (fun r => (iprop(⌜r = v⌝ ∗ R) : sProp 𝕄)))
    (k : α → Prog (TpuEff nD τ sig (Elt F) (Λ₀ F) .tc) β) (Q : β → sProp 𝕄) :
    (iprop(P ∗ (R -∗ wp frame (wpE (defs₀ (F := F)) 𝒱₀ (c : Thread nD τ) none) E (k v) Q)) : sProp 𝕄)
      ⊢ wp frame (wpE (defs₀ (F := F)) 𝒱₀ (c : Thread nD τ) none) E (a >>= k) Q := by
  rw [wp_bind]
  iintro ⟨HP, HK⟩
  iapply (wp_wand_r frame (wpE (defs₀ (F := F)) 𝒱₀ (c : Thread nD τ) none) E)
  isplitl [HP]
  · iapply h; iexact HP
  iintro %r ⟨%hr, HR⟩
  subst hr
  iapply HK; iexact HR

/-- A whole memref owned at `x` is its buffer at the contents that read as `x`; -/
theorem owns_to (c : Thread nD τ) {sp : Space} {sh : Shape} {e : EltTy} (a : Memref sig c.2.kind sp sh e) (ha : a.IsWhole) (x : sh.Idx → Elt F e) :
    (owns c a fullShare x : sProp 𝕄) ⊢ (a.view.loc c ↦[a.view.set]{fullShare} ha.unread x) := by
  unfold owns
  iintro ⟨%f, %h, H⟩
  rw [← ha.eq_unread h]
  iexact H

/-- and back. -/
theorem owns_of (c : Thread nD τ) {sp : Space} {sh : Shape} {e : EltTy} (a : Memref sig c.2.kind sp sh e) (ha : a.IsWhole) (x : sh.Idx → Elt F e) :
    (a.view.loc c ↦[a.view.set]{fullShare} ha.unread x : sProp 𝕄) ⊢ owns c a fullShare x := by
  have h := ha.read_unread x
  generalize ha.unread x = f at h ⊢
  subst h; exact owns_intro c a fullShare f

/-- What a grid point has of its own query block. -/
abbrev ptOf (i : grid0.Coords) (x0 x3 : Vec F S256x128 .f32) (x5 : Vec F S1x128 .f32) (x6 x7 x8 : Vec F S256x128 .f32) : Point F :=
  pointOf (BitVec.ofNat 32 (i 0).val) x0 x3 x5 x6 x7 x8

/-- The state after all key blocks before the query's own. -/
def before (i : grid0.Coords) (p : Point F) (x1 x2 : Vec F S8192x128 .f32) (x4 : Vec F S1x2x8192 .f32) (y12 y13 : Vec F S8192x128 .f32) (y14 : Vec F S1x2x8192 .f32) : State F :=
  chunksFn p x1 x2 x4 (firstBlk i x4 p) (start0 (enter i k0_pay56 y12) (enter i k0_pay57 y13) (enter i k0_pay58 y14)) ((i 1).val - firstBlk i x4 p)

/-- The query's own block, from that state: the query block's two results and the accumulated outputs. -/
def lastFn (p : Point F) (x1 x2 : Vec F S8192x128 .f32) (x4 : Vec F S1x2x8192 .f32) (b : Fin 32) (s : State F) :
    Vec F S256x128 .f32 × Vec F S8192x128 .f32 × Vec F S8192x128 .f32 × Vec F S1x2x8192 .f32 × Vec F S256x128 .f32 :=
  let kb := rowsOf x1 b
  let vb := rowsOf x2 b
  let c0 := colsOf x4 0 b
  let c1 := colsOf x4 1 b
  (k0_pay109 k0_pay59 s.1.1 (ownDsb p kb vb c0 c1) kb,
    setRows s.2.1 b (ownKey p kb vb c0 c1 (rowsOf s.2.1 b)),
    setRows s.2.2.1 b (ownVal p kb vb c0 c1 (rowsOf s.2.2.1 b)),
    ownBias (ownDs p kb vb c0 c1) s.2.2.2 b,
    k0_pay1 k0_pay59 (k0_pay108 s.1.2 (ownDs p kb vb c0 c1)))

/-- The whole body. -/
def bodyFn (i : grid0.Coords) (x0 : Vec F S256x128 .f32) (x1 x2 : Vec F S8192x128 .f32) (x3 : Vec F S256x128 .f32) (x4 : Vec F S1x2x8192 .f32) (x5 : Vec F S1x128 .f32)
    (x6 x7 x8 : Vec F S256x128 .f32) (y12 y13 : Vec F S8192x128 .f32) (y14 : Vec F S1x2x8192 .f32) :
    Vec F S256x128 .f32 × Vec F S8192x128 .f32 × Vec F S8192x128 .f32 × Vec F S1x2x8192 .f32 × Vec F S256x128 .f32 :=
  lastFn (ptOf i x0 x3 x5 x6 x7 x8) x1 x2 x4 (ownBlk i) (before i (ptOf i x0 x3 x5 x6 x7 x8) x1 x2 x4 y12 y13 y14)

set_option maxHeartbeats 2000000 in
/-- The body over its buffers. -/
theorem body_run (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
    (x0 : Vec F S256x128 .f32) (x1 x2 : Vec F S8192x128 .f32) (x3 : Vec F S256x128 .f32) (x4 : Vec F S1x2x8192 .f32) (x5 : Vec F S1x128 .f32) (x6 x7 x8 y11 : Vec F S256x128 .f32) (y12 y13 : Vec F S8192x128 .f32) (y14 : Vec F S1x2x8192 .f32) (y15 : Vec F S256x128 .f32) (E : Set ℕ) :
    (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread y11) ∗ (arg12.view.loc (c : Thread nD τ) ↦[arg12.view.set]{fullShare} harg12.unread y12) ∗ (arg13.view.loc (c : Thread nD τ) ↦[arg13.view.set]{fullShare} harg13.unread y13) ∗ (arg14.view.loc (c : Thread nD τ) ↦[arg14.view.set]{fullShare} harg14.unread y14) ∗ (arg15.view.loc (c : Thread nD τ) ↦[arg15.view.set]{fullShare} harg15.unread y15)) : sProp 𝕄)
      ⊢ wp frame (wpE (defs₀ (F := F)) 𝒱₀ (c : Thread nD τ) none) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun r => (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread (bodyFn i x0 x1 x2 x3 x4 x5 x6 x7 x8 y12 y13 y14).1) ∗ (arg12.view.loc (c : Thread nD τ) ↦[arg12.view.set]{fullShare} harg12.unread (bodyFn i x0 x1 x2 x3 x4 x5 x6 x7 x8 y12 y13 y14).2.1) ∗ (arg13.view.loc (c : Thread nD τ) ↦[arg13.view.set]{fullShare} harg13.unread (bodyFn i x0 x1 x2 x3 x4 x5 x6 x7 x8 y12 y13 y14).2.2.1) ∗ (arg14.view.loc (c : Thread nD τ) ↦[arg14.view.set]{fullShare} harg14.unread (bodyFn i x0 x1 x2 x3 x4 x5 x6 x7 x8 y12 y13 y14).2.2.2.1) ∗ (arg15.view.loc (c : Thread nD τ) ↦[arg15.view.set]{fullShare} harg15.unread (bodyFn i x0 x1 x2 x3 x4 x5 x6 x7 x8 y12 y13 y14).2.2.2.2)) : sProp 𝕄)) := by
  rw [cc0_fox_bwd_eq_skeleton]; unfold cc0_fox_bwd_skel
  have hm := firstBlk_le i x4 (ptOf i x0 x3 x5 x6 x7 x8)
  have hs : chunksFn (ptOf i x0 x3 x5 x6 x7 x8) x1 x2 x4 ((firstBlk i x4 (ptOf i x0 x3 x5 x6 x7 x8)) + ((i 1).val - (firstBlk i x4 (ptOf i x0 x3 x5 x6 x7 x8))) % 2) (chunksFn (ptOf i x0 x3 x5 x6 x7 x8) x1 x2 x4 (firstBlk i x4 (ptOf i x0 x3 x5 x6 x7 x8)) (start0 (enter i k0_pay56 y12) (enter i k0_pay57 y13) (enter i k0_pay58 y14)) (((i 1).val - (firstBlk i x4 (ptOf i x0 x3 x5 x6 x7 x8))) % 2)) (2 * (((i 1).val - (firstBlk i x4 (ptOf i x0 x3 x5 x6 x7 x8))) / 2)) = before i (ptOf i x0 x3 x5 x6 x7 x8) x1 x2 x4 y12 y13 y14 :=
    (chunks_add (ptOf i x0 x3 x5 x6 x7 x8) x1 x2 x4 (firstBlk i x4 (ptOf i x0 x3 x5 x6 x7 x8)) _ _ _).trans (congrArg (chunksFn (ptOf i x0 x3 x5 x6 x7 x8) x1 x2 x4 (firstBlk i x4 (ptOf i x0 x3 x5 x6 x7 x8)) _) (Nat.mod_add_div _ 2))
  iintro ⟨H2, H3, H4, H5, H6, H7, H8, H9, H10, H11, H12, H13, H14, H15⟩
  iapply (seq c E (run11 c i arg2 harg2 arg3 harg3 arg4 harg4 arg5 harg5 arg6 harg6 arg7 harg7 arg8 harg8 arg9 harg9 arg10 harg10 arg11 harg11 arg12 harg12 arg13 harg13 arg14 harg14 arg15 harg15 x0 x6 x7 y12 y13 y14 E))
  isplitl [H2 H8 H9 H12 H13 H14]
  · isplitl [H2]; · iexact H2
    isplitl [H8]; · iexact H8
    isplitl [H9]; · iexact H9
    isplitl [H12]; · iexact H12
    isplitl [H13]; · iexact H13
    iexact H14
  iintro ⟨H2, H8, H9, H12, H13, H14⟩
  unfold vals11
  dsimp only
  iapply (seq c E (run12 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) x0 x3 x5 x6 x7 x8 E))
  isplitl [H5 H7 H10]
  · isplitl [H5]; · iexact H5
    isplitl [H7]; · iexact H7
    iexact H10
  iintro ⟨H5, H7, H10⟩
  unfold vals12
  dsimp only
  iapply (seq c E (run13 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) x0 x3 x4 x5 x6 x7 x8 E))
  isplitl [H6]
  · iexact H6
  iintro H6
  unfold vals13
  dsimp only
  iapply (seq c E (run14 c i arg2 harg2 arg3 harg3 arg4 harg4 arg5 harg5 arg6 harg6 arg7 harg7 arg8 harg8 arg9 harg9 arg10 harg10 arg11 harg11 arg12 harg12 arg13 harg13 arg14 harg14 arg15 harg15 (ptOf i x0 x3 x5 x6 x7 x8) x1 x2 x4 (enter i k0_pay56 y12) (enter i k0_pay57 y13) (enter i k0_pay58 y14) (k0_pay63 x0) (k0_pay64 x0) (k0_pay65 x6) (k0_pay66 x6) (k0_pay68 (k0_pay67 x6 x7)) (k0_pay69 k0_pay60 (k0_pay62 x6 x7)) (k0_pay80 (ptOf i x0 x3 x5 x6 x7 x8).b0 (k0_pay74 x5) (k0_pay75 (k0_pay61 x0)) (k0_pay76 k0_pay59) k0_pay77 (colsOf x4 0 (prevBlk i))) (Scalar.muli (Scalar.maxsi (stopW (i 1).val) 0#32) 256#32) (firstBlk i x4 (ptOf i x0 x3 x5 x6 x7 x8)) hm rfl rfl rfl rfl rfl E))
  isplitl [H3 H4 H6 H12 H13 H14]
  · isplitl [H3]; · iexact H3
    isplitl [H4]; · iexact H4
    isplitl [H6]; · iexact H6
    isplitl [H12]; · iexact H12
    isplitl [H13]; · iexact H13
    iexact H14
  iintro ⟨H3, H4, H6, H12, H13, H14⟩
  unfold vals14
  dsimp only
  iapply (seq c E (run15 c i arg2 harg2 arg3 harg3 arg4 harg4 arg5 harg5 arg6 harg6 arg7 harg7 arg8 harg8 arg9 harg9 arg10 harg10 arg11 harg11 arg12 harg12 arg13 harg13 arg14 harg14 arg15 harg15 (ptOf i x0 x3 x5 x6 x7 x8) x1 x2 x4 (firstBlk i x4 (ptOf i x0 x3 x5 x6 x7 x8)) hm (chunksFn (ptOf i x0 x3 x5 x6 x7 x8) x1 x2 x4 (firstBlk i x4 (ptOf i x0 x3 x5 x6 x7 x8)) (start0 (enter i k0_pay56 y12) (enter i k0_pay57 y13) (enter i k0_pay58 y14)) (((i 1).val - (firstBlk i x4 (ptOf i x0 x3 x5 x6 x7 x8))) % 2)) E))
  isplitl [H3 H4 H6 H12 H13 H14]
  · isplitl [H3]; · iexact H3
    isplitl [H4]; · iexact H4
    isplitl [H6]; · iexact H6
    isplitl [H12]; · iexact H12
    isplitl [H13]; · iexact H13
    iexact H14
  iintro ⟨H3, H4, H6, H12, H13, H14⟩
  rw [hs]
  unfold vals15
  dsimp only
  iapply (seq c E (run16 c i arg2 harg2 arg3 harg3 arg4 harg4 arg5 harg5 arg6 harg6 arg7 harg7 arg8 harg8 arg9 harg9 arg10 harg10 arg11 harg11 arg12 harg12 arg13 harg13 arg14 harg14 arg15 harg15 (ptOf i x0 x3 x5 x6 x7 x8) x1 x2 x4 (before i (ptOf i x0 x3 x5 x6 x7 x8) x1 x2 x4 y12 y13 y14).2.1 (before i (ptOf i x0 x3 x5 x6 x7 x8) x1 x2 x4 y12 y13 y14).2.2.1 E))
  isplitl [H6 H12 H13]
  · isplitl [H6]; · iexact H6
    isplitl [H12]; · iexact H12
    iexact H13
  iintro ⟨H6, H12, H13⟩
  unfold vals16
  dsimp only
  iapply (seq c E (run17 c i arg2 harg2 arg3 harg3 arg4 harg4 arg5 harg5 arg6 harg6 arg7 harg7 arg8 harg8 arg9 harg9 arg10 harg10 arg11 harg11 arg12 harg12 arg13 harg13 arg14 harg14 arg15 harg15 x1 (before i (ptOf i x0 x3 x5 x6 x7 x8) x1 x2 x4 y12 y13 y14).2.2.2 k0_pay59 (before i (ptOf i x0 x3 x5 x6 x7 x8) x1 x2 x4 y12 y13 y14).1.1 (before i (ptOf i x0 x3 x5 x6 x7 x8) x1 x2 x4 y12 y13 y14).1.2 (ownDs (ptOf i x0 x3 x5 x6 x7 x8) (rowsOf x1 (ownBlk i)) (rowsOf x2 (ownBlk i)) (colsOf x4 0 (ownBlk i)) (colsOf x4 1 (ownBlk i))) (ownDsb (ptOf i x0 x3 x5 x6 x7 x8) (rowsOf x1 (ownBlk i)) (rowsOf x2 (ownBlk i)) (colsOf x4 0 (ownBlk i)) (colsOf x4 1 (ownBlk i))) (Scalar.muli (BitVec.ofNat 32 (i 1).val) 256#32) E))
  isplitl [H3 H14]
  · isplitl [H3]; · iexact H3
    iexact H14
  iintro ⟨H3, H14⟩
  unfold vals17
  dsimp only
  sl_exec
  sl_step
  have f11 := fun w => harg11.eq_unread (View.read_writes_full arg11.view (harg11.unread y11) inb_S256x128_S256x128_0_0 w [])
  have f15 := fun w => harg15.eq_unread (View.read_writes_full arg15.view (harg15.unread y15) inb_S256x128_S256x128_0_0 w [])
  rw [f11, f15]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body at any grid point, by values. -/
theorem body_triple (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S1x2x8192 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x2x8192 .f32) (harg14 : arg14.IsWhole) (arg15 : Memref sig .tc .vmem S256x128 .f32) (harg15 : arg15.IsWhole)
    (x0 : Vec F S256x128 .f32) (x1 x2 : Vec F S8192x128 .f32) (x3 : Vec F S256x128 .f32) (x4 : Vec F S1x2x8192 .f32) (x5 : Vec F S1x128 .f32) (x6 x7 x8 y11 : Vec F S256x128 .f32) (y12 y13 : Vec F S8192x128 .f32) (y14 : Vec F S1x2x8192 .f32) (y15 : Vec F S256x128 .f32) (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15) : sProp 𝕄)
      ⊢ wp frame (wpE (defs₀ (F := F)) 𝒱₀ (c : Thread nD τ) none) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (bodyFn i x0 x1 x2 x3 x4 x5 x6 x7 x8 y12 y13 y14).1 ∗ owns (c : Thread nD τ) arg12 fullShare (bodyFn i x0 x1 x2 x3 x4 x5 x6 x7 x8 y12 y13 y14).2.1 ∗ owns (c : Thread nD τ) arg13 fullShare (bodyFn i x0 x1 x2 x3 x4 x5 x6 x7 x8 y12 y13 y14).2.2.1 ∗ owns (c : Thread nD τ) arg14 fullShare (bodyFn i x0 x1 x2 x3 x4 x5 x6 x7 x8 y12 y13 y14).2.2.2.1 ∗ owns (c : Thread nD τ) arg15 fullShare (bodyFn i x0 x1 x2 x3 x4 x5 x6 x7 x8 y12 y13 y14).2.2.2.2) : sProp 𝕄)) := by
  iintro ⟨H2, H3, H4, H5, H6, H7, H8, H9, H10, H11, H12, H13, H14, H15⟩
  ihave H2 := (owns_to (c : Thread nD τ) arg2 harg2 x0) $$ [H2]
  · iexact H2
  ihave H3 := (owns_to (c : Thread nD τ) arg3 harg3 x1) $$ [H3]
  · iexact H3
  ihave H4 := (owns_to (c : Thread nD τ) arg4 harg4 x2) $$ [H4]
  · iexact H4
  ihave H5 := (owns_to (c : Thread nD τ) arg5 harg5 x3) $$ [H5]
  · iexact H5
  ihave H6 := (owns_to (c : Thread nD τ) arg6 harg6 x4) $$ [H6]
  · iexact H6
  ihave H7 := (owns_to (c : Thread nD τ) arg7 harg7 x5) $$ [H7]
  · iexact H7
  ihave H8 := (owns_to (c : Thread nD τ) arg8 harg8 x6) $$ [H8]
  · iexact H8
  ihave H9 := (owns_to (c : Thread nD τ) arg9 harg9 x7) $$ [H9]
  · iexact H9
  ihave H10 := (owns_to (c : Thread nD τ) arg10 harg10 x8) $$ [H10]
  · iexact H10
  ihave H11 := (owns_to (c : Thread nD τ) arg11 harg11 y11) $$ [H11]
  · iexact H11
  ihave H12 := (owns_to (c : Thread nD τ) arg12 harg12 y12) $$ [H12]
  · iexact H12
  ihave H13 := (owns_to (c : Thread nD τ) arg13 harg13 y13) $$ [H13]
  · iexact H13
  ihave H14 := (owns_to (c : Thread nD τ) arg14 harg14 y14) $$ [H14]
  · iexact H14
  ihave H15 := (owns_to (c : Thread nD τ) arg15 harg15 y15) $$ [H15]
  · iexact H15
  iapply (wp_wand_r frame (wpE (defs₀ (F := F)) 𝒱₀ (c : Thread nD τ) none) E)
  isplitl [H2 H3 H4 H5 H6 H7 H8 H9 H10 H11 H12 H13 H14 H15]
  · iapply (body_run c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y11 y12 y13 y14 y15 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %r ⟨H2, H3, H4, H5, H6, H7, H8, H9, H10, H11, H12, H13, H14, H15⟩
  isplitl [H2]; · iapply (owns_of (c : Thread nD τ) arg2 harg2 _); iexact H2
  isplitl [H3]; · iapply (owns_of (c : Thread nD τ) arg3 harg3 _); iexact H3
  isplitl [H4]; · iapply (owns_of (c : Thread nD τ) arg4 harg4 _); iexact H4
  isplitl [H5]; · iapply (owns_of (c : Thread nD τ) arg5 harg5 _); iexact H5
  isplitl [H6]; · iapply (owns_of (c : Thread nD τ) arg6 harg6 _); iexact H6
  isplitl [H7]; · iapply (owns_of (c : Thread nD τ) arg7 harg7 _); iexact H7
  isplitl [H8]; · iapply (owns_of (c : Thread nD τ) arg8 harg8 _); iexact H8
  isplitl [H9]; · iapply (owns_of (c : Thread nD τ) arg9 harg9 _); iexact H9
  isplitl [H10]; · iapply (owns_of (c : Thread nD τ) arg10 harg10 _); iexact H10
  isplitl [H11]; · iapply (owns_of (c : Thread nD τ) arg11 harg11 _); iexact H11
  isplitl [H12]; · iapply (owns_of (c : Thread nD τ) arg12 harg12 _); iexact H12
  isplitl [H13]; · iapply (owns_of (c : Thread nD τ) arg13 harg13 _); iexact H13
  isplitl [H14]; · iapply (owns_of (c : Thread nD τ) arg14 harg14 _); iexact H14
  iapply (owns_of (c : Thread nD τ) arg15 harg15 _); iexact H15

end Cert.KernelFoxIdeal.Gen

end
-- ==== Proof.Fox.Frame.lean ====
module

public import proofs.«01_k».proof.Proof.Fox.Body
public import proofs.«01_k».proof.Proof.Gen.KernelFoxIdeal.Launch
public import proofs.«01_k».proof.Proof.Gen.KernelFoxIdeal.Points
public import Idealize.ShloMosaic.Lib.Pipeline.FrameBody
public import Idealize.ShloMosaic.Lib.Pipeline.FrameSuffix
public import Idealize.ShloMosaic.Lib.Ring
public import Idealize.ShloMosaic.Lib.Claim

@[expose] public section

/-!
The whole run of the forgetting-attention backward kernel, over any float values: the host lines around the region, what the
outputs' blocks hold after each grid point, the body obligation at a symbolic point, and the run of the program with its frame.
-/

set_option maxRecDepth 16384

noncomputable section

namespace Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelFoxIdeal.Value

variable {F : FTy → Type} [FloatOps F] [Named F]

local notation "𝕄" => MT nD τ sig Unit (Elt F) ℕ (UR sig nD τ) ℕ

open Cert.KernelFoxIdeal
open Idealize.ShloMosaic.Pipeline (Dat Cfg Window BodyObligation cellOf)

variable (m : (ℓ : Loc nD τ sig) → Buf (Elt F) ℓ) (ρ : Dev nD → PrngReg)

/-! ## The host lines around the region -/

/-- What the arrays hold when the region is entered: what the host lines before it leave. -/
abbrev V0 (c : Dev nD) : Valuation τ sig (Elt F) := StableHlo.after (List.flatten [hostOps0, hostOps0_1, hostOps0_2]) (fun b => m (c, b))
abbrev V (c : Dev nD) (b : Ref sig .tc) : Buf (Elt F) ((c : Thread nD τ).loc b) := V0 m c (Proc.devRef .tc b)

theorem fresh_before : ([hostOps0, hostOps0_1, hostOps0_2] : List (List (HloOp τ sig (Elt F)))).Forall fun ops => ops.Forall fun op => op.fresh = ∅ := by
  simp only [List.Forall]; repeat' constructor
theorem fresh_after : (hostOps1 : List (HloOp τ sig (Elt F))).Forall fun op => op.fresh = ∅ := by
  simp only [List.Forall]; repeat' constructor

set_option maxHeartbeats 1600000 in
/-- The program is its host lines, the region, and the host lines after it. -/
theorem hmain : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0, hostOps0_1, hostOps0_2] [hostOps1]
    (by simp only [List.Forall]; exact ⟨hostOps0_sub, hostOps0_1_sub, hostOps0_2_sub⟩) fresh_before main_chain

/-- The lines after the region touch arrays and buffers that the region leaves alone only, -/
theorem tail_sub : ∀ ops ∈ ([hostOps1] : List (List (HloOp τ sig (Elt F)))), ∀ op ∈ ops, op.bufs ⊆ Pipeline.tailRefs sig Pipeline.Prefetch.none spec0 := by
  rw [Pipeline.tailRefs_none spec0 (launch0 (F := F)).win.arr_unscoped]
  intro ops h op hop
  obtain rfl := List.mem_singleton.mp h
  exact Pipeline.sub_ucRefs op (List.forall_iff_forall_mem.mp hostOps1_sub op hop)
/-- allocate nothing, -/
theorem tail_fresh : ∀ ops ∈ ([hostOps1] : List (List (HloOp τ sig (Elt F)))), ∀ op ∈ ops, op.fresh = ∅ := by
  intro ops h op hop
  obtain rfl := List.mem_singleton.mp h
  exact List.forall_iff_forall_mem.mp fresh_after op hop
/-- and write no array of the region. -/
theorem tail_keeps : ∀ ops ∈ ([hostOps1] : List (List (HloOp τ sig (Elt F)))), ∀ op ∈ ops, ∀ w, Proc.devRef .tc (Pipeline.arrRef spec0 w) ∉ op.writes := by
  intro ops h op hop
  obtain rfl := List.mem_singleton.mp h
  simp only [hostOps1, List.mem_cons, List.mem_nil_iff, _root_.or_false] at hop
  rcases hop with rfl | rfl | rfl | rfl | rfl | rfl
  all_goals
    intro w
    simp only [StableHlo.unary_writes, StableHlo.binary_writes, StableHlo.reshape_writes, Finset.mem_singleton]
    exact StableHlo.devRef_ne_of_ne (by revert w; decide)

section
variable (c : Dev nD)

/-- No host line before the region writes argument 0. -/
theorem V_main_arg0 : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, StableHlo.TRef.unary, StableHlo.TRef.ternary, StableHlo.TRef.of, Finset.mem_singleton]
    repeat' apply And.intro
    all_goals exact StableHlo.devRef_ne_of_ne (by decide)))

/-- No host line before the region writes argument 1. -/
theorem V_main_arg1 : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, StableHlo.TRef.unary, StableHlo.TRef.ternary, StableHlo.TRef.of, Finset.mem_singleton]
    repeat' apply And.intro
    all_goals exact StableHlo.devRef_ne_of_ne (by decide)))

/-- No host line before the region writes argument 2. -/
theorem V_main_arg2 : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, StableHlo.TRef.unary, StableHlo.TRef.ternary, StableHlo.TRef.of, Finset.mem_singleton]
    repeat' apply And.intro
    all_goals exact StableHlo.devRef_ne_of_ne (by decide)))

/-- No host line before the region writes argument 3. -/
theorem V_main_arg3 : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, StableHlo.TRef.unary, StableHlo.TRef.ternary, StableHlo.TRef.of, Finset.mem_singleton]
    repeat' apply And.intro
    all_goals exact StableHlo.devRef_ne_of_ne (by decide)))

/-- No host line before the region writes argument 4. -/
theorem V_main_arg4 : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, StableHlo.TRef.unary, StableHlo.TRef.ternary, StableHlo.TRef.of, Finset.mem_singleton]
    repeat' apply And.intro
    all_goals exact StableHlo.devRef_ne_of_ne (by decide)))

/-- Nor does one after it. -/
theorem W_main_arg0 (dats : (p : Fin 1) → (c : Dev nD) → Dat τ (Elt F) Unit ℕ (UR sig nD τ) ℕ (cfgs (F := F) p) c) :
    Pipeline.afterTail₀ (cfgs (F := F)) dats 0 (V0 m) [hostOps1] c main_arg0 = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.Forall, StableHlo.unary_writes, StableHlo.binary_writes, StableHlo.reshape_writes, Finset.mem_singleton]
    repeat' apply And.intro
    all_goals exact StableHlo.devRef_ne_of_ne (by decide)))).trans
      ((Pipeline.withArrays_of_ne _ _ _ _ _ (by decide : ∀ w : Fin 14, Pipeline.arrRef spec0 w ≠ main_arg0)).trans (V_main_arg0 m c))

/-- Nor does one after it. -/
theorem W_main_arg3 (dats : (p : Fin 1) → (c : Dev nD) → Dat τ (Elt F) Unit ℕ (UR sig nD τ) ℕ (cfgs (F := F) p) c) :
    Pipeline.afterTail₀ (cfgs (F := F)) dats 0 (V0 m) [hostOps1] c main_arg3 = m ((c : Thread nD τ).loc main_arg3) :=
  (StableHlo.after_of_forall_not_mem (b := Proc.devRef .tc main_arg3) _ _ (List.forall_iff_forall_mem.mp (by
    simp only [hostOps1, List.flatten_cons, List.flatten_nil, List.append_nil, List.Forall, StableHlo.unary_writes, StableHlo.binary_writes, StableHlo.reshape_writes, Finset.mem_singleton]
    repeat' apply And.intro
    all_goals exact StableHlo.devRef_ne_of_ne (by decide)))).trans
      ((Pipeline.withArrays_of_ne _ _ _ _ _ (by decide : ∀ w : Fin 14, Pipeline.arrRef spec0 w ≠ main_arg3)).trans (V_main_arg3 m c))

end

/-! ## Blocks and data -/

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The second grid coordinate of point `t` is its place in its group of 32. -/
theorem coord1 : ∀ t : Fin (cfg0 (F := F)).N, (grid0.coords t 1).val = t.val % 32 :=
  (by decide +kernel : ∀ t : Fin grid0.N, (grid0.coords t 1).val = t.val % 32)

theorem whole_0 (t : Fin (cfg0 (F := F)).N) : (st0_0 t).IsWhole := hstage0_0 (((cfg0 (F := F)).slots t 0).cast nbuf0_0)
theorem whole_1 (t : Fin (cfg0 (F := F)).N) : (st0_1 t).IsWhole := hstage0_1 (((cfg0 (F := F)).slots t 1).cast nbuf0_1)
theorem whole_2 (t : Fin (cfg0 (F := F)).N) : (st0_2 t).IsWhole := hstage0_2 (((cfg0 (F := F)).slots t 2).cast nbuf0_2)
theorem whole_3 (t : Fin (cfg0 (F := F)).N) : (st0_3 t).IsWhole := hstage0_3 (((cfg0 (F := F)).slots t 3).cast nbuf0_3)
theorem whole_4 (t : Fin (cfg0 (F := F)).N) : (st0_4 t).IsWhole := hstage0_4 (((cfg0 (F := F)).slots t 4).cast nbuf0_4)
theorem whole_5 (t : Fin (cfg0 (F := F)).N) : (st0_5 t).IsWhole := hstage0_5 (((cfg0 (F := F)).slots t 5).cast nbuf0_5)
theorem whole_6 (t : Fin (cfg0 (F := F)).N) : (st0_6 t).IsWhole := hstage0_6 (((cfg0 (F := F)).slots t 6).cast nbuf0_6)
theorem whole_7 (t : Fin (cfg0 (F := F)).N) : (st0_7 t).IsWhole := hstage0_7 (((cfg0 (F := F)).slots t 7).cast nbuf0_7)
theorem whole_8 (t : Fin (cfg0 (F := F)).N) : (st0_8 t).IsWhole := hstage0_8 (((cfg0 (F := F)).slots t 8).cast nbuf0_8)
theorem whole_9 (t : Fin (cfg0 (F := F)).N) : (st0_9 t).IsWhole := hstage0_9 (((cfg0 (F := F)).slots t 9).cast nbuf0_9)
theorem whole_10 (t : Fin (cfg0 (F := F)).N) : (st0_10 t).IsWhole := hstage0_10 (((cfg0 (F := F)).slots t 10).cast nbuf0_10)
theorem whole_11 (t : Fin (cfg0 (F := F)).N) : (st0_11 t).IsWhole := hstage0_11 (((cfg0 (F := F)).slots t 11).cast nbuf0_11)
theorem whole_12 (t : Fin (cfg0 (F := F)).N) : (st0_12 t).IsWhole := hstage0_12 (((cfg0 (F := F)).slots t 12).cast nbuf0_12)
theorem whole_13 (t : Fin (cfg0 (F := F)).N) : (st0_13 t).IsWhole := hstage0_13 (((cfg0 (F := F)).slots t 13).cast nbuf0_13)

/-- What the outputs' buffers hold after point `n`: the body's function of the point's blocks, over what the point before left. -/
def outsAt (c : Dev nD) : (n : ℕ) → n < (cfg0 (F := F)).N → Vec F S256x128 .f32 × Vec F S8192x128 .f32 × Vec F S8192x128 .f32 × Vec F S1x2x8192 .f32 × Vec F S256x128 .f32
  | 0, hn => bodyFn (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (k0_pay56 (F := F)) (k0_pay57 (F := F)) (k0_pay58 (F := F))
  | n + 1, hn => bodyFn (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt c n (Nat.lt_of_succ_lt hn)).2.1 (outsAt c n (Nat.lt_of_succ_lt hn)).2.2.1 (outsAt c n (Nat.lt_of_succ_lt hn)).2.2.2.1

/-- At the first point of a group the accumulated outputs are cleared: what they held before does not matter. -/
theorem bodyFn_first (i : grid0.Coords) (hi : (i 1).val = 0) (x0 : Vec F S256x128 .f32) (x1 x2 : Vec F S8192x128 .f32) (x3 : Vec F S256x128 .f32) (x4 : Vec F S1x2x8192 .f32) (x5 : Vec F S1x128 .f32)
    (x6 x7 x8 : Vec F S256x128 .f32) (y12 y13 : Vec F S8192x128 .f32) (y14 : Vec F S1x2x8192 .f32) (z12 z13 : Vec F S8192x128 .f32) (z14 : Vec F S1x2x8192 .f32) :
    bodyFn i x0 x1 x2 x3 x4 x5 x6 x7 x8 y12 y13 y14 = bodyFn i x0 x1 x2 x3 x4 x5 x6 x7 x8 z12 z13 z14 := by
  have e : ∀ {S : Shape} {e : EltTy} (z y y' : Vec F S e), enter i z y = enter i z y' := fun z y y' => (if_pos hi).trans (if_pos hi).symm
  unfold bodyFn before; rw [e k0_pay56 y12 z12, e k0_pay57 y13 z13, e k0_pay58 y14 z14]

theorem outsAt_first (c : Dev nD) (t : Fin (cfg0 (F := F)).N) (h : t.val % 32 = 0) (y12 y13 : Vec F S8192x128 .f32) (y14 : Vec F S1x2x8192 .f32) :
    outsAt m c t.val t.isLt = bodyFn (grid0.coords t) (iblk m c 0 t) (iblk m c 1 t) (iblk m c 2 t) (iblk m c 3 t) (iblk m c 4 t) (iblk m c 5 t) (iblk m c 6 t) (iblk m c 7 t) (iblk m c 8 t) y12 y13 y14 := by
  have hi : (grid0.coords t 1).val = 0 := (coord1 t).trans h
  obtain ⟨n, hn⟩ := t
  cases n with
  | zero => exact bodyFn_first _ hi _ _ _ _ _ _ _ _ _ _ _ _ _ _ _
  | succ n => exact bodyFn_first _ hi _ _ _ _ _ _ _ _ _ _ _ _ _ _ _

theorem outsAt_next (c : Dev nD) (t : Fin (cfg0 (F := F)).N) (h : ¬t.val % 32 = 0) :
    outsAt m c t.val t.isLt = bodyFn (grid0.coords t) (iblk m c 0 t) (iblk m c 1 t) (iblk m c 2 t) (iblk m c 3 t) (iblk m c 4 t) (iblk m c 5 t) (iblk m c 6 t) (iblk m c 7 t) (iblk m c 8 t)
      (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 := by
  obtain ⟨n, hn⟩ := t
  cases n with
  | zero => exact absurd (Nat.zero_mod _) h
  | succ n => rfl

/-- The run's data: the arrays as the region finds them, the inputs' buffers at their blocks, the outputs' at `outsAt`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
    | ⟨11, _⟩ => (outsAt m c t.val t.isLt).2.2.1
    | ⟨12, _⟩ => (outsAt m c t.val t.isLt).2.2.2.1
    | ⟨13, _⟩ => (outsAt m c t.val t.isLt).2.2.2.2
  Φ _ := Pipeline.ΦA spec0 c
  q _ := fullShare
  owed _ := 0

theorem A_eq (c : Dev nD) (w : Fin (cfg0 (F := F)).W) : (dats m 0 c).A w = V m c (Pipeline.arrRef spec0 w) := by dsimp only [dats]

section
variable (c : Dev nD) (t : Fin (cfg0 (F := F)).N)
set_option maxRecDepth 100000 in
theorem after0_0 : (dats m 0 c).after 0 t = iblk m c 0 t := by dsimp only [dats]; rfl
set_option maxRecDepth 100000 in
theorem after0_1 : (dats m 0 c).after 1 t = iblk m c 1 t := by dsimp only [dats]; rfl
set_option maxRecDepth 100000 in
theorem after0_2 : (dats m 0 c).after 2 t = iblk m c 2 t := by dsimp only [dats]; rfl
set_option maxRecDepth 100000 in
theorem after0_3 : (dats m 0 c).after 3 t = iblk m c 3 t := by dsimp only [dats]; rfl
set_option maxRecDepth 100000 in
theorem after0_4 : (dats m 0 c).after 4 t = iblk m c 4 t := by dsimp only [dats]; rfl
set_option maxRecDepth 100000 in
theorem after0_5 : (dats m 0 c).after 5 t = iblk m c 5 t := by dsimp only [dats]; rfl
set_option maxRecDepth 100000 in
theorem after0_6 : (dats m 0 c).after 6 t = iblk m c 6 t := by dsimp only [dats]; rfl
set_option maxRecDepth 100000 in
theorem after0_7 : (dats m 0 c).after 7 t = iblk m c 7 t := by dsimp only [dats]; rfl
set_option maxRecDepth 100000 in
theorem after0_8 : (dats m 0 c).after 8 t = iblk m c 8 t := by dsimp only [dats]; rfl
theorem after0_9 : (dats m 0 c).after 9 t = (outsAt m c t.val t.isLt).1 := rfl
theorem after0_10 : (dats m 0 c).after 10 t = (outsAt m c t.val t.isLt).2.1 := rfl
theorem after0_11 : (dats m 0 c).after 11 t = (outsAt m c t.val t.isLt).2.2.1 := rfl
theorem after0_12 : (dats m 0 c).after 12 t = (outsAt m c t.val t.isLt).2.2.2.1 := rfl
theorem after0_13 : (dats m 0 c).after 13 t = (outsAt m c t.val t.isLt).2.2.2.2 := rfl

/-! An input window's buffer holds its block at every point, fetched there or not. -/

theorem before0_0 (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

/-! Inside a group the accumulated outputs' buffers hold what the point before left. -/

theorem before0_10 (h : ¬t.val % 32 = 0) (d) :
    (dats m 0 c).before 10 t d = (outsAt m c (t.val - 1) (Nat.lt_of_le_of_lt (Nat.sub_le _ _) t.isLt)).2.1 := by
  rw [Dat.before_out_kept _ 10 rfl t (by omega) (Bool.eq_false_iff.mpr fun h => by have := (flush0_10 _).mp h; dsimp only at this; omega)
    (fun _ => rfl) (fun _ _ => rfl)]
  rfl
theorem before0_11 (h : ¬t.val % 32 = 0) (d) :
    (dats m 0 c).before 11 t d = (outsAt m c (t.val - 1) (Nat.lt_of_le_of_lt (Nat.sub_le _ _) t.isLt)).2.2.1 := by
  rw [Dat.before_out_kept _ 11 rfl t (by omega) (Bool.eq_false_iff.mpr fun h => by have := (flush0_11 _).mp h; dsimp only at this; omega)
    (fun _ => rfl) (fun _ _ => rfl)]
  rfl
theorem before0_12 (h : ¬t.val % 32 = 0) (d) :
    (dats m 0 c).before 12 t d = (outsAt m c (t.val - 1) (Nat.lt_of_le_of_lt (Nat.sub_le _ _) t.isLt)).2.2.2.1 := by
  rw [Dat.before_out_kept _ 12 rfl t (by omega) (Bool.eq_false_iff.mpr fun h => by have := (flush0_12 _).mp h; dsimp only at this; omega)
    (fun _ => rfl) (fun _ _ => rfl)]
  rfl

/-- So at every point the body's function of what the buffers hold is what the data say. -/
theorem outs_step (d10 d11 d12) :
    bodyFn (grid0.coords t) (iblk m c 0 t) (iblk m c 1 t) (iblk m c 2 t) (iblk m c 3 t) (iblk m c 4 t) (iblk m c 5 t) (iblk m c 6 t) (iblk m c 7 t) (iblk m c 8 t) ((dats m 0 c).before 10 t d10) ((dats m 0 c).before 11 t d11) ((dats m 0 c).before 12 t d12) = outsAt m c t.val t.isLt := by
  by_cases h : t.val % 32 = 0
  · exact (outsAt_first m c t h _ _ _).symm
  · rw [before0_10 m c t h, before0_11 m c t h, before0_12 m c t h]; exact (outsAt_next m c t h).symm
end

/-- What the body is called with at point `t`, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [← outs_step m c t d10 d11 d12]
  iapply (wp_wand_r frame (wpE (defs₀ (F := F)) 𝒱₀ (c : Thread nD τ) none) Set.univ)
  isplitl [H0 H1 H2 H3 H4 H5 H6 H7 H8 H9 H10 H11 H12 H13]
  · iapply (body_triple c (grid0.coords t) _ (whole_0 t) _ (whole_1 t) _ (whole_2 t) _ (whole_3 t) _ (whole_4 t) _ (whole_5 t) _ (whole_6 t) _ (whole_7 t) _ (whole_8 t) _ (whole_9 t) _ (whole_10 t) _ (whole_11 t) _ (whole_12 t) _ (whole_13 t) (iblk m c 0 t) (iblk m c 1 t) (iblk m c 2 t) (iblk m c 3 t) (iblk m c 4 t) (iblk m c 5 t) (iblk m c 6 t) (iblk m c 7 t) (iblk m c 8 t) _ _ _ _ _ Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %r ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
set_option maxHeartbeats 1600000 in
/-- The run: every execution ends, with each array of the pipeline at what the data say, every other buffer as the lines after the
region leave it, and every semaphore counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide : ∀ w : Fin 14, (spec0 w).arr.view.ref ≠ main_arg0))).trans (W_main_arg0 m c (dats m)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide : ∀ w : Fin 14, (spec0 w).arr.view.ref ≠ main_arg3))).trans (W_main_arg3 m c (dats m)),
      ((h c).1 6).trans (((dats m 0 c).arrAt_in 6 rfl _).trans ((A_eq m c 6).trans (V_main_arg4 m c)))⟩) (run_main m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiescent m ρ))

end Cert.KernelFoxIdeal.Gen

end
-- ==== Proof.Fox.Words.lean ====
/- The forgetting-attention backward call: the frames of the kernel as it is run on words and of the idealized one, and what the
one rewrite between the two states. -/
module

public import proofs.«01_k».proof.Defs
public import proofs.«01_k».proof.Proof.Fox.Frame
public import proofs.«01_k».proof.Proof.FoxWords.Frame
public import Idealize.ShloMosaic.Lib.Claim

@[expose] public section

set_option maxRecDepth 16384

noncomputable section

namespace Cert.KernelFoxIdeal.Words

open Idealize.ShloMosaic Idealize.ShloMosaic.TcCoe Idealize.SL.Sem

/-- The kernel as it is run on words. -/
theorem frame_kernel : Cert.quiescent_KernelFox := fun m ρ _ => Cert.KernelFox.Gen.frame_all m ρ

/-- The idealized kernel. -/
theorem frame_ideal : Cert.quiescent_KernelFoxIdeal := fun m ρ _ => Cert.KernelFoxIdeal.Gen.frame_all m ρ

/-- The threshold's name stands for −∞ in the certificate's table. -/
theorem preserves : Cert.preserves_KernelFox_KernelFoxIdeal := IdealRules.named_const.statement Cert.KernelFoxIdeal.κ "no_skip" .f32 0xC2DC0000#32 ⊥ rfl

end Cert.KernelFoxIdeal.Words
-- ==== Proof.Fox.RefVal.lean ====
module

public import proofs.«01_k».proof.Proof.Reals
public import proofs.«01_k».proof.Proof.Gen.ReferenceFoxIdeal.Read
public import Idealize.ShloMosaic.Lib.Pipeline.ValueKit

/-!
What the reference's values are over the reals: the scores, the softmax and its derivative.
-/

@[expose] public section

set_option maxRecDepth 16384

noncomputable section

namespace Fox

/-- The largest score of a row up to its diagonal. -/
def top (z : ℕ → ℝ) (t : ℕ) : ℝ := (Finset.range (t + 1)).sup' ⟨0, Finset.mem_range.2 (Nat.succ_pos t)⟩ z
/-- The softmax before it is divided, its sum, and the weights. -/
def ex (z : ℕ → ℝ) (t s : ℕ) : ℝ := if s ≤ t then Real.exp (z s - top z t) else 0
def tot (z : ℕ → ℝ) (t : ℕ) : ℝ := ∑ s ∈ Finset.range 8192, ex z t s
def pr (z : ℕ → ℝ) (t s : ℕ) : ℝ := ex z t s / tot z t
/-- The gradient of the scores, from the gradient of the weights. -/
def ds (z g : ℕ → ℝ) (t s : ℕ) : ℝ := pr z t s * (g s - ∑ s' ∈ Finset.range 8192, pr z t s' * g s')

theorem ex_nonneg (z : ℕ → ℝ) (t s : ℕ) : 0 ≤ ex z t s := by
  unfold ex; split_ifs
  · exact (Real.exp_pos _).le
  · exact le_rfl

theorem tot_pos (z : ℕ → ℝ) {t : ℕ} (ht : t < 8192) : 0 < tot z t :=
  Finset.sum_pos' (fun s _ => ex_nonneg z t s) ⟨t, Finset.mem_range.2 ht, by unfold ex; rw [if_pos le_rfl]; exact Real.exp_pos _⟩

theorem ex_of_lt (z : ℕ → ℝ) {t s : ℕ} (h : ¬ s ≤ t) : ex z t s = 0 := if_neg h

theorem pr_of_lt (z : ℕ → ℝ) {t s : ℕ} (h : ¬ s ≤ t) : pr z t s = 0 := by unfold pr; rw [ex_of_lt z h, zero_div]

theorem ds_of_lt (z g : ℕ → ℝ) {t s : ℕ} (h : ¬ s ≤ t) : ds z g t s = 0 := by unfold ds; rw [pr_of_lt z h, zero_mul]

/-- A weight from the log of the sum. -/
theorem pr_eq (z : ℕ → ℝ) {t : ℕ} (ht : t < 8192) (s : ℕ) : pr z t s = if s ≤ t then Real.exp (z s - (top z t + Real.log (tot z t))) else 0 := by
  by_cases h : s ≤ t
  · rw [if_pos h]; unfold pr ex
    rw [if_pos h, show z s - (top z t + Real.log (tot z t)) = (z s - top z t) - Real.log (tot z t) by ring, Real.exp_sub _ (Real.log _), Real.exp_log (tot_pos z ht)]
  · rw [if_neg h, pr_of_lt z h]

/-- The largest of a row whose entries past the diagonal are minus infinity. -/
theorem fold_top (z : ℕ → ℝ) {t : ℕ} (ht : t < 8192) :
    (Finset.univ : Finset (Fin 8192)).fold max (⊥ : EReal) (fun s => if s.val ≤ t then ((z s.val : ℝ) : EReal) else ⊥) = ((top z t : ℝ) : EReal) := by
  refine le_antisymm (Finset.fold_max_le _ |>.2 ⟨bot_le, fun s _ => ?_⟩) ?_
  · by_cases h : s.val ≤ t
    · rw [if_pos h]; exact EReal.coe_le_coe_iff.2 (Finset.le_sup' z (Finset.mem_range.2 (by omega)))
    · rw [if_neg h]; exact bot_le
  · obtain ⟨s, hs, e⟩ := Finset.exists_mem_eq_sup' ⟨0, Finset.mem_range.2 (Nat.succ_pos t)⟩ z
    have h := Finset.mem_range.1 hs
    refine (Finset.le_fold_max _).2 (Or.inr ⟨⟨s, by omega⟩, Finset.mem_univ _, ?_⟩)
    rw [if_pos (show s ≤ t by omega)]
    exact EReal.coe_le_coe_iff.2 e.le

/-- The derivative as it is written with the square of the sum. -/
theorem ds_eq (z g : ℕ → ℝ) {t : ℕ} (ht : t < 8192) (s : ℕ) :
    (g s / tot z t + -(∑ s' ∈ Finset.range 8192, g s' * (1 / (tot z t * tot z t)) * ex z t s')) * ex z t s = ds z g t s := by
  have h := (tot_pos z ht).ne'
  have e : (∑ s' ∈ Finset.range 8192, g s' * (1 / (tot z t * tot z t)) * ex z t s') = (∑ s' ∈ Finset.range 8192, pr z t s' * g s') / tot z t := by
    rw [Finset.sum_div]
    refine Finset.sum_congr rfl fun s' _ => ?_
    unfold pr; field_simp
  rw [e]; unfold ds
  rw [show pr z t s = ex z t s / tot z t from rfl]
  field_simp
  ring

end Fox

namespace Cert.ReferenceFoxIdeal.Value

open Cert.ReferenceFoxIdeal Cert.ReferenceFoxIdeal.Gen Cert.ReferenceFoxIdeal.Read Cert.Reals Idealize.ShloMosaic Idealize.ShloMosaic.TcCoe
open Idealize.ShloMosaic.WordCmp (cmpi_sle_ofNat)
open Fox (top ex tot pr ds)

variable (P Q K C D : ℕ → ℕ → ℝ)

theorem zero_word : Ideal.ofBits .f32 0x00000000#32 = ((0 : ℝ) : EReal) := by simp [Ideal.ofBits, Ideal.ieee]
theorem one_word : Ideal.ofBits .f32 0x3F800000#32 = ((1 : ℝ) : EReal) := by
  simp [Ideal.ofBits, Ideal.ieee, -EReal.coe_mul]; norm_num
theorem bot_word : Ideal.ofBits .f32 0xFF800000#32 = (⊥ : EReal) := by simp [Ideal.ofBits, Ideal.ieee]

theorem q_enc : val_main_v2 (F := Ideal) (enc2 Q) = enc3 (fun h t d => Q t (64 * h + d)) := by
  funext i
  rw [val_main_v2_apply, val_main_v1_apply]
  have h0 : (i 0).val < 8 := (i 0).isLt; have h1 : (i 1).val < 8192 := (i 1).isLt; have h2 : (i 2).val < 64 := (i 2).isLt
  refine congrArg Real.toEReal (congrArg₂ Q ?_ ?_)
  · show (((i 1).val * 8 + (i 0).val) * 64 + (i 2).val) / 512 = (i 1).val; omega
  · show (((i 1).val * 8 + (i 0).val) * 64 + (i 2).val) % 512 = 64 * (i 0).val + (i 2).val; omega

theorem k_enc : val_main_v4 (F := Ideal) (enc2 K) = enc3 (fun h t d => K t (64 * h + d)) := by
  funext i
  rw [val_main_v4_apply, val_main_v3_apply]
  have h0 : (i 0).val < 8 := (i 0).isLt; have h1 : (i 1).val < 8192 := (i 1).isLt; have h2 : (i 2).val < 64 := (i 2).isLt
  refine congrArg Real.toEReal (congrArg₂ K ?_ ?_)
  · show (((i 1).val * 8 + (i 0).val) * 64 + (i 2).val) / 512 = (i 1).val; omega
  · show (((i 1).val * 8 + (i 0).val) * 64 + (i 2).val) % 512 = 64 * (i 0).val + (i 2).val; omega

theorem v_enc : val_main_v6 (F := Ideal) (enc2 P) = enc3 (fun h t d => P t (1792 + (64 * h + d))) := by
  funext i
  rw [val_main_v6_apply, val_main_v5_apply, val_main_v0_apply]
  have h0 : (i 0).val < 8 := (i 0).isLt; have h1 : (i 1).val < 8192 := (i 1).isLt; have h2 : (i 2).val < 64 := (i 2).isLt
  refine congrArg Real.toEReal (congrArg₂ P ?_ ?_)
  · show (((i 1).val * 8 + (i 0).val) * 64 + (i 2).val) / 512 = (i 1).val; omega
  · show 1792 + (((i 1).val * 8 + (i 0).val) * 64 + (i 2).val) % 512 = 1792 + (64 * (i 0).val + (i 2).val); omega

theorem do_enc : val_main_v58 (F := Ideal) (enc2 D) = enc3 (fun h t d => D t (256 + (64 * h + d))) := by
  funext i
  rw [val_main_v58_apply, val_main_v57_apply, val_main_v56_apply]
  have h0 : (i 0).val < 8 := (i 0).isLt; have h1 : (i 1).val < 8192 := (i 1).isLt; have h2 : (i 2).val < 64 := (i 2).isLt
  refine congrArg Real.toEReal (congrArg₂ D ?_ ?_)
  · show (((i 1).val * 8 + (i 0).val) * 64 + (i 2).val) / 512 = (i 1).val; omega
  · show 256 + (((i 1).val * 8 + (i 0).val) * 64 + (i 2).val) % 512 = 256 + (64 * (i 0).val + (i 2).val); omega

/-- The scores, and the products of the output's gradient with the values. -/
def zz (h t s : ℕ) : ℝ := (∑ d ∈ Finset.range 64, Q t (64 * h + d) * K s (64 * h + d)) * (1 / 8) + C t h - C s h
def dd (h t s : ℕ) : ℝ := ∑ d ∈ Finset.range 64, D t (256 + (64 * h + d)) * P s (1792 + (64 * h + d))

theorem qk_enc : val_main_v9 (F := Ideal) (enc2 Q) (enc2 K) = enc3 (fun h t s => (∑ d ∈ Finset.range 64, Q t (64 * h + d) * K s (64 * h + d)) * (1 / 8)) := by
  funext i
  rw [val_main_v9_apply, val_main_v7_apply, q_enc, k_enc, val_main_v8_apply, val_main_cst_apply]
  pointwise
  simp only [enc3_at, eighth, ← EReal.coe_mul]
  rw [EReal.coe_mul, ← sum_coe 64 fun d => Q (i 1).val (64 * (i 0).val + d) * K (i 2).val (64 * (i 0).val + d)]

theorem z_enc : val_main_v17 (F := Ideal) (enc2 Q) (enc2 K) (enc2 C) = enc3 (zz Q K C) := by
  funext i
  rw [val_main_v17_apply, val_main_v13_apply, qk_enc, val_main_v12_apply, val_main_v11_apply, val_main_v10_apply, val_main_v16_apply, val_main_v15_apply, val_main_v14_apply]
  change (((_ : ℝ) : EReal) + ((_ : ℝ) : EReal)) - ((_ : ℝ) : EReal) = _
  rw [← EReal.coe_add, ← EReal.coe_sub]
  rfl

theorem mask_eq (i : S8x8192x8192.Idx) : val_main_v24_1 (F := Ideal) i = BitVec.ofBool (decide ((i 2).val ≤ (i 1).val)) := by
  have h1 : (i 1).val < 8192 := (i 1).isLt; have h2 : (i 2).val < 8192 := (i 2).isLt
  rw [val_main_v24_1_apply, val_main_v23_apply, val_main_v21_apply, val_main_v22_apply, val_main_v19_apply, val_main_v20_apply, val_main_v18_apply, val_main_v18_apply]
  exact cmpi_sle_ofNat (by show (i 2).val < _; omega) (by show (i 1).val < _; omega)

/-- The scores with minus infinity past the diagonal. -/
theorem masked (i : S8x8192x8192.Idx) : val_main_v24_0 (F := Ideal) (enc2 Q) (enc2 K) (enc2 C) i = if (i 2).val ≤ (i 1).val then ((zz Q K C (i 0).val (i 1).val (i 2).val : ℝ) : EReal) else ⊥ := by
  rw [val_main_v24_0_apply, mask_eq, z_enc, enc3_at, select_decide]
  exact congrArg (fun x => if (i 2).val ≤ (i 1).val then ((zz Q K C (i 0).val (i 1).val (i 2).val : ℝ) : EReal) else x) bot_word

theorem top_enc : val_main_v25 (F := Ideal) (enc2 Q) (enc2 K) (enc2 C) = enc2 (fun h t => top (zz Q K C h t) t) := by
  funext i
  have h1 : (i 1).val < 8192 := (i 1).isLt
  unfold val_main_v25
  refine (Host.reduce_eq_fold_single (FloatOps.maximumf (F := Ideal) (φ := .f32)) _ _ reducesTo_S8x8192x8192_S8x8192_d2 (by decide) h_S_ i).trans ?_
  refine Eq.trans ?_ (Fox.fold_top (zz Q K C (i 0).val (i 1).val) h1)
  have hb : val_main_cst_1 (F := Ideal) (Shape.Idx.first h_S_) = (⊥ : EReal) := bot_word
  rw [hb]
  exact Finset.fold_congr fun s _ => masked Q K C _

theorem top'_enc : val_main_v32 (F := Ideal) (enc2 Q) (enc2 K) (enc2 C) = enc2 (fun h t => top (zz Q K C h t) t) := by
  funext i
  rw [val_main_v32_apply, top_enc, val_main_v31_apply, val_main_cst_3_apply]
  exact (congrArg (fun b : EReal => max b (enc2 (fun h t => top (zz Q K C h t) t) i)) bot_word).trans (max_eq_right bot_le)

theorem exp_masked (p : Prop) [Decidable p] (x y : ℝ) : Ideal.exp ((if p then ((x : ℝ) : EReal) else ⊥) - ((y : ℝ) : EReal)) = ((if p then Real.exp (x - y) else 0 : ℝ) : EReal) := by
  by_cases h : p
  · rw [if_pos h, if_pos h, ← EReal.coe_sub, Ideal.exp_coe]
  · rw [if_neg h, if_neg h, EReal.bot_sub]; exact Ideal.exp_bot

theorem ex_enc : val_main_v45 (F := Ideal) (enc2 Q) (enc2 K) (enc2 C) = enc3 (fun h t s => ex (zz Q K C h t) t s) := by
  funext i
  rw [val_main_v45_apply, val_main_v44_apply, masked, val_main_v43_apply, val_main_v42_apply, top'_enc]
  exact exp_masked _ _ _

theorem tot_enc : val_main_v46 (F := Ideal) (enc2 Q) (enc2 K) (enc2 C) = enc2 (fun h t => tot (zz Q K C h t) t) := by
  funext i
  rw [val_main_v46_apply, ex_enc]
  refine (congrArg (· + _) (zero_word.trans EReal.coe_zero)).trans ((zero_add _).trans ?_)
  exact sum_coe 8192 fun s => ex (zz Q K C (i 0).val (i 1).val) (i 1).val s

theorem totc (i : S8x8192x1.Idx) : val_main_v47 (F := Ideal) (enc2 Q) (enc2 K) (enc2 C) i = ((tot (zz Q K C (i 0).val (i 1).val) (i 1).val : ℝ) : EReal) := by
  rw [val_main_v47_apply, tot_enc]; rfl

theorem pr_enc : val_main_v49 (F := Ideal) (enc2 Q) (enc2 K) (enc2 C) = enc3 (fun h t s => pr (zz Q K C h t) t s) := by
  funext i
  have h1 : (i 1).val < 8192 := (i 1).isLt
  rw [val_main_v49_apply, ex_enc, val_main_v48_apply, totc]
  exact div_coe_coe (Fox.tot_pos (zz Q K C (i 0).val (i 1).val) h1).ne' _

theorem dd_enc : val_main_v61 (F := Ideal) (enc2 P) (enc2 D) = enc3 (dd P D) := by
  funext i
  rw [val_main_v61_apply, do_enc, v_enc]
  simp only [enc3_at, ← EReal.coe_mul]
  exact sum_coe 64 fun d => D (i 1).val (256 + (64 * (i 0).val + d)) * P (i 2).val (1792 + (64 * (i 0).val + d))

theorem sq_enc (i : S8x8192x8192.Idx) : val_main_v62 (F := Ideal) (enc2 Q) (enc2 K) (enc2 C) i
    = ((1 / (tot (zz Q K C (i 0).val (i 1).val) (i 1).val * tot (zz Q K C (i 0).val (i 1).val) (i 1).val) : ℝ) : EReal) := by
  have h1 : (i 1).val < 8192 := (i 1).isLt
  have h := (Fox.tot_pos (zz Q K C (i 0).val (i 1).val) h1).ne'
  rw [val_main_v62_apply, val_main_v52_apply, val_main_v50_apply, totc, val_main_v51_apply, val_main_cst_10_apply]
  refine Eq.trans ?_ (div_coe_coe (mul_ne_zero h h) 1)
  exact congrArg₂ Ideal.div one_word (EReal.coe_mul _ _).symm

theorem enc2_of {a b : ℕ} (f : ℕ → ℕ → ℝ) (j : (⟨2, ![a, b]⟩ : Shape).Idx) {x y : ℕ} (e0 : (j 0).val = x) (e1 : (j 1).val = y) : enc2 f j = ((f x y : ℝ) : EReal) :=
  congrArg Real.toEReal (congrArg₂ f e0 e1)

/-- What the sum's own gradient is. -/
theorem up_enc : val_main_v65 (F := Ideal) (enc2 P) (enc2 Q) (enc2 K) (enc2 C) (enc2 D)
    = enc2 (fun h t => ∑ s' ∈ Finset.range 8192, dd P D h t s' * (1 / (tot (zz Q K C h t) t * tot (zz Q K C h t) t)) * ex (zz Q K C h t) t s') := by
  funext i
  rw [val_main_v65_apply]
  refine (congrArg (· + _) (zero_word.trans EReal.coe_zero)).trans ((zero_add _).trans ?_)
  refine Eq.trans (Finset.sum_congr rfl fun s _ => ?_) (sum_coe 8192 fun s' => dd P D (i 0).val (i 1).val s' * (1 / (tot (zz Q K C (i 0).val (i 1).val) (i 1).val * tot (zz Q K C (i 0).val (i 1).val) (i 1).val)) * ex (zz Q K C (i 0).val (i 1).val) (i 1).val s')
  rw [val_main_v64_apply, val_main_v63_apply, dd_enc, sq_enc, ex_enc]
  change (((_ : ℝ) : EReal) * ((_ : ℝ) : EReal)) * ((_ : ℝ) : EReal) = _
  rw [← EReal.coe_mul, ← EReal.coe_mul]

theorem down_enc : val_main_v71 (F := Ideal) (enc2 P) (enc2 Q) (enc2 K) (enc2 C) (enc2 D)
    = enc3 (fun h t s => -(∑ s' ∈ Finset.range 8192, dd P D h t s' * (1 / (tot (zz Q K C h t) t * tot (zz Q K C h t) t)) * ex (zz Q K C h t) t s')) := by
  funext i
  have h1 : (i 1).val < 8192 := (i 1).isLt
  rw [val_main_v71_apply, val_main_v70_apply]
  refine (congrArg (· + _) (zero_word.trans EReal.coe_zero)).trans ((zero_add _).trans ?_)
  rw [Fin.sum_univ_one, val_main_v67_apply, val_main_v66_apply, up_enc]
  refine Eq.trans ?_ (EReal.coe_neg _).symm
  refine congrArg (fun x : EReal => -x) (enc2_of _ _ ?_ ?_)
  · show (((i 0).val * 8192 + (i 1).val) * 1 + 0) / 8192 = (i 0).val; omega
  · show (((i 0).val * 8192 + (i 1).val) * 1 + 0) % 8192 = (i 1).val; omega

theorem ds_enc : val_main_v74 (F := Ideal) (enc2 P) (enc2 Q) (enc2 K) (enc2 C) (enc2 D) = enc3 (fun h t s => ds (zz Q K C h t) (dd P D h t) t s) := by
  funext i
  have h1 : (i 1).val < 8192 := (i 1).isLt
  have h := (Fox.tot_pos (zz Q K C (i 0).val (i 1).val) h1).ne'
  have e : val_main_v73 (F := Ideal) (enc2 P) (enc2 Q) (enc2 K) (enc2 C) (enc2 D) i = ((ds (zz Q K C (i 0).val (i 1).val) (dd P D (i 0).val (i 1).val) (i 1).val (i 2).val : ℝ) : EReal) := by
    rw [val_main_v73_apply, val_main_v72_apply, val_main_v69_apply, dd_enc, val_main_v68_apply, totc, down_enc, ex_enc]
    refine Eq.trans ?_ (congrArg Real.toEReal (Fox.ds_eq (zz Q K C (i 0).val (i 1).val) (dd P D (i 0).val (i 1).val) h1 (i 2).val))
    rw [EReal.coe_mul, EReal.coe_add, ← div_coe_coe h]
    rfl
  rw [val_main_v74_apply, mask_eq, e, select_decide, enc3_at]
  by_cases hs : (i 2).val ≤ (i 1).val
  · rw [if_pos hs]
  · rw [if_neg hs, Fox.ds_of_lt _ _ hs]; exact zero_word

end Cert.ReferenceFoxIdeal.Value

end
-- ==== Proof.Fox.Host.lean ====
module

public import proofs.«01_k».proof.Proof.Fox.RefVal
public import proofs.«01_k».proof.Proof.Fox.Frame
public import proofs.«01_k».proof.Proof.Concat
public import Idealize.ShloMosaic.Lib.StableHlo.RunRead

/-!
What the host lines before the kernel leave in the arrays that it reads.
-/

@[expose] public section

set_option maxRecDepth 65536

noncomputable section

namespace Cert.KernelFoxIdeal.Value

open Cert.KernelFoxIdeal Cert.KernelFoxIdeal.Gen Cert.Reals Idealize.ShloMosaic Idealize.ShloMosaic.TcCoe Idealize.SL.Sem
open Cert.ReferenceFoxIdeal.Read (val_main_v24_0 val_main_v25 val_main_v4 val_main_v6)

section
variable (a0 : Vec Ideal S8192x2824 .f32) (a1 a2 : Vec Ideal S8192x512 .f32) (a3 : Vec Ideal S8192x8 .f32)

/-- The largest score of each row, the softmax before it is divided, and its sums. -/
def maxC : Vec Ideal S8x8192x1 .f32 := broadcastInDim S8x8192x1 ![0, 1] bcast_S8x8192_S8x8192x1_0_1 (val_main_v25 (F := Ideal) a1 a2 a3)
def exM : Vec Ideal S8x8192x8192 .f32 := Host.exp (F := Ideal) (φ := .f32) (subf (F := Ideal) (φ := .f32) (val_main_v24_0 (F := Ideal) a1 a2 a3) (broadcastInDim S8x8192x8192 ![0, 1, 2] bcast_S8x8192x1_S8x8192x8192_0_1_2 (maxC a1 a2 a3)))
def totC : Vec Ideal S8x8192x1 .f32 := broadcastInDim S8x8192x1 ![0, 1] bcast_S8x8192_S8x8192x1_0_1
  (Host.reduceAdd (F := Ideal) (φ := .f32) (exM a1 a2 a3) (constant (F := Ideal) S_ .f32 0x00000000#32) reducesTo_S8x8192x8192_S8x8192_d2 h_S_)
/-- The forward output, by head. -/
def outM : Vec Ideal S8x8192x64 .f32 := Host.dotGeneral (F := Ideal) (φ₁ := .f32) (φ₂ := .f32) dot_S8x8192x8192_S8x8192x64_S8x8192x64_2_1_1_2_0_0 none
  (Host.divf (F := Ideal) (φ := .f32) (exM a1 a2 a3) (broadcastInDim S8x8192x8192 ![0, 1, 2] bcast_S8x8192x1_S8x8192x8192_0_1_2 (totC a1 a2 a3))) (val_main_v6 (F := Ideal) a0)
/-- The running sums of the forget gates, in an array of 128 columns. -/
def cfPad : Vec Ideal S8192x128 .f32 := Host.scatter scatter_S8192x128_S1_S8192x8_01_n_1_0 (fun _ b => b)
  (broadcastInDim S8192x128 ![] bcast_S_S8192x128 (constant (F := Ideal) S_ .f32 0x00000000#32)) (broadcastInDim S1 ![] bcast_S_S1 (constantI S_ 32 0#32)) a3
/-- The largest norm of the keys of each head. -/
def kNorm : Vec Ideal S8 .f32 := Host.reduce (FloatOps.maximumf (F := Ideal) (φ := .f32))
  (Host.sqrt (F := Ideal) (φ := .f32) (Host.reduceAdd (F := Ideal) (φ := .f32) (mulf (F := Ideal) (φ := .f32) (val_main_v4 (F := Ideal) a2) (val_main_v4 (F := Ideal) a2)) (constant (F := Ideal) S_ .f32 0x00000000#32) reducesTo_S8x8192x64_S8x8192_d2 h_S_))
  (constant (F := Ideal) S_ .f32 0xFF800000#32) reducesTo_S8x8192_S8_d1 h_S_
end

variable (m : (ℓ : Loc nD τ sig) → Buf (Elt Ideal) ℓ) (c : Dev nD)

set_option maxHeartbeats 4000000 in
theorem V_lse : V m c main_v41 = shapeCast S8192x512 (transpose S8192x8x64 [1, 0, 2] (broadcastInDim S8x8192x64 ![0, 1, 2] bcast_S8x8192x1_S8x8192x64_0_1_2
    (addf (F := Ideal) (φ := .f32) (maxC (m ((c : Thread nD τ).loc main_arg1)) (m ((c : Thread nD τ).loc main_arg2)) (m ((c : Thread nD τ).loc main_arg3))) (Host.log (F := Ideal) (φ := .f32) (totC (m ((c : Thread nD τ).loc main_arg1)) (m ((c : Thread nD τ).loc main_arg2)) (m ((c : Thread nD τ).loc main_arg3)))))) transposes_S8x8192x64_S8192x8x64_1_0_2) shapeCasts_S8192x8x64_S8192x512 := by
  unfold V V0
  simp only [List.flatten_cons, List.flatten_nil, List.append_nil, List.cons_append, List.nil_append]
  after_reads_simp
  rfl

set_option maxHeartbeats 4000000 in
theorem V_out : V m c main_v36 = shapeCast S8192x512 (transpose S8192x8x64 [1, 0, 2] (outM (m ((c : Thread nD τ).loc main_arg0)) (m ((c : Thread nD τ).loc main_arg1)) (m ((c : Thread nD τ).loc main_arg2)) (m ((c : Thread nD τ).loc main_arg3))) transposes_S8x8192x64_S8192x8x64_1_0_2) shapeCasts_S8192x8x64_S8192x512 := by
  unfold V V0
  simp only [List.flatten_cons, List.flatten_nil, List.append_nil, List.cons_append, List.nil_append]
  after_reads_simp
  rfl

set_option maxHeartbeats 4000000 in
theorem V_cf : V m c main_v44 = cfPad (m ((c : Thread nD τ).loc main_arg3)) := by
  unfold V V0
  simp only [List.flatten_cons, List.flatten_nil, List.append_nil, List.cons_append, List.nil_append]
  after_reads_simp
  rfl

set_option maxHeartbeats 4000000 in
theorem V_rows : V m c main_v59 = shapeCast S4x2x8192 (transpose S8x8192 [1, 0] (extractStridedSlice S8192x8 ![0, 0] (cfPad (m ((c : Thread nD τ).loc main_arg3))) slices_S8192x128_S8192x8_0_0) transposes_S8192x8_S8x8192_1_0) shapeCasts_S8x8192_S4x2x8192 := by
  unfold V V0
  simp only [List.flatten_cons, List.flatten_nil, List.append_nil, List.cons_append, List.nil_append]
  after_reads_simp
  rfl

set_option maxHeartbeats 4000000 in
theorem V_kmax : V m c main_v51 = shapeCast S1x512 (broadcastInDim S8x64 ![0, 1] bcast_S8x1_S8x64_0_1 (broadcastInDim S8x1 ![0] bcast_S8_S8x1_0 (kNorm (m ((c : Thread nD τ).loc main_arg2))))) shapeCasts_S8x64_S1x512 := by
  unfold V V0
  simp only [List.flatten_cons, List.flatten_nil, List.append_nil, List.cons_append, List.nil_append]
  after_reads_simp
  rfl

set_option maxHeartbeats 4000000 in
/-- The first 2304 columns of the packed array are the projection's own. -/
theorem V_proj (j : S8192x3072.Idx) (h : (j 1).val < 2304) : V m c main_v56 j = m ((c : Thread nD τ).loc main_arg0) (ValueIdx.ix2 (j 0) ⟨(j 1).val, by omega⟩) := by
  unfold V V0
  simp only [List.flatten_cons, List.flatten_nil, List.append_nil, List.cons_append, List.nil_append]
  after_reads_simp
  refine (concat_at 1 _ _ j 0 (by simp) S8192x2304
    (StableHlo.upto (List.flatten [hostOps0, hostOps0_1, hostOps0_2]) (fun b => m (c, b)) 68 (Proc.devRef .tc main_v53)) rfl rfl (ValueIdx.ix2 (j 0) ⟨(j 1).val, h⟩) (fun b => match b with | ⟨0, _⟩ => rfl | ⟨1, _⟩ => rfl)).trans ?_
  simp only [List.flatten_cons, List.flatten_nil, List.append_nil, List.cons_append, List.nil_append]
  after_reads_simp
  refine extractStridedSlice_apply ![0, 0] (m (c, Proc.devRef .tc main_arg0)) slices_S8192x2824_S8192x2304_0_0 _ _ (fun a => match a with | ⟨0, _⟩ => ?_ | ⟨1, _⟩ => ?_)
  · exact (Nat.zero_add _).symm
  · exact (Nat.zero_add _).symm

end Cert.KernelFoxIdeal.Value

end
-- ==== Proof.Fox.HostVal.lean ====
module

public import proofs.«01_k».proof.Proof.Fox.Host
public import Idealize.ShloMosaic.Lib.Routing.OpsSet

/-!
The arrays that the kernel reads, over real arguments.
-/

@[expose] public section

set_option maxRecDepth 16384

noncomputable section

namespace Cert.KernelFoxIdeal.Value

open Cert.KernelFoxIdeal Cert.KernelFoxIdeal.Gen Cert.Reals Idealize.ShloMosaic Idealize.ShloMosaic.TcCoe Idealize.SL.Sem
open Cert.ReferenceFoxIdeal.Read (val_main_v24_0 val_main_v25 val_main_v4 val_main_v6)
open Cert.ReferenceFoxIdeal.Value (zz dd zero_word bot_word exp_masked masked top_enc k_enc v_enc)
open Fox (top ex tot pr)
open Finset (range)

variable (P Q K C : ℕ → ℕ → ℝ)

/-- The log of a row's sum, and the forward output. -/
def lse (h t : ℕ) : ℝ := top (zz Q K C h t) t + Real.log (tot (zz Q K C h t) t)
def out (t c : ℕ) : ℝ := ∑ s ∈ range 8192, pr (zz Q K C (c / 64) t) t s * P s (1792 + c)

theorem exM_enc : exM (enc2 Q) (enc2 K) (enc2 C) = enc3 (fun h t s => ex (zz Q K C h t) t s) := by
  funext j
  idx_vars j
  unfold exM maxC
  pointwise
  rw [masked, top_enc]
  exact exp_masked _ _ _

theorem totC_at (i : S8x8192x1.Idx) : totC (enc2 Q) (enc2 K) (enc2 C) i = ((tot (zz Q K C (i 0).val (i 1).val) (i 1).val : ℝ) : EReal) := by
  idx_vars i
  unfold totC
  rw [exM_enc]
  pointwise
  exact sum_coe 8192 fun s => ex (zz Q K C i0.val i1.val) i1.val s

theorem maxC_at (i : S8x8192x1.Idx) : maxC (enc2 Q) (enc2 K) (enc2 C) i = ((top (zz Q K C (i 0).val (i 1).val) (i 1).val : ℝ) : EReal) := by
  idx_vars i
  unfold maxC
  pointwise
  rw [top_enc]
  rfl

variable (m : (ℓ : Loc nD τ sig) → Buf (Elt Ideal) ℓ) (c : Dev nD) {P Q K C}
  (hP : m ((c : Thread nD τ).loc main_arg0) = enc2 P) (hQ : m ((c : Thread nD τ).loc main_arg1) = enc2 Q) (hK : m ((c : Thread nD τ).loc main_arg2) = enc2 K) (hC : m ((c : Thread nD τ).loc main_arg3) = enc2 C)

/-- The heads beside each other. -/
theorem beside (w : FVec Ideal S8x8192x64 .f32) (j0 : Fin 8192) (j1 : Fin 512) : shapeCast S8192x512 (transpose S8192x8x64 [1, 0, 2] w transposes_S8x8192x64_S8192x8x64_1_0_2) shapeCasts_S8192x8x64_S8192x512 (ix2 j0 j1) = w (ix3 (⟨j1.val / 64, by omega⟩ : Fin 8) j0 (⟨j1.val % 64, by omega⟩ : Fin 64)) := by
  pointwise

/-- A column spread along the lanes. -/
theorem spread (z : FVec Ideal S8x8192x1 .f32) (h : Fin 8) (t : Fin 8192) (d : Fin 64) : broadcastInDim S8x8192x64 ![0, 1, 2] bcast_S8x8192x1_S8x8192x64_0_1_2 z (ix3 h t d) = z (ix3 h t 0) :=
  congrArg z (funext fun a => match a with | ⟨0, _⟩ => rfl | ⟨1, _⟩ => rfl | ⟨2, _⟩ => rfl)

theorem add_log (x y : FVec Ideal S8x8192x1 .f32) (i : S8x8192x1.Idx) : addf (F := Ideal) (φ := .f32) x (Host.log (F := Ideal) (φ := .f32) y) i = (x i : EReal) + Ideal.log (y i) := rfl

theorem sum_log (a b : ℝ) (hb : 0 < b) : (a : EReal) + Ideal.log (b : EReal) = ((a + Real.log b : ℝ) : EReal) := by
  rw [log_pos_coe hb, EReal.coe_add]

theorem lse_at (h : Fin 8) (t : Fin 8192) : addf (F := Ideal) (φ := .f32) (maxC (enc2 Q) (enc2 K) (enc2 C)) (Host.log (F := Ideal) (φ := .f32) (totC (enc2 Q) (enc2 K) (enc2 C))) (ix3 h t 0) = ((lse Q K C h.val t.val : ℝ) : EReal) := by
  have e1 := maxC_at Q K C (ix3 h t 0)
  have e2 := totC_at Q K C (ix3 h t 0)
  exact (add_log _ _ _).trans ((congrArg₂ (fun x y => x + Ideal.log y) e1 e2).trans (sum_log _ _ (Fox.tot_pos _ t.isLt)))

include hQ hK hC in
theorem lse_enc : V m c main_v41 = enc2 (a := 8192) (b := 512) (fun t l => lse Q K C (l / 64) t) := by
  rw [V_lse, hQ, hK, hC]
  funext j
  idx_vars j
  exact (beside _ j0 j1).trans ((spread _ _ _ _).trans (lse_at _ _))

theorem out_sum (z : ℕ → ℝ) {t : ℕ} (ht : t < 8192) (f : ℕ → ℝ) : (∑ x : Fin 8192, Ideal.div ((ex z t x.val : ℝ) : EReal) ((tot z t : ℝ) : EReal) * ((f x.val : ℝ) : EReal)) = ((∑ s ∈ range 8192, pr z t s * f s : ℝ) : EReal) := by
  rw [← sum_coe 8192]
  refine Finset.sum_congr rfl fun x _ => ?_
  rw [div_coe_coe (Fox.tot_pos z ht).ne', ← EReal.coe_mul]
  rfl

theorem outM_sum (h : Fin 8) (t : Fin 8192) (d : Fin 64) : outM (enc2 P) (enc2 Q) (enc2 K) (enc2 C) (ix3 h t d) = ∑ x : Fin 8192, Ideal.div ((ex (zz Q K C h.val t.val) t.val x.val : ℝ) : EReal) ((tot (zz Q K C h.val t.val) t.val : ℝ) : EReal) * ((P x.val (1792 + (64 * h.val + d.val)) : ℝ) : EReal) := by
  unfold outM
  rw [exM_enc, v_enc]
  pointwise
  exact Finset.sum_congr rfl fun x _ => congrArg (fun v => Ideal.div ((ex (zz Q K C h.val t.val) t.val x.val : ℝ) : EReal) v * ((P x.val (1792 + (64 * h.val + d.val)) : ℝ) : EReal)) (totC_at Q K C _)

include hP hQ hK hC in
theorem out_enc : V m c main_v36 = enc2 (a := 8192) (b := 512) (out P Q K C) := by
  rw [V_out, hP, hQ, hK, hC]
  funext j
  idx_vars j
  refine (beside _ j0 j1).trans ?_
  refine (outM_sum _ _ _).trans ?_
  refine (out_sum (zz Q K C (j1.val / 64) j0.val) j0.isLt (fun s => P s (1792 + (64 * (j1.val / 64) + j1.val % 64)))).trans ?_
  refine congrArg Real.toEReal ?_
  show _ = ∑ s ∈ range 8192, pr (zz Q K C (j1.val / 64) j0.val) j0.val s * P s (1792 + j1.val)
  rw [show 64 * (j1.val / 64) + j1.val % 64 = j1.val by omega]

/-- Where an element lands. -/
theorem lands (k : S8192x8.Idx) (y : S8192x128.Idx) : scatter_S8192x128_S1_S8192x8_01_n_1_0.resultIdx? k (broadcastInDim S1 ![] bcast_S_S1 (constantI S_ 32 0#32)) = some y ↔ (k 0).val = (y 0).val ∧ (k 1).val = (y 1).val := by
  have hs : ∀ a, scatter_S8192x128_S1_S8192x8_01_n_1_0.start k (broadcastInDim S1 ![] bcast_S_S1 (constantI S_ 32 0#32)) a = 0 := fun a => by
    unfold ScatterDims.start
    split
    · rfl
    · rfl
  have h0 : scatter_S8192x128_S1_S8192x8_01_n_1_0.window k 0 = (k 0).val := rfl
  have h1 : scatter_S8192x128_S1_S8192x8_01_n_1_0.window k 1 = (k 1).val := rfl
  have b0 : (k 0).val < 8192 := (k 0).isLt
  have b1 : (k 1).val < 8 := (k 1).isLt
  unfold ScatterDims.resultIdx?
  rw [dif_pos (fun a => by
    rw [hs a]
    match a with
    | ⟨0, _⟩ => exact ⟨by positivity, by rw [show scatter_S8192x128_S1_S8192x8_01_n_1_0.window k ⟨0, _⟩ = _ from h0]; show (0 : ℤ) + ((k 0).val : ℤ) < 8192; omega⟩
    | ⟨1, _⟩ => exact ⟨by positivity, by rw [show scatter_S8192x128_S1_S8192x8_01_n_1_0.window k ⟨1, _⟩ = _ from h1]; show (0 : ℤ) + ((k 1).val : ℤ) < 128; omega⟩)]
  constructor
  · intro h
    have h := Option.some.inj h
    refine ⟨?_, ?_⟩
    · rw [← h]; show _ = (scatter_S8192x128_S1_S8192x8_01_n_1_0.start k (broadcastInDim S1 ![] bcast_S_S1 (constantI S_ 32 0#32)) 0 + (scatter_S8192x128_S1_S8192x8_01_n_1_0.window k 0 : ℤ)).toNat
      rw [hs, h0]; omega
    · rw [← h]; show _ = (scatter_S8192x128_S1_S8192x8_01_n_1_0.start k (broadcastInDim S1 ![] bcast_S_S1 (constantI S_ 32 0#32)) 1 + (scatter_S8192x128_S1_S8192x8_01_n_1_0.window k 1 : ℤ)).toNat
      rw [hs, h1]; omega
  · intro ⟨e0, e1⟩
    refine congrArg some (funext fun a => Fin.ext ?_)
    match a with
    | ⟨0, _⟩ => show (scatter_S8192x128_S1_S8192x8_01_n_1_0.start k (broadcastInDim S1 ![] bcast_S_S1 (constantI S_ 32 0#32)) 0 + (scatter_S8192x128_S1_S8192x8_01_n_1_0.window k 0 : ℤ)).toNat = (y 0).val; rw [hs, h0]; omega
    | ⟨1, _⟩ => show (scatter_S8192x128_S1_S8192x8_01_n_1_0.start k (broadcastInDim S1 ![] bcast_S_S1 (constantI S_ 32 0#32)) 1 + (scatter_S8192x128_S1_S8192x8_01_n_1_0.window k 1 : ℤ)).toNat = (y 1).val; rw [hs, h1]; omega

variable (C) in
theorem cfPad_enc : cfPad (enc2 C) = enc2 (fun t l => if l < 8 then C t l else 0) := by
  funext y
  unfold cfPad
  by_cases h : (y 1).val < 8
  · refine (Routing.scatter_set_hit _ _ _ _ y ((C (y 0).val (y 1).val : ℝ) : EReal) (fun k hk => ?_) (ValueIdx.ix2 (y 0) ⟨(y 1).val, h⟩) ((lands _ _).2 ⟨rfl, rfl⟩)).trans ?_
    · obtain ⟨e0, e1⟩ := (lands _ _).1 hk
      exact congrArg Real.toEReal (congrArg₂ C e0 e1)
    · exact congrArg Real.toEReal (if_pos h).symm
  · refine (Routing.scatter_set_miss _ _ _ _ y (fun k hk => h ?_)).trans ?_
    · obtain ⟨e0, e1⟩ := (lands _ _).1 hk
      rw [← e1]; exact (k 1).isLt
    · exact zero_word.trans (congrArg Real.toEReal (if_neg h).symm)

include hC in
theorem cf_enc : V m c main_v44 = enc2 (a := 8192) (b := 128) (fun t l => if l < 8 then C t l else 0) := by
  rw [V_cf, hC, cfPad_enc]

include hC in
theorem rows_enc : V m c main_v59 = enc3 (a := 4) (b := 2) (c := 8192) (fun p h s => C s (2 * p + h)) := by
  rw [V_rows, hC, cfPad_enc]
  funext j
  idx_vars j
  pointwise
  have b0 : j0.val < 4 := j0.isLt; have b1 : j1.val < 2 := j1.isLt
  refine congrArg Real.toEReal ?_
  show (if j0.val * 2 + j1.val < 8 then C j2.val (j0.val * 2 + j1.val) else 0) = C j2.val (2 * j0.val + j1.val)
  rw [if_pos (by omega), mul_comm]

variable (K) in
theorem root_nonneg (j : S8x8192.Idx) : 0 ≤ Host.sqrt (F := Ideal) (φ := .f32) (Host.reduceAdd (F := Ideal) (φ := .f32) (mulf (F := Ideal) (φ := .f32) (enc3 (a := 8) (b := 8192) (c := 64) fun h t d => K t (64 * h + d)) (enc3 fun h t d => K t (64 * h + d))) (constant (F := Ideal) S_ .f32 0x00000000#32) reducesTo_S8x8192x64_S8x8192_d2 h_S_) j := by
  idx_vars j
  pointwise
  have h0 : (∑ x : Fin 64, enc3 (a := 8) (b := 8192) (c := 64) (fun h t d => K t (64 * h + d)) (ix3 j0 j1 x) * enc3 (fun h t d => K t (64 * h + d)) (ix3 j0 j1 x))
      = ((∑ d ∈ range 64, K j1.val (64 * j0.val + d) * K j1.val (64 * j0.val + d) : ℝ) : EReal) := by
    rw [← sum_coe 64]
    exact Finset.sum_congr rfl fun x _ => (EReal.coe_mul _ _).symm
  refine le_of_le_of_eq ?_ (congrArg Ideal.sqrt h0).symm
  rw [Ideal.sqrt_coe, if_neg (not_lt.2 (Finset.sum_nonneg fun d _ => mul_self_nonneg _))]
  exact EReal.coe_nonneg.2 (Real.sqrt_nonneg _)

variable (K) in
theorem kNorm_nonneg (i : S8.Idx) : 0 ≤ kNorm (enc2 K) i := by
  unfold kNorm
  rw [k_enc]
  rw [Host.reduce_eq_fold_single (FloatOps.maximumf (F := Ideal) (φ := .f32)) _ _ reducesTo_S8x8192_S8_d1 (by decide) h_S_ i]
  exact (Finset.le_fold_max _).2 (Or.inr ⟨⟨0, by decide⟩, Finset.mem_univ _, root_nonneg K _⟩)

include hK in
theorem kmax_nonneg (j : S1x512.Idx) : (0 : EReal) ≤ (V m c main_v51 : S1x512.Idx → EReal) j := by
  rw [V_kmax, hK]
  idx_vars j
  pointwise
  exact kNorm_nonneg K _

end Cert.KernelFoxIdeal.Value

end
-- ==== Proof.Fox.Pay.lean ====
module

public import proofs.«01_k».proof.Proof.Reals
public import proofs.«01_k».proof.Proof.Fox.Frame
public import Idealize.ShloMosaic.Lib.Pipeline.ValueKit

/-!
What each of the kernel's values is over the reals, when what it is made of is real.
-/

@[expose] public section

set_option maxRecDepth 16384

noncomputable section

namespace Cert.KernelFoxIdeal.Value

open Cert.KernelFoxIdeal Cert.KernelFoxIdeal.Gen Cert.Reals Idealize.ShloMosaic Idealize.ShloMosaic.TcCoe Idealize.SL.Sem
open Idealize.ShloMosaic.Pipeline (Dat)
open Idealize.ShloMosaic.WordCmp (cmpi_slt_ofNat cmpi_sle_ofNat cmpi_sge_ofNat)
open Finset (range)

/-- A block of reals, by the numbers of its row and its column. -/
def encA (f : ℕ → ℕ → ℝ) : S256x128.Idx → EReal := fun j => ((f (j 0).val (j 1).val : ℝ) : EReal)
def encF (f : ℕ → ℕ → ℝ) : S8192x128.Idx → EReal := fun j => ((f (j 0).val (j 1).val : ℝ) : EReal)
def encS (f : ℕ → ℕ → ℝ) : S512x256.Idx → EReal := fun j => ((f (j 0).val (j 1).val : ℝ) : EReal)
def encT (f : ℕ → ℕ → ℝ) : S256x256.Idx → EReal := fun j => ((f (j 0).val (j 1).val : ℝ) : EReal)
def encQ (f : ℕ → ℕ → ℝ) : S512x128.Idx → EReal := fun j => ((f (j 0).val (j 1).val : ℝ) : EReal)
def encV (f : ℕ → ℝ) : S512x1.Idx → EReal := fun j => ((f (j 0).val : ℝ) : EReal)
def encU (f : ℕ → ℝ) : S256x1.Idx → EReal := fun j => ((f (j 0).val : ℝ) : EReal)
def encC (f : ℕ → ℝ) : S1x1x256.Idx → EReal := fun j => ((f (j 2).val : ℝ) : EReal)
def encR (f : ℕ → ℕ → ℝ) : S1x2x8192.Idx → EReal := fun j => ((f (j 1).val (j 2).val : ℝ) : EReal)

theorem encA_at (f) (a : Fin 256) (b : Fin 128) : encA f (ix2 a b) = ((f a.val b.val : ℝ) : EReal) := rfl
theorem encF_at (f) (a : Fin 8192) (b : Fin 128) : encF f (ix2 a b) = ((f a.val b.val : ℝ) : EReal) := rfl
theorem encS_at (f) (a : Fin 512) (b : Fin 256) : encS f (ix2 a b) = ((f a.val b.val : ℝ) : EReal) := rfl
theorem encT_at (f) (a : Fin 256) (b : Fin 256) : encT f (ix2 a b) = ((f a.val b.val : ℝ) : EReal) := rfl
theorem encQ_at (f) (a : Fin 512) (b : Fin 128) : encQ f (ix2 a b) = ((f a.val b.val : ℝ) : EReal) := rfl
theorem encV_at (f) (a : Fin 512) (b : Fin 1) : encV f (ix2 a b) = ((f a.val : ℝ) : EReal) := rfl
theorem encU_at (f) (a : Fin 256) (b : Fin 1) : encU f (ix2 a b) = ((f a.val : ℝ) : EReal) := rfl
theorem encC_at (f) (a b : Fin 1) (c : Fin 256) : encC f (ix3 a b c) = ((f c.val : ℝ) : EReal) := rfl

/-! ### What a point makes of its blocks before its loop -/

/-- Two heads of a block, one above the other: head `r / 256` keeps its own 64 lanes. -/
def two (x : ℕ → ℕ → ℝ) (r l : ℕ) : ℝ := if l / 64 = r / 256 then x (r % 256) l else 0

theorem two_eq (x : ℕ → ℕ → ℝ) {r l : ℕ} (hr : r < 512) (hl : l < 128) :
    (if r < 256 then (if l < 64 then x r l else 0) else (if 64 ≤ l then x (r - 256) l else 0)) = two x r l := by
  unfold two
  by_cases h : r < 256 <;> by_cases h' : l < 64
  · rw [if_pos h, if_pos h', if_pos (by omega), Nat.mod_eq_of_lt h]
  · rw [if_pos h, if_neg h', if_neg (by omega)]
  · rw [if_neg h, if_neg (by omega), if_neg (by omega)]
  · rw [if_neg h, if_pos (by omega), if_pos (by omega), show r % 256 = r - 256 by omega]

theorem cmpi_slt_nat (x : Fin 128) : IntOp.cmpi .slt (BitVec.ofNat 32 x.val) 64#32 = BitVec.ofBool (decide (x.val < 64)) := cmpi_slt_ofNat (by omega) (by omega)
theorem cmpi_sge_nat (x : Fin 128) : IntOp.cmpi .sge (BitVec.ofNat 32 x.val) 64#32 = BitVec.ofBool (decide (64 ≤ x.val)) := cmpi_sge_ofNat (by omega) (by omega)

theorem q2_enc (q : ℕ → ℕ → ℝ) : k0_pay82 (F := Ideal) (k0_pay63 (encA q)) (k0_pay64 (encA q)) = encQ (two fun a l => q a l * (1 / 8)) := by
  funext j; idx_vars j
  unfold k0_pay82 k0_pay63 k0_pay64 k0_pay59 k0_pay60 k0_pay61
  pointwise
  have h0 := j0.isLt; have h1 := j1.isLt
  rw [encQ_at, ← two_eq _ h0 h1, cmpi_slt_ofNat (by omega) (by omega), cmpi_sge_ofNat (by omega) (by omega)]
  simp only [select_decide, encA_at, eighth, ← EReal.coe_mul, ← EReal.coe_zero, coe_ite, dite_eq_ite]

theorem do2_enc (d : ℕ → ℕ → ℝ) : k0_pay83 (F := Ideal) (k0_pay65 (encA d)) (k0_pay66 (encA d)) = encQ (two d) := by
  funext j; idx_vars j
  unfold k0_pay83 k0_pay65 k0_pay66 k0_pay59 k0_pay60
  pointwise
  have h0 := j0.isLt; have h1 := j1.isLt
  rw [encQ_at, ← two_eq _ h0 h1, cmpi_slt_ofNat (by omega) (by omega), cmpi_sge_ofNat (by omega) (by omega)]
  simp only [select_decide, encA_at, ← EReal.coe_zero, coe_ite, dite_eq_ite]

theorem delta_enc (d o : ℕ → ℕ → ℝ) : k0_pay84 (F := Ideal) (k0_pay68 (k0_pay67 (encA d) (encA o))) (k0_pay69 k0_pay60 (k0_pay62 (encA d) (encA o)))
    = encV (fun r => ∑ l ∈ range 128, two (fun a l => d a l * o a l) r l) := by
  funext j; idx_vars j
  unfold k0_pay84 k0_pay68 k0_pay67 k0_pay69 k0_pay62 k0_pay59 k0_pay60
  pointwise
  have h0 := j0.isLt
  simp only [select_decide, encA_at, ← EReal.coe_mul, ← EReal.coe_zero, cmpi_slt_nat, cmpi_sge_nat, coe_ite]
  show _ = ((∑ l ∈ range 128, two (fun a l => d a l * o a l) j0.val l : ℝ) : EReal)
  by_cases h : j0.val < 256
  · rw [dif_pos h, sum_coe 128 fun l => if l < 64 then d j0.val l * o j0.val l else 0]
    refine congrArg Real.toEReal (Finset.sum_congr rfl fun l hl => ?_)
    rw [← two_eq _ h0 (Finset.mem_range.1 hl), if_pos h]
  · rw [dif_neg h, sum_coe 128 fun l => if 64 ≤ l then d (j0.val - 256) l * o (j0.val - 256) l else 0]
    refine congrArg Real.toEReal (Finset.sum_congr rfl fun l hl => ?_)
    rw [← two_eq _ h0 (Finset.mem_range.1 hl), if_neg h]

/-- One lane of a row, by its number. -/
theorem lane_sum (f : ℕ → ℝ) (n : ℕ) (hn : n < 128) (w : BitVec 32) (hw : w = BitVec.ofNat 32 n) :
    (∑ x : Fin 128, Scalar.select (IntOp.cmpi CmpIPredicate.eq (BitVec.ofNat 32 x.val) w) ((f x.val : ℝ) : EReal) 0) = ((f n : ℝ) : EReal) := by
  have e : ∀ x : Fin 128, Scalar.select (IntOp.cmpi CmpIPredicate.eq (BitVec.ofNat 32 x.val) w) ((f x.val : ℝ) : EReal) 0 = if x.val = n then ((f x.val : ℝ) : EReal) else 0 := fun x => by
    have hx := x.isLt
    have h : IntOp.cmpi CmpIPredicate.eq (BitVec.ofNat 32 x.val) w = BitVec.ofBool (decide (x.val = n)) := by
      subst hw
      show BitVec.ofBool (BitVec.ofNat 32 x.val == BitVec.ofNat 32 n) = _
      congr 1
      by_cases h : x.val = n
      · rw [h]; simp
      · have : BitVec.ofNat 32 x.val ≠ BitVec.ofNat 32 n := fun e => h (by
          have := congrArg BitVec.toNat e
          simp only [BitVec.toNat_ofNat] at this; omega)
        simp [h, this]
    rw [h, select_decide]
  rw [Finset.sum_congr rfl fun x _ => e x, Finset.sum_eq_single (⟨n, hn⟩ : Fin 128)]
  · exact if_pos rfl
  · exact fun x _ hx => if_neg fun e => hx (Fin.ext e)
  · exact fun h => absurd (Finset.mem_univ _) h

theorem bias0_enc (p : ℕ) (hp : p < 4) (L f : ℕ → ℕ → ℝ) : k0_pay72 (F := Ideal) (BitVec.ofNat 32 p) (encA L) (encA f) = encU (fun a => f a (2 * p) - L a 0) := by
  funext j; idx_vars j
  unfold k0_pay72 k0_pay70 k0_pay71
  pointwise
  exact (congrArg (· - encA L (ix2 j0 0)) (lane_sum (f j0.val) (2 * p) (by omega) _ (by
    rcases (by omega : p = 0 ∨ p = 1 ∨ p = 2 ∨ p = 3) with rfl | rfl | rfl | rfl <;> decide))).trans (EReal.coe_sub _ _).symm

theorem bias1_enc (p : ℕ) (hp : p < 4) (L f : ℕ → ℕ → ℝ) : k0_pay73 (F := Ideal) (BitVec.ofNat 32 p) (encA L) (encA f) = encU (fun a => f a (2 * p + 1) - L a 64) := by
  funext j; idx_vars j
  unfold k0_pay73 k0_pay70 k0_pay71
  pointwise
  exact (congrArg (· - encA L (ix2 j0 64)) (lane_sum (f j0.val) (2 * p + 1) (by omega) _ (by
    rcases (by omega : p = 0 ∨ p = 1 ∨ p = 2 ∨ p = 3) with rfl | rfl | rfl | rfl <;> decide))).trans (EReal.coe_sub _ _).symm

/-! ### One step of the loop -/

theorem pay3_enc (b : ℕ → ℝ) (q k C : ℕ → ℕ → ℝ) : k0_pay3 (F := Ideal) (encU b) (encU fun a => b (256 + a)) (encQ q) (encA k) (encC (C 0)) (encC (C 1))
    = encS (fun r c => Real.exp ((∑ l ∈ range 128, q r l * k c l) + (b r - C (r / 256) c))) := by
  funext j; idx_vars j
  unfold k0_pay3
  pointwise
  have h0 := j0.isLt
  simp only [encQ_at, encA_at, encU_at, encC_at, ← EReal.coe_mul, ← EReal.coe_sub]
  show _ = ((Real.exp ((∑ l ∈ range 128, q j0.val l * k j1.val l) + (b j0.val - C (j0.val / 256) j1.val)) : ℝ) : EReal)
  by_cases h : j0.val < 256
  · rw [dif_pos h, sum_coe 128 fun l => q j0.val l * k j1.val l, ← EReal.coe_add, Ideal.exp_coe, Nat.div_eq_of_lt h]
  · rw [dif_neg h, sum_coe 128 fun l => q (256 + (j0.val - 256)) l * k j1.val l, ← EReal.coe_add, Ideal.exp_coe, show 256 + (j0.val - 256) = j0.val by omega,
      show j0.val / 256 = 1 by omega]

theorem pay4_enc (b e : ℕ → ℝ) (q d k v C w : ℕ → ℕ → ℝ) (h : k0_pay3 (F := Ideal) (encU b) (encU fun a => b (256 + a)) (encQ q) (encA k) (encC (C 0)) (encC (C 1)) = encS w) :
    k0_pay4 (F := Ideal) (encU b) (encU fun a => b (256 + a)) (encQ q) (encQ d) (encV e) (encA k) (encA v) (encC (C 0)) (encC (C 1))
    = encS (fun r c => w r c * ((∑ l ∈ range 128, d r l * v c l) - e r)) := by
  funext j; idx_vars j
  unfold k0_pay4
  rw [h]
  pointwise
  simp only [encS_at, encQ_at, encA_at, encV_at, ← EReal.coe_mul]
  rw [sum_coe 128 fun l => d j0.val l * v j1.val l, ← EReal.coe_sub, ← EReal.coe_mul]

theorem acc_dot (x : ℕ → ℕ → ℝ) (y : ℕ → ℕ → ℝ) (a : ℕ → ℕ → ℝ) (s : Fin 256) (l : Fin 128) :
    encA a (ix2 s l) + (∑ r : Fin 512, encS x (ix2 r s) * encQ y (ix2 r l)) = ((a s.val l.val + ∑ r ∈ range 512, x r s.val * y r l.val : ℝ) : EReal) := by
  simp only [encS_at, encQ_at, encA_at, ← EReal.coe_mul]
  rw [sum_coe 512 fun r => x r s.val * y r l.val, ← EReal.coe_add]

theorem key_enc (b e : ℕ → ℝ) (q d k v C g a : ℕ → ℕ → ℝ) (h : k0_pay4 (F := Ideal) (encU b) (encU fun a => b (256 + a)) (encQ q) (encQ d) (encV e) (encA k) (encA v) (encC (C 0)) (encC (C 1)) = encS g) :
    k0_pay8 (F := Ideal) (k0_pay6 (encA a)) (k0_pay7 (encU b) (encU fun a => b (256 + a)) (encQ q) (encQ d) (encV e) (encA k) (encA v) (encC (C 0)) (encC (C 1)))
      = encA (fun s l => a s l + ∑ r ∈ range 512, g r s * q r l) := by
  funext j; idx_vars j
  unfold k0_pay8 k0_pay6 k0_pay7 k0_pay5
  rw [h]
  pointwise
  exact acc_dot _ _ _ _ _

theorem pay9_enc (d w a : ℕ → ℕ → ℝ) : k0_pay9 (F := Ideal) (encQ d) (encS w) (encA a) = encA (fun s l => a s l + ∑ r ∈ range 512, w r s * d r l) := by
  funext j; idx_vars j
  unfold k0_pay9
  pointwise
  exact acc_dot _ _ _ _ _

theorem pay10_enc (g : ℕ → ℕ → ℝ) (y : ℕ → ℝ) : k0_pay10 (F := Ideal) (encS g) (encC y) = encC (fun c => y c - ∑ a ∈ range 256, g a c) := by
  funext j; idx_vars j
  unfold k0_pay10
  pointwise
  show ((y j2.val : ℝ) : EReal) - (∑ x : Fin 256, ((g x.val j2.val : ℝ) : EReal)) = _
  rw [sum_coe 256 fun x => g x j2.val, ← EReal.coe_sub]; rfl

theorem pay11_enc (g : ℕ → ℕ → ℝ) (y : ℕ → ℝ) : k0_pay11 (F := Ideal) (encS g) (encC y) = encC (fun c => y c - ∑ a ∈ range 256, g (256 + a) c) := by
  funext j; idx_vars j
  unfold k0_pay11
  pointwise
  show ((y j2.val : ℝ) : EReal) - (∑ x : Fin 256, ((g (256 + x.val) j2.val : ℝ) : EReal)) = _
  rw [sum_coe 256 fun x => g (256 + x) j2.val, ← EReal.coe_sub]; rfl

theorem pay106_enc (g : ℕ → ℕ → ℝ) (y : ℕ → ℝ) : k0_pay106 (F := Ideal) (encS g) (encC y) = encC (fun c => y c - ∑ a ∈ range 256, g a c) := pay10_enc g y
theorem pay107_enc (g : ℕ → ℕ → ℝ) (y : ℕ → ℝ) : k0_pay107 (F := Ideal) (encS g) (encC y) = encC (fun c => y c - ∑ a ∈ range 256, g (256 + a) c) := pay11_enc g y

theorem dq_dot (a x k : ℕ → ℕ → ℝ) (r : Fin 512) (l : Fin 128) :
    encQ a (ix2 r l) + (∑ s : Fin 256, encS x (ix2 r s) * encA k (ix2 s l)) = ((a r.val l.val + ∑ s ∈ range 256, x r.val s * k s l.val : ℝ) : EReal) := by
  simp only [encS_at, encQ_at, encA_at, ← EReal.coe_mul]
  rw [sum_coe 256 fun s => x r.val s * k s l.val, ← EReal.coe_add]

theorem pay22_enc (a x k : ℕ → ℕ → ℝ) : k0_pay22 (F := Ideal) (encQ a) (encS x) (encA k) = encQ (fun r l => a r l + ∑ s ∈ range 256, x r s * k s l) := by
  funext j; idx_vars j
  unfold k0_pay22
  pointwise
  exact dq_dot _ _ _ _ _

theorem pay23_enc (g : ℕ → ℝ) (x : ℕ → ℕ → ℝ) : k0_pay23 (F := Ideal) (encV g) (encS x) = encV (fun r => g r + ∑ y ∈ range 256, x r y) := by
  funext j; idx_vars j
  unfold k0_pay23
  pointwise
  simp only [encS_at, encV_at]
  rw [sum_coe 256 fun y => x j0.val y, ← EReal.coe_add]

/-! ### The query block's own key block, where keys after the query do not count -/

def maskS : IVec S512x256 1 := fun j => BitVec.ofBool (decide ((j 1).val ≤ (j 0).val % 256))

theorem maskS_at (a : Fin 512) (b : Fin 256) : maskS (ix2 a b) = BitVec.ofBool (decide (b.val ≤ a.val % 256)) := rfl

theorem own_mask : k0_pay85 (iota .tc S256x256 32 [0] iota_S256x256_d0_w32) (iota .tc S256x256 32 [1] iota_S256x256_d1_w32) = maskS := by
  funext j; idx_vars j
  unfold k0_pay85
  pointwise
  have h0 := j0.isLt
  rw [maskS_at]
  by_cases h : j0.val < 256
  · rw [dif_pos h, cmpi_sle_ofNat (by omega) (by omega), Nat.mod_eq_of_lt h]
  · rw [dif_neg h, cmpi_sle_ofNat (by omega) (by omega), show j0.val % 256 = j0.val - 256 by omega]

theorem pay98_enc (q k : ℕ → ℕ → ℝ) : k0_pay98 (F := Ideal) (encQ q) (encA k) = encS (fun r c => ∑ l ∈ range 128, q r l * k c l) := by
  funext j; idx_vars j
  unfold k0_pay98
  pointwise
  simp only [encQ_at, encA_at, ← EReal.coe_mul]
  exact sum_coe 128 fun l => q j0.val l * k j1.val l

theorem pay99_enc (q k : ℕ → ℕ → ℝ) : k0_pay99 (F := Ideal) (encQ q) (encA k) = encS (fun r c => ∑ l ∈ range 128, q r l * k c l) := by
  funext j; idx_vars j
  unfold k0_pay99
  pointwise
  simp only [encQ_at, encA_at, ← EReal.coe_mul]
  exact sum_coe 128 fun l => q j0.val l * k j1.val l

theorem pay100_enc (q k : ℕ → ℕ → ℝ) : k0_pay100 (F := Ideal) (encQ q) (encA k) = encT (fun r c => ∑ l ∈ range 128, q r l * k c l) := by
  unfold k0_pay100; rw [pay98_enc]
  funext j; idx_vars j
  pointwise
  rfl

theorem pay101_enc (b : ℕ → ℝ) (z C : ℕ → ℕ → ℝ) : k0_pay101 (F := Ideal) (encU b) (encU fun a => b (256 + a)) maskS (encS z) (encT z) (encC (C 0)) (encC (C 1))
    = encS (fun r c => if c ≤ r % 256 then Real.exp (z r c + (b r - C (r / 256) c)) else 0) := by
  funext j; idx_vars j
  unfold k0_pay101
  pointwise
  have h0 := j0.isLt
  simp only [encS_at, encT_at, encU_at, encC_at, maskS_at, select_decide, ← EReal.coe_sub, ← EReal.coe_add, ← EReal.coe_zero]
  show _ = (((if j1.val ≤ j0.val % 256 then Real.exp (z j0.val j1.val + (b j0.val - C (j0.val / 256) j1.val)) else 0) : ℝ) : EReal)
  rw [← coe_ite, ← Ideal.exp_coe]
  congr 2
  by_cases h : j0.val < 256
  · rw [dif_pos h, Nat.div_eq_of_lt h]
  · rw [dif_neg h, show 256 + (j0.val - 256) = j0.val by omega, show j0.val / 256 = 1 by omega]

theorem pay102_enc (b e : ℕ → ℝ) (z x C w : ℕ → ℕ → ℝ) (h : k0_pay101 (F := Ideal) (encU b) (encU fun a => b (256 + a)) maskS (encS z) (encT z) (encC (C 0)) (encC (C 1)) = encS w) :
    k0_pay102 (F := Ideal) (encU b) (encU fun a => b (256 + a)) (encV e) maskS (encS z) (encS x) (encT z) (encC (C 0)) (encC (C 1)) = encS (fun r c => w r c * (x r c - e r)) := by
  funext j; idx_vars j
  unfold k0_pay102
  rw [h]
  pointwise
  simp only [encS_at, encV_at, ← EReal.coe_sub, ← EReal.coe_mul]

theorem pay104_enc (b e : ℕ → ℝ) (q z x C g a : ℕ → ℕ → ℝ)
    (h : k0_pay102 (F := Ideal) (encU b) (encU fun a => b (256 + a)) (encV e) maskS (encS z) (encS x) (encT z) (encC (C 0)) (encC (C 1)) = encS g) :
    k0_pay104 (F := Ideal) (encU b) (encU fun a => b (256 + a)) (encQ q) (encV e) maskS (encS z) (encS x) (encT z) (encC (C 0)) (encC (C 1)) (encA a)
      = encA (fun s l => a s l + ∑ r ∈ range 512, g r s * q r l) := by
  funext j; idx_vars j
  unfold k0_pay104 k0_pay103
  rw [h]
  pointwise
  exact acc_dot _ _ _ _ _

theorem pay105_enc (b : ℕ → ℝ) (d z C w a : ℕ → ℕ → ℝ)
    (h : k0_pay101 (F := Ideal) (encU b) (encU fun a => b (256 + a)) maskS (encS z) (encT z) (encC (C 0)) (encC (C 1)) = encS w) :
    k0_pay105 (F := Ideal) (encU b) (encU fun a => b (256 + a)) (encQ d) maskS (encS z) (encT z) (encC (C 0)) (encC (C 1)) (encA a)
      = encA (fun s l => a s l + ∑ r ∈ range 512, w r s * d r l) := by
  funext j; idx_vars j
  unfold k0_pay105
  rw [h]
  pointwise
  exact acc_dot _ _ _ _ _

theorem pay108_enc (g : ℕ → ℝ) (x : ℕ → ℕ → ℝ) : k0_pay108 (F := Ideal) (encV g) (encS x) = encV (fun r => g r + ∑ y ∈ range 256, x r y) := pay23_enc g x

/-- Of the two heads of a row, the one of the lane. -/
theorem pay1_enc (g : ℕ → ℝ) : k0_pay1 (F := Ideal) k0_pay59 (encV g) = encA (fun a l => g (a + 256 * (l / 64))) := by
  funext j; idx_vars j
  unfold k0_pay1 k0_pay59
  pointwise
  have h0 := j0.isLt; have h1 := j1.isLt
  rw [cmpi_slt_ofNat (by omega) (by omega), select_decide]
  show _ = ((g (j0.val + 256 * (j1.val / 64)) : ℝ) : EReal)
  by_cases h : j1.val < 64
  · rw [if_pos h, Nat.div_eq_of_lt h, mul_zero, add_zero]; rfl
  · rw [if_neg h, show j1.val / 64 = 1 by omega, mul_one]; exact congrArg (fun n => ((g n : ℝ) : EReal)) (Nat.add_comm 256 j0.val)

theorem pay109_enc (x a k : ℕ → ℕ → ℝ) : k0_pay109 (F := Ideal) k0_pay59 (encQ a) (encS x) (encA k)
    = encA (fun r l => (a (r + 256 * (l / 64)) l + ∑ s ∈ range 256, x (r + 256 * (l / 64)) s * k s l) * (1 / 8)) := by
  funext j; idx_vars j
  unfold k0_pay109 k0_pay59
  pointwise
  have h0 := j0.isLt; have h1 := j1.isLt
  rw [cmpi_slt_ofNat (by omega) (by omega), select_decide, eighth]
  show _ = (((a (j0.val + 256 * (j1.val / 64)) j1.val + ∑ s ∈ range 256, x (j0.val + 256 * (j1.val / 64)) s * k s j1.val) * (1 / 8) : ℝ) : EReal)
  rw [EReal.coe_mul]
  congr 1
  by_cases h : j1.val < 64
  · rw [if_pos h, Nat.div_eq_of_lt h, mul_zero, add_zero]; exact dq_dot a x k ⟨j0.val, by omega⟩ j1
  · rw [if_neg h, show j1.val / 64 = 1 by omega, mul_one, Nat.add_comm j0.val 256]; exact dq_dot a x k ⟨256 + j0.val, by omega⟩ j1

end Cert.KernelFoxIdeal.Value

end
-- ==== Proof.Fox.Trip.lean ====
module

public import proofs.«01_k».proof.Proof.Fox.Pay

/-!
One step of the kernel's loop over key blocks, and the last block, over the reals: what the running sums and the gradients hold.
-/

@[expose] public section

set_option maxRecDepth 16384

noncomputable section

namespace Cert.KernelFoxIdeal.Value

open Cert.KernelFoxIdeal Cert.KernelFoxIdeal.Gen Cert.Reals Idealize.ShloMosaic Idealize.ShloMosaic.TcCoe Idealize.SL.Sem
open Finset (range)

theorem encS_congr {f g : ℕ → ℕ → ℝ} (h : ∀ r < 512, ∀ c < 256, f r c = g r c) : encS f = encS g :=
  funext fun j => congrArg Real.toEReal (h _ (j 0).isLt _ (j 1).isLt)
theorem encQ_congr {f g : ℕ → ℕ → ℝ} (h : ∀ r < 512, ∀ c < 128, f r c = g r c) : encQ f = encQ g :=
  funext fun j => congrArg Real.toEReal (h _ (j 0).isLt _ (j 1).isLt)
theorem encA_congr {f g : ℕ → ℕ → ℝ} (h : ∀ r < 256, ∀ c < 128, f r c = g r c) : encA f = encA g :=
  funext fun j => congrArg Real.toEReal (h _ (j 0).isLt _ (j 1).isLt)
theorem encF_congr {f g : ℕ → ℕ → ℝ} (h : ∀ r < 8192, ∀ c < 128, f r c = g r c) : encF f = encF g :=
  funext fun j => congrArg Real.toEReal (h _ (j 0).isLt _ (j 1).isLt)
theorem encV_congr {f g : ℕ → ℝ} (h : ∀ r < 512, f r = g r) : encV f = encV g :=
  funext fun j => congrArg Real.toEReal (h _ (j 0).isLt)
theorem encU_congr {f g : ℕ → ℝ} (h : ∀ r < 256, f r = g r) : encU f = encU g :=
  funext fun j => congrArg Real.toEReal (h _ (j 0).isLt)
theorem encR_congr {f g : ℕ → ℕ → ℝ} (h : ∀ r < 2, ∀ c < 8192, f r c = g r c) : encR f = encR g :=
  funext fun j => congrArg Real.toEReal (h _ (j 1).isLt _ (j 2).isLt)

/-- A key block of an array of reals. -/
theorem rowsOf_enc (f : ℕ → ℕ → ℝ) (b : Fin 32) : rowsOf (F := Ideal) (encF f) b = encA (fun a l => f (256 * b.val + a) l) := by
  funext j; idx_vars j
  show ((f (b.val * 256 + 1 * j0.val) (0 + 1 * j1.val) : ℝ) : EReal) = ((f (256 * b.val + j0.val) j1.val : ℝ) : EReal)
  rw [mul_comm, zero_add, one_mul, one_mul]

theorem colsOf_enc (f : ℕ → ℕ → ℝ) (q : Fin 2) (b : Fin 32) : colsOf (F := Ideal) (encR f) q b = encC (fun c => f q.val (256 * b.val + c)) := by
  funext j; idx_vars j
  show ((f (q.val + 1 * j1.val) (b.val * 256 + 1 * j2.val) : ℝ) : EReal) = ((f q.val (256 * b.val + j2.val) : ℝ) : EReal)
  rw [mul_comm b.val, one_mul, one_mul, show j1.val = 0 by omega, add_zero]

/-- An array of reals with a key block replaced. -/
theorem setRows_enc (f g : ℕ → ℕ → ℝ) (b : Fin 32) :
    setRows (F := Ideal) (encF f) b (encA g) = encF (fun s l => if s / 256 = b.val then g (s % 256) l else f s l) := by
  funext j; idx_vars j
  have h1 := j1.isLt
  unfold setRows VecWindow.put
  by_cases h : j0.val / 256 = b.val
  · have hm : ∀ a : Fin S8192x128.rank, blkAt b a ≤ (ix2 j0 j1 a).val ∧ (ix2 j0 j1 a).val < blkAt b a + S256x128.size a := by
      refine Fin.forall_fin_two.mpr ⟨?_, ?_⟩
      · show b.val * 256 ≤ j0.val ∧ j0.val < b.val * 256 + 256; omega
      · show 0 ≤ j1.val ∧ j1.val < 0 + 128; omega
    rw [dif_pos hm]
    show ((g (j0.val - b.val * 256) (j1.val - 0) : ℝ) : EReal) = (((if j0.val / 256 = b.val then g (j0.val % 256) j1.val else f j0.val j1.val) : ℝ) : EReal)
    rw [if_pos h, Nat.sub_zero, show j0.val % 256 = j0.val - b.val * 256 by omega]
  · rw [dif_neg (fun hm => h (by have := hm 0; change b.val * 256 ≤ j0.val ∧ j0.val < b.val * 256 + 256 at this; omega))]
    show ((f j0.val j1.val : ℝ) : EReal) = (((if j0.val / 256 = b.val then g (j0.val % 256) j1.val else f j0.val j1.val) : ℝ) : EReal)
    rw [if_neg h]

theorem setCols_enc (f : ℕ → ℕ → ℝ) (g : ℕ → ℝ) (q : Fin 2) (b : Fin 32) :
    setCols (F := Ideal) (encR f) q b (encC g) = encR (fun h s => if h = q.val ∧ s / 256 = b.val then g (s % 256) else f h s) := by
  funext j; idx_vars j
  have h0 := j0.isLt; have h1 := j1.isLt
  unfold setCols VecWindow.put
  by_cases h : j1.val = q.val ∧ j2.val / 256 = b.val
  · have hm : ∀ a : Fin S1x2x8192.rank, colAt q b a ≤ (ix3 j0 j1 j2 a).val ∧ (ix3 j0 j1 j2 a).val < colAt q b a + S1x1x256.size a := by
      intro a
      match a with
      | ⟨0, _⟩ => show 0 ≤ j0.val ∧ j0.val < 0 + 1; omega
      | ⟨1, _⟩ => show q.val ≤ j1.val ∧ j1.val < q.val + 1; omega
      | ⟨2, _⟩ => show b.val * 256 ≤ j2.val ∧ j2.val < b.val * 256 + 256; omega
    rw [dif_pos hm]
    show ((g (j2.val - b.val * 256) : ℝ) : EReal) = (((if j1.val = q.val ∧ j2.val / 256 = b.val then g (j2.val % 256) else f j1.val j2.val) : ℝ) : EReal)
    rw [if_pos h, show j2.val % 256 = j2.val - b.val * 256 by omega]
  · rw [dif_neg (fun hm => h (by
      have e1 := hm 1; have e2 := hm 2
      change q.val ≤ j1.val ∧ j1.val < q.val + 1 at e1
      change b.val * 256 ≤ j2.val ∧ j2.val < b.val * 256 + 256 at e2
      omega))]
    show ((f j1.val j2.val : ℝ) : EReal) = (((if j1.val = q.val ∧ j2.val / 256 = b.val then g (j2.val % 256) else f j1.val j2.val) : ℝ) : EReal)
    rw [if_neg h]

/-- Both rows of an array of columns lowered by the column sums of two stacked squares. -/
theorem bias_enc (x f : ℕ → ℕ → ℝ) (b : Fin 32) : biasFn (F := Ideal) (encS x) (encR f) b
    = encR (fun h s => if s / 256 = b.val then f h (256 * b.val + s % 256) - ∑ a ∈ range 256, x (256 * h + a) (s % 256) else f h s) := by
  unfold biasFn
  simp only [colsOf_enc, pay10_enc, pay11_enc, setCols_enc]
  refine encR_congr fun h hh s hs => ?_
  show (if h = 1 ∧ s / 256 = b.val then (if 1 = 0 ∧ (256 * b.val + s % 256) / 256 = b.val then _ else f 1 (256 * b.val + s % 256)) - _
    else if h = 0 ∧ s / 256 = b.val then _ else f h s) = _
  rcases (by omega : h = 0 ∨ h = 1) with rfl | rfl <;> by_cases e : s / 256 = b.val <;> simp [e]

theorem own_bias_enc (x f : ℕ → ℕ → ℝ) (b : Fin 32) : ownBias (F := Ideal) (encS x) (encR f) b
    = encR (fun h s => if s / 256 = b.val then f h (256 * b.val + s % 256) - ∑ a ∈ range 256, x (256 * h + a) (s % 256) else f h s) := by
  unfold ownBias
  simp only [colsOf_enc, pay106_enc, pay107_enc, setCols_enc]
  refine encR_congr fun h hh s hs => ?_
  show (if h = 1 ∧ s / 256 = b.val then f 1 (256 * b.val + s % 256) - _
    else if h = 0 ∧ s / 256 = b.val then _ else f h s) = _
  rcases (by omega : h = 0 ∨ h = 1) with rfl | rfl <;> by_cases e : s / 256 = b.val <;> simp [e]

/-! ### A grid point's rows -/

section
variable (q d K V C : ℕ → ℕ → ℝ) (B e : ℕ → ℝ) (i : ℕ)

/-- The scaled query of row `r`, its scores less its log sum, the products of its output's gradient with the values, its position. -/
def Qr : ℕ → ℕ → ℝ := two fun a l => q a l * (1 / 8)
def Zr (r s : ℕ) : ℝ := (∑ l ∈ range 128, Qr q r l * K s l) + (B r - C (r / 256) s)
def Dr (r s : ℕ) : ℝ := ∑ l ∈ range 128, two d r l * V s l
def Tr (r : ℕ) : ℕ := 256 * i + r % 256

def Wr (r s : ℕ) : ℝ := if s ≤ Tr i r then Real.exp (Zr q K C B r s) else 0
def DZr (r s : ℕ) : ℝ := Wr q K C B i r s * (Dr d V r s - e r)

/-- What a grid point has of its own block. -/
def ptR (m0 m1 : FVec Ideal S256x1 .f32) : Point Ideal := ⟨m0, m1, encU B, encU fun a => B (256 + a), encQ (Qr q), encQ (two d), encV e⟩

/-- What is carried when the first `n` key blocks are done; `a`, `b` and `y` are what the gradients of keys, values and biases held before. -/
def stAt (a b y : ℕ → ℕ → ℝ) (n : ℕ) : State Ideal :=
  ((encQ fun r l => ∑ s ∈ range (256 * n), DZr q d K V C B e i r s * K s l, encV fun r => ∑ s ∈ range (256 * n), DZr q d K V C B e i r s),
    encF fun s l => a s l + (if s < 256 * n then ∑ r ∈ range 512, DZr q d K V C B e i r s * Qr q r l else 0),
    encF fun s l => b s l + (if s < 256 * n then ∑ r ∈ range 512, Wr q K C B i r s * two d r l else 0),
    encR fun h s => y h s - (if s < 256 * n then ∑ x ∈ range 256, DZr q d K V C B e i (256 * h + x) s else 0))

variable {q d K V C B e i} in
theorem acc_block {a : ℕ → ℕ → ℝ} {x : ℕ → ℕ → ℝ} (b : Fin 32) :
    (fun s l => if s / 256 = b.val then (a (256 * b.val + s % 256) l + (if 256 * b.val + s % 256 < 256 * b.val then x (256 * b.val + s % 256) l else 0)) + x (256 * b.val + s % 256) l
        else a s l + (if s < 256 * b.val then x s l else 0))
      = fun s l => a s l + (if s < 256 * (b.val + 1) then x s l else 0) := by
  funext s l
  by_cases h : s / 256 = b.val
  · have e : 256 * b.val + s % 256 = s := by omega
    rw [if_pos h, e, if_neg (by omega), if_pos (by omega), add_zero]
  · rw [if_neg h]
    by_cases h' : s < 256 * b.val
    · rw [if_pos h', if_pos (by omega)]
    · rw [if_neg h', if_neg (by omega)]

variable {q d K V C B e i} in
theorem sub_block {a : ℕ → ℕ → ℝ} {x : ℕ → ℕ → ℝ} (b : Fin 32) :
    (fun h s => if s / 256 = b.val then (a h (256 * b.val + s % 256) - (if 256 * b.val + s % 256 < 256 * b.val then x h (256 * b.val + s % 256) else 0)) - x h (256 * b.val + s % 256)
        else a h s - (if s < 256 * b.val then x h s else 0))
      = fun h s => a h s - (if s < 256 * (b.val + 1) then x h s else 0) := by
  funext l s
  by_cases h : s / 256 = b.val
  · have e : 256 * b.val + s % 256 = s := by omega
    rw [if_pos h, e, if_neg (by omega), if_pos (by omega), sub_zero]
  · rw [if_neg h]
    by_cases h' : s < 256 * b.val
    · rw [if_pos h', if_pos (by omega)]
    · rw [if_neg h', if_neg (by omega)]

theorem chunk_enc (m0 m1 : FVec Ideal S256x1 .f32) (a b y : ℕ → ℕ → ℝ) (n : Fin 32) (hn : n.val < i) :
    chunkFn (ptR q d B e m0 m1) (encF K) (encF V) (encR C) n (stAt q d K V C B e i a b y n.val) = stAt q d K V C B e i a b y (n.val + 1) := by
  have hT : ∀ r c, c < 256 → 256 * n.val + c ≤ Tr i r := fun r c h => by unfold Tr; omega
  have h3 : k0_pay3 (F := Ideal) (encU B) (encU fun a => B (256 + a)) (encQ (Qr q)) (encA fun a l => K (256 * n.val + a) l) (encC fun c => C 0 (256 * n.val + c)) (encC fun c => C 1 (256 * n.val + c))
      = encS fun r c => Wr q K C B i r (256 * n.val + c) := by
    refine (pay3_enc B (Qr q) (fun a l => K (256 * n.val + a) l) (fun h c => C h (256 * n.val + c))).trans (encS_congr fun r hr c hc => ?_)
    exact (if_pos (hT r c hc)).symm
  have h4 := pay4_enc B e (Qr q) (two d) (fun a l => K (256 * n.val + a) l) (fun a l => V (256 * n.val + a) l) (fun h c => C h (256 * n.val + c)) _ h3
  have h4' : k0_pay4 (F := Ideal) (encU B) (encU fun a => B (256 + a)) (encQ (Qr q)) (encQ (two d)) (encV e) (encA fun a l => K (256 * n.val + a) l) (encA fun a l => V (256 * n.val + a) l) (encC fun c => C 0 (256 * n.val + c)) (encC fun c => C 1 (256 * n.val + c))
      = encS fun r c => DZr q d K V C B e i r (256 * n.val + c) := h4
  have h5 : k0_pay5 (F := Ideal) (encU B) (encU fun a => B (256 + a)) (encQ (Qr q)) (encQ (two d)) (encV e) (encA fun a l => K (256 * n.val + a) l) (encA fun a l => V (256 * n.val + a) l) (encC fun c => C 0 (256 * n.val + c)) (encC fun c => C 1 (256 * n.val + c))
      = encS fun r c => DZr q d K V C B e i r (256 * n.val + c) := h4'
  have hk := fun a => key_enc B e (Qr q) (two d) (fun a l => K (256 * n.val + a) l) (fun a l => V (256 * n.val + a) l) (fun h c => C h (256 * n.val + c)) _ a h4'
  have hv : ∀ b, k0_pay9 (F := Ideal) (encQ (two d)) (k0_pay3 (encU B) (encU fun a => B (256 + a)) (encQ (Qr q)) (encA fun a l => K (256 * n.val + a) l) (encC fun c => C 0 (256 * n.val + c)) (encC fun c => C 1 (256 * n.val + c))) (encA b)
      = encA fun s l => b s l + ∑ r ∈ range 512, Wr q K C B i r (256 * n.val + s) * two d r l := fun b => by
    rw [h3]; exact pay9_enc _ _ _
  unfold chunkFn stAt ptR
  simp only [rowsOf_enc, colsOf_enc]
  refine congrArg₂ Prod.mk (congrArg₂ Prod.mk ?_ ?_) (congrArg₂ Prod.mk ?_ (congrArg₂ Prod.mk ?_ ?_))
  · refine (congrArg (fun x => k0_pay22 (F := Ideal) _ x _) h5).trans ((pay22_enc _ _ _).trans (encQ_congr fun r hr l hl => ?_))
    rw [mul_add, mul_one, Finset.sum_range_add]
  · refine (congrArg (fun x => k0_pay23 (F := Ideal) _ x) h4').trans ((pay23_enc _ _).trans (encV_congr fun r hr => ?_))
    rw [mul_add, mul_one, Finset.sum_range_add]
  · refine (congrArg (setRows _ n) (hk _)).trans ((setRows_enc _ _ _).trans ?_)
    exact congrArg encF (acc_block (a := a) (x := fun s l => ∑ r ∈ range 512, DZr q d K V C B e i r s * Qr q r l) n)
  · refine (congrArg (setRows _ n) (hv _)).trans ((setRows_enc _ _ _).trans ?_)
    exact congrArg encF (acc_block (a := b) (x := fun s l => ∑ r ∈ range 512, Wr q K C B i r s * two d r l) n)
  · refine (congrArg (fun x => biasFn (F := Ideal) x _ n) h4').trans ((bias_enc _ _ _).trans ?_)
    exact congrArg encR (sub_block (a := y) (x := fun h s => ∑ x ∈ range 256, DZr q d K V C B e i (256 * h + x) s) n)

theorem chunks_enc (m0 m1 : FVec Ideal S256x1 .f32) (a b y : ℕ → ℕ → ℝ) (hi : i < 32) :
    ∀ n ≤ i, chunksFn (ptR q d B e m0 m1) (encF K) (encF V) (encR C) 0 (stAt q d K V C B e i a b y 0) n = stAt q d K V C B e i a b y n
  | 0, _ => rfl
  | n + 1, h => by
    show chunkFn _ _ _ _ (Fin.ofNat 32 (0 + n)) (chunksFn _ _ _ _ 0 _ n) = _
    rw [chunks_enc m0 m1 a b y hi n (by omega), show Fin.ofNat 32 (0 + n) = ⟨n, by omega⟩ from Fin.ext (by show (0 + n) % 32 = n; omega)]
    exact chunk_enc q d K V C B e i m0 m1 a b y ⟨n, by omega⟩ (by show n < i; omega)

variable {q d K V C B e i} in
theorem W_zero {r s : ℕ} (h : Tr i r < s) : Wr q K C B i r s = 0 := if_neg (by omega)
variable {q d K V C B e i} in
theorem DZ_zero {r s : ℕ} (h : Tr i r < s) : DZr q d K V C B e i r s = 0 := by unfold DZr; rw [W_zero h, zero_mul]

/-- Sums over keys after the query add nothing. -/
theorem sum_dz {n : ℕ} (r : ℕ) (g : ℕ → ℝ) (h : Tr i r < n) {m : ℕ} (hm : n ≤ m) : (∑ s ∈ range n, DZr q d K V C B e i r s * g s) = ∑ s ∈ range m, DZr q d K V C B e i r s * g s := by
  refine Finset.sum_subset (Finset.range_mono hm) fun s _ hs => ?_
  rw [DZ_zero (by have : ¬s < n := fun h => hs (Finset.mem_range.mpr h); omega), zero_mul]

theorem sum_dz' {n : ℕ} (r : ℕ) (h : Tr i r < n) {m : ℕ} (hm : n ≤ m) : (∑ s ∈ range n, DZr q d K V C B e i r s) = ∑ s ∈ range m, DZr q d K V C B e i r s := by
  have := sum_dz q d K V C B e i r (fun _ => 1) h hm
  simpa only [mul_one] using this

/-- What a grid point leaves: the gradient of its queries, the gradients of keys, values and biases with its rows' share taken in, its row sums. -/
theorem last_enc (m0 m1 : FVec Ideal S256x1 .f32) (a b y : ℕ → ℕ → ℝ) (hi : i < 32) :
    lastFn (ptR q d B e m0 m1) (encF K) (encF V) (encR C) ⟨i, hi⟩ (stAt q d K V C B e i a b y i)
      = (encA fun r l => (∑ s ∈ range 8192, DZr q d K V C B e i (r + 256 * (l / 64)) s * K s l) * (1 / 8),
        encF fun s l => a s l + ∑ r ∈ range 512, DZr q d K V C B e i r s * Qr q r l,
        encF fun s l => b s l + ∑ r ∈ range 512, Wr q K C B i r s * two d r l,
        encR fun h s => y h s - ∑ x ∈ range 256, DZr q d K V C B e i (256 * h + x) s,
        encA fun r l => ∑ s ∈ range 8192, DZr q d K V C B e i (r + 256 * (l / 64)) s) := by
  have hT : ∀ r c, c ≤ r % 256 ↔ 256 * i + c ≤ Tr i r := fun r c => by unfold Tr; omega
  have hz := pay98_enc (Qr q) (fun a l => K (256 * i + a) l)
  have hz' := pay100_enc (Qr q) (fun a l => K (256 * i + a) l)
  have hd := pay99_enc (two d) (fun a l => V (256 * i + a) l)
  have h101 : k0_pay101 (F := Ideal) (encU B) (encU fun a => B (256 + a)) ownMask (k0_pay98 (encQ (Qr q)) (encA fun a l => K (256 * i + a) l)) (k0_pay100 (encQ (Qr q)) (encA fun a l => K (256 * i + a) l))
      (encC fun c => C 0 (256 * i + c)) (encC fun c => C 1 (256 * i + c)) = encS fun r c => Wr q K C B i r (256 * i + c) := by
    rw [hz, hz', show ownMask = maskS from own_mask]
    refine (pay101_enc B _ (fun h c => C h (256 * i + c))).trans (encS_congr fun r hr c hc => ?_)
    exact if_congr (hT r c) rfl rfl
  have h102 : k0_pay102 (F := Ideal) (encU B) (encU fun a => B (256 + a)) (encV e) ownMask (k0_pay98 (encQ (Qr q)) (encA fun a l => K (256 * i + a) l)) (k0_pay99 (encQ (two d)) (encA fun a l => V (256 * i + a) l))
      (k0_pay100 (encQ (Qr q)) (encA fun a l => K (256 * i + a) l)) (encC fun c => C 0 (256 * i + c)) (encC fun c => C 1 (256 * i + c)) = encS fun r c => DZr q d K V C B e i r (256 * i + c) := by
    rw [hz, hz', hd, show ownMask = maskS from own_mask]
    rw [hz, hz', show ownMask = maskS from own_mask] at h101
    exact pay102_enc B e _ _ (fun h c => C h (256 * i + c)) _ h101
  have h104 : ∀ a, k0_pay104 (F := Ideal) (encU B) (encU fun a => B (256 + a)) (encQ (Qr q)) (encV e) ownMask (k0_pay98 (encQ (Qr q)) (encA fun a l => K (256 * i + a) l)) (k0_pay99 (encQ (two d)) (encA fun a l => V (256 * i + a) l))
      (k0_pay100 (encQ (Qr q)) (encA fun a l => K (256 * i + a) l)) (encC fun c => C 0 (256 * i + c)) (encC fun c => C 1 (256 * i + c)) (encA a)
      = encA fun s l => a s l + ∑ r ∈ range 512, DZr q d K V C B e i r (256 * i + s) * Qr q r l := fun a => by
    rw [hz, hz', hd, show ownMask = maskS from own_mask] at h102 ⊢
    exact pay104_enc B e _ _ _ (fun h c => C h (256 * i + c)) _ a h102
  have h105 : ∀ a, k0_pay105 (F := Ideal) (encU B) (encU fun a => B (256 + a)) (encQ (two d)) ownMask (k0_pay98 (encQ (Qr q)) (encA fun a l => K (256 * i + a) l))
      (k0_pay100 (encQ (Qr q)) (encA fun a l => K (256 * i + a) l)) (encC fun c => C 0 (256 * i + c)) (encC fun c => C 1 (256 * i + c)) (encA a)
      = encA fun s l => a s l + ∑ r ∈ range 512, Wr q K C B i r (256 * i + s) * two d r l := fun a => by
    rw [hz, hz', show ownMask = maskS from own_mask] at h101 ⊢
    exact pay105_enc B _ _ (fun h c => C h (256 * i + c)) _ a h101
  have hTr : ∀ r, Tr i r < 256 * i + 256 := fun r => by unfold Tr; omega
  unfold lastFn stAt ptR
  simp only [rowsOf_enc, colsOf_enc]
  refine congrArg₂ Prod.mk ?_ (congrArg₂ Prod.mk ?_ (congrArg₂ Prod.mk ?_ (congrArg₂ Prod.mk ?_ ?_)))
  · refine (congrArg (fun x => k0_pay109 (F := Ideal) _ _ x _) h102).trans ((pay109_enc _ _ _).trans (encA_congr fun r hr l hl => ?_))
    rw [← Finset.sum_range_add (fun s => DZr q d K V C B e i (r + 256 * (l / 64)) s * K s l), sum_dz q d K V C B e i _ (fun s => K s l) (hTr _) (by omega : 256 * i + 256 ≤ 8192)]
  · refine (congrArg (setRows _ ⟨i, hi⟩) (h104 _)).trans ((setRows_enc _ _ _).trans ?_)
    refine (congrArg encF (acc_block (x := fun s l => ∑ r ∈ range 512, DZr q d K V C B e i r s * Qr q r l) (a := a) ⟨i, hi⟩)).trans (encF_congr fun s hs l hl => ?_)
    congr 1
    by_cases h : s < 256 * (i + 1)
    · exact if_pos h
    · refine (if_neg h).trans ?_
      refine (Finset.sum_eq_zero fun r _ => ?_).symm
      rw [DZ_zero (by have := hTr r; omega), zero_mul]
  · refine (congrArg (setRows _ ⟨i, hi⟩) (h105 _)).trans ((setRows_enc _ _ _).trans ?_)
    refine (congrArg encF (acc_block (x := fun s l => ∑ r ∈ range 512, Wr q K C B i r s * two d r l) (a := b) ⟨i, hi⟩)).trans (encF_congr fun s hs l hl => ?_)
    congr 1
    by_cases h : s < 256 * (i + 1)
    · exact if_pos h
    · refine (if_neg h).trans ?_
      refine (Finset.sum_eq_zero fun r _ => ?_).symm
      rw [W_zero (by have := hTr r; omega), zero_mul]
  · refine (congrArg (fun x => ownBias (F := Ideal) x _ ⟨i, hi⟩) h102).trans ((own_bias_enc _ _ _).trans ?_)
    refine (congrArg encR (sub_block (x := fun h s => ∑ x ∈ range 256, DZr q d K V C B e i (256 * h + x) s) (a := y) ⟨i, hi⟩)).trans (encR_congr fun h hh s hs => ?_)
    congr 1
    by_cases h' : s < 256 * (i + 1)
    · exact if_pos h'
    · refine (if_neg h').trans ?_
      refine (Finset.sum_eq_zero fun r _ => ?_).symm
      exact DZ_zero (by have := hTr (256 * h + r); omega)
  · refine (congrArg (fun x => k0_pay1 (F := Ideal) _ (k0_pay108 _ x)) h102).trans ((congrArg (k0_pay1 _) (pay108_enc _ _)).trans ((pay1_enc _).trans (encA_congr fun r hr l hl => ?_)))
    rw [← Finset.sum_range_add (fun s => DZr q d K V C B e i (r + 256 * (l / 64)) s), sum_dz' q d K V C B e i _ (hTr _) (by omega : 256 * i + 256 ≤ 8192)]

end

end Cert.KernelFoxIdeal.Value

end
-- ==== Proof.Fox.Blocks.lean ====
module

public import proofs.«01_k».proof.Proof.Fox.HostVal
public import proofs.«01_k».proof.Proof.Fox.Trip
public import Idealize.ShloMosaic.Lib.Pipeline.ValueKit

/-!
The blocks of a grid point, over real arguments.
-/

@[expose] public section

set_option maxRecDepth 16384

noncomputable section

namespace Cert.KernelFoxIdeal.Value

open Cert.KernelFoxIdeal Cert.KernelFoxIdeal.Gen Cert.Reals Idealize.ShloMosaic Idealize.ShloMosaic.TcCoe Idealize.SL.Sem
open Cert.ReferenceFoxIdeal.Value (zz dd)

theorem idx : ∀ t : Fin (cfg0 (F := Ideal)).N, win0_0.index t = ![t.val % 32, t.val / 32] ∧ win0_1.index t = ![0, t.val / 32] ∧ win0_2.index t = ![0, 14 + t.val / 32]
    ∧ win0_3.index t = ![t.val % 32, 0] ∧ win0_4.index t = ![t.val / 32, 0, 0] ∧ win0_5.index t = ![0, t.val / 32] ∧ win0_6.index t = ![t.val % 32, 2 + t.val / 32]
    ∧ win0_7.index t = ![t.val % 32, t.val / 32] ∧ win0_8.index t = ![t.val % 32, t.val / 32] ∧ win0_9.index t = ![t.val % 32, t.val / 32]
    ∧ win0_10.index t = ![0, t.val / 32] ∧ win0_11.index t = ![0, t.val / 32] ∧ win0_12.index t = ![t.val / 32, 0, 0] ∧ win0_13.index t = ![t.val % 32, t.val / 32] :=
  (by decide +kernel : ∀ t : Fin grid0.N, _)

theorem coord0 : ∀ t : Fin grid0.N, (grid0.coords t 0).val = t.val / 32 := by decide +kernel

theorem tlt (t : Fin (cfg0 (F := Ideal)).N) : t.val < 128 := t.isLt

variable (t : Fin (cfg0 (F := Ideal)).N)

theorem read0 (X : S8192x512.Idx → EReal) : (((cfg0 (F := Ideal)).win 0).blk t).view.read (Elt Ideal) X
    = fun j : S256x128.Idx => X (ValueIdx.ix2 ⟨256 * (t.val % 32) + (j 0).val, by have := (j 0).isLt; change (j 0).val < 256 at this; have := tlt t; omega⟩ ⟨128 * (t.val / 32) + (j 1).val, by have := (j 1).isLt; change (j 1).val < 128 at this; have := tlt t; omega⟩) := by
  funext j
  have h : win0_0.index t = _ := (idx t).1
  refine congrArg X (funext fun a => Fin.ext ((((cfg0 (F := Ideal)).win 0).rect_emb_val t j a).trans ?_))
  match a with
  | ⟨0, _⟩ => show win0_0.index t 0 * 256 + (j 0).val = 256 * (t.val % 32) + (j 0).val; rw [h]; show (t.val % 32) * 256 + (j 0).val = 256 * (t.val % 32) + (j 0).val; omega
  | ⟨1, _⟩ => show win0_0.index t 1 * 128 + (j 1).val = 128 * (t.val / 32) + (j 1).val; rw [h]; show (t.val / 32) * 128 + (j 1).val = 128 * (t.val / 32) + (j 1).val; omega

theorem read1 (X : S8192x512.Idx → EReal) : (((cfg0 (F := Ideal)).win 1).blk t).view.read (Elt Ideal) X
    = fun j : S8192x128.Idx => X (ValueIdx.ix2 ⟨(j 0).val, by have := (j 0).isLt; change (j 0).val < 8192 at this; have := tlt t; omega⟩ ⟨128 * (t.val / 32) + (j 1).val, by have := (j 1).isLt; change (j 1).val < 128 at this; have := tlt t; omega⟩) := by
  funext j
  have h : win0_1.index t = _ := (idx t).2.1
  refine congrArg X (funext fun a => Fin.ext ((((cfg0 (F := Ideal)).win 1).rect_emb_val t j a).trans ?_))
  match a with
  | ⟨0, _⟩ => show win0_1.index t 0 * 8192 + (j 0).val = (j 0).val; rw [h]; show 0 * 8192 + (j 0).val = (j 0).val; omega
  | ⟨1, _⟩ => show win0_1.index t 1 * 128 + (j 1).val = 128 * (t.val / 32) + (j 1).val; rw [h]; show (t.val / 32) * 128 + (j 1).val = 128 * (t.val / 32) + (j 1).val; omega

theorem read2 (X : S8192x3072.Idx → EReal) : (((cfg0 (F := Ideal)).win 2).blk t).view.read (Elt Ideal) X
    = fun j : S8192x128.Idx => X (ValueIdx.ix2 ⟨(j 0).val, by have := (j 0).isLt; change (j 0).val < 8192 at this; have := tlt t; omega⟩ ⟨1792 + 128 * (t.val / 32) + (j 1).val, by have := (j 1).isLt; change (j 1).val < 128 at this; have := tlt t; omega⟩) := by
  funext j
  have h : win0_2.index t = _ := (idx t).2.2.1
  refine congrArg X (funext fun a => Fin.ext ((((cfg0 (F := Ideal)).win 2).rect_emb_val t j a).trans ?_))
  match a with
  | ⟨0, _⟩ => show win0_2.index t 0 * 8192 + (j 0).val = (j 0).val; rw [h]; show 0 * 8192 + (j 0).val = (j 0).val; omega
  | ⟨1, _⟩ => show win0_2.index t 1 * 128 + (j 1).val = 1792 + 128 * (t.val / 32) + (j 1).val; rw [h]; show (14 + t.val / 32) * 128 + (j 1).val = 1792 + 128 * (t.val / 32) + (j 1).val; omega

theorem read3 (X : S8192x128.Idx → EReal) : (((cfg0 (F := Ideal)).win 3).blk t).view.read (Elt Ideal) X
    = fun j : S256x128.Idx => X (ValueIdx.ix2 ⟨256 * (t.val % 32) + (j 0).val, by have := (j 0).isLt; change (j 0).val < 256 at this; have := tlt t; omega⟩ ⟨(j 1).val, by have := (j 1).isLt; change (j 1).val < 128 at this; have := tlt t; omega⟩) := by
  funext j
  have h : win0_3.index t = _ := (idx t).2.2.2.1
  refine congrArg X (funext fun a => Fin.ext ((((cfg0 (F := Ideal)).win 3).rect_emb_val t j a).trans ?_))
  match a with
  | ⟨0, _⟩ => show win0_3.index t 0 * 256 + (j 0).val = 256 * (t.val % 32) + (j 0).val; rw [h]; show (t.val % 32) * 256 + (j 0).val = 256 * (t.val % 32) + (j 0).val; omega
  | ⟨1, _⟩ => show win0_3.index t 1 * 128 + (j 1).val = (j 1).val; rw [h]; show 0 * 128 + (j 1).val = (j 1).val; omega

theorem read5 (X : S1x512.Idx → EReal) : (((cfg0 (F := Ideal)).win 5).blk t).view.read (Elt Ideal) X
    = fun j : S1x128.Idx => X (ValueIdx.ix2 ⟨(j 0).val, by have := (j 0).isLt; change (j 0).val < 1 at this; have := tlt t; omega⟩ ⟨128 * (t.val / 32) + (j 1).val, by have := (j 1).isLt; change (j 1).val < 128 at this; have := tlt t; omega⟩) := by
  funext j
  have h : win0_5.index t = _ := (idx t).2.2.2.2.2.1
  refine congrArg X (funext fun a => Fin.ext ((((cfg0 (F := Ideal)).win 5).rect_emb_val t j a).trans ?_))
  match a with
  | ⟨0, _⟩ => show win0_5.index t 0 * 1 + (j 0).val = (j 0).val; rw [h]; show 0 * 1 + (j 0).val = (j 0).val; omega
  | ⟨1, _⟩ => show win0_5.index t 1 * 128 + (j 1).val = 128 * (t.val / 32) + (j 1).val; rw [h]; show (t.val / 32) * 128 + (j 1).val = 128 * (t.val / 32) + (j 1).val; omega

theorem read6 (X : S8192x1024.Idx → EReal) : (((cfg0 (F := Ideal)).win 6).blk t).view.read (Elt Ideal) X
    = fun j : S256x128.Idx => X (ValueIdx.ix2 ⟨256 * (t.val % 32) + (j 0).val, by have := (j 0).isLt; change (j 0).val < 256 at this; have := tlt t; omega⟩ ⟨256 + 128 * (t.val / 32) + (j 1).val, by have := (j 1).isLt; change (j 1).val < 128 at this; have := tlt t; omega⟩) := by
  funext j
  have h : win0_6.index t = _ := (idx t).2.2.2.2.2.2.1
  refine congrArg X (funext fun a => Fin.ext ((((cfg0 (F := Ideal)).win 6).rect_emb_val t j a).trans ?_))
  match a with
  | ⟨0, _⟩ => show win0_6.index t 0 * 256 + (j 0).val = 256 * (t.val % 32) + (j 0).val; rw [h]; show (t.val % 32) * 256 + (j 0).val = 256 * (t.val % 32) + (j 0).val; omega
  | ⟨1, _⟩ => show win0_6.index t 1 * 128 + (j 1).val = 256 + 128 * (t.val / 32) + (j 1).val; rw [h]; show (2 + t.val / 32) * 128 + (j 1).val = 256 + 128 * (t.val / 32) + (j 1).val; omega

theorem read7 (X : S8192x512.Idx → EReal) : (((cfg0 (F := Ideal)).win 7).blk t).view.read (Elt Ideal) X
    = fun j : S256x128.Idx => X (ValueIdx.ix2 ⟨256 * (t.val % 32) + (j 0).val, by have := (j 0).isLt; change (j 0).val < 256 at this; have := tlt t; omega⟩ ⟨128 * (t.val / 32) + (j 1).val, by have := (j 1).isLt; change (j 1).val < 128 at this; have := tlt t; omega⟩) := by
  funext j
  have h : win0_7.index t = _ := (idx t).2.2.2.2.2.2.2.1
  refine congrArg X (funext fun a => Fin.ext ((((cfg0 (F := Ideal)).win 7).rect_emb_val t j a).trans ?_))
  match a with
  | ⟨0, _⟩ => show win0_7.index t 0 * 256 + (j 0).val = 256 * (t.val % 32) + (j 0).val; rw [h]; show (t.val % 32) * 256 + (j 0).val = 256 * (t.val % 32) + (j 0).val; omega
  | ⟨1, _⟩ => show win0_7.index t 1 * 128 + (j 1).val = 128 * (t.val / 32) + (j 1).val; rw [h]; show (t.val / 32) * 128 + (j 1).val = 128 * (t.val / 32) + (j 1).val; omega

theorem read8 (X : S8192x512.Idx → EReal) : (((cfg0 (F := Ideal)).win 8).blk t).view.read (Elt Ideal) X
    = fun j : S256x128.Idx => X (ValueIdx.ix2 ⟨256 * (t.val % 32) + (j 0).val, by have := (j 0).isLt; change (j 0).val < 256 at this; have := tlt t; omega⟩ ⟨128 * (t.val / 32) + (j 1).val, by have := (j 1).isLt; change (j 1).val < 128 at this; have := tlt t; omega⟩) := by
  funext j
  have h : win0_8.index t = _ := (idx t).2.2.2.2.2.2.2.2.1
  refine congrArg X (funext fun a => Fin.ext ((((cfg0 (F := Ideal)).win 8).rect_emb_val t j a).trans ?_))
  match a with
  | ⟨0, _⟩ => show win0_8.index t 0 * 256 + (j 0).val = 256 * (t.val % 32) + (j 0).val; rw [h]; show (t.val % 32) * 256 + (j 0).val = 256 * (t.val % 32) + (j 0).val; omega
  | ⟨1, _⟩ => show win0_8.index t 1 * 128 + (j 1).val = 128 * (t.val / 32) + (j 1).val; rw [h]; show (t.val / 32) * 128 + (j 1).val = 128 * (t.val / 32) + (j 1).val; omega

theorem read4 (X : S4x2x8192.Idx → EReal) : (((cfg0 (F := Ideal)).win 4).blk t).view.read (Elt Ideal) X
    = fun j : S1x2x8192.Idx => X (ValueIdx.ix3 ⟨t.val / 32 + (j 0).val, by have := (j 0).isLt; change (j 0).val < 1 at this; have := tlt t; omega⟩ ⟨(j 1).val, (j 1).isLt⟩ ⟨(j 2).val, (j 2).isLt⟩) := by
  funext j
  have h : win0_4.index t = _ := (idx t).2.2.2.2.1
  refine congrArg X (funext fun a => Fin.ext ((((cfg0 (F := Ideal)).win 4).rect_emb_val t j a).trans ?_))
  match a with
  | ⟨0, _⟩ => show win0_4.index t 0 * 1 + (j 0).val = t.val / 32 + (j 0).val; rw [h]; show (t.val / 32) * 1 + (j 0).val = _; omega
  | ⟨1, _⟩ => show win0_4.index t 1 * 2 + (j 1).val = (j 1).val; rw [h]; show 0 * 2 + (j 1).val = (j 1).val; omega
  | ⟨2, _⟩ => show win0_4.index t 2 * 8192 + (j 2).val = (j 2).val; rw [h]; show 0 * 8192 + (j 2).val = (j 2).val; omega

variable (m : (ℓ : Loc nD τ sig) → Buf (Elt Ideal) ℓ) (c : Dev nD) {P Q K C D : ℕ → ℕ → ℝ}
  (hP : m ((c : Thread nD τ).loc main_arg0) = enc2 P) (hQ : m ((c : Thread nD τ).loc main_arg1) = enc2 Q) (hK : m ((c : Thread nD τ).loc main_arg2) = enc2 K) (hC : m ((c : Thread nD τ).loc main_arg3) = enc2 C)
  (hD : m ((c : Thread nD τ).loc main_arg4) = enc2 D)

include hQ in
theorem blk0 : iblk m c 0 t = encA fun a l => Q (256 * (t.val % 32) + a) (128 * (t.val / 32) + l) := by
  unfold iblk
  exact (read0 t (V m c main_arg1)).trans (funext fun j => (congrFun (V_main_arg1 m c) _).trans (congrFun hQ _))

include hK in
theorem blk1 : iblk m c 1 t = encF fun s l => K s (128 * (t.val / 32) + l) := by
  unfold iblk
  exact (read1 t (V m c main_arg2)).trans (funext fun j => (congrFun (V_main_arg2 m c) _).trans (congrFun hK _))

include hP in
theorem blk2 : iblk m c 2 t = encF fun s l => P s (1792 + 128 * (t.val / 32) + l) := by
  unfold iblk
  refine (read2 t (V m c main_v56)).trans (funext fun j => ?_)
  have := (j 1).isLt; change (j 1).val < 128 at this; have := tlt t
  exact (V_proj m c _ (by show 1792 + 128 * (t.val / 32) + (j 1).val < 2304; omega)).trans (congrFun hP _)

include hC in
theorem blk3 : iblk m c 3 t = encA fun a l => if l < 8 then C (256 * (t.val % 32) + a) l else 0 := by
  unfold iblk
  exact (read3 t (V m c main_v44)).trans (funext fun j => congrFun (cf_enc m c hC) _)

include hC in
theorem blk4 : iblk m c 4 t = encR fun h s => C s (2 * (t.val / 32) + h) := by
  unfold iblk
  refine (read4 t (V m c main_v59)).trans (funext fun j => (congrFun (rows_enc m c hC) _).trans ?_)
  have := (j 0).isLt; change (j 0).val < 1 at this
  exact congrArg (fun n => ((C (j 2).val (2 * n + (j 1).val) : ℝ) : EReal)) (by omega : t.val / 32 + (j 0).val = t.val / 32)

include hK in
theorem blk5 (j : S1x128.Idx) : (0 : EReal) ≤ (iblk m c 5 t : S1x128.Idx → EReal) j := by
  unfold iblk
  exact le_of_le_of_eq (kmax_nonneg m c hK _) (congrFun (read5 t (V m c main_v51)) j).symm

include hD in
theorem blk6 : iblk m c 6 t = encA fun a l => D (256 * (t.val % 32) + a) (256 + 128 * (t.val / 32) + l) := by
  unfold iblk
  exact (read6 t (V m c main_arg4)).trans (funext fun j => (congrFun (V_main_arg4 m c) _).trans (congrFun hD _))

include hP hQ hK hC in
theorem blk7 : iblk m c 7 t = encA fun a l => out P Q K C (256 * (t.val % 32) + a) (128 * (t.val / 32) + l) := by
  unfold iblk
  exact (read7 t (V m c main_v36)).trans (funext fun j => congrFun (out_enc m c hP hQ hK hC) _)

include hQ hK hC in
theorem blk8 : iblk m c 8 t = encA fun a l => lse Q K C ((128 * (t.val / 32) + l) / 64) (256 * (t.val % 32) + a) := by
  unfold iblk
  exact (read8 t (V m c main_v41)).trans (funext fun j => congrFun (lse_enc m c hQ hK hC) _)

end Cert.KernelFoxIdeal.Value

end
-- ==== Proof.Fox.Live.lean ====
module

public import proofs.«01_k».proof.Proof.Fox.Pay

/-!
The search for the first key block with its threshold named −∞: every block's bound is above it, so the search ends at block 0.
-/

@[expose] public section

set_option maxRecDepth 16384

noncomputable section

namespace Cert.KernelFoxIdeal.Value

open Cert.KernelFoxIdeal Cert.KernelFoxIdeal.Gen Cert.Reals Idealize.ShloMosaic Idealize.ShloMosaic.TcCoe Idealize.SL.Sem

theorem bound_above (m0 m1 : FVec Ideal S256x1 .f32) (c0 c1 : Vec Ideal S1x1x256 .f32) (h0 : ∀ j, m0 j ≠ ⊥) (hc : ∀ j, c0 j ≠ ⊤) : (⊥ : EReal) < k0_pay2 (F := Ideal) m0 m1 c0 c1 := by
  unfold k0_pay2
  pointwise
  have hz : Ideal.ofBits .f32 0x7F800000#32 = ⊤ := by simp [Ideal.ofBits, Ideal.ieee]
  have hmin : Finset.fold min (Ideal.ofBits .f32 0x7F800000#32) (fun x : Fin 256 => c0 (ix3 0 0 x)) Finset.univ < ⊤ :=
    Finset.fold_min_lt (s := _) ⊤ |>.2 (Or.inr ⟨0, Finset.mem_univ _, lt_top_iff_ne_top.2 (hc _)⟩)
  have hpos : (⊥ : EReal) < m0 (ix2 0 0) - Finset.fold min (Ideal.ofBits .f32 0x7F800000#32) (fun x : Fin 256 => c0 (ix3 0 0 x)) Finset.univ := by
    rw [bot_lt_iff_ne_bot, sub_eq_add_neg]
    intro h
    rcases EReal.add_eq_bot_iff.1 h with h | h
    · exact h0 _ h
    · exact hmin.ne (EReal.neg_eq_bot_iff.1 h)
  refine lt_of_lt_of_le hpos (le_trans ?_ (le_max_left _ _))
  exact Finset.le_fold_max (s := _) _ |>.2 (Or.inr ⟨(0, 0), Finset.mem_univ _, le_rfl⟩)

/-- The block before the search's is there. -/
theorem there (n : ℕ) (h : n < 32) : Scalar.cmpi .sge (stopW (n + 1)) 0#32 = 1#1 := by
  interval_cases n <;> decide

theorem live_all (x4 : Vec Ideal S1x2x8192 .f32) (p : Point Ideal) (h0 : ∀ j, p.m0 j ≠ ⊥) (hc : ∀ j, x4 j ≠ ⊤) (n : ℕ) (hn : n < 32) : liveW x4 p (n + 1) = 1#1 := by
  have h := bound_above p.m0 p.m1 (colsOf x4 0 (Fin.ofNat 32 (n + 1 - 1))) (colsOf x4 1 (Fin.ofNat 32 (n + 1 - 1))) h0 fun j => hc _
  have e : Scalar.cmpf (F := Ideal) (φ := .f32) .ogt (k0_pay2 (F := Ideal) p.m0 p.m1 (colsOf x4 0 (Fin.ofNat 32 (n + 1 - 1))) (colsOf x4 1 (Fin.ofNat 32 (n + 1 - 1)))) (⊥ : EReal) = 1#1 := by
    show BitVec.ofBool (decide _) = 1#1
    rw [decide_eq_true h]; rfl
  unfold liveW
  rw [there n hn]
  refine (congrArg (fun v : EReal => Scalar.andi 1#1 (Scalar.cmpf (F := Ideal) (φ := .f32) .ogt (k0_pay2 (F := Ideal) p.m0 p.m1 (colsOf x4 0 (Fin.ofNat 32 (n + 1 - 1))) (colsOf x4 1 (Fin.ofNat 32 (n + 1 - 1)))) v))
    (IdealRules.named_const.ideal_named_scalar (φ := .f32) κ "no_skip" 0xC2DC0000#32 ⊥ rfl)).trans ?_
  exact (congrArg (Scalar.andi 1#1) e).trans rfl

/-- The search ends at block 0. -/
theorem first_zero (x4 : Vec Ideal S1x2x8192 .f32) (p : Point Ideal) (h0 : ∀ j, p.m0 j ≠ ⊥) (hc : ∀ j, x4 j ≠ ⊤) : ∀ n ≤ 32, firstOf x4 p n = 0
  | 0, _ => rfl
  | n + 1, h => by
    unfold firstOf
    rw [if_pos (live_all x4 p h0 hc n (by omega))]
    exact first_zero x4 p h0 hc n (by omega)

theorem coef : Ideal.ofBits .f32 0x3F828F5C#32 = ((8556380 / 8388608 : ℝ) : EReal) := by
  simp [Ideal.ofBits, Ideal.ieee, -EReal.coe_mul]; norm_num

/-- A row's score bound is not −∞ when the largest key norm is not negative. -/
theorem bound_row (b : ℕ → ℝ) (q : ℕ → ℕ → ℝ) (x5 : Vec Ideal S1x128 .f32) (hx : ∀ j, 0 ≤ x5 j) (j : S256x1.Idx) :
    k0_pay78 (F := Ideal) (encU b) (k0_pay74 x5) (k0_pay75 (k0_pay61 (encA q))) (k0_pay76 k0_pay59) k0_pay77 j ≠ ⊥ := by
  idx_vars j
  unfold k0_pay78 k0_pay74 k0_pay75 k0_pay61 k0_pay76 k0_pay77 k0_pay59
  pointwise
  have e : (∑ x : Fin 128, Scalar.select (IntOp.cmpi CmpIPredicate.slt (BitVec.ofNat 32 x.val) 64#32)
      (encA q (ix2 j0 x) * Ideal.ofBits FTy.f32 0x3E000000#32 * (encA q (ix2 j0 x) * Ideal.ofBits FTy.f32 0x3E000000#32)) 0)
      = ((∑ x ∈ Finset.range 128, (if x < 64 then q j0.val x * (1 / 8) * (q j0.val x * (1 / 8)) else 0) : ℝ) : EReal) := by
    simp only [cmpi_slt_nat, select_decide, encA_at, eighth, ← EReal.coe_mul, ← EReal.coe_zero, coe_ite]
    exact sum_coe 128 fun x => if x < 64 then q j0.val x * (1 / 8) * (q j0.val x * (1 / 8)) else 0
  have hs : 0 ≤ (∑ x ∈ Finset.range 128, (if x < 64 then q j0.val x * (1 / 8) * (q j0.val x * (1 / 8)) else 0)) :=
    Finset.sum_nonneg fun x _ => by split; exacts [mul_self_nonneg _, le_rfl]
  refine ne_of_gt (lt_of_lt_of_le (EReal.bot_lt_coe (b j0.val)) ?_)
  refine le_trans (zero_add _).symm.le (add_le_add ?_ le_rfl)
  refine mul_nonneg ?_ (hx _)
  refine mul_nonneg (by rw [coef]; exact_mod_cast (by norm_num : (0:ℝ) ≤ 8556380 / 8388608)) ?_
  rw [e, Ideal.sqrt_coe]
  rw [if_neg (not_lt.2 hs)]
  exact_mod_cast Real.sqrt_nonneg _

end Cert.KernelFoxIdeal.Value

end
-- ==== Proof.Fox.Fold.lean ====
module

public import proofs.«01_k».proof.Proof.Fox.Blocks
public import proofs.«01_k».proof.Proof.Fox.Live

/-!
A whole group of grid points, over real arguments: what each point stores for its queries, and what the gradients of keys, values and
biases hold after it.
-/

@[expose] public section

set_option maxRecDepth 16384

noncomputable section

namespace Cert.KernelFoxIdeal.Value

open Cert.KernelFoxIdeal Cert.KernelFoxIdeal.Gen Cert.Reals Idealize.ShloMosaic Idealize.ShloMosaic.TcCoe Idealize.SL.Sem
open Cert.ReferenceFoxIdeal.Value (zz dd zero_word)
open Fox (pr ds top tot)
open Finset (range)

/-- Of 128 lanes those of one head count. -/
theorem sum_half (h : ℕ) (hh : h < 2) (f : ℕ → ℝ) : (∑ l ∈ range 128, if l / 64 = h then f l else 0) = ∑ d ∈ range 64, f (64 * h + d) := by
  rw [show (128 : ℕ) = 64 + 64 from rfl, Finset.sum_range_add]
  have e0 : ∀ l ∈ range 64, (if l / 64 = h then f l else 0) = if h = 0 then f l else 0 := fun l hl => by
    have := Finset.mem_range.1 hl; exact if_congr (by omega) rfl rfl
  have e1 : ∀ l ∈ range 64, (if (64 + l) / 64 = h then f (64 + l) else 0) = if h = 1 then f (64 + l) else 0 := fun l hl => by
    have := Finset.mem_range.1 hl; exact if_congr (by omega) rfl rfl
  rw [Finset.sum_congr rfl e0, Finset.sum_congr rfl e1]
  rcases (by omega : h = 0 ∨ h = 1) with rfl | rfl <;> simp

/-- Of 512 rows those of one head count. -/
theorem sum_rows (h : ℕ) (hh : h < 2) (f : ℕ → ℝ) : (∑ r ∈ range 512, if h = r / 256 then f r else 0) = ∑ a ∈ range 256, f (256 * h + a) := by
  rw [show (512 : ℕ) = 256 + 256 from rfl, Finset.sum_range_add]
  have e0 : ∀ l ∈ range 256, (if h = l / 256 then f l else 0) = if h = 0 then f l else 0 := fun l hl => by
    have := Finset.mem_range.1 hl; exact if_congr (by omega) rfl rfl
  have e1 : ∀ l ∈ range 256, (if h = (256 + l) / 256 then f (256 + l) else 0) = if h = 1 then f (256 + l) else 0 := fun l hl => by
    have := Finset.mem_range.1 hl; exact if_congr (by omega) rfl rfl
  rw [Finset.sum_congr rfl e0, Finset.sum_congr rfl e1]
  rcases (by omega : h = 0 ∨ h = 1) with rfl | rfl <;> simp

section
variable (P Q K C D : ℕ → ℕ → ℝ) (p i : ℕ)

/-- The blocks of query block `i` of head pair `p`. -/
def qB (a l : ℕ) : ℝ := Q (256 * i + a) (128 * p + l)
def kB (s l : ℕ) : ℝ := K s (128 * p + l)
def vB (s l : ℕ) : ℝ := P s (1792 + 128 * p + l)
def dB (a l : ℕ) : ℝ := D (256 * i + a) (256 + 128 * p + l)
def oB (a l : ℕ) : ℝ := out P Q K C (256 * i + a) (128 * p + l)
def lB (a l : ℕ) : ℝ := lse Q K C ((128 * p + l) / 64) (256 * i + a)
def fB (a l : ℕ) : ℝ := if l < 8 then C (256 * i + a) l else 0
def cB (h s : ℕ) : ℝ := C s (2 * p + h)
/-- The bias of a row, with the log of the row's sum taken off, and the row's sum of output times gradient. -/
def bB (r : ℕ) : ℝ := C (256 * i + r % 256) (2 * p + r / 256) - lse Q K C (2 * p + r / 256) (256 * i + r % 256)
def eB (r : ℕ) : ℝ := ∑ l ∈ range 128, two (fun a l => dB D p i a l * oB P Q K C p i a l) r l

theorem Zr_eq {r : ℕ} (hr : r < 512) (s : ℕ) : Zr (qB Q p i) (kB K p) (cB C p) (bB Q K C p i) r s
    = zz Q K C (2 * p + r / 256) (Tr i r) s - lse Q K C (2 * p + r / 256) (Tr i r) := by
  unfold Zr Qr two kB qB zz bB cB
  simp only [ite_mul, zero_mul]
  rw [sum_half _ (by omega), Finset.sum_mul]
  rw [show (∑ d ∈ range 64, Q (256 * i + r % 256) (128 * p + (64 * (r / 256) + d)) * (1 / 8) * K s (128 * p + (64 * (r / 256) + d)))
      = ∑ d ∈ range 64, Q (Tr i r) (64 * (2 * p + r / 256) + d) * K s (64 * (2 * p + r / 256) + d) * (1 / 8) from Finset.sum_congr rfl fun d _ => by
    rw [show 128 * p + (64 * (r / 256) + d) = 64 * (2 * p + r / 256) + d by ring]; unfold Tr; ring]
  unfold Tr
  ring

theorem Dr_eq {r : ℕ} (hr : r < 512) (s : ℕ) : Dr (dB D p i) (vB P p) r s = dd P D (2 * p + r / 256) (Tr i r) s := by
  unfold Dr two vB dB dd
  simp only [ite_mul, zero_mul]
  rw [sum_half _ (by omega)]
  refine Finset.sum_congr rfl fun d _ => ?_
  rw [show 256 + 128 * p + (64 * (r / 256) + d) = 256 + (64 * (2 * p + r / 256) + d) by ring, show 1792 + 128 * p + (64 * (r / 256) + d) = 1792 + (64 * (2 * p + r / 256) + d) by ring]
  rfl

theorem Wr_eq (hi : i < 32) {r : ℕ} (hr : r < 512) (s : ℕ) : Wr (qB Q p i) (kB K p) (cB C p) (bB Q K C p i) i r s = pr (zz Q K C (2 * p + r / 256) (Tr i r)) (Tr i r) s := by
  rw [Fox.pr_eq _ (by unfold Tr; omega)]
  unfold Wr
  rw [Zr_eq Q K C p i hr]
  rfl

theorem eB_eq {r : ℕ} (hr : r < 512) : eB P Q K C D p i r = ∑ s ∈ range 8192, pr (zz Q K C (2 * p + r / 256) (Tr i r)) (Tr i r) s * dd P D (2 * p + r / 256) (Tr i r) s := by
  unfold eB two dB oB out dd
  rw [sum_half _ (by omega)]
  simp only [Finset.mul_sum]
  rw [Finset.sum_comm]
  refine Finset.sum_congr rfl fun s _ => Finset.sum_congr rfl fun d hd => ?_
  have hd := Finset.mem_range.1 hd
  rw [show 256 + 128 * p + (64 * (r / 256) + d) = 256 + (64 * (2 * p + r / 256) + d) by ring, show (128 * p + (64 * (r / 256) + d)) / 64 = 2 * p + r / 256 by omega,
    show 1792 + (128 * p + (64 * (r / 256) + d)) = 1792 + (64 * (2 * p + r / 256) + d) by ring]
  unfold Tr
  ring

theorem DZr_eq (hi : i < 32) {r : ℕ} (hr : r < 512) (s : ℕ) : DZr (qB Q p i) (dB D p i) (kB K p) (vB P p) (cB C p) (bB Q K C p i) (eB P Q K C D p i) i r s
    = ds (zz Q K C (2 * p + r / 256) (Tr i r)) (dd P D (2 * p + r / 256) (Tr i r)) (Tr i r) s := by
  unfold DZr ds
  rw [Wr_eq Q K C p i hi hr, Dr_eq P D p i hr, eB_eq P Q K C D p i hr]

/-- The gradient of the scores, by lane and by head, and the terms of the gradients of keys, values and biases. -/
def dsL (c t s : ℕ) : ℝ := ds (zz Q K C (c / 64) t) (dd P D (c / 64) t) t s
def dsH (h t s : ℕ) : ℝ := ds (zz Q K C h t) (dd P D h t) t s

def dqOut (t c : ℕ) : ℝ := ∑ s ∈ range 8192, dsL P Q K C D c t s * (1 / 8) * K s c
def sumOut (t c : ℕ) : ℝ := ∑ s ∈ range 8192, dsL P Q K C D c t s
def kTerm (s c t : ℕ) : ℝ := dsL P Q K C D c t s * (1 / 8) * Q t c
def vTerm (s c t : ℕ) : ℝ := D t (256 + c) * pr (zz Q K C (c / 64) t) t s
def rTerm (h s t : ℕ) : ℝ := -dsH P Q K C D h t s

theorem key_step (hi : i < 32) (s l : ℕ) (hl : l < 128) : (∑ r ∈ range 512, DZr (qB Q p i) (dB D p i) (kB K p) (vB P p) (cB C p) (bB Q K C p i) (eB P Q K C D p i) i r s * Qr (qB Q p i) r l)
    = ∑ a ∈ range 256, kTerm P Q K C D s (128 * p + l) (256 * i + a) := by
  unfold Qr two
  simp only [mul_ite, mul_zero]
  rw [sum_rows _ (by omega)]
  refine Finset.sum_congr rfl fun a ha => ?_
  have ha := Finset.mem_range.1 ha
  rw [DZr_eq P Q K C D p i hi (by omega)]
  unfold Tr qB kTerm dsL
  rw [show (256 * (l / 64) + a) / 256 = l / 64 by omega, show (256 * (l / 64) + a) % 256 = a by omega, show (128 * p + l) / 64 = 2 * p + l / 64 by omega]
  ring

theorem value_step (hi : i < 32) (s l : ℕ) (hl : l < 128) : (∑ r ∈ range 512, Wr (qB Q p i) (kB K p) (cB C p) (bB Q K C p i) i r s * two (dB D p i) r l)
    = ∑ a ∈ range 256, vTerm Q K C D s (128 * p + l) (256 * i + a) := by
  unfold two
  simp only [mul_ite, mul_zero]
  rw [sum_rows _ (by omega)]
  refine Finset.sum_congr rfl fun a ha => ?_
  have ha := Finset.mem_range.1 ha
  rw [Wr_eq Q K C p i hi (by omega)]
  unfold Tr dB vTerm
  rw [show (256 * (l / 64) + a) / 256 = l / 64 by omega, show (256 * (l / 64) + a) % 256 = a by omega, show (128 * p + l) / 64 = 2 * p + l / 64 by omega, add_assoc 256]
  ring

theorem bias_step (hi : i < 32) (h s : ℕ) (hh : h < 2) : (∑ x ∈ range 256, DZr (qB Q p i) (dB D p i) (kB K p) (vB P p) (cB C p) (bB Q K C p i) (eB P Q K C D p i) i (256 * h + x) s)
    = ∑ x ∈ range 256, dsH P Q K C D (2 * p + h) (256 * i + x) s := by
  refine Finset.sum_congr rfl fun a ha => ?_
  have ha := Finset.mem_range.1 ha
  rw [DZr_eq P Q K C D p i hi (by omega)]
  unfold Tr dsH
  rw [show (256 * h + a) / 256 = h by omega, show (256 * h + a) % 256 = a by omega]

theorem lane_step (hi : i < 32) (a l s : ℕ) (ha : a < 256) (hl : l < 128) : DZr (qB Q p i) (dB D p i) (kB K p) (vB P p) (cB C p) (bB Q K C p i) (eB P Q K C D p i) i (a + 256 * (l / 64)) s
    = dsL P Q K C D (128 * p + l) (256 * i + a) s := by
  rw [DZr_eq P Q K C D p i hi (by omega)]
  unfold Tr dsL
  rw [show (a + 256 * (l / 64)) / 256 = l / 64 by omega, show (a + 256 * (l / 64)) % 256 = a by omega, show (128 * p + l) / 64 = 2 * p + l / 64 by omega]

theorem query_step (hi : i < 32) (a l : ℕ) (ha : a < 256) (hl : l < 128) : (∑ s ∈ range 8192, DZr (qB Q p i) (dB D p i) (kB K p) (vB P p) (cB C p) (bB Q K C p i) (eB P Q K C D p i) i (a + 256 * (l / 64)) s * kB K p s l) * (1 / 8)
    = dqOut P Q K C D (256 * i + a) (128 * p + l) := by
  unfold dqOut
  rw [Finset.sum_mul]
  refine Finset.sum_congr rfl fun s _ => ?_
  rw [lane_step P Q K C D p i hi a l s ha hl]
  unfold kB
  ring

theorem sum_step (hi : i < 32) (a l : ℕ) (ha : a < 256) (hl : l < 128) : (∑ s ∈ range 8192, DZr (qB Q p i) (dB D p i) (kB K p) (vB P p) (cB C p) (bB Q K C p i) (eB P Q K C D p i) i (a + 256 * (l / 64)) s)
    = sumOut P Q K C D (256 * i + a) (128 * p + l) :=
  Finset.sum_congr rfl fun s _ => lane_step P Q K C D p i hi a l s ha hl

end

/-! ### The points of a group -/

theorem zeros_V : k0_pay87 (F := Ideal) = encV fun _ => 0 := by
  funext j; exact zero_word
theorem zeros_Q : k0_pay86 (F := Ideal) = encQ fun _ _ => 0 := by
  funext j; exact zero_word
theorem zeros_F : k0_pay56 (F := Ideal) = encF fun _ _ => 0 := by
  funext j; exact zero_word
theorem zeros_F' : k0_pay57 (F := Ideal) = encF fun _ _ => 0 := by
  funext j; exact zero_word
theorem zeros_R : k0_pay58 (F := Ideal) = encR fun _ _ => 0 := by
  funext j; exact zero_word

/-- Nothing is carried into a point's loop. -/
theorem start_state (q d K V C : ℕ → ℕ → ℝ) (B e : ℕ → ℝ) (i : ℕ) (a b y : ℕ → ℕ → ℝ) : start0 (F := Ideal) (encF a) (encF b) (encR y) = stAt q d K V C B e i a b y 0 := by
  unfold stAt
  show ((k0_pay86 (F := Ideal), k0_pay87 (F := Ideal)), encF a, encF b, encR y) = _
  rw [zeros_V, zeros_Q]
  simp only [Nat.mul_zero, Finset.range_zero, Finset.sum_empty, Nat.not_lt_zero, if_false, add_zero, sub_zero]

/-- The point of a grid step, on blocks of reals. -/
theorem point_at (P Q K C D : ℕ → ℕ → ℝ) (p i : ℕ) (hp : p < 4) (x5 : Vec Ideal S1x128 .f32) :
    pointOf (F := Ideal) (BitVec.ofNat 32 p) (encA (qB Q p i)) (encA (fB C i)) x5 (encA (dB D p i)) (encA (oB P Q K C p i)) (encA (lB Q K C p i))
      = ptR (qB Q p i) (dB D p i) (bB Q K C p i) (eB P Q K C D p i)
        (k0_pay78 (encU (bB Q K C p i)) (k0_pay74 x5) (k0_pay75 (k0_pay61 (encA (qB Q p i)))) (k0_pay76 k0_pay59) k0_pay77)
        (k0_pay79 k0_pay60 (k0_pay61 (encA (qB Q p i))) (encU fun a => bB Q K C p i (256 + a)) (k0_pay74 x5)) := by
  have h0 : k0_pay72 (F := Ideal) (BitVec.ofNat 32 p) (encA (lB Q K C p i)) (encA (fB C i)) = encU (bB Q K C p i) :=
    (bias0_enc p hp _ _).trans (encU_congr fun a ha => by
      unfold fB lB bB
      rw [if_pos (by omega), show a % 256 = a by omega, show a / 256 = 0 by omega, show (128 * p + 0) / 64 = 2 * p by omega, Nat.add_zero])
  have h1 : k0_pay73 (F := Ideal) (BitVec.ofNat 32 p) (encA (lB Q K C p i)) (encA (fB C i)) = encU fun a => bB Q K C p i (256 + a) :=
    (bias1_enc p hp _ _).trans (encU_congr fun a ha => by
      unfold fB lB bB
      rw [if_pos (by omega), show (256 + a) % 256 = a by omega, show (256 + a) / 256 = 1 by omega, show (128 * p + 64) / 64 = 2 * p + 1 by omega])
  unfold pointOf ptR
  rw [h0, h1, q2_enc, do2_enc, delta_enc]
  rfl

/-- The body on blocks of reals. -/
theorem loops_enc (P Q K C D : ℕ → ℕ → ℝ) (p i : ℕ) (hp : p < 4) (hi : i < 32) (x5 : Vec Ideal S1x128 .f32) (hx : ∀ j, (0 : EReal) ≤ x5 j) (a b y : ℕ → ℕ → ℝ) (pt : Point Ideal)
    (hpt : pt = pointOf (F := Ideal) (BitVec.ofNat 32 p) (encA (qB Q p i)) (encA (fB C i)) x5 (encA (dB D p i)) (encA (oB P Q K C p i)) (encA (lB Q K C p i))) :
    lastFn (F := Ideal) pt (encF (kB K p)) (encF (vB P p)) (encR (cB C p)) ⟨i, hi⟩
      (chunksFn pt (encF (kB K p)) (encF (vB P p)) (encR (cB C p)) (firstOf (encR (cB C p)) pt i) (start0 (encF a) (encF b) (encR y)) (i - firstOf (encR (cB C p)) pt i))
      = (encA fun x l => dqOut P Q K C D (256 * i + x) (128 * p + l),
        encF fun s l => a s l + ∑ x ∈ range 256, kTerm P Q K C D s (128 * p + l) (256 * i + x),
        encF fun s l => b s l + ∑ x ∈ range 256, vTerm Q K C D s (128 * p + l) (256 * i + x),
        encR fun h s => y h s + ∑ x ∈ range 256, rTerm P Q K C D (2 * p + h) s (256 * i + x),
        encA fun x l => sumOut P Q K C D (256 * i + x) (128 * p + l)) := by
  have e := hpt.trans (point_at P Q K C D p i hp x5)
  have hf : firstOf (encR (cB C p)) pt i = 0 := first_zero _ _ (fun j => by
    rw [e]; exact bound_row _ _ x5 hx j) (fun j => EReal.coe_ne_top _) i hi.le
  rw [hf, Nat.sub_zero, e, start_state (qB Q p i) (dB D p i) (kB K p) (vB P p) (cB C p) (bB Q K C p i) (eB P Q K C D p i) i a b y, chunks_enc _ _ _ _ _ _ _ _ _ _ a b y hi _ le_rfl, last_enc _ _ _ _ _ _ _ _ _ _ a b y hi]
  rw [encA_congr fun x hx l hl => query_step P Q K C D p i hi x l hx hl, encA_congr fun x hx l hl => sum_step P Q K C D p i hi x l hx hl]
  rw [encF_congr fun s _ l hl => congrArg (a s l + ·) (key_step P Q K C D p i hi s l hl)]
  rw [encF_congr fun s _ l hl => congrArg (b s l + ·) (value_step Q K C D p i hi s l hl)]
  rw [encR_congr fun h hh s _ => (congrArg (y h s - ·) (bias_step P Q K C D p i hi h s hh)).trans
    ((sub_eq_add_neg _ _).trans (congrArg (y h s + ·) (Finset.sum_neg_distrib (f := fun x => dsH P Q K C D (2 * p + h) (256 * i + x) s)).symm))]
  rfl

end Cert.KernelFoxIdeal.Value

end
-- ==== Proof.Fox.Outs.lean ====
module

public import proofs.«01_k».proof.Proof.Fox.Fold

/-!
What every grid point leaves, and the five arrays at the end of the launch, over real arguments.
-/

@[expose] public section

set_option maxRecDepth 16384

noncomputable section

namespace Cert.KernelFoxIdeal.Value

open Cert.KernelFoxIdeal Cert.KernelFoxIdeal.Gen Cert.Reals Idealize.ShloMosaic Idealize.ShloMosaic.TcCoe Idealize.SL.Sem
open Finset (range)

variable (m : (ℓ : Loc nD τ sig) → Buf (Elt Ideal) ℓ) (c : Dev nD) {P Q K C D : ℕ → ℕ → ℝ}
  (hP : m ((c : Thread nD τ).loc main_arg0) = enc2 P) (hQ : m ((c : Thread nD τ).loc main_arg1) = enc2 Q) (hK : m ((c : Thread nD τ).loc main_arg2) = enc2 K) (hC : m ((c : Thread nD τ).loc main_arg3) = enc2 C)
  (hD : m ((c : Thread nD τ).loc main_arg4) = enc2 D)

include hP hQ hK hC hD in
/-- One point, from what the accumulated outputs held. -/
theorem body_enc (t : Fin (cfg0 (F := Ideal)).N) (a b y : ℕ → ℕ → ℝ) (y12 y13 : Vec Ideal S8192x128 .f32) (y14 : Vec Ideal S1x2x8192 .f32)
    (h12 : enter (grid0.coords t) (k0_pay56 (F := Ideal)) y12 = encF a) (h13 : enter (grid0.coords t) (k0_pay57 (F := Ideal)) y13 = encF b) (h14 : enter (grid0.coords t) (k0_pay58 (F := Ideal)) y14 = encR y) :
    bodyFn (grid0.coords t) (iblk m c 0 t) (iblk m c 1 t) (iblk m c 2 t) (iblk m c 3 t) (iblk m c 4 t) (iblk m c 5 t) (iblk m c 6 t) (iblk m c 7 t) (iblk m c 8 t) y12 y13 y14
      = (encA fun x l => dqOut P Q K C D (256 * (t.val % 32) + x) (128 * (t.val / 32) + l),
        encF fun s l => a s l + ∑ x ∈ range 256, kTerm P Q K C D s (128 * (t.val / 32) + l) (256 * (t.val % 32) + x),
        encF fun s l => b s l + ∑ x ∈ range 256, vTerm Q K C D s (128 * (t.val / 32) + l) (256 * (t.val % 32) + x),
        encR fun h s => y h s + ∑ x ∈ range 256, rTerm P Q K C D (2 * (t.val / 32) + h) s (256 * (t.val % 32) + x),
        encA fun x l => sumOut P Q K C D (256 * (t.val % 32) + x) (128 * (t.val / 32) + l)) := by
  have hi : t.val % 32 < 32 := Nat.mod_lt _ (by norm_num)
  have hp : t.val / 32 < 4 := by have := tlt t; omega
  unfold bodyFn before ptOf
  rw [h12, h13, h14, blk0 t m c hQ, blk1 t m c hK, blk2 t m c hP, blk3 t m c hC, blk4 t m c hC, blk6 t m c hD, blk7 t m c hP hQ hK hC, blk8 t m c hQ hK hC,
    show ownBlk (grid0.coords t) = ⟨t.val % 32, hi⟩ from Fin.ext (coord1 (F := Ideal) t), coord0 t]
  unfold firstBlk
  rw [coord1 (F := Ideal) t]
  exact loops_enc P Q K C D (t.val / 32) (t.val % 32) hp hi (iblk m c 5 t) (blk5 t m c hK) a b y _ rfl

/-- What the points of a group before point `n` have added. -/
def kAcc (P Q K C D : ℕ → ℕ → ℝ) (p n s l : ℕ) : ℝ := ∑ x ∈ range (256 * n), kTerm P Q K C D s (128 * p + l) x
def vAcc (Q K C D : ℕ → ℕ → ℝ) (p n s l : ℕ) : ℝ := ∑ x ∈ range (256 * n), vTerm Q K C D s (128 * p + l) x
def rAcc (P Q K C D : ℕ → ℕ → ℝ) (p n h s : ℕ) : ℝ := ∑ x ∈ range (256 * n), rTerm P Q K C D (2 * p + h) s x

theorem acc_next (f : ℕ → ℝ) (n : ℕ) : (∑ x ∈ range (256 * n), f x) + ∑ x ∈ range 256, f (256 * n + x) = ∑ x ∈ range (256 * (n + 1)), f x := by
  rw [Nat.mul_succ, Finset.sum_range_add]

theorem acc_zero {n : ℕ} (h : n = 0) (f : ℕ → ℝ) : 0 = ∑ x ∈ range (256 * n), f x := by
  subst h; exact (Finset.sum_range_zero _).symm

/-- What a point leaves. -/
def outVal (P Q K C D : ℕ → ℕ → ℝ) (p i : ℕ) : Vec Ideal S256x128 .f32 × Vec Ideal S8192x128 .f32 × Vec Ideal S8192x128 .f32 × Vec Ideal S1x2x8192 .f32 × Vec Ideal S256x128 .f32 :=
  (encA fun x l => dqOut P Q K C D (256 * i + x) (128 * p + l),
    encF (kAcc P Q K C D p (i + 1)), encF (vAcc Q K C D p (i + 1)), encR (rAcc P Q K C D p (i + 1)),
    encA fun x l => sumOut P Q K C D (256 * i + x) (128 * p + l))

include hP hQ hK hC hD in
theorem point_enc (t : Fin (cfg0 (F := Ideal)).N) (y12 y13 : Vec Ideal S8192x128 .f32) (y14 : Vec Ideal S1x2x8192 .f32)
    (h12 : enter (grid0.coords t) (k0_pay56 (F := Ideal)) y12 = encF (kAcc P Q K C D (t.val / 32) (t.val % 32))) (h13 : enter (grid0.coords t) (k0_pay57 (F := Ideal)) y13 = encF (vAcc Q K C D (t.val / 32) (t.val % 32)))
    (h14 : enter (grid0.coords t) (k0_pay58 (F := Ideal)) y14 = encR (rAcc P Q K C D (t.val / 32) (t.val % 32))) :
    bodyFn (grid0.coords t) (iblk m c 0 t) (iblk m c 1 t) (iblk m c 2 t) (iblk m c 3 t) (iblk m c 4 t) (iblk m c 5 t) (iblk m c 6 t) (iblk m c 7 t) (iblk m c 8 t) y12 y13 y14
      = outVal P Q K C D (t.val / 32) (t.val % 32) := by
  refine (body_enc m c hP hQ hK hC hD t _ _ _ y12 y13 y14 h12 h13 h14).trans ?_
  unfold outVal
  rw [encF_congr (f := fun s l => kAcc P Q K C D (t.val / 32) (t.val % 32) s l + _) (g := kAcc P Q K C D (t.val / 32) (t.val % 32 + 1)) fun s _ l _ => acc_next (kTerm P Q K C D s (128 * (t.val / 32) + l)) (t.val % 32),
    encF_congr (f := fun s l => vAcc Q K C D (t.val / 32) (t.val % 32) s l + _) (g := vAcc Q K C D (t.val / 32) (t.val % 32 + 1)) fun s _ l _ => acc_next (vTerm Q K C D s (128 * (t.val / 32) + l)) (t.val % 32),
    encR_congr (f := fun h s => rAcc P Q K C D (t.val / 32) (t.val % 32) h s + _) (g := rAcc P Q K C D (t.val / 32) (t.val % 32 + 1)) fun h _ s _ => acc_next (rTerm P Q K C D (2 * (t.val / 32) + h) s) (t.val % 32)]

include hP hQ hK hC hD in
theorem outs_enc (n : ℕ) (hn : n < (cfg0 (F := Ideal)).N) : outsAt m c n hn = outVal P Q K C D (n / 32) (n % 32) := by
  have first : ∀ (t : Fin (cfg0 (F := Ideal)).N), t.val % 32 = 0 → outsAt m c t.val t.isLt = outVal P Q K C D (t.val / 32) (t.val % 32) := fun t h => by
    have hc : (grid0.coords t 1).val = 0 := (coord1 (F := Ideal) t).trans h
    refine (outsAt_first m c t h (k0_pay56 (F := Ideal)) (k0_pay57 (F := Ideal)) (k0_pay58 (F := Ideal))).trans (point_enc m c hP hQ hK hC hD t _ _ _ ?_ ?_ ?_)
    · exact (if_pos hc).trans (zeros_F.trans (encF_congr fun s _ l _ => acc_zero h _))
    · exact (if_pos hc).trans (zeros_F'.trans (encF_congr fun s _ l _ => acc_zero h _))
    · exact (if_pos hc).trans (zeros_R.trans (encR_congr fun s _ l _ => acc_zero h _))
  induction n with
  | zero => exact first ⟨0, hn⟩ rfl
  | succ n ih =>
    by_cases h : (n + 1) % 32 = 0
    · exact first ⟨n + 1, hn⟩ h
    · have hc : ¬(grid0.coords ⟨n + 1, hn⟩ 1).val = 0 := fun e => h ((coord1 (F := Ideal) ⟨n + 1, hn⟩).symm.trans e)
      have e1 : n / 32 = (n + 1) / 32 := by omega
      have e2 : n % 32 + 1 = (n + 1) % 32 := by omega
      have ih' := ih (Nat.lt_of_succ_lt hn)
      rw [e1] at ih'
      refine (outsAt_next m c ⟨n + 1, hn⟩ h).trans (point_enc m c hP hQ hK hC hD ⟨n + 1, hn⟩ _ _ _ ?_ ?_ ?_)
      · refine (if_neg hc).trans ((congrArg (fun x => x.2.1) ih').trans ?_)
        show encF (kAcc P Q K C D _ (n % 32 + 1)) = _
        rw [e2]
      · refine (if_neg hc).trans ((congrArg (fun x => x.2.2.1) ih').trans ?_)
        show encF (vAcc Q K C D _ (n % 32 + 1)) = _
        rw [e2]
      · refine (if_neg hc).trans ((congrArg (fun x => x.2.2.2.1) ih').trans ?_)
        show encR (rAcc P Q K C D _ (n % 32 + 1)) = _
        rw [e2]

/-! ### The five arrays -/

include hP hQ hK hC hD in
theorem final_9 : (dats m 0 c).arrAt 9 (cfg0 (F := Ideal)).N = enc2 (a := 8192) (b := 512) (dqOut P Q K C D) := by
  refine (dats m 0 c).arrAt_eq_of_covers 9 _ (by decide +kernel) fun t hf y => ?_
  have e := congrArg Prod.fst (outs_enc m c hP hQ hK hC hD t.val t.isLt)
  have i0 : win0_9.index t 0 = t.val % 32 := congrFun (idx t).2.2.2.2.2.2.2.2.2.1 0
  have e0 : ((((cfg0 (F := Ideal)).win 9).blk t).view.emb y 0).val = 256 * (t.val % 32) + (y 0).val :=
    (((cfg0 (F := Ideal)).win 9).rect_emb_val t y 0).trans (by show win0_9.index t 0 * 256 + (y 0).val = _; rw [i0, mul_comm])
  have i1 : win0_9.index t 1 = t.val / 32 := congrFun (idx t).2.2.2.2.2.2.2.2.2.1 1
  have e1 : ((((cfg0 (F := Ideal)).win 9).blk t).view.emb y 1).val = 128 * (t.val / 32) + (y 1).val :=
    (((cfg0 (F := Ideal)).win 9).rect_emb_val t y 1).trans (by show win0_9.index t 1 * 128 + (y 1).val = _; rw [i1, mul_comm])
  rw [after0_9, e]
  exact congrArg Real.toEReal (congrArg₂ (dqOut P Q K C D) e0.symm e1.symm)

include hP hQ hK hC hD in
theorem final_13 : (dats m 0 c).arrAt 13 (cfg0 (F := Ideal)).N = enc2 (a := 8192) (b := 512) (sumOut P Q K C D) := by
  refine (dats m 0 c).arrAt_eq_of_covers 13 _ (by decide +kernel) fun t hf y => ?_
  have e := congrArg (fun x => x.2.2.2.2) (outs_enc m c hP hQ hK hC hD t.val t.isLt)
  have i0 : win0_13.index t 0 = t.val % 32 := congrFun (idx t).2.2.2.2.2.2.2.2.2.2.2.2.2 0
  have e0 : ((((cfg0 (F := Ideal)).win 13).blk t).view.emb y 0).val = 256 * (t.val % 32) + (y 0).val :=
    (((cfg0 (F := Ideal)).win 13).rect_emb_val t y 0).trans (by show win0_13.index t 0 * 256 + (y 0).val = _; rw [i0, mul_comm])
  have i1 : win0_13.index t 1 = t.val / 32 := congrFun (idx t).2.2.2.2.2.2.2.2.2.2.2.2.2 1
  have e1 : ((((cfg0 (F := Ideal)).win 13).blk t).view.emb y 1).val = 128 * (t.val / 32) + (y 1).val :=
    (((cfg0 (F := Ideal)).win 13).rect_emb_val t y 1).trans (by show win0_13.index t 1 * 128 + (y 1).val = _; rw [i1, mul_comm])
  rw [after0_13, e]
  exact congrArg Real.toEReal (congrArg₂ (sumOut P Q K C D) e0.symm e1.symm)

include hP hQ hK hC hD in
theorem final_10 : (dats m 0 c).arrAt 10 (cfg0 (F := Ideal)).N = enc2 (a := 8192) (b := 512) fun s c => ∑ t ∈ range 8192, kTerm P Q K C D s c t := by
  refine (dats m 0 c).arrAt_eq_of_covers 10 _ (by decide +kernel) fun t hf y => ?_
  have e := congrArg (fun x => x.2.1) (outs_enc m c hP hQ hK hC hD t.val t.isLt)
  have hl : t.val % 32 = 31 := (flush0_10 _).mp hf
  have i0 : win0_10.index t 0 = 0 := congrFun (idx t).2.2.2.2.2.2.2.2.2.2.1 0
  have e0 : ((((cfg0 (F := Ideal)).win 10).blk t).view.emb y 0).val = (y 0).val :=
    (((cfg0 (F := Ideal)).win 10).rect_emb_val t y 0).trans (by show win0_10.index t 0 * 8192 + (y 0).val = _; rw [i0, zero_mul, zero_add])
  have i1 : win0_10.index t 1 = t.val / 32 := congrFun (idx t).2.2.2.2.2.2.2.2.2.2.1 1
  have e1 : ((((cfg0 (F := Ideal)).win 10).blk t).view.emb y 1).val = 128 * (t.val / 32) + (y 1).val :=
    (((cfg0 (F := Ideal)).win 10).rect_emb_val t y 1).trans (by show win0_10.index t 1 * 128 + (y 1).val = _; rw [i1, mul_comm])
  rw [after0_10, e]
  refine congrArg Real.toEReal ((?_ : kAcc P Q K C D (t.val / 32) (t.val % 32 + 1) (y 0).val (y 1).val = _).trans (congrArg₂ (fun s c => ∑ t ∈ range 8192, kTerm P Q K C D s c t) e0.symm e1.symm))
  rw [hl]; rfl

include hP hQ hK hC hD in
theorem final_11 : (dats m 0 c).arrAt 11 (cfg0 (F := Ideal)).N = enc2 (a := 8192) (b := 512) fun s c => ∑ t ∈ range 8192, vTerm Q K C D s c t := by
  refine (dats m 0 c).arrAt_eq_of_covers 11 _ (by decide +kernel) fun t hf y => ?_
  have e := congrArg (fun x => x.2.2.1) (outs_enc m c hP hQ hK hC hD t.val t.isLt)
  have hl : t.val % 32 = 31 := (flush0_11 _).mp hf
  have i0 : win0_11.index t 0 = 0 := congrFun (idx t).2.2.2.2.2.2.2.2.2.2.2.1 0
  have e0 : ((((cfg0 (F := Ideal)).win 11).blk t).view.emb y 0).val = (y 0).val :=
    (((cfg0 (F := Ideal)).win 11).rect_emb_val t y 0).trans (by show win0_11.index t 0 * 8192 + (y 0).val = _; rw [i0, zero_mul, zero_add])
  have i1 : win0_11.index t 1 = t.val / 32 := congrFun (idx t).2.2.2.2.2.2.2.2.2.2.2.1 1
  have e1 : ((((cfg0 (F := Ideal)).win 11).blk t).view.emb y 1).val = 128 * (t.val / 32) + (y 1).val :=
    (((cfg0 (F := Ideal)).win 11).rect_emb_val t y 1).trans (by show win0_11.index t 1 * 128 + (y 1).val = _; rw [i1, mul_comm])
  rw [after0_11, e]
  refine congrArg Real.toEReal ((?_ : vAcc Q K C D (t.val / 32) (t.val % 32 + 1) (y 0).val (y 1).val = _).trans (congrArg₂ (fun s c => ∑ t ∈ range 8192, vTerm Q K C D s c t) e0.symm e1.symm))
  rw [hl]; rfl

include hP hQ hK hC hD in
theorem final_12 : (dats m 0 c).arrAt 12 (cfg0 (F := Ideal)).N = enc3 (a := 4) (b := 2) (c := 8192) fun p h s => ∑ t ∈ range 8192, rTerm P Q K C D (2 * p + h) s t := by
  refine (dats m 0 c).arrAt_eq_of_covers 12 _ (by decide +kernel) fun t hf y => ?_
  have e := congrArg (fun x => x.2.2.2.1) (outs_enc m c hP hQ hK hC hD t.val t.isLt)
  have hl : t.val % 32 = 31 := (flush0_12 _).mp hf
  have i1 : win0_12.index t 1 = 0 := congrFun (idx t).2.2.2.2.2.2.2.2.2.2.2.2.1 1
  have e1 : ((((cfg0 (F := Ideal)).win 12).blk t).view.emb y 1).val = (y 1).val :=
    (((cfg0 (F := Ideal)).win 12).rect_emb_val t y 1).trans (by show win0_12.index t 1 * 2 + (y 1).val = _; rw [i1, zero_mul, zero_add])
  have i2 : win0_12.index t 2 = 0 := congrFun (idx t).2.2.2.2.2.2.2.2.2.2.2.2.1 2
  have e2 : ((((cfg0 (F := Ideal)).win 12).blk t).view.emb y 2).val = (y 2).val :=
    (((cfg0 (F := Ideal)).win 12).rect_emb_val t y 2).trans (by show win0_12.index t 2 * 8192 + (y 2).val = _; rw [i2, zero_mul, zero_add])
  have i0 : win0_12.index t 0 = t.val / 32 := congrFun (idx t).2.2.2.2.2.2.2.2.2.2.2.2.1 0
  have e0 : ((((cfg0 (F := Ideal)).win 12).blk t).view.emb y 0).val = t.val / 32 :=
    (((cfg0 (F := Ideal)).win 12).rect_emb_val t y 0).trans (by
      show win0_12.index t 0 * 1 + (y 0).val = _
      have := (y 0).isLt; change (y 0).val < 1 at this
      rw [i0]; omega)
  rw [after0_12, e]
  refine congrArg Real.toEReal ((?_ : rAcc P Q K C D (t.val / 32) (t.val % 32 + 1) (y 1).val (y 2).val = _).trans
    ((congrArg₂ (fun h s => ∑ x ∈ range 8192, rTerm P Q K C D (2 * (t.val / 32) + h) s x) e1.symm e2.symm).trans (congrArg (fun p => ∑ x ∈ range 8192, rTerm P Q K C D (2 * p + _) _ x) e0.symm)))
  rw [hl]; rfl

end Cert.KernelFoxIdeal.Value

end
-- ==== Proof.Fox.Ends.lean ====
module

public import proofs.«01_k».proof.Proof.Fox.Outs
public import Idealize.ShloMosaic.Lib.Pipeline.FrameSuffix

/-!
The gradient of the biases, as the host lines after the launch put it together.
-/

@[expose] public section

set_option maxRecDepth 16384

noncomputable section

namespace Cert.KernelFoxIdeal.Value

open Cert.KernelFoxIdeal Cert.KernelFoxIdeal.Gen Cert.Reals Idealize.ShloMosaic Idealize.ShloMosaic.TcCoe Idealize.SL.Sem
open Finset (range)

variable (m : (ℓ : Loc nD τ sig) → Buf (Elt Ideal) ℓ) (c : Dev nD) {P Q K C D : ℕ → ℕ → ℝ}
  (hP : m ((c : Thread nD τ).loc main_arg0) = enc2 P) (hQ : m ((c : Thread nD τ).loc main_arg1) = enc2 Q) (hK : m ((c : Thread nD τ).loc main_arg2) = enc2 K) (hC : m ((c : Thread nD τ).loc main_arg3) = enc2 C)
  (hD : m ((c : Thread nD τ).loc main_arg4) = enc2 D)

theorem rows_after : Pipeline.withArrays (cfgs (F := Ideal) 0).spec c (V0 m c) (fun w => (dats m 0 c).arrAt w (cfgs (F := Ideal) 0).N) main_v60_3 = (dats m 0 c).arrAt 12 (cfg0 (F := Ideal)).N :=
  Pipeline.withArrays_arr (cfgs (F := Ideal) 0).spec (by decide : ∀ w w' : Fin 14, _) c (V0 m c) (fun w => (dats m 0 c).arrAt w (cfgs (F := Ideal) 0).N) 12

theorem sums_after : Pipeline.withArrays (cfgs (F := Ideal) 0).spec c (V0 m c) (fun w => (dats m 0 c).arrAt w (cfgs (F := Ideal) 0).N) main_v60_4 = (dats m 0 c).arrAt 13 (cfg0 (F := Ideal)).N :=
  Pipeline.withArrays_arr (cfgs (F := Ideal) 0).spec (by decide : ∀ w w' : Fin 14, _) c (V0 m c) (fun w => (dats m 0 c).arrAt w (cfgs (F := Ideal) 0).N) 13

include hP hQ hK hC hD in
theorem tail_dcf : Pipeline.afterTail₀ cfgs (dats m) 0 (V0 m) [hostOps1] c main_v66
    = enc2 (a := 8192) (b := 8) fun t h => (∑ x ∈ range 8192, rTerm P Q K C D h t x) + sumOut P Q K C D t (64 * h) := by
  unfold Pipeline.afterTail₀
  change StableHlo.after hostOps1 _ _ = _
  unfold hostOps1
  after_results
  rw [rows_after, sums_after, final_12 m c hP hQ hK hC hD, final_13 m c hP hQ hK hC hD]
  funext j
  idx_vars j
  pointwise
  refine (EReal.coe_add _ _).symm.trans (congrArg Real.toEReal ?_)
  show (∑ t ∈ range 8192, rTerm P Q K C D (2 * (j1.val / 2) + j1.val % 2) j0.val t) + sumOut P Q K C D j0.val (j1.val * 64) = (∑ x ∈ range 8192, rTerm P Q K C D j1.val j0.val x) + sumOut P Q K C D j0.val (64 * j1.val)
  rw [show 2 * (j1.val / 2) + j1.val % 2 = j1.val by omega, mul_comm 64]

end Cert.KernelFoxIdeal.Value

end
-- ==== Proof.Fox.RefOut.lean ====
module

public import proofs.«01_k».proof.Proof.Fox.RefVal

/-!
The reference's four gradients over the reals.
-/

@[expose] public section

set_option maxRecDepth 16384

noncomputable section

namespace Cert.ReferenceFoxIdeal.Value

open Cert.ReferenceFoxIdeal Cert.ReferenceFoxIdeal.Gen Cert.ReferenceFoxIdeal.Read Cert.Reals Idealize.ShloMosaic Idealize.ShloMosaic.TcCoe
open Fox (pr ds)

variable (P Q K C D : ℕ → ℕ → ℝ)

theorem enc3_of {a b c : ℕ} (f : ℕ → ℕ → ℕ → ℝ) (j : (⟨3, ![a, b, c]⟩ : Shape).Idx) {x y z : ℕ} (e0 : (j 0).val = x) (e1 : (j 1).val = y) (e2 : (j 2).val = z) :
    enc3 f j = ((f x y z : ℝ) : EReal) := by
  subst e0 e1 e2; rfl

theorem dz_enc : val_main_v86 (F := Ideal) (enc2 P) (enc2 Q) (enc2 K) (enc2 C) (enc2 D) = enc3 (fun h t s => ds (zz Q K C h t) (dd P D h t) t s * (1 / 8)) := by
  funext i
  rw [val_main_v86_apply, ds_enc, val_main_v85_apply, val_main_cst_17_apply]
  refine Eq.trans ?_ (EReal.coe_mul _ _).symm
  exact congrArg₂ (fun x y : EReal => x * y) rfl eighth

theorem dv_enc : val_main_v59 (F := Ideal) (enc2 Q) (enc2 K) (enc2 C) (enc2 D) = enc3 (fun h d s => ∑ t ∈ Finset.range 8192, D t (256 + (64 * h + d)) * pr (zz Q K C h t) t s) := by
  funext i
  rw [val_main_v59_apply, do_enc, pr_enc]
  simp only [enc3_at, ← EReal.coe_mul]
  exact sum_coe 8192 fun t => D t (256 + (64 * (i 0).val + (i 1).val)) * pr (zz Q K C (i 0).val t) t (i 2).val

theorem dk_enc : val_main_v87 (F := Ideal) (enc2 P) (enc2 Q) (enc2 K) (enc2 C) (enc2 D)
    = enc3 (fun h s d => ∑ t ∈ Finset.range 8192, ds (zz Q K C h t) (dd P D h t) t s * (1 / 8) * Q t (64 * h + d)) := by
  funext i
  rw [val_main_v87_apply, q_enc, dz_enc]
  simp only [enc3_at, ← EReal.coe_mul]
  exact sum_coe 8192 fun t => ds (zz Q K C (i 0).val t) (dd P D (i 0).val t) t (i 1).val * (1 / 8) * Q t (64 * (i 0).val + (i 2).val)

theorem dq_enc : val_main_v88 (F := Ideal) (enc2 P) (enc2 Q) (enc2 K) (enc2 C) (enc2 D)
    = enc3 (fun h t d => ∑ s ∈ Finset.range 8192, ds (zz Q K C h t) (dd P D h t) t s * (1 / 8) * K s (64 * h + d)) := by
  funext i
  rw [val_main_v88_apply, k_enc, dz_enc]
  simp only [enc3_at, ← EReal.coe_mul]
  exact sum_coe 8192 fun s => ds (zz Q K C (i 0).val (i 1).val) (dd P D (i 0).val (i 1).val) (i 1).val s * (1 / 8) * K s (64 * (i 0).val + (i 2).val)

/-- The gradients of q, of k, of v and of the running sums of the forget gates, by token and column. -/
theorem dq_out : val_main_v94 (F := Ideal) (enc2 P) (enc2 Q) (enc2 K) (enc2 C) (enc2 D)
    = enc2 (fun t c => ∑ s ∈ Finset.range 8192, ds (zz Q K C (c / 64) t) (dd P D (c / 64) t) t s * (1 / 8) * K s c) := by
  funext i
  have h0 : (i 0).val < 8192 := (i 0).isLt; have h1 : (i 1).val < 512 := (i 1).isLt
  rw [val_main_v94_apply, val_main_v93_apply, dq_enc]
  refine (enc3_of _ _ (x := (i 1).val / 64) (y := (i 0).val) (z := (i 1).val % 64) ?_ ?_ ?_).trans ?_
  · show ((i 0).val * 512 + (i 1).val) / 64 % 8 = (i 1).val / 64; omega
  · show ((i 0).val * 512 + (i 1).val) / 512 = (i 0).val; omega
  · show ((i 0).val * 512 + (i 1).val) % 64 = (i 1).val % 64; omega
  · rw [Nat.div_add_mod]; rfl

theorem dk_out : val_main_v92 (F := Ideal) (enc2 P) (enc2 Q) (enc2 K) (enc2 C) (enc2 D)
    = enc2 (fun s c => ∑ t ∈ Finset.range 8192, ds (zz Q K C (c / 64) t) (dd P D (c / 64) t) t s * (1 / 8) * Q t c) := by
  funext i
  have h0 : (i 0).val < 8192 := (i 0).isLt; have h1 : (i 1).val < 512 := (i 1).isLt
  rw [val_main_v92_apply, val_main_v91_apply, dk_enc]
  refine (enc3_of _ _ (x := (i 1).val / 64) (y := (i 0).val) (z := (i 1).val % 64) ?_ ?_ ?_).trans ?_
  · show ((i 0).val * 512 + (i 1).val) / 64 % 8 = (i 1).val / 64; omega
  · show ((i 0).val * 512 + (i 1).val) / 512 = (i 0).val; omega
  · show ((i 0).val * 512 + (i 1).val) % 64 = (i 1).val % 64; omega
  · rw [Nat.div_add_mod]; rfl

theorem dv_out : val_main_v90 (F := Ideal) (enc2 Q) (enc2 K) (enc2 C) (enc2 D)
    = enc2 (fun s c => ∑ t ∈ Finset.range 8192, D t (256 + c) * pr (zz Q K C (c / 64) t) t s) := by
  funext i
  have h0 : (i 0).val < 8192 := (i 0).isLt; have h1 : (i 1).val < 512 := (i 1).isLt
  rw [val_main_v90_apply, val_main_v89_apply, val_main_v60_apply, dv_enc]
  refine (enc3_of _ _ (x := (i 1).val / 64) (y := (i 1).val % 64) (z := (i 0).val) ?_ ?_ ?_).trans ?_
  · show ((i 0).val * 512 + (i 1).val) / 64 % 8 = (i 1).val / 64; omega
  · show ((i 0).val * 512 + (i 1).val) % 64 = (i 1).val % 64; omega
  · show ((i 0).val * 512 + (i 1).val) / 512 = (i 0).val; omega
  · rw [Nat.div_add_mod]; rfl

theorem cols_enc : val_main_v76 (F := Ideal) (enc2 P) (enc2 Q) (enc2 K) (enc2 C) (enc2 D) = enc2 (fun h s => ∑ t ∈ Finset.range 8192, -ds (zz Q K C h t) (dd P D h t) t s) := by
  funext i
  rw [val_main_v76_apply]
  refine (congrArg (· + _) (zero_word.trans EReal.coe_zero)).trans ((zero_add _).trans ?_)
  refine Eq.trans (Finset.sum_congr rfl fun t _ => ?_) (sum_coe 8192 fun t => -ds (zz Q K C (i 0).val t) (dd P D (i 0).val t) t (i 1).val)
  rw [val_main_v75_apply, ds_enc]
  exact (EReal.coe_neg _).symm

theorem rows_enc : val_main_v80 (F := Ideal) (enc2 P) (enc2 Q) (enc2 K) (enc2 C) (enc2 D) = enc2 (fun h t => ∑ s ∈ Finset.range 8192, ds (zz Q K C h t) (dd P D h t) t s) := by
  funext i
  rw [val_main_v80_apply, ds_enc]
  refine (congrArg (· + _) (zero_word.trans EReal.coe_zero)).trans ((zero_add _).trans ?_)
  exact sum_coe 8192 fun s => ds (zz Q K C (i 0).val (i 1).val) (dd P D (i 0).val (i 1).val) (i 1).val s

theorem dcf_out : val_main_v84 (F := Ideal) (enc2 P) (enc2 Q) (enc2 K) (enc2 C) (enc2 D)
    = enc2 (fun t h => (∑ t' ∈ Finset.range 8192, -ds (zz Q K C h t') (dd P D h t') t' t) + ∑ s ∈ Finset.range 8192, ds (zz Q K C h t) (dd P D h t) t s) := by
  funext i
  have h0 : (i 0).val < 8192 := (i 0).isLt; have h1 : (i 1).val < 8 := (i 1).isLt
  rw [val_main_v84_apply, val_main_v79_apply, val_main_v78_apply, val_main_v83_apply, val_main_v82_apply, Fin.sum_univ_one, Fin.sum_univ_one,
    val_main_v77_apply, val_main_v81_apply, cols_enc, rows_enc]
  refine Eq.trans ?_ (EReal.coe_add _ _).symm
  refine congrArg₂ (fun x y : EReal => x + y) ?_ ?_
  · refine (congrArg (· + _) (zero_word.trans EReal.coe_zero)).trans ((zero_add _).trans (enc2_of _ _ ?_ ?_))
    · show (((i 1).val * 1 + 0) * 8192 + (i 0).val) / 8192 = (i 1).val; omega
    · show (((i 1).val * 1 + 0) * 8192 + (i 0).val) % 8192 = (i 0).val; omega
  · refine (congrArg (· + _) (zero_word.trans EReal.coe_zero)).trans ((zero_add _).trans (enc2_of _ _ ?_ ?_))
    · show (((i 1).val * 8192 + (i 0).val) * 1 + 0) / 8192 = (i 1).val; omega
    · show (((i 1).val * 8192 + (i 0).val) * 1 + 0) % 8192 = (i 0).val; omega

end Cert.ReferenceFoxIdeal.Value

end
-- ==== Proof.Fox.Claim.lean ====
/- The forgetting-attention backward call computes the gradients of the plain attention. -/
module

public import proofs.«01_k».proof.Defs
public import proofs.«01_k».proof.Proof.Finite
public import proofs.«01_k».proof.Proof.Fox.Ends
public import proofs.«01_k».proof.Proof.Fox.RefOut
public import proofs.«01_k».proof.Proof.Gen.Pre_finite_fox
public import proofs.«01_k».proof.Proof.Gen.ReferenceFoxIdeal.Run
public import proofs.«01_k».proof.Proof.Gen.ReferenceFoxIdeal.Read
public import Idealize.ShloMosaic.Lib.Claim
public import Idealize.ShloMosaic.Lib.Pipeline.FrameSuffix

@[expose] public section

set_option maxRecDepth 16384

noncomputable section

namespace Cert.KernelFoxIdeal.Value

open Cert.KernelFoxIdeal Cert.KernelFoxIdeal.Gen Cert.Reals Idealize.ShloMosaic Idealize.ShloMosaic.TcCoe Idealize.SL.Sem
open Idealize.ShloMosaic.Pipeline (Dat)

/-- Under the precondition the arguments are arrays of reals. -/
theorem finite_args (x : FVec Ideal S8192x2824 .f32) (q k : FVec Ideal S8192x512 .f32) (f : FVec Ideal S8192x8 .f32) (d : FVec Ideal S8192x1024 .f32)
    (h : Cert.Pre_finite_fox.fn (F := Ideal) x q k f d = fun _ => 1#1) :
    (∃ P : ℕ → ℕ → ℝ, x = enc2 P) ∧ (∃ Q : ℕ → ℕ → ℝ, q = enc2 Q) ∧ (∃ K : ℕ → ℕ → ℝ, k = enc2 K) ∧ (∃ C : ℕ → ℕ → ℝ, f = enc2 C) ∧ ∃ D : ℕ → ℕ → ℝ, d = enc2 D := by
  have h0 := congrFun h (Shape.Idx.first (by decide))
  unfold Cert.Pre_finite_fox.fn at h0
  obtain ⟨h0, hd⟩ := IntOp.andi_eq_one.1 h0
  obtain ⟨h0, hf⟩ := IntOp.andi_eq_one.1 h0
  obtain ⟨h0, hk⟩ := IntOp.andi_eq_one.1 h0
  obtain ⟨hx, hq⟩ := IntOp.andi_eq_one.1 h0
  haveI : Subsingleton Cert.Pre_finite_fox.S_.Idx := ⟨fun a b => funext fun q => q.elim0⟩
  exact ⟨⟨_, enc2_of_real x fun i => real_of_abs _ (Host.reduce_andi_all _ _ _ _ _ hx i)⟩, ⟨_, enc2_of_real q fun i => real_of_abs _ (Host.reduce_andi_all _ _ _ _ _ hq i)⟩,
    ⟨_, enc2_of_real k fun i => real_of_abs _ (Host.reduce_andi_all _ _ _ _ _ hk i)⟩, ⟨_, enc2_of_real f fun i => real_of_abs _ (Host.reduce_andi_all _ _ _ _ _ hf i)⟩,
    ⟨_, enc2_of_real d fun i => real_of_abs _ (Host.reduce_andi_all _ _ _ _ _ hd i)⟩⟩

/-- The reference terminates, leaves its arguments alone and every semaphore at zero. -/
theorem frame_reference : Cert.quiescent_ReferenceFoxIdeal := fun m g _ =>
  (θ_run Cert.ReferenceFoxIdeal.defs _ _).mono (fun r h => ⟨fun c => (h c).2.2.2.2, sem_eq_zero_of_no_sems (by decide) r.2⟩)
    (Cert.ReferenceFoxIdeal.Value.run (F := Ideal) m g)

section
variable (m : (ℓ : Loc nD τ sig) → Buf (Elt Ideal) ℓ) (c : Dev nD)
  (h : Cert.Pre_finite_fox.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1)
include h

theorem dq_eq : Cert.ReferenceFoxIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 9 (cfg0 (F := Ideal)).N := by
  obtain ⟨⟨P, hP⟩, ⟨Q, hQ⟩, ⟨K, hK⟩, ⟨C, hC⟩, ⟨D, hD⟩⟩ := finite_args _ _ _ _ _ h
  rw [final_9 m c hP hQ hK hC hD, hP, hQ, hK, hC, hD]
  exact Cert.ReferenceFoxIdeal.Value.dq_out P Q K C D

theorem dk_eq : Cert.ReferenceFoxIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 10 (cfg0 (F := Ideal)).N := by
  obtain ⟨⟨P, hP⟩, ⟨Q, hQ⟩, ⟨K, hK⟩, ⟨C, hC⟩, ⟨D, hD⟩⟩ := finite_args _ _ _ _ _ h
  rw [final_10 m c hP hQ hK hC hD, hP, hQ, hK, hC, hD]
  exact Cert.ReferenceFoxIdeal.Value.dk_out P Q K C D

theorem dv_eq : Cert.ReferenceFoxIdeal.Read.val_main_v90 (F := Ideal) (m ((c : Thread nD τ).loc main_arg1)) (m ((c : Thread nD τ).loc main_arg2)) (m ((c : Thread nD τ).loc main_arg3)) (m ((c : Thread nD τ).loc main_arg4)) = (dats m 0 c).arrAt 11 (cfg0 (F := Ideal)).N := by
  obtain ⟨⟨P, hP⟩, ⟨Q, hQ⟩, ⟨K, hK⟩, ⟨C, hC⟩, ⟨D, hD⟩⟩ := finite_args _ _ _ _ _ h
  rw [final_11 m c hP hQ hK hC hD, hQ, hK, hC, hD]
  exact Cert.ReferenceFoxIdeal.Value.dv_out Q K C D

theorem dcf_eq : Cert.ReferenceFoxIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = Pipeline.afterTail₀ cfgs (dats m) 0 (V0 m) [hostOps1] c main_v66 := by
  obtain ⟨⟨P, hP⟩, ⟨Q, hQ⟩, ⟨K, hK⟩, ⟨C, hC⟩, ⟨D, hD⟩⟩ := finite_args _ _ _ _ _ h
  rw [tail_dcf m c hP hQ hK hC hD, hP, hQ, hK, hC, hD]
  exact (Cert.ReferenceFoxIdeal.Value.dcf_out P Q K C D).trans (enc2_congr fun t _ h _ => by unfold sumOut dsL rTerm dsH; rw [Nat.mul_div_cancel_left h (by norm_num : 0 < 64)])

end

/-- So are the reference's results where both programs get the same arguments. -/
theorem results_eq (m : (ℓ : Loc nD τ sig) → Buf (Elt Ideal) ℓ)
    (m' : (ℓ : Loc Cert.ReferenceFoxIdeal.nD Cert.ReferenceFoxIdeal.τ Cert.ReferenceFoxIdeal.sig) → Buf (Elt Ideal) ℓ) (c : Dev nD)
    (h : Cert.Pre_finite_fox.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1)
    (a0 : m' ((c.tc : Thread Cert.ReferenceFoxIdeal.nD Cert.ReferenceFoxIdeal.τ).loc Cert.ReferenceFoxIdeal.main_arg0) = m ((c.tc : Thread nD τ).loc main_arg0))
    (a1 : m' ((c.tc : Thread Cert.ReferenceFoxIdeal.nD Cert.ReferenceFoxIdeal.τ).loc Cert.ReferenceFoxIdeal.main_arg1) = m ((c.tc : Thread nD τ).loc main_arg1))
    (a2 : m' ((c.tc : Thread Cert.ReferenceFoxIdeal.nD Cert.ReferenceFoxIdeal.τ).loc Cert.ReferenceFoxIdeal.main_arg2) = m ((c.tc : Thread nD τ).loc main_arg2))
    (a3 : m' ((c.tc : Thread Cert.ReferenceFoxIdeal.nD Cert.ReferenceFoxIdeal.τ).loc Cert.ReferenceFoxIdeal.main_arg3) = m ((c.tc : Thread nD τ).loc main_arg3))
    (a4 : m' ((c.tc : Thread Cert.ReferenceFoxIdeal.nD Cert.ReferenceFoxIdeal.τ).loc Cert.ReferenceFoxIdeal.main_arg4) = m ((c.tc : Thread nD τ).loc main_arg4)) :
    Cert.ReferenceFoxIdeal.Value.res_main_v94 m' c = (dats m 0 c).arrAt 9 (cfg0 (F := Ideal)).N
      ∧ Cert.ReferenceFoxIdeal.Value.res_main_v92 m' c = (dats m 0 c).arrAt 10 (cfg0 (F := Ideal)).N
      ∧ Cert.ReferenceFoxIdeal.Value.res_main_v90 m' c = (dats m 0 c).arrAt 11 (cfg0 (F := Ideal)).N
      ∧ Cert.ReferenceFoxIdeal.Value.res_main_v84 m' c = Pipeline.afterTail₀ cfgs (dats m) 0 (V0 m) [hostOps1] c main_v66 := by
  refine ⟨(Cert.ReferenceFoxIdeal.Read.val_main_v94_eq (F := Ideal) m' c).trans ?_, (Cert.ReferenceFoxIdeal.Read.val_main_v92_eq (F := Ideal) m' c).trans ?_, (Cert.ReferenceFoxIdeal.Read.val_main_v90_eq (F := Ideal) m' c).trans ?_, (Cert.ReferenceFoxIdeal.Read.val_main_v84_eq (F := Ideal) m' c).trans ?_⟩
  · rw [a0, a1, a2, a3, a4]; exact dq_eq m c h
  · rw [a0, a1, a2, a3, a4]; exact dk_eq m c h
  · rw [a1, a2, a3, a4]; exact dv_eq m c h
  · rw [a0, a1, a2, a3, a4]; exact dcf_eq m c h

set_option maxHeartbeats 1000000 in
/-- For finite arguments the call's results are the gradients of the attention's queries, keys, values and biases. -/
theorem algebraic : Cert.algebraic_KernelFoxIdeal_ReferenceFoxIdeal_pre_finite_fox := by
  pair_intro
  · run_from Cert.KernelFoxIdeal.Gen.run_main m g
    · exact W_main_arg0 m c (dats m)
    · exact W_main_arg3 m c (dats m)
  · refine (θ_run _ _ _).mono (fun r h c => ?_) (Cert.ReferenceFoxIdeal.Value.run (F := Ideal) m' g')
    obtain ⟨a0, a1, a2, a3, a4⟩ := hagree c
    obtain ⟨e0, e1, e2, e3⟩ := results_eq m m' c (hpre c) a0 a1 a2 a3 a4
    have h := h c
    rw [e0, e1, e2, e3] at h
    exact h

end Cert.KernelFoxIdeal.Value
-- ==== Proof.Enc.lean ====
module

public import proofs.«01_k».proof.Proof.Reals
public import Idealize.ShloMosaic.Lib.Pipeline.ValueKit

/-!
Elements of arrays of reals at named coordinates, and a few more words.
-/

@[expose] public section

noncomputable section

namespace Cert.Reals

open Idealize.ShloMosaic

theorem enc2_ix {a b : ℕ} (f : ℕ → ℕ → ℝ) (x : Fin a) (y : Fin b) : enc2 f (ix2 x y) = ((f x.val y.val : ℝ) : EReal) := rfl
theorem enc2_vix {a b : ℕ} (f : ℕ → ℕ → ℝ) (x : Fin a) (y : Fin b) : enc2 f (ValueIdx.ix2 x y) = ((f x.val y.val : ℝ) : EReal) := rfl
theorem one_word : Ideal.ofBits .f32 0x3F800000#32 = ((1 : ℝ) : EReal) := by simp [Ideal.ofBits, Ideal.ieee, -EReal.coe_mul]; norm_num

/-- An array of one axis. -/
def enc1 {a : ℕ} (f : ℕ → ℝ) : (⟨1, ![a]⟩ : Shape).Idx → EReal := fun j => ((f (j 0).val : ℝ) : EReal)

theorem enc1_of_real {a : ℕ} (X : (⟨1, ![a]⟩ : Shape).Idx → EReal) (h : ∀ i, (((X i).toReal : ℝ) : EReal) = X i) :
    X = enc1 (a := a) fun r => if hr : r < a then (X (fun q => match q with | ⟨0, _⟩ => ⟨r, hr⟩)).toReal else 0 := by
  funext j
  have h0 : (j 0).val < a := (j 0).isLt
  show X j = (((if hr : (j 0).val < a then _ else _) : ℝ) : EReal)
  rw [dif_pos h0]
  refine (h j).symm.trans (congrArg (fun i => (((X i).toReal : ℝ) : EReal)) (funext fun q => ?_))
  match q with
  | ⟨0, _⟩ => rfl

/-- Arrays of any values, by the numbers of their coordinates. -/
def val2 {a b : ℕ} (f : ℕ → ℕ → EReal) : (⟨2, ![a, b]⟩ : Shape).Idx → EReal := fun j => f (j 0).val (j 1).val
def val1 {a : ℕ} (f : ℕ → EReal) : (⟨1, ![a]⟩ : Shape).Idx → EReal := fun j => f (j 0).val

theorem val2_ix {a b : ℕ} (f : ℕ → ℕ → EReal) (x : Fin a) (y : Fin b) : val2 f (ix2 x y) = f x.val y.val := rfl

theorem exists_val2 {a b : ℕ} (X : (⟨2, ![a, b]⟩ : Shape).Idx → EReal) : ∃ f, X = val2 (a := a) (b := b) f :=
  ⟨fun r l => if hr : r < a then (if hl : l < b then X (ValueIdx.ix2 ⟨r, hr⟩ ⟨l, hl⟩) else 0) else 0, funext fun j => by
    have h0 : (j 0).val < a := (j 0).isLt
    have h1 : (j 1).val < b := (j 1).isLt
    show X j = if hr : (j 0).val < a then _ else _
    rw [dif_pos h0, dif_pos h1]
    refine congrArg X (funext fun q => ?_)
    match q with
    | ⟨0, _⟩ => rfl
    | ⟨1, _⟩ => rfl⟩

theorem exists_val1 {a : ℕ} (X : (⟨1, ![a]⟩ : Shape).Idx → EReal) : ∃ f, X = val1 (a := a) f :=
  ⟨fun r => if hr : r < a then X (fun q => match q with | ⟨0, _⟩ => ⟨r, hr⟩) else 0, funext fun j => by
    have h0 : (j 0).val < a := (j 0).isLt
    show X j = if hr : (j 0).val < a then _ else _
    rw [dif_pos h0]
    refine congrArg X (funext fun q => ?_)
    match q with
    | ⟨0, _⟩ => rfl⟩

end Cert.Reals

end
-- ==== Proof.Forget.Fall.lean ====
module

public import proofs.«01_k».proof.Proof.Enc
public import proofs.«01_k».proof.Proof.Stick.Softplus

/-!
`sigmoid (-x)` at any extended real, the way the kernel takes it and the way the reference takes it.
-/

@[expose] public section

noncomputable section

namespace Cert.Reals

open Idealize.ShloMosaic
open Stick (brk soft zero_word zero_word' top_word')

def fall (x : EReal) : ℝ := if x = ⊤ then 0 else if x = ⊥ then 1 else brk (-x.toReal)

theorem fall_real (x : ℝ) : (if 0 ≤ x then Real.exp (0 - |x|) else 1) / (1 + Real.exp (0 - |x|)) = brk (-x) := by
  unfold brk
  rw [zero_sub, abs_neg]
  rcases lt_trichotomy x 0 with h | h | h
  · rw [if_neg (not_le.2 h), if_pos (by linarith)]
  · subst h; simp
  · rw [if_pos h.le, if_neg (by linarith)]

theorem fall_coe (x : ℝ) : fall (x : EReal) = brk (-x) := by
  unfold fall
  rw [if_neg (EReal.coe_ne_top x), if_neg (EReal.coe_ne_bot x), EReal.toReal_coe]

theorem absf_top : (FloatOps.absf (F := Ideal) (φ := .f32) (⊤ : EReal) : EReal) = ⊤ := max_eq_left le_top
theorem absf_bot : (FloatOps.absf (F := Ideal) (φ := .f32) (⊥ : EReal) : EReal) = ⊤ := by
  show max (⊥ : EReal) (-⊥) = ⊤
  rw [EReal.neg_bot]; exact max_eq_right bot_le

/-- The kernel's form. -/
theorem fall_kernel (x : EReal) : Ideal.div (if 0 ≤ x then Ideal.exp (0 - (FloatOps.absf (F := Ideal) (φ := .f32) x : EReal)) else 1) (1 + Ideal.exp (0 - (FloatOps.absf (F := Ideal) (φ := .f32) x : EReal)))
    = ((fall x : ℝ) : EReal) := by
  have ht : (0 : EReal) - ⊤ = ⊥ := rfl
  induction x with
  | bot =>
    rw [absf_bot, ht, Ideal.exp_bot, if_neg (by simp), add_zero, ← EReal.coe_one, div_coe_coe one_ne_zero]
    simp [fall]
  | top =>
    rw [absf_top, ht, Ideal.exp_bot, if_pos (by simp), add_zero, ← EReal.coe_one, ← EReal.coe_zero, div_coe_coe one_ne_zero]
    simp [fall]
  | coe x =>
    rw [absf_coe, ← EReal.coe_zero, ← EReal.coe_sub, Ideal.exp_coe, ← EReal.coe_one, ← EReal.coe_add]
    simp only [EReal.coe_le_coe_iff, coe_ite]
    rw [div_coe_coe (by have := Real.exp_pos (0 - |x|); linarith), fall_real, fall_coe]

theorem cmp_self (y : EReal) : Ideal.cmp .une y y = 0#1 := by unfold Ideal.cmp; simp

/-- The reference's form. -/
theorem fall_slope (x : EReal) : Stick.slope (-x) = ((fall x : ℝ) : EReal) := by
  have ht : (0 : EReal) - ⊤ = ⊥ := rfl
  have soft_top : soft ⊤ = ⊤ := by
    unfold soft
    rw [zero_word]
    show Scalar.select (Ideal.cmp .une ((⊤ : EReal) - ((0 : ℝ) : EReal)) ((⊤ : EReal) - ((0 : ℝ) : EReal))) _
      (max (⊤ : EReal) ((0 : ℝ) : EReal) + Ideal.log (1 + Ideal.exp (-(FloatOps.absf (F := Ideal) (φ := .f32) ((⊤ : EReal) - ((0 : ℝ) : EReal)) : EReal)))) = _
    rw [cmp_self, show (⊤ : EReal) - ((0 : ℝ) : EReal) = ⊤ from rfl, absf_top, EReal.neg_top, Ideal.exp_bot, add_zero, ← EReal.coe_one, log_pos_coe one_pos, max_eq_left le_top, Real.log_one]
    rfl
  have soft_bot : soft ⊥ = ((0 : ℝ) : EReal) := by
    unfold soft
    rw [zero_word]
    show Scalar.select (Ideal.cmp .une ((⊥ : EReal) - ((0 : ℝ) : EReal)) ((⊥ : EReal) - ((0 : ℝ) : EReal))) _
      (max (⊥ : EReal) ((0 : ℝ) : EReal) + Ideal.log (1 + Ideal.exp (-(FloatOps.absf (F := Ideal) (φ := .f32) ((⊥ : EReal) - ((0 : ℝ) : EReal)) : EReal)))) = _
    rw [cmp_self, show (⊥ : EReal) - ((0 : ℝ) : EReal) = ⊥ from rfl, absf_bot, EReal.neg_top, Ideal.exp_bot, add_zero, ← EReal.coe_one, log_pos_coe one_pos, max_eq_right bot_le, Real.log_one, ← EReal.coe_add, add_zero]
    rfl
  induction x with
  | bot =>
    rw [EReal.neg_bot]
    unfold Stick.slope
    rw [soft_top, zero_word', top_word']
    have h : FloatOps.cmpf (F := Ideal) (φ := .f32) .oeq (⊤ : EReal) (⊤ : EReal) = 1#1 := by
      show Ideal.cmp .oeq (⊤ : EReal) (⊤ : EReal) = 1#1
      unfold Ideal.cmp; simp
    rw [h]
    show Ideal.exp (((0 : ℝ) : EReal) - ((0 : ℝ) : EReal)) = _
    rw [← EReal.coe_sub, sub_zero, Ideal.exp_coe, Real.exp_zero]
    simp [fall]
  | top =>
    rw [EReal.neg_top]
    unfold Stick.slope
    rw [soft_bot, zero_word', top_word']
    have h (x : EReal) (hx : x ≠ ⊤) : FloatOps.cmpf (F := Ideal) (φ := .f32) .oeq x (⊤ : EReal) = 0#1 := by
      show Ideal.cmp .oeq x (⊤ : EReal) = 0#1
      unfold Ideal.cmp; simp [hx]
    rw [h _ bot_ne_top, h _ (EReal.coe_ne_top 0)]
    show Ideal.exp ((⊥ : EReal) - ((0 : ℝ) : EReal)) = _
    rw [show (⊥ : EReal) - ((0 : ℝ) : EReal) = ⊥ from rfl, Ideal.exp_bot]
    simp [fall]
  | coe x => rw [← EReal.coe_neg, Stick.slope_coe, fall_coe]

end Cert.Reals

end
-- ==== Proof.Forget.Pay.lean ====
module

public import proofs.«01_k».proof.Proof.Enc
public import proofs.«01_k».proof.Proof.Forget.Fall
public import proofs.«01_k».proof.Proof.Gen.KernelForgetIdeal.Frame
public import Idealize.ShloMosaic.Lib.Pipeline.ValueKit

/-!
What each value of the forget gate's kernel is over the reals.
-/

@[expose] public section

set_option maxRecDepth 16384

noncomputable section

namespace Cert.KernelForgetIdeal.Value

open Cert.KernelForgetIdeal Cert.KernelForgetIdeal.Gen Cert.Reals Idealize.ShloMosaic Idealize.ShloMosaic.TcCoe Idealize.SL.Sem
open Idealize.ShloMosaic.WordCmp (cmpi_sge_ofNat)
open Finset (range)
open Stick (zero_word)

/-- The sum of a block's rows from `a` on, and what the later blocks left. -/
theorem pay5_enc (f r : ℕ → ℕ → ℝ) : k0_pay5 (F := Ideal) (enc2 (a := 512) (b := 128) f) (enc2 (a := 1) (b := 128) r)
    = enc2 (a := 512) (b := 128) (fun a l => (∑ k ∈ range 512, (if a ≤ k then f k l else 0)) + r 0 l) := by
  funext j; idx_vars j
  unfold k0_pay5
  pointwise
  have h (k : Fin 512) : IntOp.cmpi .sge (BitVec.ofNat 32 k.val) (BitVec.ofNat 32 j0.val) = BitVec.ofBool (decide (j0.val ≤ k.val)) :=
    cmpi_sge_ofNat (by have := k.isLt; omega) (by have : j0.val < 512 := j0.isLt; omega)
  simp only [h, sitofp_bool, enc2_ix, ← EReal.coe_sub, ← EReal.coe_mul, zero_word, sub_self, mul_zero]
  have hz : (∑ x : Fin 512, ((0 : ℝ) : EReal)) = ((0 : ℝ) : EReal) := by simp
  rw [hz, sum_coe 512 (fun x => (if j0.val ≤ x then 1 else 0) * f x j1.val), ← EReal.coe_add, ← EReal.coe_add, ← EReal.coe_add, add_zero, add_zero]
  refine congrArg Real.toEReal (congrArg (· + r 0 j1.val) (Finset.sum_congr rfl fun k _ => ?_))
  rw [ite_mul, one_mul, zero_mul]

theorem pay6_enc (f r : ℕ → ℕ → ℝ) : k0_pay6 (F := Ideal) (enc2 (a := 512) (b := 128) f) (enc2 (a := 1) (b := 128) r)
    = enc2 (a := 1) (b := 128) (fun _ l => (∑ k ∈ range 512, f k l) + r 0 l) := by
  unfold k0_pay6
  rw [pay5_enc]
  funext j; idx_vars j
  pointwise
  rw [enc2_at, enc2_at]
  simp

theorem pay1_enc (d : ℕ → ℕ → ℝ) (x y : ℕ → ℕ → EReal) : k0_pay1 (F := Ideal) (enc2 (a := 512) (b := 128) d) (k0_pay7 (val2 (a := 512) (b := 128) x) (val2 (a := 1) (b := 128) y)) (k0_pay8 (val2 (a := 512) (b := 128) x) (val2 (a := 1) (b := 128) y)) (Scalar.ofBits (F := Ideal) .f32 0x00000000#32)
    = enc2 (a := 512) (b := 128) (fun a l => d a l * fall (x a l + y 0 l)) := by
  funext j; idx_vars j
  unfold k0_pay1 k0_pay8 k0_pay7
  pointwise
  exact (congrArg (fun z : EReal => ((d j0.val j1.val : ℝ) : EReal) * z) (fall_kernel (x j0.val j1.val + y 0 j1.val))).trans (EReal.coe_mul _ _).symm

theorem pay2_enc (g s : ℕ → ℕ → ℝ) (d : FVec Ideal S512x128 .f32) (x e) (z) (h : k0_pay1 (F := Ideal) d x e z = enc2 (a := 512) (b := 128) g) : k0_pay2 (F := Ideal) d x e z (enc2 (a := 1) (b := 128) s)
    = enc2 (a := 1) (b := 128) (fun _ l => s 0 l + ∑ a ∈ range 512, g a l) := by
  funext j; idx_vars j
  unfold k0_pay2
  rw [h]
  pointwise
  simp only [enc2_ix]
  rw [sum_coe 512 fun a => g a j1.val, ← EReal.coe_add]
  exact congrArg (fun n => ((s n j1.val + ∑ a ∈ range 512, g a j1.val : ℝ) : EReal)) (by have : j0.val < 1 := j0.isLt; show j0.val = 0; omega)

theorem pay3_enc : k0_pay3 (F := Ideal) = enc2 (a := 1) (b := 128) (fun _ _ => 0) := by
  funext j; idx_vars j
  unfold k0_pay3
  pointwise
  exact EReal.coe_zero.symm

theorem pay4_enc : k0_pay4 (F := Ideal) = enc2 (a := 1) (b := 128) (fun _ _ => 0) := by
  funext j; idx_vars j
  unfold k0_pay4
  pointwise
  exact EReal.coe_zero.symm

end Cert.KernelForgetIdeal.Value

end
-- ==== Proof.Scatter.lean ====
module

public import Idealize.ShloMosaic.PureOps.ShapeOps
public import Idealize.ShloMosaic.Lib.Routing.OpsSet
public import Idealize.ShloMosaic.Lib.StableHlo.RunRead

/-!
A scatter into an array of two axes.
-/

@[expose] public section

namespace Cert.Reals

open Idealize.ShloMosaic

/-- Where an element lands, when every start is zero. -/
theorem lands_of {A B : ℕ} {si u : Shape} (d : ScatterDims ⟨2, ![A, B]⟩ si u) (k : u.Idx) (z : IVec si 32) (hs : ∀ a, d.start k z a = 0) (y : (⟨2, ![A, B]⟩ : Shape).Idx) (p q : ℕ)
    (h0 : d.window k 0 = p) (h1 : d.window k 1 = q) (hp : p < A) (hq : q < B) : d.resultIdx? k z = some y ↔ p = (y 0).val ∧ q = (y 1).val := by
  unfold ScatterDims.resultIdx?
  rw [dif_pos (fun a => by
    rw [hs a]
    match a with
    | ⟨0, _⟩ => exact ⟨by positivity, by rw [show d.window k ⟨0, _⟩ = _ from h0]; show (0 : ℤ) + (p : ℤ) < A; omega⟩
    | ⟨1, _⟩ => exact ⟨by positivity, by rw [show d.window k ⟨1, _⟩ = _ from h1]; show (0 : ℤ) + (q : ℤ) < B; omega⟩)]
  constructor
  · intro h
    have h := Option.some.inj h
    refine ⟨?_, ?_⟩
    · rw [← h]; show _ = (d.start k z 0 + (d.window k 0 : ℤ)).toNat
      rw [hs, h0]; omega
    · rw [← h]; show _ = (d.start k z 1 + (d.window k 1 : ℤ)).toNat
      rw [hs, h1]; omega
  · intro ⟨e0, e1⟩
    refine congrArg some (funext fun a => Fin.ext ?_)
    match a with
    | ⟨0, _⟩ => show (d.start k z 0 + (d.window k 0 : ℤ)).toNat = (y 0).val; rw [hs, h0]; omega
    | ⟨1, _⟩ => show (d.start k z 1 + (d.window k 1 : ℤ)).toNat = (y 1).val; rw [hs, h1]; omega

end Cert.Reals

end
-- ==== Proof.Forget.Host.lean ====
module

public import proofs.«01_k».proof.Proof.Forget.Pay
public import proofs.«01_k».proof.Proof.Concat
public import proofs.«01_k».proof.Proof.Scatter
public import Idealize.ShloMosaic.Lib.StableHlo.RunRead
public import Idealize.ShloMosaic.Lib.Routing.OpsSet

/-!
What the host lines before the kernel leave in the arrays that it reads.
-/

@[expose] public section

set_option maxRecDepth 65536

noncomputable section

namespace Cert.KernelForgetIdeal.Value

open Cert.KernelForgetIdeal Cert.KernelForgetIdeal.Gen Cert.Reals Idealize.ShloMosaic Idealize.ShloMosaic.TcCoe Idealize.SL.Sem
open Stick (zero_word)

/-- The zeros that a padded array starts from, and where the update goes. -/
def zeros : Vec Ideal S8192x128 .f32 := broadcastInDim S8192x128 ![] bcast_S_S8192x128 (constant (F := Ideal) S_ .f32 0x00000000#32)
def zeroRow : Vec Ideal S1x128 .f32 := broadcastInDim S1x128 ![] bcast_S_S1x128 (constant (F := Ideal) S_ .f32 0x00000000#32)
def spot1 : IVec S1 32 := broadcastInDim S1 ![] bcast_S_S1 (constantI S_ 32 0#32)
def spot2 : IVec S2 32 := concatenate S2 0 [⟨S1, spot1⟩, ⟨S1, spot1⟩] concatenates_S1_S1_S2_d0

theorem spot2_zero (i : S2.Idx) : spot2 i = 0#32 := by
  have hi : (i 0).val < 2 := (i 0).isLt
  by_cases h : (i 0).val = 0
  · exact concat_at 0 _ _ i 0 (by simp) S1 spot1 rfl rfl (fun b => match b with | ⟨0, _⟩ => ⟨0, Nat.one_pos⟩) (fun b => match b with | ⟨0, _⟩ => h)
  · exact concat_at 0 _ _ i 1 (by simp) S1 spot1 rfl rfl (fun b => match b with | ⟨0, _⟩ => ⟨0, Nat.one_pos⟩) (fun b => match b with | ⟨0, _⟩ => (by omega : (i 0).val = 1))

variable (m : (ℓ : Loc nD τ sig) → Buf (Elt Ideal) ℓ) (c : Dev nD)

set_option maxHeartbeats 4000000 in
theorem V_dcf : V m c main_v2 = Host.scatter scatter_S8192x128_S1_S8192x8_01_n_1_0 (fun _ b => b) zeros spot1 (m ((c : Thread nD τ).loc main_arg2)) := by
  unfold V V0
  simp only [List.flatten_cons, List.flatten_nil, List.append_nil, List.cons_append, List.nil_append]
  after_reads_simp
  rfl

set_option maxHeartbeats 4000000 in
theorem V_bias : V m c main_v12 = Host.scatter scatter_S1x128_S2_S8_0_0_01_0 (fun _ b => b) zeroRow spot2 (m ((c : Thread nD τ).loc main_arg1)) := by
  unfold V V0
  simp only [List.flatten_cons, List.flatten_nil, List.append_nil, List.cons_append, List.nil_append]
  after_reads_simp
  rfl

/-- The forget gate's columns come after the first 2816 of the packed array. -/
theorem V_fl (j : S8192x3072.Idx) (h : 2816 ≤ (j 1).val) (h' : (j 1).val < 2824) : V m c main_v7 j = m ((c : Thread nD τ).loc main_arg0) (ValueIdx.ix2 (j 0) ⟨(j 1).val - 512, by omega⟩) := by
  unfold V V0
  simp only [List.flatten_cons, List.flatten_nil, List.append_nil, List.cons_append, List.nil_append]
  after_reads_simp
  refine (concat_at 1 _ _ j 2 (by simp) S8192x8 _ rfl rfl (ValueIdx.ix2 (j 0) ⟨(j 1).val - 2816, by omega⟩) (fun b => match b with
    | ⟨0, _⟩ => rfl
    | ⟨1, _⟩ => (by show (j 1).val = ((j 1).val - 2816) + (2304 + (512 + 0)); omega))).trans ?_
  refine extractStridedSlice_apply ![0, 2304] (m (c, Proc.devRef .tc main_arg0)) slices_S8192x2824_S8192x8_0_2304 _ _ (fun a => match a with | ⟨0, _⟩ => ?_ | ⟨1, _⟩ => ?_)
  · exact (Nat.zero_add _).symm
  · show (j 1).val - 512 = 2304 + ((j 1).val - 2816); omega

set_option maxHeartbeats 4000000 in
/-- The columns after those are zero. -/
theorem V_rest (j : S8192x3072.Idx) (h : 2824 ≤ (j 1).val) : V m c main_v7 j = (0 : EReal) := by
  have h1 : (j 1).val < 3072 := (j 1).isLt
  unfold V V0
  simp only [List.flatten_cons, List.flatten_nil, List.append_nil, List.cons_append, List.nil_append]
  after_reads_simp
  refine (concat_at 1 _ _ j 3 (by simp) S8192x248 _ rfl rfl (ValueIdx.ix2 (j 0) ⟨(j 1).val - 2824, by omega⟩) (fun b => match b with
    | ⟨0, _⟩ => rfl
    | ⟨1, _⟩ => (by show (j 1).val = ((j 1).val - 2824) + (2304 + (512 + (8 + 0))); omega))).trans ?_
  exact zero_word.trans EReal.coe_zero

theorem lands (k : S8192x8.Idx) (y : S8192x128.Idx) : scatter_S8192x128_S1_S8192x8_01_n_1_0.resultIdx? k spot1 = some y ↔ (k 0).val = (y 0).val ∧ (k 1).val = (y 1).val := by
  have hs : ∀ a, scatter_S8192x128_S1_S8192x8_01_n_1_0.start k spot1 a = 0 := fun a => by
    unfold ScatterDims.start
    split
    · rfl
    · rfl
  exact lands_of _ k spot1 hs y (k 0).val (k 1).val rfl rfl (k 0).isLt (show (k 1).val < 128 from lt_of_lt_of_le (k 1).isLt (by decide))

theorem lands_row (k : S8.Idx) (y : S1x128.Idx) : scatter_S1x128_S2_S8_0_0_01_0.resultIdx? k spot2 = some y ↔ 0 = (y 0).val ∧ (k 0).val = (y 1).val := by
  have hs : ∀ a, scatter_S1x128_S2_S8_0_0_01_0.start k spot2 a = 0 := fun a => by
    unfold ScatterDims.start
    split
    · exact congrArg BitVec.toInt (spot2_zero _)
    · rfl
  exact lands_of _ k spot2 hs y 0 (k 0).val rfl rfl Nat.one_pos (show (k 0).val < 128 from lt_of_lt_of_le (k 0).isLt (by decide))

variable {P : ℕ → ℕ → EReal} {C : ℕ → ℕ → ℝ} {B : ℕ → EReal}

section
variable (hC : m ((c : Thread nD τ).loc main_arg2) = enc2 (a := 8192) (b := 8) C)
include hC
theorem dcf_enc : V m c main_v2 = enc2 (a := 8192) (b := 128) (fun t l => if l < 8 then C t l else 0) := by
  rw [V_dcf, hC]
  funext y
  by_cases h : (y 1).val < 8
  · refine (Routing.scatter_set_hit _ _ _ _ y ((C (y 0).val (y 1).val : ℝ) : EReal) (fun k hk => ?_) (ValueIdx.ix2 (y 0) ⟨(y 1).val, h⟩) ((lands _ _).2 ⟨rfl, rfl⟩)).trans ?_
    · obtain ⟨e0, e1⟩ := (lands _ _).1 hk
      exact congrArg Real.toEReal (congrArg₂ C e0 e1)
    · exact congrArg Real.toEReal (if_pos h).symm
  · refine (Routing.scatter_set_miss _ _ _ _ y (fun k hk => h ?_)).trans ?_
    · obtain ⟨e0, e1⟩ := (lands _ _).1 hk
      rw [← e1]; exact (k 1).isLt
    · exact zero_word.trans (congrArg Real.toEReal (if_neg h).symm)
end

section
variable (hB : m ((c : Thread nD τ).loc main_arg1) = val1 (a := 8) B)
include hB
theorem bias_enc : V m c main_v12 = val2 (a := 1) (b := 128) (fun _ l => if l < 8 then B l else 0) := by
  rw [V_bias, hB]
  funext y
  have hy : (y 0).val < 1 := (y 0).isLt
  by_cases h : (y 1).val < 8
  · refine (Routing.scatter_set_hit _ _ _ _ y (B (y 1).val) (fun k hk => ?_) (fun q => match q with | ⟨0, _⟩ => ⟨(y 1).val, h⟩) ((lands_row _ _).2 ⟨by omega, rfl⟩)).trans ?_
    · obtain ⟨e0, e1⟩ := (lands_row _ _).1 hk
      exact congrArg B e1
    · exact (if_pos h).symm
  · refine (Routing.scatter_set_miss _ _ _ _ y (fun k hk => h ?_)).trans ?_
    · obtain ⟨e0, e1⟩ := (lands_row _ _).1 hk
      rw [← e1]; exact (k 0).isLt
    · exact zero_word.trans (if_neg h).symm
end

end Cert.KernelForgetIdeal.Value

end
-- ==== Proof.Forget.Outs.lean ====
module

public import proofs.«01_k».proof.Proof.Forget.Host

/-!
What the points of the grid leave, over real arguments. The blocks come from the last to the first.
-/

@[expose] public section

set_option maxRecDepth 16384

noncomputable section

namespace Cert.KernelForgetIdeal.Value

open Cert.KernelForgetIdeal Cert.KernelForgetIdeal.Gen Cert.Reals Idealize.ShloMosaic Idealize.ShloMosaic.TcCoe Idealize.SL.Sem
open Idealize.ShloMosaic.Pipeline (Dat)
open Finset (range Ico)

/-- The sum of the rows from `s` on. -/
def later (f : ℕ → ℕ → ℝ) (s l : ℕ) : ℝ := ∑ r ∈ Ico s 8192, f r l

theorem later_end (f : ℕ → ℕ → ℝ) (l : ℕ) : later f 8192 l = 0 := by simp [later]

theorem later_step (f : ℕ → ℕ → ℝ) (s a l : ℕ) (ha : a ≤ 512) (hs : s + 512 ≤ 8192) :
    (∑ k ∈ range 512, (if a ≤ k then f (s + k) l else 0)) + later f (s + 512) l = later f (s + a) l := by
  unfold later
  rw [← Finset.sum_Ico_consecutive (fun r => f r l) (show s + a ≤ s + 512 by omega) hs]
  congr 1
  rw [← Finset.sum_filter, show (range 512).filter (a ≤ ·) = Ico a 512 from by ext k; simp; omega, Finset.sum_Ico_add (fun r => f r l) a 512 s]
  rw [add_comm a, add_comm 512]

theorem later_block (f : ℕ → ℕ → ℝ) (s l : ℕ) (hs : s + 512 ≤ 8192) : (∑ k ∈ range 512, f (s + k) l) + later f (s + 512) l = later f s l := by
  have := later_step f s 0 l (by omega) hs
  simpa using this

theorem idx : ∀ t : Fin cfg0.N, win0_0.index t = ![15 - t.val, 22] ∧ win0_1.index t = ![0, 0] ∧ win0_2.index t = ![15 - t.val, 0]
    ∧ win0_3.index t = ![15 - t.val, 0] ∧ win0_4.index t = ![0, 0] :=
  (by decide +kernel : ∀ t : Fin grid0.N, _)

theorem tlt (t : Fin cfg0.N) : t.val < 16 := t.isLt

section
variable (P : ℕ → ℕ → EReal) (C : ℕ → ℕ → ℝ) (B : ℕ → EReal)
/-- The argument of the gate, the gradient that arrives at it, and the gate's gradient. -/
def gate (s l : ℕ) : EReal := (if l < 8 then P s (2304 + l) else 0) + (if l < 8 then B l else 0)
def come (s l : ℕ) : ℝ := if l < 8 then C s l else 0
def dgate (s l : ℕ) : ℝ := later (come C) s l * fall (gate P B s l)
end

variable (m : (ℓ : Loc nD τ sig) → Buf (Elt Ideal) ℓ) (c : Dev nD) {P : ℕ → ℕ → EReal} {C : ℕ → ℕ → ℝ} {B : ℕ → EReal}
  (hP : m ((c : Thread nD τ).loc main_arg0) = val2 (a := 8192) (b := 2824) P) (hB : m ((c : Thread nD τ).loc main_arg1) = val1 (a := 8) B)
  (hC : m ((c : Thread nD τ).loc main_arg2) = enc2 (a := 8192) (b := 8) C) (t : Fin cfg0.N)

include hP in
theorem blk0 : iblk m c 0 t = val2 (a := 512) (b := 128) (fun a l => if l < 8 then P (512 * (15 - t.val) + a) (2304 + l) else 0) := by
  funext j
  have h0 : (j 0).val < 512 := (j 0).isLt
  have h1 : (j 1).val < 128 := (j 1).isLt
  have ht := tlt t
  have hb : iblk m c 0 t j = V m c main_v7 (ValueIdx.ix2 ⟨512 * (15 - t.val) + (j 0).val, by omega⟩ ⟨2816 + (j 1).val, by omega⟩) := by
    refine congrArg (V m c main_v7) (funext fun a => Fin.ext (((cfg0.win 0).rect_emb_val t j a).trans ?_))
    have h : win0_0.index t = _ := (idx t).1
    match a with
    | ⟨0, _⟩ => show win0_0.index t 0 * 512 + (j 0).val = 512 * (15 - t.val) + (j 0).val; rw [h]; show (15 - t.val) * 512 + (j 0).val = _; omega
    | ⟨1, _⟩ => show win0_0.index t 1 * 128 + (j 1).val = 2816 + (j 1).val; rw [h]; show 22 * 128 + (j 1).val = _; omega
  rw [hb]
  by_cases h : (j 1).val < 8
  · rw [V_fl m c _ (by show 2816 ≤ 2816 + (j 1).val; omega) (by show 2816 + (j 1).val < 2824; omega), hP]
    refine (congrArg (P (512 * (15 - t.val) + (j 0).val)) ?_).trans (if_pos h).symm
    show 2816 + (j 1).val - 512 = 2304 + (j 1).val; omega
  · rw [V_rest m c _ (by show 2824 ≤ 2816 + (j 1).val; omega)]
    exact (if_neg h).symm

include hB in
theorem blk1 : iblk m c 1 t = val2 (a := 1) (b := 128) (fun _ l => if l < 8 then B l else 0) := by
  funext j
  have hb : iblk m c 1 t j = V m c main_v12 j := by
    refine congrArg (V m c main_v12) (funext fun a => Fin.ext (((cfg0.win 1).rect_emb_val t j a).trans ?_))
    have h : win0_1.index t = _ := (idx t).2.1
    match a with
    | ⟨0, _⟩ => show win0_1.index t 0 * 1 + (j 0).val = (j 0).val; rw [h]; show 0 * 1 + (j 0).val = _; omega
    | ⟨1, _⟩ => show win0_1.index t 1 * 128 + (j 1).val = (j 1).val; rw [h]; show 0 * 128 + (j 1).val = _; omega
  rw [hb, bias_enc m c hB]

include hC in
theorem blk2 : iblk m c 2 t = enc2 (a := 512) (b := 128) (fun a l => come C (512 * (15 - t.val) + a) l) := by
  funext j
  have h0 : (j 0).val < 512 := (j 0).isLt
  have ht := tlt t
  have hb : iblk m c 2 t j = V m c main_v2 (ValueIdx.ix2 ⟨512 * (15 - t.val) + (j 0).val, by omega⟩ (j 1)) := by
    refine congrArg (V m c main_v2) (funext fun a => Fin.ext (((cfg0.win 2).rect_emb_val t j a).trans ?_))
    have h : win0_2.index t = _ := (idx t).2.2.1
    match a with
    | ⟨0, _⟩ => show win0_2.index t 0 * 512 + (j 0).val = 512 * (15 - t.val) + (j 0).val; rw [h]; show (15 - t.val) * 512 + (j 0).val = _; omega
    | ⟨1, _⟩ => show win0_2.index t 1 * 128 + (j 1).val = (j 1).val; rw [h]; show 0 * 128 + (j 1).val = _; omega
  rw [hb, dcf_enc m c hC]; rfl

/-- What a block gives, over what the later blocks left. -/
theorem step_enc (s : ℕ) (hs : s + 512 ≤ 8192) (fl dc : Vec Ideal S512x128 .f32) (bi run db : Vec Ideal S1x128 .f32)
    (hfl : fl = val2 (a := 512) (b := 128) (fun a l => if l < 8 then P (s + a) (2304 + l) else 0)) (hbi : bi = val2 (a := 1) (b := 128) (fun _ l => if l < 8 then B l else 0))
    (hdc : dc = enc2 (a := 512) (b := 128) (fun a l => come C (s + a) l)) (hrun : run = enc2 (a := 1) (b := 128) (fun _ l => later (come C) (s + 512) l))
    (hdb : db = enc2 (a := 1) (b := 128) (fun _ l => later (dgate P C B) (s + 512) l)) :
    k0_pay1 (F := Ideal) (k0_pay5 dc run) (k0_pay7 fl bi) (k0_pay8 fl bi) (Scalar.ofBits (F := Ideal) .f32 0x00000000#32) = enc2 (a := 512) (b := 128) (fun a l => dgate P C B (s + a) l)
    ∧ k0_pay2 (F := Ideal) (k0_pay5 dc run) (k0_pay7 fl bi) (k0_pay8 fl bi) (Scalar.ofBits (F := Ideal) .f32 0x00000000#32) db = enc2 (a := 1) (b := 128) (fun _ l => later (dgate P C B) s l)
    ∧ k0_pay6 (F := Ideal) dc run = enc2 (a := 1) (b := 128) (fun _ l => later (come C) s l) := by
  have h5 : k0_pay5 (F := Ideal) dc run = enc2 (a := 512) (b := 128) (fun a l => later (come C) (s + a) l) := by
    rw [hdc, hrun, pay5_enc]
    exact enc2_congr fun a ha l _ => later_step (come C) s a l (by omega) hs
  have h1 : k0_pay1 (F := Ideal) (k0_pay5 dc run) (k0_pay7 fl bi) (k0_pay8 fl bi) (Scalar.ofBits (F := Ideal) .f32 0x00000000#32) = enc2 (a := 512) (b := 128) (fun a l => dgate P C B (s + a) l) := by
    rw [h5, hfl, hbi, pay1_enc]; rfl
  refine ⟨h1, ?_, ?_⟩
  · rw [hdb, pay2_enc _ _ _ _ _ _ h1]
    exact enc2_congr fun a ha l _ => (add_comm _ _).trans (later_block (dgate P C B) s l hs)
  · rw [hdc, hrun, pay6_enc]
    exact enc2_congr fun a ha l _ => later_block (come C) s l hs

include hP hB hC in
theorem outs_enc : ∀ (n : ℕ) (h : n < cfg0.N), outsAt0 m c n h = (enc2 (a := 512) (b := 128) (fun a l => dgate P C B (512 * (15 - n) + a) l),
    enc2 (a := 1) (b := 128) (fun _ l => later (dgate P C B) (512 * (15 - n)) l), enc2 (a := 1) (b := 128) (fun _ l => later (come C) (512 * (15 - n)) l))
  | 0, h => by
    obtain ⟨e1, e2, e3⟩ := step_enc (P := P) (C := C) (B := B) (512 * (15 - 0)) (by omega) _ _ _ (k0_pay3 (F := Ideal)) (k0_pay4 (F := Ideal)) (blk0 m c hP ⟨0, h⟩) (blk1 m c hB ⟨0, h⟩) (blk2 m c hC ⟨0, h⟩)
      (pay3_enc.trans (enc2_congr fun _ _ l _ => (later_end _ l).symm)) (pay4_enc.trans (enc2_congr fun _ _ l _ => (later_end _ l).symm))
    rw [outsAt0_A m c ⟨0, h⟩ rfl, ← e1, ← e2, ← e3]
    refine Prod.ext ?_ (Prod.ext ?_ ?_)
    · frame_out
    · frame_out
    · frame_out
  | n + 1, h => by
    have hn : n + 1 < 16 := h
    have ih := outs_enc n (Nat.lt_of_succ_lt h)
    obtain ⟨e1, e2, e3⟩ := step_enc (P := P) (C := C) (B := B) (512 * (15 - (n + 1))) (by omega) _ _ _ _ _ (blk0 m c hP ⟨n + 1, h⟩) (blk1 m c hB ⟨n + 1, h⟩) (blk2 m c hC ⟨n + 1, h⟩)
      (((congrArg (·.2.2) ih).trans (enc2_congr fun _ _ l _ => congrArg (later (come C) · l) (by omega)))) ((congrArg (·.2.1) ih).trans (enc2_congr fun _ _ l _ => congrArg (later (dgate P C B) · l) (by omega)))
    rw [outsAt0_B m c ⟨n + 1, h⟩ (by show ¬(n + 1) % 16 = 0; omega), ← e1, ← e2, ← e3]
    refine Prod.ext ?_ (Prod.ext ?_ ?_)
    · frame_out; rw [show ∀ X, View.read (Elt Ideal) (View.whole cc0_scratch0) ((Memref.isWhole_whole cc0_scratch0).unread X) = X from fun X => (Memref.isWhole_whole cc0_scratch0).read_unread X]; rfl
    · frame_out; rw [show ∀ X, View.read (Elt Ideal) (View.whole cc0_scratch0) ((Memref.isWhole_whole cc0_scratch0).unread X) = X from fun X => (Memref.isWhole_whole cc0_scratch0).read_unread X]; rfl
    · frame_out; rw [show ∀ X, View.read (Elt Ideal) (View.whole cc0_scratch0) ((Memref.isWhole_whole cc0_scratch0).unread X) = X from fun X => (Memref.isWhole_whole cc0_scratch0).read_unread X]; rfl

include hP hB hC in
theorem final_3 : (dats m 0 c).arrAt 3 cfg0.N = enc2 (a := 8192) (b := 128) (dgate P C B) := by
  refine (dats m 0 c).arrAt_eq_of_covers 3 _ (by decide +kernel) fun t hf y => ?_
  have e := congrArg Prod.fst (outs_enc m c hP hB hC t.val t.isLt)
  have i0 : win0_3.index t 0 = 15 - t.val := congrFun (idx t).2.2.2.1 0
  have e0 : (((cfg0.win 3).blk t).view.emb y 0).val = 512 * (15 - t.val) + (y 0).val :=
    ((cfg0.win 3).rect_emb_val t y 0).trans (by show win0_3.index t 0 * 512 + (y 0).val = _; rw [i0, mul_comm])
  have i1 : win0_3.index t 1 = 0 := congrFun (idx t).2.2.2.1 1
  have e1 : (((cfg0.win 3).blk t).view.emb y 1).val = (y 1).val :=
    ((cfg0.win 3).rect_emb_val t y 1).trans (by show win0_3.index t 1 * 128 + (y 1).val = _; rw [i1, zero_mul, zero_add])
  rw [after0_3, e]
  exact congrArg Real.toEReal (congrArg₂ (dgate P C B) e0.symm e1.symm)

include hP hB hC in
theorem final_4 : (dats m 0 c).arrAt 4 cfg0.N = enc2 (a := 1) (b := 128) fun _ l => later (dgate P C B) 0 l := by
  refine (dats m 0 c).arrAt_eq_of_covers 4 _ (by decide +kernel) fun t hf y => ?_
  have e := congrArg (fun x => x.2.1) (outs_enc m c hP hB hC t.val t.isLt)
  have hl : t.val = 15 := by have := (flush0_4 t).mp hf; have := tlt t; omega
  have i1 : win0_4.index t 1 = 0 := congrFun (idx t).2.2.2.2 1
  have e1 : (((cfg0.win 4).blk t).view.emb y 1).val = (y 1).val :=
    ((cfg0.win 4).rect_emb_val t y 1).trans (by show win0_4.index t 1 * 128 + (y 1).val = _; rw [i1, zero_mul, zero_add])
  rw [after0_4, e]
  refine congrArg Real.toEReal (?_ : later (dgate P C B) (512 * (15 - t.val)) (y 1).val = later (dgate P C B) 0 _)
  rw [hl]; exact congrArg (later (dgate P C B) 0) e1.symm

theorem dfl_after : Pipeline.withArrays (cfgs 0).spec c (V0 m c) (fun w => (dats m 0 c).arrAt w (cfgs 0).N) main_v13_0 = (dats m 0 c).arrAt 3 cfg0.N :=
  Pipeline.withArrays_arr (cfgs 0).spec (by decide) c (V0 m c) (fun w => (dats m 0 c).arrAt w (cfgs 0).N) 3
theorem db_after : Pipeline.withArrays (cfgs 0).spec c (V0 m c) (fun w => (dats m 0 c).arrAt w (cfgs 0).N) main_v13_1 = (dats m 0 c).arrAt 4 cfg0.N :=
  Pipeline.withArrays_arr (cfgs 0).spec (by decide) c (V0 m c) (fun w => (dats m 0 c).arrAt w (cfgs 0).N) 4

include hP hB hC in
theorem tail_dfl : Pipeline.afterTail₀ cfgs (dats m) 0 (V0 m) [hostOps1] c main_v14 = enc2 (a := 8192) (b := 8) (dgate P C B) := by
  unfold Pipeline.afterTail₀
  change StableHlo.after hostOps1 _ _ = _
  unfold hostOps1
  after_results
  rw [dfl_after, final_3 m c hP hB hC]
  funext j
  idx_vars j
  pointwise
  rfl

include hP hB hC in
theorem tail_db : Pipeline.afterTail₀ cfgs (dats m) 0 (V0 m) [hostOps1] c main_v16 = enc1 (a := 8) (later (dgate P C B) 0) := by
  unfold Pipeline.afterTail₀
  change StableHlo.after hostOps1 _ _ = _
  unfold hostOps1
  after_results
  rw [db_after, final_4 m c hP hB hC]
  funext j
  pointwise
  rfl

end Cert.KernelForgetIdeal.Value

end
-- ==== Proof.Rows.lean ====
module

public import proofs.«01_k».proof.Proof.Cumsum
public import proofs.«01_k».proof.Proof.Reals
public import Idealize.ShloMosaic.PureOps.Ideal.Laws
public import Idealize.ShloMosaic.Lib.ValueIdx

/-!
The sums of an array's rows from each row on, and up to each row, as the host takes them.
-/

@[expose] public section

noncomputable section

namespace Cert.Reals

open Idealize.ShloMosaic
open Idealize.ShloMosaic.ValueIdx (ix2)

open Finset (range Ico)

/-- A sum over the positions of a window that is one wide on the second axis. -/
theorem sum_column {n : ℕ} (G : (⟨2, ![n, 1]⟩ : Shape).Idx → EReal) :
    (∑ k : Fin (⟨2, ![n, 1]⟩ : Shape).numel, G ((⟨2, ![n, 1]⟩ : Shape).rowMajor.symm k)) = ∑ k : Fin n, G (ix2 k 0) := by
  rw [Equiv.sum_comp (⟨2, ![n, 1]⟩ : Shape).rowMajor.symm G]
  refine (Fintype.sum_bijective (fun k : Fin n => (ix2 k 0 : (⟨2, ![n, 1]⟩ : Shape).Idx)) ⟨fun a b h => congrFun h 0, fun w => ⟨w 0, ?_⟩⟩ _ _ fun k => rfl).symm
  funext a
  match a with
  | ⟨0, _⟩ => rfl
  | ⟨1, _⟩ => exact Subsingleton.elim (α := Fin 1) _ _

/-- The sum of the rows from a row on, as a window sum with its padding after the array. -/
theorem rows_after {N M : ℕ} (lo hi : Fin 2 → ℕ) (h0 : lo 0 = 0) (h1 : lo 1 = 0) (f : ℕ → ℕ → ℝ) {u : Shape} (init : u.Idx → EReal)
    (h : (⟨2, ![N, M]⟩ : Shape).ReduceWindows ![N, 1] ![1, 1] lo hi ⟨2, ![N, M]⟩) (hu : 0 < u.numel) (hi0 : init (Shape.Idx.first hu) = 0) :
    Host.reduceWindowAdd (F := Ideal) (φ := .f32) (s := ⟨2, ![N, M]⟩) (t := ⟨2, ![N, M]⟩) ![N, 1] ![1, 1] lo hi (enc2 f) init h hu
      = enc2 (fun r l => ∑ s ∈ Ico r N, f s l) := by
  funext j
  have hj0 : (j 0).val < N := (j 0).isLt
  have hj1 : (j 1).val < M := (j 1).isLt
  show Host.reduceWindow (t := ⟨2, ![N, M]⟩) (· + ·) ![N, 1] ![1, 1] lo hi (enc2 f : (⟨2, ![N, M]⟩ : Shape).Idx → EReal) (fun _ : u.Idx => init (Shape.Idx.first hu)) h hu j = _
  unfold Host.reduceWindow
  dsimp only
  rw [hi0, foldl_add, zero_add, ← Fin.sum_univ_def]
  refine (sum_column (n := N) (fun w => if hin : ∀ a : Fin 2, lo a ≤ (j a).val * (![1, 1] : Fin 2 → ℕ) a + (w a).val ∧ (j a).val * (![1, 1] : Fin 2 → ℕ) a + (w a).val - lo a < (![N, M] : Fin 2 → ℕ) a
    then enc2 f (fun a => ⟨(j a).val * (![1, 1] : Fin 2 → ℕ) a + (w a).val - lo a, (hin a).2⟩) else 0)).trans ?_
  have hr : (∑ s ∈ Ico (j 0).val N, f s (j 1).val) = ∑ k ∈ range N, if (j 0).val + k < N then f ((j 0).val + k) (j 1).val else 0 := by
    rw [← Finset.sum_filter, Finset.sum_Ico_eq_sum_range]
    refine Finset.sum_congr ?_ fun _ _ => rfl
    ext k; simp only [Finset.mem_filter, Finset.mem_range]; omega
  rw [enc2_at, hr, ← sum_coe N fun k => if (j 0).val + k < N then f ((j 0).val + k) (j 1).val else 0]
  refine Finset.sum_congr rfl fun k _ => ?_
  by_cases hk : (j 0).val + k.val < N
  · rw [dif_pos (by
      intro a
      match a with
      | ⟨0, _⟩ => show lo 0 ≤ (j 0).val * 1 + k.val ∧ (j 0).val * 1 + k.val - lo 0 < N; omega
      | ⟨1, _⟩ => show lo 1 ≤ (j 1).val * 1 + 0 ∧ (j 1).val * 1 + 0 - lo 1 < M; omega), if_pos hk]
    show ((f ((j 0).val * 1 + k.val - lo 0) ((j 1).val * 1 + 0 - lo 1) : ℝ) : EReal) = _
    rw [h0, h1, mul_one, mul_one]; rfl
  · rw [if_neg hk, dif_neg (fun hin => hk (by have := hin 0; change lo 0 ≤ (j 0).val * 1 + k.val ∧ (j 0).val * 1 + k.val - lo 0 < N at this; omega))]
    rfl

/-- The sum of the rows up to a row, as a window sum with its padding before the array. -/
theorem rows_upto {N M : ℕ} (lo hi : Fin 2 → ℕ) (h0 : lo 0 + 1 = N) (h1 : lo 1 = 0) (f : ℕ → ℕ → EReal) {u : Shape} (init : u.Idx → EReal)
    (h : (⟨2, ![N, M]⟩ : Shape).ReduceWindows ![N, 1] ![1, 1] lo hi ⟨2, ![N, M]⟩) (hu : 0 < u.numel) (hi0 : init (Shape.Idx.first hu) = 0) :
    Host.reduceWindowAdd (F := Ideal) (φ := .f32) (s := ⟨2, ![N, M]⟩) (t := ⟨2, ![N, M]⟩) ![N, 1] ![1, 1] lo hi (fun i => f (i 0).val (i 1).val) init h hu
      = fun j => ∑ s ∈ range ((j 0).val + 1), f s (j 1).val := by
  funext j
  have hj0 : (j 0).val < N := (j 0).isLt
  have hj1 : (j 1).val < M := (j 1).isLt
  show Host.reduceWindow (t := ⟨2, ![N, M]⟩) (· + ·) ![N, 1] ![1, 1] lo hi ((fun i => f (i 0).val (i 1).val) : (⟨2, ![N, M]⟩ : Shape).Idx → EReal) (fun _ : u.Idx => init (Shape.Idx.first hu)) h hu j = _
  unfold Host.reduceWindow
  dsimp only
  rw [hi0, foldl_add, zero_add, ← Fin.sum_univ_def]
  refine (sum_column (n := N) (fun w => if hin : ∀ a : Fin 2, lo a ≤ (j a).val * (![1, 1] : Fin 2 → ℕ) a + (w a).val ∧ (j a).val * (![1, 1] : Fin 2 → ℕ) a + (w a).val - lo a < (![N, M] : Fin 2 → ℕ) a
    then (fun i : (⟨2, ![N, M]⟩ : Shape).Idx => f (i 0).val (i 1).val) (fun a => ⟨(j a).val * (![1, 1] : Fin 2 → ℕ) a + (w a).val - lo a, (hin a).2⟩) else 0)).trans ?_
  have hr : (∑ s ∈ range ((j 0).val + 1), f s (j 1).val) = ∑ k ∈ range N, if lo 0 ≤ (j 0).val + k then f ((j 0).val + k - lo 0) (j 1).val else 0 := by
    rw [← Finset.sum_filter]
    refine Finset.sum_bij' (fun s _ => s + lo 0 - (j 0).val) (fun k _ => (j 0).val + k - lo 0) ?_ ?_ ?_ ?_ ?_
    · intro s hs; simp only [Finset.mem_filter, Finset.mem_range] at hs ⊢; omega
    · intro k hk; simp only [Finset.mem_filter, Finset.mem_range] at hk ⊢; omega
    · intro s hs; simp only [Finset.mem_range] at hs; omega
    · intro k hk; simp only [Finset.mem_filter, Finset.mem_range] at hk; omega
    · intro s hs; simp only [Finset.mem_range] at hs; exact congrArg (f · (j 1).val) (by omega)
  refine Eq.trans ?_ hr.symm
  rw [← Fin.sum_univ_eq_sum_range (fun k => if lo 0 ≤ (j 0).val + k then f ((j 0).val + k - lo 0) (j 1).val else 0) N]
  refine Finset.sum_congr rfl fun k _ => ?_
  have hk' := k.isLt
  by_cases hk : lo 0 ≤ (j 0).val + k.val
  · rw [dif_pos (by
      intro a
      match a with
      | ⟨0, _⟩ => show lo 0 ≤ (j 0).val * 1 + k.val ∧ (j 0).val * 1 + k.val - lo 0 < N; omega
      | ⟨1, _⟩ => show lo 1 ≤ (j 1).val * 1 + 0 ∧ (j 1).val * 1 + 0 - lo 1 < M; omega), if_pos hk]
    show f ((j 0).val * 1 + k.val - lo 0) ((j 1).val * 1 + 0 - lo 1) = _
    rw [h1, mul_one, mul_one]; rfl
  · rw [if_neg hk, dif_neg (fun hin => hk (by have := (hin 0).1; change lo 0 ≤ (j 0).val * 1 + k.val at this; omega))]

end Cert.Reals

end
-- ==== Proof.Forget.Ref.lean ====
module

public import proofs.«01_k».proof.Proof.Enc
public import proofs.«01_k».proof.Proof.Rows
public import proofs.«01_k».proof.Proof.Forget.Fall
public import proofs.«01_k».proof.Proof.Gen.ReferenceForgetIdeal.Read

/-!
The reference's results over real arguments.
-/

@[expose] public section

set_option maxRecDepth 16384

noncomputable section

namespace Cert.ReferenceForgetIdeal.Value

open Cert.ReferenceForgetIdeal Cert.ReferenceForgetIdeal.Gen Cert.ReferenceForgetIdeal.Read Cert.Reals Idealize.ShloMosaic
open Finset (range Ico)
open Stick (soft slope)

variable (P : ℕ → ℕ → EReal) (C : ℕ → ℕ → ℝ) (B : ℕ → EReal)

theorem gate_enc : val_main_v3 (F := Ideal) (val2 P) (val1 B) = val2 (fun s l => P s (2304 + l) + B l) := by
  funext i
  idx_vars i
  unfold val_main_v3 val_main_v0 val_main_v2 val_main_v1
  pointwise
  rfl

theorem fall_enc : val_main_v4_1 (F := Ideal) (val2 P) (val1 B) = enc2 (fun s l => fall (P s (2304 + l) + B l)) := by
  funext i
  have hs : val_main_call0_v1_0 (F := Ideal) (val2 P) (val1 B) i = soft (-val_main_v3 (F := Ideal) (val2 P) (val1 B) i) := rfl
  have h : val_main_v4_1 (F := Ideal) (val2 P) (val1 B) i = slope (-val_main_v3 (F := Ideal) (val2 P) (val1 B) i) := by
    rw [val_main_v4_1_apply, val_main_call0_call0_v21_apply, val_main_call0_call0_v20_apply, val_main_call0_call0_v18_apply, hs, val_main_call0_call0_v16_apply, val_main_call0_call0_v14_apply, val_main_call0_call0_v15_apply, val_main_call0_call0_cst_1_apply, val_main_call0_call0_v13_apply, val_main_call0_call0_cst_0_apply, val_main_call0_call0_v19_apply, val_main_call0_call0_cst_3_apply, val_main_call0_call0_v17_apply, val_main_call0_call0_cst_2_apply, val_main_call0_v0_apply]
    exact congrArg (fun y : EReal => slope y) (rfl : FloatOps.hostNegf (F := Ideal) (φ := .f32) (val_main_v3 (F := Ideal) (val2 P) (val1 B) i) = -(val_main_v3 (F := Ideal) (val2 P) (val1 B) i))
  rw [h, gate_enc, fall_slope]; rfl

theorem sums_enc : val_main_v6 (F := Ideal) (enc2 C) = enc2 (fun s l => ∑ r ∈ Ico s 8192, C r l) := by
  unfold val_main_v6
  exact rows_after (N := 8192) (M := 8) _ _ rfl rfl C _ _ _ (by show Ideal.ofBits .f32 0x00000000#32 = 0; rw [Stick.zero_word]; rfl)

/-- The gate's gradient. -/
theorem dfl_enc : val_main_v7 (F := Ideal) (val2 P) (val1 B) (enc2 C) = enc2 (fun s l => (∑ r ∈ Ico s 8192, C r l) * fall (P s (2304 + l) + B l)) := by
  funext i
  show -(-val_main_v6 (F := Ideal) (enc2 C) i * val_main_v4_1 (F := Ideal) (val2 P) (val1 B) i) = _
  rw [sums_enc, fall_enc, enc2_at, enc2_at, ← EReal.coe_neg, ← EReal.coe_mul, ← EReal.coe_neg, neg_mul, neg_neg]; rfl

theorem db_enc : val_main_v10 (F := Ideal) (val2 P) (val1 B) (enc2 C) = enc1 (fun l => ∑ s ∈ Ico 0 8192, (∑ r ∈ Ico s 8192, C r l) * fall (P s (2304 + l) + B l)) := by
  have h8 : val_main_v8 (F := Ideal) (val2 P) (val1 B) (enc2 C) = enc1 (fun l => ∑ s ∈ range 8192, (∑ r ∈ Ico s 8192, C r l) * fall (P s (2304 + l) + B l)) := by
    unfold val_main_v8
    rw [dfl_enc]
    funext i
    pointwise
    have h0 : val_main_cst (F := Ideal) (Shape.Idx.first h_S_) = 0 := EReal.coe_zero ▸ Stick.zero_word
    exact (congrArg₂ (· + ·) h0 (sum_coe 8192 fun s => (∑ r ∈ Ico s 8192, C r (i 0).val) * fall (P s (2304 + (i 0).val) + B (i 0).val))).trans (zero_add _)
  unfold val_main_v10 val_main_v9
  rw [h8]
  funext i
  pointwise
  have h0 : val_main_cst_0 (F := Ideal) (Shape.Idx.first h_S_) = 0 := EReal.coe_zero ▸ Stick.zero_word
  exact (congrArg₂ (· + ·) h0 (Fin.sum_univ_one _)).trans ((zero_add _).trans (by rw [Finset.range_eq_Ico]))

end Cert.ReferenceForgetIdeal.Value

end
-- ==== Proof.Forget.Claim.lean ====
/- The forget gate's backward call computes the gradients of the running sums of the log gates. -/
module

public import proofs.«01_k».proof.Defs
public import proofs.«01_k».proof.Proof.Finite
public import proofs.«01_k».proof.Proof.Forget.Outs
public import proofs.«01_k».proof.Proof.Forget.Ref
public import proofs.«01_k».proof.Proof.Gen.Pre_finite_cumf
public import proofs.«01_k».proof.Proof.Gen.ReferenceForgetIdeal.Run
public import proofs.«01_k».proof.Proof.Gen.ReferenceForgetIdeal.Read
public import Idealize.ShloMosaic.Lib.Claim
public import Idealize.ShloMosaic.Lib.Pipeline.FrameSuffix

@[expose] public section

set_option maxRecDepth 16384

noncomputable section

namespace Cert.KernelForgetIdeal.Value

open Cert.KernelForgetIdeal Cert.KernelForgetIdeal.Gen Cert.Reals Idealize.ShloMosaic Idealize.ShloMosaic.TcCoe Idealize.SL.Sem
open Idealize.ShloMosaic.Pipeline (Dat)
open Finset (range Ico)

/-- Under the precondition the gradient that arrives is an array of reals. -/
theorem finite_args (p : FVec Ideal S8192x2824 .f32) (b : FVec Ideal S8 .f32) (d : FVec Ideal S8192x8 .f32) (h : Cert.Pre_finite_cumf.fn (F := Ideal) p b d = fun _ => 1#1) : ∃ C : ℕ → ℕ → ℝ, d = enc2 C := by
  have hd := congrFun h (Shape.Idx.first (by decide))
  unfold Cert.Pre_finite_cumf.fn at hd
  haveI : Subsingleton Cert.Pre_finite_cumf.S_.Idx := ⟨fun a b => funext fun q => q.elim0⟩
  exact ⟨_, enc2_of_real d fun i => real_of_abs _ (Host.reduce_andi_all _ _ _ _ _ hd i)⟩

/-- The reference terminates, leaves its arguments alone and every semaphore at zero. -/
theorem frame_reference : Cert.quiescent_ReferenceForgetIdeal := fun m g _ =>
  (θ_run Cert.ReferenceForgetIdeal.defs _ _).mono (fun r h => ⟨fun c => (h c).2.2, sem_eq_zero_of_no_sems (by decide) r.2⟩)
    (Cert.ReferenceForgetIdeal.Value.run (F := Ideal) m g)

theorem dgate_lanes (P : ℕ → ℕ → EReal) (C : ℕ → ℕ → ℝ) (B : ℕ → EReal) (s l : ℕ) (hl : l < 8) : (∑ r ∈ Ico s 8192, C r l) * fall (P s (2304 + l) + B l) = dgate P C B s l := by
  unfold dgate later come gate
  rw [if_pos hl, if_pos hl]
  exact congrArg (· * _) (Finset.sum_congr rfl fun r _ => (if_pos hl).symm)

/-- The two programs' results are the same where they get the same arguments. -/
theorem results_eq (m : (ℓ : Loc nD τ sig) → Buf (Elt Ideal) ℓ)
    (m' : (ℓ : Loc Cert.ReferenceForgetIdeal.nD Cert.ReferenceForgetIdeal.τ Cert.ReferenceForgetIdeal.sig) → Buf (Elt Ideal) ℓ) (c : Dev nD)
    (h : Cert.Pre_finite_cumf.fn (F := Ideal) (m ((c : Thread nD τ).loc main_arg0)) (m ((c : Thread nD τ).loc main_arg1)) (m ((c : Thread nD τ).loc main_arg2)) = fun _ => 1#1)
    (a0 : m' ((c.tc : Thread Cert.ReferenceForgetIdeal.nD Cert.ReferenceForgetIdeal.τ).loc Cert.ReferenceForgetIdeal.main_arg0) = m ((c.tc : Thread nD τ).loc main_arg0))
    (a1 : m' ((c.tc : Thread Cert.ReferenceForgetIdeal.nD Cert.ReferenceForgetIdeal.τ).loc Cert.ReferenceForgetIdeal.main_arg1) = m ((c.tc : Thread nD τ).loc main_arg1))
    (a2 : m' ((c.tc : Thread Cert.ReferenceForgetIdeal.nD Cert.ReferenceForgetIdeal.τ).loc Cert.ReferenceForgetIdeal.main_arg2) = m ((c.tc : Thread nD τ).loc main_arg2)) :
    Cert.ReferenceForgetIdeal.Value.res_main_v7 m' c = Pipeline.afterTail₀ cfgs (dats m) 0 (V0 m) [hostOps1] c main_v14
      ∧ Cert.ReferenceForgetIdeal.Value.res_main_v10 m' c = Pipeline.afterTail₀ cfgs (dats m) 0 (V0 m) [hostOps1] c main_v16 := by
  obtain ⟨C, hC⟩ := finite_args _ _ _ h
  obtain ⟨P, hP⟩ := exists_val2 (m ((c : Thread nD τ).loc main_arg0))
  obtain ⟨B, hB⟩ := exists_val1 (m ((c : Thread nD τ).loc main_arg1))
  refine ⟨(Cert.ReferenceForgetIdeal.Read.val_main_v7_eq (F := Ideal) m' c).trans ?_, (Cert.ReferenceForgetIdeal.Read.val_main_v10_eq (F := Ideal) m' c).trans ?_⟩
  · rw [a0, a1, a2, tail_dfl m c hP hB hC, hP, hB, hC]
    exact (Cert.ReferenceForgetIdeal.Value.dfl_enc P C B).trans (enc2_congr fun s _ l hl => dgate_lanes P C B s l hl)
  · rw [a0, a1, a2, tail_db m c hP hB hC, hP, hB, hC]
    refine (Cert.ReferenceForgetIdeal.Value.db_enc P C B).trans (funext fun j => congrArg Real.toEReal ?_)
    exact Finset.sum_congr rfl fun s _ => dgate_lanes P C B s _ (j 0).isLt

set_option maxHeartbeats 1000000 in
/-- For a finite gradient of the running sums the call's results are the gradients of the gate's argument and of its bias. -/
theorem algebraic : Cert.algebraic_KernelForgetIdeal_ReferenceForgetIdeal_pre_finite_cumf := by
  pair_intro
  · run_from Cert.KernelForgetIdeal.Gen.run_main m g
    · exact W_main_arg0 m (dats m) c
    · exact W_main_arg1 m (dats m) c
    · exact W_main_arg2 m (dats m) c
  · refine (θ_run _ _ _).mono (fun r h c => ?_) (Cert.ReferenceForgetIdeal.Value.run (F := Ideal) m' g')
    obtain ⟨a0, a1, a2⟩ := hagree c
    obtain ⟨e0, e1⟩ := results_eq m m' c (hpre c) a0 a1 a2
    have h := h c
    rw [e0, e1] at h
    exact h

end Cert.KernelForgetIdeal.Value
-- ==== Proof.Norms.Row.lean ====
module

public import proofs.«01_k».proof.Proof.Enc
public import proofs.«01_k».proof.Proof.Consts

/-!
The modulated RMS norm of a row and its gradient, in the real numbers, as the kernel writes them and as differentiation writes them.
-/

@[expose] public section

noncomputable section

namespace Cert.Reals

open Idealize.ShloMosaic
open Finset (range)

/-- The word added to a mean of squares. -/
def eps : ℝ := 8796093 / 8796093022208

theorem eps_word : Ideal.ofBits .f32 0x358637BD#32 = ((eps : ℝ) : EReal) := by
  unfold eps; simp [Ideal.ofBits, Ideal.ieee, -EReal.coe_mul]; norm_num

theorem neg_half_word : Ideal.ofBits .f32 0xBF000000#32 = ((-(1 / 2) : ℝ) : EReal) := by
  simp [Ideal.ofBits, Ideal.ieee, -EReal.coe_mul]; norm_num

theorem nil_word : Ideal.ofBits .f32 0x00000000#32 = 0 := by simp [Ideal.ofBits, Ideal.ieee]

theorem enc2_row {b : ℕ} (f : ℕ → ℕ → ℝ) : enc2 (a := 1) (b := b) f = enc2 (fun _ q => f 0 q) :=
  enc2_congr fun a ha q _ => by rw [Nat.lt_one_iff.1 ha]

theorem eps_pos : 0 < eps := by unfold eps; norm_num

theorem rsqrt_pos {r : ℝ} (h : 0 < r) : Ideal.rsqrt ((r : ℝ) : EReal) = (((√r)⁻¹ : ℝ) : EReal) := by
  rw [Ideal.rsqrt_coe, if_neg (not_lt.2 h.le), if_neg h.ne']

section
variable (x d : ℕ → ℕ → ℝ) (g s : ℕ → ℝ)

def msq (r : ℕ) : ℝ := (∑ q ∈ range 1024, x r q * x r q) / 1024 + eps
def rr (r : ℕ) : ℝ := (√(msq x r))⁻¹
def nx (r q : ℕ) : ℝ := x r q * rr x r
def dn (r q : ℕ) : ℝ := d r q * (1 + s q)
def dnx (r q : ℕ) : ℝ := dn d s r q * g q
/-- The gated residual. -/
def gx (m : ℕ → ℕ → ℝ) (ga : ℕ → ℝ) (r q : ℕ) : ℝ := x r q + ga q * m r q
/-- The gradient of the row, as the kernel writes it. -/
def kx (r q : ℕ) : ℝ := rr x r * (dnx d g s r q - nx x r q * ((∑ q ∈ range 1024, dnx d g s r q * nx x r q) / 1024))
/-- The weight of the row in the gradient, as differentiation writes it. -/
def wx (r : ℕ) : ℝ := (∑ q ∈ range 1024, x r q * dnx d g s r q) * (-(1 / 2) * (rr x r / msq x r)) / 1024
end

variable (x d : ℕ → ℕ → ℝ) (g s : ℕ → ℝ)

theorem msq_pos (r : ℕ) : 0 < msq x r := by
  unfold msq
  have : 0 ≤ ∑ q ∈ range 1024, x r q * x r q := Finset.sum_nonneg fun q _ => mul_self_nonneg _
  have := eps_pos
  positivity

theorem kx_eq (r q : ℕ) : dnx d g s r q * rr x r + x r q * wx x d g s r + wx x d g s r * x r q = kx x d g s r q := by
  have ha := msq_pos x r
  have hr : rr x r * rr x r = (msq x r)⁻¹ := by
    unfold rr
    rw [← mul_inv, Real.mul_self_sqrt ha.le]
  have hs : ∑ q ∈ range 1024, dnx d g s r q * nx x r q = (∑ q ∈ range 1024, x r q * dnx d g s r q) * rr x r := by
    rw [Finset.sum_mul]
    exact Finset.sum_congr rfl fun q _ => by unfold nx; ring
  unfold kx
  rw [hs]
  unfold wx nx
  rw [div_eq_mul_inv (rr x r) (msq x r), ← hr]
  ring

/-- Where the arriving gradient may be anything. -/
theorem dx_eq (e : EReal) (r q : ℕ) : e + ((dnx d g s r q * rr x r : ℝ) : EReal) + ((x r q * wx x d g s r : ℝ) : EReal) + ((wx x d g s r * x r q : ℝ) : EReal)
    = e + ((kx x d g s r q : ℝ) : EReal) := by
  rw [add_assoc, add_assoc, ← EReal.coe_add, ← EReal.coe_add, ← kx_eq x d g s r q, ← add_assoc]

end Cert.Reals

end
-- ==== Proof.Norm.Pay.lean ====
module

public import proofs.«01_k».proof.Proof.Gen.KernelNormIdeal.Skeleton
public import proofs.«01_k».proof.Proof.Norms.Row

/-!
The norm kernel's values on arrays of reals.
-/

@[expose] public section

set_option maxRecDepth 16384

noncomputable section

namespace Cert.KernelNormIdeal.Value

open Cert.KernelNormIdeal Cert.KernelNormIdeal.Gen Cert.Reals Idealize.ShloMosaic Idealize.ShloMosaic.TcCoe Idealize.SL.Sem
open Cert.Consts (k1024)
open Finset (range)

variable (x d : ℕ → ℕ → ℝ) (g s : ℕ → ℝ)

/-- A block of rows, and a vector. -/
abbrev blk (f : ℕ → ℕ → ℝ) : Vec Ideal S512x1024 .f32 := enc2 (a := 512) (b := 1024) f
abbrev vec (f : ℕ → ℝ) : Vec Ideal S1x1024 .f32 := enc2 (a := 1) (b := 1024) (fun _ q => f q)

theorem pay8_enc : k0_pay8 (F := Ideal) (blk x) = enc2 (a := 512) (b := 1) (fun a _ => rr x a) := by
  funext j; idx_vars j
  unfold k0_pay8
  pointwise
  simp only [enc2_ix, ← EReal.coe_mul]
  rw [sum_coe 1024 fun q => x j0.val q * x j0.val q, k1024, eps_word, div_coe_coe (by norm_num), ← EReal.coe_add]
  exact rsqrt_pos (msq_pos x j0.val)

theorem pay9_enc : k0_pay9 (F := Ideal) (blk x) = enc2 (a := 512) (b := 1024) (nx x) := by
  funext j; idx_vars j
  unfold k0_pay9
  rw [pay8_enc]
  pointwise
  simp only [enc2_ix, ← EReal.coe_mul]
  rfl

theorem pay10_enc : k0_pay10 (F := Ideal) (blk d) (vec s) = enc2 (a := 512) (b := 1024) (dn d s) := by
  funext j; idx_vars j
  unfold k0_pay10
  pointwise
  simp only [enc2_ix]
  rw [← EReal.coe_one, ← EReal.coe_add, ← EReal.coe_mul]
  rfl

theorem pay7_enc : k0_pay7 (F := Ideal) (vec g) = vec g := by
  funext j; idx_vars j
  unfold k0_pay7
  pointwise

theorem pay11_enc (e : Vec Ideal S512x1024 .f32) : k0_pay11 (F := Ideal) (blk x) (blk d) e (vec g) (vec s)
    = fun j : S512x1024.Idx => e j + ((kx x d g s (j 0).val (j 1).val : ℝ) : EReal) := by
  unfold k0_pay11
  rw [pay7_enc, pay8_enc, pay9_enc, pay10_enc]
  funext j; idx_vars j
  pointwise
  simp only [enc2_ix, ← EReal.coe_mul]
  rw [sum_coe 1024 fun q => dn d s j0.val q * g q * nx x j0.val q, k1024, div_coe_coe (by norm_num), ← EReal.coe_mul, ← EReal.coe_sub, ← EReal.coe_mul]
  rfl

theorem pay12_at (j : S1x1024.Idx) : k0_pay12 (F := Ideal) (blk x) (blk d) (vec s) j = ∑ a : Fin 512, ((dn d s a.val (j 1).val * nx x a.val (j 1).val : ℝ) : EReal) := by
  unfold k0_pay12
  rw [pay9_enc, pay10_enc]
  idx_vars j
  pointwise
  simp only [enc2_ix, ← EReal.coe_mul]

theorem pay13_at (j : S1x1024.Idx) : k0_pay13 (F := Ideal) (blk x) (blk d) (vec g) j = ∑ a : Fin 512, ((d a.val (j 1).val * (nx x a.val (j 1).val * g (j 1).val) : ℝ) : EReal) := by
  unfold k0_pay13
  rw [pay9_enc, pay7_enc]
  idx_vars j
  pointwise
  simp only [enc2_ix, ← EReal.coe_mul]

theorem pay6_at (v : Vec Ideal S1x1024 .f32) (j : S1x1024.Idx) : k0_pay6 (F := Ideal) (blk d) v j = v j + ∑ a : Fin 512, ((d a.val (j 1).val : ℝ) : EReal) := by
  unfold k0_pay6
  idx_vars j
  pointwise
  simp only [enc2_ix]

theorem pay4_at (u v : Vec Ideal S1x1024 .f32) (j : S1x1024.Idx) : k0_pay4 (F := Ideal) u v j = v j + u j := by
  unfold k0_pay4
  idx_vars j
  pointwise

theorem pay5_at (u v : Vec Ideal S1x1024 .f32) (j : S1x1024.Idx) : k0_pay5 (F := Ideal) u v j = v j + u j := by
  unfold k0_pay5
  idx_vars j
  pointwise

theorem pay1_at (j : S1x1024.Idx) : k0_pay1 (F := Ideal) j = 0 := by unfold k0_pay1; pointwise
theorem pay2_at (j : S1x1024.Idx) : k0_pay2 (F := Ideal) j = 0 := by unfold k0_pay2; pointwise
theorem pay3_at (j : S1x1024.Idx) : k0_pay3 (F := Ideal) j = 0 := by unfold k0_pay3; pointwise

end Cert.KernelNormIdeal.Value
-- ==== Proof.Norm.Outs.lean ====
module

public import proofs.«01_k».proof.Proof.Gen.KernelNormIdeal.Frame
public import proofs.«01_k».proof.Proof.Norm.Pay
public import Idealize.ShloMosaic.Lib.Pipeline.ValueKit
public import Idealize.ShloMosaic.Lib.StableHlo.RunRead

/-!
The norm kernel's result arrays.
-/

@[expose] public section

set_option maxRecDepth 16384

noncomputable section

namespace Cert.KernelNormIdeal.Value

open Cert.KernelNormIdeal Cert.KernelNormIdeal.Gen Cert.Reals Idealize.ShloMosaic Idealize.ShloMosaic.TcCoe Idealize.SL.Sem
open Idealize.ShloMosaic.Pipeline (Dat)
open Finset (range)

theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![t.val, 0] := by decide +kernel

theorem row0 (t : Fin cfg0.N) (y : S512x1024.Idx) : win0_5.index t 0 * 512 + (y 0).val = t.val * 512 + (y 0).val := by
  rw [(idx t).2.2.2.2.2]; rfl

theorem col0 (t : Fin cfg0.N) (y : S512x1024.Idx) : win0_5.index t 1 * 1024 + (y 1).val = (y 1).val := by
  rw [(idx t).2.2.2.2.2]; exact Nat.zero_add _

theorem row (t : Fin cfg0.N) (y : S512x1024.Idx) : ((((View.whole main_v1_0).slice (win0_5.rect t)).emb y) 0).val = t.val * 512 + (y 0).val :=
  ((cfg0.win 5).rect_emb_val t y 0).trans (row0 t y)

theorem col (t : Fin cfg0.N) (y : S512x1024.Idx) : ((((View.whole main_v1_0).slice (win0_5.rect t)).emb y) 1).val = (y 1).val :=
  ((cfg0.win 5).rect_emb_val t y 1).trans (col0 t y)

variable (m : (ℓ : Loc nD τ sig) → Buf (Elt Ideal) ℓ) (c : Dev nD) {x d : ℕ → ℕ → ℝ} {g s : ℕ → ℝ} {e : S8192x1024.Idx → EReal}
  (hx : m ((c : Thread nD τ).loc main_arg0) = enc2 (a := 8192) (b := 1024) x) (hd : m ((c : Thread nD τ).loc main_arg1) = enc2 (a := 8192) (b := 1024) d)
  (hg : m ((c : Thread nD τ).loc main_arg3) = enc1 (a := 1024) g) (hs : m ((c : Thread nD τ).loc main_arg4) = enc2 (a := 1) (b := 1024) (fun _ q => s q))
  (he : m ((c : Thread nD τ).loc main_arg2) = e) (t : Fin cfg0.N)

include hx in
theorem blk0 : iblk m c 0 t = blk (fun a q => x (t.val * 512 + a) q) := by
  funext j
  refine Eq.trans ?_ (congrFun hx (ValueIdx.ix2 ⟨t.val * 512 + (j 0).val, by have : t.val < 16 := t.isLt; have : (j 0).val < 512 := (j 0).isLt; omega⟩ (j 1)))
  refine congrArg (m ((c : Thread nD τ).loc main_arg0)) (funext fun a => Fin.ext (((cfg0.win 0).rect_emb_val t j a).trans ?_))
  have h : win0_0.index t = _ := (idx t).1
  match a with
  | ⟨0, _⟩ => show win0_0.index t 0 * 512 + (j 0).val = t.val * 512 + (j 0).val; rw [h]; rfl
  | ⟨1, _⟩ => show win0_0.index t 1 * 1024 + (j 1).val = (j 1).val; rw [h]; exact Nat.zero_add _

include hd in
theorem blk1 : iblk m c 1 t = blk (fun a q => d (t.val * 512 + a) q) := by
  funext j
  refine Eq.trans ?_ (congrFun hd (ValueIdx.ix2 ⟨t.val * 512 + (j 0).val, by have : t.val < 16 := t.isLt; have : (j 0).val < 512 := (j 0).isLt; omega⟩ (j 1)))
  refine congrArg (m ((c : Thread nD τ).loc main_arg1)) (funext fun a => Fin.ext (((cfg0.win 1).rect_emb_val t j a).trans ?_))
  have h : win0_1.index t = _ := (idx t).2.1
  match a with
  | ⟨0, _⟩ => show win0_1.index t 0 * 512 + (j 0).val = t.val * 512 + (j 0).val; rw [h]; rfl
  | ⟨1, _⟩ => show win0_1.index t 1 * 1024 + (j 1).val = (j 1).val; rw [h]; exact Nat.zero_add _

set_option maxHeartbeats 4000000 in
include hg in
theorem gain_enc : V m c main_v0 = vec g := by
  unfold V
  after_reads_simp
  rw [hg]
  funext j; idx_vars j
  pointwise
  rfl

include hg in
theorem blk3 : iblk m c 3 t = vec g := by
  funext j
  refine Eq.trans ?_ (congrFun (gain_enc m c hg) j)
  refine congrArg (V m c main_v0) (funext fun a => Fin.ext (((cfg0.win 3).rect_emb_val t j a).trans ?_))
  have h : win0_3.index t = _ := (idx t).2.2.2.1
  match a with
  | ⟨0, _⟩ => show win0_3.index t 0 * 1 + (j 0).val = (j 0).val; rw [h]; exact Nat.zero_add _
  | ⟨1, _⟩ => show win0_3.index t 1 * 1024 + (j 1).val = (j 1).val; rw [h]; exact Nat.zero_add _

include hs in
theorem blk4 : iblk m c 4 t = vec s := by
  funext j
  refine Eq.trans ?_ (congrFun hs j)
  refine congrArg (m ((c : Thread nD τ).loc main_arg4)) (funext fun a => Fin.ext (((cfg0.win 4).rect_emb_val t j a).trans ?_))
  have h : win0_4.index t = _ := (idx t).2.2.2.2.1
  match a with
  | ⟨0, _⟩ => show win0_4.index t 0 * 1 + (j 0).val = (j 0).val; rw [h]; exact Nat.zero_add _
  | ⟨1, _⟩ => show win0_4.index t 1 * 1024 + (j 1).val = (j 1).val; rw [h]; exact Nat.zero_add _

include hx hd hg hs he in
theorem pay11_blk (y : S512x1024.Idx) (R : S8192x1024.Idx) (r q : ℕ) (hr : r = t.val * 512 + (y 0).val) (hq : q = (y 1).val) (h0 : (R 0).val = t.val * 512 + (y 0).val) (h1 : (R 1).val = (y 1).val) :
    k0_pay11 (F := Ideal) (iblk m c 0 t) (iblk m c 1 t) (iblk m c 2 t) (iblk m c 3 t) (iblk m c 4 t) y
      = e R + ((kx x d g s r q : ℝ) : EReal) := by
  rw [blk0 m c hx, blk1 m c hd, blk3 m c hg, blk4 m c hs, pay11_enc, hr, hq]
  refine congrArg₂ (· + ·) (Eq.trans ?_ (congrFun he R)) rfl
  refine congrArg (m ((c : Thread nD τ).loc main_arg2)) (funext fun a => Fin.ext (((cfg0.win 2).rect_emb_val t y a).trans ?_))
  have h : win0_2.index t = _ := (idx t).2.2.1
  match a with
  | ⟨0, _⟩ => show win0_2.index t 0 * 512 + (y 0).val = (R 0).val; rw [h, h0]; rfl
  | ⟨1, _⟩ => show win0_2.index t 1 * 1024 + (y 1).val = (R 1).val; rw [h, h1]; exact Nat.zero_add _

include hx hd hg hs he in
/-- The row's gradient. -/
theorem final_dx : (dats m 0 c).arrAt 5 cfg0.N = fun j : S8192x1024.Idx => e j + ((kx x d g s (j 0).val (j 1).val : ℝ) : EReal) := by
  refine (dats m 0 c).arrAt_eq_of_covers 5 _ (by decide +kernel) fun t hf y => ?_
  blk_simp
  rw [after0_5]
  rcases em (t.val % 16 = 0) with h | h
  · rw [outsAt0_A m c t h]; frame_out
    exact pay11_blk m c hx hd hg hs he t y _ _ _ (row0 t y) (col0 t y) (row t y) (col t y)
  · rw [outsAt0_B m c t h]; frame_out
    exact pay11_blk m c hx hd hg hs he t y _ _ _ (row0 t y) (col0 t y) (row t y) (col t y)

include hx hd hs in
/-- The gain's gradient. -/
theorem final_dg : (dats m 0 c).arrAt 6 cfg0.N = fun j : S1x1024.Idx => ∑ R : Fin 8192, ((dn d s R.val (j 1).val * nx x R.val (j 1).val : ℝ) : EReal) := by
  refine (dats m 0 c).arrAt_eq_of_after_last 6 t0_15 (by decide +kernel) _ fun j => ?_
  blk_simp
  rw [after0_6]
  rw [Pipeline.eq_sum_fin_of_reset_step_apply_last (fun n h => (outsAt0 m c n h).2.1) 16 (fun _ => 0) _
    (fun t h j => by rw [outsAt0_A m c t h]; frame_out; rw [pay4_at, pay1_at])
    (fun t h j => by rw [outsAt0_B m c t h]; frame_out; rw [pay4_at]) (by decide +kernel) t0_15 rfl j]
  rw [zero_add]
  simp only [blk0 m c hx, blk1 m c hd, blk4 m c hs, pay12_at]
  exact Fin.sum_mul_add_congr fun s k hl => rfl

include hx hd hg in
/-- The scale's gradient. -/
theorem final_dsc : (dats m 0 c).arrAt 7 cfg0.N = fun j : S1x1024.Idx => ∑ R : Fin 8192, ((d R.val (j 1).val * (nx x R.val (j 1).val * g (j 1).val) : ℝ) : EReal) := by
  refine (dats m 0 c).arrAt_eq_of_after_last 7 t0_15 (by decide +kernel) _ fun j => ?_
  blk_simp
  rw [after0_7]
  rw [Pipeline.eq_sum_fin_of_reset_step_apply_last (fun n h => (outsAt0 m c n h).2.2.1) 16 (fun _ => 0) _
    (fun t h j => by rw [outsAt0_A m c t h]; frame_out; rw [pay5_at, pay2_at])
    (fun t h j => by rw [outsAt0_B m c t h]; frame_out; rw [pay5_at]) (by decide +kernel) t0_15 rfl j]
  rw [zero_add]
  simp only [blk0 m c hx, blk1 m c hd, blk3 m c hg, pay13_at]
  exact Fin.sum_mul_add_congr fun s k hl => rfl

include hd in
/-- The shift's gradient. -/
theorem final_dsh : (dats m 0 c).arrAt 8 cfg0.N = fun j : S1x1024.Idx => ∑ R : Fin 8192, ((d R.val (j 1).val : ℝ) : EReal) := by
  refine (dats m 0 c).arrAt_eq_of_after_last 8 t0_15 (by decide +kernel) _ fun j => ?_
  blk_simp
  rw [after0_8]
  rw [Pipeline.eq_sum_fin_of_reset_step_apply_last (fun n h => (outsAt0 m c n h).2.2.2) 16 (fun _ => 0) (fun t j => ∑ a : Fin 512, ((d (t.val * 512 + a.val) (j 1).val : ℝ) : EReal))
    (fun t h j => by rw [outsAt0_A m c t h]; frame_out; rw [blk1 m c hd, pay6_at, pay3_at])
    (fun t h j => by rw [outsAt0_B m c t h]; frame_out; rw [blk1 m c hd, pay6_at]) (by decide +kernel) t0_15 rfl j]
  rw [zero_add]
  exact Fin.sum_mul_add_congr fun s k hl => rfl

end Cert.KernelNormIdeal.Value
-- ==== Proof.Norm.Ref.lean ====
module

public import proofs.«01_k».proof.Proof.Gen.ReferenceNormIdeal.Read
public import proofs.«01_k».proof.Proof.Norms.Row

/-!
The norm's gradients on arrays of reals, by reference.py's lines.
-/

@[expose] public section

set_option maxRecDepth 16384

noncomputable section

namespace Cert.ReferenceNormIdeal.Value

open Cert.ReferenceNormIdeal Cert.ReferenceNormIdeal.Gen Cert.ReferenceNormIdeal.Read Cert.Reals Idealize.ShloMosaic Idealize.ShloMosaic.TcCoe
open Cert.Consts (k1024)
open Finset (range)

abbrev Mat : Type := (⟨S8192x1024, .f32⟩ : BufTy).Contents (Elt Ideal)
abbrev mat (f : ℕ → ℕ → ℝ) : Mat := enc2 (a := 8192) (b := 1024) f
abbrev gvec (f : ℕ → ℝ) : (⟨S1024, .f32⟩ : BufTy).Contents (Elt Ideal) := enc1 (a := 1024) f
abbrev vec (f : ℕ → ℝ) : (⟨S1x1024, .f32⟩ : BufTy).Contents (Elt Ideal) := enc2 (a := 1) (b := 1024) (fun _ q => f q)

variable (x d : ℕ → ℕ → ℝ) (g s : ℕ → ℝ) (e : Mat)

theorem c0 (i : S_.Idx) : val_main_cst_0 (F := Ideal) i = 0 := nil_word
theorem c1 (i : S_.Idx) : val_main_cst_1 (F := Ideal) i = ((1024 : ℝ) : EReal) := k1024
theorem c2 (i : S_.Idx) : val_main_cst_2 (F := Ideal) i = ((eps : ℝ) : EReal) := eps_word
theorem c3 (i : S_.Idx) : val_main_cst_3 (F := Ideal) i = ((-(1 / 2) : ℝ) : EReal) := neg_half_word
theorem c4 (i : S_.Idx) : val_main_cst_4 (F := Ideal) i = ((1 : ℝ) : EReal) := one_word
theorem c5 (i : S_.Idx) : val_main_cst_5 (F := Ideal) i = 0 := nil_word
theorem c6 (i : S_.Idx) : val_main_cst_6 (F := Ideal) i = 0 := nil_word
theorem c7 (i : S_.Idx) : val_main_cst_7 (F := Ideal) i = 0 := nil_word
theorem c8 (i : S_.Idx) : val_main_cst_8 (F := Ideal) i = 0 := nil_word
theorem c9 (i : S_.Idx) : val_main_cst_9 (F := Ideal) i = 0 := nil_word
theorem c10 (i : S_.Idx) : val_main_cst_10 (F := Ideal) i = ((1024 : ℝ) : EReal) := k1024
theorem c11 (i : S_.Idx) : val_main_cst_11 (F := Ideal) i = 0 := nil_word

theorem v7_enc : val_main_v7 (F := Ideal) (mat x) = enc2 (a := 8192) (b := 1) (fun r _ => msq x r) := by
  funext j; idx_vars j
  unfold val_main_v7 val_main_v6 val_main_v5 val_main_v4 val_main_v3 val_main_v2 val_main_v1
  pointwise
  rw [c0, c1, c2]
  simp only [enc2_ix, ← EReal.coe_mul]
  rw [sum_coe 1024 fun q => x j0.val q * x j0.val q, zero_add, div_coe_coe (by norm_num), ← EReal.coe_add]
  rfl

theorem v8_enc : val_main_v8 (F := Ideal) (mat x) = enc2 (a := 8192) (b := 1) (fun r _ => rr x r) := by
  funext j; idx_vars j
  unfold val_main_v8
  rw [v7_enc]
  pointwise
  exact rsqrt_pos (msq_pos x j0.val)

theorem v11_enc : val_main_v11 (F := Ideal) (mat x) = enc2 (a := 8192) (b := 1) (fun r _ => -(1 / 2) * (rr x r / msq x r)) := by
  funext j; idx_vars j
  unfold val_main_v11 val_main_v10 val_main_v9
  rw [v7_enc, v8_enc]
  pointwise
  rw [c3]
  simp only [enc2_ix]
  rw [div_coe_coe (msq_pos x j0.val).ne', ← EReal.coe_mul]

theorem v13_enc : val_main_v13 (F := Ideal) (mat x) = mat (nx x) := by
  funext j; idx_vars j
  unfold val_main_v13 val_main_v12
  rw [v8_enc]
  pointwise
  simp only [enc2_ix, ← EReal.coe_mul]
  rfl

theorem v30_enc : val_main_v30 (F := Ideal) (mat d) (vec s) = mat (dn d s) := by
  funext j; idx_vars j
  unfold val_main_v30 val_main_v29 val_main_v18 val_main_v17 val_main_v23
  pointwise
  rw [c4]
  simp only [enc2_ix, ← EReal.coe_add, ← EReal.coe_mul]
  rfl

theorem v35_enc : val_main_v35 (F := Ideal) (mat d) (gvec g) (vec s) = mat (dnx d g s) := by
  funext j; idx_vars j
  unfold val_main_v35 val_main_v34 val_main_v14
  rw [v30_enc]
  pointwise
  exact (EReal.coe_mul _ _).symm

theorem v47_enc : val_main_v47 (F := Ideal) (mat x) (mat d) (gvec g) (vec s) = mat (fun r _ => wx x d g s r) := by
  funext j; idx_vars j
  unfold val_main_v47 val_main_v46 val_main_v45 val_main_v44 val_main_v43 val_main_v39 val_main_v38 val_main_v37
  rw [v35_enc, v11_enc]
  pointwise
  rw [c9, c10, c11]
  simp only [enc2_ix, ← EReal.coe_mul]
  rw [sum_coe 1024 fun q => x j0.val q * dnx d g s j0.val q, zero_add, zero_add, ← EReal.coe_mul, div_coe_coe (by norm_num)]
  exact Fin.sum_univ_one _

/-- The row's gradient. -/
theorem v51_enc : val_main_v51 (F := Ideal) (mat x) (mat d) e (gvec g) (vec s) = fun j : S8192x1024.Idx => e j + ((kx x d g s (j 0).val (j 1).val : ℝ) : EReal) := by
  unfold val_main_v51 val_main_v50 val_main_v49 val_main_v48 val_main_v42 val_main_v41 val_main_v40
  rw [v35_enc, v47_enc, v8_enc]
  funext j; idx_vars j
  pointwise
  simp only [enc2_ix, ← EReal.coe_mul]
  exact dx_eq x d g s _ _ _

theorem v52_at (j : S1x1024.Idx) : val_main_v52 (F := Ideal) (mat x) (mat d) (vec s) j = ∑ r : Fin 8192, ((dn d s r.val (j 1).val * nx x r.val (j 1).val : ℝ) : EReal) := by
  unfold val_main_v52 val_main_v36 val_main_v33 val_main_v32 val_main_v31
  rw [v13_enc, v30_enc]
  idx_vars j
  pointwise
  rw [c7, c8]
  rw [zero_add]
  refine (Fin.sum_univ_one _).trans ((zero_add _).trans (Finset.sum_congr rfl fun r _ => ?_))
  exact (mul_comm _ _).trans (EReal.coe_mul _ _).symm

theorem v28_at (j : S1x1024.Idx) : val_main_v28 (F := Ideal) (mat x) (mat d) (gvec g) j = ∑ r : Fin 8192, ((d r.val (j 1).val * (nx x r.val (j 1).val * g (j 1).val) : ℝ) : EReal) := by
  unfold val_main_v28 val_main_v27 val_main_v26 val_main_v23 val_main_v16 val_main_v15 val_main_v14
  rw [v13_enc]
  idx_vars j
  pointwise
  rw [c6]
  rw [zero_add]
  refine Finset.sum_congr rfl fun r _ => ?_
  refine (mul_comm _ _).trans ?_
  rw [EReal.coe_mul, EReal.coe_mul]
  rfl

theorem v25_at (j : S1x1024.Idx) : val_main_v25 (F := Ideal) (mat d) j = ∑ r : Fin 8192, ((d r.val (j 1).val : ℝ) : EReal) := by
  unfold val_main_v25 val_main_v24
  idx_vars j
  pointwise
  rw [c5, zero_add]
  rfl

end Cert.ReferenceNormIdeal.Value
-- ==== Proof.Norm.Claim.lean ====
/- The norm's backward call computes the gradients of the modulated norm. -/
module

public import proofs.«01_k».proof.Defs
public import proofs.«01_k».proof.Proof.Finite
public import proofs.«01_k».proof.Proof.Norm.Outs
public import proofs.«01_k».proof.Proof.Norm.Ref
public import proofs.«01_k».proof.Proof.Gen.Pre_finite_norm
public import proofs.«01_k».proof.Proof.Gen.ReferenceNormIdeal.Run
public import proofs.«01_k».proof.Proof.Gen.ReferenceNormIdeal.Read
public import Idealize.ShloMosaic.Lib.Claim

@[expose] public section

set_option maxRecDepth 16384

noncomputable section

namespace Cert.KernelNormIdeal.Value

open Cert.KernelNormIdeal Cert.KernelNormIdeal.Gen Cert.Reals Idealize.ShloMosaic Idealize.ShloMosaic.TcCoe Idealize.SL.Sem
open Idealize.ShloMosaic.Pipeline (Dat)

/-- Under the precondition the row, the gradient of its norm, the gain and the scale are arrays of reals. -/
theorem finite_args (x d e : FVec Ideal S8192x1024 .f32) (g : FVec Ideal S1024 .f32) (s : FVec Ideal S1x1024 .f32)
    (h : Cert.Pre_finite_norm.fn (F := Ideal) x d e g s = fun _ => 1#1) :
    (∃ X : ℕ → ℕ → ℝ, x = enc2 X) ∧ (∃ D : ℕ → ℕ → ℝ, d = enc2 D) ∧ (∃ G : ℕ → ℝ, g = enc1 G) ∧ (∃ S : ℕ → ℝ, s = enc2 (fun _ q => S q)) := by
  have h0 := congrFun h (Shape.Idx.first (by decide))
  unfold Cert.Pre_finite_norm.fn at h0
  haveI : Subsingleton Cert.Pre_finite_norm.S_.Idx := ⟨fun a b => funext fun q => q.elim0⟩
  obtain ⟨h1, hs⟩ := IntOp.andi_eq_one.1 h0
  obtain ⟨h2, hg⟩ := IntOp.andi_eq_one.1 h1
  obtain ⟨hx, hd⟩ := IntOp.andi_eq_one.1 h2
  refine ⟨⟨_, enc2_of_real x fun i => real_of_abs _ (Host.reduce_andi_all _ _ _ _ _ hx i)⟩, ⟨_, enc2_of_real d fun i => real_of_abs _ (Host.reduce_andi_all _ _ _ _ _ hd i)⟩,
    ⟨_, enc1_of_real g fun i => real_of_abs _ (Host.reduce_andi_all _ _ _ _ _ hg i)⟩, ?_⟩
  exact ⟨_, (enc2_of_real s fun i => real_of_abs _ (Host.reduce_andi_all _ _ _ _ _ hs i)).trans (enc2_row _)⟩

/-- The reference terminates, leaves its arguments alone and every semaphore at zero. -/
theorem frame_reference : Cert.quiescent_ReferenceNormIdeal := fun m g _ =>
  (θ_run Cert.ReferenceNormIdeal.defs _ _).mono (fun r h => ⟨fun c => (h c).2.2.2.2, sem_eq_zero_of_no_sems (by decide) r.2⟩)
    (Cert.ReferenceNormIdeal.Value.run (F := Ideal) m g)

set_option maxHeartbeats 1000000 in
/-- For a finite row, gradient, gain and scale the call's results are the gradients of the modulated norm. -/
theorem algebraic : Cert.algebraic_KernelNormIdeal_ReferenceNormIdeal_pre_finite_norm := by
  pair_intro
  · run_from Cert.KernelNormIdeal.Gen.run_main m g
  · refine (θ_run _ _ _).mono (fun r h c => ?_) (Cert.ReferenceNormIdeal.Value.run (F := Ideal) m' g')
    obtain ⟨a0, a1, a2, a3, a4⟩ := hagree c
    obtain ⟨h51, h52, h28, h25, hargs⟩ := h c
    obtain ⟨⟨x, hx⟩, ⟨d, hd⟩, ⟨w, hg⟩, ⟨s, hs⟩⟩ := finite_args _ _ _ _ _ (hpre c)
    refine ⟨h51.trans ?_, h52.trans ((Cert.ReferenceNormIdeal.Read.val_main_v52_eq (F := Ideal) _ _ _).trans ?_), h28.trans ((Cert.ReferenceNormIdeal.Read.val_main_v28_eq (F := Ideal) _ _ _).trans ?_),
      h25.trans ((Cert.ReferenceNormIdeal.Read.val_main_v25_eq (F := Ideal) _).trans ?_), hargs⟩
    · rw [Cert.ReferenceNormIdeal.Read.val_main_v51_eq (F := Ideal) m' c, a0, a1, a2, a3, a4]
      refine Eq.trans ?_ (final_dx m c hx hd hg hs rfl).symm
      rw [hx, hd, hg, hs]
      exact Cert.ReferenceNormIdeal.Value.v51_enc x d w s _
    · rw [a0, a1, a4]
      refine Eq.trans ?_ (final_dg m c hx hd hs).symm
      rw [hx, hd, hs]
      exact funext fun j => Cert.ReferenceNormIdeal.Value.v52_at x d s j
    · rw [a0, a1, a3]
      refine Eq.trans ?_ (final_dsc m c hx hd hg).symm
      rw [hx, hd, hg]
      exact funext fun j => Cert.ReferenceNormIdeal.Value.v28_at x d w j
    · rw [a1]
      refine Eq.trans ?_ (final_dsh m c hd).symm
      rw [hd]
      exact funext fun j => Cert.ReferenceNormIdeal.Value.v25_at d j

end Cert.KernelNormIdeal.Value
-- ==== Proof.GNorm.Pay.lean ====
module

public import proofs.«01_k».proof.Proof.Gen.KernelGNormIdeal.Skeleton
public import proofs.«01_k».proof.Proof.Norms.Row

/-!
The gated norm kernel's values on arrays of reals.
-/

@[expose] public section

set_option maxRecDepth 16384

noncomputable section

namespace Cert.KernelGNormIdeal.Value

open Cert.KernelGNormIdeal Cert.KernelGNormIdeal.Gen Cert.Reals Idealize.ShloMosaic Idealize.ShloMosaic.TcCoe Idealize.SL.Sem
open Cert.Consts (k1024)
open Finset (range)

variable (x d : ℕ → ℕ → ℝ) (g s : ℕ → ℝ)

/-- A block of rows, and a vector. -/
abbrev blk (f : ℕ → ℕ → ℝ) : Vec Ideal S512x1024 .f32 := enc2 (a := 512) (b := 1024) f
abbrev vec (f : ℕ → ℝ) : Vec Ideal S1x1024 .f32 := enc2 (a := 1) (b := 1024) (fun _ q => f q)

theorem pay2_enc : k0_pay2 (F := Ideal) (blk x) = blk x := by
  funext j; idx_vars j
  unfold k0_pay2
  pointwise

theorem pay3_enc : k0_pay3 (F := Ideal) (vec g) = vec g := by
  funext j; idx_vars j
  unfold k0_pay3
  pointwise

theorem pay4_enc : k0_pay4 (F := Ideal) (blk x) = enc2 (a := 512) (b := 1) (fun a _ => rr x a) := by
  unfold k0_pay4
  rw [pay2_enc]
  funext j; idx_vars j
  pointwise
  simp only [enc2_ix, ← EReal.coe_mul]
  rw [sum_coe 1024 fun q => x j0.val q * x j0.val q, k1024, eps_word, div_coe_coe (by norm_num), ← EReal.coe_add]
  exact rsqrt_pos (msq_pos x j0.val)

theorem pay5_enc : k0_pay5 (F := Ideal) (blk x) = blk (nx x) := by
  unfold k0_pay5
  rw [pay2_enc, pay4_enc]
  funext j; idx_vars j
  pointwise
  simp only [enc2_ix, ← EReal.coe_mul]
  rfl

theorem pay6_enc : k0_pay6 (F := Ideal) (blk d) (vec s) = blk (dn d s) := by
  funext j; idx_vars j
  unfold k0_pay6
  pointwise
  simp only [enc2_ix]
  rw [← EReal.coe_one, ← EReal.coe_add, ← EReal.coe_mul]
  rfl

theorem pay7_enc (e : ℕ → ℕ → EReal) : k0_pay7 (F := Ideal) (blk x) (blk d) (val2 (a := 512) (b := 1024) e) (vec g) (vec s)
    = val2 (a := 512) (b := 1024) (fun a q => e a q + ((kx x d g s a q : ℝ) : EReal)) := by
  unfold k0_pay7
  rw [pay3_enc, pay4_enc, pay5_enc, pay6_enc]
  funext j; idx_vars j
  pointwise
  simp only [enc2_ix, val2_ix, ← EReal.coe_mul]
  rw [sum_coe 1024 fun q => dn d s j0.val q * g q * nx x j0.val q, k1024, div_coe_coe (by norm_num), ← EReal.coe_mul, ← EReal.coe_sub, ← EReal.coe_mul]
  rfl

theorem pay15_at (v : Vec Ideal S1x1024 .f32) (j : S1x1024.Idx) : k0_pay15 (F := Ideal) (k0_pay8 (blk x) (blk d) (vec s)) v j
    = v j + ∑ a : Fin 512, ((dn d s a.val (j 1).val * nx x a.val (j 1).val : ℝ) : EReal) := by
  unfold k0_pay15 k0_pay8
  rw [pay5_enc, pay6_enc]
  idx_vars j
  pointwise
  simp only [enc2_ix, ← EReal.coe_mul]

theorem pay16_at (v : Vec Ideal S1x1024 .f32) (j : S1x1024.Idx) : k0_pay16 (F := Ideal) (blk d) (k0_pay3 (vec g)) (k0_pay5 (blk x)) v j
    = v j + ∑ a : Fin 512, ((d a.val (j 1).val * (nx x a.val (j 1).val * g (j 1).val) : ℝ) : EReal) := by
  unfold k0_pay16
  rw [pay3_enc, pay5_enc]
  idx_vars j
  pointwise
  simp only [enc2_ix, ← EReal.coe_mul]

theorem pay17_at (v : Vec Ideal S1x1024 .f32) (j : S1x1024.Idx) : k0_pay17 (F := Ideal) (blk d) v j = v j + ∑ a : Fin 512, ((d a.val (j 1).val : ℝ) : EReal) := by
  unfold k0_pay17
  idx_vars j
  pointwise
  simp only [enc2_ix]

theorem pay1_at (e : ℕ → ℕ → EReal) (v : Vec Ideal S1x1024 .f32) (j : S1x1024.Idx) : k0_pay1 (F := Ideal) (k0_pay9 (blk x) (val2 (a := 512) (b := 1024) e)) v j
    = v j + ∑ a : Fin 512, e a.val (j 1).val * ((x a.val (j 1).val : ℝ) : EReal) := by
  unfold k0_pay1 k0_pay9
  idx_vars j
  pointwise
  simp only [enc2_ix, val2_ix]

theorem pay10_enc (e : ℕ → ℕ → EReal) : k0_pay10 (F := Ideal) (vec g) (val2 (a := 512) (b := 1024) e) = val2 (a := 512) (b := 1024) (fun a q => e a q * ((g q : ℝ) : EReal)) := by
  funext j; idx_vars j
  unfold k0_pay10
  pointwise
  rfl

theorem pay11_at (j : S1x1024.Idx) : k0_pay11 (F := Ideal) j = 0 := by unfold k0_pay11; pointwise
theorem pay12_at (j : S1x1024.Idx) : k0_pay12 (F := Ideal) j = 0 := by unfold k0_pay12; pointwise
theorem pay13_at (j : S1x1024.Idx) : k0_pay13 (F := Ideal) j = 0 := by unfold k0_pay13; pointwise
theorem pay14_at (j : S1x1024.Idx) : k0_pay14 (F := Ideal) j = 0 := by unfold k0_pay14; pointwise

end Cert.KernelGNormIdeal.Value
-- ==== Proof.GNorm.Outs.lean ====
module

public import proofs.«01_k».proof.Proof.Gen.KernelGNormIdeal.Frame
public import proofs.«01_k».proof.Proof.GNorm.Pay
public import Idealize.ShloMosaic.Lib.Pipeline.ValueKit
public import Idealize.ShloMosaic.Lib.StableHlo.RunRead

/-!
The gated norm kernel's result arrays.
-/

@[expose] public section

set_option maxRecDepth 16384

noncomputable section

namespace Cert.KernelGNormIdeal.Value

open Cert.KernelGNormIdeal Cert.KernelGNormIdeal.Gen Cert.Reals Idealize.ShloMosaic Idealize.ShloMosaic.TcCoe Idealize.SL.Sem
open Idealize.ShloMosaic.Pipeline (Dat)
open Finset (range)

theorem idx : ∀ t : Fin grid0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![t.val, 0] ∧ win0_8.index t = ![t.val, 0] := by decide +kernel

theorem row7 (t : Fin cfg0.N) (y : S512x1024.Idx) : win0_7.index t 0 * 512 + (y 0).val = t.val * 512 + (y 0).val := by
  rw [(idx t).2.2.2.2.2.2.2.1]; rfl

theorem col7 (t : Fin cfg0.N) (y : S512x1024.Idx) : win0_7.index t 1 * 1024 + (y 1).val = (y 1).val := by
  rw [(idx t).2.2.2.2.2.2.2.1]; exact Nat.zero_add _

theorem row8 (t : Fin cfg0.N) (y : S512x1024.Idx) : win0_8.index t 0 * 512 + (y 0).val = t.val * 512 + (y 0).val := by
  rw [(idx t).2.2.2.2.2.2.2.2]; rfl

theorem col8 (t : Fin cfg0.N) (y : S512x1024.Idx) : win0_8.index t 1 * 1024 + (y 1).val = (y 1).val := by
  rw [(idx t).2.2.2.2.2.2.2.2]; exact Nat.zero_add _

variable (m : (ℓ : Loc nD τ sig) → Buf (Elt Ideal) ℓ) (c : Dev nD) {x b d : ℕ → ℕ → ℝ} {ga g s : ℕ → ℝ} {e : ℕ → ℕ → EReal}
  (hx : m ((c : Thread nD τ).loc main_arg0) = enc2 (a := 8192) (b := 1024) x) (hb : m ((c : Thread nD τ).loc main_arg1) = enc2 (a := 8192) (b := 1024) b)
  (hga : m ((c : Thread nD τ).loc main_arg2) = enc2 (a := 1) (b := 1024) (fun _ q => ga q)) (hd : m ((c : Thread nD τ).loc main_arg3) = enc2 (a := 8192) (b := 1024) d)
  (he : m ((c : Thread nD τ).loc main_arg4) = val2 (a := 8192) (b := 1024) e) (hg : m ((c : Thread nD τ).loc main_arg5) = enc1 (a := 1024) g)
  (hs : m ((c : Thread nD τ).loc main_arg6) = enc2 (a := 1) (b := 1024) (fun _ q => s q)) (t : Fin cfg0.N)

set_option maxHeartbeats 4000000 in
include hx hb hga in
theorem gated_enc : V m c main_v2 = enc2 (a := 8192) (b := 1024) (gx x b ga) := by
  unfold V
  after_reads_simp
  rw [hx, hb, hga]
  funext j; idx_vars j
  pointwise
  simp only [enc2_ix, ← EReal.coe_mul, ← EReal.coe_add]
  rfl

set_option maxHeartbeats 4000000 in
include hg in
theorem gain_enc : V m c main_v3 = vec g := by
  unfold V
  after_reads_simp
  rw [hg]
  funext j; idx_vars j
  pointwise
  rfl

include hx hb hga in
theorem blk0 : iblk m c 0 t = blk (fun a q => gx x b ga (t.val * 512 + a) q) := by
  funext j
  refine Eq.trans ?_ (congrFun (gated_enc m c hx hb hga) (ValueIdx.ix2 ⟨t.val * 512 + (j 0).val, by have : t.val < 16 := t.isLt; have : (j 0).val < 512 := (j 0).isLt; omega⟩ (j 1)))
  refine congrArg (V m c main_v2) (funext fun a => Fin.ext (((cfg0.win 0).rect_emb_val t j a).trans ?_))
  have h : win0_0.index t = _ := (idx t).1
  match a with
  | ⟨0, _⟩ => show win0_0.index t 0 * 512 + (j 0).val = t.val * 512 + (j 0).val; rw [h]; rfl
  | ⟨1, _⟩ => show win0_0.index t 1 * 1024 + (j 1).val = (j 1).val; rw [h]; exact Nat.zero_add _

include hd in
theorem blk1 : iblk m c 1 t = blk (fun a q => d (t.val * 512 + a) q) := by
  funext j
  refine Eq.trans ?_ (congrFun hd (ValueIdx.ix2 ⟨t.val * 512 + (j 0).val, by have : t.val < 16 := t.isLt; have : (j 0).val < 512 := (j 0).isLt; omega⟩ (j 1)))
  refine congrArg (m ((c : Thread nD τ).loc main_arg3)) (funext fun a => Fin.ext (((cfg0.win 1).rect_emb_val t j a).trans ?_))
  have h : win0_1.index t = _ := (idx t).2.1
  match a with
  | ⟨0, _⟩ => show win0_1.index t 0 * 512 + (j 0).val = t.val * 512 + (j 0).val; rw [h]; rfl
  | ⟨1, _⟩ => show win0_1.index t 1 * 1024 + (j 1).val = (j 1).val; rw [h]; exact Nat.zero_add _

include he in
theorem blk2 : iblk m c 2 t = val2 (a := 512) (b := 1024) (fun a q => e (t.val * 512 + a) q) := by
  funext j
  refine Eq.trans ?_ (congrFun he (ValueIdx.ix2 ⟨t.val * 512 + (j 0).val, by have : t.val < 16 := t.isLt; have : (j 0).val < 512 := (j 0).isLt; omega⟩ (j 1)))
  refine congrArg (m ((c : Thread nD τ).loc main_arg4)) (funext fun a => Fin.ext (((cfg0.win 2).rect_emb_val t j a).trans ?_))
  have h : win0_2.index t = _ := (idx t).2.2.1
  match a with
  | ⟨0, _⟩ => show win0_2.index t 0 * 512 + (j 0).val = t.val * 512 + (j 0).val; rw [h]; rfl
  | ⟨1, _⟩ => show win0_2.index t 1 * 1024 + (j 1).val = (j 1).val; rw [h]; exact Nat.zero_add _

include hb in
theorem blk3 : iblk m c 3 t = blk (fun a q => b (t.val * 512 + a) q) := by
  funext j
  refine Eq.trans ?_ (congrFun hb (ValueIdx.ix2 ⟨t.val * 512 + (j 0).val, by have : t.val < 16 := t.isLt; have : (j 0).val < 512 := (j 0).isLt; omega⟩ (j 1)))
  refine congrArg (m ((c : Thread nD τ).loc main_arg1)) (funext fun a => Fin.ext (((cfg0.win 3).rect_emb_val t j a).trans ?_))
  have h : win0_3.index t = _ := (idx t).2.2.2.1
  match a with
  | ⟨0, _⟩ => show win0_3.index t 0 * 512 + (j 0).val = t.val * 512 + (j 0).val; rw [h]; rfl
  | ⟨1, _⟩ => show win0_3.index t 1 * 1024 + (j 1).val = (j 1).val; rw [h]; exact Nat.zero_add _

include hg in
theorem blk4 : iblk m c 4 t = vec g := by
  funext j
  refine Eq.trans ?_ (congrFun (gain_enc m c hg) j)
  refine congrArg (V m c main_v3) (funext fun a => Fin.ext (((cfg0.win 4).rect_emb_val t j a).trans ?_))
  have h : win0_4.index t = _ := (idx t).2.2.2.2.1
  match a with
  | ⟨0, _⟩ => show win0_4.index t 0 * 1 + (j 0).val = (j 0).val; rw [h]; exact Nat.zero_add _
  | ⟨1, _⟩ => show win0_4.index t 1 * 1024 + (j 1).val = (j 1).val; rw [h]; exact Nat.zero_add _

include hs in
theorem blk5 : iblk m c 5 t = vec s := by
  funext j
  refine Eq.trans ?_ (congrFun hs j)
  refine congrArg (m ((c : Thread nD τ).loc main_arg6)) (funext fun a => Fin.ext (((cfg0.win 5).rect_emb_val t j a).trans ?_))
  have h : win0_5.index t = _ := (idx t).2.2.2.2.2.1
  match a with
  | ⟨0, _⟩ => show win0_5.index t 0 * 1 + (j 0).val = (j 0).val; rw [h]; exact Nat.zero_add _
  | ⟨1, _⟩ => show win0_5.index t 1 * 1024 + (j 1).val = (j 1).val; rw [h]; exact Nat.zero_add _

include hga in
theorem blk6 : iblk m c 6 t = vec ga := by
  funext j
  refine Eq.trans ?_ (congrFun hga j)
  refine congrArg (m ((c : Thread nD τ).loc main_arg2)) (funext fun a => Fin.ext (((cfg0.win 6).rect_emb_val t j a).trans ?_))
  have h : win0_6.index t = _ := (idx t).2.2.2.2.2.2.1
  match a with
  | ⟨0, _⟩ => show win0_6.index t 0 * 1 + (j 0).val = (j 0).val; rw [h]; exact Nat.zero_add _
  | ⟨1, _⟩ => show win0_6.index t 1 * 1024 + (j 1).val = (j 1).val; rw [h]; exact Nat.zero_add _

include hx hb hga hd he hg hs in
theorem pay7_blk : k0_pay7 (F := Ideal) (iblk m c 0 t) (iblk m c 1 t) (iblk m c 2 t) (iblk m c 4 t) (iblk m c 5 t)
    = val2 (a := 512) (b := 1024) (fun a q => e (t.val * 512 + a) q + ((kx (gx x b ga) d g s (t.val * 512 + a) q : ℝ) : EReal)) := by
  rw [blk0 m c hx hb hga, blk1 m c hd, blk2 m c he, blk4 m c hg, blk5 m c hs, pay7_enc]; rfl

include hx hb hga hd he hg hs in
/-- The row's gradient. -/
theorem final_dx : (dats m 0 c).arrAt 7 cfg0.N = val2 (a := 8192) (b := 1024) (fun r q => e r q + ((kx (gx x b ga) d g s r q : ℝ) : EReal)) := by
  refine (dats m 0 c).arrAt_eq_of_covers 7 _ (by decide +kernel) fun t hf y => ?_
  blk_simp
  rw [after0_7]
  rcases em (t.val % 16 = 0) with h | h
  · rw [outsAt0_A m c t h]; frame_out
    rw [pay7_blk m c hx hb hga hd he hg hs t]; unfold val2; blk_simp; rw [row7, col7]
  · rw [outsAt0_B m c t h]; frame_out
    rw [pay7_blk m c hx hb hga hd he hg hs t]; unfold val2; blk_simp; rw [row7, col7]

include hx hb hga hd he hg hs in
/-- The branch's gradient. -/
theorem final_dm : (dats m 0 c).arrAt 8 cfg0.N = val2 (a := 8192) (b := 1024) (fun r q => (e r q + ((kx (gx x b ga) d g s r q : ℝ) : EReal)) * ((ga q : ℝ) : EReal)) := by
  refine (dats m 0 c).arrAt_eq_of_covers 8 _ (by decide +kernel) fun t hf y => ?_
  blk_simp
  rw [after0_8]
  rcases em (t.val % 16 = 0) with h | h
  · rw [outsAt0_A m c t h]; frame_out
    rw [pay7_blk m c hx hb hga hd he hg hs t, blk6 m c hga, pay10_enc]; unfold val2; blk_simp; rw [row8, col8]
  · rw [outsAt0_B m c t h]; frame_out
    rw [pay7_blk m c hx hb hga hd he hg hs t, blk6 m c hga, pay10_enc]; unfold val2; blk_simp; rw [row8, col8]

include hx hb hga hd hs in
/-- The gain's gradient. -/
theorem final_dg : (dats m 0 c).arrAt 9 cfg0.N = fun j : S1x1024.Idx => ∑ R : Fin 8192, ((dn d s R.val (j 1).val * nx (gx x b ga) R.val (j 1).val : ℝ) : EReal) := by
  refine (dats m 0 c).arrAt_eq_of_after_last 9 t0_15 (by decide +kernel) _ fun j => ?_
  blk_simp
  rw [after0_9]
  rw [Pipeline.eq_sum_fin_of_reset_step_apply_last (fun n h => (outsAt0 m c n h).2.2.1) 16 (fun _ => 0) (fun t j => ∑ a : Fin 512, ((dn d s (t.val * 512 + a.val) (j 1).val * nx (gx x b ga) (t.val * 512 + a.val) (j 1).val : ℝ) : EReal))
    (fun t h j => by rw [outsAt0_A m c t h]; frame_out; rw [blk0 m c hx hb hga, blk1 m c hd, blk5 m c hs, pay15_at, pay11_at]; rfl)
    (fun t h j => by rw [outsAt0_B m c t h]; frame_out; rw [blk0 m c hx hb hga, blk1 m c hd, blk5 m c hs, pay15_at]; rfl) (by decide +kernel) t0_15 rfl j]
  rw [zero_add]
  exact Fin.sum_mul_add_congr fun s k hl => rfl

include hx hb hga hd hg in
/-- The scale's gradient. -/
theorem final_dsc : (dats m 0 c).arrAt 10 cfg0.N = fun j : S1x1024.Idx => ∑ R : Fin 8192, ((d R.val (j 1).val * (nx (gx x b ga) R.val (j 1).val * g (j 1).val) : ℝ) : EReal) := by
  refine (dats m 0 c).arrAt_eq_of_after_last 10 t0_15 (by decide +kernel) _ fun j => ?_
  blk_simp
  rw [after0_10]
  rw [Pipeline.eq_sum_fin_of_reset_step_apply_last (fun n h => (outsAt0 m c n h).2.2.2.1) 16 (fun _ => 0) (fun t j => ∑ a : Fin 512, ((d (t.val * 512 + a.val) (j 1).val * (nx (gx x b ga) (t.val * 512 + a.val) (j 1).val * g (j 1).val) : ℝ) : EReal))
    (fun t h j => by rw [outsAt0_A m c t h]; frame_out; rw [blk0 m c hx hb hga, blk1 m c hd, blk4 m c hg, pay16_at, pay12_at]; rfl)
    (fun t h j => by rw [outsAt0_B m c t h]; frame_out; rw [blk0 m c hx hb hga, blk1 m c hd, blk4 m c hg, pay16_at]; rfl) (by decide +kernel) t0_15 rfl j]
  rw [zero_add]
  exact Fin.sum_mul_add_congr fun s k hl => rfl

include hd in
/-- The shift's gradient. -/
theorem final_dsh : (dats m 0 c).arrAt 11 cfg0.N = fun j : S1x1024.Idx => ∑ R : Fin 8192, ((d R.val (j 1).val : ℝ) : EReal) := by
  refine (dats m 0 c).arrAt_eq_of_after_last 11 t0_15 (by decide +kernel) _ fun j => ?_
  blk_simp
  rw [after0_11]
  rw [Pipeline.eq_sum_fin_of_reset_step_apply_last (fun n h => (outsAt0 m c n h).2.2.2.2.1) 16 (fun _ => 0) (fun t j => ∑ a : Fin 512, ((d (t.val * 512 + a.val) (j 1).val : ℝ) : EReal))
    (fun t h j => by rw [outsAt0_A m c t h]; frame_out; rw [blk1 m c hd, pay17_at, pay13_at])
    (fun t h j => by rw [outsAt0_B m c t h]; frame_out; rw [blk1 m c hd, pay17_at]) (by decide +kernel) t0_15 rfl j]
  rw [zero_add]
  exact Fin.sum_mul_add_congr fun s k hl => rfl

include hx hb hga hd he hg hs in
/-- The gate's gradient. -/
theorem final_dgate : (dats m 0 c).arrAt 12 cfg0.N = fun j : S1x1024.Idx => ∑ R : Fin 8192, (e R.val (j 1).val + ((kx (gx x b ga) d g s R.val (j 1).val : ℝ) : EReal)) * ((b R.val (j 1).val : ℝ) : EReal) := by
  refine (dats m 0 c).arrAt_eq_of_after_last 12 t0_15 (by decide +kernel) _ fun j => ?_
  blk_simp
  rw [after0_12]
  rw [Pipeline.eq_sum_fin_of_reset_step_apply_last (fun n h => (outsAt0 m c n h).2.2.2.2.2) 16 (fun _ => 0) (fun t j => ∑ a : Fin 512, (e (t.val * 512 + a.val) (j 1).val + ((kx (gx x b ga) d g s (t.val * 512 + a.val) (j 1).val : ℝ) : EReal)) * ((b (t.val * 512 + a.val) (j 1).val : ℝ) : EReal))
    (fun t h j => by rw [outsAt0_A m c t h]; frame_out; rw [pay7_blk m c hx hb hga hd he hg hs, blk3 m c hb, pay1_at, pay14_at])
    (fun t h j => by rw [outsAt0_B m c t h]; frame_out; rw [pay7_blk m c hx hb hga hd he hg hs, blk3 m c hb, pay1_at]) (by decide +kernel) t0_15 rfl j]
  rw [zero_add]
  exact Fin.sum_mul_add_congr fun s k hl => rfl

end Cert.KernelGNormIdeal.Value
-- ==== Proof.GNorm.Ref.lean ====
module

public import proofs.«01_k».proof.Proof.Gen.ReferenceGNormIdeal.Read
public import proofs.«01_k».proof.Proof.Norms.Row

/-!
The gated norm's gradients on arrays of reals, by reference.py's lines.
-/

@[expose] public section

set_option maxRecDepth 16384

noncomputable section

namespace Cert.ReferenceGNormIdeal.Value

open Cert.ReferenceGNormIdeal Cert.ReferenceGNormIdeal.Gen Cert.ReferenceGNormIdeal.Read Cert.Reals Idealize.ShloMosaic Idealize.ShloMosaic.TcCoe
open Cert.Consts (k1024)
open Finset (range)

abbrev Mat : Type := (⟨S8192x1024, .f32⟩ : BufTy).Contents (Elt Ideal)
abbrev mat (f : ℕ → ℕ → ℝ) : Mat := enc2 (a := 8192) (b := 1024) f
abbrev gvec (f : ℕ → ℝ) : (⟨S1024, .f32⟩ : BufTy).Contents (Elt Ideal) := enc1 (a := 1024) f
abbrev vec (f : ℕ → ℝ) : (⟨S1x1024, .f32⟩ : BufTy).Contents (Elt Ideal) := enc2 (a := 1) (b := 1024) (fun _ q => f q)

variable (x d : ℕ → ℕ → ℝ) (g s : ℕ → ℝ) (e : ℕ → ℕ → EReal)

theorem c0 (i : S_.Idx) : val_main_cst_0 (F := Ideal) i = 0 := nil_word
theorem c1 (i : S_.Idx) : val_main_cst_1 (F := Ideal) i = ((1024 : ℝ) : EReal) := k1024
theorem c2 (i : S_.Idx) : val_main_cst_2 (F := Ideal) i = ((eps : ℝ) : EReal) := eps_word
theorem c3 (i : S_.Idx) : val_main_cst_3 (F := Ideal) i = ((-(1 / 2) : ℝ) : EReal) := neg_half_word
theorem c4 (i : S_.Idx) : val_main_cst_4 (F := Ideal) i = ((1 : ℝ) : EReal) := one_word
theorem c5 (i : S_.Idx) : val_main_cst_5 (F := Ideal) i = 0 := nil_word
theorem c6 (i : S_.Idx) : val_main_cst_6 (F := Ideal) i = 0 := nil_word
theorem c7 (i : S_.Idx) : val_main_cst_7 (F := Ideal) i = 0 := nil_word
theorem c8 (i : S_.Idx) : val_main_cst_8 (F := Ideal) i = 0 := nil_word
theorem c9 (i : S_.Idx) : val_main_cst_9 (F := Ideal) i = 0 := nil_word
theorem c10 (i : S_.Idx) : val_main_cst_10 (F := Ideal) i = ((1024 : ℝ) : EReal) := k1024
theorem c12 (i : S_.Idx) : val_main_cst_12 (F := Ideal) i = 0 := nil_word
theorem c11 (i : S_.Idx) : val_main_cst_11 (F := Ideal) i = 0 := nil_word

variable (b : ℕ → ℕ → ℝ) (ga : ℕ → ℝ)

theorem v3_enc : val_main_v3 (F := Ideal) (mat x) (mat b) (vec ga) = mat (gx x b ga) := by
  funext j; idx_vars j
  unfold val_main_v3 val_main_v2 val_main_v1
  pointwise
  simp only [enc2_ix, ← EReal.coe_mul, ← EReal.coe_add]
  rfl

theorem v10_enc : val_main_v10 (F := Ideal) (mat x) (mat b) (vec ga) = enc2 (a := 8192) (b := 1) (fun r _ => msq (gx x b ga) r) := by
  funext j; idx_vars j
  unfold val_main_v10 val_main_v9 val_main_v8 val_main_v7 val_main_v6 val_main_v5 val_main_v4
  rw [v3_enc]
  pointwise
  rw [c0, c1, c2]
  simp only [enc2_ix, ← EReal.coe_mul]
  rw [sum_coe 1024 fun q => gx x b ga j0.val q * gx x b ga j0.val q, zero_add, div_coe_coe (by norm_num), ← EReal.coe_add]
  rfl

theorem v11_enc : val_main_v11 (F := Ideal) (mat x) (mat b) (vec ga) = enc2 (a := 8192) (b := 1) (fun r _ => rr (gx x b ga) r) := by
  funext j; idx_vars j
  unfold val_main_v11
  rw [v10_enc]
  pointwise
  exact rsqrt_pos (msq_pos (gx x b ga) j0.val)

theorem v14_enc : val_main_v14 (F := Ideal) (mat x) (mat b) (vec ga) = enc2 (a := 8192) (b := 1) (fun r _ => -(1 / 2) * (rr (gx x b ga) r / msq (gx x b ga) r)) := by
  funext j; idx_vars j
  unfold val_main_v14 val_main_v13 val_main_v12
  rw [v10_enc, v11_enc]
  pointwise
  rw [c3]
  simp only [enc2_ix]
  rw [div_coe_coe (msq_pos (gx x b ga) j0.val).ne', ← EReal.coe_mul]

theorem v16_enc : val_main_v16 (F := Ideal) (mat x) (mat b) (vec ga) = mat (nx (gx x b ga)) := by
  funext j; idx_vars j
  unfold val_main_v16 val_main_v15
  rw [v3_enc, v11_enc]
  pointwise
  simp only [enc2_ix, ← EReal.coe_mul]
  rfl

theorem v33_enc : val_main_v33 (F := Ideal) (mat d) (vec s) = mat (dn d s) := by
  funext j; idx_vars j
  unfold val_main_v33 val_main_v32 val_main_v21 val_main_v20 val_main_v26
  pointwise
  rw [c4]
  simp only [enc2_ix, ← EReal.coe_add, ← EReal.coe_mul]
  rfl

theorem v38_enc : val_main_v38 (F := Ideal) (mat d) (gvec g) (vec s) = mat (dnx d g s) := by
  funext j; idx_vars j
  unfold val_main_v38 val_main_v37 val_main_v17
  rw [v33_enc]
  pointwise
  exact (EReal.coe_mul _ _).symm

theorem v50_enc : val_main_v50 (F := Ideal) (mat x) (mat b) (vec ga) (mat d) (gvec g) (vec s) = mat (fun r _ => wx (gx x b ga) d g s r) := by
  funext j; idx_vars j
  unfold val_main_v50 val_main_v49 val_main_v48 val_main_v47 val_main_v46 val_main_v42 val_main_v41 val_main_v40
  rw [v3_enc, v38_enc, v14_enc]
  pointwise
  rw [c9, c10, c11]
  simp only [enc2_ix, ← EReal.coe_mul]
  rw [sum_coe 1024 fun q => gx x b ga j0.val q * dnx d g s j0.val q, zero_add, zero_add, ← EReal.coe_mul, div_coe_coe (by norm_num)]
  exact Fin.sum_univ_one _

/-- The row's gradient. -/
theorem v54_enc : val_main_v54 (F := Ideal) (mat x) (mat b) (vec ga) (mat d) (val2 (a := 8192) (b := 1024) e) (gvec g) (vec s) = val2 (a := 8192) (b := 1024) (fun r q => e r q + ((kx (gx x b ga) d g s r q : ℝ) : EReal)) := by
  unfold val_main_v54 val_main_v53 val_main_v52 val_main_v51 val_main_v45 val_main_v44 val_main_v43
  rw [v3_enc, v38_enc, v50_enc, v11_enc]
  funext j; idx_vars j
  pointwise
  simp only [enc2_ix, ← EReal.coe_mul]
  exact dx_eq (gx x b ga) d g s _ _ _

theorem v62_at (j : S1x1024.Idx) : val_main_v62 (F := Ideal) (mat x) (mat b) (vec ga) (mat d) (vec s) j = ∑ r : Fin 8192, ((dn d s r.val (j 1).val * nx (gx x b ga) r.val (j 1).val : ℝ) : EReal) := by
  unfold val_main_v62 val_main_v39 val_main_v36 val_main_v35 val_main_v34
  rw [v16_enc, v33_enc]
  idx_vars j
  pointwise
  rw [c7, c8]
  rw [zero_add]
  refine (Fin.sum_univ_one _).trans ((zero_add _).trans (Finset.sum_congr rfl fun r _ => ?_))
  exact (mul_comm _ _).trans (EReal.coe_mul _ _).symm

theorem v31_at (j : S1x1024.Idx) : val_main_v31 (F := Ideal) (mat x) (mat b) (vec ga) (mat d) (gvec g) j = ∑ r : Fin 8192, ((d r.val (j 1).val * (nx (gx x b ga) r.val (j 1).val * g (j 1).val) : ℝ) : EReal) := by
  unfold val_main_v31 val_main_v30 val_main_v29 val_main_v26 val_main_v19 val_main_v18 val_main_v17
  rw [v16_enc]
  idx_vars j
  pointwise
  rw [c6]
  rw [zero_add]
  refine Finset.sum_congr rfl fun r _ => ?_
  refine (mul_comm _ _).trans ?_
  rw [EReal.coe_mul, EReal.coe_mul]
  rfl

theorem v28_at (j : S1x1024.Idx) : val_main_v28 (F := Ideal) (mat d) j = ∑ r : Fin 8192, ((d r.val (j 1).val : ℝ) : EReal) := by
  unfold val_main_v28 val_main_v27
  idx_vars j
  pointwise
  rw [c5, zero_add]
  rfl

theorem v61_enc : val_main_v61 (F := Ideal) (mat x) (mat b) (vec ga) (mat d) (val2 (a := 8192) (b := 1024) e) (gvec g) (vec s)
    = val2 (a := 8192) (b := 1024) (fun r q => (e r q + ((kx (gx x b ga) d g s r q : ℝ) : EReal)) * ((ga q : ℝ) : EReal)) := by
  unfold val_main_v61 val_main_v57 val_main_v56 val_main_v55
  rw [v54_enc]
  funext j; idx_vars j
  pointwise
  exact mul_comm _ _

theorem v60_at (j : S1x1024.Idx) : val_main_v60 (F := Ideal) (mat x) (mat b) (vec ga) (mat d) (val2 (a := 8192) (b := 1024) e) (gvec g) (vec s) j
    = ∑ r : Fin 8192, (e r.val (j 1).val + ((kx (gx x b ga) d g s r.val (j 1).val : ℝ) : EReal)) * ((b r.val (j 1).val : ℝ) : EReal) := by
  unfold val_main_v60 val_main_v59 val_main_v58 val_main_v55
  rw [v54_enc]
  idx_vars j
  pointwise
  rw [c12, zero_add]
  rfl

end Cert.ReferenceGNormIdeal.Value
-- ==== Proof.GNorm.Claim.lean ====
/- The gated norm's backward call computes the gradients of the modulated norm. -/
module

public import proofs.«01_k».proof.Defs
public import proofs.«01_k».proof.Proof.Finite
public import proofs.«01_k».proof.Proof.GNorm.Outs
public import proofs.«01_k».proof.Proof.GNorm.Ref
public import proofs.«01_k».proof.Proof.Gen.Pre_finite_normg
public import proofs.«01_k».proof.Proof.Gen.ReferenceGNormIdeal.Run
public import proofs.«01_k».proof.Proof.Gen.ReferenceGNormIdeal.Read
public import Idealize.ShloMosaic.Lib.Claim

@[expose] public section

set_option maxRecDepth 16384

noncomputable section

namespace Cert.KernelGNormIdeal.Value

open Cert.KernelGNormIdeal Cert.KernelGNormIdeal.Gen Cert.Reals Idealize.ShloMosaic Idealize.ShloMosaic.TcCoe Idealize.SL.Sem
open Idealize.ShloMosaic.Pipeline (Dat)

/-- Under the precondition the rows, the gradient of their norm, the gate, the gain and the scale are arrays of reals. -/
theorem finite_args (x b : FVec Ideal S8192x1024 .f32) (ga : FVec Ideal S1x1024 .f32) (d e : FVec Ideal S8192x1024 .f32) (g : FVec Ideal S1024 .f32) (s : FVec Ideal S1x1024 .f32)
    (h : Cert.Pre_finite_normg.fn (F := Ideal) x b ga d e g s = fun _ => 1#1) :
    (∃ X : ℕ → ℕ → ℝ, x = enc2 X) ∧ (∃ B : ℕ → ℕ → ℝ, b = enc2 B) ∧ (∃ A : ℕ → ℝ, ga = enc2 (fun _ q => A q)) ∧ (∃ D : ℕ → ℕ → ℝ, d = enc2 D) ∧ (∃ G : ℕ → ℝ, g = enc1 G)
      ∧ (∃ S : ℕ → ℝ, s = enc2 (fun _ q => S q)) := by
  have h0 := congrFun h (Shape.Idx.first (by decide))
  unfold Cert.Pre_finite_normg.fn at h0
  haveI : Subsingleton Cert.Pre_finite_normg.S_.Idx := ⟨fun a b => funext fun q => q.elim0⟩
  obtain ⟨h1, hs⟩ := IntOp.andi_eq_one.1 h0
  obtain ⟨h2, hg⟩ := IntOp.andi_eq_one.1 h1
  obtain ⟨h3, hd⟩ := IntOp.andi_eq_one.1 h2
  obtain ⟨h4, ha⟩ := IntOp.andi_eq_one.1 h3
  obtain ⟨hx, hb⟩ := IntOp.andi_eq_one.1 h4
  exact ⟨⟨_, enc2_of_real x fun i => real_of_abs _ (Host.reduce_andi_all _ _ _ _ _ hx i)⟩, ⟨_, enc2_of_real b fun i => real_of_abs _ (Host.reduce_andi_all _ _ _ _ _ hb i)⟩,
    ⟨_, (enc2_of_real ga fun i => real_of_abs _ (Host.reduce_andi_all _ _ _ _ _ ha i)).trans (enc2_row _)⟩, ⟨_, enc2_of_real d fun i => real_of_abs _ (Host.reduce_andi_all _ _ _ _ _ hd i)⟩,
    ⟨_, enc1_of_real g fun i => real_of_abs _ (Host.reduce_andi_all _ _ _ _ _ hg i)⟩, ⟨_, (enc2_of_real s fun i => real_of_abs _ (Host.reduce_andi_all _ _ _ _ _ hs i)).trans (enc2_row _)⟩⟩

/-- The reference terminates, leaves its arguments alone and every semaphore at zero. -/
theorem frame_reference : Cert.quiescent_ReferenceGNormIdeal := fun m g _ =>
  (θ_run Cert.ReferenceGNormIdeal.defs _ _).mono (fun r h => ⟨fun c => (h c).2.2.2.2.2.2, sem_eq_zero_of_no_sems (by decide) r.2⟩)
    (Cert.ReferenceGNormIdeal.Value.run (F := Ideal) m g)

set_option maxHeartbeats 1000000 in
/-- For finite rows, gradient, gate, gain and scale the call's results are the gradients of the modulated norm. -/
theorem algebraic : Cert.algebraic_KernelGNormIdeal_ReferenceGNormIdeal_pre_finite_normg := by
  pair_intro
  · run_from Cert.KernelGNormIdeal.Gen.run_main m g
  · refine (θ_run _ _ _).mono (fun r h c => ?_) (Cert.ReferenceGNormIdeal.Value.run (F := Ideal) m' g')
    obtain ⟨a0, a1, a2, a3, a4, a5, a6⟩ := hagree c
    obtain ⟨h54, h61, h60, h62, h31, h28, hargs⟩ := h c
    obtain ⟨⟨x, hx⟩, ⟨b, hb⟩, ⟨ga, hga⟩, ⟨d, hd⟩, ⟨w, hg⟩, ⟨s, hs⟩⟩ := finite_args _ _ _ _ _ _ _ (hpre c)
    obtain ⟨e, he⟩ := exists_val2 (m ((c : Thread nD τ).loc main_arg4))
    refine ⟨h54.trans ?_, h61.trans ?_, h60.trans ?_, h62.trans ((Cert.ReferenceGNormIdeal.Read.val_main_v62_eq (F := Ideal) _ _ _ _ _).trans ?_), h31.trans ((Cert.ReferenceGNormIdeal.Read.val_main_v31_eq (F := Ideal) _ _ _ _ _).trans ?_),
      h28.trans ((Cert.ReferenceGNormIdeal.Read.val_main_v28_eq (F := Ideal) _).trans ?_), hargs⟩
    · rw [Cert.ReferenceGNormIdeal.Read.val_main_v54_eq (F := Ideal) m' c, a0, a1, a2, a3, a4, a5, a6]
      refine Eq.trans ?_ (final_dx m c hx hb hga hd he hg hs).symm
      rw [hx, hb, hga, hd, he, hg, hs]
      exact Cert.ReferenceGNormIdeal.Value.v54_enc x d w s e b ga
    · rw [Cert.ReferenceGNormIdeal.Read.val_main_v61_eq (F := Ideal) m' c, a0, a1, a2, a3, a4, a5, a6]
      refine Eq.trans ?_ (final_dm m c hx hb hga hd he hg hs).symm
      rw [hx, hb, hga, hd, he, hg, hs]
      exact Cert.ReferenceGNormIdeal.Value.v61_enc x d w s e b ga
    · rw [Cert.ReferenceGNormIdeal.Read.val_main_v60_eq (F := Ideal) m' c, a0, a1, a2, a3, a4, a5, a6]
      refine Eq.trans ?_ (final_dgate m c hx hb hga hd he hg hs).symm
      rw [hx, hb, hga, hd, he, hg, hs]
      exact funext fun j => Cert.ReferenceGNormIdeal.Value.v60_at x d w s e b ga j
    · rw [a0, a1, a2, a3, a6]
      refine Eq.trans ?_ (final_dg m c hx hb hga hd hs).symm
      rw [hx, hb, hga, hd, hs]
      exact funext fun j => Cert.ReferenceGNormIdeal.Value.v62_at x d s b ga j
    · rw [a0, a1, a2, a3, a5]
      refine Eq.trans ?_ (final_dsc m c hx hb hga hd hg).symm
      rw [hx, hb, hga, hd, hg]
      exact funext fun j => Cert.ReferenceGNormIdeal.Value.v31_at x d w b ga j
    · rw [a3]
      refine Eq.trans ?_ (final_dsh m c hd).symm
      rw [hd]
      exact funext fun j => Cert.ReferenceGNormIdeal.Value.v28_at d j

end Cert.KernelGNormIdeal.Value
-- ==== Proof.Relu2.Claim.lean ====
module

public import proofs.«01_k».proof.Defs
public import proofs.«01_k».proof.Proof.Enc
public import proofs.«01_k».proof.Proof.Gen.KernelRelu2Ideal.Frame
public import proofs.«01_k».proof.Proof.Gen.ReferenceRelu2Ideal.Run
public import proofs.«01_k».proof.Proof.Gen.ReferenceRelu2Ideal.Read
public import Idealize.ShloMosaic.Lib.Pipeline.ValueKit

/-!
The gradient of the feed-forward block's square of the rectified activations: (dm·w₂ᵀ) · 2·max(a, 0), blocks of rows by
blocks of columns. The reference chooses 0 where a is not positive; there the kernel's factor is 0.
-/

@[expose] public section

set_option maxRecDepth 16384

noncomputable section

namespace Cert.KernelRelu2Ideal.Value

open Cert.KernelRelu2Ideal Cert.KernelRelu2Ideal.Gen Cert.Reals Idealize.ShloMosaic Idealize.ShloMosaic.TcCoe Idealize.SL.Sem
open Idealize.ShloMosaic.Pipeline (Dat)

/-- The gradient at row `r` and column `l`. -/
def grad (d w a : ℕ → ℕ → EReal) (r l : ℕ) : EReal := (∑ q : Fin 1024, d r q * w l q) * (Ideal.ofBits .f32 0x40000000#32 * max (a r l) 0)

section Kernel

variable (d w a : ℕ → ℕ → EReal)

theorem pay_enc : k0_pay1 (F := Ideal) (val2 (a := 1024) (b := 1024) d) (val2 (a := 1024) (b := 1024) w) (val2 (a := 1024) (b := 1024) a)
    = val2 (a := 1024) (b := 1024) (grad d w a) := by
  funext j; idx_vars j
  unfold k0_pay1
  pointwise
  simp only [val2_ix]
  rfl

theorem idx : ∀ t : Fin grid0.N, win0_0.index t = ![t.val / 4, 0] ∧ win0_1.index t = ![t.val % 4, 0] ∧ win0_2.index t = ![t.val / 4, t.val % 4]
    ∧ win0_3.index t = ![t.val / 4, t.val % 4] := by decide +kernel

theorem row (t : Fin cfg0.N) (y : S1024x1024.Idx) : win0_3.index t 0 * 1024 + (y 0).val = t.val / 4 * 1024 + (y 0).val := by
  rw [(idx t).2.2.2]; rfl

theorem col (t : Fin cfg0.N) (y : S1024x1024.Idx) : win0_3.index t 1 * 1024 + (y 1).val = t.val % 4 * 1024 + (y 1).val := by
  rw [(idx t).2.2.2]; rfl

variable (m : (ℓ : Loc nD τ sig) → Buf (Elt Ideal) ℓ) (c : Dev nD) {d w a : ℕ → ℕ → EReal}
  (hd : m ((c : Thread nD τ).loc main_arg0) = val2 (a := 8192) (b := 1024) d) (hw : m ((c : Thread nD τ).loc main_arg1) = val2 (a := 4096) (b := 1024) w)
  (ha : m ((c : Thread nD τ).loc main_arg2) = val2 (a := 8192) (b := 4096) a) (t : Fin cfg0.N)

include hd in
theorem blk0 : iblk m c 0 t = val2 (a := 1024) (b := 1024) (fun r q => d (t.val / 4 * 1024 + r) q) := by
  funext j
  refine Eq.trans ?_ (congrFun hd (ValueIdx.ix2 ⟨t.val / 4 * 1024 + (j 0).val, by have : t.val < 32 := t.isLt; have : (j 0).val < 1024 := (j 0).isLt; omega⟩ (j 1)))
  refine congrArg (m ((c : Thread nD τ).loc main_arg0)) (funext fun k => Fin.ext (((cfg0.win 0).rect_emb_val t j k).trans ?_))
  have h : win0_0.index t = _ := (idx t).1
  match k with
  | ⟨0, _⟩ => show win0_0.index t 0 * 1024 + (j 0).val = t.val / 4 * 1024 + (j 0).val; rw [h]; rfl
  | ⟨1, _⟩ => show win0_0.index t 1 * 1024 + (j 1).val = (j 1).val; rw [h]; exact Nat.zero_add _

include hw in
theorem blk1 : iblk m c 1 t = val2 (a := 1024) (b := 1024) (fun l q => w (t.val % 4 * 1024 + l) q) := by
  funext j
  refine Eq.trans ?_ (congrFun hw (ValueIdx.ix2 ⟨t.val % 4 * 1024 + (j 0).val, by have : t.val < 32 := t.isLt; have : (j 0).val < 1024 := (j 0).isLt; omega⟩ (j 1)))
  refine congrArg (m ((c : Thread nD τ).loc main_arg1)) (funext fun k => Fin.ext (((cfg0.win 1).rect_emb_val t j k).trans ?_))
  have h : win0_1.index t = _ := (idx t).2.1
  match k with
  | ⟨0, _⟩ => show win0_1.index t 0 * 1024 + (j 0).val = t.val % 4 * 1024 + (j 0).val; rw [h]; rfl
  | ⟨1, _⟩ => show win0_1.index t 1 * 1024 + (j 1).val = (j 1).val; rw [h]; exact Nat.zero_add _

include ha in
theorem blk2 : iblk m c 2 t = val2 (a := 1024) (b := 1024) (fun r l => a (t.val / 4 * 1024 + r) (t.val % 4 * 1024 + l)) := by
  funext j
  refine Eq.trans ?_ (congrFun ha (ValueIdx.ix2 ⟨t.val / 4 * 1024 + (j 0).val, by have : t.val < 32 := t.isLt; have : (j 0).val < 1024 := (j 0).isLt; omega⟩
    ⟨t.val % 4 * 1024 + (j 1).val, by have : (j 1).val < 1024 := (j 1).isLt; omega⟩))
  refine congrArg (m ((c : Thread nD τ).loc main_arg2)) (funext fun k => Fin.ext (((cfg0.win 2).rect_emb_val t j k).trans ?_))
  have h : win0_2.index t = _ := (idx t).2.2.1
  match k with
  | ⟨0, _⟩ => show win0_2.index t 0 * 1024 + (j 0).val = t.val / 4 * 1024 + (j 0).val; rw [h]; rfl
  | ⟨1, _⟩ => show win0_2.index t 1 * 1024 + (j 1).val = t.val % 4 * 1024 + (j 1).val; rw [h]; rfl

include hd hw ha in
theorem out_enc : out0_3 (iblk m c 0 t) (iblk m c 1 t) (iblk m c 2 t)
    = val2 (a := 1024) (b := 1024) (fun r l => grad d w a (t.val / 4 * 1024 + r) (t.val % 4 * 1024 + l)) := by
  rw [blk0 m c hd, blk1 m c hw, blk2 m c ha]
  frame_out
  exact pay_enc _ _ _

include hd hw ha in
theorem final : (dats m 0 c).arrAt 3 (cfgs 0).N = val2 (a := 8192) (b := 4096) (grad d w a) := by
  refine (dats m 0 c).arrAt_eq_of_covers 3 _ (by decide +kernel) fun t _ y => ?_
  unfold val2
  blk_simp
  rw [after0_3, out_enc m c hd hw ha, row, col]
  rfl

end Kernel

/-- The reference's result: the chosen 0 is the product with 0. -/
theorem reference_eq (d w a : ℕ → ℕ → EReal) : Cert.ReferenceRelu2Ideal.Read.val_main_v14 (F := Ideal) (val2 (a := 8192) (b := 1024) d) (val2 (a := 4096) (b := 1024) w) (val2 (a := 8192) (b := 4096) a)
    = val2 (a := 8192) (b := 4096) (grad d w a) := by
  funext j; idx_vars j
  rw [← Cert.ReferenceRelu2Ideal.Read.val_main_v14_eq (F := Ideal)]
  pointwise
  simp only [val2_ix]
  unfold grad
  by_cases h : 0 < a j0.val j1.val
  · exact if_pos h
  · rw [max_eq_right (not_lt.1 h), mul_zero, mul_zero]
    exact if_neg h

/-- The reference terminates, leaves its arguments alone and every semaphore at zero. -/
theorem frame_reference : Cert.quiescent_ReferenceRelu2Ideal := fun m g _ =>
  (θ_run Cert.ReferenceRelu2Ideal.defs _ _).mono (fun r h => ⟨fun c => (h c).2, sem_eq_zero_of_no_sems (by decide) r.2⟩)
    (Cert.ReferenceRelu2Ideal.Value.run (F := Ideal) m g)

set_option maxHeartbeats 1000000 in
/-- The call's result is the gradient through the second product and the squared rectifier. -/
theorem algebraic : Cert.algebraic_KernelRelu2Ideal_ReferenceRelu2Ideal := by
  pair_intro
  · run_from Cert.KernelRelu2Ideal.Gen.run_main m g
  · refine (θ_run _ _ _).mono (fun r h c => ?_) (Cert.ReferenceRelu2Ideal.Value.run (F := Ideal) m' g')
    obtain ⟨a0, a1, a2⟩ := hagree c
    obtain ⟨h14, hargs⟩ := h c
    obtain ⟨d, hd⟩ := exists_val2 (m ((c : Thread nD τ).loc main_arg0))
    obtain ⟨w, hw⟩ := exists_val2 (m ((c : Thread nD τ).loc main_arg1))
    obtain ⟨a, ha⟩ := exists_val2 (m ((c : Thread nD τ).loc main_arg2))
    refine ⟨h14.trans ((Cert.ReferenceRelu2Ideal.Read.val_main_v14_eq (F := Ideal) _ _ _).trans ?_), hargs⟩
    rw [a0, a1, a2]
    refine Eq.trans ?_ (final m c hd hw ha).symm
    rw [hd, hw, ha]
    exact reference_eq d w a

end Cert.KernelRelu2Ideal.Value
-- ==== Proof.Silu.lean ====
module

public import Idealize.ShloMosaic.Lib.Pipeline.ValueKit
public import Idealize.ShloMosaic.Lib.IdealHost

/-!
Arrays of three axes, and the sigmoid linear unit.
-/

@[expose] public section

noncomputable section

namespace Cert.Reals

open Idealize.ShloMosaic

/-- An array of three axes. -/
def val3 {a b c : ℕ} (f : ℕ → ℕ → ℕ → EReal) : (⟨3, ![a, b, c]⟩ : Shape).Idx → EReal := fun j => f (j 0).val (j 1).val (j 2).val

theorem exists_val3 {a b c : ℕ} (X : (⟨3, ![a, b, c]⟩ : Shape).Idx → EReal) : ∃ f, X = val3 (a := a) (b := b) (c := c) f :=
  ⟨fun r k l => if hr : r < a then (if hk : k < b then (if hl : l < c then X (ValueIdx.ix3 ⟨r, hr⟩ ⟨k, hk⟩ ⟨l, hl⟩) else 0) else 0) else 0, funext fun j => by
    have h0 : (j 0).val < a := (j 0).isLt
    have h1 : (j 1).val < b := (j 1).isLt
    have h2 : (j 2).val < c := (j 2).isLt
    show X j = if hr : (j 0).val < a then _ else _
    rw [dif_pos h0, dif_pos h1, dif_pos h2]
    refine congrArg X (funext fun q => ?_)
    match q with
    | ⟨0, _⟩ => rfl
    | ⟨1, _⟩ => rfl
    | ⟨2, _⟩ => rfl⟩

/-- The sigmoid linear unit. -/
def silu (x : EReal) : EReal := Ideal.div x (1 + Ideal.exp (-x))

theorem exp_nonneg (x : EReal) : 0 ≤ Ideal.exp x := by
  induction x with
  | bot => exact le_refl _
  | top => exact le_top
  | coe r => exact EReal.coe_nonneg.2 (Real.exp_pos r).le

theorem silu_eq (x : EReal) : x * Ideal.div 1 (1 + Ideal.exp (-x)) = silu x :=
  Ideal.mul_one_div (ne_of_gt (lt_of_lt_of_le zero_lt_one (le_add_of_nonneg_right (exp_nonneg _))))

end Cert.Reals

end
-- ==== Proof.Ada.Claim.lean ====
module

public import proofs.«01_k».proof.Defs
public import proofs.«01_k».proof.Proof.Enc
public import proofs.«01_k».proof.Proof.Silu
public import proofs.«01_k».proof.Proof.Gen.KernelAdaIdeal.Frame
public import proofs.«01_k».proof.Proof.Gen.ReferenceAdaIdeal.Run
public import proofs.«01_k».proof.Proof.Gen.ReferenceAdaIdeal.Read
public import Idealize.ShloMosaic.Lib.Pipeline.ValueKit
public import Idealize.ShloMosaic.Lib.IdealHost

/-!
The gradient of the conditioning's projections: silu(c)ᵀ · dmod, a layer at a time.
-/

@[expose] public section

set_option maxRecDepth 16384

noncomputable section

namespace Cert.KernelAdaIdeal.Value

open Cert.KernelAdaIdeal Cert.KernelAdaIdeal.Gen Cert.Reals Idealize.ShloMosaic Idealize.ShloMosaic.TcCoe Idealize.SL.Sem
open Idealize.ShloMosaic.Pipeline (Dat)

/-- The gradient of layer `l` at row `r` and column `e`. -/
def grad (k : ℕ → ℕ → EReal) (d : ℕ → ℕ → ℕ → EReal) (l r e : ℕ) : EReal := ∑ b : Fin 16, silu (k b r) * d l b e

section Kernel

theorem pay_enc (k : ℕ → ℕ → EReal) (d : ℕ → ℕ → ℕ → EReal) : k0_pay1 (F := Ideal) (val2 (a := 16) (b := 1024) k) (val3 (a := 1) (b := 16) (c := 1536) d)
    = val3 (a := 1) (b := 1024) (c := 1536) (grad k d) := by
  funext j; idx_vars j
  unfold k0_pay1
  pointwise
  simp only [val2_ix, zero_sub]
  have h : j0.val = 0 := by omega
  show _ = ∑ b : Fin 16, silu (k b j1.val) * d j0.val b j2.val
  rw [h]
  rfl

theorem idx : ∀ t : Fin grid0.N, win0_0.index t = ![0, 0] ∧ win0_1.index t = ![t.val, 0, 0] ∧ win0_2.index t = ![t.val, 0, 0] := by decide +kernel

theorem at0 (t : Fin cfg0.N) (y : S1x1024x1536.Idx) : win0_2.index t 0 = t.val + (y 0).val := by
  have h : (y 0).val < 1 := (y 0).isLt
  rw [(idx t).2.2, show (y 0).val = 0 by omega]; rfl

theorem at1 (t : Fin cfg0.N) (y : S1x1024x1536.Idx) : win0_2.index t 1 * 1024 + (y 1).val = (y 1).val := by
  rw [(idx t).2.2]; exact Nat.zero_add _

theorem at2 (t : Fin cfg0.N) (y : S1x1024x1536.Idx) : win0_2.index t 2 * 1536 + (y 2).val = (y 2).val := by
  rw [(idx t).2.2]; exact Nat.zero_add _

variable (m : (ℓ : Loc nD τ sig) → Buf (Elt Ideal) ℓ) (c : Dev nD) {k : ℕ → ℕ → EReal} {d : ℕ → ℕ → ℕ → EReal}
  (hk : m ((c : Thread nD τ).loc main_arg0) = val2 (a := 16) (b := 1024) k) (hd : m ((c : Thread nD τ).loc main_arg1) = val3 (a := 4) (b := 16) (c := 1536) d)
  (t : Fin cfg0.N)

include hk in
theorem blk0 : iblk m c 0 t = val2 (a := 16) (b := 1024) k := by
  funext j
  refine Eq.trans ?_ (congrFun hk j)
  refine congrArg (m ((c : Thread nD τ).loc main_arg0)) (funext fun a => Fin.ext (((cfg0.win 0).rect_emb_val t j a).trans ?_))
  have h : win0_0.index t = _ := (idx t).1
  match a with
  | ⟨0, _⟩ => show win0_0.index t 0 * 16 + (j 0).val = (j 0).val; rw [h]; exact Nat.zero_add _
  | ⟨1, _⟩ => show win0_0.index t 1 * 1024 + (j 1).val = (j 1).val; rw [h]; exact Nat.zero_add _

include hd in
theorem blk1 : iblk m c 1 t = val3 (a := 1) (b := 16) (c := 1536) (fun l b e => d (t.val + l) b e) := by
  funext j
  refine Eq.trans ?_ (congrFun hd (ValueIdx.ix3 ⟨t.val + (j 0).val, by have : t.val < 4 := t.isLt; have : (j 0).val < 1 := (j 0).isLt; omega⟩ (j 1) (j 2)))
  refine congrArg (m ((c : Thread nD τ).loc main_arg1)) (funext fun a => Fin.ext (((cfg0.win 1).rect_emb_val t j a).trans ?_))
  have h : win0_1.index t = _ := (idx t).2.1
  match a with
  | ⟨0, _⟩ => show win0_1.index t 0 * 1 + (j 0).val = t.val + (j 0).val; rw [h, Nat.mul_one]; rfl
  | ⟨1, _⟩ => show win0_1.index t 1 * 16 + (j 1).val = (j 1).val; rw [h]; exact Nat.zero_add _
  | ⟨2, _⟩ => show win0_1.index t 2 * 1536 + (j 2).val = (j 2).val; rw [h]; exact Nat.zero_add _

include hk hd in
theorem out_enc : out0_2 (iblk m c 0 t) (iblk m c 1 t) = val3 (a := 1) (b := 1024) (c := 1536) (fun l r e => grad k d (t.val + l) r e) := by
  rw [blk0 m c hk, blk1 m c hd]
  frame_out
  exact pay_enc _ _

include hk hd in
theorem final : (dats m 0 c).arrAt 2 (cfgs 0).N = val3 (a := 4) (b := 1024) (c := 1536) (grad k d) := by
  refine (dats m 0 c).arrAt_eq_of_covers 2 _ (by decide +kernel) fun t _ y => ?_
  unfold val3
  blk_simp
  rw [after0_2, out_enc m c hk hd, at0, at1, at2]
  rfl

end Kernel

theorem reference_eq (k : ℕ → ℕ → EReal) (d : ℕ → ℕ → ℕ → EReal) :
    Cert.ReferenceAdaIdeal.Read.val_main_v6 (F := Ideal) (val2 (a := 16) (b := 1024) k) (val3 (a := 4) (b := 16) (c := 1536) d)
      = val3 (a := 4) (b := 1024) (c := 1536) (grad k d) := by
  funext j; idx_vars j
  rw [← Cert.ReferenceAdaIdeal.Read.val_main_v6_eq (F := Ideal)]
  pointwise
  simp only [val2_ix, silu_eq]
  exact Finset.sum_congr rfl fun b _ => mul_comm _ _

/-- The reference terminates, leaves its arguments alone and every semaphore at zero. -/
theorem frame_reference : Cert.quiescent_ReferenceAdaIdeal := fun m g _ =>
  (θ_run Cert.ReferenceAdaIdeal.defs _ _).mono (fun r h => ⟨fun c => (h c).2, sem_eq_zero_of_no_sems (by decide) r.2⟩)
    (Cert.ReferenceAdaIdeal.Value.run (F := Ideal) m g)

set_option maxHeartbeats 1000000 in
/-- The call's result is the gradient of the projections' weights. -/
theorem algebraic : Cert.algebraic_KernelAdaIdeal_ReferenceAdaIdeal := by
  pair_intro
  · run_from Cert.KernelAdaIdeal.Gen.run_main m g
  · refine (θ_run _ _ _).mono (fun r h c => ?_) (Cert.ReferenceAdaIdeal.Value.run (F := Ideal) m' g')
    obtain ⟨a0, a1⟩ := hagree c
    obtain ⟨h6, hargs⟩ := h c
    obtain ⟨k, hk⟩ := exists_val2 (m ((c : Thread nD τ).loc main_arg0))
    obtain ⟨d, hd⟩ := exists_val3 (m ((c : Thread nD τ).loc main_arg1))
    refine ⟨h6.trans ((Cert.ReferenceAdaIdeal.Read.val_main_v6_eq (F := Ideal) _ _).trans ?_), hargs⟩
    rw [a0, a1]
    refine Eq.trans ?_ (final m c hk hd).symm
    rw [hk, hd]
    exact reference_eq k d

end Cert.KernelAdaIdeal.Value
-- ==== Proof.Norms.Heads.lean ====
module

public import proofs.«01_k».proof.Proof.Norms.Row

/-!
The norm of every head of 64 lanes, and its gradient, over the reals: arrays of rows and columns, the head of a column
being the 64 columns around it.
-/

@[expose] public section

noncomputable section

namespace Cert.Reals

open Idealize.ShloMosaic
open Finset (range)

section
variable (x d : ℕ → ℕ → ℝ) (g : ℕ → ℝ)

/-- The sum over the head of column `c`. -/
def over (f : ℕ → ℝ) (c : ℕ) : ℝ := ∑ q ∈ range 64, f (c / 64 * 64 + q)
def hms (r c : ℕ) : ℝ := over (fun l => x r l * x r l) c * (1 / 64) + eps
def hr (r c : ℕ) : ℝ := (√(hms x r c))⁻¹
def hx (r c : ℕ) : ℝ := x r c * hr x r c
def hd (r c : ℕ) : ℝ := d r c * g (c % 64)
/-- The gradient, as the kernel writes it. -/
def hk (r c : ℕ) : ℝ := hr x r c * (hd d g r c - hx x r c * (over (fun l => hd d g r l * hx x r l) c * (1 / 64)))
/-- The weight of the row in the gradient, as differentiation writes it. -/
def hw (r c : ℕ) : ℝ := over (fun l => x r l * hd d g r l) c * (-(1 / 2) * (hr x r c / hms x r c)) / 64
end

variable (x d : ℕ → ℕ → ℝ) (g : ℕ → ℝ)

theorem over_congr {f e : ℕ → ℝ} (c : ℕ) (h : ∀ l, l / 64 = c / 64 → f l = e l) : over f c = over e c :=
  Finset.sum_congr rfl fun q hq => h _ (by have := Finset.mem_range.1 hq; omega)

theorem over_same (f : ℕ → ℝ) {c l : ℕ} (h : l / 64 = c / 64) : over f l = over f c := by unfold over; rw [h]

theorem hms_pos (r c : ℕ) : 0 < hms x r c := by
  unfold hms over
  have : 0 ≤ ∑ q ∈ range 64, x r (c / 64 * 64 + q) * x r (c / 64 * 64 + q) := Finset.sum_nonneg fun q _ => mul_self_nonneg _
  have := eps_pos
  positivity

theorem hr_same (r : ℕ) {c l : ℕ} (h : l / 64 = c / 64) : hr x r l = hr x r c := by unfold hr hms; rw [over_same _ h]

theorem hw_same (r : ℕ) {c l : ℕ} (h : l / 64 = c / 64) : hw x d g r l = hw x d g r c := by
  unfold hw; rw [hr_same x r h, over_same _ h]; unfold hms; rw [over_same _ h]

theorem hk_eq (r c : ℕ) : hd d g r c * hr x r c + x r c * hw x d g r c + hw x d g r c * x r c = hk x d g r c := by
  have ha := hms_pos x r c
  have hr2 : hr x r c * hr x r c = (hms x r c)⁻¹ := by
    unfold hr
    rw [← mul_inv, Real.mul_self_sqrt ha.le]
  have hs : over (fun l => hd d g r l * hx x r l) c = over (fun l => x r l * hd d g r l) c * hr x r c := by
    rw [over_congr c (e := fun l => (x r l * hd d g r l) * hr x r c) fun l h => by unfold hx; rw [hr_same x r h]; ring]
    unfold over
    rw [Finset.sum_mul]
  unfold hk
  rw [hs]
  unfold hw hx
  rw [div_eq_mul_inv (hr x r c) (hms x r c), ← hr2]
  ring

/-- Two heads side by side, one of them under a mask: the sum over the lane's own head. -/
theorem half_sum (f : ℕ → ℝ) (l : ℕ) (hl : l < 128) :
    (if l < 64 then ∑ q ∈ range 128, (if q < 64 then f q else 0) else ∑ q ∈ range 128, (if q < 64 then 0 else f q)) = over f l := by
  unfold over
  split
  · next h =>
    rw [show 128 = 64 + 64 from rfl, Finset.sum_range_add, Finset.sum_eq_zero (s := range 64) (f := fun x => if 64 + x < 64 then f (64 + x) else 0) fun q _ => if_neg (by omega), add_zero]
    exact Finset.sum_congr rfl fun q hq => by rw [if_pos (Finset.mem_range.1 hq), Nat.div_eq_of_lt h, Nat.zero_mul, Nat.zero_add]
  · next h =>
    rw [show 128 = 64 + 64 from rfl, Finset.sum_range_add, Finset.sum_eq_zero (s := range 64) (f := fun x => if x < 64 then 0 else f x) fun q hq => if_pos (Finset.mem_range.1 hq), zero_add]
    exact Finset.sum_congr rfl fun q hq => by rw [if_neg (by omega), show l / 64 = 1 by omega, Nat.one_mul]

/-! A block of 128 columns starting at a multiple of 128. -/

section
variable (p R : ℕ)

theorem over_shift (f : ℕ → ℝ) (l : ℕ) : over (fun q => f (p * 128 + q)) l = over f (p * 128 + l) :=
  Finset.sum_congr rfl fun q _ => congrArg f (by omega)

theorem hr_shift (a l : ℕ) : hr (fun a l => x (R + a) (p * 128 + l)) a l = hr x (R + a) (p * 128 + l) := by
  unfold hr hms; rw [over_shift p (fun l => x (R + a) l * x (R + a) l)]

theorem hx_shift (a l : ℕ) : hx (fun a l => x (R + a) (p * 128 + l)) a l = hx x (R + a) (p * 128 + l) := by
  unfold hx; rw [hr_shift]

theorem hd_shift (a l : ℕ) : hd (fun a l => d (R + a) (p * 128 + l)) g a l = hd d g (R + a) (p * 128 + l) := by
  unfold hd; rw [show (p * 128 + l) % 64 = l % 64 by omega]

theorem hk_shift (a l : ℕ) : hk (fun a l => x (R + a) (p * 128 + l)) (fun a l => d (R + a) (p * 128 + l)) g a l = hk x d g (R + a) (p * 128 + l) := by
  unfold hk
  simp only [hr_shift, hx_shift, hd_shift]
  rw [over_shift p (fun l => hd d g (R + a) l * hx x (R + a) l)]
end

end Cert.Reals

end
-- ==== Proof.QkNorm.Pay.lean ====
module

public import proofs.«01_k».proof.Proof.Gen.KernelQkNormIdeal.Skeleton
public import proofs.«01_k».proof.Proof.Norms.Heads
public import Idealize.ShloMosaic.Lib.Pipeline.ValueKit

/-!
The head norms' values on arrays of reals.
-/

@[expose] public section

set_option maxRecDepth 16384

noncomputable section

namespace Cert.KernelQkNormIdeal.Value

open Cert.KernelQkNormIdeal Cert.KernelQkNormIdeal.Gen Cert.Reals Idealize.ShloMosaic Idealize.ShloMosaic.TcCoe Idealize.SL.Sem
open Idealize.ShloMosaic.WordCmp (cmpi_slt_ofNat)
open Finset (range)

variable (x d : ℕ → ℕ → ℝ) (g : ℕ → ℝ)

/-- A block of rows, and the gain of a head written twice. -/
abbrev blk (f : ℕ → ℕ → ℝ) : Vec Ideal S2048x128 .f32 := enc2 (a := 2048) (b := 128) f
abbrev gain (f : ℕ → ℝ) : Vec Ideal S1x128 .f32 := enc2 (a := 1) (b := 128) (fun _ l => f (l % 64))

theorem cmpi_slt_nat (x : Fin 128) : IntOp.cmpi .slt (BitVec.ofNat 32 x.val) 64#32 = BitVec.ofBool (decide (x.val < 64)) := cmpi_slt_ofNat (by omega) (by omega)

theorem sixty_word : Ideal.ofBits .f32 0x3C800000#32 = ((1 / 64 : ℝ) : EReal) := by
  simp [Ideal.ofBits, Ideal.ieee, -EReal.coe_mul]; norm_num

theorem head_sum (f : ℕ → ℝ) (l : Fin 128) : (if l.val < 64 then (∑ q : Fin 128, (((if q.val < 64 then f q.val else 0) : ℝ) : EReal)) else ∑ q : Fin 128, (((if q.val < 64 then 0 else f q.val) : ℝ) : EReal))
    = ((over f l.val : ℝ) : EReal) := by
  rw [sum_coe 128 fun q => if q < 64 then f q else 0, sum_coe 128 fun q => if q < 64 then 0 else f q, coe_ite, half_sum f _ l.isLt]

theorem pay7_enc : k0_pay7 (F := Ideal) (blk x) = blk (hr x) := by
  funext j; idx_vars j
  unfold k0_pay7 k0_pay6 k0_pay5
  pointwise
  simp only [select_decide, enc2_ix, ← EReal.coe_mul, ← EReal.coe_zero, cmpi_slt_nat, coe_ite]
  rw [head_sum (fun l => x j0.val l * x j0.val l), sixty_word, eps_word, ← EReal.coe_mul, ← EReal.coe_add]
  exact rsqrt_pos (hms_pos x j0.val j1.val)

theorem pay8_enc : k0_pay8 (F := Ideal) (blk x) = blk (hx x) := by
  unfold k0_pay8
  rw [pay7_enc]
  funext j; idx_vars j
  unfold k0_pay6
  pointwise
  exact (EReal.coe_mul _ _).symm

theorem pay9_enc : k0_pay9 (F := Ideal) (blk d) (gain g) = blk (hd d g) := by
  funext j; idx_vars j
  unfold k0_pay9
  pointwise
  exact (EReal.coe_mul _ _).symm

theorem pay10_enc : k0_pay10 (F := Ideal) k0_pay5 (blk (hr x)) (blk (hx x)) (blk (hd d g)) = blk (hk x d g) := by
  funext j; idx_vars j
  unfold k0_pay10 k0_pay5
  pointwise
  simp only [select_decide, enc2_ix, ← EReal.coe_mul, ← EReal.coe_zero, cmpi_slt_nat, coe_ite]
  rw [head_sum (fun l => hd d g j0.val l * hx x j0.val l), sixty_word, ← EReal.coe_mul, ← EReal.coe_mul, ← EReal.coe_sub, ← EReal.coe_mul]
  rfl

theorem pay11_at (v : Vec Ideal S1x128 .f32) (j : S1x128.Idx) : k0_pay11 (F := Ideal) (blk d) (blk (hx x)) v j = v j + ∑ a : Fin 2048, ((d a.val (j 1).val * hx x a.val (j 1).val : ℝ) : EReal) := by
  idx_vars j
  unfold k0_pay11
  pointwise
  simp only [enc2_ix, ← EReal.coe_mul]

theorem pay14_enc : k0_pay14 (F := Ideal) k0_pay5 (blk x) = blk (fun a l => if l < 64 then x a l * x a l else 0) := by
  funext j; idx_vars j
  unfold k0_pay14 k0_pay13 k0_pay12 k0_pay5
  pointwise
  simp only [select_decide, enc2_ix, ← EReal.coe_mul, ← EReal.coe_zero, cmpi_slt_nat, coe_ite]

theorem pay15_enc : k0_pay15 (F := Ideal) k0_pay5 (k0_pay13 (blk x)) (k0_pay14 k0_pay5 (blk x)) = blk (hr x) := by
  rw [pay14_enc]
  funext j; idx_vars j
  unfold k0_pay15 k0_pay13 k0_pay12 k0_pay5
  pointwise
  simp only [select_decide, enc2_ix, ← EReal.coe_mul, ← EReal.coe_zero, cmpi_slt_nat, coe_ite]
  rw [head_sum (fun l => x j0.val l * x j0.val l), sixty_word, eps_word, ← EReal.coe_mul, ← EReal.coe_add]
  exact rsqrt_pos (hms_pos x j0.val j1.val)

theorem pay16_enc : k0_pay16 (F := Ideal) k0_pay5 (k0_pay12 (blk x)) (k0_pay13 (blk x)) (k0_pay14 k0_pay5 (blk x)) = blk (hx x) := by
  unfold k0_pay16
  rw [pay15_enc]
  funext j; idx_vars j
  unfold k0_pay12
  pointwise
  exact (EReal.coe_mul _ _).symm

theorem pay17_enc : k0_pay17 (F := Ideal) (blk d) (gain g) = blk (hd d g) := by
  funext j; idx_vars j
  unfold k0_pay17
  pointwise
  exact (EReal.coe_mul _ _).symm

theorem pay18_enc : k0_pay18 (F := Ideal) k0_pay5 (k0_pay12 (blk x)) (blk d) (k0_pay13 (blk x)) (k0_pay14 k0_pay5 (blk x)) (gain g)
    = blk (fun a l => hx x a l * (over (fun l => hd d g a l * hx x a l) l * (1 / 64))) := by
  unfold k0_pay18
  rw [pay16_enc, pay17_enc]
  funext j; idx_vars j
  unfold k0_pay5
  pointwise
  simp only [select_decide, enc2_ix, ← EReal.coe_mul, ← EReal.coe_zero, cmpi_slt_nat, coe_ite]
  rw [head_sum (fun l => hd d g j0.val l * hx x j0.val l), sixty_word, ← EReal.coe_mul, ← EReal.coe_mul]

theorem pay1_enc (f : ℕ → ℕ → ℝ) : k0_pay1 (F := Ideal) (blk (hr x)) (blk (hd d g)) (blk f) = blk (fun a l => hr x a l * (hd d g a l - f a l)) := by
  funext j; idx_vars j
  unfold k0_pay1
  pointwise
  simp only [enc2_ix, ← EReal.coe_sub, ← EReal.coe_mul]

theorem pay2_at (v : Vec Ideal S1x128 .f32) (j : S1x128.Idx) : k0_pay2 (F := Ideal) (blk d) (blk (hx x)) v j = v j + ∑ a : Fin 2048, ((d a.val (j 1).val * hx x a.val (j 1).val : ℝ) : EReal) := by
  idx_vars j
  unfold k0_pay2
  pointwise
  simp only [enc2_ix, ← EReal.coe_mul]

theorem pay3_at (j : S1x128.Idx) : k0_pay3 (F := Ideal) j = 0 := by unfold k0_pay3; pointwise
theorem pay4_at (j : S1x128.Idx) : k0_pay4 (F := Ideal) j = 0 := by unfold k0_pay4; pointwise

end Cert.KernelQkNormIdeal.Value
-- ==== Proof.QkNorm.Outs.lean ====
module

public import proofs.«01_k».proof.Proof.Gen.KernelQkNormIdeal.Frame
public import proofs.«01_k».proof.Proof.QkNorm.Pay
public import proofs.«01_k».proof.Proof.Concat
public import Idealize.ShloMosaic.Lib.Pipeline.ValueKit
public import Idealize.ShloMosaic.Lib.StableHlo.RunRead

/-!
The head norms' result arrays.
-/

@[expose] public section

set_option maxRecDepth 16384

noncomputable section

namespace Cert.KernelQkNormIdeal.Value

open Cert.KernelQkNormIdeal Cert.KernelQkNormIdeal.Gen Cert.Reals Idealize.ShloMosaic Idealize.ShloMosaic.TcCoe Idealize.SL.Sem
open Idealize.ShloMosaic.Pipeline (Dat)
open Finset (range)

/-- The columns of q and of k. -/
def qc (P : ℕ → ℕ → ℝ) : ℕ → ℕ → ℝ := fun r c => P r (768 + c)
def kc (P : ℕ → ℕ → ℝ) : ℕ → ℕ → ℝ := fun r c => P r (1280 + c)

/-- A column's sum over one block of rows. -/
def part (F : ℕ → ℕ → ℝ) (i c : ℕ) : ℝ := ∑ a ∈ range 2048, F (i * 2048 + a) c

/-- A sum over the grid and a block's rows, of lane `l`: pairs of heads one after the other. -/
def lanes (F : ℕ → ℕ → ℝ) (l : ℕ) : ℝ := ∑ t ∈ range 16, part F (t % 4) (t / 4 * 128 + l)

theorem rows_parts (F : ℕ → ℕ → ℝ) (c n : ℕ) : ∑ r ∈ range (n * 2048), F r c = ∑ i ∈ range n, part F i c := by
  induction n with
  | zero => simp
  | succ n ih => exact (congrArg (fun k => ∑ r ∈ range k, F r c) (Nat.succ_mul n 2048)).trans ((Finset.sum_range_add _ _ _).trans ((congrArg (· + part F n c) ih).trans (Finset.sum_range_succ _ n).symm))

theorem lanes_heads (F : ℕ → ℕ → ℝ) (l : ℕ) : lanes F l + lanes F (64 + l) = ∑ r ∈ range 8192, ∑ h ∈ range 8, F r (h * 64 + l) := by
  rw [Finset.sum_comm, Finset.sum_congr rfl fun h _ => rows_parts F (h * 64 + l) 4]
  unfold lanes
  simp only [Finset.sum_range_succ, Finset.sum_range_zero, ← Nat.add_assoc, Nat.reduceDiv, Nat.reduceMod, Nat.reduceMul, Nat.reduceAdd, zero_add]
  ring

theorem idx : ∀ t : Fin grid0.N, win0_0.index t = ![t.val % 4, 6 + t.val / 4] ∧ win0_1.index t = ![t.val % 4, 10 + t.val / 4] ∧ win0_2.index t = ![t.val % 4, t.val / 4]
    ∧ win0_3.index t = ![t.val % 4, t.val / 4] ∧ win0_4.index t = ![0, 0] ∧ win0_5.index t = ![0, 0] ∧ win0_6.index t = ![t.val % 4, t.val / 4]
    ∧ win0_7.index t = ![t.val % 4, t.val / 4] := by decide +kernel

theorem row6 (t : Fin cfg0.N) (y : S2048x128.Idx) : win0_6.index t 0 * 2048 + (y 0).val = t.val % 4 * 2048 + (y 0).val := by rw [(idx t).2.2.2.2.2.2.1]; rfl
theorem col6 (t : Fin cfg0.N) (y : S2048x128.Idx) : win0_6.index t 1 * 128 + (y 1).val = t.val / 4 * 128 + (y 1).val := by rw [(idx t).2.2.2.2.2.2.1]; rfl
theorem row7 (t : Fin cfg0.N) (y : S2048x128.Idx) : win0_7.index t 0 * 2048 + (y 0).val = t.val % 4 * 2048 + (y 0).val := by rw [(idx t).2.2.2.2.2.2.2]; rfl
theorem col7 (t : Fin cfg0.N) (y : S2048x128.Idx) : win0_7.index t 1 * 128 + (y 1).val = t.val / 4 * 128 + (y 1).val := by rw [(idx t).2.2.2.2.2.2.2]; rfl

variable (m : (ℓ : Loc nD τ sig) → Buf (Elt Ideal) ℓ) (c : Dev nD) {P d e : ℕ → ℕ → ℝ} {g k : ℕ → ℝ}
  (hP : m ((c : Thread nD τ).loc main_arg0) = enc2 (a := 8192) (b := 2824) P) (hd' : m ((c : Thread nD τ).loc main_arg1) = enc2 (a := 8192) (b := 512) d)
  (he : m ((c : Thread nD τ).loc main_arg2) = enc2 (a := 8192) (b := 512) e)
  (hg : m ((c : Thread nD τ).loc main_arg3) = enc1 (a := 64) g) (hk' : m ((c : Thread nD τ).loc main_arg4) = enc1 (a := 64) k) (t : Fin cfg0.N)

set_option maxHeartbeats 4000000 in
/-- The first 2304 columns of the packed array are the projection's own. -/
theorem V_proj (j : S8192x3072.Idx) (h : (j 1).val < 2304) : V m c main_v12 j = m ((c : Thread nD τ).loc main_arg0) (ValueIdx.ix2 (j 0) ⟨(j 1).val, by omega⟩) := by
  unfold V V0
  simp only [List.flatten_cons, List.flatten_nil, List.append_nil, List.cons_append, List.nil_append]
  after_reads_simp
  refine (concat_at 1 _ _ j 0 (by simp) S8192x2304 _ rfl rfl (ValueIdx.ix2 (j 0) ⟨(j 1).val, h⟩) (fun b => match b with | ⟨0, _⟩ => rfl | ⟨1, _⟩ => rfl)).trans ?_
  refine extractStridedSlice_apply ![0, 0] (m (c, Proc.devRef .tc main_arg0)) slices_S8192x2824_S8192x2304_0_0 _ _ (fun a => match a with | ⟨0, _⟩ => ?_ | ⟨1, _⟩ => ?_)
  · exact (Nat.zero_add _).symm
  · exact (Nat.zero_add _).symm

set_option maxHeartbeats 4000000 in
include hg in
theorem qgain : V m c main_v3 = gain g := by
  unfold V V0
  simp only [List.flatten_cons, List.flatten_nil, List.append_nil, List.cons_append, List.nil_append]
  after_reads_simp
  rw [hg]
  funext j; idx_vars j
  pointwise
  rfl

set_option maxHeartbeats 4000000 in
include hk' in
theorem kgain : V m c main_v7 = gain k := by
  unfold V V0
  simp only [List.flatten_cons, List.flatten_nil, List.append_nil, List.cons_append, List.nil_append]
  after_reads_simp
  rw [hk']
  funext j; idx_vars j
  pointwise
  rfl

include hP in
theorem proj_at (R C : ℕ) (hR : R < 8192) (hC : C < 2304) : V m c main_v12 (ValueIdx.ix2 ⟨R, hR⟩ ⟨C, by omega⟩) = ((P R C : ℝ) : EReal) := by
  rw [V_proj m c _ (by exact hC), hP]; rfl

theorem tlt (t : Fin cfg0.N) : t.val < 16 := t.isLt

include hP in
theorem blk0 : iblk m c 0 t = blk (fun a l => qc P (t.val % 4 * 2048 + a) (t.val / 4 * 128 + l)) := by
  funext j
  have h0 : (j 0).val < 2048 := (j 0).isLt
  have h1 : (j 1).val < 128 := (j 1).isLt
  have ht := tlt t
  refine Eq.trans ?_ (proj_at m c hP (t.val % 4 * 2048 + (j 0).val) (768 + (t.val / 4 * 128 + (j 1).val)) (by omega) (by omega))
  refine congrArg (V m c main_v12) (funext fun a => Fin.ext (((cfg0.win 0).rect_emb_val t j a).trans ?_))
  have h : win0_0.index t = _ := (idx t).1
  match a with
  | ⟨0, _⟩ => show win0_0.index t 0 * 2048 + (j 0).val = t.val % 4 * 2048 + (j 0).val; rw [h]; rfl
  | ⟨1, _⟩ => show win0_0.index t 1 * 128 + (j 1).val = 768 + (t.val / 4 * 128 + (j 1).val); rw [h]; show (6 + t.val / 4) * 128 + (j 1).val = _; omega

include hP in
theorem blk1 : iblk m c 1 t = blk (fun a l => kc P (t.val % 4 * 2048 + a) (t.val / 4 * 128 + l)) := by
  funext j
  have h0 : (j 0).val < 2048 := (j 0).isLt
  have h1 : (j 1).val < 128 := (j 1).isLt
  have ht := tlt t
  refine Eq.trans ?_ (proj_at m c hP (t.val % 4 * 2048 + (j 0).val) (1280 + (t.val / 4 * 128 + (j 1).val)) (by omega) (by omega))
  refine congrArg (V m c main_v12) (funext fun a => Fin.ext (((cfg0.win 1).rect_emb_val t j a).trans ?_))
  have h : win0_1.index t = _ := (idx t).2.1
  match a with
  | ⟨0, _⟩ => show win0_1.index t 0 * 2048 + (j 0).val = t.val % 4 * 2048 + (j 0).val; rw [h]; rfl
  | ⟨1, _⟩ => show win0_1.index t 1 * 128 + (j 1).val = 1280 + (t.val / 4 * 128 + (j 1).val); rw [h]; show (10 + t.val / 4) * 128 + (j 1).val = _; omega

include hd' in
theorem blk2 : iblk m c 2 t = blk (fun a l => d (t.val % 4 * 2048 + a) (t.val / 4 * 128 + l)) := by
  funext j
  have ht := tlt t
  refine Eq.trans ?_ (congrFun hd' (ValueIdx.ix2 ⟨t.val % 4 * 2048 + (j 0).val, by have : (j 0).val < 2048 := (j 0).isLt; omega⟩ ⟨t.val / 4 * 128 + (j 1).val, by have : (j 1).val < 128 := (j 1).isLt; omega⟩))
  rw [← V_main_arg1 m c]
  refine congrArg (V m c main_arg1) (funext fun a => Fin.ext (((cfg0.win 2).rect_emb_val t j a).trans ?_))
  have h : win0_2.index t = _ := (idx t).2.2.1
  match a with
  | ⟨0, _⟩ => show win0_2.index t 0 * 2048 + (j 0).val = t.val % 4 * 2048 + (j 0).val; rw [h]; rfl
  | ⟨1, _⟩ => show win0_2.index t 1 * 128 + (j 1).val = t.val / 4 * 128 + (j 1).val; rw [h]; rfl

include he in
theorem blk3 : iblk m c 3 t = blk (fun a l => e (t.val % 4 * 2048 + a) (t.val / 4 * 128 + l)) := by
  funext j
  have ht := tlt t
  refine Eq.trans ?_ (congrFun he (ValueIdx.ix2 ⟨t.val % 4 * 2048 + (j 0).val, by have : (j 0).val < 2048 := (j 0).isLt; omega⟩ ⟨t.val / 4 * 128 + (j 1).val, by have : (j 1).val < 128 := (j 1).isLt; omega⟩))
  rw [← V_main_arg2 m c]
  refine congrArg (V m c main_arg2) (funext fun a => Fin.ext (((cfg0.win 3).rect_emb_val t j a).trans ?_))
  have h : win0_3.index t = _ := (idx t).2.2.2.1
  match a with
  | ⟨0, _⟩ => show win0_3.index t 0 * 2048 + (j 0).val = t.val % 4 * 2048 + (j 0).val; rw [h]; rfl
  | ⟨1, _⟩ => show win0_3.index t 1 * 128 + (j 1).val = t.val / 4 * 128 + (j 1).val; rw [h]; rfl

include hg in
theorem blk4 : iblk m c 4 t = gain g := by
  funext j
  refine Eq.trans ?_ (congrFun (qgain m c hg) j)
  refine congrArg (V m c main_v3) (funext fun a => Fin.ext (((cfg0.win 4).rect_emb_val t j a).trans ?_))
  have h : win0_4.index t = _ := (idx t).2.2.2.2.1
  match a with
  | ⟨0, _⟩ => show win0_4.index t 0 * 1 + (j 0).val = (j 0).val; rw [h]; exact Nat.zero_add _
  | ⟨1, _⟩ => show win0_4.index t 1 * 128 + (j 1).val = (j 1).val; rw [h]; exact Nat.zero_add _

include hk' in
theorem blk5 : iblk m c 5 t = gain k := by
  funext j
  refine Eq.trans ?_ (congrFun (kgain m c hk') j)
  refine congrArg (V m c main_v7) (funext fun a => Fin.ext (((cfg0.win 5).rect_emb_val t j a).trans ?_))
  have h : win0_5.index t = _ := (idx t).2.2.2.2.2.1
  match a with
  | ⟨0, _⟩ => show win0_5.index t 0 * 1 + (j 0).val = (j 0).val; rw [h]; exact Nat.zero_add _
  | ⟨1, _⟩ => show win0_5.index t 1 * 128 + (j 1).val = (j 1).val; rw [h]; exact Nat.zero_add _

include hP hd' hg in
theorem dq_blk : k0_pay10 (F := Ideal) k0_pay5 (k0_pay7 (iblk m c 0 t)) (k0_pay8 (iblk m c 0 t)) (k0_pay9 (iblk m c 2 t) (iblk m c 4 t))
    = blk (fun a l => hk (qc P) d g (t.val % 4 * 2048 + a) (t.val / 4 * 128 + l)) := by
  rw [blk0 m c hP, blk2 m c hd', blk4 m c hg, pay7_enc, pay8_enc, pay9_enc, pay10_enc]
  funext j
  exact congrArg Real.toEReal (hk_shift _ _ _ _ _ _ _)

include hP he hk' in
theorem dk_blk : k0_pay1 (F := Ideal) (k0_pay15 k0_pay5 (k0_pay13 (iblk m c 1 t)) (k0_pay14 k0_pay5 (iblk m c 1 t))) (k0_pay17 (iblk m c 3 t) (iblk m c 5 t))
      (k0_pay18 k0_pay5 (k0_pay12 (iblk m c 1 t)) (iblk m c 3 t) (k0_pay13 (iblk m c 1 t)) (k0_pay14 k0_pay5 (iblk m c 1 t)) (iblk m c 5 t))
    = blk (fun a l => hk (kc P) e k (t.val % 4 * 2048 + a) (t.val / 4 * 128 + l)) := by
  rw [blk1 m c hP, blk3 m c he, blk5 m c hk', pay15_enc, pay17_enc, pay18_enc, pay1_enc]
  funext j
  exact congrArg Real.toEReal (hk_shift _ _ _ _ _ _ _)

include hP hd' hg in
/-- The gradient of the queries. -/
theorem final_dq : (dats m 0 c).arrAt 6 cfg0.N = enc2 (a := 8192) (b := 512) (hk (qc P) d g) := by
  refine (dats m 0 c).arrAt_eq_of_covers 6 _ (by decide +kernel) fun t hf y => ?_
  unfold enc2
  blk_simp
  rw [after0_6, row6, col6]
  rcases em (t.val % 16 = 0) with h | h
  · rw [outsAt0_A m c t h]; frame_out
    exact congrFun (dq_blk m c hP hd' hg t) y
  · rw [outsAt0_B m c t h]; frame_out
    exact congrFun (dq_blk m c hP hd' hg t) y

include hP he hk' in
/-- The gradient of the keys. -/
theorem final_dk : (dats m 0 c).arrAt 7 cfg0.N = enc2 (a := 8192) (b := 512) (hk (kc P) e k) := by
  refine (dats m 0 c).arrAt_eq_of_covers 7 _ (by decide +kernel) fun t hf y => ?_
  unfold enc2
  blk_simp
  rw [after0_7, row7, col7]
  rcases em (t.val % 16 = 0) with h | h
  · rw [outsAt0_A m c t h]; frame_out
    exact congrFun (dk_blk m c hP he hk' t) y
  · rw [outsAt0_B m c t h]; frame_out
    exact congrFun (dk_blk m c hP he hk' t) y

include hP hd' in
theorem dqg_step (v : Vec Ideal S1x128 .f32) (j : S1x128.Idx) : k0_pay11 (F := Ideal) (iblk m c 2 t) (k0_pay8 (iblk m c 0 t)) v j
    = v j + ((∑ a ∈ range 2048, (fun r c => d r c * hx (qc P) r c) (t.val % 4 * 2048 + a) (t.val / 4 * 128 + (j 1).val) : ℝ) : EReal) := by
  rw [blk0 m c hP, blk2 m c hd', pay8_enc, pay11_at]
  refine congrArg (v j + ·) ((sum_coe 2048 fun a => d (t.val % 4 * 2048 + a) (t.val / 4 * 128 + (j 1).val) * hx _ a (j 1).val).trans ?_)
  exact congrArg Real.toEReal (Finset.sum_congr rfl fun a _ => by rw [hx_shift])

include hP he in
theorem dkg_step (v : Vec Ideal S1x128 .f32) (j : S1x128.Idx) :
    k0_pay2 (F := Ideal) (iblk m c 3 t) (k0_pay16 k0_pay5 (k0_pay12 (iblk m c 1 t)) (k0_pay13 (iblk m c 1 t)) (k0_pay14 k0_pay5 (iblk m c 1 t))) v j
    = v j + ((∑ a ∈ range 2048, (fun r c => e r c * hx (kc P) r c) (t.val % 4 * 2048 + a) (t.val / 4 * 128 + (j 1).val) : ℝ) : EReal) := by
  rw [blk1 m c hP, blk3 m c he, pay16_enc, pay2_at]
  refine congrArg (v j + ·) ((sum_coe 2048 fun a => e (t.val % 4 * 2048 + a) (t.val / 4 * 128 + (j 1).val) * hx _ a (j 1).val).trans ?_)
  exact congrArg Real.toEReal (Finset.sum_congr rfl fun a _ => by rw [hx_shift])

include hP hd' in
theorem final_dqg : (dats m 0 c).arrAt 8 cfg0.N = enc2 (a := 1) (b := 128) (fun _ l => lanes (fun r c => d r c * hx (qc P) r c) l) := by
  refine (dats m 0 c).arrAt_eq_of_after_last 8 t0_15 (by decide +kernel) _ fun j => ?_
  blk_simp
  rw [after0_8]
  rw [Pipeline.eq_sum_fin_of_reset_step_apply_last (fun n h => (outsAt0 m c n h).2.2.1) 16 (fun _ => 0)
    (fun t j => ((∑ a ∈ range 2048, (fun r c => d r c * hx (qc P) r c) (t.val % 4 * 2048 + a) (t.val / 4 * 128 + (j 1).val) : ℝ) : EReal))
    (fun t h j => by rw [outsAt0_A m c t h]; frame_out; rw [dqg_step m c hP hd', pay3_at])
    (fun t h j => by rw [outsAt0_B m c t h]; frame_out; rw [dqg_step m c hP hd']) (by decide +kernel) t0_15 rfl j]
  rw [zero_add]
  exact sum_coe 16 fun t => ∑ a ∈ range 2048, (fun r c => d r c * hx (qc P) r c) (t % 4 * 2048 + a) (t / 4 * 128 + (j 1).val)

include hP he in
theorem final_dkg : (dats m 0 c).arrAt 9 cfg0.N = enc2 (a := 1) (b := 128) (fun _ l => lanes (fun r c => e r c * hx (kc P) r c) l) := by
  refine (dats m 0 c).arrAt_eq_of_after_last 9 t0_15 (by decide +kernel) _ fun j => ?_
  blk_simp
  rw [after0_9]
  rw [Pipeline.eq_sum_fin_of_reset_step_apply_last (fun n h => (outsAt0 m c n h).2.2.2) 16 (fun _ => 0)
    (fun t j => ((∑ a ∈ range 2048, (fun r c => e r c * hx (kc P) r c) (t.val % 4 * 2048 + a) (t.val / 4 * 128 + (j 1).val) : ℝ) : EReal))
    (fun t h j => by rw [outsAt0_A m c t h]; frame_out; rw [dkg_step m c hP he, pay4_at])
    (fun t h j => by rw [outsAt0_B m c t h]; frame_out; rw [dkg_step m c hP he]) (by decide +kernel) t0_15 rfl j]
  rw [zero_add]
  exact sum_coe 16 fun t => ∑ a ∈ range 2048, (fun r c => e r c * hx (kc P) r c) (t % 4 * 2048 + a) (t / 4 * 128 + (j 1).val)

theorem arr6 : Pipeline.withArrays (cfgs 0).spec c (V0 m c) (fun w => (dats m 0 c).arrAt w (cfgs 0).N) main_v13_0 = (dats m 0 c).arrAt 6 cfg0.N :=
  (dats m 0 c).withArrays_arrAt sharedIn0 (V0 m c) (fun w => rfl) 6
theorem arr7 : Pipeline.withArrays (cfgs 0).spec c (V0 m c) (fun w => (dats m 0 c).arrAt w (cfgs 0).N) main_v13_1 = (dats m 0 c).arrAt 7 cfg0.N :=
  (dats m 0 c).withArrays_arrAt sharedIn0 (V0 m c) (fun w => rfl) 7
theorem arr8 : Pipeline.withArrays (cfgs 0).spec c (V0 m c) (fun w => (dats m 0 c).arrAt w (cfgs 0).N) main_v13_2 = (dats m 0 c).arrAt 8 cfg0.N :=
  (dats m 0 c).withArrays_arrAt sharedIn0 (V0 m c) (fun w => rfl) 8
theorem arr9 : Pipeline.withArrays (cfgs 0).spec c (V0 m c) (fun w => (dats m 0 c).arrAt w (cfgs 0).N) main_v13_3 = (dats m 0 c).arrAt 9 cfg0.N :=
  (dats m 0 c).withArrays_arrAt sharedIn0 (V0 m c) (fun w => rfl) 9

include hP hd' in
theorem tail_dqg : Pipeline.afterTail₀ cfgs (dats m) 0 (V0 m) [hostOps1] c main_v18
    = enc1 (a := 64) (fun l => ∑ r ∈ range 8192, ∑ h ∈ range 8, (fun r c => d r c * hx (qc P) r c) r (h * 64 + l)) := by
  unfold Pipeline.afterTail₀
  change StableHlo.after hostOps1 _ _ = _
  unfold hostOps1
  after_results
  rw [arr8, final_dqg m c hP hd']
  funext j; idx_vars j
  pointwise
  refine Eq.trans ?_ (congrArg Real.toEReal (lanes_heads (fun r c => d r c * hx (qc P) r c) j0.val))
  exact (EReal.coe_add _ _).symm

include hP he in
theorem tail_dkg : Pipeline.afterTail₀ cfgs (dats m) 0 (V0 m) [hostOps1] c main_v23
    = enc1 (a := 64) (fun l => ∑ r ∈ range 8192, ∑ h ∈ range 8, (fun r c => e r c * hx (kc P) r c) r (h * 64 + l)) := by
  unfold Pipeline.afterTail₀
  change StableHlo.after hostOps1 _ _ = _
  unfold hostOps1
  after_results
  rw [arr9, final_dkg m c hP he]
  funext j; idx_vars j
  pointwise
  refine Eq.trans ?_ (congrArg Real.toEReal (lanes_heads (fun r c => e r c * hx (kc P) r c) j0.val))
  exact (EReal.coe_add _ _).symm

end Cert.KernelQkNormIdeal.Value
-- ==== Proof.QkNorm.Ref.lean ====
module

public import proofs.«01_k».proof.Proof.Norms.Heads
public import proofs.«01_k».proof.Proof.Gen.ReferenceQkNormIdeal.Read
public import Idealize.ShloMosaic.Lib.Pipeline.ValueKit

/-!
The reference's gradients of the head norms, on arrays of reals.
-/

@[expose] public section

set_option maxRecDepth 16384

noncomputable section

namespace Cert.ReferenceQkNormIdeal.Value

open Cert.ReferenceQkNormIdeal Cert.ReferenceQkNormIdeal.Gen Cert.ReferenceQkNormIdeal.Read Cert.Reals Idealize.ShloMosaic Idealize.ShloMosaic.TcCoe
open Finset (range)

abbrev prj (P : ℕ → ℕ → ℝ) : (⟨S8192x2824, .f32⟩ : BufTy).Contents (Elt Ideal) := enc2 (a := 8192) (b := 2824) P
abbrev mat (f : ℕ → ℕ → ℝ) : (⟨S8192x512, .f32⟩ : BufTy).Contents (Elt Ideal) := enc2 (a := 8192) (b := 512) f
abbrev gvec (f : ℕ → ℝ) : (⟨S64, .f32⟩ : BufTy).Contents (Elt Ideal) := enc1 (a := 64) f
/-- An array of heads, and a number for every head. -/
abbrev h3 (f : ℕ → ℕ → ℝ) : (⟨S8192x8x64, .f32⟩ : BufTy).Contents (Elt Ideal) := enc3 (a := 8192) (b := 8) (c := 64) fun r h q => f r (h * 64 + q)
abbrev h1 (f : ℕ → ℕ → ℝ) : (⟨S8192x8x1, .f32⟩ : BufTy).Contents (Elt Ideal) := enc3 (a := 8192) (b := 8) (c := 1) fun r h _ => f r (h * 64)
/-- The columns of q and of k. -/
abbrev qx (P : ℕ → ℕ → ℝ) : ℕ → ℕ → ℝ := fun r c => P r (768 + c)
abbrev kx (P : ℕ → ℕ → ℝ) : ℕ → ℕ → ℝ := fun r c => P r (1280 + c)

variable (P d : ℕ → ℕ → ℝ) (g : ℕ → ℝ)

theorem enc3_ix {a b c : ℕ} (f : ℕ → ℕ → ℕ → ℝ) (x : Fin a) (y : Fin b) (z : Fin c) : enc3 f (ix3 x y z) = ((f x.val y.val z.val : ℝ) : EReal) := rfl

theorem sixty : Ideal.ofBits .f32 0x42800000#32 = ((64 : ℝ) : EReal) := by
  simp [Ideal.ofBits, Ideal.ieee, -EReal.coe_mul]; norm_num

/-- A sum along the two leading axes. -/
theorem reduce01 {a b : ℕ} (h : (⟨3, ![a, b, 64]⟩ : Shape).ReducesTo [0, 1] ⟨1, ![64]⟩) (v : (⟨3, ![a, b, 64]⟩ : Shape).Idx → EReal) (init : EReal) (l : Fin 64) :
    Ideal.hostReduceAdd h v init (ix1 l) = init + ∑ r : Fin a, ∑ q : Fin b, v (ix3 r q l) := by
  unfold Ideal.hostReduceAdd
  refine congrArg (init + ·) ?_
  refine (Finset.sum_filter_eq_sum_of_fiber _ (fun k : Fin a × Fin b => ix3 k.1 k.2 l) (fun _ _ e => Prod.ext (congrFun e 0) (congrFun e 1)) (fun i => ?_) v).trans ?_
  · constructor
    · intro e
      refine ⟨(i 0, i 1), funext fun q => Fin.ext ?_⟩
      match q with
      | ⟨0, _⟩ => rfl
      | ⟨1, _⟩ => rfl
      | ⟨2, _⟩ => exact (congrArg Fin.val (congrFun e 0)).symm
    · rintro ⟨k, rfl⟩
      funext q
      apply Fin.ext
      match q with
      | ⟨0, _⟩ => rfl
  · exact Fintype.sum_prod_type _

theorem over_head (f : ℕ → ℝ) (h : ℕ) : ∑ q ∈ range 64, f (h * 64 + q) = over f (h * 64) := by
  unfold over; rw [Nat.mul_div_cancel _ (by decide : 0 < 64)]

theorem head (h : ℕ) (q : Fin 64) : (h * 64 + q.val) / 64 = h * 64 / 64 := by omega

theorem lane (h : ℕ) (q : Fin 64) : (h * 64 + q.val) % 64 = q.val := by omega

theorem v2_enc : val_main_v2 (F := Ideal) (prj P) = h3 (qx P) := by
  funext j; idx_vars j
  unfold val_main_v2 val_main_v0
  pointwise
  rfl

theorem v9_enc : val_main_v9 (F := Ideal) (prj P) = h1 (hms (qx P)) := by
  unfold val_main_v9 val_main_v8 val_main_v7 val_main_v6 val_main_v5 val_main_v4 val_main_v3
  rw [v2_enc]
  funext j; idx_vars j
  pointwise
  rw [show val_main_cst (F := Ideal) = fun _ => (0 : EReal) from funext fun _ => nil_word, show val_main_cst_0 (F := Ideal) = fun _ => ((64 : ℝ) : EReal) from funext fun _ => sixty, show val_main_cst_1 (F := Ideal) = fun _ => ((eps : ℝ) : EReal) from funext fun _ => eps_word]
  simp only [enc3_ix, ← EReal.coe_mul]
  rw [sum_coe 64 fun q => qx P j0.val (j1.val * 64 + q) * qx P j0.val (j1.val * 64 + q), zero_add, div_coe_coe (by norm_num), ← EReal.coe_add,
    over_head (fun l => qx P j0.val l * qx P j0.val l)]
  unfold hms
  rw [one_div, ← div_eq_mul_inv]

theorem v10_enc : val_main_v10 (F := Ideal) (prj P) = h1 (hr (qx P)) := by
  unfold val_main_v10
  rw [v9_enc]
  funext j; idx_vars j
  pointwise
  exact rsqrt_pos (hms_pos (qx P) j0.val (j1.val * 64))

theorem v13_enc : val_main_v13 (F := Ideal) (prj P) = h1 (fun r c => -(1 / 2) * (hr (qx P) r c / hms (qx P) r c)) := by
  unfold val_main_v13 val_main_v12 val_main_v11
  rw [v9_enc, v10_enc]
  funext j; idx_vars j
  pointwise
  rw [show val_main_cst_2 (F := Ideal) = fun _ => ((-(1 / 2) : ℝ) : EReal) from funext fun _ => neg_half_word]
  simp only [enc3_ix]
  rw [div_coe_coe (hms_pos (qx P) j0.val (j1.val * 64)).ne', ← EReal.coe_mul]

theorem v15_enc : val_main_v15 (F := Ideal) (prj P) = h3 (hx (qx P)) := by
  unfold val_main_v15 val_main_v14
  rw [v2_enc, v10_enc]
  funext j; idx_vars j
  pointwise
  simp only [enc3_ix, ← EReal.coe_mul]
  unfold hx
  rw [hr_same _ _ (head j1.val j2)]

theorem v65_enc : val_main_v65 (F := Ideal) (mat d) (gvec g) = h3 (hd d g) := by
  unfold val_main_v65 val_main_v64 val_main_v16 val_main_v60
  funext j; idx_vars j
  pointwise
  simp only [enc3_ix]
  unfold hd
  rw [lane j1.val j2]
  exact (EReal.coe_mul _ _).symm

theorem v75_enc : val_main_v75 (F := Ideal) (prj P) (mat d) (gvec g) = enc2 (a := 8192) (b := 8) (fun r h => hw (qx P) d g r (h * 64)) := by
  unfold val_main_v75 val_main_v74 val_main_v73 val_main_v72 val_main_v69 val_main_v68 val_main_v67
  rw [v2_enc, v65_enc, v13_enc]
  funext j; idx_vars j
  pointwise
  rw [show val_main_cst_14 (F := Ideal) = fun _ => (0 : EReal) from funext fun _ => nil_word, show val_main_cst_15 (F := Ideal) = fun _ => ((64 : ℝ) : EReal) from funext fun _ => sixty, show val_main_cst_16 (F := Ideal) = fun _ => (0 : EReal) from funext fun _ => nil_word]
  simp only [enc3_ix, ← EReal.coe_mul]
  rw [sum_coe 64 fun q => qx P j0.val (j1.val * 64 + q) * hd d g j0.val (j1.val * 64 + q), zero_add, zero_add, over_head (fun l => qx P j0.val l * hd d g j0.val l),
    ← EReal.coe_mul, div_coe_coe (by norm_num)]
  exact Fin.sum_univ_one _

/-- The gradient of the queries. -/
theorem v81_enc : val_main_v81 (F := Ideal) (prj P) (mat d) (gvec g) = mat (hk (qx P) d g) := by
  have h : val_main_v80 (F := Ideal) (prj P) (mat d) (gvec g) = h3 (hk (qx P) d g) := by
    unfold val_main_v80 val_main_v79 val_main_v78 val_main_v77 val_main_v76 val_main_v71 val_main_v70
    rw [v2_enc, v65_enc, v75_enc, v10_enc]
    funext j; idx_vars j
    pointwise
    simp only [enc3_ix, enc2_ix, ← EReal.coe_mul, ← EReal.coe_add]
    rw [← hk_eq, hr_same _ _ (head j1.val j2), hw_same _ _ _ _ (head j1.val j2)]
  unfold val_main_v81
  rw [h]
  funext j; idx_vars j
  pointwise
  show ((hk (qx P) d g j0.val (j1.val / 64 * 64 + j1.val % 64) : ℝ) : EReal) = _
  rw [Nat.div_add_mod']
  rfl

theorem v61_at (r : Fin 8192) (h : Fin 8) (l : Fin 64) : val_main_v61 (F := Ideal) (prj P) (mat d) (ix3 r h l) = ((d r.val (h.val * 64 + l.val) * hx (qx P) r.val (h.val * 64 + l.val) : ℝ) : EReal) := by
  unfold val_main_v61 val_main_v60
  rw [v15_enc]
  pointwise
  exact (mul_comm _ _).trans (EReal.coe_mul _ _).symm

theorem v62_at (l : Fin 64) : val_main_v62 (F := Ideal) (prj P) (mat d) (ix1 l) = ∑ r : Fin 8192, ∑ h : Fin 8, ((d r.val (h.val * 64 + l.val) * hx (qx P) r.val (h.val * 64 + l.val) : ℝ) : EReal) := by
  show Ideal.hostReduceAdd reducesTo_S8192x8x64_S64_d0_1 (val_main_v61 (prj P) (mat d)) (Ideal.ofBits .f32 0x00000000#32) (ix1 l) = _
  rw [reduce01, nil_word, zero_add]
  simp only [v61_at]

/-- The gradient of the queries' gain. -/
theorem v66_at (j : S64.Idx) : val_main_v66 (F := Ideal) (prj P) (mat d) j = ∑ r : Fin 8192, ∑ h : Fin 8, ((d r.val (h.val * 64 + (j 0).val) * hx (qx P) r.val (h.val * 64 + (j 0).val) : ℝ) : EReal) := by
  idx_vars j
  show Ideal.hostReduceAdd reducesTo_S1x1x64_S64_d0_1 (val_main_v63 (prj P) (mat d)) (Ideal.ofBits .f32 0x00000000#32) (ix1 j0) = _
  rw [reduce01, nil_word, zero_add, Fin.sum_univ_one, Fin.sum_univ_one]
  unfold val_main_v63
  pointwise
  exact v62_at P d j0

theorem v20_enc : val_main_v20 (F := Ideal) (prj P) = h3 (kx P) := by
  funext j; idx_vars j
  unfold val_main_v20 val_main_v1
  pointwise
  rfl

theorem v27_enc : val_main_v27 (F := Ideal) (prj P) = h1 (hms (kx P)) := by
  unfold val_main_v27 val_main_v26 val_main_v25 val_main_v24 val_main_v23 val_main_v22 val_main_v21
  rw [v20_enc]
  funext j; idx_vars j
  pointwise
  rw [show val_main_cst_3 (F := Ideal) = fun _ => (0 : EReal) from funext fun _ => nil_word, show val_main_cst_4 (F := Ideal) = fun _ => ((64 : ℝ) : EReal) from funext fun _ => sixty, show val_main_cst_5 (F := Ideal) = fun _ => ((eps : ℝ) : EReal) from funext fun _ => eps_word]
  simp only [enc3_ix, ← EReal.coe_mul]
  rw [sum_coe 64 fun q => kx P j0.val (j1.val * 64 + q) * kx P j0.val (j1.val * 64 + q), zero_add, div_coe_coe (by norm_num), ← EReal.coe_add,
    over_head (fun l => kx P j0.val l * kx P j0.val l)]
  unfold hms
  rw [one_div, ← div_eq_mul_inv]

theorem v28_enc : val_main_v28 (F := Ideal) (prj P) = h1 (hr (kx P)) := by
  unfold val_main_v28
  rw [v27_enc]
  funext j; idx_vars j
  pointwise
  exact rsqrt_pos (hms_pos (kx P) j0.val (j1.val * 64))

theorem v31_enc : val_main_v31 (F := Ideal) (prj P) = h1 (fun r c => -(1 / 2) * (hr (kx P) r c / hms (kx P) r c)) := by
  unfold val_main_v31 val_main_v30 val_main_v29
  rw [v27_enc, v28_enc]
  funext j; idx_vars j
  pointwise
  rw [show val_main_cst_6 (F := Ideal) = fun _ => ((-(1 / 2) : ℝ) : EReal) from funext fun _ => neg_half_word]
  simp only [enc3_ix]
  rw [div_coe_coe (hms_pos (kx P) j0.val (j1.val * 64)).ne', ← EReal.coe_mul]

theorem v33_enc : val_main_v33 (F := Ideal) (prj P) = h3 (hx (kx P)) := by
  unfold val_main_v33 val_main_v32
  rw [v20_enc, v28_enc]
  funext j; idx_vars j
  pointwise
  simp only [enc3_ix, ← EReal.coe_mul]
  unfold hx
  rw [hr_same _ _ (head j1.val j2)]

theorem v43_enc : val_main_v43 (F := Ideal) (mat d) (gvec g) = h3 (hd d g) := by
  unfold val_main_v43 val_main_v42 val_main_v34 val_main_v38
  funext j; idx_vars j
  pointwise
  simp only [enc3_ix]
  unfold hd
  rw [lane j1.val j2]
  exact (EReal.coe_mul _ _).symm

theorem v53_enc : val_main_v53 (F := Ideal) (prj P) (mat d) (gvec g) = enc2 (a := 8192) (b := 8) (fun r h => hw (kx P) d g r (h * 64)) := by
  unfold val_main_v53 val_main_v52 val_main_v51 val_main_v50 val_main_v47 val_main_v46 val_main_v45
  rw [v20_enc, v43_enc, v31_enc]
  funext j; idx_vars j
  pointwise
  rw [show val_main_cst_9 (F := Ideal) = fun _ => (0 : EReal) from funext fun _ => nil_word, show val_main_cst_10 (F := Ideal) = fun _ => ((64 : ℝ) : EReal) from funext fun _ => sixty, show val_main_cst_11 (F := Ideal) = fun _ => (0 : EReal) from funext fun _ => nil_word]
  simp only [enc3_ix, ← EReal.coe_mul]
  rw [sum_coe 64 fun q => kx P j0.val (j1.val * 64 + q) * hd d g j0.val (j1.val * 64 + q), zero_add, zero_add, over_head (fun l => kx P j0.val l * hd d g j0.val l),
    ← EReal.coe_mul, div_coe_coe (by norm_num)]
  exact Fin.sum_univ_one _

/-- The gradient of the keys. -/
theorem v59_enc : val_main_v59 (F := Ideal) (prj P) (mat d) (gvec g) = mat (hk (kx P) d g) := by
  have h : val_main_v58 (F := Ideal) (prj P) (mat d) (gvec g) = h3 (hk (kx P) d g) := by
    unfold val_main_v58 val_main_v57 val_main_v56 val_main_v55 val_main_v54 val_main_v49 val_main_v48
    rw [v20_enc, v43_enc, v53_enc, v28_enc]
    funext j; idx_vars j
    pointwise
    simp only [enc3_ix, enc2_ix, ← EReal.coe_mul, ← EReal.coe_add]
    rw [← hk_eq, hr_same _ _ (head j1.val j2), hw_same _ _ _ _ (head j1.val j2)]
  unfold val_main_v59
  rw [h]
  funext j; idx_vars j
  pointwise
  show ((hk (kx P) d g j0.val (j1.val / 64 * 64 + j1.val % 64) : ℝ) : EReal) = _
  rw [Nat.div_add_mod']
  rfl

theorem v39_at (r : Fin 8192) (h : Fin 8) (l : Fin 64) : val_main_v39 (F := Ideal) (prj P) (mat d) (ix3 r h l) = ((d r.val (h.val * 64 + l.val) * hx (kx P) r.val (h.val * 64 + l.val) : ℝ) : EReal) := by
  unfold val_main_v39 val_main_v38
  rw [v33_enc]
  pointwise
  exact (mul_comm _ _).trans (EReal.coe_mul _ _).symm

theorem v40_at (l : Fin 64) : val_main_v40 (F := Ideal) (prj P) (mat d) (ix1 l) = ∑ r : Fin 8192, ∑ h : Fin 8, ((d r.val (h.val * 64 + l.val) * hx (kx P) r.val (h.val * 64 + l.val) : ℝ) : EReal) := by
  show Ideal.hostReduceAdd reducesTo_S8192x8x64_S64_d0_1 (val_main_v39 (prj P) (mat d)) (Ideal.ofBits .f32 0x00000000#32) (ix1 l) = _
  rw [reduce01, nil_word, zero_add]
  simp only [v39_at]

/-- The gradient of the keys' gain. -/
theorem v44_at (j : S64.Idx) : val_main_v44 (F := Ideal) (prj P) (mat d) j = ∑ r : Fin 8192, ∑ h : Fin 8, ((d r.val (h.val * 64 + (j 0).val) * hx (kx P) r.val (h.val * 64 + (j 0).val) : ℝ) : EReal) := by
  idx_vars j
  show Ideal.hostReduceAdd reducesTo_S1x1x64_S64_d0_1 (val_main_v41 (prj P) (mat d)) (Ideal.ofBits .f32 0x00000000#32) (ix1 j0) = _
  rw [reduce01, nil_word, zero_add, Fin.sum_univ_one, Fin.sum_univ_one]
  unfold val_main_v41
  pointwise
  exact v40_at P d j0

end Cert.ReferenceQkNormIdeal.Value
-- ==== Proof.QkNorm.Claim.lean ====
/- The backward call of the head norms computes the gradients of the two normed arrays. -/
module

public import proofs.«01_k».proof.Defs
public import proofs.«01_k».proof.Proof.Finite
public import proofs.«01_k».proof.Proof.QkNorm.Outs
public import proofs.«01_k».proof.Proof.QkNorm.Ref
public import proofs.«01_k».proof.Proof.Gen.Pre_finite_prep
public import proofs.«01_k».proof.Proof.Gen.ReferenceQkNormIdeal.Run
public import proofs.«01_k».proof.Proof.Gen.ReferenceQkNormIdeal.Read
public import Idealize.ShloMosaic.Lib.Claim
public import Idealize.ShloMosaic.Lib.Pipeline.FrameSuffix

@[expose] public section

set_option maxRecDepth 16384

noncomputable section

namespace Cert.KernelQkNormIdeal.Value

open Cert.KernelQkNormIdeal Cert.KernelQkNormIdeal.Gen Cert.Reals Idealize.ShloMosaic Idealize.ShloMosaic.TcCoe Idealize.SL.Sem
open Idealize.ShloMosaic.Pipeline (Dat)
open Finset (range)

/-- Under the precondition the arguments are arrays of reals. -/
theorem finite_args (p : FVec Ideal S8192x2824 .f32) (d e : FVec Ideal S8192x512 .f32) (g k : FVec Ideal S64 .f32)
    (h : Cert.Pre_finite_prep.fn (F := Ideal) p d e g k = fun _ => 1#1) :
    (∃ P : ℕ → ℕ → ℝ, p = enc2 P) ∧ (∃ D : ℕ → ℕ → ℝ, d = enc2 D) ∧ (∃ D : ℕ → ℕ → ℝ, e = enc2 D) ∧ (∃ G : ℕ → ℝ, g = enc1 G) ∧ (∃ G : ℕ → ℝ, k = enc1 G) := by
  have h0 := congrFun h (Shape.Idx.first (by decide))
  unfold Cert.Pre_finite_prep.fn at h0
  haveI : Subsingleton Cert.Pre_finite_prep.S_.Idx := ⟨fun a b => funext fun q => q.elim0⟩
  obtain ⟨h1, hk⟩ := IntOp.andi_eq_one.1 h0
  obtain ⟨h2, hg⟩ := IntOp.andi_eq_one.1 h1
  obtain ⟨h3, he⟩ := IntOp.andi_eq_one.1 h2
  obtain ⟨hp, hd⟩ := IntOp.andi_eq_one.1 h3
  exact ⟨⟨_, enc2_of_real p fun i => real_of_abs _ (Host.reduce_andi_all _ _ _ _ _ hp i)⟩, ⟨_, enc2_of_real d fun i => real_of_abs _ (Host.reduce_andi_all _ _ _ _ _ hd i)⟩,
    ⟨_, enc2_of_real e fun i => real_of_abs _ (Host.reduce_andi_all _ _ _ _ _ he i)⟩, ⟨_, enc1_of_real g fun i => real_of_abs _ (Host.reduce_andi_all _ _ _ _ _ hg i)⟩,
    ⟨_, enc1_of_real k fun i => real_of_abs _ (Host.reduce_andi_all _ _ _ _ _ hk i)⟩⟩

/-- The reference terminates, leaves its arguments alone and every semaphore at zero. -/
theorem frame_reference : Cert.quiescent_ReferenceQkNormIdeal := fun m g _ =>
  (θ_run Cert.ReferenceQkNormIdeal.defs _ _).mono (fun r h => ⟨fun c => (h c).2.2.2.2, sem_eq_zero_of_no_sems (by decide) r.2⟩)
    (Cert.ReferenceQkNormIdeal.Value.run (F := Ideal) m g)

theorem sums_coe (F : ℕ → ℕ → ℝ) (l : ℕ) : ∑ r : Fin 8192, ∑ h : Fin 8, ((F r.val (h.val * 64 + l) : ℝ) : EReal) = ((∑ r ∈ range 8192, ∑ h ∈ range 8, F r (h * 64 + l) : ℝ) : EReal) :=
  (Finset.sum_congr rfl fun r _ => sum_coe 8 fun h => F r.val (h * 64 + l)).trans (sum_coe 8192 fun r => ∑ h ∈ range 8, F r (h * 64 + l))

set_option maxHeartbeats 1000000 in
/-- For finite arguments the call's results are the gradients of q, of k and of the two gains. -/
theorem algebraic : Cert.algebraic_KernelQkNormIdeal_ReferenceQkNormIdeal_pre_finite_prep := by
  pair_intro
  · run_from Cert.KernelQkNormIdeal.Gen.run_main m g
    · exact W_main_arg0 m (dats m) c
    · exact W_main_arg3 m (dats m) c
    · exact W_main_arg4 m (dats m) c
  · refine (θ_run _ _ _).mono (fun r h c => ?_) (Cert.ReferenceQkNormIdeal.Value.run (F := Ideal) m' g')
    obtain ⟨a0, a1, a2, a3, a4⟩ := hagree c
    obtain ⟨h81, h59, h66, h44, hargs⟩ := h c
    obtain ⟨⟨P, hP⟩, ⟨d, hd⟩, ⟨e, he⟩, ⟨w, hg⟩, ⟨k, hk'⟩⟩ := finite_args _ _ _ _ _ (hpre c)
    refine ⟨h81.trans ?_, h59.trans ?_, h66.trans ((Cert.ReferenceQkNormIdeal.Read.val_main_v66_eq (F := Ideal) _ _).trans ?_),
      h44.trans ((Cert.ReferenceQkNormIdeal.Read.val_main_v44_eq (F := Ideal) _ _).trans ?_), hargs⟩
    · rw [Cert.ReferenceQkNormIdeal.Read.val_main_v81_eq (F := Ideal) m' c, a0, a1, a3]
      refine Eq.trans ?_ (final_dq m c hP hd hg).symm
      rw [hP, hd, hg]
      exact Cert.ReferenceQkNormIdeal.Value.v81_enc P d w
    · rw [Cert.ReferenceQkNormIdeal.Read.val_main_v59_eq (F := Ideal) m' c, a0, a2, a4]
      refine Eq.trans ?_ (final_dk m c hP he hk').symm
      rw [hP, he, hk']
      exact Cert.ReferenceQkNormIdeal.Value.v59_enc P e k
    · rw [a0, a1]
      refine Eq.trans ?_ (tail_dqg m c hP hd).symm
      rw [hP, hd]
      funext j
      exact (Cert.ReferenceQkNormIdeal.Value.v66_at P d j).trans (sums_coe (fun r c => d r c * hx (qc P) r c) (j 0).val)
    · rw [a0, a2]
      refine Eq.trans ?_ (tail_dkg m c hP he).symm
      rw [hP, he]
      funext j
      exact (Cert.ReferenceQkNormIdeal.Value.v44_at P e j).trans (sums_coe (fun r c => e r c * hx (kc P) r c) (j 0).val)

end Cert.KernelQkNormIdeal.Value
-- ==== Proof.NormFwd.Row.lean ====
module

public import Idealize.ShloMosaic.Lib.Pipeline.ValueKit

/-!
A row's modulated norm.
-/

@[expose] public section

noncomputable section

namespace Cert.Reals

open Idealize.ShloMosaic

/-- The gain, scale and shift are rows: of each only row 0 is read. -/
def modrow (x g s b : ℕ → ℕ → EReal) (r l : ℕ) : EReal :=
  x r l * Ideal.rsqrt (Ideal.div (∑ q : Fin 1024, x r q * x r q) (Ideal.ofBits .f32 0x44800000#32) + Ideal.ofBits .f32 0x358637BD#32) * g 0 l
    * (1 + s 0 l) + b 0 l

end Cert.Reals
-- ==== Proof.NormFwd.Claim.lean ====
module

public import proofs.«01_k».proof.Defs
public import proofs.«01_k».proof.Proof.Enc
public import proofs.«01_k».proof.Proof.NormFwd.Row
public import proofs.«01_k».proof.Proof.Gen.KernelNormFwdIdeal.Frame
public import proofs.«01_k».proof.Proof.Gen.ReferenceNormFwdIdeal.Run
public import proofs.«01_k».proof.Proof.Gen.ReferenceNormFwdIdeal.Read
public import Idealize.ShloMosaic.Lib.Pipeline.ValueKit
public import Idealize.ShloMosaic.Lib.StableHlo.RunRead

/-!
The modulated norm of every row, blocks of 512 rows.
-/

@[expose] public section

set_option maxRecDepth 16384

noncomputable section

namespace Cert.KernelNormFwdIdeal.Value

open Cert.KernelNormFwdIdeal Cert.KernelNormFwdIdeal.Gen Cert.Reals Idealize.ShloMosaic Idealize.ShloMosaic.TcCoe Idealize.SL.Sem
open Idealize.ShloMosaic.Pipeline (Dat)

section Kernel

variable (x g s b : ℕ → ℕ → EReal)

theorem pay_enc : k0_pay1 (F := Ideal) (val2 (a := 512) (b := 1024) x) (val2 (a := 1) (b := 1024) g) (val2 (a := 1) (b := 1024) s) (val2 (a := 1) (b := 1024) b)
    = val2 (a := 512) (b := 1024) (modrow x g s b) := by
  funext j; idx_vars j
  unfold k0_pay1
  pointwise
  simp only [val2_ix]
  rfl

theorem idx : ∀ t : Fin grid0.N, win0_0.index t = ![t.val, 0] ∧ win0_1.index t = ![0, 0] ∧ win0_2.index t = ![0, 0] ∧ win0_3.index t = ![0, 0]
    ∧ win0_4.index t = ![t.val, 0] := by decide +kernel

theorem row (t : Fin cfg0.N) (y : S512x1024.Idx) : win0_4.index t 0 * 512 + (y 0).val = t.val * 512 + (y 0).val := by
  rw [(idx t).2.2.2.2]; rfl

theorem col (t : Fin cfg0.N) (y : S512x1024.Idx) : win0_4.index t 1 * 1024 + (y 1).val = (y 1).val := by
  rw [(idx t).2.2.2.2]; exact Nat.zero_add _

variable (m : (ℓ : Loc nD τ sig) → Buf (Elt Ideal) ℓ) (c : Dev nD) {x s b : ℕ → ℕ → EReal} {g : ℕ → EReal}
  (hx : m ((c : Thread nD τ).loc main_arg0) = val2 (a := 8192) (b := 1024) x) (hg : m ((c : Thread nD τ).loc main_arg1) = val1 (a := 1024) g)
  (hs : m ((c : Thread nD τ).loc main_arg2) = val2 (a := 1) (b := 1024) s) (hb : m ((c : Thread nD τ).loc main_arg3) = val2 (a := 1) (b := 1024) b) (t : Fin cfg0.N)

include hg in
theorem gain_eq : V m c main_v0 = val2 (a := 1) (b := 1024) (fun _ l => g l) := by
  unfold V
  after_reads_simp
  rw [hg]
  funext j; idx_vars j
  pointwise
  rfl

include hx in
theorem blk0 : iblk m c 0 t = val2 (a := 512) (b := 1024) (fun r q => x (t.val * 512 + r) q) := by
  funext j
  refine Eq.trans ?_ (congrFun hx (ValueIdx.ix2 ⟨t.val * 512 + (j 0).val, by have : t.val < 16 := t.isLt; have : (j 0).val < 512 := (j 0).isLt; omega⟩ (j 1)))
  rw [← V_main_arg0 m c]
  refine congrArg (V m c main_arg0) (funext fun k => Fin.ext (((cfg0.win 0).rect_emb_val t j k).trans ?_))
  have h : win0_0.index t = _ := (idx t).1
  match k with
  | ⟨0, _⟩ => show win0_0.index t 0 * 512 + (j 0).val = t.val * 512 + (j 0).val; rw [h]; rfl
  | ⟨1, _⟩ => show win0_0.index t 1 * 1024 + (j 1).val = (j 1).val; rw [h]; exact Nat.zero_add _

include hg in
theorem blk1 : iblk m c 1 t = val2 (a := 1) (b := 1024) (fun _ l => g l) := by
  funext j
  refine Eq.trans ?_ (congrFun (gain_eq m c hg) j)
  refine congrArg (V m c main_v0) (funext fun k => Fin.ext (((cfg0.win 1).rect_emb_val t j k).trans ?_))
  have h : win0_1.index t = _ := (idx t).2.1
  match k with
  | ⟨0, _⟩ => show win0_1.index t 0 * 1 + (j 0).val = (j 0).val; rw [h]; exact Nat.zero_add _
  | ⟨1, _⟩ => show win0_1.index t 1 * 1024 + (j 1).val = (j 1).val; rw [h]; exact Nat.zero_add _

include hs in
theorem blk2 : iblk m c 2 t = val2 (a := 1) (b := 1024) s := by
  funext j
  refine Eq.trans ?_ (congrFun hs j)
  rw [← V_main_arg2 m c]
  refine congrArg (V m c main_arg2) (funext fun k => Fin.ext (((cfg0.win 2).rect_emb_val t j k).trans ?_))
  have h : win0_2.index t = _ := (idx t).2.2.1
  match k with
  | ⟨0, _⟩ => show win0_2.index t 0 * 1 + (j 0).val = (j 0).val; rw [h]; exact Nat.zero_add _
  | ⟨1, _⟩ => show win0_2.index t 1 * 1024 + (j 1).val = (j 1).val; rw [h]; exact Nat.zero_add _

include hb in
theorem blk3 : iblk m c 3 t = val2 (a := 1) (b := 1024) b := by
  funext j
  refine Eq.trans ?_ (congrFun hb j)
  rw [← V_main_arg3 m c]
  refine congrArg (V m c main_arg3) (funext fun k => Fin.ext (((cfg0.win 3).rect_emb_val t j k).trans ?_))
  have h : win0_3.index t = _ := (idx t).2.2.2.1
  match k with
  | ⟨0, _⟩ => show win0_3.index t 0 * 1 + (j 0).val = (j 0).val; rw [h]; exact Nat.zero_add _
  | ⟨1, _⟩ => show win0_3.index t 1 * 1024 + (j 1).val = (j 1).val; rw [h]; exact Nat.zero_add _

include hx hg hs hb in
theorem out_enc : out0_4 (iblk m c 0 t) (iblk m c 1 t) (iblk m c 2 t) (iblk m c 3 t)
    = val2 (a := 512) (b := 1024) (modrow (fun r q => x (t.val * 512 + r) q) (fun _ l => g l) s b) := by
  rw [blk0 m c hx, blk1 m c hg, blk2 m c hs, blk3 m c hb]
  frame_out
  exact pay_enc _ _ _ _

include hx hg hs hb in
theorem final : (dats m 0 c).arrAt 4 (cfgs 0).N = val2 (a := 8192) (b := 1024) (modrow x (fun _ l => g l) s b) := by
  refine (dats m 0 c).arrAt_eq_of_covers 4 _ (by decide +kernel) fun t _ y => ?_
  unfold val2
  blk_simp
  rw [after0_4, out_enc m c hx hg hs hb, row, col]
  rfl

end Kernel

theorem reference_eq (x s b : ℕ → ℕ → EReal) (g : ℕ → EReal) : Cert.ReferenceNormFwdIdeal.Read.val_main_v19 (F := Ideal) (val2 (a := 8192) (b := 1024) x) (val1 (a := 1024) g)
    (val2 (a := 1) (b := 1024) s) (val2 (a := 1) (b := 1024) b) = val2 (a := 8192) (b := 1024) (modrow x (fun _ l => g l) s b) := by
  funext j; idx_vars j
  rw [← Cert.ReferenceNormFwdIdeal.Read.val_main_v19_eq (F := Ideal)]
  pointwise
  simp only [val2_ix]
  rfl

/-- The reference terminates, leaves its arguments alone and every semaphore at zero. -/
theorem frame_reference : Cert.quiescent_ReferenceNormFwdIdeal := fun m g _ =>
  (θ_run Cert.ReferenceNormFwdIdeal.defs _ _).mono (fun r h => ⟨fun c => (h c).2, sem_eq_zero_of_no_sems (by decide) r.2⟩)
    (Cert.ReferenceNormFwdIdeal.Value.run (F := Ideal) m g)

set_option maxHeartbeats 1000000 in
/-- The call's result is the modulated norm. -/
theorem algebraic : Cert.algebraic_KernelNormFwdIdeal_ReferenceNormFwdIdeal := by
  pair_intro
  · run_from Cert.KernelNormFwdIdeal.Gen.run_main m g
  · refine (θ_run _ _ _).mono (fun r h c => ?_) (Cert.ReferenceNormFwdIdeal.Value.run (F := Ideal) m' g')
    obtain ⟨a0, a1, a2, a3⟩ := hagree c
    obtain ⟨h19, hargs⟩ := h c
    obtain ⟨x, hx⟩ := exists_val2 (m ((c : Thread nD τ).loc main_arg0))
    obtain ⟨w, hg⟩ := exists_val1 (m ((c : Thread nD τ).loc main_arg1))
    obtain ⟨s, hs⟩ := exists_val2 (m ((c : Thread nD τ).loc main_arg2))
    obtain ⟨b, hb⟩ := exists_val2 (m ((c : Thread nD τ).loc main_arg3))
    refine ⟨h19.trans ((Cert.ReferenceNormFwdIdeal.Read.val_main_v19_eq (F := Ideal) _ _ _ _).trans ?_), hargs⟩
    rw [a0, a1, a2, a3]
    refine Eq.trans ?_ (final m c hx hg hs hb).symm
    rw [hx, hg, hs, hb]
    exact reference_eq x s b w

end Cert.KernelNormFwdIdeal.Value
-- ==== Proof.ResidFwd.Claim.lean ====
module

public import proofs.«01_k».proof.Defs
public import proofs.«01_k».proof.Proof.Enc
public import proofs.«01_k».proof.Proof.NormFwd.Row
public import proofs.«01_k».proof.Proof.Gen.KernelResidFwdIdeal.Frame
public import proofs.«01_k».proof.Proof.Gen.ReferenceResidFwdIdeal.Run
public import proofs.«01_k».proof.Proof.Gen.ReferenceResidFwdIdeal.Read
public import Idealize.ShloMosaic.Lib.Pipeline.ValueKit
public import Idealize.ShloMosaic.Lib.StableHlo.RunRead

/-!
The residual's sum and its modulated norm of every row, blocks of 512 rows.
-/

@[expose] public section

set_option maxRecDepth 16384

noncomputable section

namespace Cert.KernelResidFwdIdeal.Value

open Cert.KernelResidFwdIdeal Cert.KernelResidFwdIdeal.Gen Cert.Reals Idealize.ShloMosaic Idealize.ShloMosaic.TcCoe Idealize.SL.Sem
open Idealize.ShloMosaic.Pipeline (Dat)

/-- The residual's sum. -/
def resid (x d k : ℕ → ℕ → EReal) (r l : ℕ) : EReal := x r l + k 0 l * d r l

section Kernel

variable (x d k g s b : ℕ → ℕ → EReal)

theorem pay1_enc : k0_pay1 (F := Ideal) (val2 (a := 512) (b := 1024) x) (val2 (a := 512) (b := 1024) d) (val2 (a := 1) (b := 1024) k) = val2 (a := 512) (b := 1024) (resid x d k) := by
  funext j; idx_vars j
  unfold k0_pay1
  pointwise
  simp only [val2_ix]
  rfl

theorem pay2_enc : k0_pay2 (F := Ideal) (val2 (a := 512) (b := 1024) x) (val2 (a := 512) (b := 1024) d) (val2 (a := 1) (b := 1024) k) (val2 (a := 1) (b := 1024) g) (val2 (a := 1) (b := 1024) s)
    (val2 (a := 1) (b := 1024) b) = val2 (a := 512) (b := 1024) (modrow (resid x d k) g s b) := by
  unfold k0_pay2
  rw [pay1_enc]
  funext j; idx_vars j
  pointwise
  simp only [val2_ix]
  rfl

theorem idx : ∀ t : Fin grid0.N, win0_0.index t = ![t.val, 0] ∧ win0_1.index t = ![t.val, 0] ∧ win0_2.index t = ![0, 0] ∧ win0_3.index t = ![0, 0] ∧ win0_4.index t = ![0, 0] ∧ win0_5.index t = ![0, 0]
    ∧ win0_6.index t = ![t.val, 0] ∧ win0_7.index t = ![t.val, 0] := by decide +kernel

theorem row6 (t : Fin cfg0.N) (y : S512x1024.Idx) : win0_6.index t 0 * 512 + (y 0).val = t.val * 512 + (y 0).val := by
  rw [(idx t).2.2.2.2.2.2.1]; rfl
theorem col6 (t : Fin cfg0.N) (y : S512x1024.Idx) : win0_6.index t 1 * 1024 + (y 1).val = (y 1).val := by
  rw [(idx t).2.2.2.2.2.2.1]; exact Nat.zero_add _
theorem row7 (t : Fin cfg0.N) (y : S512x1024.Idx) : win0_7.index t 0 * 512 + (y 0).val = t.val * 512 + (y 0).val := by
  rw [(idx t).2.2.2.2.2.2.2]; rfl
theorem col7 (t : Fin cfg0.N) (y : S512x1024.Idx) : win0_7.index t 1 * 1024 + (y 1).val = (y 1).val := by
  rw [(idx t).2.2.2.2.2.2.2]; exact Nat.zero_add _

variable (m : (ℓ : Loc nD τ sig) → Buf (Elt Ideal) ℓ) (c : Dev nD) {x d k s b : ℕ → ℕ → EReal} {g : ℕ → EReal}
  (hx : m ((c : Thread nD τ).loc main_arg0) = val2 (a := 8192) (b := 1024) x) (hd : m ((c : Thread nD τ).loc main_arg1) = val2 (a := 8192) (b := 1024) d)
  (hk : m ((c : Thread nD τ).loc main_arg2) = val2 (a := 1) (b := 1024) k) (hg : m ((c : Thread nD τ).loc main_arg3) = val1 (a := 1024) g)
  (hs : m ((c : Thread nD τ).loc main_arg4) = val2 (a := 1) (b := 1024) s) (hb : m ((c : Thread nD τ).loc main_arg5) = val2 (a := 1) (b := 1024) b) (t : Fin cfg0.N)

include hg in
theorem gain_eq : V m c main_v0 = val2 (a := 1) (b := 1024) (fun _ l => g l) := by
  unfold V
  after_reads_simp
  rw [hg]
  funext j; idx_vars j
  pointwise
  rfl

include hx in
theorem blk0 : iblk m c 0 t = val2 (a := 512) (b := 1024) (fun r q => x (t.val * 512 + r) q) := by
  funext j
  refine Eq.trans ?_ (congrFun hx (ValueIdx.ix2 ⟨t.val * 512 + (j 0).val, by have : t.val < 16 := t.isLt; have : (j 0).val < 512 := (j 0).isLt; omega⟩ (j 1)))
  rw [← V_main_arg0 m c]
  refine congrArg (V m c main_arg0) (funext fun k => Fin.ext (((cfg0.win 0).rect_emb_val t j k).trans ?_))
  have h : win0_0.index t = _ := (idx t).1
  match k with
  | ⟨0, _⟩ => show win0_0.index t 0 * 512 + (j 0).val = t.val * 512 + (j 0).val; rw [h]; rfl
  | ⟨1, _⟩ => show win0_0.index t 1 * 1024 + (j 1).val = (j 1).val; rw [h]; exact Nat.zero_add _

include hd in
theorem blk1 : iblk m c 1 t = val2 (a := 512) (b := 1024) (fun r q => d (t.val * 512 + r) q) := by
  funext j
  refine Eq.trans ?_ (congrFun hd (ValueIdx.ix2 ⟨t.val * 512 + (j 0).val, by have : t.val < 16 := t.isLt; have : (j 0).val < 512 := (j 0).isLt; omega⟩ (j 1)))
  rw [← V_main_arg1 m c]
  refine congrArg (V m c main_arg1) (funext fun k => Fin.ext (((cfg0.win 1).rect_emb_val t j k).trans ?_))
  have h : win0_1.index t = _ := (idx t).2.1
  match k with
  | ⟨0, _⟩ => show win0_1.index t 0 * 512 + (j 0).val = t.val * 512 + (j 0).val; rw [h]; rfl
  | ⟨1, _⟩ => show win0_1.index t 1 * 1024 + (j 1).val = (j 1).val; rw [h]; exact Nat.zero_add _

include hk in
theorem blk2 : iblk m c 2 t = val2 (a := 1) (b := 1024) k := by
  funext j
  refine Eq.trans ?_ (congrFun hk j)
  rw [← V_main_arg2 m c]
  refine congrArg (V m c main_arg2) (funext fun k => Fin.ext (((cfg0.win 2).rect_emb_val t j k).trans ?_))
  have h : win0_2.index t = _ := (idx t).2.2.1
  match k with
  | ⟨0, _⟩ => show win0_2.index t 0 * 1 + (j 0).val = (j 0).val; rw [h]; exact Nat.zero_add _
  | ⟨1, _⟩ => show win0_2.index t 1 * 1024 + (j 1).val = (j 1).val; rw [h]; exact Nat.zero_add _

include hg in
theorem blk3 : iblk m c 3 t = val2 (a := 1) (b := 1024) (fun _ l => g l) := by
  funext j
  refine Eq.trans ?_ (congrFun (gain_eq m c hg) j)
  refine congrArg (V m c main_v0) (funext fun k => Fin.ext (((cfg0.win 3).rect_emb_val t j k).trans ?_))
  have h : win0_3.index t = _ := (idx t).2.2.2.1
  match k with
  | ⟨0, _⟩ => show win0_3.index t 0 * 1 + (j 0).val = (j 0).val; rw [h]; exact Nat.zero_add _
  | ⟨1, _⟩ => show win0_3.index t 1 * 1024 + (j 1).val = (j 1).val; rw [h]; exact Nat.zero_add _

include hs in
theorem blk4 : iblk m c 4 t = val2 (a := 1) (b := 1024) s := by
  funext j
  refine Eq.trans ?_ (congrFun hs j)
  rw [← V_main_arg4 m c]
  refine congrArg (V m c main_arg4) (funext fun k => Fin.ext (((cfg0.win 4).rect_emb_val t j k).trans ?_))
  have h : win0_4.index t = _ := (idx t).2.2.2.2.1
  match k with
  | ⟨0, _⟩ => show win0_4.index t 0 * 1 + (j 0).val = (j 0).val; rw [h]; exact Nat.zero_add _
  | ⟨1, _⟩ => show win0_4.index t 1 * 1024 + (j 1).val = (j 1).val; rw [h]; exact Nat.zero_add _

include hb in
theorem blk5 : iblk m c 5 t = val2 (a := 1) (b := 1024) b := by
  funext j
  refine Eq.trans ?_ (congrFun hb j)
  rw [← V_main_arg5 m c]
  refine congrArg (V m c main_arg5) (funext fun k => Fin.ext (((cfg0.win 5).rect_emb_val t j k).trans ?_))
  have h : win0_5.index t = _ := (idx t).2.2.2.2.2.1
  match k with
  | ⟨0, _⟩ => show win0_5.index t 0 * 1 + (j 0).val = (j 0).val; rw [h]; exact Nat.zero_add _
  | ⟨1, _⟩ => show win0_5.index t 1 * 1024 + (j 1).val = (j 1).val; rw [h]; exact Nat.zero_add _

include hx hd hk in
theorem final6 : (dats m 0 c).arrAt 6 (cfgs 0).N = val2 (a := 8192) (b := 1024) (resid x d k) := by
  refine (dats m 0 c).arrAt_eq_of_covers 6 _ (by decide +kernel) fun t _ y => ?_
  unfold val2
  blk_simp
  rw [after0_6, row6, col6, blk0 m c hx, blk1 m c hd, blk2 m c hk]
  frame_out
  rw [pay1_enc]
  rfl

include hx hd hk hg hs hb in
theorem final7 : (dats m 0 c).arrAt 7 (cfgs 0).N = val2 (a := 8192) (b := 1024) (modrow (resid x d k) (fun _ l => g l) s b) := by
  refine (dats m 0 c).arrAt_eq_of_covers 7 _ (by decide +kernel) fun t _ y => ?_
  unfold val2
  blk_simp
  rw [after0_7, row7, col7, blk0 m c hx, blk1 m c hd, blk2 m c hk, blk3 m c hg, blk4 m c hs, blk5 m c hb]
  frame_out
  rw [pay2_enc]
  rfl

end Kernel

theorem reference_sum (x d k : ℕ → ℕ → EReal) : Cert.ReferenceResidFwdIdeal.Read.val_main_v2 (F := Ideal) (val2 (a := 8192) (b := 1024) x) (val2 (a := 8192) (b := 1024) d) (val2 (a := 1) (b := 1024) k) = val2 (a := 8192) (b := 1024) (resid x d k) := by
  funext j; idx_vars j
  rw [← Cert.ReferenceResidFwdIdeal.Read.val_main_v2_eq (F := Ideal)]
  pointwise
  simp only [val2_ix]
  rfl

theorem reference_eq (x d k s b : ℕ → ℕ → EReal) (g : ℕ → EReal) : Cert.ReferenceResidFwdIdeal.Read.val_main_v22 (F := Ideal) (val2 (a := 8192) (b := 1024) x) (val2 (a := 8192) (b := 1024) d) (val2 (a := 1) (b := 1024) k) (val1 (a := 1024) g)
    (val2 (a := 1) (b := 1024) s) (val2 (a := 1) (b := 1024) b) = val2 (a := 8192) (b := 1024) (modrow (resid x d k) (fun _ l => g l) s b) := by
  funext j; idx_vars j
  rw [← Cert.ReferenceResidFwdIdeal.Read.val_main_v22_eq (F := Ideal)]
  pointwise
  simp only [val2_ix]
  rfl

/-- The reference terminates, leaves its arguments alone and every semaphore at zero. -/
theorem frame_reference : Cert.quiescent_ReferenceResidFwdIdeal := fun m g _ =>
  (θ_run Cert.ReferenceResidFwdIdeal.defs _ _).mono (fun r h => ⟨fun c => (h c).2.2, sem_eq_zero_of_no_sems (by decide) r.2⟩)
    (Cert.ReferenceResidFwdIdeal.Value.run (F := Ideal) m g)

set_option maxHeartbeats 1000000 in
/-- The call's results are the residual's sum and its modulated norm. -/
theorem algebraic : Cert.algebraic_KernelResidFwdIdeal_ReferenceResidFwdIdeal := by
  pair_intro
  · run_from Cert.KernelResidFwdIdeal.Gen.run_main m g
  · refine (θ_run _ _ _).mono (fun r h c => ?_) (Cert.ReferenceResidFwdIdeal.Value.run (F := Ideal) m' g')
    obtain ⟨a0, a1, a2, a3, a4, a5⟩ := hagree c
    obtain ⟨h2, h22, hargs⟩ := h c
    obtain ⟨x, hx⟩ := exists_val2 (m ((c : Thread nD τ).loc main_arg0))
    obtain ⟨d, hd⟩ := exists_val2 (m ((c : Thread nD τ).loc main_arg1))
    obtain ⟨k, hk⟩ := exists_val2 (m ((c : Thread nD τ).loc main_arg2))
    obtain ⟨w, hg⟩ := exists_val1 (m ((c : Thread nD τ).loc main_arg3))
    obtain ⟨s, hs⟩ := exists_val2 (m ((c : Thread nD τ).loc main_arg4))
    obtain ⟨b, hb⟩ := exists_val2 (m ((c : Thread nD τ).loc main_arg5))
    refine ⟨h2.trans ((Cert.ReferenceResidFwdIdeal.Read.val_main_v2_eq (F := Ideal) _ _ _).trans ?_), h22.trans ((Cert.ReferenceResidFwdIdeal.Read.val_main_v22_eq (F := Ideal) _ _ _ _ _ _).trans ?_), hargs⟩
    · rw [a0, a1, a2]
      refine Eq.trans ?_ (final6 m c hx hd hk).symm
      rw [hx, hd, hk]
      exact reference_sum x d k
    · rw [a0, a1, a2, a3, a4, a5]
      refine Eq.trans ?_ (final7 m c hx hd hk hg hs hb).symm
      rw [hx, hd, hk, hg, hs, hb]
      exact reference_eq x d k s b w

end Cert.KernelResidFwdIdeal.Value
-- ==== Proof.Up.Claim.lean ====
module

public import proofs.«01_k».proof.Defs
public import proofs.«01_k».proof.Proof.Enc
public import proofs.«01_k».proof.Proof.Gen.KernelUpIdeal.Frame
public import proofs.«01_k».proof.Proof.Gen.ReferenceUpIdeal.Run
public import proofs.«01_k».proof.Proof.Gen.ReferenceUpIdeal.Read
public import Idealize.ShloMosaic.Lib.Pipeline.ValueKit

/-!
The feed-forward block's first product and the square of its rectified entries, blocks of rows by blocks of columns.
-/

@[expose] public section

set_option maxRecDepth 16384

noncomputable section

namespace Cert.KernelUpIdeal.Value

open Cert.KernelUpIdeal Cert.KernelUpIdeal.Gen Cert.Reals Idealize.ShloMosaic Idealize.ShloMosaic.TcCoe Idealize.SL.Sem
open Idealize.ShloMosaic.Pipeline (Dat)

/-- The product at row `r` and column `l`, and its rectified square. -/
def prod (h w : ℕ → ℕ → EReal) (r l : ℕ) : EReal := ∑ q : Fin 1024, h r q * w q l
def sqr (h w : ℕ → ℕ → EReal) (r l : ℕ) : EReal := max (prod h w r l) 0 * max (prod h w r l) 0

section Kernel

variable (h w : ℕ → ℕ → EReal)

theorem pay1_enc : k0_pay1 (F := Ideal) (val2 (a := 1024) (b := 1024) h) (val2 (a := 1024) (b := 1024) w) = val2 (a := 1024) (b := 1024) (prod h w) := by
  funext j; idx_vars j
  unfold k0_pay1
  pointwise
  simp only [val2_ix]
  rfl

theorem pay2_enc : k0_pay2 (F := Ideal) (val2 (a := 1024) (b := 1024) h) (val2 (a := 1024) (b := 1024) w) = val2 (a := 1024) (b := 1024) (prod h w) := by
  unfold k0_pay2
  rw [pay1_enc]
  rfl

theorem pay3_enc : k0_pay3 (F := Ideal) (val2 (a := 1024) (b := 1024) h) (val2 (a := 1024) (b := 1024) w) = val2 (a := 1024) (b := 1024) (sqr h w) := by
  unfold k0_pay3
  rw [pay1_enc]
  funext j; idx_vars j
  pointwise
  simp only [val2_ix]
  rfl

theorem idx : ∀ t : Fin grid0.N, win0_0.index t = ![t.val / 4, 0] ∧ win0_1.index t = ![0, t.val % 4] ∧ win0_2.index t = ![t.val / 4, t.val % 4]
    ∧ win0_3.index t = ![t.val / 4, t.val % 4] := by decide +kernel

theorem row2 (t : Fin cfg0.N) (y : S1024x1024.Idx) : win0_2.index t 0 * 1024 + (y 0).val = t.val / 4 * 1024 + (y 0).val := by
  rw [(idx t).2.2.1]; rfl
theorem col2 (t : Fin cfg0.N) (y : S1024x1024.Idx) : win0_2.index t 1 * 1024 + (y 1).val = t.val % 4 * 1024 + (y 1).val := by
  rw [(idx t).2.2.1]; rfl
theorem row3 (t : Fin cfg0.N) (y : S1024x1024.Idx) : win0_3.index t 0 * 1024 + (y 0).val = t.val / 4 * 1024 + (y 0).val := by
  rw [(idx t).2.2.2]; rfl
theorem col3 (t : Fin cfg0.N) (y : S1024x1024.Idx) : win0_3.index t 1 * 1024 + (y 1).val = t.val % 4 * 1024 + (y 1).val := by
  rw [(idx t).2.2.2]; rfl

variable (m : (ℓ : Loc nD τ sig) → Buf (Elt Ideal) ℓ) (c : Dev nD) {h w : ℕ → ℕ → EReal}
  (hh : m ((c : Thread nD τ).loc main_arg0) = val2 (a := 8192) (b := 1024) h) (hw : m ((c : Thread nD τ).loc main_arg1) = val2 (a := 1024) (b := 4096) w) (t : Fin cfg0.N)

include hh in
theorem blk0 : iblk m c 0 t = val2 (a := 1024) (b := 1024) (fun r q => h (t.val / 4 * 1024 + r) q) := by
  funext j
  refine Eq.trans ?_ (congrFun hh (ValueIdx.ix2 ⟨t.val / 4 * 1024 + (j 0).val, by have : t.val < 32 := t.isLt; have : (j 0).val < 1024 := (j 0).isLt; omega⟩ (j 1)))
  refine congrArg (m ((c : Thread nD τ).loc main_arg0)) (funext fun k => Fin.ext (((cfg0.win 0).rect_emb_val t j k).trans ?_))
  have e : win0_0.index t = _ := (idx t).1
  match k with
  | ⟨0, _⟩ => show win0_0.index t 0 * 1024 + (j 0).val = t.val / 4 * 1024 + (j 0).val; rw [e]; rfl
  | ⟨1, _⟩ => show win0_0.index t 1 * 1024 + (j 1).val = (j 1).val; rw [e]; exact Nat.zero_add _

include hw in
theorem blk1 : iblk m c 1 t = val2 (a := 1024) (b := 1024) (fun q l => w q (t.val % 4 * 1024 + l)) := by
  funext j
  refine Eq.trans ?_ (congrFun hw (ValueIdx.ix2 (j 0) ⟨t.val % 4 * 1024 + (j 1).val, by have : (j 1).val < 1024 := (j 1).isLt; omega⟩))
  refine congrArg (m ((c : Thread nD τ).loc main_arg1)) (funext fun k => Fin.ext (((cfg0.win 1).rect_emb_val t j k).trans ?_))
  have e : win0_1.index t = _ := (idx t).2.1
  match k with
  | ⟨0, _⟩ => show win0_1.index t 0 * 1024 + (j 0).val = (j 0).val; rw [e]; exact Nat.zero_add _
  | ⟨1, _⟩ => show win0_1.index t 1 * 1024 + (j 1).val = t.val % 4 * 1024 + (j 1).val; rw [e]; rfl

include hh hw in
theorem final2 : (dats m 0 c).arrAt 2 (cfgs 0).N = val2 (a := 8192) (b := 4096) (prod h w) := by
  refine (dats m 0 c).arrAt_eq_of_covers 2 _ (by decide +kernel) fun t _ y => ?_
  unfold val2
  blk_simp
  rw [after0_2, row2, col2, blk0 m c hh, blk1 m c hw]
  frame_out
  rw [pay2_enc]
  rfl

include hh hw in
theorem final3 : (dats m 0 c).arrAt 3 (cfgs 0).N = val2 (a := 8192) (b := 4096) (sqr h w) := by
  refine (dats m 0 c).arrAt_eq_of_covers 3 _ (by decide +kernel) fun t _ y => ?_
  unfold val2
  blk_simp
  rw [after0_3, row3, col3, blk0 m c hh, blk1 m c hw]
  frame_out
  rw [pay3_enc]
  rfl

end Kernel

theorem reference_prod (h w : ℕ → ℕ → EReal) : Cert.ReferenceUpIdeal.Read.val_main_v2 (F := Ideal) (val2 (a := 8192) (b := 1024) h) (val2 (a := 1024) (b := 4096) w)
    = val2 (a := 8192) (b := 4096) (prod h w) := by
  funext j; idx_vars j
  rw [← Cert.ReferenceUpIdeal.Read.val_main_v2_eq (F := Ideal)]
  pointwise
  simp only [val2_ix]
  rfl

theorem reference_sqr (h w : ℕ → ℕ → EReal) : Cert.ReferenceUpIdeal.Read.val_main_v5 (F := Ideal) (val2 (a := 8192) (b := 1024) h) (val2 (a := 1024) (b := 4096) w)
    = val2 (a := 8192) (b := 4096) (sqr h w) := by
  funext j; idx_vars j
  rw [← Cert.ReferenceUpIdeal.Read.val_main_v5_eq (F := Ideal)]
  pointwise
  simp only [val2_ix]
  rfl

/-- The reference terminates, leaves its arguments alone and every semaphore at zero. -/
theorem frame_reference : Cert.quiescent_ReferenceUpIdeal := fun m g _ =>
  (θ_run Cert.ReferenceUpIdeal.defs _ _).mono (fun r h => ⟨fun c => (h c).2.2, sem_eq_zero_of_no_sems (by decide) r.2⟩)
    (Cert.ReferenceUpIdeal.Value.run (F := Ideal) m g)

set_option maxHeartbeats 1000000 in
/-- The call's results are the product and the square of its rectified entries. -/
theorem algebraic : Cert.algebraic_KernelUpIdeal_ReferenceUpIdeal := by
  pair_intro
  · run_from Cert.KernelUpIdeal.Gen.run_main m g
  · refine (θ_run _ _ _).mono (fun r h c => ?_) (Cert.ReferenceUpIdeal.Value.run (F := Ideal) m' g')
    obtain ⟨a0, a1⟩ := hagree c
    obtain ⟨h2, h5, hargs⟩ := h c
    obtain ⟨x, hx⟩ := exists_val2 (m ((c : Thread nD τ).loc main_arg0))
    obtain ⟨w, hw⟩ := exists_val2 (m ((c : Thread nD τ).loc main_arg1))
    refine ⟨h2.trans ((Cert.ReferenceUpIdeal.Read.val_main_v2_eq (F := Ideal) _ _).trans ?_), h5.trans ((Cert.ReferenceUpIdeal.Read.val_main_v5_eq (F := Ideal) _ _).trans ?_), hargs⟩
    · rw [a0, a1]
      refine Eq.trans ?_ (final2 m c hx hw).symm
      rw [hx, hw]
      exact reference_prod x w
    · rw [a0, a1]
      refine Eq.trans ?_ (final3 m c hx hw).symm
      rw [hx, hw]
      exact reference_sqr x w

end Cert.KernelUpIdeal.Value
-- ==== Proof.Heads.lean ====
module

public import proofs.«01_k».proof.Proof.Enc
public import Idealize.ShloMosaic.Lib.Pipeline.ValueKit

/-!
Sums over the two heads that share a block of 128 lanes, taken by a mask.
-/

@[expose] public section

noncomputable section

namespace Cert.Reals

open Idealize.ShloMosaic
open Idealize.ShloMosaic.WordCmp (cmpi_slt_ofNat)
open Finset (range)

/-- The sum of squares of the head that lane `l` belongs to. -/
def square (x : ℕ → ℕ → EReal) (r l : ℕ) : EReal := ∑ q ∈ range 64, x r (l / 64 * 64 + q) * x r (l / 64 * 64 + q)

theorem inv_word : Ideal.ofBits .f32 0x3C800000#32 = ((1 / 64 : ℝ) : EReal) := by
  simp [Ideal.ofBits, Ideal.ieee, -EReal.coe_mul]; norm_num
theorem len_word : Ideal.ofBits .f32 0x42800000#32 = ((64 : ℝ) : EReal) := by
  simp [Ideal.ofBits, Ideal.ieee, -EReal.coe_mul]; norm_num

/-- The two masked sums of a row hold its two heads' sums. -/
theorem masked (f : ℕ → EReal) (l : ℕ) (hl : l < 128) :
    (if l < 64 then ∑ q : Fin 128, (if q.val < 64 then f q.val else 0) else ∑ q : Fin 128, (if q.val < 64 then 0 else f q.val)) = ∑ q ∈ range 64, f (l / 64 * 64 + q) := by
  rw [Fin.sum_univ_eq_sum_range (fun q => if q < 64 then f q else 0) 128, Fin.sum_univ_eq_sum_range (fun q => if q < 64 then 0 else f q) 128,
    show 128 = 64 + 64 from rfl, Finset.sum_range_add, Finset.sum_range_add]
  by_cases h : l < 64
  · rw [if_pos h, Finset.sum_eq_zero (s := range 64) (f := fun q => if 64 + q < 64 then f (64 + q) else 0) fun q _ => if_neg (by omega), add_zero,
      Nat.div_eq_of_lt h]
    exact Finset.sum_congr rfl fun q hq => by rw [if_pos (Finset.mem_range.1 hq), Nat.zero_mul, Nat.zero_add]
  · rw [if_neg h, Finset.sum_eq_zero (s := range 64) (f := fun q => if q < 64 then 0 else f q) fun q hq => if_pos (Finset.mem_range.1 hq), zero_add,
      show l / 64 = 1 by omega]
    exact Finset.sum_congr rfl fun q _ => by rw [if_neg (by omega), Nat.one_mul]

theorem mask_word (x : Fin 128) : IntOp.cmpi .slt (BitVec.ofNat 32 x.val) 64#32 = BitVec.ofBool (decide (x.val < 64)) := cmpi_slt_ofNat (by omega) (by omega)

end Cert.Reals

end
-- ==== Proof.QkFwd.Claim.lean ====
module

public import proofs.«01_k».proof.Defs
public import proofs.«01_k».proof.Proof.Enc
public import proofs.«01_k».proof.Proof.Heads
public import proofs.«01_k».proof.Proof.Reals
public import proofs.«01_k».proof.Proof.Concat
public import proofs.«01_k».proof.Proof.Gen.KernelQkFwdIdeal.Frame
public import proofs.«01_k».proof.Proof.Gen.ReferenceQkFwdIdeal.Run
public import proofs.«01_k».proof.Proof.Gen.ReferenceQkFwdIdeal.Read
public import Idealize.ShloMosaic.Lib.Pipeline.ValueKit
public import Idealize.ShloMosaic.Lib.StableHlo.RunRead

/-!
Queries and keys divided by the root of their heads' mean squares, two heads to a block of 128 lanes.
-/

@[expose] public section

set_option maxRecDepth 16384

noncomputable section

namespace Cert.KernelQkFwdIdeal.Value

open Cert.KernelQkFwdIdeal Cert.KernelQkFwdIdeal.Gen Cert.Reals Idealize.ShloMosaic Idealize.ShloMosaic.TcCoe Idealize.SL.Sem
open Idealize.ShloMosaic.Pipeline (Dat)
open Finset (range)

/-- The normed entry of the head that lane `l` belongs to. -/
def normed (x : ℕ → ℕ → EReal) (g : ℕ → EReal) (r l : ℕ) : EReal :=
  x r l * Ideal.rsqrt (square x r l * ((1 / 64 : ℝ) : EReal) + Ideal.ofBits .f32 0x358637BD#32) * g (l % 64)

section Kernel

abbrev vblk (f : ℕ → ℕ → EReal) : Vec Ideal S2048x128 .f32 := val2 (a := 2048) (b := 128) f
abbrev vgain (g : ℕ → EReal) : Vec Ideal S1x128 .f32 := val2 (a := 1) (b := 128) (fun _ l => g (l % 64))

variable (x : ℕ → ℕ → EReal) (g : ℕ → EReal)

theorem pay3_enc : k0_pay3 (F := Ideal) (vblk x) (vgain g) = vblk (normed x g) := by
  funext j; idx_vars j
  unfold k0_pay3 k0_pay2
  pointwise
  simp only [val2_ix, mask_word, select_decide]
  rw [masked (fun l => x j0.val l * x j0.val l) j1.val j1.isLt, inv_word]
  rfl

theorem pay7_enc : k0_pay7 (F := Ideal) k0_pay2 (k0_pay4 (vblk x)) (k0_pay5 (vblk x)) (Scalar.ofBits .f32 0x00000000#32) k0_pay6 (vgain g) = vblk (normed x g) := by
  funext j; idx_vars j
  unfold k0_pay7 k0_pay6 k0_pay5 k0_pay4 k0_pay2
  pointwise
  simp only [val2_ix, mask_word, select_decide]
  rw [masked (fun l => x j0.val l * x j0.val l) j1.val j1.isLt, inv_word]
  rfl

theorem idx : ∀ t : Fin grid0.N, win0_0.index t = ![t.val % 4, 6 + t.val / 4] ∧ win0_1.index t = ![t.val % 4, 10 + t.val / 4] ∧ win0_2.index t = ![0, 0] ∧ win0_3.index t = ![0, 0]
    ∧ win0_4.index t = ![t.val % 4, t.val / 4] ∧ win0_5.index t = ![t.val % 4, t.val / 4] := by decide +kernel

theorem row4 (t : Fin cfg0.N) (y : S2048x128.Idx) : win0_4.index t 0 * 2048 + (y 0).val = t.val % 4 * 2048 + (y 0).val := by rw [(idx t).2.2.2.2.1]; rfl
theorem col4 (t : Fin cfg0.N) (y : S2048x128.Idx) : win0_4.index t 1 * 128 + (y 1).val = t.val / 4 * 128 + (y 1).val := by rw [(idx t).2.2.2.2.1]; rfl
theorem row5 (t : Fin cfg0.N) (y : S2048x128.Idx) : win0_5.index t 0 * 2048 + (y 0).val = t.val % 4 * 2048 + (y 0).val := by rw [(idx t).2.2.2.2.2]; rfl
theorem col5 (t : Fin cfg0.N) (y : S2048x128.Idx) : win0_5.index t 1 * 128 + (y 1).val = t.val / 4 * 128 + (y 1).val := by rw [(idx t).2.2.2.2.2]; rfl

variable (m : (ℓ : Loc nD τ sig) → Buf (Elt Ideal) ℓ) (c : Dev nD) {P : ℕ → ℕ → EReal} {g k : ℕ → EReal}
  (hP : m ((c : Thread nD τ).loc main_arg0) = val2 (a := 8192) (b := 2824) P)
  (hg : m ((c : Thread nD τ).loc main_arg1) = val1 (a := 64) g) (hk : m ((c : Thread nD τ).loc main_arg2) = val1 (a := 64) k) (t : Fin cfg0.N)

set_option maxHeartbeats 4000000 in
/-- The packed array's first 2304 columns hold the projection's own. -/
theorem V_front (j : S8192x3072.Idx) (h : (j 1).val < 2304) : V m c main_v12 j = m ((c : Thread nD τ).loc main_arg0) (ValueIdx.ix2 (j 0) ⟨(j 1).val, by omega⟩) := by
  unfold V
  after_reads_simp
  refine (concat_at 1 _ _ j 0 (by simp) S8192x2304 _ rfl rfl (ValueIdx.ix2 (j 0) ⟨(j 1).val, h⟩) (fun b => match b with | ⟨0, _⟩ => rfl | ⟨1, _⟩ => rfl)).trans ?_
  refine extractStridedSlice_apply ![0, 0] (m (c, Proc.devRef .tc main_arg0)) slices_S8192x2824_S8192x2304_0_0 _ _ (fun a => match a with | ⟨0, _⟩ => ?_ | ⟨1, _⟩ => ?_)
  · exact (Nat.zero_add _).symm
  · exact (Nat.zero_add _).symm

set_option maxHeartbeats 4000000 in
include hg in
theorem V_qgain : V m c main_v3 = vgain g := by
  unfold V
  after_reads_simp
  rw [hg]
  funext j; idx_vars j
  pointwise
  rfl

set_option maxHeartbeats 4000000 in
include hk in
theorem V_kgain : V m c main_v7 = vgain k := by
  unfold V
  after_reads_simp
  rw [hk]
  funext j; idx_vars j
  pointwise
  rfl

include hP in
theorem front_at (R C : ℕ) (hR : R < 8192) (hC : C < 2304) : V m c main_v12 (ValueIdx.ix2 ⟨R, hR⟩ ⟨C, by omega⟩) = P R C := by
  rw [V_front m c _ (by exact hC), hP]; rfl

theorem points (t : Fin cfg0.N) : t.val < 16 := t.isLt

include hP in
theorem blk0 : iblk m c 0 t = vblk (fun a l => P (t.val % 4 * 2048 + a) (768 + (t.val / 4 * 128 + l))) := by
  funext j
  have h0 : (j 0).val < 2048 := (j 0).isLt
  have h1 : (j 1).val < 128 := (j 1).isLt
  have ht := points t
  refine Eq.trans ?_ (front_at m c hP (t.val % 4 * 2048 + (j 0).val) (768 + (t.val / 4 * 128 + (j 1).val)) (by omega) (by omega))
  refine congrArg (V m c main_v12) (funext fun a => Fin.ext (((cfg0.win 0).rect_emb_val t j a).trans ?_))
  have h : win0_0.index t = _ := (idx t).1
  match a with
  | ⟨0, _⟩ => show win0_0.index t 0 * 2048 + (j 0).val = t.val % 4 * 2048 + (j 0).val; rw [h]; rfl
  | ⟨1, _⟩ => show win0_0.index t 1 * 128 + (j 1).val = 768 + (t.val / 4 * 128 + (j 1).val); rw [h]; show (6 + t.val / 4) * 128 + (j 1).val = _; omega

include hP in
theorem blk1 : iblk m c 1 t = vblk (fun a l => P (t.val % 4 * 2048 + a) (1280 + (t.val / 4 * 128 + l))) := by
  funext j
  have h0 : (j 0).val < 2048 := (j 0).isLt
  have h1 : (j 1).val < 128 := (j 1).isLt
  have ht := points t
  refine Eq.trans ?_ (front_at m c hP (t.val % 4 * 2048 + (j 0).val) (1280 + (t.val / 4 * 128 + (j 1).val)) (by omega) (by omega))
  refine congrArg (V m c main_v12) (funext fun a => Fin.ext (((cfg0.win 1).rect_emb_val t j a).trans ?_))
  have h : win0_1.index t = _ := (idx t).2.1
  match a with
  | ⟨0, _⟩ => show win0_1.index t 0 * 2048 + (j 0).val = t.val % 4 * 2048 + (j 0).val; rw [h]; rfl
  | ⟨1, _⟩ => show win0_1.index t 1 * 128 + (j 1).val = 1280 + (t.val / 4 * 128 + (j 1).val); rw [h]; show (10 + t.val / 4) * 128 + (j 1).val = _; omega

include hg in
theorem blk2 : iblk m c 2 t = vgain g := by
  funext j
  refine Eq.trans ?_ (congrFun (V_qgain m c hg) j)
  refine congrArg (V m c main_v3) (funext fun a => Fin.ext (((cfg0.win 2).rect_emb_val t j a).trans ?_))
  have h : win0_2.index t = _ := (idx t).2.2.1
  match a with
  | ⟨0, _⟩ => show win0_2.index t 0 * 1 + (j 0).val = (j 0).val; rw [h]; exact Nat.zero_add _
  | ⟨1, _⟩ => show win0_2.index t 1 * 128 + (j 1).val = (j 1).val; rw [h]; exact Nat.zero_add _

include hk in
theorem blk3 : iblk m c 3 t = vgain k := by
  funext j
  refine Eq.trans ?_ (congrFun (V_kgain m c hk) j)
  refine congrArg (V m c main_v7) (funext fun a => Fin.ext (((cfg0.win 3).rect_emb_val t j a).trans ?_))
  have h : win0_3.index t = _ := (idx t).2.2.2.1
  match a with
  | ⟨0, _⟩ => show win0_3.index t 0 * 1 + (j 0).val = (j 0).val; rw [h]; exact Nat.zero_add _
  | ⟨1, _⟩ => show win0_3.index t 1 * 128 + (j 1).val = (j 1).val; rw [h]; exact Nat.zero_add _

/-- A block's entry is the whole array's: a block begins at a head. -/
theorem shift (o : ℕ) (g : ℕ → EReal) (r a p l : ℕ) :
    normed (fun a l => P (r + a) (o + (p * 128 + l))) g a l = normed (fun r c => P r (o + c)) g (r + a) (p * 128 + l) := by
  unfold normed square
  have e : (p * 128 + l) / 64 * 64 = p * 128 + l / 64 * 64 := by omega
  have e' : (p * 128 + l) % 64 = l % 64 := by omega
  rw [e, e']
  simp only [Nat.add_assoc]

include hP hg in
theorem q_block : k0_pay3 (F := Ideal) (iblk m c 0 t) (iblk m c 2 t) = vblk fun a l => normed (fun r c => P r (768 + c)) g (t.val % 4 * 2048 + a) (t.val / 4 * 128 + l) := by
  rw [blk0 m c hP, blk2 m c hg, pay3_enc]
  exact congrArg vblk (funext fun a => funext fun l => shift 768 g _ a _ l)

include hP hk in
theorem k_block : k0_pay7 (F := Ideal) k0_pay2 (k0_pay4 (iblk m c 1 t)) (k0_pay5 (iblk m c 1 t)) (Scalar.ofBits .f32 0x00000000#32) k0_pay6 (iblk m c 3 t)
    = vblk fun a l => normed (fun r c => P r (1280 + c)) k (t.val % 4 * 2048 + a) (t.val / 4 * 128 + l) := by
  rw [blk1 m c hP, blk3 m c hk, pay7_enc]
  exact congrArg vblk (funext fun a => funext fun l => shift 1280 k _ a _ l)

include hP hg in
theorem final_q : (dats m 0 c).arrAt 4 (cfgs 0).N = val2 (a := 8192) (b := 512) (normed (fun r c => P r (768 + c)) g) := by
  refine (dats m 0 c).arrAt_eq_of_covers 4 _ (by decide +kernel) fun t _ y => ?_
  unfold val2
  blk_simp
  rw [after0_4, row4, col4]
  rcases em (t.val % 4 = 0) with h | h
  · rw [outsAt0_A m c t h]; frame_out
    exact congrFun (q_block m c hP hg t) y
  · rw [outsAt0_B m c t h]; frame_out
    exact congrFun (q_block m c hP hg t) y

include hP hk in
theorem final_k : (dats m 0 c).arrAt 5 (cfgs 0).N = val2 (a := 8192) (b := 512) (normed (fun r c => P r (1280 + c)) k) := by
  refine (dats m 0 c).arrAt_eq_of_covers 5 _ (by decide +kernel) fun t _ y => ?_
  unfold val2
  blk_simp
  rw [after0_5, row5, col5]
  rcases em (t.val % 4 = 0) with h | h
  · rw [outsAt0_A m c t h]; frame_out
    exact congrFun (k_block m c hP hk t) y
  · rw [outsAt0_B m c t h]; frame_out
    exact congrFun (k_block m c hP hk t) y

end Kernel

section Reference

variable (P : ℕ → ℕ → EReal) (g : ℕ → EReal)

theorem reference_q : Cert.ReferenceQkFwdIdeal.Read.val_main_v15 (F := Ideal) (val2 (a := 8192) (b := 2824) P) (val1 (a := 64) g)
    = val2 (a := 8192) (b := 512) (normed (fun r c => P r (768 + c)) g) := by
  funext j; idx_vars j
  rw [← Cert.ReferenceQkFwdIdeal.Read.val_main_v15_eq (F := Ideal)]
  pointwise
  simp only [val2_ix]
  rw [len_word, Ideal.div_coe (by norm_num), Fin.sum_univ_eq_sum_range (fun q => P j0.val (768 + (j1.val / 64 * 64 + q)) * P j0.val (768 + (j1.val / 64 * 64 + q))) 64]
  rfl

theorem reference_k : Cert.ReferenceQkFwdIdeal.Read.val_main_v31 (F := Ideal) (val2 (a := 8192) (b := 2824) P) (val1 (a := 64) g)
    = val2 (a := 8192) (b := 512) (normed (fun r c => P r (1280 + c)) g) := by
  funext j; idx_vars j
  rw [← Cert.ReferenceQkFwdIdeal.Read.val_main_v31_eq (F := Ideal)]
  pointwise
  simp only [val2_ix]
  rw [len_word, Ideal.div_coe (by norm_num), Fin.sum_univ_eq_sum_range (fun q => P j0.val (1280 + (j1.val / 64 * 64 + q)) * P j0.val (1280 + (j1.val / 64 * 64 + q))) 64]
  rfl

end Reference

/-- The reference terminates, leaves its arguments alone and every semaphore at zero. -/
theorem frame_reference : Cert.quiescent_ReferenceQkFwdIdeal := fun m g _ =>
  (θ_run Cert.ReferenceQkFwdIdeal.defs _ _).mono (fun r h => ⟨fun c => (h c).2.2, sem_eq_zero_of_no_sems (by decide) r.2⟩)
    (Cert.ReferenceQkFwdIdeal.Value.run (F := Ideal) m g)

set_option maxHeartbeats 1000000 in
/-- The call's results are the normed queries and keys. -/
theorem algebraic : Cert.algebraic_KernelQkFwdIdeal_ReferenceQkFwdIdeal := by
  pair_intro
  · run_from Cert.KernelQkFwdIdeal.Gen.run_main m g
  · refine (θ_run _ _ _).mono (fun r h c => ?_) (Cert.ReferenceQkFwdIdeal.Value.run (F := Ideal) m' g')
    obtain ⟨a0, a1, a2⟩ := hagree c
    obtain ⟨h15, h31, hargs⟩ := h c
    obtain ⟨P, hP⟩ := exists_val2 (m ((c : Thread nD τ).loc main_arg0))
    obtain ⟨w, hw⟩ := exists_val1 (m ((c : Thread nD τ).loc main_arg1))
    obtain ⟨k, hk⟩ := exists_val1 (m ((c : Thread nD τ).loc main_arg2))
    refine ⟨h15.trans ((Cert.ReferenceQkFwdIdeal.Read.val_main_v15_eq (F := Ideal) _ _).trans ?_), h31.trans ((Cert.ReferenceQkFwdIdeal.Read.val_main_v31_eq (F := Ideal) _ _).trans ?_), hargs⟩
    · rw [a0, a1]
      refine Eq.trans ?_ (final_q m c hP hw).symm
      rw [hP, hw]
      exact reference_q P w
    · rw [a0, a2]
      refine Eq.trans ?_ (final_k m c hP hk).symm
      rw [hP, hk]
      exact reference_k P k

end Cert.KernelQkFwdIdeal.Value
-- ==== Proof.ForgetFwd.Outs.lean ====
module

public import proofs.«01_k».proof.Proof.Enc
public import proofs.«01_k».proof.Proof.Concat
public import proofs.«01_k».proof.Proof.Scatter
public import proofs.«01_k».proof.Proof.Gen.KernelForgetFwdIdeal.Frame
public import Idealize.ShloMosaic.Lib.Pipeline.ValueKit
public import Idealize.ShloMosaic.Lib.StableHlo.RunRead
public import Idealize.ShloMosaic.Lib.Routing.OpsSet

/-!
The running sums of the log gates, block after block with a carried row.
-/

@[expose] public section

set_option maxRecDepth 65536

noncomputable section

namespace Cert.Reals

open Idealize.ShloMosaic
open Finset (range)

/-- The logarithm of the gate. -/
def lgate (x : EReal) : EReal := -(max (-x) 0 + Ideal.log (1 + Ideal.exp (-(FloatOps.absf (F := Ideal) (φ := .f32) (-x) : EReal))))

theorem log_one_exp (y : EReal) : 0 ≤ Ideal.log (1 + Ideal.exp y) := by
  induction y using EReal.rec with
  | bot => show 0 ≤ Ideal.log (1 + 0); rw [add_zero]; show (0 : EReal) ≤ (if (1 : ℝ) ≤ 0 then ⊥ else (Real.log 1 : EReal)); rw [if_neg (by norm_num), Real.log_one]; exact le_rfl
  | top => show 0 ≤ Ideal.log (1 + ⊤); rw [EReal.add_top_of_ne_bot (by decide)]; exact le_top
  | coe r =>
    show (0 : EReal) ≤ (if (1 + Real.exp r) ≤ 0 then ⊥ else (Real.log (1 + Real.exp r) : EReal))
    have h := Real.exp_pos r
    rw [if_neg (by linarith)]
    exact EReal.coe_nonneg.2 (Real.log_nonneg (by linarith))

theorem lgate_ne_top (x : EReal) : lgate x ≠ ⊤ := by
  have h : 0 ≤ max (-x) 0 + Ideal.log (1 + Ideal.exp (-(FloatOps.absf (F := Ideal) (φ := .f32) (-x) : EReal))) := add_nonneg (le_max_right _ _) (log_one_exp _)
  intro e
  unfold lgate at e
  rw [EReal.neg_eq_top_iff] at e
  rw [e] at h
  exact absurd h (by decide)

/-- The three parts of a number that is not +∞, summed up. -/
theorem three (y : EReal) (h : y ≠ ⊤) : y + (y - y) + ((y - y) - (y - y)) = y := by
  induction y using EReal.rec with
  | bot => rfl
  | top => exact absurd rfl h
  | coe r => rw [← EReal.coe_sub, sub_self, ← EReal.coe_sub, sub_self, ← EReal.coe_add, ← EReal.coe_add, add_zero, add_zero]

/-- The triangular product of a column in three parts is its sum up to a row. -/
theorem upto_parts (f : ℕ → EReal) (h : ∀ k, f k ≠ ⊤) (a : ℕ) (ha : a < 512) :
    (∑ k : Fin 512, ((if k.val ≤ a then 1 else 0 : ℝ) : EReal) * f k.val) + (∑ k : Fin 512, ((if k.val ≤ a then 1 else 0 : ℝ) : EReal) * (f k.val - f k.val))
      + (∑ k : Fin 512, ((if k.val ≤ a then 1 else 0 : ℝ) : EReal) * ((f k.val - f k.val) - (f k.val - f k.val))) = ∑ k ∈ range (a + 1), f k := by
  rw [← Finset.sum_add_distrib, ← Finset.sum_add_distrib]
  have e : ∀ k : Fin 512, ((if k.val ≤ a then 1 else 0 : ℝ) : EReal) * f k.val + ((if k.val ≤ a then 1 else 0 : ℝ) : EReal) * (f k.val - f k.val)
      + ((if k.val ≤ a then 1 else 0 : ℝ) : EReal) * ((f k.val - f k.val) - (f k.val - f k.val)) = if k.val ≤ a then f k.val else 0 := fun k => by
    by_cases hk : k.val ≤ a
    · rw [if_pos hk, if_pos hk, EReal.coe_one, one_mul, one_mul, one_mul]; exact three _ (h _)
    · rw [if_neg hk, if_neg hk, EReal.coe_zero, zero_mul, zero_mul, zero_mul, add_zero, add_zero]
  rw [Finset.sum_congr rfl fun k _ => e k, Fin.sum_univ_eq_sum_range (fun k => if k ≤ a then f k else 0) 512, ← Finset.sum_filter]
  refine Finset.sum_congr ?_ fun _ _ => rfl
  ext k; simp only [Finset.mem_filter, Finset.mem_range]; omega

/-- The sums up to a row, a block of rows at a time. -/
theorem upto_block (f : ℕ → EReal) (s a : ℕ) : (∑ k ∈ range (a + 1), f (s + k)) + ∑ k ∈ range s, f k = ∑ k ∈ range (s + a + 1), f k := by
  exact (add_comm _ _).trans ((Finset.sum_range_add f s (a + 1)).symm.trans (congrArg (fun n => ∑ k ∈ range n, f k) (Nat.add_assoc s a 1).symm))

end Cert.Reals

namespace Cert.KernelForgetFwdIdeal.Value

open Cert.KernelForgetFwdIdeal Cert.KernelForgetFwdIdeal.Gen Cert.Reals Idealize.ShloMosaic Idealize.ShloMosaic.TcCoe Idealize.SL.Sem
open Idealize.ShloMosaic.Pipeline (Dat)
open Idealize.ShloMosaic.WordCmp (cmpi_sle_ofNat)
open Finset (range)

theorem nil_word : Ideal.ofBits .f32 0x00000000#32 = (0 : EReal) := by simp [Ideal.ofBits, Ideal.ieee]

section Kernel

theorem pay4_enc (x y : ℕ → ℕ → EReal) : k0_pay4 (F := Ideal) (val2 (a := 512) (b := 128) x) (val2 (a := 1) (b := 128) y)
    = val2 (a := 512) (b := 128) (fun a l => ∑ k ∈ range (a + 1), lgate (x k l + y 0 l)) := by
  funext j; idx_vars j
  unfold k0_pay4
  pointwise
  have h (k : Fin 512) : IntOp.cmpi .sle (BitVec.ofNat 32 k.val) (BitVec.ofNat 32 j0.val) = BitVec.ofBool (decide (k.val ≤ j0.val)) :=
    cmpi_sle_ofNat (by have := k.isLt; omega) (by have : j0.val < 512 := j0.isLt; omega)
  simp only [h, sitofp_bool, val2_ix, zero_sub, Fin.val_zero]
  exact upto_parts (fun k => lgate (x k j1.val + y 0 j1.val)) (fun k => lgate_ne_top _) j0.val j0.isLt

theorem pay1_enc (p r : ℕ → ℕ → EReal) : k0_pay1 (F := Ideal) (val2 (a := 512) (b := 128) p) (val2 (a := 1) (b := 128) r) = val2 (a := 512) (b := 128) (fun a l => p a l + r 0 l) := by
  funext j; idx_vars j
  unfold k0_pay1
  pointwise
  simp only [val2_ix]
  rfl

theorem pay2_enc (p r : ℕ → ℕ → EReal) : k0_pay2 (F := Ideal) (val2 (a := 512) (b := 128) p) (val2 (a := 1) (b := 128) r) = val2 (a := 1) (b := 128) (fun _ l => p 511 l + r 0 l) := by
  unfold k0_pay2
  rw [pay1_enc]
  funext j; idx_vars j
  pointwise
  rfl

theorem pay3_enc : k0_pay3 (F := Ideal) = val2 (a := 1) (b := 128) (fun _ _ => 0) := by
  funext j; idx_vars j
  unfold k0_pay3
  pointwise
  first | rfl | exact nil_word

end Kernel

/-- The zeros that the padded bias starts from, and where the update goes. -/
def zeroRow : Vec Ideal S1x128 .f32 := broadcastInDim S1x128 ![] bcast_S_S1x128 (constant (F := Ideal) S_ .f32 0x00000000#32)
def spot : IVec S1 32 := broadcastInDim S1 ![] bcast_S_S1 (constantI S_ 32 0#32)
def spots : IVec S2 32 := concatenate S2 0 [⟨S1, spot⟩, ⟨S1, spot⟩] concatenates_S1_S1_S2_d0

theorem spots_zero (i : S2.Idx) : spots i = 0#32 := by
  have hi : (i 0).val < 2 := (i 0).isLt
  rcases em ((i 0).val = 0) with h | h
  · exact concat_at 0 _ _ i 0 (by simp) S1 spot rfl rfl (fun b => match b with | ⟨0, _⟩ => ⟨0, Nat.one_pos⟩) (fun b => match b with | ⟨0, _⟩ => h)
  · exact concat_at 0 _ _ i 1 (by simp) S1 spot rfl rfl (fun b => match b with | ⟨0, _⟩ => ⟨0, Nat.one_pos⟩) (fun b => match b with | ⟨0, _⟩ => (by omega : (i 0).val = 1))

theorem bias_lands (k : S8.Idx) (y : S1x128.Idx) : scatter_S1x128_S2_S8_0_0_01_0.resultIdx? k spots = some y ↔ 0 = (y 0).val ∧ (k 0).val = (y 1).val := by
  refine lands_of _ k spots (fun a => ?_) y 0 (k 0).val rfl rfl Nat.one_pos (show (k 0).val < 128 from lt_of_lt_of_le (k 0).isLt (by decide))
  unfold ScatterDims.start
  split
  · exact congrArg BitVec.toInt (spots_zero _)
  · rfl

variable (m : (ℓ : Loc nD τ sig) → Buf (Elt Ideal) ℓ) (c : Dev nD) {P : ℕ → ℕ → EReal} {B : ℕ → EReal}

set_option maxHeartbeats 4000000 in
/-- The forget gate's columns come after the first 2816 of the packed array, and zeros after them. -/
theorem V_gate (j : S8192x3072.Idx) (h : 2816 ≤ (j 1).val) (h' : (j 1).val < 2824) : V m c main_v4 j = m ((c : Thread nD τ).loc main_arg0) (ValueIdx.ix2 (j 0) ⟨(j 1).val - 512, by omega⟩) := by
  unfold V V0
  simp only [List.flatten_cons, List.flatten_nil, List.append_nil, List.cons_append, List.nil_append]
  after_reads_simp
  refine (concat_at 1 _ _ j 2 (by simp) S8192x8 _ rfl rfl (ValueIdx.ix2 (j 0) ⟨(j 1).val - 2816, by omega⟩) (fun b => match b with
    | ⟨0, _⟩ => rfl
    | ⟨1, _⟩ => (by show (j 1).val = ((j 1).val - 2816) + (2304 + (512 + 0)); omega))).trans ?_
  refine extractStridedSlice_apply ![0, 2304] (m (c, Proc.devRef .tc main_arg0)) slices_S8192x2824_S8192x8_0_2304 _ _ (fun a => match a with | ⟨0, _⟩ => ?_ | ⟨1, _⟩ => ?_)
  · exact (Nat.zero_add _).symm
  · show (j 1).val - 512 = 2304 + ((j 1).val - 2816); omega

set_option maxHeartbeats 4000000 in
theorem V_zeros (j : S8192x3072.Idx) (h : 2824 ≤ (j 1).val) : V m c main_v4 j = (0 : EReal) := by
  have h1 : (j 1).val < 3072 := (j 1).isLt
  unfold V V0
  simp only [List.flatten_cons, List.flatten_nil, List.append_nil, List.cons_append, List.nil_append]
  after_reads_simp
  refine (concat_at 1 _ _ j 3 (by simp) S8192x248 _ rfl rfl (ValueIdx.ix2 (j 0) ⟨(j 1).val - 2824, by omega⟩) (fun b => match b with
    | ⟨0, _⟩ => rfl
    | ⟨1, _⟩ => (by show (j 1).val = ((j 1).val - 2824) + (2304 + (512 + (8 + 0))); omega))).trans ?_
  exact nil_word

set_option maxHeartbeats 4000000 in
theorem V_row : V m c main_v9 = Host.scatter scatter_S1x128_S2_S8_0_0_01_0 (fun _ b => b) zeroRow spots (m ((c : Thread nD τ).loc main_arg1)) := by
  unfold V V0
  simp only [List.flatten_cons, List.flatten_nil, List.append_nil, List.cons_append, List.nil_append]
  after_reads_simp
  rfl

variable (hP : m ((c : Thread nD τ).loc main_arg0) = val2 (a := 8192) (b := 2824) P) (hB : m ((c : Thread nD τ).loc main_arg1) = val1 (a := 8) B) (t : Fin cfg0.N)

include hB in
theorem row_val : V m c main_v9 = val2 (a := 1) (b := 128) (fun _ l => if l < 8 then B l else 0) := by
  rw [V_row, hB]
  funext y
  have hy : (y 0).val < 1 := (y 0).isLt
  rcases em ((y 1).val < 8) with h | h
  · refine (Routing.scatter_set_hit _ _ _ _ y (B (y 1).val) (fun k hk => congrArg B ((bias_lands _ _).1 hk).2) (fun q => match q with | ⟨0, _⟩ => ⟨(y 1).val, h⟩) ((bias_lands _ _).2 ⟨by omega, rfl⟩)).trans ?_
    exact (if_pos h).symm
  · refine (Routing.scatter_set_miss _ _ _ _ y (fun k hk => h (by rw [← ((bias_lands _ _).1 hk).2]; exact (k 0).isLt))).trans ?_
    exact nil_word.trans (if_neg h).symm

theorem idx : ∀ t : Fin grid0.N, win0_0.index t = ![t.val, 22] ∧ win0_1.index t = ![0, 0] ∧ win0_2.index t = ![t.val, 0] := by decide +kernel

theorem points (t : Fin cfg0.N) : t.val < 16 := t.isLt

/-- A lane's log gate at row `s`: the lanes after the eighth hold zeros. -/
def lane (P : ℕ → ℕ → EReal) (B : ℕ → EReal) (l s : ℕ) : EReal := lgate ((if l < 8 then P s (2304 + l) else 0) + (if l < 8 then B l else 0))

include hP in
theorem blk0 : iblk m c 0 t = val2 (a := 512) (b := 128) (fun a l => if l < 8 then P (t.val * 512 + a) (2304 + l) else 0) := by
  funext j
  have h0 : (j 0).val < 512 := (j 0).isLt
  have h1 : (j 1).val < 128 := (j 1).isLt
  have ht := points t
  have hb : iblk m c 0 t j = V m c main_v4 (ValueIdx.ix2 ⟨t.val * 512 + (j 0).val, by omega⟩ ⟨2816 + (j 1).val, by omega⟩) := by
    refine congrArg (V m c main_v4) (funext fun a => Fin.ext (((cfg0.win 0).rect_emb_val t j a).trans ?_))
    have h : win0_0.index t = _ := (idx t).1
    match a with
    | ⟨0, _⟩ => show win0_0.index t 0 * 512 + (j 0).val = t.val * 512 + (j 0).val; rw [h]; rfl
    | ⟨1, _⟩ => show win0_0.index t 1 * 128 + (j 1).val = 2816 + (j 1).val; rw [h]; show 22 * 128 + (j 1).val = _; omega
  rw [hb]
  rcases em ((j 1).val < 8) with h | h
  · rw [V_gate m c _ (by show 2816 ≤ 2816 + (j 1).val; omega) (by show 2816 + (j 1).val < 2824; omega), hP]
    exact (congrArg (P (t.val * 512 + (j 0).val)) (by show 2816 + (j 1).val - 512 = 2304 + (j 1).val; omega)).trans (if_pos h).symm
  · rw [V_zeros m c _ (by show 2824 ≤ 2816 + (j 1).val; omega)]
    exact (if_neg h).symm

include hB in
theorem blk1 : iblk m c 1 t = val2 (a := 1) (b := 128) (fun _ l => if l < 8 then B l else 0) := by
  rw [← row_val m c hB]
  funext j
  refine congrArg (V m c main_v9) (funext fun a => Fin.ext (((cfg0.win 1).rect_emb_val t j a).trans ?_))
  have h : win0_1.index t = _ := (idx t).2.1
  match a with
  | ⟨0, _⟩ => show win0_1.index t 0 * 1 + (j 0).val = (j 0).val; rw [h]; exact Nat.zero_add _
  | ⟨1, _⟩ => show win0_1.index t 1 * 128 + (j 1).val = (j 1).val; rw [h]; exact Nat.zero_add _

include hP hB in
/-- One block: its sums, and the row carried to the next. -/
theorem step (r : Vec Ideal S1x128 .f32) (hr : r = val2 (a := 1) (b := 128) (fun _ l => ∑ k ∈ range (t.val * 512), lane P B l k)) :
    k0_pay1 (F := Ideal) (k0_pay4 (iblk m c 0 t) (iblk m c 1 t)) r = val2 (a := 512) (b := 128) (fun a l => ∑ k ∈ range (t.val * 512 + a + 1), lane P B l k)
    ∧ k0_pay2 (F := Ideal) (k0_pay4 (iblk m c 0 t) (iblk m c 1 t)) r = val2 (a := 1) (b := 128) (fun _ l => ∑ k ∈ range ((t.val + 1) * 512), lane P B l k) := by
  rw [blk0 m c hP, blk1 m c hB, pay4_enc, hr, pay1_enc, pay2_enc]
  refine ⟨congrArg (val2 (a := 512) (b := 128)) (funext fun a => funext fun l => upto_block (lane P B l) (t.val * 512) a),
    congrArg (val2 (a := 1) (b := 128)) (funext fun _ => funext fun l => (upto_block (lane P B l) (t.val * 512) 511).trans ?_)⟩
  exact congrArg (fun n => ∑ k ∈ range n, lane P B l k) (by omega)

include hP hB in
theorem outs_val : ∀ (n : ℕ) (h : n < cfg0.N), outsAt0 m c n h = (val2 (a := 512) (b := 128) (fun a l => ∑ k ∈ range (n * 512 + a + 1), lane P B l k),
    val2 (a := 1) (b := 128) (fun _ l => ∑ k ∈ range ((n + 1) * 512), lane P B l k))
  | 0, h => by
    obtain ⟨e1, e2⟩ := step m c hP hB ⟨0, h⟩ (k0_pay3 (F := Ideal)) (pay3_enc.trans (congrArg (val2 (a := 1) (b := 128)) (funext fun _ => funext fun l => by simp)))
    rw [outsAt0_A m c ⟨0, h⟩ rfl]
    refine Prod.ext (Eq.trans ?_ e1) (Eq.trans ?_ e2)
    · frame_out
    · frame_out
  | n + 1, h => by
    have hn : n + 1 < 16 := h
    have ih := outs_val n (Nat.lt_of_succ_lt h)
    obtain ⟨e1, e2⟩ := step m c hP hB ⟨n + 1, h⟩ _ (congrArg Prod.snd ih)
    rw [outsAt0_B m c ⟨n + 1, h⟩ (by show ¬(n + 1) % 16 = 0; omega)]
    refine Prod.ext (Eq.trans ?_ e1) (Eq.trans ?_ e2)
    · frame_out; rw [show ∀ X, View.read (Elt Ideal) (View.whole cc0_scratch0) ((Memref.isWhole_whole cc0_scratch0).unread X) = X from fun X => (Memref.isWhole_whole cc0_scratch0).read_unread X]; rfl
    · frame_out; rw [show ∀ X, View.read (Elt Ideal) (View.whole cc0_scratch0) ((Memref.isWhole_whole cc0_scratch0).unread X) = X from fun X => (Memref.isWhole_whole cc0_scratch0).read_unread X]; rfl

theorem row2 (t : Fin cfg0.N) (y : S512x128.Idx) : win0_2.index t 0 * 512 + (y 0).val = t.val * 512 + (y 0).val := by rw [(idx t).2.2]; rfl
theorem col2 (t : Fin cfg0.N) (y : S512x128.Idx) : win0_2.index t 1 * 128 + (y 1).val = (y 1).val := by rw [(idx t).2.2]; exact Nat.zero_add _

include hP hB in
theorem final : (dats m 0 c).arrAt 2 (cfgs 0).N = val2 (a := 8192) (b := 128) (fun s l => ∑ k ∈ range (s + 1), lane P B l k) := by
  refine (dats m 0 c).arrAt_eq_of_covers 2 _ (by decide +kernel) fun t _ y => ?_
  unfold val2
  blk_simp
  rw [after0_2, row2, col2, congrArg Prod.fst (outs_val m c hP hB t.val t.isLt)]
  rfl

theorem after : Pipeline.withArrays (cfgs 0).spec c (V0 m c) (fun w => (dats m 0 c).arrAt w (cfgs 0).N) main_v10 = (dats m 0 c).arrAt 2 (cfgs 0).N :=
  Pipeline.withArrays_arr (cfgs 0).spec (by decide) c (V0 m c) (fun w => (dats m 0 c).arrAt w (cfgs 0).N) 2

include hP hB in
theorem tail : Pipeline.afterTail₀ cfgs (dats m) 0 (V0 m) [hostOps1] c main_v11 = val2 (a := 8192) (b := 8) (fun s l => ∑ k ∈ range (s + 1), lgate (P k (2304 + l) + B l)) := by
  unfold Pipeline.afterTail₀
  change StableHlo.after hostOps1 _ _ = _
  unfold hostOps1
  after_results
  rw [after, final m c hP hB]
  funext j
  have h1 : (j 1).val < 8 := (j 1).isLt
  refine Eq.trans (b := ∑ k ∈ range ((j 0).val + 1), lane P B (j 1).val k) ?_ (Finset.sum_congr rfl fun k _ => ?_)
  · idx_vars j; pointwise; rfl
  · unfold lane; rw [if_pos h1, if_pos h1]

end Cert.KernelForgetFwdIdeal.Value

end
-- ==== Proof.ForgetFwd.Claim.lean ====
module

public import proofs.«01_k».proof.Defs
public import proofs.«01_k».proof.Proof.Rows
public import proofs.«01_k».proof.Proof.ForgetFwd.Outs
public import proofs.«01_k».proof.Proof.Gen.ReferenceForgetFwdIdeal.Run
public import proofs.«01_k».proof.Proof.Gen.ReferenceForgetFwdIdeal.Read

/-!
The running sums of the log gates are the reference's.
-/

@[expose] public section

set_option maxRecDepth 16384

noncomputable section

namespace Cert.KernelForgetFwdIdeal.Value

open Cert.KernelForgetFwdIdeal Cert.KernelForgetFwdIdeal.Gen Cert.Reals Idealize.ShloMosaic Idealize.ShloMosaic.TcCoe Idealize.SL.Sem
open Finset (range)

section Reference

open Cert.ReferenceForgetFwdIdeal.Read

variable (P : ℕ → ℕ → EReal) (B : ℕ → EReal)

theorem reference_gate : val_main_v4 (F := Ideal) (val2 (a := 8192) (b := 2824) P) (val1 (a := 8) B) = val2 (a := 8192) (b := 8) (fun s l => lgate (P s (2304 + l) + B l)) := by
  funext j; idx_vars j
  unfold val_main_v4 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v3 val_main_v2 val_main_v1 val_main_v0
  pointwise
  rw [if_neg (not_not.2 rfl)]
  rfl

theorem reference_sums : val_main_v5 (F := Ideal) (val2 (a := 8192) (b := 2824) P) (val1 (a := 8) B) = val2 (a := 8192) (b := 8) (fun s l => ∑ k ∈ range (s + 1), lgate (P k (2304 + l) + B l)) := by
  unfold val_main_v5
  rw [reference_gate]
  exact rows_upto (N := 8192) (M := 8) _ _ rfl rfl (fun s l => lgate (P s (2304 + l) + B l)) _ _ _ nil_word

end Reference

/-- The reference terminates, leaves its arguments alone and every semaphore at zero. -/
theorem frame_reference : Cert.quiescent_ReferenceForgetFwdIdeal := fun m g _ =>
  (θ_run Cert.ReferenceForgetFwdIdeal.defs _ _).mono (fun r h => ⟨fun c => (h c).2, sem_eq_zero_of_no_sems (by decide) r.2⟩)
    (Cert.ReferenceForgetFwdIdeal.Value.run (F := Ideal) m g)

set_option maxHeartbeats 1000000 in
/-- The call's result is the running sums of the log gates. -/
theorem algebraic : Cert.algebraic_KernelForgetFwdIdeal_ReferenceForgetFwdIdeal := by
  pair_intro
  · run_from Cert.KernelForgetFwdIdeal.Gen.run_main m g
    · exact W_main_arg0 m (dats m) c
    · exact W_main_arg1 m (dats m) c
  · refine (θ_run _ _ _).mono (fun r h c => ?_) (Cert.ReferenceForgetFwdIdeal.Value.run (F := Ideal) m' g')
    obtain ⟨a0, a1⟩ := hagree c
    obtain ⟨h5, hargs⟩ := h c
    obtain ⟨P, hP⟩ := exists_val2 (m ((c : Thread nD τ).loc main_arg0))
    obtain ⟨B, hB⟩ := exists_val1 (m ((c : Thread nD τ).loc main_arg1))
    refine ⟨h5.trans ((Cert.ReferenceForgetFwdIdeal.Read.val_main_v5_eq (F := Ideal) _ _).trans ?_), hargs⟩
    rw [a0, a1]
    refine Eq.trans ?_ (tail m c hP hB).symm
    rw [hP, hB]
    exact reference_sums P B

end Cert.KernelForgetFwdIdeal.Value

end
-- ==== Proof.AdaFwd.Claim.lean ====
module

public import proofs.«01_k».proof.Defs
public import proofs.«01_k».proof.Proof.Enc
public import proofs.«01_k».proof.Proof.Silu
public import proofs.«01_k».proof.Proof.Gen.KernelAdaFwdIdeal.Frame
public import proofs.«01_k».proof.Proof.Gen.ReferenceAdaFwdIdeal.Run
public import proofs.«01_k».proof.Proof.Gen.ReferenceAdaFwdIdeal.Read
public import Idealize.ShloMosaic.Lib.Pipeline.ValueKit
public import Idealize.ShloMosaic.Lib.StableHlo.RunRead
public import Idealize.ShloMosaic.Lib.IdealHost

/-!
The conditioning's projections, layer by layer.
-/

@[expose] public section

set_option maxRecDepth 16384

noncomputable section

namespace Cert.KernelAdaFwdIdeal.Value

open Cert.KernelAdaFwdIdeal Cert.KernelAdaFwdIdeal.Gen Cert.Reals Idealize.ShloMosaic Idealize.ShloMosaic.TcCoe Idealize.SL.Sem
open Idealize.ShloMosaic.Pipeline (Dat)

/-- The projection of layer `l` at sequence `b` and column `e`. -/
def proj (k : ℕ → ℕ → EReal) (w : ℕ → ℕ → ℕ → EReal) (z : ℕ → ℕ → EReal) (l b e : ℕ) : EReal := (∑ q : Fin 1024, silu (k b q) * w l q e) + z l e

section Kernel

theorem pay_enc (k : ℕ → ℕ → EReal) (w z : ℕ → ℕ → ℕ → EReal) : k0_pay1 (F := Ideal) (val2 (a := 16) (b := 1024) k) (val3 (a := 1) (b := 1024) (c := 1536) w) (val3 (a := 1) (b := 1) (c := 1536) z)
    = val3 (a := 1) (b := 16) (c := 1536) (proj k w fun l e => z l 0 e) := by
  funext j; idx_vars j
  unfold k0_pay1
  pointwise
  simp only [val2_ix, zero_sub]
  have h : j0.val = 0 := by omega
  show _ = (∑ q : Fin 1024, silu (k j1.val q) * w j0.val q j2.val) + z j0.val 0 j2.val
  rw [h]
  rfl

theorem idx : ∀ t : Fin grid0.N, win0_0.index t = ![0, 0] ∧ win0_1.index t = ![t.val, 0, 0] ∧ win0_2.index t = ![t.val, 0, 0] ∧ win0_3.index t = ![t.val, 0, 0] := by decide +kernel

theorem at0 (t : Fin cfg0.N) (y : S1x16x1536.Idx) : win0_3.index t 0 = t.val + (y 0).val := by
  have h : (y 0).val < 1 := (y 0).isLt
  rw [(idx t).2.2.2, show (y 0).val = 0 by omega]; rfl

theorem at1 (t : Fin cfg0.N) (y : S1x16x1536.Idx) : win0_3.index t 1 * 16 + (y 1).val = (y 1).val := by
  rw [(idx t).2.2.2]; exact Nat.zero_add _

theorem at2 (t : Fin cfg0.N) (y : S1x16x1536.Idx) : win0_3.index t 2 * 1536 + (y 2).val = (y 2).val := by
  rw [(idx t).2.2.2]; exact Nat.zero_add _

variable (m : (ℓ : Loc nD τ sig) → Buf (Elt Ideal) ℓ) (c : Dev nD) {k : ℕ → ℕ → EReal} {w : ℕ → ℕ → ℕ → EReal} {z : ℕ → ℕ → EReal}
  (hk : m ((c : Thread nD τ).loc main_arg0) = val2 (a := 16) (b := 1024) k) (hw : m ((c : Thread nD τ).loc main_arg1) = val3 (a := 4) (b := 1024) (c := 1536) w)
  (hz : m ((c : Thread nD τ).loc main_arg2) = val2 (a := 4) (b := 1536) z) (t : Fin cfg0.N)

include hk in
theorem blk0 : iblk m c 0 t = val2 (a := 16) (b := 1024) k := by
  funext j
  refine Eq.trans ?_ (congrFun hk j)
  refine congrArg (m ((c : Thread nD τ).loc main_arg0)) (funext fun a => Fin.ext (((cfg0.win 0).rect_emb_val t j a).trans ?_))
  have h : win0_0.index t = _ := (idx t).1
  match a with
  | ⟨0, _⟩ => show win0_0.index t 0 * 16 + (j 0).val = (j 0).val; rw [h]; exact Nat.zero_add _
  | ⟨1, _⟩ => show win0_0.index t 1 * 1024 + (j 1).val = (j 1).val; rw [h]; exact Nat.zero_add _

include hw in
theorem blk1 : iblk m c 1 t = val3 (a := 1) (b := 1024) (c := 1536) (fun l q e => w (t.val + l) q e) := by
  funext j
  refine Eq.trans ?_ (congrFun hw (ValueIdx.ix3 ⟨t.val + (j 0).val, by have : t.val < 4 := t.isLt; have : (j 0).val < 1 := (j 0).isLt; omega⟩ (j 1) (j 2)))
  refine congrArg (m ((c : Thread nD τ).loc main_arg1)) (funext fun a => Fin.ext (((cfg0.win 1).rect_emb_val t j a).trans ?_))
  have h : win0_1.index t = _ := (idx t).2.1
  match a with
  | ⟨0, _⟩ => show win0_1.index t 0 * 1 + (j 0).val = t.val + (j 0).val; rw [h, Nat.mul_one]; rfl
  | ⟨1, _⟩ => show win0_1.index t 1 * 1024 + (j 1).val = (j 1).val; rw [h]; exact Nat.zero_add _
  | ⟨2, _⟩ => show win0_1.index t 2 * 1536 + (j 2).val = (j 2).val; rw [h]; exact Nat.zero_add _

include hz in
theorem V_bias : V m c main_v0 = val3 (a := 4) (b := 1) (c := 1536) (fun l _ e => z l e) := by
  unfold V
  after_reads_simp
  rw [hz]
  funext j; idx_vars j
  pointwise
  rfl

include hz in
theorem blk2 : iblk m c 2 t = val3 (a := 1) (b := 1) (c := 1536) (fun l _ e => z (t.val + l) e) := by
  funext j
  refine Eq.trans ?_ (congrFun (V_bias m c hz) (ValueIdx.ix3 ⟨t.val + (j 0).val, by have : t.val < 4 := t.isLt; have : (j 0).val < 1 := (j 0).isLt; omega⟩ (j 1) (j 2)))
  refine congrArg (V m c main_v0) (funext fun a => Fin.ext (((cfg0.win 2).rect_emb_val t j a).trans ?_))
  have h : win0_2.index t = _ := (idx t).2.2.1
  match a with
  | ⟨0, _⟩ => show win0_2.index t 0 * 1 + (j 0).val = t.val + (j 0).val; rw [h, Nat.mul_one]; rfl
  | ⟨1, _⟩ => show win0_2.index t 1 * 1 + (j 1).val = (j 1).val; rw [h]; exact Nat.zero_add _
  | ⟨2, _⟩ => show win0_2.index t 2 * 1536 + (j 2).val = (j 2).val; rw [h]; exact Nat.zero_add _

include hk hw hz in
theorem out_enc : out0_3 (iblk m c 0 t) (iblk m c 1 t) (iblk m c 2 t) = val3 (a := 1) (b := 16) (c := 1536) (fun l b e => proj k w z (t.val + l) b e) := by
  rw [blk0 m c hk, blk1 m c hw, blk2 m c hz]
  frame_out
  exact pay_enc _ _ _

include hk hw hz in
theorem final : (dats m 0 c).arrAt 3 (cfgs 0).N = val3 (a := 4) (b := 16) (c := 1536) (proj k w z) := by
  refine (dats m 0 c).arrAt_eq_of_covers 3 _ (by decide +kernel) fun t _ y => ?_
  unfold val3
  blk_simp
  rw [after0_3, out_enc m c hk hw hz, at0, at1, at2]
  rfl

end Kernel

theorem reference_eq (k : ℕ → ℕ → EReal) (w : ℕ → ℕ → ℕ → EReal) (z : ℕ → ℕ → EReal) :
    Cert.ReferenceAdaFwdIdeal.Read.val_main_v5 (F := Ideal) (val2 (a := 16) (b := 1024) k) (val3 (a := 4) (b := 1024) (c := 1536) w) (val2 (a := 4) (b := 1536) z)
      = val3 (a := 4) (b := 16) (c := 1536) (proj k w z) := by
  funext j; idx_vars j
  rw [← Cert.ReferenceAdaFwdIdeal.Read.val_main_v5_eq (F := Ideal)]
  pointwise
  simp only [val2_ix, silu_eq]
  exact congrArg (· + z j0.val j2.val) (Finset.sum_congr rfl fun q _ => mul_comm _ _)

/-- The reference terminates, leaves its arguments alone and every semaphore at zero. -/
theorem frame_reference : Cert.quiescent_ReferenceAdaFwdIdeal := fun m g _ =>
  (θ_run Cert.ReferenceAdaFwdIdeal.defs _ _).mono (fun r h => ⟨fun c => (h c).2, sem_eq_zero_of_no_sems (by decide) r.2⟩)
    (Cert.ReferenceAdaFwdIdeal.Value.run (F := Ideal) m g)

set_option maxHeartbeats 1000000 in
/-- The call's result is the projections of silu(c). -/
theorem algebraic : Cert.algebraic_KernelAdaFwdIdeal_ReferenceAdaFwdIdeal := by
  pair_intro
  · run_from Cert.KernelAdaFwdIdeal.Gen.run_main m g
  · refine (θ_run _ _ _).mono (fun r h c => ?_) (Cert.ReferenceAdaFwdIdeal.Value.run (F := Ideal) m' g')
    obtain ⟨a0, a1, a2⟩ := hagree c
    obtain ⟨h5, hargs⟩ := h c
    obtain ⟨k, hk⟩ := exists_val2 (m ((c : Thread nD τ).loc main_arg0))
    obtain ⟨w, hw⟩ := exists_val3 (m ((c : Thread nD τ).loc main_arg1))
    obtain ⟨z, hz⟩ := exists_val2 (m ((c : Thread nD τ).loc main_arg2))
    refine ⟨h5.trans ((Cert.ReferenceAdaFwdIdeal.Read.val_main_v5_eq (F := Ideal) _ _ _).trans ?_), hargs⟩
    rw [a0, a1, a2]
    refine Eq.trans ?_ (final m c hk hw hz).symm
    rw [hk, hw, hz]
    exact reference_eq k w z

end Cert.KernelAdaFwdIdeal.Value

end
-- ==== Proof.SguFwd.Chunk.lean ====
module

public import proofs.«01_k».proof.Proof.Heads
public import proofs.«01_k».proof.Proof.Silu
public import proofs.«01_k».proof.Proof.Gen.KernelSguFwdIdeal.Frame
public import Idealize.ShloMosaic.Lib.Pipeline.ValueKit

/-!
The spatial gating of one chunk of 128 rows, and the sixteen of a block.
-/

@[expose] public section

set_option maxRecDepth 16384

noncomputable section

namespace Cert.KernelSguFwdIdeal.Value

open Cert.KernelSguFwdIdeal Cert.KernelSguFwdIdeal.Gen Cert.Reals Idealize.ShloMosaic Idealize.ShloMosaic.TcCoe Idealize.SL.Sem
open Finset (range)
open Idealize.ShloMosaic.WordCmp (cmpi_sle_ofNat)

/-- The Gaussian error linear unit, by the hyperbolic tangent. -/
def gelu (x : EReal) : EReal :=
  Ideal.ofBits .f32 0x3F000000#32 * x * (1 + Ideal.tanh (Ideal.ofBits .f32 0x3F4C422A#32 * (x + Ideal.ofBits .f32 0x3D372713#32 * (x * x * x))))

/-- The gate's argument after its unit and its norm, head by head. -/
def normed (V : ℕ → ℕ → EReal) (G : ℕ → EReal) (r l : ℕ) : EReal :=
  gelu (V r l) * Ideal.rsqrt (square (fun a b => gelu (V a b)) r l * ((1 / 64 : ℝ) : EReal) + Ideal.ofBits .f32 0x358637BD#32) * G l

/-- The unit's result: the rows of a chunk of 128 mixed by their head's lower triangle. -/
def spec (U V : ℕ → ℕ → EReal) (W : ℕ → ℕ → ℕ → EReal) (B : ℕ → ℕ → EReal) (G : ℕ → EReal) (r l : ℕ) : EReal :=
  gelu (U r l) * ((∑ s ∈ range 128, if s ≤ r % 128 then W (l / 64) (r % 128) s * normed V G (r / 128 * 128 + s) l else 0) + B (l / 64) (r % 128))

/-- A part of the array that begins with a chunk and with a pair of heads. -/
theorem spec_shift (U V : ℕ → ℕ → EReal) (W : ℕ → ℕ → ℕ → EReal) (B : ℕ → ℕ → EReal) (G : ℕ → EReal) (k p r l : ℕ) :
    spec (fun a b => U (k * 128 + a) (p * 128 + b)) (fun a b => V (k * 128 + a) (p * 128 + b)) (fun h => W (2 * p + h)) (fun h => B (2 * p + h)) (fun b => G (p * 128 + b)) r l
      = spec U V W B G (k * 128 + r) (p * 128 + l) := by
  unfold spec normed square
  have e1 : (p * 128 + l) / 64 = 2 * p + l / 64 := by omega
  have e2 : (k * 128 + r) % 128 = r % 128 := by omega
  have e3 : (k * 128 + r) / 128 * 128 = k * 128 + r / 128 * 128 := by omega
  have e4 : (p * 128 + l) / 64 * 64 = p * 128 + l / 64 * 64 := by omega
  rw [e4, e1, e2, e3]
  simp only [Nat.add_assoc]

/-- One chunk's result, as the first chunk writes it. -/
def chunk (x2 : Vec Ideal S2x128x128 .f32) (x3 : Vec Ideal S1x128x2 .f32) (x4 : Vec Ideal S1x1x128 .f32) (u v : Vec Ideal S128x128 .f32) : Vec Ideal S128x128 .f32 :=
  k0_pay9 k0_pay2 (k0_pay3 (View.ld x2 r0_0)) (k0_pay4 (View.ld x2 r0_1)) (k0_pay5 (View.ld x3 r0_2)) (k0_pay6 (View.ld x3 r0_3)) (k0_pay7 u) (k0_pay8 k0_pay2 v (View.ld x4 r0_5))

set_option maxHeartbeats 4000000 in
/-- A block's sixteen pieces are the same function of their chunks. -/
theorem out_eq (x0 x1 : Vec Ideal S2048x128 .f32) (x2 : Vec Ideal S2x128x128 .f32) (x3 : Vec Ideal S1x128x2 .f32) (x4 : Vec Ideal S1x1x128 .f32) :
    out0_5 (F := Ideal) x0 x1 x2 x3 x4 = View.canon [⟨r0_20, chunk x2 x3 x4 (View.ld x0 r0_20) (View.ld x1 r0_20)⟩, ⟨r0_19, chunk x2 x3 x4 (View.ld x0 r0_19) (View.ld x1 r0_19)⟩, ⟨r0_18, chunk x2 x3 x4 (View.ld x0 r0_18) (View.ld x1 r0_18)⟩, ⟨r0_17, chunk x2 x3 x4 (View.ld x0 r0_17) (View.ld x1 r0_17)⟩, ⟨r0_16, chunk x2 x3 x4 (View.ld x0 r0_16) (View.ld x1 r0_16)⟩, ⟨r0_15, chunk x2 x3 x4 (View.ld x0 r0_15) (View.ld x1 r0_15)⟩, ⟨r0_14, chunk x2 x3 x4 (View.ld x0 r0_14) (View.ld x1 r0_14)⟩, ⟨r0_13, chunk x2 x3 x4 (View.ld x0 r0_13) (View.ld x1 r0_13)⟩, ⟨r0_12, chunk x2 x3 x4 (View.ld x0 r0_12) (View.ld x1 r0_12)⟩, ⟨r0_11, chunk x2 x3 x4 (View.ld x0 r0_11) (View.ld x1 r0_11)⟩, ⟨r0_10, chunk x2 x3 x4 (View.ld x0 r0_10) (View.ld x1 r0_10)⟩, ⟨r0_9, chunk x2 x3 x4 (View.ld x0 r0_9) (View.ld x1 r0_9)⟩, ⟨r0_8, chunk x2 x3 x4 (View.ld x0 r0_8) (View.ld x1 r0_8)⟩, ⟨r0_7, chunk x2 x3 x4 (View.ld x0 r0_7) (View.ld x1 r0_7)⟩, ⟨r0_6, chunk x2 x3 x4 (View.ld x0 r0_6) (View.ld x1 r0_6)⟩, ⟨r0_4, chunk x2 x3 x4 (View.ld x0 r0_4) (View.ld x1 r0_4)⟩] := by
  unfold_out out0_5
  unfold chunk
  rfl

section Enc

variable (fu fv : ℕ → ℕ → EReal) (w : ℕ → ℕ → ℕ → EReal) (b : ℕ → ℕ → EReal) (g : ℕ → EReal)

abbrev rows (f : ℕ → ℕ → EReal) : Vec Ideal S128x128 .f32 := val2 (a := 128) (b := 128) f
abbrev weights : Vec Ideal S2x128x128 .f32 := val3 (a := 2) (b := 128) (c := 128) w
abbrev biases : Vec Ideal S1x128x2 .f32 := val3 (a := 1) (b := 128) (c := 2) fun _ r h => b h r
abbrev gains : Vec Ideal S1x1x128 .f32 := val3 (a := 1) (b := 1) (c := 128) fun _ _ l => g l

theorem gelu_enc : k0_pay7 (F := Ideal) (rows fu) = rows fun r l => gelu (fu r l) := by
  funext j; idx_vars j
  unfold k0_pay7
  pointwise
  rfl

theorem norm_enc : k0_pay8 (F := Ideal) k0_pay2 (rows fv) (View.ld (gains g) r0_5) = rows (normed fv g) := by
  funext j; idx_vars j
  unfold k0_pay8 k0_pay2
  pointwise
  simp only [val2_ix, mask_word, select_decide]
  have h := masked (fun l => gelu (fv j0.val l) * gelu (fv j0.val l)) j1.val j1.isLt
  unfold gelu at h
  rw [h, inv_word]
  rfl

theorem mix_enc : k0_pay9 (F := Ideal) k0_pay2 (k0_pay3 (View.ld (weights w) r0_0)) (k0_pay4 (View.ld (weights w) r0_1)) (k0_pay5 (View.ld (biases b) r0_2)) (k0_pay6 (View.ld (biases b) r0_3))
    (rows fu) (rows fv) = rows fun r l => fu r l * ((∑ s ∈ range 128, if s ≤ r then w (l / 64) r s * fv s l else 0) + b (l / 64) r) := by
  funext j; idx_vars j
  have h0 := j0.isLt
  have h1 := j1.isLt
  have hm : ∀ x : Fin 128, IntOp.cmpi .sle (BitVec.ofNat 32 x.val) (BitVec.ofNat 32 j0.val) = BitVec.ofBool (decide (x.val ≤ j0.val)) := fun x =>
    cmpi_sle_ofNat (by have := x.isLt; omega) (by omega)
  unfold k0_pay9 k0_pay2 k0_pay3 k0_pay4 k0_pay5 k0_pay6
  pointwise
  simp only [val2_ix, mask_word, select_decide, hm]
  rw [← Fin.sum_univ_eq_sum_range (fun s => if s ≤ j0.val then w (j1.val / 64) j0.val s * fv s j1.val else 0) 128]
  by_cases h : j1.val < 64
  · rw [if_pos h, Nat.div_eq_of_lt h]; rfl
  · rw [if_neg h, show j1.val / 64 = 1 by omega]; rfl

theorem chunk_enc : chunk (weights w) (biases b) (gains g) (rows fu) (rows fv) = rows (spec fu fv w b g) := by
  unfold chunk
  rw [gelu_enc, norm_enc, mix_enc]
  funext j
  have h0 : (j 0).val < 128 := (j 0).isLt
  show _ = spec fu fv w b g (j 0).val (j 1).val
  unfold spec
  rw [Nat.mod_eq_of_lt h0, Nat.div_eq_of_lt h0]
  simp only [Nat.zero_mul, Nat.zero_add]
  rfl

abbrev blk (f : ℕ → ℕ → EReal) : Vec Ideal S2048x128 .f32 := val2 (a := 2048) (b := 128) f

theorem ld_rows (n : ℕ) (inb) : View.ld (blk fu) (Rect.unit (s := S2048x128) ![n, 0] S128x128.size inb) = rows fun a l => fu (n + a) l := by
  funext j
  show fu (n + 1 * (j 0).val) (0 + 1 * (j 1).val) = fu (n + (j 0).val) (j 1).val
  rw [Nat.one_mul, Nat.one_mul, Nat.zero_add]

theorem piece (y : S2048x128.Idx) (n : ℕ) (hn : n = n / 128 * 128) (inb) (inb') :
    View.TileAt (Val := Elt Ideal) (e := .f32) y ![n, 0] S128x128.size (chunk (weights w) (biases b) (gains g) (View.ld (blk fu) (Rect.unit (s := S2048x128) ![n, 0] S128x128.size inb))
      (View.ld (blk fv) (Rect.unit (s := S2048x128) ![n, 0] S128x128.size inb'))) (spec fu fv w b g (y 0).val (y 1).val) := by
  intro x hx
  rw [ld_rows, ld_rows, chunk_enc, show (y 0).val = n + (x 0).val from hx 0, show (y 1).val = 0 + (x 1).val from hx 1, hn]
  have h := spec_shift fu fv w b g (n / 128) 0 (x 0).val (x 1).val
  simp only [Nat.mul_zero, Nat.zero_mul, Nat.zero_add] at h ⊢
  exact h

theorem out_enc : out0_5 (F := Ideal) (blk fu) (blk fv) (weights w) (biases b) (gains g) = blk (spec fu fv w b g) := by
  rw [out_eq]
  funext y
  refine View.canon_eq_of_allAt _ y _ (cover0_5 _ _ _ _ _ _ _ _ _ _ _ _ _ _ _ _ y) ?_
  iterate 16 refine View.allAt_cons_unit _ _ _ _ _ (piece fu fv w b g y _ rfl _ _) ?_
  exact View.allAt_nil _ _

end Enc

end Cert.KernelSguFwdIdeal.Value
-- ==== Proof.SguFwd.Claim.lean ====
module

public import proofs.«01_k».proof.Defs
public import proofs.«01_k».proof.Proof.Concat
public import proofs.«01_k».proof.Proof.SguFwd.Chunk
public import proofs.«01_k».proof.Proof.Gen.ReferenceSguFwdIdeal.Run
public import proofs.«01_k».proof.Proof.Gen.ReferenceSguFwdIdeal.Read
public import Idealize.ShloMosaic.Lib.StableHlo.RunRead

/-!
The spatial gating unit: every block of the result, and the reference's array.
-/

@[expose] public section

set_option maxRecDepth 16384

noncomputable section

namespace Cert.KernelSguFwdIdeal.Value

open Cert.KernelSguFwdIdeal Cert.KernelSguFwdIdeal.Gen Cert.Reals Idealize.ShloMosaic Idealize.ShloMosaic.TcCoe Idealize.SL.Sem
open Idealize.ShloMosaic.Pipeline (Dat)
open Idealize.ShloMosaic.WordCmp (cmpi_sge_ofNat)
open Finset (range)

/-- The unit of a projection whose columns from 2312 on are u and from 2568 on are v. -/
def whole (P : ℕ → ℕ → EReal) (W : ℕ → ℕ → ℕ → EReal) (B G : ℕ → ℕ → EReal) : ℕ → ℕ → EReal :=
  spec (fun r c => P r (2312 + c)) (fun r c => P r (2568 + c)) W B fun c => G (c / 64) (c % 64)

section Kernel

theorem idx : ∀ t : Fin grid0.N, win0_0.index t = ![t.val % 4, 18 + t.val / 4] ∧ win0_1.index t = ![t.val % 4, 20 + t.val / 4] ∧ win0_2.index t = ![t.val / 4, 0, 0] ∧ win0_3.index t = ![t.val / 4, 0, 0]
    ∧ win0_4.index t = ![t.val / 4, 0, 0] ∧ win0_5.index t = ![t.val % 4, t.val / 4] := by decide +kernel

theorem row5 (t : Fin cfg0.N) (y : S2048x128.Idx) : win0_5.index t 0 * 2048 + (y 0).val = t.val % 4 * 2048 + (y 0).val := by rw [(idx t).2.2.2.2.2]; rfl
theorem col5 (t : Fin cfg0.N) (y : S2048x128.Idx) : win0_5.index t 1 * 128 + (y 1).val = t.val / 4 * 128 + (y 1).val := by rw [(idx t).2.2.2.2.2]; rfl
theorem points (t : Fin cfg0.N) : t.val < 8 := t.isLt

variable (m : (ℓ : Loc nD τ sig) → Buf (Elt Ideal) ℓ) (c : Dev nD) {P : ℕ → ℕ → EReal} {W : ℕ → ℕ → ℕ → EReal} {B G : ℕ → ℕ → EReal}
  (hP : m ((c : Thread nD τ).loc main_arg0) = val2 (a := 8192) (b := 2824) P) (hG : m ((c : Thread nD τ).loc main_arg1) = val2 (a := 4) (b := 64) G)
  (hW : m ((c : Thread nD τ).loc main_arg2) = val3 (a := 4) (b := 128) (c := 128) W) (hB : m ((c : Thread nD τ).loc main_arg3) = val2 (a := 4) (b := 128) B) (t : Fin cfg0.N)

set_option maxHeartbeats 4000000 in
/-- The packed array's columns from 2304 on hold the projection's from 2312 on. -/
theorem V_gate (j : S8192x3072.Idx) (h : 2304 ≤ (j 1).val) (h' : (j 1).val < 2816) :
    V m c main_v7 j = m ((c : Thread nD τ).loc main_arg0) (ValueIdx.ix2 (j 0) ⟨8 + (j 1).val, by omega⟩) := by
  unfold V
  after_reads_simp
  refine (concat_at 1 _ _ j 1 (by simp) S8192x512 _ rfl rfl (ValueIdx.ix2 (j 0) ⟨(j 1).val - 2304, by omega⟩) (fun b => match b with
    | ⟨0, _⟩ => rfl
    | ⟨1, _⟩ => (by show (j 1).val = ((j 1).val - 2304) + (2304 + 0); omega))).trans ?_
  refine extractStridedSlice_apply ![0, 2312] (m (c, Proc.devRef .tc main_arg0)) slices_S8192x2824_S8192x512_0_2312 _ _ (fun a => match a with | ⟨0, _⟩ => ?_ | ⟨1, _⟩ => ?_)
  · exact (Nat.zero_add _).symm
  · show 8 + (j 1).val = 2312 + ((j 1).val - 2304); omega

set_option maxHeartbeats 4000000 in
include hG in
theorem V_gain : V m c main_v0 = val3 (a := 2) (b := 1) (c := 128) fun p _ l => G ((p * 128 + l) / 64) ((p * 128 + l) % 64) := by
  unfold V
  after_reads_simp
  rw [hG]
  funext j; idx_vars j
  pointwise
  show G (j0.val * 2 + j2.val / 64) (j2.val % 64) = G ((j0.val * 128 + j2.val) / 64) ((j0.val * 128 + j2.val) % 64)
  rw [show (j0.val * 128 + j2.val) / 64 = j0.val * 2 + j2.val / 64 by omega, show (j0.val * 128 + j2.val) % 64 = j2.val % 64 by omega]

set_option maxHeartbeats 4000000 in
include hB in
theorem V_bias : V m c main_v2 = val3 (a := 2) (b := 128) (c := 2) fun p r h => B (2 * p + h) r := by
  unfold V
  after_reads_simp
  rw [hB]
  funext j; idx_vars j
  pointwise
  show B (j0.val * 2 + j2.val) j1.val = B (2 * j0.val + j2.val) j1.val
  rw [Nat.mul_comm]

include hP in
theorem gate_at (R C : ℕ) (hR : R < 8192) (hC : 2304 ≤ C) (hC' : C < 2816) : V m c main_v7 (ValueIdx.ix2 ⟨R, hR⟩ ⟨C, by omega⟩) = P R (8 + C) := by
  rw [V_gate m c _ (by exact hC) (by exact hC'), hP]; rfl

include hP in
theorem blk0 : iblk m c 0 t = blk (fun a l => P (t.val % 4 * 2048 + a) (2312 + (t.val / 4 * 128 + l))) := by
  funext j
  have h0 : (j 0).val < 2048 := (j 0).isLt
  have h1 : (j 1).val < 128 := (j 1).isLt
  have ht := points t
  show _ = P (t.val % 4 * 2048 + (j 0).val) (2312 + (t.val / 4 * 128 + (j 1).val))
  rw [show 2312 + (t.val / 4 * 128 + (j 1).val) = 8 + ((18 + t.val / 4) * 128 + (j 1).val) by omega]
  refine Eq.trans ?_ (gate_at m c hP (t.val % 4 * 2048 + (j 0).val) ((18 + t.val / 4) * 128 + (j 1).val) (by omega) (by omega) (by omega))
  refine congrArg (V m c main_v7) (funext fun a => Fin.ext (((cfg0.win 0).rect_emb_val t j a).trans ?_))
  have h : win0_0.index t = _ := (idx t).1
  match a with
  | ⟨0, _⟩ => show win0_0.index t 0 * 2048 + (j 0).val = t.val % 4 * 2048 + (j 0).val; rw [h]; rfl
  | ⟨1, _⟩ => show win0_0.index t 1 * 128 + (j 1).val = (18 + t.val / 4) * 128 + (j 1).val; rw [h]; rfl

include hP in
theorem blk1 : iblk m c 1 t = blk (fun a l => P (t.val % 4 * 2048 + a) (2568 + (t.val / 4 * 128 + l))) := by
  funext j
  have h0 : (j 0).val < 2048 := (j 0).isLt
  have h1 : (j 1).val < 128 := (j 1).isLt
  have ht := points t
  show _ = P (t.val % 4 * 2048 + (j 0).val) (2568 + (t.val / 4 * 128 + (j 1).val))
  rw [show 2568 + (t.val / 4 * 128 + (j 1).val) = 8 + ((20 + t.val / 4) * 128 + (j 1).val) by omega]
  refine Eq.trans ?_ (gate_at m c hP (t.val % 4 * 2048 + (j 0).val) ((20 + t.val / 4) * 128 + (j 1).val) (by omega) (by omega) (by omega))
  refine congrArg (V m c main_v7) (funext fun a => Fin.ext (((cfg0.win 1).rect_emb_val t j a).trans ?_))
  have h : win0_1.index t = _ := (idx t).2.1
  match a with
  | ⟨0, _⟩ => show win0_1.index t 0 * 2048 + (j 0).val = t.val % 4 * 2048 + (j 0).val; rw [h]; rfl
  | ⟨1, _⟩ => show win0_1.index t 1 * 128 + (j 1).val = (20 + t.val / 4) * 128 + (j 1).val; rw [h]; rfl

include hW in
theorem blk2 : iblk m c 2 t = weights fun h => W (2 * (t.val / 4) + h) := by
  funext j
  have h0 : (j 0).val < 2 := (j 0).isLt
  have ht := points t
  have hv : V m c main_arg2 = val3 (a := 4) (b := 128) (c := 128) W := hW
  refine Eq.trans ?_ (congrFun hv (ValueIdx.ix3 ⟨2 * (t.val / 4) + (j 0).val, by omega⟩ (j 1) (j 2)))
  refine congrArg (V m c main_arg2) (funext fun a => Fin.ext (((cfg0.win 2).rect_emb_val t j a).trans ?_))
  have h : win0_2.index t = _ := (idx t).2.2.1
  match a with
  | ⟨0, _⟩ => show win0_2.index t 0 * 2 + (j 0).val = 2 * (t.val / 4) + (j 0).val; rw [h]; show t.val / 4 * 2 + (j 0).val = _; omega
  | ⟨1, _⟩ => show win0_2.index t 1 * 128 + (j 1).val = (j 1).val; rw [h]; exact Nat.zero_add _
  | ⟨2, _⟩ => show win0_2.index t 2 * 128 + (j 2).val = (j 2).val; rw [h]; exact Nat.zero_add _

include hB in
theorem blk3 : iblk m c 3 t = biases fun h => B (2 * (t.val / 4) + h) := by
  funext j
  have h0 : (j 0).val < 1 := (j 0).isLt
  have ht := points t
  refine Eq.trans ?_ (congrFun (V_bias m c hB) (ValueIdx.ix3 ⟨t.val / 4, by omega⟩ (j 1) (j 2)))
  refine congrArg (V m c main_v2) (funext fun a => Fin.ext (((cfg0.win 3).rect_emb_val t j a).trans ?_))
  have h : win0_3.index t = _ := (idx t).2.2.2.1
  match a with
  | ⟨0, _⟩ => show win0_3.index t 0 * 1 + (j 0).val = t.val / 4; rw [h]; show t.val / 4 * 1 + (j 0).val = _; omega
  | ⟨1, _⟩ => show win0_3.index t 1 * 128 + (j 1).val = (j 1).val; rw [h]; exact Nat.zero_add _
  | ⟨2, _⟩ => show win0_3.index t 2 * 2 + (j 2).val = (j 2).val; rw [h]; exact Nat.zero_add _

include hG in
theorem blk4 : iblk m c 4 t = gains fun l => G ((t.val / 4 * 128 + l) / 64) ((t.val / 4 * 128 + l) % 64) := by
  funext j
  have h0 : (j 0).val < 1 := (j 0).isLt
  have ht := points t
  refine Eq.trans ?_ (congrFun (V_gain m c hG) (ValueIdx.ix3 ⟨t.val / 4, by omega⟩ (j 1) (j 2)))
  refine congrArg (V m c main_v0) (funext fun a => Fin.ext (((cfg0.win 4).rect_emb_val t j a).trans ?_))
  have h : win0_4.index t = _ := (idx t).2.2.2.2.1
  match a with
  | ⟨0, _⟩ => show win0_4.index t 0 * 1 + (j 0).val = t.val / 4; rw [h]; show t.val / 4 * 1 + (j 0).val = _; omega
  | ⟨1, _⟩ => show win0_4.index t 1 * 1 + (j 1).val = (j 1).val; rw [h]; show 0 * 1 + (j 1).val = _; omega
  | ⟨2, _⟩ => show win0_4.index t 2 * 128 + (j 2).val = (j 2).val; rw [h]; exact Nat.zero_add _

include hP hG hW hB in
theorem block : out0_5 (F := Ideal) (iblk m c 0 t) (iblk m c 1 t) (iblk m c 2 t) (iblk m c 3 t) (iblk m c 4 t)
    = blk fun a l => whole P W B G (t.val % 4 * 2048 + a) (t.val / 4 * 128 + l) := by
  rw [blk0 m c hP, blk1 m c hP, blk2 m c hW, blk3 m c hB, blk4 m c hG, out_enc]
  refine congrArg blk (funext fun a => funext fun l => ?_)
  have h := spec_shift (fun r c => P r (2312 + c)) (fun r c => P r (2568 + c)) W B (fun c => G (c / 64) (c % 64)) (t.val % 4 * 16) (t.val / 4) a l
  rw [show t.val % 4 * 16 * 128 = t.val % 4 * 2048 by omega] at h
  exact h

include hP hG hW hB in
theorem final : (dats m 0 c).arrAt 5 (cfgs 0).N = val2 (a := 8192) (b := 256) (whole P W B G) := by
  refine (dats m 0 c).arrAt_eq_of_covers 5 _ (by decide +kernel) fun t _ y => ?_
  unfold val2
  blk_simp
  rw [after0_5, row5, col5]
  exact congrFun (block m c hP hG hW hB t) y

end Kernel

section Reference

theorem gelu_eq (x : EReal) : x * (Ideal.ofBits .f32 0x3F000000#32 * (1 + Ideal.tanh (Ideal.ofBits .f32 0x3F4C422A#32 * (x + Ideal.ofBits .f32 0x3D372713#32 * (x * x * x))))) = gelu x := by
  unfold gelu
  rw [← mul_assoc, mul_comm x]

set_option maxHeartbeats 4000000 in
theorem reference (P : ℕ → ℕ → EReal) (W : ℕ → ℕ → ℕ → EReal) (B G : ℕ → ℕ → EReal) :
    Cert.ReferenceSguFwdIdeal.Read.val_main_v51 (F := Ideal) (val2 (a := 8192) (b := 2824) P) (val2 (a := 4) (b := 64) G) (val3 (a := 4) (b := 128) (c := 128) W) (val2 (a := 4) (b := 128) B)
      = val2 (a := 8192) (b := 256) (whole P W B G) := by
  funext j; idx_vars j
  open Cert.ReferenceSguFwdIdeal.Read in unfold val_main_v51 val_main_v50 val_main_v49 val_main_v48 val_main_v47 val_main_v46 val_main_v45 val_main_v44 val_main_v43 val_main_call0_v6 val_main_call0_cst val_main_call0_v5 val_main_call0_v4 val_main_call0_v3 val_main_call0_v2 val_main_call0_v1 val_main_call0_c val_main_call0_v0 val_main_v42 val_main_v41 val_main_v40 val_main_v39 val_main_v38 val_main_v37 val_main_v36 val_main_v35 val_main_v34 val_main_cst_9 val_main_v33 val_main_v32 val_main_cst_8 val_main_v31 val_main_v30 val_main_cst_7 val_main_v29 val_main_v28 val_main_v27 val_main_v26 val_main_v25 val_main_cst_6 val_main_v24 val_main_v23 val_main_cst_5 val_main_v22 val_main_v21 val_main_v20 val_main_cst_4 val_main_v19 val_main_v18 val_main_v17 val_main_cst_3 val_main_v16 val_main_v15 val_main_v14 val_main_v13 val_main_v12 val_main_v11 val_main_cst_2 val_main_v10 val_main_v9 val_main_cst_1 val_main_v8 val_main_v7 val_main_v6 val_main_cst_0 val_main_v5 val_main_v4 val_main_v3 val_main_cst val_main_v2 val_main_v1 val_main_v0
  pointwise
  have h0 : j0.val % 128 < 128 := Nat.mod_lt _ (by norm_num)
  have hm : ∀ x : Fin 128, IntOp.cmpi .sge (IntOp.addi (BitVec.ofNat 32 (j0.val % 128)) 0#32) (BitVec.ofNat 32 x.val) = BitVec.ofBool (decide (x.val ≤ j0.val % 128)) := fun x => by
    rw [show IntOp.addi (BitVec.ofNat 32 (j0.val % 128)) 0#32 = BitVec.ofNat 32 (j0.val % 128) from BitVec.add_zero _]
    exact cmpi_sge_ofNat (by omega) (by have := x.isLt; omega)
  simp only [val2_ix, gelu_eq, hm, select_decide]
  rw [len_word]
  simp only [Ideal.div_coe (show (64 : ℝ) ≠ 0 by norm_num)]
  show _ = whole P W B G j0.val j1.val
  unfold whole spec
  refine congrArg (fun z => gelu (P j0.val (2312 + j1.val)) * (z + B (j1.val / 64) (j0.val % 128))) ?_
  rw [← Fin.sum_univ_eq_sum_range (fun s => if s ≤ j0.val % 128 then W (j1.val / 64) (j0.val % 128) s * normed (fun r c => P r (2568 + c)) (fun c => G (c / 64) (c % 64)) (j0.val / 128 * 128 + s) j1.val else 0) 128]
  refine Finset.sum_congr rfl fun x _ => ?_
  refine congrArg (fun z => if x.val ≤ j0.val % 128 then z else (0 : EReal)) ?_
  rw [mul_comm (W _ _ _)]
  unfold normed square
  rw [← Fin.sum_univ_eq_sum_range (fun q => gelu (P (j0.val / 128 * 128 + x.val) (2568 + (j1.val / 64 * 64 + q))) * gelu (P (j0.val / 128 * 128 + x.val) (2568 + (j1.val / 64 * 64 + q)))) 64]
  rfl

end Reference

/-- The reference terminates, leaves its arguments alone and every semaphore at zero. -/
theorem frame_reference : Cert.quiescent_ReferenceSguFwdIdeal := fun m g _ =>
  (θ_run Cert.ReferenceSguFwdIdeal.defs _ _).mono (fun r h => ⟨fun c => (h c).2, sem_eq_zero_of_no_sems (by decide) r.2⟩)
    (Cert.ReferenceSguFwdIdeal.Value.run (F := Ideal) m g)

set_option maxHeartbeats 1000000 in
/-- The call's result is the unit's. -/
theorem algebraic : Cert.algebraic_KernelSguFwdIdeal_ReferenceSguFwdIdeal := by
  pair_intro
  · run_from Cert.KernelSguFwdIdeal.Gen.run_main m g
  · refine (θ_run _ _ _).mono (fun r h c => ?_) (Cert.ReferenceSguFwdIdeal.Value.run (F := Ideal) m' g')
    obtain ⟨a0, a1, a2, a3⟩ := hagree c
    obtain ⟨h51, hargs⟩ := h c
    obtain ⟨P, hP⟩ := exists_val2 (m ((c : Thread nD τ).loc main_arg0))
    obtain ⟨G, hG⟩ := exists_val2 (m ((c : Thread nD τ).loc main_arg1))
    obtain ⟨W, hW⟩ := exists_val3 (m ((c : Thread nD τ).loc main_arg2))
    obtain ⟨B, hB⟩ := exists_val2 (m ((c : Thread nD τ).loc main_arg3))
    refine ⟨h51.trans ((Cert.ReferenceSguFwdIdeal.Read.val_main_v51_eq (F := Ideal) _ _).trans ?_), hargs⟩
    rw [a0, a1, a2, a3]
    refine Eq.trans ?_ (final m c hP hG hW hB).symm
    rw [hP, hG, hW, hB]
    exact reference P W B G

end Cert.KernelSguFwdIdeal.Value
-- ==== Proof.lean ====
/- The claims of `Cert.Claim` put together: each call's frames, and the proofs that the call and its reference compute the same. -/
module

public import proofs.«01_k».proof.Defs
public import proofs.«01_k».proof.Proof.Loss.Run
public import proofs.«01_k».proof.Proof.Gen.KernelLoss.Frame
public import proofs.«01_k».proof.Proof.Gen.KernelLossIdeal.Frame
public import proofs.«01_k».proof.Proof.Stick.Claim
public import proofs.«01_k».proof.Proof.Fox.Words
public import proofs.«01_k».proof.Proof.Fox.Claim
public import proofs.«01_k».proof.Proof.Forget.Claim
public import proofs.«01_k».proof.Proof.Gen.KernelForget.Frame
public import proofs.«01_k».proof.Proof.Gen.KernelForgetIdeal.Frame
public import proofs.«01_k».proof.Proof.Norm.Claim
public import proofs.«01_k».proof.Proof.Gen.KernelNorm.Frame
public import proofs.«01_k».proof.Proof.Gen.KernelNormIdeal.Frame
public import proofs.«01_k».proof.Proof.GNorm.Claim
public import proofs.«01_k».proof.Proof.Gen.KernelGNorm.Frame
public import proofs.«01_k».proof.Proof.Gen.KernelGNormIdeal.Frame
public import proofs.«01_k».proof.Proof.Relu2.Claim
public import proofs.«01_k».proof.Proof.Gen.KernelRelu2.Frame
public import proofs.«01_k».proof.Proof.Gen.KernelRelu2Ideal.Frame
public import proofs.«01_k».proof.Proof.Ada.Claim
public import proofs.«01_k».proof.Proof.Gen.KernelAda.Frame
public import proofs.«01_k».proof.Proof.Gen.KernelAdaIdeal.Frame
public import proofs.«01_k».proof.Proof.QkNorm.Claim
public import proofs.«01_k».proof.Proof.Gen.KernelQkNorm.Frame
public import proofs.«01_k».proof.Proof.Gen.KernelQkNormIdeal.Frame
public import proofs.«01_k».proof.Proof.Gen.KernelSgu.Frame
public import proofs.«01_k».proof.Proof.Gen.KernelSguIdeal.Frame
public import proofs.«01_k».proof.Proof.NormFwd.Claim
public import proofs.«01_k».proof.Proof.Gen.KernelNormFwd.Frame
public import proofs.«01_k».proof.Proof.Gen.KernelNormFwdIdeal.Frame
public import proofs.«01_k».proof.Proof.ResidFwd.Claim
public import proofs.«01_k».proof.Proof.Gen.KernelResidFwd.Frame
public import proofs.«01_k».proof.Proof.Gen.KernelResidFwdIdeal.Frame
public import proofs.«01_k».proof.Proof.Up.Claim
public import proofs.«01_k».proof.Proof.Gen.KernelUp.Frame
public import proofs.«01_k».proof.Proof.Gen.KernelUpIdeal.Frame
public import proofs.«01_k».proof.Proof.QkFwd.Claim
public import proofs.«01_k».proof.Proof.Gen.KernelQkFwd.Frame
public import proofs.«01_k».proof.Proof.Gen.KernelQkFwdIdeal.Frame
public import proofs.«01_k».proof.Proof.ForgetFwd.Claim
public import proofs.«01_k».proof.Proof.Gen.KernelForgetFwd.Frame
public import proofs.«01_k».proof.Proof.Gen.KernelForgetFwdIdeal.Frame
public import proofs.«01_k».proof.Proof.AdaFwd.Claim
public import proofs.«01_k».proof.Proof.Gen.KernelAdaFwd.Frame
public import proofs.«01_k».proof.Proof.Gen.KernelAdaFwdIdeal.Frame
public import proofs.«01_k».proof.Proof.SguFwd.Claim
public import proofs.«01_k».proof.Proof.Gen.KernelSguFwd.Frame
public import proofs.«01_k».proof.Proof.Gen.KernelSguFwdIdeal.Frame
public import proofs.«01_k».proof.Proof.Gen.KernelLoss
public import proofs.«01_k».proof.Proof.Gen.KernelLossIdeal
public import proofs.«01_k».proof.Proof.Gen.ReferenceLossIdeal
public import proofs.«01_k».proof.Proof.Gen.KernelStick
public import proofs.«01_k».proof.Proof.Gen.KernelStickIdeal
public import proofs.«01_k».proof.Proof.Gen.ReferenceStickIdeal
public import proofs.«01_k».proof.Proof.Gen.KernelFox
public import proofs.«01_k».proof.Proof.Gen.KernelFoxIdeal
public import proofs.«01_k».proof.Proof.Gen.ReferenceFoxIdeal
public import proofs.«01_k».proof.Proof.Gen.KernelForget
public import proofs.«01_k».proof.Proof.Gen.KernelForgetIdeal
public import proofs.«01_k».proof.Proof.Gen.ReferenceForgetIdeal
public import proofs.«01_k».proof.Proof.Gen.KernelNorm
public import proofs.«01_k».proof.Proof.Gen.KernelNormIdeal
public import proofs.«01_k».proof.Proof.Gen.ReferenceNormIdeal
public import proofs.«01_k».proof.Proof.Gen.KernelGNorm
public import proofs.«01_k».proof.Proof.Gen.KernelGNormIdeal
public import proofs.«01_k».proof.Proof.Gen.ReferenceGNormIdeal
public import proofs.«01_k».proof.Proof.Gen.KernelRelu2
public import proofs.«01_k».proof.Proof.Gen.KernelRelu2Ideal
public import proofs.«01_k».proof.Proof.Gen.ReferenceRelu2Ideal
public import proofs.«01_k».proof.Proof.Gen.KernelAda
public import proofs.«01_k».proof.Proof.Gen.KernelAdaIdeal
public import proofs.«01_k».proof.Proof.Gen.ReferenceAdaIdeal
public import proofs.«01_k».proof.Proof.Gen.KernelQkNorm
public import proofs.«01_k».proof.Proof.Gen.KernelQkNormIdeal
public import proofs.«01_k».proof.Proof.Gen.ReferenceQkNormIdeal
public import proofs.«01_k».proof.Proof.Gen.KernelSgu
public import proofs.«01_k».proof.Proof.Gen.KernelSguIdeal
public import proofs.«01_k».proof.Proof.Gen.KernelNormFwd
public import proofs.«01_k».proof.Proof.Gen.KernelNormFwdIdeal
public import proofs.«01_k».proof.Proof.Gen.ReferenceNormFwdIdeal
public import proofs.«01_k».proof.Proof.Gen.KernelResidFwd
public import proofs.«01_k».proof.Proof.Gen.KernelResidFwdIdeal
public import proofs.«01_k».proof.Proof.Gen.ReferenceResidFwdIdeal
public import proofs.«01_k».proof.Proof.Gen.KernelUp
public import proofs.«01_k».proof.Proof.Gen.KernelUpIdeal
public import proofs.«01_k».proof.Proof.Gen.ReferenceUpIdeal
public import proofs.«01_k».proof.Proof.Gen.KernelQkFwd
public import proofs.«01_k».proof.Proof.Gen.KernelQkFwdIdeal
public import proofs.«01_k».proof.Proof.Gen.ReferenceQkFwdIdeal
public import proofs.«01_k».proof.Proof.Gen.KernelForgetFwd
public import proofs.«01_k».proof.Proof.Gen.KernelForgetFwdIdeal
public import proofs.«01_k».proof.Proof.Gen.ReferenceForgetFwdIdeal
public import proofs.«01_k».proof.Proof.Gen.KernelAdaFwd
public import proofs.«01_k».proof.Proof.Gen.KernelAdaFwdIdeal
public import proofs.«01_k».proof.Proof.Gen.ReferenceAdaFwdIdeal
public import proofs.«01_k».proof.Proof.Gen.KernelSguFwd
public import proofs.«01_k».proof.Proof.Gen.KernelSguFwdIdeal
public import proofs.«01_k».proof.Proof.Gen.ReferenceSguFwdIdeal
public import proofs.«01_k».proof.Proof.Gen.Pre_finite_sb
public import proofs.«01_k».proof.Proof.Gen.Pre_finite_fox
public import proofs.«01_k».proof.Proof.Gen.Pre_finite_cumf
public import proofs.«01_k».proof.Proof.Gen.Pre_finite_norm
public import proofs.«01_k».proof.Proof.Gen.Pre_finite_normg
public import proofs.«01_k».proof.Proof.Gen.Pre_finite_prep
public import Idealize.ShloMosaic.Adequacy
public import Idealize.ShloMosaic.Init

@[expose] public section

noncomputable section

namespace Cert.Proof

open Idealize.ShloMosaic Idealize.SL.Sem

theorem claim : Cert.Claim :=
  ⟨Cert.KernelLoss.Gen.facts, Cert.KernelLossIdeal.Gen.facts, Cert.ReferenceLossIdeal.Gen.facts, Cert.KernelStick.Gen.facts, Cert.KernelStickIdeal.Gen.facts, Cert.ReferenceStickIdeal.Gen.facts, Cert.KernelFox.Gen.facts, Cert.KernelFoxIdeal.Gen.facts, Cert.ReferenceFoxIdeal.Gen.facts, Cert.KernelForget.Gen.facts, Cert.KernelForgetIdeal.Gen.facts, Cert.ReferenceForgetIdeal.Gen.facts, Cert.KernelNorm.Gen.facts, Cert.KernelNormIdeal.Gen.facts, Cert.ReferenceNormIdeal.Gen.facts, Cert.KernelGNorm.Gen.facts, Cert.KernelGNormIdeal.Gen.facts, Cert.ReferenceGNormIdeal.Gen.facts, Cert.KernelRelu2.Gen.facts, Cert.KernelRelu2Ideal.Gen.facts, Cert.ReferenceRelu2Ideal.Gen.facts, Cert.KernelAda.Gen.facts, Cert.KernelAdaIdeal.Gen.facts, Cert.ReferenceAdaIdeal.Gen.facts, Cert.KernelQkNorm.Gen.facts, Cert.KernelQkNormIdeal.Gen.facts, Cert.ReferenceQkNormIdeal.Gen.facts, Cert.KernelSgu.Gen.facts, Cert.KernelSguIdeal.Gen.facts, Cert.KernelNormFwd.Gen.facts, Cert.KernelNormFwdIdeal.Gen.facts, Cert.ReferenceNormFwdIdeal.Gen.facts, Cert.KernelResidFwd.Gen.facts, Cert.KernelResidFwdIdeal.Gen.facts, Cert.ReferenceResidFwdIdeal.Gen.facts, Cert.KernelUp.Gen.facts, Cert.KernelUpIdeal.Gen.facts, Cert.ReferenceUpIdeal.Gen.facts, Cert.KernelQkFwd.Gen.facts, Cert.KernelQkFwdIdeal.Gen.facts, Cert.ReferenceQkFwdIdeal.Gen.facts, Cert.KernelForgetFwd.Gen.facts, Cert.KernelForgetFwdIdeal.Gen.facts, Cert.ReferenceForgetFwdIdeal.Gen.facts, Cert.KernelAdaFwd.Gen.facts, Cert.KernelAdaFwdIdeal.Gen.facts, Cert.ReferenceAdaFwdIdeal.Gen.facts, Cert.KernelSguFwd.Gen.facts, Cert.KernelSguFwdIdeal.Gen.facts, Cert.ReferenceSguFwdIdeal.Gen.facts, Cert.Pre_finite_sb.Gen.facts, Cert.Pre_finite_fox.Gen.facts, Cert.Pre_finite_cumf.Gen.facts, Cert.Pre_finite_norm.Gen.facts, Cert.Pre_finite_normg.Gen.facts, Cert.Pre_finite_prep.Gen.facts,
    fun m ρ _ => Cert.KernelLoss.Gen.frame m ρ,
    fun m ρ _ => Cert.KernelLossIdeal.Gen.frame m ρ,
    Cert.KernelLossIdeal.Value.frame_reference,
    Cert.KernelStickIdeal.Value.frame_kernel,
    fun m ρ _ => Cert.KernelStickIdeal.Gen.frame m ρ,
    fun m ρ _ => Cert.KernelStickIdeal.Gen.frame m ρ,
    Cert.KernelStickIdeal.Value.frame_reference,
    fun m ρ _ => Cert.KernelStickIdeal.Value.frame_reference m ρ trivial,
    Cert.KernelFoxIdeal.Words.frame_kernel,
    Cert.KernelFoxIdeal.Words.frame_ideal,
    fun m ρ _ => Cert.KernelFoxIdeal.Gen.frame_all m ρ,
    Cert.KernelFoxIdeal.Value.frame_reference,
    fun m ρ _ => Cert.KernelFoxIdeal.Value.frame_reference m ρ trivial,
    fun m ρ _ => Cert.KernelForget.Gen.frame m ρ,
    fun m ρ _ => Cert.KernelForgetIdeal.Gen.frame m ρ,
    fun m ρ _ => Cert.KernelForgetIdeal.Gen.frame m ρ,
    Cert.KernelForgetIdeal.Value.frame_reference,
    fun m ρ _ => Cert.KernelForgetIdeal.Value.frame_reference m ρ trivial,
    fun m ρ _ => Cert.KernelNorm.Gen.frame m ρ,
    fun m ρ _ => Cert.KernelNormIdeal.Gen.frame m ρ,
    fun m ρ _ => Cert.KernelNormIdeal.Gen.frame m ρ,
    Cert.KernelNormIdeal.Value.frame_reference,
    fun m ρ _ => Cert.KernelNormIdeal.Value.frame_reference m ρ trivial,
    fun m ρ _ => Cert.KernelGNorm.Gen.frame m ρ,
    fun m ρ _ => Cert.KernelGNormIdeal.Gen.frame m ρ,
    fun m ρ _ => Cert.KernelGNormIdeal.Gen.frame m ρ,
    Cert.KernelGNormIdeal.Value.frame_reference,
    fun m ρ _ => Cert.KernelGNormIdeal.Value.frame_reference m ρ trivial,
    fun m ρ _ => Cert.KernelRelu2.Gen.frame m ρ,
    fun m ρ _ => Cert.KernelRelu2Ideal.Gen.frame m ρ,
    Cert.KernelRelu2Ideal.Value.frame_reference,
    fun m ρ _ => Cert.KernelAda.Gen.frame m ρ,
    fun m ρ _ => Cert.KernelAdaIdeal.Gen.frame m ρ,
    Cert.KernelAdaIdeal.Value.frame_reference,
    fun m ρ _ => Cert.KernelQkNorm.Gen.frame m ρ,
    fun m ρ _ => Cert.KernelQkNormIdeal.Gen.frame m ρ,
    fun m ρ _ => Cert.KernelQkNormIdeal.Gen.frame m ρ,
    Cert.KernelQkNormIdeal.Value.frame_reference,
    fun m ρ _ => Cert.KernelQkNormIdeal.Value.frame_reference m ρ trivial,
    fun m ρ _ => Cert.KernelSgu.Gen.frame m ρ,
    fun m ρ _ => Cert.KernelSguIdeal.Gen.frame m ρ,
    fun m ρ _ => Cert.KernelNormFwd.Gen.frame m ρ,
    fun m ρ _ => Cert.KernelNormFwdIdeal.Gen.frame m ρ,
    Cert.KernelNormFwdIdeal.Value.frame_reference,
    fun m ρ _ => Cert.KernelResidFwd.Gen.frame m ρ,
    fun m ρ _ => Cert.KernelResidFwdIdeal.Gen.frame m ρ,
    Cert.KernelResidFwdIdeal.Value.frame_reference,
    fun m ρ _ => Cert.KernelUp.Gen.frame m ρ,
    fun m ρ _ => Cert.KernelUpIdeal.Gen.frame m ρ,
    Cert.KernelUpIdeal.Value.frame_reference,
    fun m ρ _ => Cert.KernelQkFwd.Gen.frame m ρ,
    fun m ρ _ => Cert.KernelQkFwdIdeal.Gen.frame m ρ,
    Cert.KernelQkFwdIdeal.Value.frame_reference,
    fun m ρ _ => Cert.KernelForgetFwd.Gen.frame m ρ,
    fun m ρ _ => Cert.KernelForgetFwdIdeal.Gen.frame m ρ,
    Cert.KernelForgetFwdIdeal.Value.frame_reference,
    fun m ρ _ => Cert.KernelAdaFwd.Gen.frame m ρ,
    fun m ρ _ => Cert.KernelAdaFwdIdeal.Gen.frame m ρ,
    Cert.KernelAdaFwdIdeal.Value.frame_reference,
    fun m ρ _ => Cert.KernelSguFwd.Gen.frame m ρ,
    fun m ρ _ => Cert.KernelSguFwdIdeal.Gen.frame m ρ,
    Cert.KernelSguFwdIdeal.Value.frame_reference,
    trivial,
    Cert.KernelLossIdeal.Value.algebraic,
    trivial,
    Cert.KernelStickIdeal.Value.algebraic,
    Cert.KernelFoxIdeal.Words.preserves,
    Cert.KernelFoxIdeal.Value.algebraic,
    trivial,
    Cert.KernelForgetIdeal.Value.algebraic,
    trivial,
    Cert.KernelNormIdeal.Value.algebraic,
    trivial,
    Cert.KernelGNormIdeal.Value.algebraic,
    trivial,
    Cert.KernelRelu2Ideal.Value.algebraic,
    trivial,
    Cert.KernelAdaIdeal.Value.algebraic,
    trivial,
    Cert.KernelQkNormIdeal.Value.algebraic,
    trivial,
    trivial,
    Cert.KernelNormFwdIdeal.Value.algebraic,
    trivial,
    Cert.KernelResidFwdIdeal.Value.algebraic,
    trivial,
    Cert.KernelUpIdeal.Value.algebraic,
    trivial,
    Cert.KernelQkFwdIdeal.Value.algebraic,
    trivial,
    Cert.KernelForgetFwdIdeal.Value.algebraic,
    trivial,
    Cert.KernelAdaFwdIdeal.Value.algebraic,
    trivial,
    Cert.KernelSguFwdIdeal.Value.algebraic⟩

end Cert.Proof

end
